-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qkvd [hPre_finite_qkvd : Cert.Pre_finite_qkvd.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qkvd.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_qkvd.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_qkvd.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite_qkvd.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qkvd [hPre_finite_qkvd : Cert.Pre_finite_qkvd.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qkvd.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_qkvd.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_qkvd.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_qkvd.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_finite_mix [hPre_finite_mix : Cert.Pre_finite_mix.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_finite_mix.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7))).1 = (fun _ => 1#1)
    ∧ (Cert.Pre_finite_mix.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7))).2.1 = (fun _ => 1#1)
    ∧ (Cert.Pre_finite_mix.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7))).2.2 = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_finite_mix [hPre_finite_mix : Cert.Pre_finite_mix.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_finite_mix.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7))).1 = (fun _ => 1#1)
    ∧ (Cert.Pre_finite_mix.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7))).2.1 = (fun _ => 1#1)
    ∧ (Cert.Pre_finite_mix.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7))).2.2 = (fun _ => 1#1)

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossIdeal_finite_loss [hPre_finite_loss : Cert.Pre_finite_loss.Facts] (m : (ℓ : Loc Cert.FfnLossIdeal.nD Cert.FfnLossIdeal.τ Cert.FfnLossIdeal.sig) → Buf (Elt Ideal) ℓ) : Prop :=
  ∀ c : Dev Cert.FfnLossIdeal.nD,
    (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))).1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))).2.1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))).2.2.1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))).2.2.2.1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))).2.2.2.2.1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5))).2.2.2.2.2 = (fun _ => 1#1)

def Pre_FfnLossRefIdeal (m : (ℓ : Loc Cert.FfnLossRefIdeal.nD Cert.FfnLossRefIdeal.τ Cert.FfnLossRefIdeal.sig) → Buf (Elt Ideal) ℓ) : Prop :=
  True

def Pre_FfnLossRefIdeal_finite_loss [hPre_finite_loss : Cert.Pre_finite_loss.Facts] (m : (ℓ : Loc Cert.FfnLossRefIdeal.nD Cert.FfnLossRefIdeal.τ Cert.FfnLossRefIdeal.sig) → Buf (Elt Ideal) ℓ) : Prop :=
  ∀ c : Dev Cert.FfnLossRefIdeal.nD,
    (Cert.Pre_finite_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4)) (m ((c.tc : Thread Cert.FfnLossRefIdeal.nD Cert.FfnLossRefIdeal.τ).loc Cert.FfnLossRefIdeal.main_arg5))).1 = (fun _ => 1#1)
    ∧ (Cert.Pre_finite_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4)) (m ((c.tc : Thread Cert.FfnLossRefIdeal.nD Cert.FfnLossRefIdeal.τ).loc Cert.FfnLossRefIdeal.main_arg5))).2.1 = (fun _ => 1#1)
    ∧ (Cert.Pre_finite_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4)) (m ((c.tc : Thread Cert.FfnLossRefIdeal.nD Cert.FfnLossRefIdeal.τ).loc Cert.FfnLossRefIdeal.main_arg5))).2.2.1 = (fun _ => 1#1)
    ∧ (Cert.Pre_finite_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4)) (m ((c.tc : Thread Cert.FfnLossRefIdeal.nD Cert.FfnLossRefIdeal.τ).loc Cert.FfnLossRefIdeal.main_arg5))).2.2.2.1 = (fun _ => 1#1)
    ∧ (Cert.Pre_finite_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4)) (m ((c.tc : Thread Cert.FfnLossRefIdeal.nD Cert.FfnLossRefIdeal.τ).loc Cert.FfnLossRefIdeal.main_arg5))).2.2.2.2.1 = (fun _ => 1#1)
    ∧ (Cert.Pre_finite_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4)) (m ((c.tc : Thread Cert.FfnLossRefIdeal.nD Cert.FfnLossRefIdeal.τ).loc Cert.FfnLossRefIdeal.main_arg5))).2.2.2.2.2 = (fun _ => 1#1)

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_finite_mem [hPre_finite_mem : Cert.Pre_finite_mem.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_finite_mem.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3)) (m ((c.tc : Thread Cert.MemAttnIdeal.nD Cert.MemAttnIdeal.τ).loc Cert.MemAttnIdeal.main_arg4)) (m ((c.tc : Thread Cert.MemAttnIdeal.nD Cert.MemAttnIdeal.τ).loc Cert.MemAttnIdeal.main_arg5)) (m ((c.tc : Thread Cert.MemAttnIdeal.nD Cert.MemAttnIdeal.τ).loc Cert.MemAttnIdeal.main_arg6)) (m ((c.tc : Thread Cert.MemAttnIdeal.nD Cert.MemAttnIdeal.τ).loc Cert.MemAttnIdeal.main_arg7))).1 = (fun _ => 1#1)
    ∧ (Cert.Pre_finite_mem.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2)) (m ((c.tc : Thread Cert.MemAttnIdeal.nD Cert.MemAttnIdeal.τ).loc Cert.MemAttnIdeal.main_arg3)) (m ((c.tc : Thread Cert.MemAttnIdeal.nD Cert.MemAttnIdeal.τ).loc Cert.MemAttnIdeal.main_arg4)) (m ((c.tc : Thread Cert.MemAttnIdeal.nD Cert.MemAttnIdeal.τ).loc Cert.MemAttnIdeal.main_arg5)) (m ((c.tc : Thread Cert.MemAttnIdeal.nD Cert.MemAttnIdeal.τ).loc Cert.MemAttnIdeal.main_arg6)) (m ((c.tc : Thread Cert.MemAttnIdeal.nD Cert.MemAttnIdeal.τ).loc Cert.MemAttnIdeal.main_arg7))).2 = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_finite_mem [hPre_finite_mem : Cert.Pre_finite_mem.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_finite_mem.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3)) (m ((c.tc : Thread Cert.MemAttnRefIdeal.nD Cert.MemAttnRefIdeal.τ).loc Cert.MemAttnRefIdeal.main_arg4)) (m ((c.tc : Thread Cert.MemAttnRefIdeal.nD Cert.MemAttnRefIdeal.τ).loc Cert.MemAttnRefIdeal.main_arg5)) (m ((c.tc : Thread Cert.MemAttnRefIdeal.nD Cert.MemAttnRefIdeal.τ).loc Cert.MemAttnRefIdeal.main_arg6)) (m ((c.tc : Thread Cert.MemAttnRefIdeal.nD Cert.MemAttnRefIdeal.τ).loc Cert.MemAttnRefIdeal.main_arg7))).1 = (fun _ => 1#1)
    ∧ (Cert.Pre_finite_mem.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2)) (m ((c.tc : Thread Cert.MemAttnRefIdeal.nD Cert.MemAttnRefIdeal.τ).loc Cert.MemAttnRefIdeal.main_arg3)) (m ((c.tc : Thread Cert.MemAttnRefIdeal.nD Cert.MemAttnRefIdeal.τ).loc Cert.MemAttnRefIdeal.main_arg4)) (m ((c.tc : Thread Cert.MemAttnRefIdeal.nD Cert.MemAttnRefIdeal.τ).loc Cert.MemAttnRefIdeal.main_arg5)) (m ((c.tc : Thread Cert.MemAttnRefIdeal.nD Cert.MemAttnRefIdeal.τ).loc Cert.MemAttnRefIdeal.main_arg6)) (m ((c.tc : Thread Cert.MemAttnRefIdeal.nD Cert.MemAttnRefIdeal.τ).loc Cert.MemAttnRefIdeal.main_arg7))).2 = (fun _ => 1#1)

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdRefIdeal (m : (ℓ : Loc Cert.MemFwdRefIdeal.nD Cert.MemFwdRefIdeal.τ Cert.MemFwdRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_qkvd [hAttnIdeal : Cert.AttnIdeal.Facts] [hPre_finite_qkvd : Cert.Pre_finite_qkvd.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qkvd m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_qkvd [hAttnRefIdeal : Cert.AttnRefIdeal.Facts] [hPre_finite_qkvd : Cert.Pre_finite_qkvd.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qkvd m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3)
      ∧ r.2.mem ((c.tc : Thread Cert.MemKv.nD Cert.MemKv.τ).loc Cert.MemKv.main_arg4) = m ((c.tc : Thread Cert.MemKv.nD Cert.MemKv.τ).loc Cert.MemKv.main_arg4)
      ∧ r.2.mem ((c.tc : Thread Cert.MemKv.nD Cert.MemKv.τ).loc Cert.MemKv.main_arg5) = m ((c.tc : Thread Cert.MemKv.nD Cert.MemKv.τ).loc Cert.MemKv.main_arg5))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3)
      ∧ r.2.mem ((c.tc : Thread Cert.MemKvIdeal.nD Cert.MemKvIdeal.τ).loc Cert.MemKvIdeal.main_arg4) = m ((c.tc : Thread Cert.MemKvIdeal.nD Cert.MemKvIdeal.τ).loc Cert.MemKvIdeal.main_arg4)
      ∧ r.2.mem ((c.tc : Thread Cert.MemKvIdeal.nD Cert.MemKvIdeal.τ).loc Cert.MemKvIdeal.main_arg5) = m ((c.tc : Thread Cert.MemKvIdeal.nD Cert.MemKvIdeal.τ).loc Cert.MemKvIdeal.main_arg5))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3)
      ∧ r.2.mem ((c.tc : Thread Cert.MemKvRefIdeal.nD Cert.MemKvRefIdeal.τ).loc Cert.MemKvRefIdeal.main_arg4) = m ((c.tc : Thread Cert.MemKvRefIdeal.nD Cert.MemKvRefIdeal.τ).loc Cert.MemKvRefIdeal.main_arg4)
      ∧ r.2.mem ((c.tc : Thread Cert.MemKvRefIdeal.nD Cert.MemKvRefIdeal.τ).loc Cert.MemKvRefIdeal.main_arg5) = m ((c.tc : Thread Cert.MemKvRefIdeal.nD Cert.MemKvRefIdeal.τ).loc Cert.MemKvRefIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_MixOutIdeal_pre_finite_mix [hMixOutIdeal : Cert.MixOutIdeal.Facts] [hPre_finite_mix : Cert.Pre_finite_mix.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_finite_mix m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7))
      ∧ r.2.sem = fun _ => 0)

def quiescent_MixOutRefIdeal_pre_finite_mix [hMixOutRefIdeal : Cert.MixOutRefIdeal.Facts] [hPre_finite_mix : Cert.Pre_finite_mix.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_finite_mix m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4)
      ∧ r.2.mem ((c.tc : Thread Cert.FfnLoss.nD Cert.FfnLoss.τ).loc Cert.FfnLoss.main_arg5) = m ((c.tc : Thread Cert.FfnLoss.nD Cert.FfnLoss.τ).loc Cert.FfnLoss.main_arg5))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5))
      ∧ r.2.sem = fun _ => 0)

def quiescent_FfnLossIdeal_pre_finite_loss [hFfnLossIdeal : Cert.FfnLossIdeal.Facts] [hPre_finite_loss : Cert.Pre_finite_loss.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal_finite_loss m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4)
      ∧ r.2.mem ((c.tc : Thread Cert.FfnLossRefIdeal.nD Cert.FfnLossRefIdeal.τ).loc Cert.FfnLossRefIdeal.main_arg5) = m ((c.tc : Thread Cert.FfnLossRefIdeal.nD Cert.FfnLossRefIdeal.τ).loc Cert.FfnLossRefIdeal.main_arg5))
      ∧ r.2.sem = fun _ => 0)

def quiescent_FfnLossRefIdeal_pre_finite_loss [hFfnLossRefIdeal : Cert.FfnLossRefIdeal.Facts] [hPre_finite_loss : Cert.Pre_finite_loss.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal_finite_loss m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4)
      ∧ r.2.mem ((c.tc : Thread Cert.FfnLossRefIdeal.nD Cert.FfnLossRefIdeal.τ).loc Cert.FfnLossRefIdeal.main_arg5) = m ((c.tc : Thread Cert.FfnLossRefIdeal.nD Cert.FfnLossRefIdeal.τ).loc Cert.FfnLossRefIdeal.main_arg5))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3)
      ∧ r.2.mem ((c.tc : Thread Cert.MemAttn.nD Cert.MemAttn.τ).loc Cert.MemAttn.main_arg4) = m ((c.tc : Thread Cert.MemAttn.nD Cert.MemAttn.τ).loc Cert.MemAttn.main_arg4)
      ∧ r.2.mem ((c.tc : Thread Cert.MemAttn.nD Cert.MemAttn.τ).loc Cert.MemAttn.main_arg5) = m ((c.tc : Thread Cert.MemAttn.nD Cert.MemAttn.τ).loc Cert.MemAttn.main_arg5)
      ∧ r.2.mem ((c.tc : Thread Cert.MemAttn.nD Cert.MemAttn.τ).loc Cert.MemAttn.main_arg6) = m ((c.tc : Thread Cert.MemAttn.nD Cert.MemAttn.τ).loc Cert.MemAttn.main_arg6)
      ∧ r.2.mem ((c.tc : Thread Cert.MemAttn.nD Cert.MemAttn.τ).loc Cert.MemAttn.main_arg7) = m ((c.tc : Thread Cert.MemAttn.nD Cert.MemAttn.τ).loc Cert.MemAttn.main_arg7))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
      ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
      ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6)
      ∧ r.2.mem ((c.tc : Thread Cert.MemAttnIdeal.nD Cert.MemAttnIdeal.τ).loc Cert.MemAttnIdeal.main_arg7) = m ((c.tc : Thread Cert.MemAttnIdeal.nD Cert.MemAttnIdeal.τ).loc Cert.MemAttnIdeal.main_arg7))
      ∧ r.2.sem = fun _ => 0)

def quiescent_MemAttnIdeal_pre_finite_mem [hMemAttnIdeal : Cert.MemAttnIdeal.Facts] [hPre_finite_mem : Cert.Pre_finite_mem.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_finite_mem m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
      ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
      ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6)
      ∧ r.2.mem ((c.tc : Thread Cert.MemAttnIdeal.nD Cert.MemAttnIdeal.τ).loc Cert.MemAttnIdeal.main_arg7) = m ((c.tc : Thread Cert.MemAttnIdeal.nD Cert.MemAttnIdeal.τ).loc Cert.MemAttnIdeal.main_arg7))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4)
      ∧ r.2.mem ((c.tc : Thread Cert.MemAttnRefIdeal.nD Cert.MemAttnRefIdeal.τ).loc Cert.MemAttnRefIdeal.main_arg5) = m ((c.tc : Thread Cert.MemAttnRefIdeal.nD Cert.MemAttnRefIdeal.τ).loc Cert.MemAttnRefIdeal.main_arg5)
      ∧ r.2.mem ((c.tc : Thread Cert.MemAttnRefIdeal.nD Cert.MemAttnRefIdeal.τ).loc Cert.MemAttnRefIdeal.main_arg6) = m ((c.tc : Thread Cert.MemAttnRefIdeal.nD Cert.MemAttnRefIdeal.τ).loc Cert.MemAttnRefIdeal.main_arg6)
      ∧ r.2.mem ((c.tc : Thread Cert.MemAttnRefIdeal.nD Cert.MemAttnRefIdeal.τ).loc Cert.MemAttnRefIdeal.main_arg7) = m ((c.tc : Thread Cert.MemAttnRefIdeal.nD Cert.MemAttnRefIdeal.τ).loc Cert.MemAttnRefIdeal.main_arg7))
      ∧ r.2.sem = fun _ => 0)

def quiescent_MemAttnRefIdeal_pre_finite_mem [hMemAttnRefIdeal : Cert.MemAttnRefIdeal.Facts] [hPre_finite_mem : Cert.Pre_finite_mem.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_finite_mem m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4)
      ∧ r.2.mem ((c.tc : Thread Cert.MemAttnRefIdeal.nD Cert.MemAttnRefIdeal.τ).loc Cert.MemAttnRefIdeal.main_arg5) = m ((c.tc : Thread Cert.MemAttnRefIdeal.nD Cert.MemAttnRefIdeal.τ).loc Cert.MemAttnRefIdeal.main_arg5)
      ∧ r.2.mem ((c.tc : Thread Cert.MemAttnRefIdeal.nD Cert.MemAttnRefIdeal.τ).loc Cert.MemAttnRefIdeal.main_arg6) = m ((c.tc : Thread Cert.MemAttnRefIdeal.nD Cert.MemAttnRefIdeal.τ).loc Cert.MemAttnRefIdeal.main_arg6)
      ∧ r.2.mem ((c.tc : Thread Cert.MemAttnRefIdeal.nD Cert.MemAttnRefIdeal.τ).loc Cert.MemAttnRefIdeal.main_arg7) = m ((c.tc : Thread Cert.MemAttnRefIdeal.nD Cert.MemAttnRefIdeal.τ).loc Cert.MemAttnRefIdeal.main_arg7))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2)
      ∧ r.2.mem ((c.tc : Thread Cert.MemFwd.nD Cert.MemFwd.τ).loc Cert.MemFwd.main_arg3) = m ((c.tc : Thread Cert.MemFwd.nD Cert.MemFwd.τ).loc Cert.MemFwd.main_arg3)
      ∧ r.2.mem ((c.tc : Thread Cert.MemFwd.nD Cert.MemFwd.τ).loc Cert.MemFwd.main_arg4) = m ((c.tc : Thread Cert.MemFwd.nD Cert.MemFwd.τ).loc Cert.MemFwd.main_arg4)
      ∧ r.2.mem ((c.tc : Thread Cert.MemFwd.nD Cert.MemFwd.τ).loc Cert.MemFwd.main_arg5) = m ((c.tc : Thread Cert.MemFwd.nD Cert.MemFwd.τ).loc Cert.MemFwd.main_arg5)
      ∧ r.2.mem ((c.tc : Thread Cert.MemFwd.nD Cert.MemFwd.τ).loc Cert.MemFwd.main_arg6) = m ((c.tc : Thread Cert.MemFwd.nD Cert.MemFwd.τ).loc Cert.MemFwd.main_arg6))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2)
      ∧ r.2.mem ((c.tc : Thread Cert.MemFwdIdeal.nD Cert.MemFwdIdeal.τ).loc Cert.MemFwdIdeal.main_arg3) = m ((c.tc : Thread Cert.MemFwdIdeal.nD Cert.MemFwdIdeal.τ).loc Cert.MemFwdIdeal.main_arg3)
      ∧ r.2.mem ((c.tc : Thread Cert.MemFwdIdeal.nD Cert.MemFwdIdeal.τ).loc Cert.MemFwdIdeal.main_arg4) = m ((c.tc : Thread Cert.MemFwdIdeal.nD Cert.MemFwdIdeal.τ).loc Cert.MemFwdIdeal.main_arg4)
      ∧ r.2.mem ((c.tc : Thread Cert.MemFwdIdeal.nD Cert.MemFwdIdeal.τ).loc Cert.MemFwdIdeal.main_arg5) = m ((c.tc : Thread Cert.MemFwdIdeal.nD Cert.MemFwdIdeal.τ).loc Cert.MemFwdIdeal.main_arg5)
      ∧ r.2.mem ((c.tc : Thread Cert.MemFwdIdeal.nD Cert.MemFwdIdeal.τ).loc Cert.MemFwdIdeal.main_arg6) = m ((c.tc : Thread Cert.MemFwdIdeal.nD Cert.MemFwdIdeal.τ).loc Cert.MemFwdIdeal.main_arg6))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1)
      ∧ r.2.mem ((c.tc : Thread Cert.MemFwdRefIdeal.nD Cert.MemFwdRefIdeal.τ).loc Cert.MemFwdRefIdeal.main_arg2) = m ((c.tc : Thread Cert.MemFwdRefIdeal.nD Cert.MemFwdRefIdeal.τ).loc Cert.MemFwdRefIdeal.main_arg2)
      ∧ r.2.mem ((c.tc : Thread Cert.MemFwdRefIdeal.nD Cert.MemFwdRefIdeal.τ).loc Cert.MemFwdRefIdeal.main_arg3) = m ((c.tc : Thread Cert.MemFwdRefIdeal.nD Cert.MemFwdRefIdeal.τ).loc Cert.MemFwdRefIdeal.main_arg3)
      ∧ r.2.mem ((c.tc : Thread Cert.MemFwdRefIdeal.nD Cert.MemFwdRefIdeal.τ).loc Cert.MemFwdRefIdeal.main_arg4) = m ((c.tc : Thread Cert.MemFwdRefIdeal.nD Cert.MemFwdRefIdeal.τ).loc Cert.MemFwdRefIdeal.main_arg4)
      ∧ r.2.mem ((c.tc : Thread Cert.MemFwdRefIdeal.nD Cert.MemFwdRefIdeal.τ).loc Cert.MemFwdRefIdeal.main_arg5) = m ((c.tc : Thread Cert.MemFwdRefIdeal.nD Cert.MemFwdRefIdeal.τ).loc Cert.MemFwdRefIdeal.main_arg5)
      ∧ r.2.mem ((c.tc : Thread Cert.MemFwdRefIdeal.nD Cert.MemFwdRefIdeal.τ).loc Cert.MemFwdRefIdeal.main_arg6) = m ((c.tc : Thread Cert.MemFwdRefIdeal.nD Cert.MemFwdRefIdeal.τ).loc Cert.MemFwdRefIdeal.main_arg6))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v6_0)) (v1 : (c : Dev Cert.ConvIdeal.nD) → Buf (Elt Ideal) ((c.tc : Thread Cert.ConvIdeal.nD Cert.ConvIdeal.τ).loc Cert.ConvIdeal.main_v6_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v6_0) = v0 c
          ∧ r.2.mem ((c.tc : Thread Cert.ConvIdeal.nD Cert.ConvIdeal.τ).loc Cert.ConvIdeal.main_v6_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v70) = v0 c
          ∧ r.2.mem ((c.tc : Thread Cert.ConvRefIdeal.nD Cert.ConvRefIdeal.τ).loc Cert.ConvRefIdeal.main_v73) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Attn_AttnIdeal : Prop :=
  IdealRules.named_const.Statement Cert.AttnIdeal.κ "log2e" .f32 0x3FB8AA3B#32 (((Real.log 2)⁻¹ : ℝ) : EReal)

def algebraic_AttnIdeal_AttnRefIdeal_pre_finite_qkvd [hAttnIdeal : Cert.AttnIdeal.Facts] [hAttnRefIdeal : Cert.AttnRefIdeal.Facts] [hPre_finite_qkvd : Cert.Pre_finite_qkvd.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qkvd m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v62)) (v1 : (c : Dev Cert.AttnIdeal.nD) → Buf (Elt Ideal) ((c.tc : Thread Cert.AttnIdeal.nD Cert.AttnIdeal.τ).loc Cert.AttnIdeal.main_v63)) (v2 : (c : Dev Cert.AttnIdeal.nD) → Buf (Elt Ideal) ((c.tc : Thread Cert.AttnIdeal.nD Cert.AttnIdeal.τ).loc Cert.AttnIdeal.main_v64)) (v3 : (c : Dev Cert.AttnIdeal.nD) → Buf (Elt Ideal) ((c.tc : Thread Cert.AttnIdeal.nD Cert.AttnIdeal.τ).loc Cert.AttnIdeal.main_v65)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v62) = v0 c
          ∧ r.2.mem ((c.tc : Thread Cert.AttnIdeal.nD Cert.AttnIdeal.τ).loc Cert.AttnIdeal.main_v63) = v1 c
          ∧ r.2.mem ((c.tc : Thread Cert.AttnIdeal.nD Cert.AttnIdeal.τ).loc Cert.AttnIdeal.main_v64) = v2 c
          ∧ r.2.mem ((c.tc : Thread Cert.AttnIdeal.nD Cert.AttnIdeal.τ).loc Cert.AttnIdeal.main_v65) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v32) = v0 c
          ∧ r.2.mem ((c.tc : Thread Cert.AttnRefIdeal.nD Cert.AttnRefIdeal.τ).loc Cert.AttnRefIdeal.main_v55) = v1 c
          ∧ r.2.mem ((c.tc : Thread Cert.AttnRefIdeal.nD Cert.AttnRefIdeal.τ).loc Cert.AttnRefIdeal.main_v53) = v2 c
          ∧ r.2.mem ((c.tc : Thread Cert.AttnRefIdeal.nD Cert.AttnRefIdeal.τ).loc Cert.AttnRefIdeal.main_v36) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v8_0)) (v1 : (c : Dev Cert.FfnInIdeal.nD) → Buf (Elt Ideal) ((c.tc : Thread Cert.FfnInIdeal.nD Cert.FfnInIdeal.τ).loc Cert.FfnInIdeal.main_v8_1)) (v2 : (c : Dev Cert.FfnInIdeal.nD) → Buf (Elt Ideal) ((c.tc : Thread Cert.FfnInIdeal.nD Cert.FfnInIdeal.τ).loc Cert.FfnInIdeal.main_v8_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v8_0) = v0 c
          ∧ r.2.mem ((c.tc : Thread Cert.FfnInIdeal.nD Cert.FfnInIdeal.τ).loc Cert.FfnInIdeal.main_v8_1) = v1 c
          ∧ r.2.mem ((c.tc : Thread Cert.FfnInIdeal.nD Cert.FfnInIdeal.τ).loc Cert.FfnInIdeal.main_v8_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v44) = v0 c
          ∧ r.2.mem ((c.tc : Thread Cert.FfnInRefIdeal.nD Cert.FfnInRefIdeal.τ).loc Cert.FfnInRefIdeal.main_v45) = v1 c
          ∧ r.2.mem ((c.tc : Thread Cert.FfnInRefIdeal.nD Cert.FfnInRefIdeal.τ).loc Cert.FfnInRefIdeal.main_v48) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)) →
    ∃ (v0 : (c : Dev Cert.InProjIdeal.nD) → Buf (Elt Ideal) ((c.tc : Thread Cert.InProjIdeal.nD Cert.InProjIdeal.τ).loc Cert.InProjIdeal.main_v25_0)) (v1 : (c : Dev Cert.InProjIdeal.nD) → Buf (Elt Ideal) ((c.tc : Thread Cert.InProjIdeal.nD Cert.InProjIdeal.τ).loc Cert.InProjIdeal.main_v25_1)) (v2 : (c : Dev Cert.InProjIdeal.nD) → Buf (Elt Ideal) ((c.tc : Thread Cert.InProjIdeal.nD Cert.InProjIdeal.τ).loc Cert.InProjIdeal.main_v25_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v25_0) = v0 c
          ∧ r.2.mem ((c.tc : Thread Cert.InProjIdeal.nD Cert.InProjIdeal.τ).loc Cert.InProjIdeal.main_v25_1) = v1 c
          ∧ r.2.mem ((c.tc : Thread Cert.InProjIdeal.nD Cert.InProjIdeal.τ).loc Cert.InProjIdeal.main_v25_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v58) = v0 c
          ∧ r.2.mem ((c.tc : Thread Cert.InProjRefIdeal.nD Cert.InProjRefIdeal.τ).loc Cert.InProjRefIdeal.main_v59) = v1 c
          ∧ r.2.mem ((c.tc : Thread Cert.InProjRefIdeal.nD Cert.InProjRefIdeal.τ).loc Cert.InProjRefIdeal.main_v62) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)
      ∧ m' ((c.tc : Thread Cert.MemKvRefIdeal.nD Cert.MemKvRefIdeal.τ).loc Cert.MemKvRefIdeal.main_arg4) = m ((c.tc : Thread Cert.MemKvIdeal.nD Cert.MemKvIdeal.τ).loc Cert.MemKvIdeal.main_arg4)
      ∧ m' ((c.tc : Thread Cert.MemKvRefIdeal.nD Cert.MemKvRefIdeal.τ).loc Cert.MemKvRefIdeal.main_arg5) = m ((c.tc : Thread Cert.MemKvIdeal.nD Cert.MemKvIdeal.τ).loc Cert.MemKvIdeal.main_arg5)) →
    ∃ (v0 : (c : Dev Cert.MemKvIdeal.nD) → Buf (Elt Ideal) ((c.tc : Thread Cert.MemKvIdeal.nD Cert.MemKvIdeal.τ).loc Cert.MemKvIdeal.main_v11_0)) (v1 : (c : Dev Cert.MemKvIdeal.nD) → Buf (Elt Ideal) ((c.tc : Thread Cert.MemKvIdeal.nD Cert.MemKvIdeal.τ).loc Cert.MemKvIdeal.main_v11_1)) (v2 : (c : Dev Cert.MemKvIdeal.nD) → Buf (Elt Ideal) ((c.tc : Thread Cert.MemKvIdeal.nD Cert.MemKvIdeal.τ).loc Cert.MemKvIdeal.main_v11_2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v11_0) = v0 c
          ∧ r.2.mem ((c.tc : Thread Cert.MemKvIdeal.nD Cert.MemKvIdeal.τ).loc Cert.MemKvIdeal.main_v11_1) = v1 c
          ∧ r.2.mem ((c.tc : Thread Cert.MemKvIdeal.nD Cert.MemKvIdeal.τ).loc Cert.MemKvIdeal.main_v11_2) = v2 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3)
          ∧ r.2.mem ((c.tc : Thread Cert.MemKvIdeal.nD Cert.MemKvIdeal.τ).loc Cert.MemKvIdeal.main_arg4) = m ((c.tc : Thread Cert.MemKvIdeal.nD Cert.MemKvIdeal.τ).loc Cert.MemKvIdeal.main_arg4)
          ∧ r.2.mem ((c.tc : Thread Cert.MemKvIdeal.nD Cert.MemKvIdeal.τ).loc Cert.MemKvIdeal.main_arg5) = m ((c.tc : Thread Cert.MemKvIdeal.nD Cert.MemKvIdeal.τ).loc Cert.MemKvIdeal.main_arg5))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v66) = v0 c
          ∧ r.2.mem ((c.tc : Thread Cert.MemKvRefIdeal.nD Cert.MemKvRefIdeal.τ).loc Cert.MemKvRefIdeal.main_v74) = v1 c
          ∧ r.2.mem ((c.tc : Thread Cert.MemKvRefIdeal.nD Cert.MemKvRefIdeal.τ).loc Cert.MemKvRefIdeal.main_v77) = v2 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3)
          ∧ r.2.mem ((c.tc : Thread Cert.MemKvRefIdeal.nD Cert.MemKvRefIdeal.τ).loc Cert.MemKvRefIdeal.main_arg4) = m' ((c.tc : Thread Cert.MemKvRefIdeal.nD Cert.MemKvRefIdeal.τ).loc Cert.MemKvRefIdeal.main_arg4)
          ∧ r.2.mem ((c.tc : Thread Cert.MemKvRefIdeal.nD Cert.MemKvRefIdeal.τ).loc Cert.MemKvRefIdeal.main_arg5) = m' ((c.tc : Thread Cert.MemKvRefIdeal.nD Cert.MemKvRefIdeal.τ).loc Cert.MemKvRefIdeal.main_arg5))

def preserves_MixOut_MixOutIdeal : Prop :=
  IdealRules.named_const.Statement Cert.MixOutIdeal.κ "gelu_c" .f32 0x3D372713#32 ((8943 / 200000 : ℝ) : EReal)
  ∧ IdealRules.named_const.Statement Cert.MixOutIdeal.κ "gelu_3c" .f32 0x3E095D4F#32 ((26829 / 200000 : ℝ) : EReal)

def algebraic_MixOutIdeal_MixOutRefIdeal_pre_finite_mix [hMixOutIdeal : Cert.MixOutIdeal.Facts] [hMixOutRefIdeal : Cert.MixOutRefIdeal.Facts] [hPre_finite_mix : Cert.Pre_finite_mix.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_finite_mix m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v12_0)) (v1 : (c : Dev Cert.MixOutIdeal.nD) → Buf (Elt Ideal) ((c.tc : Thread Cert.MixOutIdeal.nD Cert.MixOutIdeal.τ).loc Cert.MixOutIdeal.main_v12_1)) (v2 : (c : Dev Cert.MixOutIdeal.nD) → Buf (Elt Ideal) ((c.tc : Thread Cert.MixOutIdeal.nD Cert.MixOutIdeal.τ).loc Cert.MixOutIdeal.main_v12_2)) (v3 : (c : Dev Cert.MixOutIdeal.nD) → Buf (Elt Ideal) ((c.tc : Thread Cert.MixOutIdeal.nD Cert.MixOutIdeal.τ).loc Cert.MixOutIdeal.main_v12_3)) (v4 : (c : Dev Cert.MixOutIdeal.nD) → Buf (Elt Ideal) ((c.tc : Thread Cert.MixOutIdeal.nD Cert.MixOutIdeal.τ).loc Cert.MixOutIdeal.main_v12_4)) (v5 : (c : Dev Cert.MixOutIdeal.nD) → Buf (Elt Ideal) ((c.tc : Thread Cert.MixOutIdeal.nD Cert.MixOutIdeal.τ).loc Cert.MixOutIdeal.main_v12_5)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v12_0) = v0 c
          ∧ r.2.mem ((c.tc : Thread Cert.MixOutIdeal.nD Cert.MixOutIdeal.τ).loc Cert.MixOutIdeal.main_v12_1) = v1 c
          ∧ r.2.mem ((c.tc : Thread Cert.MixOutIdeal.nD Cert.MixOutIdeal.τ).loc Cert.MixOutIdeal.main_v12_2) = v2 c
          ∧ r.2.mem ((c.tc : Thread Cert.MixOutIdeal.nD Cert.MixOutIdeal.τ).loc Cert.MixOutIdeal.main_v12_3) = v3 c
          ∧ r.2.mem ((c.tc : Thread Cert.MixOutIdeal.nD Cert.MixOutIdeal.τ).loc Cert.MixOutIdeal.main_v12_4) = v4 c
          ∧ r.2.mem ((c.tc : Thread Cert.MixOutIdeal.nD Cert.MixOutIdeal.τ).loc Cert.MixOutIdeal.main_v12_5) = v5 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v123) = v0 c
          ∧ r.2.mem ((c.tc : Thread Cert.MixOutRefIdeal.nD Cert.MixOutRefIdeal.τ).loc Cert.MixOutRefIdeal.main_v125) = v1 c
          ∧ r.2.mem ((c.tc : Thread Cert.MixOutRefIdeal.nD Cert.MixOutRefIdeal.τ).loc Cert.MixOutRefIdeal.main_v127) = v2 c
          ∧ r.2.mem ((c.tc : Thread Cert.MixOutRefIdeal.nD Cert.MixOutRefIdeal.τ).loc Cert.MixOutRefIdeal.main_v129) = v3 c
          ∧ r.2.mem ((c.tc : Thread Cert.MixOutRefIdeal.nD Cert.MixOutRefIdeal.τ).loc Cert.MixOutRefIdeal.main_v132) = v4 c
          ∧ r.2.mem ((c.tc : Thread Cert.MixOutRefIdeal.nD Cert.MixOutRefIdeal.τ).loc Cert.MixOutRefIdeal.main_v135) = v5 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7))

def preserves_FfnLoss_FfnLossIdeal : Prop :=
  True

def algebraic_FfnLossIdeal_FfnLossRefIdeal_pre_finite_loss [hFfnLossIdeal : Cert.FfnLossIdeal.Facts] [hFfnLossRefIdeal : Cert.FfnLossRefIdeal.Facts] [hPre_finite_loss : Cert.Pre_finite_loss.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal_finite_loss m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)
      ∧ m' ((c.tc : Thread Cert.FfnLossRefIdeal.nD Cert.FfnLossRefIdeal.τ).loc Cert.FfnLossRefIdeal.main_arg4) = m ((c.tc : Thread Cert.FfnLossIdeal.nD Cert.FfnLossIdeal.τ).loc Cert.FfnLossIdeal.main_arg4)
      ∧ m' ((c.tc : Thread Cert.FfnLossRefIdeal.nD Cert.FfnLossRefIdeal.τ).loc Cert.FfnLossRefIdeal.main_arg5) = m ((c.tc : Thread Cert.FfnLossIdeal.nD Cert.FfnLossIdeal.τ).loc Cert.FfnLossIdeal.main_arg5)) →
    ∃ (v0 : (c : Dev Cert.FfnLossIdeal.nD) → Buf (Elt Ideal) ((c.tc : Thread Cert.FfnLossIdeal.nD Cert.FfnLossIdeal.τ).loc Cert.FfnLossIdeal.main_v10_0)) (v1 : (c : Dev Cert.FfnLossIdeal.nD) → Buf (Elt Ideal) ((c.tc : Thread Cert.FfnLossIdeal.nD Cert.FfnLossIdeal.τ).loc Cert.FfnLossIdeal.main_v10_1)) (v2 : (c : Dev Cert.FfnLossIdeal.nD) → Buf (Elt Ideal) ((c.tc : Thread Cert.FfnLossIdeal.nD Cert.FfnLossIdeal.τ).loc Cert.FfnLossIdeal.main_v10_2)) (v3 : (c : Dev Cert.FfnLossIdeal.nD) → Buf (Elt Ideal) ((c.tc : Thread Cert.FfnLossIdeal.nD Cert.FfnLossIdeal.τ).loc Cert.FfnLossIdeal.main_v10_3)) (v4 : (c : Dev Cert.FfnLossIdeal.nD) → Buf (Elt Ideal) ((c.tc : Thread Cert.FfnLossIdeal.nD Cert.FfnLossIdeal.τ).loc Cert.FfnLossIdeal.main_v10_4)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v10_0) = v0 c
          ∧ r.2.mem ((c.tc : Thread Cert.FfnLossIdeal.nD Cert.FfnLossIdeal.τ).loc Cert.FfnLossIdeal.main_v10_1) = v1 c
          ∧ r.2.mem ((c.tc : Thread Cert.FfnLossIdeal.nD Cert.FfnLossIdeal.τ).loc Cert.FfnLossIdeal.main_v10_2) = v2 c
          ∧ r.2.mem ((c.tc : Thread Cert.FfnLossIdeal.nD Cert.FfnLossIdeal.τ).loc Cert.FfnLossIdeal.main_v10_3) = v3 c
          ∧ r.2.mem ((c.tc : Thread Cert.FfnLossIdeal.nD Cert.FfnLossIdeal.τ).loc Cert.FfnLossIdeal.main_v10_4) = v4 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
          ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v62) = v0 c
          ∧ r.2.mem ((c.tc : Thread Cert.FfnLossRefIdeal.nD Cert.FfnLossRefIdeal.τ).loc Cert.FfnLossRefIdeal.main_v64) = v1 c
          ∧ r.2.mem ((c.tc : Thread Cert.FfnLossRefIdeal.nD Cert.FfnLossRefIdeal.τ).loc Cert.FfnLossRefIdeal.main_v66) = v2 c
          ∧ r.2.mem ((c.tc : Thread Cert.FfnLossRefIdeal.nD Cert.FfnLossRefIdeal.τ).loc Cert.FfnLossRefIdeal.main_v68) = v3 c
          ∧ r.2.mem ((c.tc : Thread Cert.FfnLossRefIdeal.nD Cert.FfnLossRefIdeal.τ).loc Cert.FfnLossRefIdeal.main_v69) = v4 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3)
          ∧ r.2.mem ((c.tc : Thread Cert.FfnLossRefIdeal.nD Cert.FfnLossRefIdeal.τ).loc Cert.FfnLossRefIdeal.main_arg4) = m' ((c.tc : Thread Cert.FfnLossRefIdeal.nD Cert.FfnLossRefIdeal.τ).loc Cert.FfnLossRefIdeal.main_arg4)
          ∧ r.2.mem ((c.tc : Thread Cert.FfnLossRefIdeal.nD Cert.FfnLossRefIdeal.τ).loc Cert.FfnLossRefIdeal.main_arg5) = m' ((c.tc : Thread Cert.FfnLossRefIdeal.nD Cert.FfnLossRefIdeal.τ).loc Cert.FfnLossRefIdeal.main_arg5))

def preserves_MemAttn_MemAttnIdeal : Prop :=
  True

def algebraic_MemAttnIdeal_MemAttnRefIdeal_pre_finite_mem [hMemAttnIdeal : Cert.MemAttnIdeal.Facts] [hMemAttnRefIdeal : Cert.MemAttnRefIdeal.Facts] [hPre_finite_mem : Cert.Pre_finite_mem.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_finite_mem m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)
      ∧ m' ((c.tc : Thread Cert.MemAttnRefIdeal.nD Cert.MemAttnRefIdeal.τ).loc Cert.MemAttnRefIdeal.main_arg4) = m ((c.tc : Thread Cert.MemAttnIdeal.nD Cert.MemAttnIdeal.τ).loc Cert.MemAttnIdeal.main_arg4)
      ∧ m' ((c.tc : Thread Cert.MemAttnRefIdeal.nD Cert.MemAttnRefIdeal.τ).loc Cert.MemAttnRefIdeal.main_arg5) = m ((c.tc : Thread Cert.MemAttnIdeal.nD Cert.MemAttnIdeal.τ).loc Cert.MemAttnIdeal.main_arg5)
      ∧ m' ((c.tc : Thread Cert.MemAttnRefIdeal.nD Cert.MemAttnRefIdeal.τ).loc Cert.MemAttnRefIdeal.main_arg6) = m ((c.tc : Thread Cert.MemAttnIdeal.nD Cert.MemAttnIdeal.τ).loc Cert.MemAttnIdeal.main_arg6)
      ∧ m' ((c.tc : Thread Cert.MemAttnRefIdeal.nD Cert.MemAttnRefIdeal.τ).loc Cert.MemAttnRefIdeal.main_arg7) = m ((c.tc : Thread Cert.MemAttnIdeal.nD Cert.MemAttnIdeal.τ).loc Cert.MemAttnIdeal.main_arg7)) →
    ∃ (v0 : (c : Dev Cert.MemAttnIdeal.nD) → Buf (Elt Ideal) ((c.tc : Thread Cert.MemAttnIdeal.nD Cert.MemAttnIdeal.τ).loc Cert.MemAttnIdeal.main_v20_0)) (v1 : (c : Dev Cert.MemAttnIdeal.nD) → Buf (Elt Ideal) ((c.tc : Thread Cert.MemAttnIdeal.nD Cert.MemAttnIdeal.τ).loc Cert.MemAttnIdeal.main_v20_1)) (v2 : (c : Dev Cert.MemAttnIdeal.nD) → Buf (Elt Ideal) ((c.tc : Thread Cert.MemAttnIdeal.nD Cert.MemAttnIdeal.τ).loc Cert.MemAttnIdeal.main_v20_2)) (v3 : (c : Dev Cert.MemAttnIdeal.nD) → Buf (Elt Ideal) ((c.tc : Thread Cert.MemAttnIdeal.nD Cert.MemAttnIdeal.τ).loc Cert.MemAttnIdeal.main_v20_3)) (v4 : (c : Dev Cert.MemAttnIdeal.nD) → Buf (Elt Ideal) ((c.tc : Thread Cert.MemAttnIdeal.nD Cert.MemAttnIdeal.τ).loc Cert.MemAttnIdeal.main_v20_4)) (v5 : (c : Dev Cert.MemAttnIdeal.nD) → Buf (Elt Ideal) ((c.tc : Thread Cert.MemAttnIdeal.nD Cert.MemAttnIdeal.τ).loc Cert.MemAttnIdeal.main_v20_5)) (v6 : (c : Dev Cert.MemAttnIdeal.nD) → Buf (Elt Ideal) ((c.tc : Thread Cert.MemAttnIdeal.nD Cert.MemAttnIdeal.τ).loc Cert.MemAttnIdeal.main_v20_6)) (v7 : (c : Dev Cert.MemAttnIdeal.nD) → Buf (Elt Ideal) ((c.tc : Thread Cert.MemAttnIdeal.nD Cert.MemAttnIdeal.τ).loc Cert.MemAttnIdeal.main_v20_7)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v20_0) = v0 c
          ∧ r.2.mem ((c.tc : Thread Cert.MemAttnIdeal.nD Cert.MemAttnIdeal.τ).loc Cert.MemAttnIdeal.main_v20_1) = v1 c
          ∧ r.2.mem ((c.tc : Thread Cert.MemAttnIdeal.nD Cert.MemAttnIdeal.τ).loc Cert.MemAttnIdeal.main_v20_2) = v2 c
          ∧ r.2.mem ((c.tc : Thread Cert.MemAttnIdeal.nD Cert.MemAttnIdeal.τ).loc Cert.MemAttnIdeal.main_v20_3) = v3 c
          ∧ r.2.mem ((c.tc : Thread Cert.MemAttnIdeal.nD Cert.MemAttnIdeal.τ).loc Cert.MemAttnIdeal.main_v20_4) = v4 c
          ∧ r.2.mem ((c.tc : Thread Cert.MemAttnIdeal.nD Cert.MemAttnIdeal.τ).loc Cert.MemAttnIdeal.main_v20_5) = v5 c
          ∧ r.2.mem ((c.tc : Thread Cert.MemAttnIdeal.nD Cert.MemAttnIdeal.τ).loc Cert.MemAttnIdeal.main_v20_6) = v6 c
          ∧ r.2.mem ((c.tc : Thread Cert.MemAttnIdeal.nD Cert.MemAttnIdeal.τ).loc Cert.MemAttnIdeal.main_v20_7) = v7 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
          ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4)
          ∧ r.2.mem ((c.tc : Thread Cert.MemAttnIdeal.nD Cert.MemAttnIdeal.τ).loc Cert.MemAttnIdeal.main_arg5) = m ((c.tc : Thread Cert.MemAttnIdeal.nD Cert.MemAttnIdeal.τ).loc Cert.MemAttnIdeal.main_arg5)
          ∧ r.2.mem ((c.tc : Thread Cert.MemAttnIdeal.nD Cert.MemAttnIdeal.τ).loc Cert.MemAttnIdeal.main_arg6) = m ((c.tc : Thread Cert.MemAttnIdeal.nD Cert.MemAttnIdeal.τ).loc Cert.MemAttnIdeal.main_arg6)
          ∧ r.2.mem ((c.tc : Thread Cert.MemAttnIdeal.nD Cert.MemAttnIdeal.τ).loc Cert.MemAttnIdeal.main_arg7) = m ((c.tc : Thread Cert.MemAttnIdeal.nD Cert.MemAttnIdeal.τ).loc Cert.MemAttnIdeal.main_arg7))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v143) = v0 c
          ∧ r.2.mem ((c.tc : Thread Cert.MemAttnRefIdeal.nD Cert.MemAttnRefIdeal.τ).loc Cert.MemAttnRefIdeal.main_v145) = v1 c
          ∧ r.2.mem ((c.tc : Thread Cert.MemAttnRefIdeal.nD Cert.MemAttnRefIdeal.τ).loc Cert.MemAttnRefIdeal.main_v147) = v2 c
          ∧ r.2.mem ((c.tc : Thread Cert.MemAttnRefIdeal.nD Cert.MemAttnRefIdeal.τ).loc Cert.MemAttnRefIdeal.main_v149) = v3 c
          ∧ r.2.mem ((c.tc : Thread Cert.MemAttnRefIdeal.nD Cert.MemAttnRefIdeal.τ).loc Cert.MemAttnRefIdeal.main_v151) = v4 c
          ∧ r.2.mem ((c.tc : Thread Cert.MemAttnRefIdeal.nD Cert.MemAttnRefIdeal.τ).loc Cert.MemAttnRefIdeal.main_v153) = v5 c
          ∧ r.2.mem ((c.tc : Thread Cert.MemAttnRefIdeal.nD Cert.MemAttnRefIdeal.τ).loc Cert.MemAttnRefIdeal.main_v156) = v6 c
          ∧ r.2.mem ((c.tc : Thread Cert.MemAttnRefIdeal.nD Cert.MemAttnRefIdeal.τ).loc Cert.MemAttnRefIdeal.main_v159) = v7 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3)
          ∧ r.2.mem ((c.tc : Thread Cert.MemAttnRefIdeal.nD Cert.MemAttnRefIdeal.τ).loc Cert.MemAttnRefIdeal.main_arg4) = m' ((c.tc : Thread Cert.MemAttnRefIdeal.nD Cert.MemAttnRefIdeal.τ).loc Cert.MemAttnRefIdeal.main_arg4)
          ∧ r.2.mem ((c.tc : Thread Cert.MemAttnRefIdeal.nD Cert.MemAttnRefIdeal.τ).loc Cert.MemAttnRefIdeal.main_arg5) = m' ((c.tc : Thread Cert.MemAttnRefIdeal.nD Cert.MemAttnRefIdeal.τ).loc Cert.MemAttnRefIdeal.main_arg5)
          ∧ r.2.mem ((c.tc : Thread Cert.MemAttnRefIdeal.nD Cert.MemAttnRefIdeal.τ).loc Cert.MemAttnRefIdeal.main_arg6) = m' ((c.tc : Thread Cert.MemAttnRefIdeal.nD Cert.MemAttnRefIdeal.τ).loc Cert.MemAttnRefIdeal.main_arg6)
          ∧ r.2.mem ((c.tc : Thread Cert.MemAttnRefIdeal.nD Cert.MemAttnRefIdeal.τ).loc Cert.MemAttnRefIdeal.main_arg7) = m' ((c.tc : Thread Cert.MemAttnRefIdeal.nD Cert.MemAttnRefIdeal.τ).loc Cert.MemAttnRefIdeal.main_arg7))

def preserves_MemFwd_MemFwdIdeal : Prop :=
  True

def algebraic_MemFwdIdeal_MemFwdRefIdeal [hMemFwdIdeal : Cert.MemFwdIdeal.Facts] [hMemFwdRefIdeal : Cert.MemFwdRefIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)
      ∧ m' ((c.tc : Thread Cert.MemFwdRefIdeal.nD Cert.MemFwdRefIdeal.τ).loc Cert.MemFwdRefIdeal.main_arg2) = m ((c.tc : Thread Cert.MemFwdIdeal.nD Cert.MemFwdIdeal.τ).loc Cert.MemFwdIdeal.main_arg2)
      ∧ m' ((c.tc : Thread Cert.MemFwdRefIdeal.nD Cert.MemFwdRefIdeal.τ).loc Cert.MemFwdRefIdeal.main_arg3) = m ((c.tc : Thread Cert.MemFwdIdeal.nD Cert.MemFwdIdeal.τ).loc Cert.MemFwdIdeal.main_arg3)
      ∧ m' ((c.tc : Thread Cert.MemFwdRefIdeal.nD Cert.MemFwdRefIdeal.τ).loc Cert.MemFwdRefIdeal.main_arg4) = m ((c.tc : Thread Cert.MemFwdIdeal.nD Cert.MemFwdIdeal.τ).loc Cert.MemFwdIdeal.main_arg4)
      ∧ m' ((c.tc : Thread Cert.MemFwdRefIdeal.nD Cert.MemFwdRefIdeal.τ).loc Cert.MemFwdRefIdeal.main_arg5) = m ((c.tc : Thread Cert.MemFwdIdeal.nD Cert.MemFwdIdeal.τ).loc Cert.MemFwdIdeal.main_arg5)
      ∧ m' ((c.tc : Thread Cert.MemFwdRefIdeal.nD Cert.MemFwdRefIdeal.τ).loc Cert.MemFwdRefIdeal.main_arg6) = m ((c.tc : Thread Cert.MemFwdIdeal.nD Cert.MemFwdIdeal.τ).loc Cert.MemFwdIdeal.main_arg6)) →
    ∃ (v0 : (c : Dev Cert.MemFwdIdeal.nD) → Buf (Elt Ideal) ((c.tc : Thread Cert.MemFwdIdeal.nD Cert.MemFwdIdeal.τ).loc Cert.MemFwdIdeal.main_v17_0)) (v1 : (c : Dev Cert.MemFwdIdeal.nD) → Buf (Elt Ideal) ((c.tc : Thread Cert.MemFwdIdeal.nD Cert.MemFwdIdeal.τ).loc Cert.MemFwdIdeal.main_v17_1)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v17_0) = v0 c
          ∧ r.2.mem ((c.tc : Thread Cert.MemFwdIdeal.nD Cert.MemFwdIdeal.τ).loc Cert.MemFwdIdeal.main_v17_1) = v1 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2)
          ∧ r.2.mem ((c.tc : Thread Cert.MemFwdIdeal.nD Cert.MemFwdIdeal.τ).loc Cert.MemFwdIdeal.main_arg3) = m ((c.tc : Thread Cert.MemFwdIdeal.nD Cert.MemFwdIdeal.τ).loc Cert.MemFwdIdeal.main_arg3)
          ∧ r.2.mem ((c.tc : Thread Cert.MemFwdIdeal.nD Cert.MemFwdIdeal.τ).loc Cert.MemFwdIdeal.main_arg4) = m ((c.tc : Thread Cert.MemFwdIdeal.nD Cert.MemFwdIdeal.τ).loc Cert.MemFwdIdeal.main_arg4)
          ∧ r.2.mem ((c.tc : Thread Cert.MemFwdIdeal.nD Cert.MemFwdIdeal.τ).loc Cert.MemFwdIdeal.main_arg5) = m ((c.tc : Thread Cert.MemFwdIdeal.nD Cert.MemFwdIdeal.τ).loc Cert.MemFwdIdeal.main_arg5)
          ∧ r.2.mem ((c.tc : Thread Cert.MemFwdIdeal.nD Cert.MemFwdIdeal.τ).loc Cert.MemFwdIdeal.main_arg6) = m ((c.tc : Thread Cert.MemFwdIdeal.nD Cert.MemFwdIdeal.τ).loc Cert.MemFwdIdeal.main_arg6))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v51) = v0 c
          ∧ r.2.mem ((c.tc : Thread Cert.MemFwdRefIdeal.nD Cert.MemFwdRefIdeal.τ).loc Cert.MemFwdRefIdeal.main_v53) = v1 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1)
          ∧ r.2.mem ((c.tc : Thread Cert.MemFwdRefIdeal.nD Cert.MemFwdRefIdeal.τ).loc Cert.MemFwdRefIdeal.main_arg2) = m' ((c.tc : Thread Cert.MemFwdRefIdeal.nD Cert.MemFwdRefIdeal.τ).loc Cert.MemFwdRefIdeal.main_arg2)
          ∧ r.2.mem ((c.tc : Thread Cert.MemFwdRefIdeal.nD Cert.MemFwdRefIdeal.τ).loc Cert.MemFwdRefIdeal.main_arg3) = m' ((c.tc : Thread Cert.MemFwdRefIdeal.nD Cert.MemFwdRefIdeal.τ).loc Cert.MemFwdRefIdeal.main_arg3)
          ∧ r.2.mem ((c.tc : Thread Cert.MemFwdRefIdeal.nD Cert.MemFwdRefIdeal.τ).loc Cert.MemFwdRefIdeal.main_arg4) = m' ((c.tc : Thread Cert.MemFwdRefIdeal.nD Cert.MemFwdRefIdeal.τ).loc Cert.MemFwdRefIdeal.main_arg4)
          ∧ r.2.mem ((c.tc : Thread Cert.MemFwdRefIdeal.nD Cert.MemFwdRefIdeal.τ).loc Cert.MemFwdRefIdeal.main_arg5) = m' ((c.tc : Thread Cert.MemFwdRefIdeal.nD Cert.MemFwdRefIdeal.τ).loc Cert.MemFwdRefIdeal.main_arg5)
          ∧ r.2.mem ((c.tc : Thread Cert.MemFwdRefIdeal.nD Cert.MemFwdRefIdeal.τ).loc Cert.MemFwdRefIdeal.main_arg6) = m' ((c.tc : Thread Cert.MemFwdRefIdeal.nD Cert.MemFwdRefIdeal.τ).loc Cert.MemFwdRefIdeal.main_arg6))

def Claim : Prop :=
  ∃ (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts) (hFfnIn : Cert.FfnIn.Facts) (hFfnInIdeal : Cert.FfnInIdeal.Facts) (hFfnInRefIdeal : Cert.FfnInRefIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hMixOut : Cert.MixOut.Facts) (hMixOutIdeal : Cert.MixOutIdeal.Facts) (hMixOutRefIdeal : Cert.MixOutRefIdeal.Facts) (hFfnLoss : Cert.FfnLoss.Facts) (hFfnLossIdeal : Cert.FfnLossIdeal.Facts) (hFfnLossRefIdeal : Cert.FfnLossRefIdeal.Facts) (hMemAttn : Cert.MemAttn.Facts) (hMemAttnIdeal : Cert.MemAttnIdeal.Facts) (hMemAttnRefIdeal : Cert.MemAttnRefIdeal.Facts) (hMemFwd : Cert.MemFwd.Facts) (hMemFwdIdeal : Cert.MemFwdIdeal.Facts) (hMemFwdRefIdeal : Cert.MemFwdRefIdeal.Facts) (hPre_finite_qkvd : Cert.Pre_finite_qkvd.Facts) (hPre_finite_mix : Cert.Pre_finite_mix.Facts) (hPre_finite_loss : Cert.Pre_finite_loss.Facts) (hPre_finite_mem : Cert.Pre_finite_mem.Facts),
    quiescent_Conv (hConv := hConv)
    ∧ quiescent_ConvIdeal (hConvIdeal := hConvIdeal)
    ∧ quiescent_ConvRefIdeal (hConvRefIdeal := hConvRefIdeal)
    ∧ quiescent_Attn (hAttn := hAttn)
    ∧ quiescent_AttnIdeal (hAttnIdeal := hAttnIdeal)
    ∧ quiescent_AttnIdeal_pre_finite_qkvd (hAttnIdeal := hAttnIdeal) (hPre_finite_qkvd := hPre_finite_qkvd)
    ∧ quiescent_AttnRefIdeal (hAttnRefIdeal := hAttnRefIdeal)
    ∧ quiescent_AttnRefIdeal_pre_finite_qkvd (hAttnRefIdeal := hAttnRefIdeal) (hPre_finite_qkvd := hPre_finite_qkvd)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_InProj (hInProj := hInProj)
    ∧ quiescent_InProjIdeal (hInProjIdeal := hInProjIdeal)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MixOut (hMixOut := hMixOut)
    ∧ quiescent_MixOutIdeal (hMixOutIdeal := hMixOutIdeal)
    ∧ quiescent_MixOutIdeal_pre_finite_mix (hMixOutIdeal := hMixOutIdeal) (hPre_finite_mix := hPre_finite_mix)
    ∧ quiescent_MixOutRefIdeal (hMixOutRefIdeal := hMixOutRefIdeal)
    ∧ quiescent_MixOutRefIdeal_pre_finite_mix (hMixOutRefIdeal := hMixOutRefIdeal) (hPre_finite_mix := hPre_finite_mix)
    ∧ quiescent_FfnLoss (hFfnLoss := hFfnLoss)
    ∧ quiescent_FfnLossIdeal (hFfnLossIdeal := hFfnLossIdeal)
    ∧ quiescent_FfnLossIdeal_pre_finite_loss (hFfnLossIdeal := hFfnLossIdeal) (hPre_finite_loss := hPre_finite_loss)
    ∧ quiescent_FfnLossRefIdeal (hFfnLossRefIdeal := hFfnLossRefIdeal)
    ∧ quiescent_FfnLossRefIdeal_pre_finite_loss (hFfnLossRefIdeal := hFfnLossRefIdeal) (hPre_finite_loss := hPre_finite_loss)
    ∧ quiescent_MemAttn (hMemAttn := hMemAttn)
    ∧ quiescent_MemAttnIdeal (hMemAttnIdeal := hMemAttnIdeal)
    ∧ quiescent_MemAttnIdeal_pre_finite_mem (hMemAttnIdeal := hMemAttnIdeal) (hPre_finite_mem := hPre_finite_mem)
    ∧ quiescent_MemAttnRefIdeal (hMemAttnRefIdeal := hMemAttnRefIdeal)
    ∧ quiescent_MemAttnRefIdeal_pre_finite_mem (hMemAttnRefIdeal := hMemAttnRefIdeal) (hPre_finite_mem := hPre_finite_mem)
    ∧ quiescent_MemFwd (hMemFwd := hMemFwd)
    ∧ quiescent_MemFwdIdeal (hMemFwdIdeal := hMemFwdIdeal)
    ∧ quiescent_MemFwdRefIdeal (hMemFwdRefIdeal := hMemFwdRefIdeal)
    ∧ preserves_Conv_ConvIdeal
    ∧ algebraic_ConvIdeal_ConvRefIdeal (hConvIdeal := hConvIdeal) (hConvRefIdeal := hConvRefIdeal)
    ∧ preserves_Attn_AttnIdeal
    ∧ algebraic_AttnIdeal_AttnRefIdeal_pre_finite_qkvd (hAttnIdeal := hAttnIdeal) (hAttnRefIdeal := hAttnRefIdeal) (hPre_finite_qkvd := hPre_finite_qkvd)
    ∧ preserves_FfnIn_FfnInIdeal
    ∧ algebraic_FfnInIdeal_FfnInRefIdeal (hFfnInIdeal := hFfnInIdeal) (hFfnInRefIdeal := hFfnInRefIdeal)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_MixOut_MixOutIdeal
    ∧ algebraic_MixOutIdeal_MixOutRefIdeal_pre_finite_mix (hMixOutIdeal := hMixOutIdeal) (hMixOutRefIdeal := hMixOutRefIdeal) (hPre_finite_mix := hPre_finite_mix)
    ∧ preserves_FfnLoss_FfnLossIdeal
    ∧ algebraic_FfnLossIdeal_FfnLossRefIdeal_pre_finite_loss (hFfnLossIdeal := hFfnLossIdeal) (hFfnLossRefIdeal := hFfnLossRefIdeal) (hPre_finite_loss := hPre_finite_loss)
    ∧ preserves_MemAttn_MemAttnIdeal
    ∧ algebraic_MemAttnIdeal_MemAttnRefIdeal_pre_finite_mem (hMemAttnIdeal := hMemAttnIdeal) (hMemAttnRefIdeal := hMemAttnRefIdeal) (hPre_finite_mem := hPre_finite_mem)
    ∧ preserves_MemFwd_MemFwdIdeal
    ∧ algebraic_MemFwdIdeal_MemFwdRefIdeal (hMemFwdIdeal := hMemFwdIdeal) (hMemFwdRefIdeal := hMemFwdRefIdeal)
-- ==== Pre_finite_loss.lean ====
abbrev S1x8192x5632 : Shape := ⟨3, ![1, 8192, 5632]⟩
abbrev S1x8192x1024 : Shape := ⟨3, ![1, 8192, 1024]⟩
abbrev S1x3x5632 : Shape := ⟨3, ![1, 3, 5632]⟩
abbrev S1x5632 : Shape := ⟨2, ![1, 5632]⟩
abbrev S1x2816x1024 : Shape := ⟨3, ![1, 2816, 1024]⟩
abbrev S_ : Shape := ⟨0, ![]⟩

class Facts : Prop where
  bcast_S_S1x8192x5632 : S_.BroadcastsInDim S1x8192x5632 (![] : Fin 0 → Fin S1x8192x5632.rank)
  bcast_S_S1x8192x1024 : S_.BroadcastsInDim S1x8192x1024 (![] : Fin 0 → Fin S1x8192x1024.rank)
  bcast_S_S1x3x5632 : S_.BroadcastsInDim S1x3x5632 (![] : Fin 0 → Fin S1x3x5632.rank)
  bcast_S_S1x5632 : S_.BroadcastsInDim S1x5632 (![] : Fin 0 → Fin S1x5632.rank)
  bcast_S_S1x2816x1024 : S_.BroadcastsInDim S1x2816x1024 (![] : Fin 0 → Fin S1x2816x1024.rank)

variable [Facts]

def fn {F : FTy → Type} [FloatOps F] (main_arg0 : FVec F S1x8192x5632 .f32) (main_arg1 : FVec F S1x8192x1024 .f32) (main_arg2 : FVec F S1x8192x1024 .f32) (main_arg3 : FVec F S1x3x5632 .f32) (main_arg4 : FVec F S1x5632 .f32) (main_arg5 : FVec F S1x2816x1024 .f32) : IVec S1x8192x5632 1 × IVec S1x8192x1024 1 × IVec S1x8192x1024 1 × IVec S1x3x5632 1 × IVec S1x5632 1 × IVec S1x2816x1024 1 :=
  let main_v0 : FVec F S1x8192x5632 .f32 := Host.absf main_arg0
  let main_cst : FVec F S_ .f32 := constant S_ .f32 0x7F800000#32
  let main_v1 : FVec F S1x8192x5632 .f32 := broadcastInDim S1x8192x5632 ![] bcast_S_S1x8192x5632 main_cst
  let main_v2 : IVec S1x8192x5632 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x8192x1024 .f32 := Host.absf main_arg2
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  let main_v9 : FVec F S1x3x5632 .f32 := Host.absf main_arg3
  let main_cst_2 : FVec F S_ .f32 := constant S_ .f32 0x7F800000#32
  let main_v10 : FVec F S1x3x5632 .f32 := broadcastInDim S1x3x5632 ![] bcast_S_S1x3x5632 main_cst_2
  let main_v11 : IVec S1x3x5632 1 := cmpf .olt main_v9 main_v10
  let main_v12 : FVec F S1x5632 .f32 := Host.absf main_arg4
  let main_cst_3 : FVec F S_ .f32 := constant S_ .f32 0x7F800000#32
  let main_v13 : FVec F S1x5632 .f32 := broadcastInDim S1x5632 ![] bcast_S_S1x5632 main_cst_3
  let main_v14 : IVec S1x5632 1 := cmpf .olt main_v12 main_v13
  let main_v15 : FVec F S1x2816x1024 .f32 := Host.absf main_arg5
  let main_cst_4 : FVec F S_ .f32 := constant S_ .f32 0x7F800000#32
  let main_v16 : FVec F S1x2816x1024 .f32 := broadcastInDim S1x2816x1024 ![] bcast_S_S1x2816x1024 main_cst_4
  let main_v17 : IVec S1x2816x1024 1 := cmpf .olt main_v15 main_v16
  (main_v2, main_v5, main_v8, main_v11, main_v14, main_v17)
-- ==== Pre_finite_mem.lean ====
abbrev S1x8192x1024 : Shape := ⟨3, ![1, 8192, 1024]⟩
abbrev S1x1024 : Shape := ⟨2, ![1, 1024]⟩
abbrev S1x1024x512 : Shape := ⟨3, ![1, 1024, 512]⟩
abbrev S1x128 : Shape := ⟨2, ![1, 128]⟩
abbrev S1x256x4x128 : Shape := ⟨4, ![1, 256, 4, 128]⟩
abbrev S1x512x1024 : Shape := ⟨3, ![1, 512, 1024]⟩
abbrev S_ : Shape := ⟨0, ![]⟩

class Facts : Prop where
  bcast_S_S1x128 : S_.BroadcastsInDim S1x128 (![] : Fin 0 → Fin S1x128.rank)
  bcast_S_S1x256x4x128 : S_.BroadcastsInDim S1x256x4x128 (![] : Fin 0 → Fin S1x256x4x128.rank)

variable [Facts]

def fn {F : FTy → Type} [FloatOps F] (main_arg0 : FVec F S1x8192x1024 .f32) (main_arg1 : FVec F S1x1024 .f32) (main_arg2 : FVec F S1x1024x512 .f32) (main_arg3 : FVec F S1x128 .f32) (main_arg4 : FVec F S1x256x4x128 .f32) (main_arg5 : FVec F S1x256x4x128 .f32) (main_arg6 : FVec F S1x512x1024 .f32) (main_arg7 : FVec F S1x8192x1024 .f32) : IVec S1x128 1 × IVec S1x256x4x128 1 :=
  let main_v0 : FVec F S1x128 .f32 := Host.absf main_arg3
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S1x256x4x128 .f32 := Host.absf main_arg4
  let main_cst_0 : FVec F S_ .f32 := constant S_ .f32 0x7F800000#32
  let main_v4 : FVec F S1x256x4x128 .f32 := broadcastInDim S1x256x4x128 ![] bcast_S_S1x256x4x128 main_cst_0
  let main_v5 : IVec S1x256x4x128 1 := cmpf .olt main_v3 main_v4
  (main_v2, main_v5)
-- ==== Pre_finite_mix.lean ====
abbrev S1x8192x512 : Shape := ⟨3, ![1, 8192, 512]⟩
abbrev S1x512 : Shape := ⟨2, ![1, 512]⟩
abbrev S1x1024x1024 : Shape := ⟨3, ![1, 1024, 1024]⟩
abbrev S1x8192x1024 : Shape := ⟨3, ![1, 8192, 1024]⟩
abbrev S_ : Shape := ⟨0, ![]⟩

class Facts : Prop where
  bcast_S_S1x512 : S_.BroadcastsInDim S1x512 (![] : Fin 0 → Fin S1x512.rank)
  bcast_S_S1x1024x1024 : S_.BroadcastsInDim S1x1024x1024 (![] : Fin 0 → Fin S1x1024x1024.rank)
  bcast_S_S1x8192x1024 : S_.BroadcastsInDim S1x8192x1024 (![] : Fin 0 → Fin S1x8192x1024.rank)

variable [Facts]

def fn {F : FTy → Type} [FloatOps F] (main_arg0 : FVec F S1x8192x512 .f32) (main_arg1 : FVec F S1x8192x512 .f32) (main_arg2 : FVec F S1x8192x512 .f32) (main_arg3 : FVec F S1x8192x512 .f32) (main_arg4 : FVec F S1x512 .f32) (main_arg5 : FVec F S1x512 .f32) (main_arg6 : FVec F S1x1024x1024 .f32) (main_arg7 : FVec F S1x8192x1024 .f32) : IVec S1x512 1 × IVec S1x1024x1024 1 × IVec S1x8192x1024 1 :=
  let main_v0 : FVec F S1x512 .f32 := Host.absf main_arg4
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_v3 : FVec F S1x1024x1024 .f32 := Host.absf main_arg6
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : FVec F S1x8192x1024 .f32 := Host.absf main_arg7
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  (main_v2, main_v5, main_v8)
-- ==== Pre_finite_qkvd.lean ====
abbrev S1x8192x8x96 : Shape := ⟨4, ![1, 8192, 8, 96]⟩
abbrev S1x8192x8x64 : Shape := ⟨4, ![1, 8192, 8, 64]⟩
abbrev S_ : Shape := ⟨0, ![]⟩

class Facts : Prop where
  bcast_S_S1x8192x8x96 : S_.BroadcastsInDim S1x8192x8x96 (![] : Fin 0 → Fin S1x8192x8x96.rank)
  bcast_S_S1x8192x8x64 : S_.BroadcastsInDim S1x8192x8x64 (![] : Fin 0 → Fin S1x8192x8x64.rank)

variable [Facts]

def fn {F : FTy → Type} [FloatOps F] (main_arg0 : FVec F S1x8192x8x96 .f32) (main_arg1 : FVec F S1x8192x8x96 .f32) (main_arg2 : FVec F S1x8192x8x64 .f32) (main_arg3 : FVec F S1x8192x8x64 .f32) : IVec S1x8192x8x96 1 × IVec S1x8192x8x96 1 × IVec S1x8192x8x64 1 × IVec S1x8192x8x64 1 :=
  let main_v0 : FVec F S1x8192x8x96 .f32 := Host.absf main_arg0
  let main_cst : FVec F S_ .f32 := constant S_ .f32 0x7F800000#32
  let main_v1 : FVec F S1x8192x8x96 .f32 := broadcastInDim S1x8192x8x96 ![] bcast_S_S1x8192x8x96 main_cst
  let main_v2 : IVec S1x8192x8x96 1 := cmpf .olt main_v0 main_v1
  let main_v3 : FVec F S1x8192x8x96 .f32 := Host.absf main_arg1
  let main_cst_0 : FVec F S_ .f32 := constant S_ .f32 0x7F800000#32
  let main_v4 : FVec F S1x8192x8x96 .f32 := broadcastInDim S1x8192x8x96 ![] bcast_S_S1x8192x8x96 main_cst_0
  let main_v5 : IVec S1x8192x8x96 1 := cmpf .olt main_v3 main_v4
  let main_v6 : FVec F S1x8192x8x64 .f32 := Host.absf main_arg2
  let main_cst_1 : FVec F S_ .f32 := constant S_ .f32 0x7F800000#32
  let main_v7 : FVec F S1x8192x8x64 .f32 := broadcastInDim S1x8192x8x64 ![] bcast_S_S1x8192x8x64 main_cst_1
  let main_v8 : IVec S1x8192x8x64 1 := cmpf .olt main_v6 main_v7
  let main_v9 : FVec F S1x8192x8x64 .f32 := Host.absf main_arg3
  let main_cst_2 : FVec F S_ .f32 := constant S_ .f32 0x7F800000#32
  let main_v10 : FVec F S1x8192x8x64 .f32 := broadcastInDim S1x8192x8x64 ![] bcast_S_S1x8192x8x64 main_cst_2
  let main_v11 : IVec S1x8192x8x64 1 := cmpf .olt main_v9 main_v10
  (main_v2, main_v5, main_v8, main_v11)
-- ==== Conv.lean ====
abbrev S1x8192x5632 : Shape := ⟨3, ![1, 8192, 5632]⟩
abbrev S1x3x5632 : Shape := ⟨3, ![1, 3, 5632]⟩
abbrev S1x5632 : Shape := ⟨2, ![1, 5632]⟩
abbrev S8192x5632 : Shape := ⟨2, ![8192, 5632]⟩
abbrev S3x5632 : Shape := ⟨2, ![3, 5632]⟩
abbrev S5632 : Shape := ⟨1, ![5632]⟩
abbrev S4x5632 : Shape := ⟨2, ![4, 5632]⟩
abbrev S_ : Shape := ⟨0, ![]⟩
abbrev S8x5632 : Shape := ⟨2, ![8, 5632]⟩
abbrev S256x5632 : Shape := ⟨2, ![256, 5632]⟩
abbrev S16x5632 : Shape := ⟨2, ![16, 5632]⟩
abbrev S248x5632 : Shape := ⟨2, ![248, 5632]⟩

abbrev nBuf : Space → Nat
  | .hbm => 14
  | .vmem => 12
  | .smem => 0
  | _ => 0

abbrev bufTy : (tb : Table) → Fin (tcTables nBuf tb) → BufTy
  | .hbm, ⟨0, _⟩ => ⟨S1x8192x5632, .f32⟩
  | .hbm, ⟨1, _⟩ => ⟨S1x3x5632, .f32⟩
  | .hbm, ⟨2, _⟩ => ⟨S1x5632, .f32⟩
  | .hbm, ⟨3, _⟩ => ⟨S8192x5632, .bf16⟩
  | .hbm, ⟨4, _⟩ => ⟨S3x5632, .f32⟩
  | .hbm, ⟨5, _⟩ => ⟨S5632, .f32⟩
  | .hbm, ⟨6, _⟩ => ⟨S1x5632, .f32⟩
  | .hbm, ⟨7, _⟩ => ⟨S4x5632, .f32⟩
  | .hbm, ⟨8, _⟩ => ⟨S_, .i32⟩
  | .hbm, ⟨9, _⟩ => ⟨S_, .f32⟩
  | .hbm, ⟨10, _⟩ => ⟨S8x5632, .f32⟩
  | .hbm, ⟨11, _⟩ => ⟨S8192x5632, .f32⟩
  | .hbm, ⟨12, _⟩ => ⟨S8192x5632, .bf16⟩
  | .hbm, ⟨13, _⟩ => ⟨S8x5632, .f32⟩
  | .local _ .vmem, ⟨0, _⟩ => ⟨S256x5632, .bf16⟩
  | .local _ .vmem, ⟨1, _⟩ => ⟨S256x5632, .bf16⟩
  | .local _ .vmem, ⟨2, _⟩ => ⟨S256x5632, .f32⟩
  | .local _ .vmem, ⟨3, _⟩ => ⟨S256x5632, .f32⟩
  | .local _ .vmem, ⟨4, _⟩ => ⟨S16x5632, .bf16⟩
  | .local _ .vmem, ⟨5, _⟩ => ⟨S16x5632, .bf16⟩
  | .local _ .vmem, ⟨6, _⟩ => ⟨S16x5632, .bf16⟩
  | .local _ .vmem, ⟨7, _⟩ => ⟨S16x5632, .bf16⟩
  | .local _ .vmem, ⟨8, _⟩ => ⟨S8x5632, .f32⟩
  | .local _ .vmem, ⟨9, _⟩ => ⟨S256x5632, .bf16⟩
  | .local _ .vmem, ⟨10, _⟩ => ⟨S256x5632, .bf16⟩
  | .local _ .vmem, ⟨11, _⟩ => ⟨S8x5632, .f32⟩
  | _, _ => ⟨S1x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvRefIdeal.lean ====
abbrev S1x8192x5632 : Shape := ⟨3, ![1, 8192, 5632]⟩
abbrev S1x3x5632 : Shape := ⟨3, ![1, 3, 5632]⟩
abbrev S1x5632 : Shape := ⟨2, ![1, 5632]⟩
abbrev S8192x5632 : Shape := ⟨2, ![8192, 5632]⟩
abbrev S3x5632 : Shape := ⟨2, ![3, 5632]⟩
abbrev S5632 : Shape := ⟨1, ![5632]⟩
abbrev S_ : Shape := ⟨0, ![]⟩
abbrev S1x1x5632 : Shape := ⟨3, ![1, 1, 5632]⟩
abbrev S1x8194x5632 : Shape := ⟨3, ![1, 8194, 5632]⟩
abbrev S4x5632 : Shape := ⟨2, ![4, 5632]⟩
abbrev S8x5632 : Shape := ⟨2, ![8, 5632]⟩

abbrev nBuf : Space → Nat
  | .hbm => 97
  | .vmem => 0
  | .smem => 0
  | _ => 0

abbrev bufTy : (tb : Table) → Fin (tcTables nBuf tb) → BufTy
  | .hbm, ⟨0, _⟩ => ⟨S1x8192x5632, .f32⟩
  | .hbm, ⟨1, _⟩ => ⟨S1x3x5632, .f32⟩
  | .hbm, ⟨2, _⟩ => ⟨S1x5632, .f32⟩
  | .hbm, ⟨3, _⟩ => ⟨S8192x5632, .bf16⟩
  | .hbm, ⟨4, _⟩ => ⟨S3x5632, .f32⟩
  | .hbm, ⟨5, _⟩ => ⟨S5632, .f32⟩
  | .hbm, ⟨6, _⟩ => ⟨S_, .f32⟩
  | .hbm, ⟨7, _⟩ => ⟨S1x1x5632, .f32⟩
  | .hbm, ⟨8, _⟩ => ⟨S_, .f32⟩
  | .hbm, ⟨9, _⟩ => ⟨S1x1x5632, .f32⟩
  | .hbm, ⟨10, _⟩ => ⟨S1x8194x5632, .f32⟩
  | .hbm, ⟨11, _⟩ => ⟨S_, .f32⟩
  | .hbm, ⟨12, _⟩ => ⟨S1x1x5632, .f32⟩
  | .hbm, ⟨13, _⟩ => ⟨S_, .f32⟩
  | .hbm, ⟨14, _⟩ => ⟨S1x1x5632, .f32⟩
  | .hbm, ⟨15, _⟩ => ⟨S1x8192x5632, .f32⟩
  | .hbm, ⟨16, _⟩ => ⟨S1x5632, .f32⟩
  | .hbm, ⟨17, _⟩ => ⟨S5632, .f32⟩
  | .hbm, ⟨18, _⟩ => ⟨S1x1x5632, .f32⟩
  | .hbm, ⟨19, _⟩ => ⟨S1x8192x5632, .f32⟩
  | .hbm, ⟨20, _⟩ => ⟨S1x8192x5632, .f32⟩
  | .hbm, ⟨21, _⟩ => ⟨S1x1x5632, .f32⟩
  | .hbm, ⟨22, _⟩ => ⟨S1x8192x5632, .f32⟩
  | .hbm, ⟨23, _⟩ => ⟨S1x8192x5632, .f32⟩
  | .hbm, ⟨24, _⟩ => ⟨S1x8192x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S1x8192x5632, .f32⟩
  | .hbm, ⟨29, _⟩ => ⟨S1x8192x5632, .f32⟩
  | .hbm, ⟨30, _⟩ => ⟨S1x8192x5632, .f32⟩
  | .hbm, ⟨31, _⟩ => ⟨S1x8192x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S1x8192x5632, .f32⟩
  | .hbm, ⟨36, _⟩ => ⟨S1x8192x5632, .f32⟩
  | .hbm, ⟨37, _⟩ => ⟨S1x8192x5632, .f32⟩
  | .hbm, ⟨38, _⟩ => ⟨S8192x5632, .f32⟩
  | .hbm, ⟨39, _⟩ => ⟨S1x8192x5632, .f32⟩
  | .hbm, ⟨40, _⟩ => ⟨S1x8192x5632, .f32⟩
  | .hbm, ⟨41, _⟩ => ⟨S_, .f32⟩
  | .hbm, ⟨42, _⟩ => ⟨S1x5632, .f32⟩
  | .hbm, ⟨43, _⟩ => ⟨S1x1x5632, .f32⟩
  | .hbm, ⟨44, _⟩ => ⟨S1x8192x5632, .f32⟩
  | .hbm, ⟨45, _⟩ => ⟨S1x8192x5632, .f32⟩
  | .hbm, ⟨46, _⟩ => ⟨S_, .f32⟩
  | .hbm, ⟨47, _⟩ => ⟨S5632, .f32⟩
  | .hbm, ⟨48, _⟩ => ⟨S1x5632, .f32⟩
  | .hbm, ⟨49, _⟩ => ⟨S_, .f32⟩
  | .hbm, ⟨50, _⟩ => ⟨S3x5632, .f32⟩
  | .hbm, ⟨51, _⟩ => ⟨S_, .f32⟩
  | .hbm, ⟨52, _⟩ => ⟨S1x8194x5632, .f32⟩
  | .hbm, ⟨53, _⟩ => ⟨S1x8192x5632, .f32⟩
  | .hbm, ⟨54, _⟩ => ⟨S_, .f32⟩
  | .hbm, ⟨55, _⟩ => ⟨S1x5632, .f32⟩
  | .hbm, ⟨56, _⟩ => ⟨S1x1x5632, .f32⟩
  | .hbm, ⟨57, _⟩ => ⟨S1x8192x5632, .f32⟩
  | .hbm, ⟨58, _⟩ => ⟨S1x8192x5632, .f32⟩
  | .hbm, ⟨59, _⟩ => ⟨S_, .f32⟩
  | .hbm, ⟨60, _⟩ => ⟨S5632, .f32⟩
  | .hbm, ⟨61, _⟩ => ⟨S1x5632, .f32⟩
  | .hbm, ⟨62, _⟩ => ⟨S_, .f32⟩
  | .hbm, ⟨63, _⟩ => ⟨S3x5632, .f32⟩
  | .hbm, ⟨64, _⟩ => ⟨S3x5632, .f32⟩
  | .hbm, ⟨65, _⟩ => ⟨S_, .f32⟩
  | .hbm, ⟨66, _⟩ => ⟨S1x8194x5632, .f32⟩
  | .hbm, ⟨67, _⟩ => ⟨S1x8194x5632, .f32⟩
  | .hbm, ⟨68, _⟩ => ⟨S_, .f32⟩
  | .hbm, ⟨69, _⟩ => ⟨S1x5632, .f32⟩
  | .hbm, ⟨70, _⟩ => ⟨S1x1x5632, .f32⟩
  | .hbm, ⟨71, _⟩ => ⟨S_, .f32⟩
  | .hbm, ⟨72, _⟩ => ⟨S5632, .f32⟩
  | .hbm, ⟨73, _⟩ => ⟨S1x8192x5632, .f32⟩
  | .hbm, ⟨74, _⟩ => ⟨S_, .f32⟩
  | .hbm, ⟨75, _⟩ => ⟨S1x5632, .f32⟩
  | .hbm, ⟨76, _⟩ => ⟨S1x1x5632, .f32⟩
  | .hbm, ⟨77, _⟩ => ⟨S1x8192x5632, .f32⟩
  | .hbm, ⟨78, _⟩ => ⟨S1x8192x5632, .f32⟩
  | .hbm, ⟨79, _⟩ => ⟨S_, .f32⟩
  | .hbm, ⟨80, _⟩ => ⟨S5632, .f32⟩
  | .hbm, ⟨81, _⟩ => ⟨S1x5632, .f32⟩
  | .hbm, ⟨82, _⟩ => ⟨S_, .f32⟩
  | .hbm, ⟨83, _⟩ => ⟨S3x5632, .f32⟩
  | .hbm, ⟨84, _⟩ => ⟨S3x5632, .f32⟩
  | .hbm, ⟨85, _⟩ => ⟨S_, .f32⟩
  | .hbm, ⟨86, _⟩ => ⟨S1x8194x5632, .f32⟩
  | .hbm, ⟨87, _⟩ => ⟨S1x8194x5632, .f32⟩
  | .hbm, ⟨88, _⟩ => ⟨S1x1x5632, .f32⟩
  | .hbm, ⟨89, _⟩ => ⟨S1x8192x5632, .f32⟩
  | .hbm, ⟨90, _⟩ => ⟨S1x1x5632, .f32⟩
  | .hbm, ⟨91, _⟩ => ⟨S8192x5632, .f32⟩
  | .hbm, ⟨92, _⟩ => ⟨S8192x5632, .bf16⟩
  | .hbm, ⟨93, _⟩ => ⟨S1x5632, .f32⟩
  | .hbm, ⟨94, _⟩ => ⟨S_, .f32⟩
  | .hbm, ⟨95, _⟩ => ⟨S4x5632, .f32⟩
  | .hbm, ⟨96, _⟩ => ⟨S8x5632, .f32⟩
  | _, _ => ⟨S1x8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_cst_13 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_v61 : Ref sig .tc := ⟨.hbm, 81, rfl⟩
abbrev main_cst_15 : Ref sig .tc := ⟨.hbm, 82, rfl⟩
abbrev main_v62 : Ref sig .tc := ⟨.hbm, 83, rfl⟩
abbrev main_v63 : Ref sig .tc := ⟨.hbm, 84, rfl⟩
abbrev main_cst_16 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_17 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Attn.lean ====
abbrev S1x8192x8x96 : Shape := ⟨4, ![1, 8192, 8, 96]⟩
abbrev S1x8192x8x64 : Shape := ⟨4, ![1, 8192, 8, 64]⟩
abbrev S_ : Shape := ⟨0, ![]⟩
abbrev S8192x8x96 : Shape := ⟨3, ![8192, 8, 96]⟩
abbrev S8192x8x64 : Shape := ⟨3, ![8192, 8, 64]⟩
abbrev S8192x8x32 : Shape := ⟨3, ![8192, 8, 32]⟩
abbrev S8192x8x16 : Shape := ⟨3, ![8192, 8, 16]⟩
abbrev S8192x8x128 : Shape := ⟨3, ![8192, 8, 128]⟩
abbrev S8192x1024 : Shape := ⟨2, ![8192, 1024]⟩
abbrev S8192x512 : Shape := ⟨2, ![8192, 512]⟩
abbrev S4x2x8192 : Shape := ⟨3, ![4, 2, 8192]⟩
abbrev S4096x256 : Shape := ⟨2, ![4096, 256]⟩
abbrev S8192x256 : Shape := ⟨2, ![8192, 256]⟩
abbrev S8192x128 : Shape := ⟨2, ![8192, 128]⟩
abbrev S4096x128 : Shape := ⟨2, ![4096, 128]⟩
abbrev S1x2x4096 : Shape := ⟨3, ![1, 2, 4096]⟩
abbrev S2x128x4096 : Shape := ⟨3, ![2, 128, 4096]⟩
abbrev S1x4096 : Shape := ⟨2, ![1, 4096]⟩
abbrev S512x128 : Shape := ⟨2, ![512, 128]⟩
abbrev S512x4096 : Shape := ⟨2, ![512, 4096]⟩
abbrev S4096 : Shape := ⟨1, ![4096]⟩
abbrev S1x128x4096 : Shape := ⟨3, ![1, 128, 4096]⟩
abbrev S128x4096 : Shape := ⟨2, ![128, 4096]⟩
abbrev S1x1x4096 : Shape := ⟨3, ![1, 1, 4096]⟩
abbrev S8192x8 : Shape := ⟨2, ![8192, 8]⟩
abbrev S8x8192 : Shape := ⟨2, ![8, 8192]⟩
abbrev S2048x256 : Shape := ⟨2, ![2048, 256]⟩
abbrev S2048x128 : Shape := ⟨2, ![2048, 128]⟩
abbrev S1x2x2048 : Shape := ⟨3, ![1, 2, 2048]⟩
abbrev S2x128x2048 : Shape := ⟨3, ![2, 128, 2048]⟩
abbrev S1x1x2048 : Shape := ⟨3, ![1, 1, 2048]⟩
abbrev S1x2048 : Shape := ⟨2, ![1, 2048]⟩
abbrev S512x2048 : Shape := ⟨2, ![512, 2048]⟩
abbrev S1x128x2048 : Shape := ⟨3, ![1, 128, 2048]⟩
abbrev S128x2048 : Shape := ⟨2, ![128, 2048]⟩

abbrev nBuf : Space → Nat
  | .hbm => 81
  | .vmem => 30
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8192x8x64, .f32⟩
  | .hbm, ⟨4, _⟩ => ⟨S_, .f32⟩
  | .hbm, ⟨5, _⟩ => ⟨S_, .f32⟩
  | .hbm, ⟨6, _⟩ => ⟨S8192x8x96, .f32⟩
  | .hbm, ⟨7, _⟩ => ⟨S_, .f32⟩
  | .hbm, ⟨8, _⟩ => ⟨S_, .f32⟩
  | .hbm, ⟨9, _⟩ => ⟨S8192x8x96, .f32⟩
  | .hbm, ⟨10, _⟩ => ⟨S8192x8x96, .f32⟩
  | .hbm, ⟨11, _⟩ => ⟨S8192x8x64, .f32⟩
  | .hbm, ⟨12, _⟩ => ⟨S8192x8x32, .f32⟩
  | .hbm, ⟨13, _⟩ => ⟨S8192x8x16, .f32⟩
  | .hbm, ⟨14, _⟩ => ⟨S8192x8x16, .f32⟩
  | .hbm, ⟨15, _⟩ => ⟨S8192x8x32, .f32⟩
  | .hbm, ⟨16, _⟩ => ⟨S8192x8x32, .f32⟩
  | .hbm, ⟨17, _⟩ => ⟨S_, .f32⟩
  | .hbm, ⟨18, _⟩ => ⟨S8192x8x16, .f32⟩
  | .hbm, ⟨19, _⟩ => ⟨S_, .f32⟩
  | .hbm, ⟨20, _⟩ => ⟨S8192x8x16, .f32⟩
  | .hbm, ⟨21, _⟩ => ⟨S8192x8x128, .f32⟩
  | .hbm, ⟨22, _⟩ => ⟨S8192x1024, .f32⟩
  | .hbm, ⟨23, _⟩ => ⟨S8192x1024, .bf16⟩
  | .hbm, ⟨24, _⟩ => ⟨S8192x8x96, .f32⟩
  | .hbm, ⟨25, _⟩ => ⟨S8192x8x64, .f32⟩
  | .hbm, ⟨26, _⟩ => ⟨S8192x8x96, .f32⟩
  | .hbm, ⟨27, _⟩ => ⟨S8192x8x32, .f32⟩
  | .hbm, ⟨28, _⟩ => ⟨S8192x8x16, .f32⟩
  | .hbm, ⟨29, _⟩ => ⟨S8192x8x16, .f32⟩
  | .hbm, ⟨30, _⟩ => ⟨S8192x8x32, .f32⟩
  | .hbm, ⟨31, _⟩ => ⟨S8192x8x32, .f32⟩
  | .hbm, ⟨32, _⟩ => ⟨S_, .f32⟩
  | .hbm, ⟨33, _⟩ => ⟨S8192x8x16, .f32⟩
  | .hbm, ⟨34, _⟩ => ⟨S_, .f32⟩
  | .hbm, ⟨35, _⟩ => ⟨S8192x8x16, .f32⟩
  | .hbm, ⟨36, _⟩ => ⟨S8192x8x128, .f32⟩
  | .hbm, ⟨37, _⟩ => ⟨S8192x1024, .f32⟩
  | .hbm, ⟨38, _⟩ => ⟨S8192x1024, .bf16⟩
  | .hbm, ⟨39, _⟩ => ⟨S8192x8x64, .f32⟩
  | .hbm, ⟨40, _⟩ => ⟨S8192x512, .f32⟩
  | .hbm, ⟨41, _⟩ => ⟨S8192x512, .bf16⟩
  | .hbm, ⟨42, _⟩ => ⟨S8192x512, .f32⟩
  | .hbm, ⟨43, _⟩ => ⟨S4x2x8192, .f32⟩
  | .hbm, ⟨44, _⟩ => ⟨S8192x8x64, .f32⟩
  | .hbm, ⟨45, _⟩ => ⟨S8192x512, .f32⟩
  | .hbm, ⟨46, _⟩ => ⟨S8192x512, .f32⟩
  | .hbm, ⟨47, _⟩ => ⟨S8192x8x64, .f32⟩
  | .hbm, ⟨48, _⟩ => ⟨S_, .f32⟩
  | .hbm, ⟨49, _⟩ => ⟨S8192x8, .f32⟩
  | .hbm, ⟨50, _⟩ => ⟨S8x8192, .f32⟩
  | .hbm, ⟨51, _⟩ => ⟨S4x2x8192, .f32⟩
  | .hbm, ⟨52, _⟩ => ⟨S8192x512, .bf16⟩
  | .hbm, ⟨53, _⟩ => ⟨S8192x1024, .f32⟩
  | .hbm, ⟨54, _⟩ => ⟨S8192x1024, .f32⟩
  | .hbm, ⟨55, _⟩ => ⟨S8192x512, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x8x128, .f32⟩
  | .hbm, ⟨60, _⟩ => ⟨S8192x8x32, .f32⟩
  | .hbm, ⟨61, _⟩ => ⟨S8192x8x32, .f32⟩
  | .hbm, ⟨62, _⟩ => ⟨S8192x8x64, .f32⟩
  | .hbm, ⟨63, _⟩ => ⟨S8192x8x16, .f32⟩
  | .hbm, ⟨64, _⟩ => ⟨S8192x8x16, .f32⟩
  | .hbm, ⟨65, _⟩ => ⟨S8192x8x32, .f32⟩
  | .hbm, ⟨66, _⟩ => ⟨S8192x8x96, .f32⟩
  | .hbm, ⟨67, _⟩ => ⟨S8192x1024, .f32⟩
  | .hbm, ⟨68, _⟩ => ⟨S8192x1024, .f32⟩
  | .hbm, ⟨69, _⟩ => ⟨S8192x8x128, .f32⟩
  | .hbm, ⟨70, _⟩ => ⟨S8192x8x32, .f32⟩
  | .hbm, ⟨71, _⟩ => ⟨S8192x8x32, .f32⟩
  | .hbm, ⟨72, _⟩ => ⟨S8192x8x64, .f32⟩
  | .hbm, ⟨73, _⟩ => ⟨S8192x8x16, .f32⟩
  | .hbm, ⟨74, _⟩ => ⟨S8192x8x16, .f32⟩
  | .hbm, ⟨75, _⟩ => ⟨S8192x8x32, .f32⟩
  | .hbm, ⟨76, _⟩ => ⟨S8192x8x96, .f32⟩
  | .hbm, ⟨77, _⟩ => ⟨S1x8192x8x64, .f32⟩
  | .hbm, ⟨78, _⟩ => ⟨S1x8192x8x96, .f32⟩
  | .hbm, ⟨79, _⟩ => ⟨S1x8192x8x96, .f32⟩
  | .hbm, ⟨80, _⟩ => ⟨S1x8192x8x64, .f32⟩
  | .local _ .vmem, ⟨0, _⟩ => ⟨S4096x256, .bf16⟩
  | .local _ .vmem, ⟨1, _⟩ => ⟨S4096x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S4096x128, .f32⟩
  | .local _ .vmem, ⟨7, _⟩ => ⟨S4096x128, .f32⟩
  | .local _ .vmem, ⟨8, _⟩ => ⟨S1x2x4096, .f32⟩
  | .local _ .vmem, ⟨9, _⟩ => ⟨S1x2x4096, .f32⟩
  | .local _ .vmem, ⟨10, _⟩ => ⟨S2x128x4096, .f32⟩
  | .local _ .vmem, ⟨11, _⟩ => ⟨S2048x256, .bf16⟩
  | .local _ .vmem, ⟨12, _⟩ => ⟨S2048x256, .bf16⟩
  | .local _ .vmem, ⟨13, _⟩ => ⟨S2048x128, .bf16⟩
  | .local _ .vmem, ⟨14, _⟩ => ⟨S2048x128, .bf16⟩
  | .local _ .vmem, ⟨15, _⟩ => ⟨S1x2x2048, .f32⟩
  | .local _ .vmem, ⟨16, _⟩ => ⟨S1x2x2048, .f32⟩
  | .local _ .vmem, ⟨17, _⟩ => ⟨S1x2x2048, .f32⟩
  | .local _ .vmem, ⟨18, _⟩ => ⟨S1x2x2048, .f32⟩
  | .local _ .vmem, ⟨19, _⟩ => ⟨S8192x256, .bf16⟩
  | .local _ .vmem, ⟨20, _⟩ => ⟨S8192x256, .bf16⟩
  | .local _ .vmem, ⟨21, _⟩ => ⟨S8192x128, .bf16⟩
  | .local _ .vmem, ⟨22, _⟩ => ⟨S8192x128, .bf16⟩
  | .local _ .vmem, ⟨23, _⟩ => ⟨S2048x256, .f32⟩
  | .local _ .vmem, ⟨24, _⟩ => ⟨S2048x256, .f32⟩
  | .local _ .vmem, ⟨25, _⟩ => ⟨S8192x256, .f32⟩
  | .local _ .vmem, ⟨26, _⟩ => ⟨S8192x256, .f32⟩
  | .local _ .vmem, ⟨27, _⟩ => ⟨S8192x128, .f32⟩
  | .local _ .vmem, ⟨28, _⟩ => ⟨S8192x128, .f32⟩
  | .local _ .vmem, ⟨29, _⟩ => ⟨S2x128x2048, .f32⟩
  | _, _ => ⟨S1x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev main_v41_2 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v40 : BitVec 32 := Scalar.muli arg8 c512_i32
  v40
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v40 : BitVec 32 := Scalar.muli arg8 c512_i32
  let v41 : BitVec 32 := v40
  let v42 : Index := Scalar.indexCast v41
  let c0_23 : Index := 0#32
  ![v42.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v40 : BitVec 32 := Scalar.muli arg8 c512_i32
  let v41 : BitVec 32 := v40
  let v45 : Index := Scalar.indexCast v41
  let c0_24 : Index := 0#32
  ![v45.toNat, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v40 : BitVec 32 := Scalar.muli arg8 c512_i32
  let v41 : BitVec 32 := v40
  let v71 : Index := Scalar.indexCast v41
  let c128_35 : Index := 128#32
  ![v71.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

@[reducible] def k1_t1_loop : Scf.Loop 32 :=
  let c0_i32_21 : BitVec 32 := 0#32
  let c16_i32 : BitVec 32 := 16#32
  let v29 : BitVec 32 := Scalar.addi c0_i32_21 c16_i32
  let c1_i32 : BitVec 32 := 1#32
  ⟨c0_i32_21, v29, c1_i32⟩
def k1_mult1 (k1_t1 : Fin k1_t1_loop.trips) : BitVec 32 :=
  let c0_i32_21 : BitVec 32 := 0#32
  let c1_i32 : BitVec 32 := 1#32
  let arg12 : BitVec 32 := Scf.iv c0_i32_21 c1_i32 k1_t1
  let c512_i32 : BitVec 32 := 512#32
  let v38 : BitVec 32 := Scalar.muli arg12 c512_i32
  v38
def k1_off1 (k1_t1 : Fin k1_t1_loop.trips) : Fin 2 → Nat :=
  let c0_i32_21 : BitVec 32 := 0#32
  let c1_i32 : BitVec 32 := 1#32
  let arg12 : BitVec 32 := Scf.iv c0_i32_21 c1_i32 k1_t1
  let c512_i32 : BitVec 32 := 512#32
  let v38 : BitVec 32 := Scalar.muli arg12 c512_i32
  let v39 : BitVec 32 := v38
  let v40 : Index := Scalar.indexCast v39
  let c0_33 : Index := 0#32
  ![v40.toNat, 0]
def k1_off2 (k1_t1 : Fin k1_t1_loop.trips) : Fin 2 → Nat :=
  let c0_i32_21 : BitVec 32 := 0#32
  let c1_i32 : BitVec 32 := 1#32
  let arg12 : BitVec 32 := Scf.iv c0_i32_21 c1_i32 k1_t1
  let c512_i32 : BitVec 32 := 512#32
  let v38 : BitVec 32 := Scalar.muli arg12 c512_i32
  let v39 : BitVec 32 := v38
  let v51 : Index := Scalar.indexCast v39
  let c0_37 : Index := 0#32
  ![v51.toNat, 0]
def k1_off3 (k1_t1 : Fin k1_t1_loop.trips) : Fin 2 → Nat :=
  let c0_i32_21 : BitVec 32 := 0#32
  let c1_i32 : BitVec 32 := 1#32
  let arg12 : BitVec 32 := Scf.iv c0_i32_21 c1_i32 k1_t1
  let c512_i32 : BitVec 32 := 512#32
  let v38 : BitVec 32 := Scalar.muli arg12 c512_i32
  let v39 : BitVec 32 := v38
  let v88 : Index := Scalar.indexCast v39
  let c128_54 : Index := 128#32
  ![v88.toNat, 128]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8192x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8192x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8192x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S8192x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== AttnIdeal.lean ====
variable {F : FTy → Type} [FloatOps F] [Named F]
def κ : String → Option EReal := fun
  | "log2e" => some (((Real.log 2)⁻¹ : ℝ) : EReal)
  | _ => none
-- ==== AttnRefIdeal.lean ====
abbrev S1x8192x8x96 : Shape := ⟨4, ![1, 8192, 8, 96]⟩
abbrev S1x8192x8x64 : Shape := ⟨4, ![1, 8192, 8, 64]⟩
abbrev S1x8x8192x8192 : Shape := ⟨4, ![1, 8, 8192, 8192]⟩
abbrev S_ : Shape := ⟨0, ![]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S8x8192 : Shape := ⟨2, ![8, 8192]⟩
abbrev S1x8x8192x96 : Shape := ⟨4, ![1, 8, 8192, 96]⟩

abbrev nBuf : Space → Nat
  | .hbm => 74
  | .vmem => 0
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8192x8x64, .f32⟩
  | .hbm, ⟨4, _⟩ => ⟨S1x8x8192x8192, .f32⟩
  | .hbm, ⟨5, _⟩ => ⟨S_, .f32⟩
  | .hbm, ⟨6, _⟩ => ⟨S1x8x8192x8192, .f32⟩
  | .hbm, ⟨7, _⟩ => ⟨S1x8x8192x8192, .f32⟩
  | .hbm, ⟨8, _⟩ => ⟨S_, .f32⟩
  | .hbm, ⟨9, _⟩ => ⟨S1x8x8192, .f32⟩
  | .hbm, ⟨10, _⟩ => ⟨S1x8x8192x1, .f32⟩
  | .hbm, ⟨11, _⟩ => ⟨S1x8x8192x8192, .f32⟩
  | .hbm, ⟨12, _⟩ => ⟨S1x8x8192x8192, .i1⟩
  | .hbm, ⟨13, _⟩ => ⟨S1x8x8192x8192, .f32⟩
  | .hbm, ⟨14, _⟩ => ⟨S_, .f32⟩
  | .hbm, ⟨15, _⟩ => ⟨S1x8x8192, .f32⟩
  | .hbm, ⟨16, _⟩ => ⟨S_, .f32⟩
  | .hbm, ⟨17, _⟩ => ⟨S1x8x8192, .f32⟩
  | .hbm, ⟨18, _⟩ => ⟨S1x8x8192, .f32⟩
  | .hbm, ⟨19, _⟩ => ⟨S_, .f32⟩
  | .hbm, ⟨20, _⟩ => ⟨S1x8x8192, .f32⟩
  | .hbm, ⟨21, _⟩ => ⟨S1x8x8192, .i1⟩
  | .hbm, ⟨22, _⟩ => ⟨S_, .f32⟩
  | .hbm, ⟨23, _⟩ => ⟨S1x8x8192, .f32⟩
  | .hbm, ⟨24, _⟩ => ⟨S1x8x8192, .i1⟩
  | .hbm, ⟨25, _⟩ => ⟨S_, .f32⟩
  | .hbm, ⟨26, _⟩ => ⟨S1x8x8192, .f32⟩
  | .hbm, ⟨27, _⟩ => ⟨S_, .f32⟩
  | .hbm, ⟨28, _⟩ => ⟨S1x8x8192, .f32⟩
  | .hbm, ⟨29, _⟩ => ⟨S_, .f32⟩
  | .hbm, ⟨30, _⟩ => ⟨S1x8x8192, .f32⟩
  | .hbm, ⟨31, _⟩ => ⟨S1x8x8192, .f32⟩
  | .hbm, ⟨32, _⟩ => ⟨S1x8x8192, .f32⟩
  | .hbm, ⟨33, _⟩ => ⟨S1x8x8192x1, .f32⟩
  | .hbm, ⟨34, _⟩ => ⟨S1x8x8192x8192, .f32⟩
  | .hbm, ⟨35, _⟩ => ⟨S1x8x8192x8192, .f32⟩
  | .hbm, ⟨36, _⟩ => ⟨S1x8x8192x8192, .f32⟩
  | .hbm, ⟨37, _⟩ => ⟨S_, .f32⟩
  | .hbm, ⟨38, _⟩ => ⟨S1x8x8192, .f32⟩
  | .hbm, ⟨39, _⟩ => ⟨S1x8x8192x1, .f32⟩
  | .hbm, ⟨40, _⟩ => ⟨S1x8x8192x8192, .f32⟩
  | .hbm, ⟨41, _⟩ => ⟨S1x8x8192x8192, .f32⟩
  | .hbm, ⟨42, _⟩ => ⟨S1x8x8192x1, .f32⟩
  | .hbm, ⟨43, _⟩ => ⟨S_, .f32⟩
  | .hbm, ⟨44, _⟩ => ⟨S1x8x8192x1, .f32⟩
  | .hbm, ⟨45, _⟩ => ⟨S1x8x8192x1, .f32⟩
  | .hbm, ⟨46, _⟩ => ⟨S1x8x64x8192, .f32⟩
  | .hbm, ⟨47, _⟩ => ⟨S1x8192x8x64, .f32⟩
  | .hbm, ⟨48, _⟩ => ⟨S1x8x64x8192, .f32⟩
  | .hbm, ⟨49, _⟩ => ⟨S1x8x8192x8192, .f32⟩
  | .hbm, ⟨50, _⟩ => ⟨S1x8x64x8192, .f32⟩
  | .hbm, ⟨51, _⟩ => ⟨S1x8192x8x64, .f32⟩
  | .hbm, ⟨52, _⟩ => ⟨S1x8x8192x8192, .f32⟩
  | .hbm, ⟨53, _⟩ => ⟨S1x8x8192x8192, .f32⟩
  | .hbm, ⟨54, _⟩ => ⟨S1x8x8192x8192, .f32⟩
  | .hbm, ⟨55, _⟩ => ⟨S_, .f32⟩
  | .hbm, ⟨56, _⟩ => ⟨S1x8x8192, .f32⟩
  | .hbm, ⟨57, _⟩ => ⟨S1x8x8192x1, .f32⟩
  | .hbm, ⟨58, _⟩ => ⟨S1x8x8192x1, .f32⟩
  | .hbm, ⟨59, _⟩ => ⟨S1x8x8192x8192, .f32⟩
  | .hbm, ⟨60, _⟩ => ⟨S1x8x8192x8192, .f32⟩
  | .hbm, ⟨61, _⟩ => ⟨S_, .f32⟩
  | .hbm, ⟨62, _⟩ => ⟨S8x8192, .f32⟩
  | .hbm, ⟨63, _⟩ => ⟨S1x8x8192, .f32⟩
  | .hbm, ⟨64, _⟩ => ⟨S1x8x8192x8192, .f32⟩
  | .hbm, ⟨65, _⟩ => ⟨S1x8x8192x8192, .f32⟩
  | .hbm, ⟨66, _⟩ => ⟨S1x8x8192x8192, .f32⟩
  | .hbm, ⟨67, _⟩ => ⟨S_, .f32⟩
  | .hbm, ⟨68, _⟩ => ⟨S1x8x8192x8192, .f32⟩
  | .hbm, ⟨69, _⟩ => ⟨S1x8x8192x8192, .f32⟩
  | .hbm, ⟨70, _⟩ => ⟨S1x8x8192x96, .f32⟩
  | .hbm, ⟨71, _⟩ => ⟨S1x8192x8x96, .f32⟩
  | .hbm, ⟨72, _⟩ => ⟨S1x8x8192x96, .f32⟩
  | .hbm, ⟨73, _⟩ => ⟨S1x8192x8x96, .f32⟩
  | _, _ => ⟨S1x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== FfnIn.lean ====
abbrev S1x8192x1024 : Shape := ⟨3, ![1, 8192, 1024]⟩
abbrev S1x1024 : Shape := ⟨2, ![1, 1024]⟩
abbrev S1x1024x5632 : Shape := ⟨3, ![1, 1024, 5632]⟩
abbrev S8192x5632 : Shape := ⟨2, ![8192, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8192x1024 : Shape := ⟨2, ![8192, 1024]⟩
abbrev S1024 : Shape := ⟨1, ![1024]⟩
abbrev S8x1024 : Shape := ⟨2, ![8, 1024]⟩
abbrev S512x5632 : Shape := ⟨2, ![512, 5632]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S8192x5632, .bf16⟩
  | .hbm, ⟨4, _⟩ => ⟨S1x8192x1024, .f32⟩
  | .hbm, ⟨5, _⟩ => ⟨S1024x5632, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S8192x1024, .f32⟩
  | .hbm, ⟨10, _⟩ => ⟨S8192x1024, .f32⟩
  | .hbm, ⟨11, _⟩ => ⟨S1024, .f32⟩
  | .hbm, ⟨12, _⟩ => ⟨S1x1024, .f32⟩
  | .hbm, ⟨13, _⟩ => ⟨S8192x1024, .f32⟩
  | .hbm, ⟨14, _⟩ => ⟨S8192x1024, .bf16⟩
  | .hbm, ⟨15, _⟩ => ⟨S8x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1408, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnInRefIdeal.lean ====
abbrev S1x8192x1024 : Shape := ⟨3, ![1, 8192, 1024]⟩
abbrev S1x1024 : Shape := ⟨2, ![1, 1024]⟩
abbrev S1x1024x5632 : Shape := ⟨3, ![1, 1024, 5632]⟩
abbrev S8192x5632 : Shape := ⟨2, ![8192, 5632]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x5632 : Shape := ⟨3, ![1, 8192, 5632]⟩
abbrev S8192 : Shape := ⟨1, ![8192]⟩
abbrev S8192x1024 : Shape := ⟨2, ![8192, 1024]⟩
abbrev S7x1024 : Shape := ⟨2, ![7, 1024]⟩
abbrev S8x1024 : Shape := ⟨2, ![8, 1024]⟩

abbrev nBuf : Space → Nat
  | .hbm => 64
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S8192x5632, .bf16⟩
  | .hbm, ⟨4, _⟩ => ⟨S1x8192x1024, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1024x5632, .f32⟩
  | .hbm, ⟨27, _⟩ => ⟨S1x8192x5632, .f32⟩
  | .hbm, ⟨28, _⟩ => ⟨S8192x5632, .f32⟩
  | .hbm, ⟨29, _⟩ => ⟨S1x8192x5632, .f32⟩
  | .hbm, ⟨30, _⟩ => ⟨S1x8192x1024, .f32⟩
  | .hbm, ⟨31, _⟩ => ⟨S1x8192x1024, .f32⟩
  | .hbm, ⟨32, _⟩ => ⟨S_, .f32⟩
  | .hbm, ⟨33, _⟩ => ⟨S1x1024, .f32⟩
  | .hbm, ⟨34, _⟩ => ⟨S1x1x1024, .f32⟩
  | .hbm, ⟨35, _⟩ => ⟨S1x8192x1024, .f32⟩
  | .hbm, ⟨36, _⟩ => ⟨S1x8192x1024, .f32⟩
  | .hbm, ⟨37, _⟩ => ⟨S_, .f32⟩
  | .hbm, ⟨38, _⟩ => ⟨S1024, .f32⟩
  | .hbm, ⟨39, _⟩ => ⟨S1x8192x1024, .f32⟩
  | .hbm, ⟨40, _⟩ => ⟨S_, .f32⟩
  | .hbm, ⟨41, _⟩ => ⟨S1x8192, .f32⟩
  | .hbm, ⟨42, _⟩ => ⟨S1x8192x1, .f32⟩
  | .hbm, ⟨43, _⟩ => ⟨S1x8192x1024, .f32⟩
  | .hbm, ⟨44, _⟩ => ⟨S1x8192x1024, .f32⟩
  | .hbm, ⟨45, _⟩ => ⟨S1x8192x1, .f32⟩
  | .hbm, ⟨46, _⟩ => ⟨S_, .f32⟩
  | .hbm, ⟨47, _⟩ => ⟨S1x8192x1, .f32⟩
  | .hbm, ⟨48, _⟩ => ⟨S1x8192x1, .f32⟩
  | .hbm, ⟨49, _⟩ => ⟨S_, .f32⟩
  | .hbm, ⟨50, _⟩ => ⟨S8192, .f32⟩
  | .hbm, ⟨51, _⟩ => ⟨S1x8192, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x8192x1024, .f32⟩
  | .hbm, ⟨57, _⟩ => ⟨S1x8192x1024, .f32⟩
  | .hbm, ⟨58, _⟩ => ⟨S8192x1024, .f32⟩
  | .hbm, ⟨59, _⟩ => ⟨S8192x1024, .bf16⟩
  | .hbm, ⟨60, _⟩ => ⟨S1x1024, .f32⟩
  | .hbm, ⟨61, _⟩ => ⟨S_, .f32⟩
  | .hbm, ⟨62, _⟩ => ⟨S7x1024, .f32⟩
  | .hbm, ⟨63, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== InProj.lean ====
abbrev S1x8192x1024 : Shape := ⟨3, ![1, 8192, 1024]⟩
abbrev S1x1024 : Shape := ⟨2, ![1, 1024]⟩
abbrev S1x1024x1440 : Shape := ⟨3, ![1, 1024, 1440]⟩
abbrev S8192x512 : Shape := ⟨2, ![8192, 512]⟩
abbrev S8192x256 : Shape := ⟨2, ![8192, 256]⟩
abbrev S8192x128 : Shape := ⟨2, ![8192, 128]⟩
abbrev S8192x32 : Shape := ⟨2, ![8192, 32]⟩
abbrev S1024x1440 : Shape := ⟨2, ![1024, 1440]⟩
abbrev S1024x1408 : Shape := ⟨2, ![1024, 1408]⟩
abbrev S_ : Shape := ⟨0, ![]⟩
abbrev S1024x64 : Shape := ⟨2, ![1024, 64]⟩
abbrev S1024x32 : Shape := ⟨2, ![1024, 32]⟩
abbrev S1024x16 : Shape := ⟨2, ![1024, 16]⟩
abbrev S1024x128 : Shape := ⟨2, ![1024, 128]⟩
abbrev S1024x1536 : Shape := ⟨2, ![1024, 1536]⟩
abbrev S8192x64 : Shape := ⟨2, ![8192, 64]⟩
abbrev S8192x16 : Shape := ⟨2, ![8192, 16]⟩
abbrev S8192x1024 : Shape := ⟨2, ![8192, 1024]⟩
abbrev S1024 : Shape := ⟨1, ![1024]⟩
abbrev S8192x1536 : Shape := ⟨2, ![8192, 1536]⟩
abbrev S8x1024 : Shape := ⟨2, ![8, 1024]⟩
abbrev S1024x1024 : Shape := ⟨2, ![1024, 1024]⟩
abbrev S1024x512 : Shape := ⟨2, ![1024, 512]⟩
abbrev S1024x256 : Shape := ⟨2, ![1024, 256]⟩
abbrev S1024x1 : Shape := ⟨2, ![1024, 1]⟩

abbrev nBuf : Space → Nat
  | .hbm => 44
  | .vmem => 23
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x1440, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x256, .bf16⟩
  | .hbm, ⟨7, _⟩ => ⟨S8192x128, .bf16⟩
  | .hbm, ⟨8, _⟩ => ⟨S8192x32, .bf16⟩
  | .hbm, ⟨9, _⟩ => ⟨S1x8192x1024, .f32⟩
  | .hbm, ⟨10, _⟩ => ⟨S1024x1440, .f32⟩
  | .hbm, ⟨11, _⟩ => ⟨S1024x1440, .bf16⟩
  | .hbm, ⟨12, _⟩ => ⟨S1024x1408, .bf16⟩
  | .hbm, ⟨13, _⟩ => ⟨S_, .bf16⟩
  | .hbm, ⟨14, _⟩ => ⟨S1024x64, .bf16⟩
  | .hbm, ⟨15, _⟩ => ⟨S1024x32, .bf16⟩
  | .hbm, ⟨16, _⟩ => ⟨S1024x16, .bf16⟩
  | .hbm, ⟨17, _⟩ => ⟨S1024x16, .bf16⟩
  | .hbm, ⟨18, _⟩ => ⟨S1024x32, .bf16⟩
  | .hbm, ⟨19, _⟩ => ⟨S1024x32, .bf16⟩
  | .hbm, ⟨20, _⟩ => ⟨S_, .bf16⟩
  | .hbm, ⟨21, _⟩ => ⟨S1024x16, .bf16⟩
  | .hbm, ⟨22, _⟩ => ⟨S_, .bf16⟩
  | .hbm, ⟨23, _⟩ => ⟨S1024x16, .bf16⟩
  | .hbm, ⟨24, _⟩ => ⟨S1024x128, .bf16⟩
  | .hbm, ⟨25, _⟩ => ⟨S1024x1536, .bf16⟩
  | .hbm, ⟨26, _⟩ => ⟨S_, .bf16⟩
  | .hbm, ⟨27, _⟩ => ⟨S8192x64, .bf16⟩
  | .hbm, ⟨28, _⟩ => ⟨S8192x16, .bf16⟩
  | .hbm, ⟨29, _⟩ => ⟨S8192x16, .bf16⟩
  | .hbm, ⟨30, _⟩ => ⟨S8192x32, .bf16⟩
  | .hbm, ⟨31, _⟩ => ⟨S8192x32, .bf16⟩
  | .hbm, ⟨32, _⟩ => ⟨S_, .bf16⟩
  | .hbm, ⟨33, _⟩ => ⟨S8192x16, .bf16⟩
  | .hbm, ⟨34, _⟩ => ⟨S_, .bf16⟩
  | .hbm, ⟨35, _⟩ => ⟨S8192x16, .bf16⟩
  | .hbm, ⟨36, _⟩ => ⟨S8192x128, .bf16⟩
  | .hbm, ⟨37, _⟩ => ⟨S8192x1024, .f32⟩
  | .hbm, ⟨38, _⟩ => ⟨S8192x1024, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1536, .bf16⟩
  | .hbm, ⟨43, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x256, .bf16⟩
  | .local _ .vmem, ⟨11, _⟩ => ⟨S1024x256, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1x1024, .f32⟩
  | .local _ .vmem, ⟨17, _⟩ => ⟨S1024x1536, .bf16⟩
  | .local _ .vmem, ⟨18, _⟩ => ⟨S1024x1024, .f32⟩
  | .local _ .vmem, ⟨19, _⟩ => ⟨S1024x1024, .f32⟩
  | .local _ .vmem, ⟨20, _⟩ => ⟨S1024x1536, .bf16⟩
  | .local _ .vmem, ⟨21, _⟩ => ⟨S1024x1536, .bf16⟩
  | .local _ .vmem, ⟨22, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InProjRefIdeal.lean ====
abbrev S1x8192x1024 : Shape := ⟨3, ![1, 8192, 1024]⟩
abbrev S1x1024 : Shape := ⟨2, ![1, 1024]⟩
abbrev S1x1024x1440 : Shape := ⟨3, ![1, 1024, 1440]⟩
abbrev S8192x512 : Shape := ⟨2, ![8192, 512]⟩
abbrev S8192x256 : Shape := ⟨2, ![8192, 256]⟩
abbrev S8192x128 : Shape := ⟨2, ![8192, 128]⟩
abbrev S8192x32 : Shape := ⟨2, ![8192, 32]⟩
abbrev S8192x1440 : Shape := ⟨2, ![8192, 1440]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x1440 : Shape := ⟨2, ![1024, 1440]⟩
abbrev S1x8192x1440 : Shape := ⟨3, ![1, 8192, 1440]⟩
abbrev S8192 : Shape := ⟨1, ![8192]⟩
abbrev S8192x1408 : Shape := ⟨2, ![8192, 1408]⟩
abbrev S8192x16 : Shape := ⟨2, ![8192, 16]⟩
abbrev S8192x48 : Shape := ⟨2, ![8192, 48]⟩
abbrev S8192x1536 : Shape := ⟨2, ![8192, 1536]⟩
abbrev S8192x1024 : Shape := ⟨2, ![8192, 1024]⟩
abbrev S7x1024 : Shape := ⟨2, ![7, 1024]⟩
abbrev S8x1024 : Shape := ⟨2, ![8, 1024]⟩

abbrev nBuf : Space → Nat
  | .hbm => 86
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x1440, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x256, .bf16⟩
  | .hbm, ⟨7, _⟩ => ⟨S8192x128, .bf16⟩
  | .hbm, ⟨8, _⟩ => ⟨S8192x32, .bf16⟩
  | .hbm, ⟨9, _⟩ => ⟨S1x8192x1024, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x256, .f32⟩
  | .hbm, ⟨15, _⟩ => ⟨S8192x128, .f32⟩
  | .hbm, ⟨16, _⟩ => ⟨S8192x32, .f32⟩
  | .hbm, ⟨17, _⟩ => ⟨S8192x1440, .f32⟩
  | .hbm, ⟨18, _⟩ => ⟨S1024, .f32⟩
  | .hbm, ⟨19, _⟩ => ⟨S1x8192x1024, .f32⟩
  | .hbm, ⟨20, _⟩ => ⟨S_, .f32⟩
  | .hbm, ⟨21, _⟩ => ⟨S1x8192, .f32⟩
  | .hbm, ⟨22, _⟩ => ⟨S1x8192x1, .f32⟩
  | .hbm, ⟨23, _⟩ => ⟨S_, .f32⟩
  | .hbm, ⟨24, _⟩ => ⟨S1x8192x1, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S1x8192x1, .f32⟩
  | .hbm, ⟨30, _⟩ => ⟨S1x8192x1, .f32⟩
  | .hbm, ⟨31, _⟩ => ⟨S_, .f32⟩
  | .hbm, ⟨32, _⟩ => ⟨S1x8192x1, .f32⟩
  | .hbm, ⟨33, _⟩ => ⟨S1x8192x1, .f32⟩
  | .hbm, ⟨34, _⟩ => ⟨S1x8192x1024, .f32⟩
  | .hbm, ⟨35, _⟩ => ⟨S1x8192x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S1024x1440, .f32⟩
  | .hbm, ⟨40, _⟩ => ⟨S1x8192x1440, .f32⟩
  | .hbm, ⟨41, _⟩ => ⟨S1x8192x1440, .f32⟩
  | .hbm, ⟨42, _⟩ => ⟨S1x8192x1024, .f32⟩
  | .hbm, ⟨43, _⟩ => ⟨S1x8192x1024, .f32⟩
  | .hbm, ⟨44, _⟩ => ⟨S_, .f32⟩
  | .hbm, ⟨45, _⟩ => ⟨S1x1024, .f32⟩
  | .hbm, ⟨46, _⟩ => ⟨S1x1x1024, .f32⟩
  | .hbm, ⟨47, _⟩ => ⟨S1x8192x1024, .f32⟩
  | .hbm, ⟨48, _⟩ => ⟨S1x8192x1024, .f32⟩
  | .hbm, ⟨49, _⟩ => ⟨S_, .f32⟩
  | .hbm, ⟨50, _⟩ => ⟨S1024, .f32⟩
  | .hbm, ⟨51, _⟩ => ⟨S1x8192x1024, .f32⟩
  | .hbm, ⟨52, _⟩ => ⟨S_, .f32⟩
  | .hbm, ⟨53, _⟩ => ⟨S1x8192, .f32⟩
  | .hbm, ⟨54, _⟩ => ⟨S1x8192x1, .f32⟩
  | .hbm, ⟨55, _⟩ => ⟨S1x8192x1024, .f32⟩
  | .hbm, ⟨56, _⟩ => ⟨S1x8192x1024, .f32⟩
  | .hbm, ⟨57, _⟩ => ⟨S1x8192x1, .f32⟩
  | .hbm, ⟨58, _⟩ => ⟨S_, .f32⟩
  | .hbm, ⟨59, _⟩ => ⟨S1x8192x1, .f32⟩
  | .hbm, ⟨60, _⟩ => ⟨S1x8192x1, .f32⟩
  | .hbm, ⟨61, _⟩ => ⟨S_, .f32⟩
  | .hbm, ⟨62, _⟩ => ⟨S8192, .f32⟩
  | .hbm, ⟨63, _⟩ => ⟨S1x8192, .f32⟩
  | .hbm, ⟨64, _⟩ => ⟨S1x8192x1024, .f32⟩
  | .hbm, ⟨65, _⟩ => ⟨S1x8192x1024, .f32⟩
  | .hbm, ⟨66, _⟩ => ⟨S1x8192x1024, .f32⟩
  | .hbm, ⟨67, _⟩ => ⟨S1x8192x1024, .f32⟩
  | .hbm, ⟨68, _⟩ => ⟨S1x8192x1024, .f32⟩
  | .hbm, ⟨69, _⟩ => ⟨S8192x1408, .f32⟩
  | .hbm, ⟨70, _⟩ => ⟨S_, .f32⟩
  | .hbm, ⟨71, _⟩ => ⟨S8192x32, .f32⟩
  | .hbm, ⟨72, _⟩ => ⟨S8192x16, .f32⟩
  | .hbm, ⟨73, _⟩ => ⟨S_, .f32⟩
  | .hbm, ⟨74, _⟩ => ⟨S8192x48, .f32⟩
  | .hbm, ⟨75, _⟩ => ⟨S8192x16, .f32⟩
  | .hbm, ⟨76, _⟩ => ⟨S_, .f32⟩
  | .hbm, ⟨77, _⟩ => ⟨S8192x16, .f32⟩
  | .hbm, ⟨78, _⟩ => ⟨S8192x1536, .f32⟩
  | .hbm, ⟨79, _⟩ => ⟨S1x8192x1024, .f32⟩
  | .hbm, ⟨80, _⟩ => ⟨S8192x1024, .f32⟩
  | .hbm, ⟨81, _⟩ => ⟨S8192x1536, .bf16⟩
  | .hbm, ⟨82, _⟩ => ⟨S1x1024, .f32⟩
  | .hbm, ⟨83, _⟩ => ⟨S_, .f32⟩
  | .hbm, ⟨84, _⟩ => ⟨S7x1024, .f32⟩
  | .hbm, ⟨85, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== MemKv.lean ====
abbrev S1x256x1024 : Shape := ⟨3, ![1, 256, 1024]⟩
abbrev S1x1024 : Shape := ⟨2, ![1, 1024]⟩
abbrev S1x1024x1024 : Shape := ⟨3, ![1, 1024, 1024]⟩
abbrev S1x128 : Shape := ⟨2, ![1, 128]⟩
abbrev S1x256x4x128 : Shape := ⟨4, ![1, 256, 4, 128]⟩
abbrev S256x1024 : Shape := ⟨2, ![256, 1024]⟩
abbrev S1024 : Shape := ⟨1, ![1024]⟩
abbrev S1024x1024 : Shape := ⟨2, ![1024, 1024]⟩
abbrev S128 : Shape := ⟨1, ![128]⟩
abbrev S256x4x128 : Shape := ⟨3, ![256, 4, 128]⟩
abbrev S256x512 : Shape := ⟨2, ![256, 512]⟩
abbrev S8x1024 : Shape := ⟨2, ![8, 1024]⟩
abbrev S8x128 : Shape := ⟨2, ![8, 128]⟩
abbrev S256 : Shape := ⟨1, ![256]⟩
abbrev S256x1 : Shape := ⟨2, ![256, 1]⟩
abbrev S256x128 : Shape := ⟨2, ![256, 128]⟩

abbrev nBuf : Space → Nat
  | .hbm => 21
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1x256x4x128, .f32⟩
  | .hbm, ⟨5, _⟩ => ⟨S1x256x4x128, .f32⟩
  | .hbm, ⟨6, _⟩ => ⟨S256x1024, .f32⟩
  | .hbm, ⟨7, _⟩ => ⟨S1024, .f32⟩
  | .hbm, ⟨8, _⟩ => ⟨S1x1024, .f32⟩
  | .hbm, ⟨9, _⟩ => ⟨S1024x1024, .f32⟩
  | .hbm, ⟨10, _⟩ => ⟨S1024x1024, .bf16⟩
  | .hbm, ⟨11, _⟩ => ⟨S128, .f32⟩
  | .hbm, ⟨12, _⟩ => ⟨S1x128, .f32⟩
  | .hbm, ⟨13, _⟩ => ⟨S256x4x128, .f32⟩
  | .hbm, ⟨14, _⟩ => ⟨S256x512, .f32⟩
  | .hbm, ⟨15, _⟩ => ⟨S256x4x128, .f32⟩
  | .hbm, ⟨16, _⟩ => ⟨S256x512, .f32⟩
  | .hbm, ⟨17, _⟩ => ⟨S1024x1024, .f32⟩
  | .hbm, ⟨18, _⟩ => ⟨S8x1024, .f32⟩
  | .hbm, ⟨19, _⟩ => ⟨S8x128, .f32⟩
  | .hbm, ⟨20, _⟩ => ⟨S256x1024, .bf16⟩
  | .local _ .vmem, ⟨0, _⟩ => ⟨S256x1024, .f32⟩
  | .local _ .vmem, ⟨1, _⟩ => ⟨S256x512, .f32⟩
  | .local _ .vmem, ⟨2, _⟩ => ⟨S256x512, .f32⟩
  | .local _ .vmem, ⟨3, _⟩ => ⟨S1x1024, .f32⟩
  | .local _ .vmem, ⟨4, _⟩ => ⟨S1024x1024, .bf16⟩
  | .local _ .vmem, ⟨5, _⟩ => ⟨S1x128, .f32⟩
  | .local _ .vmem, ⟨6, _⟩ => ⟨S1024x1024, .f32⟩
  | .local _ .vmem, ⟨7, _⟩ => ⟨S8x1024, .f32⟩
  | .local _ .vmem, ⟨8, _⟩ => ⟨S8x128, .f32⟩
  | .local _ .vmem, ⟨9, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MemKvRefIdeal.lean ====
abbrev S1x256x1024 : Shape := ⟨3, ![1, 256, 1024]⟩
abbrev S1x1024 : Shape := ⟨2, ![1, 1024]⟩
abbrev S1x1024x1024 : Shape := ⟨3, ![1, 1024, 1024]⟩
abbrev S1x128 : Shape := ⟨2, ![1, 128]⟩
abbrev S1x256x4x128 : Shape := ⟨4, ![1, 256, 4, 128]⟩
abbrev S1024 : Shape := ⟨1, ![1024]⟩
abbrev S1024x1024 : Shape := ⟨2, ![1024, 1024]⟩
abbrev S128 : Shape := ⟨1, ![128]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S256x512 : Shape := ⟨2, ![256, 512]⟩
abbrev S256x4x128 : Shape := ⟨3, ![256, 4, 128]⟩
abbrev S256x4 : Shape := ⟨2, ![256, 4]⟩
abbrev S256x4x1 : Shape := ⟨3, ![256, 4, 1]⟩
abbrev S1x1x128 : Shape := ⟨3, ![1, 1, 128]⟩
abbrev S7x1024 : Shape := ⟨2, ![7, 1024]⟩
abbrev S8x1024 : Shape := ⟨2, ![8, 1024]⟩
abbrev S7x128 : Shape := ⟨2, ![7, 128]⟩
abbrev S8x128 : Shape := ⟨2, ![8, 128]⟩

abbrev nBuf : Space → Nat
  | .hbm => 102
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1x256x4x128, .f32⟩
  | .hbm, ⟨5, _⟩ => ⟨S1x256x4x128, .f32⟩
  | .hbm, ⟨6, _⟩ => ⟨S1024, .f32⟩
  | .hbm, ⟨7, _⟩ => ⟨S1024x1024, .f32⟩
  | .hbm, ⟨8, _⟩ => ⟨S128, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x512, .f32⟩
  | .hbm, ⟨28, _⟩ => ⟨S256x512, .f32⟩
  | .hbm, ⟨29, _⟩ => ⟨S256x4x128, .f32⟩
  | .hbm, ⟨30, _⟩ => ⟨S256x4x128, .f32⟩
  | .hbm, ⟨31, _⟩ => ⟨S_, .f32⟩
  | .hbm, ⟨32, _⟩ => ⟨S256x4, .f32⟩
  | .hbm, ⟨33, _⟩ => ⟨S256x4x1, .f32⟩
  | .hbm, ⟨34, _⟩ => ⟨S_, .f32⟩
  | .hbm, ⟨35, _⟩ => ⟨S256x4x1, .f32⟩
  | .hbm, ⟨36, _⟩ => ⟨S256x4x1, .f32⟩
  | .hbm, ⟨37, _⟩ => ⟨S_, .f32⟩
  | .hbm, ⟨38, _⟩ => ⟨S256x4x1, .f32⟩
  | .hbm, ⟨39, _⟩ => ⟨S256x4x1, .f32⟩
  | .hbm, ⟨40, _⟩ => ⟨S256x4x1, .f32⟩
  | .hbm, ⟨41, _⟩ => ⟨S256x4x1, .f32⟩
  | .hbm, ⟨42, _⟩ => ⟨S_, .f32⟩
  | .hbm, ⟨43, _⟩ => ⟨S256x4x1, .f32⟩
  | .hbm, ⟨44, _⟩ => ⟨S256x4x1, .f32⟩
  | .hbm, ⟨45, _⟩ => ⟨S256x4x128, .f32⟩
  | .hbm, ⟨46, _⟩ => ⟨S256x4x128, .f32⟩
  | .hbm, ⟨47, _⟩ => ⟨S1x1x128, .f32⟩
  | .hbm, ⟨48, _⟩ => ⟨S256x4x128, .f32⟩
  | .hbm, ⟨49, _⟩ => ⟨S256x4x128, .f32⟩
  | .hbm, ⟨50, _⟩ => ⟨S256x4x128, .f32⟩
  | .hbm, ⟨51, _⟩ => ⟨S256x4x128, .f32⟩
  | .hbm, ⟨52, _⟩ => ⟨S256x4x128, .f32⟩
  | .hbm, ⟨53, _⟩ => ⟨S256x512, .f32⟩
  | .hbm, ⟨54, _⟩ => ⟨S256x4x128, .f32⟩
  | .hbm, ⟨55, _⟩ => ⟨S_, .f32⟩
  | .hbm, ⟨56, _⟩ => ⟨S128, .f32⟩
  | .hbm, ⟨57, _⟩ => ⟨S1x1x128, .f32⟩
  | .hbm, ⟨58, _⟩ => ⟨S256x4x128, .f32⟩
  | .hbm, ⟨59, _⟩ => ⟨S256x4x128, .f32⟩
  | .hbm, ⟨60, _⟩ => ⟨S_, .f32⟩
  | .hbm, ⟨61, _⟩ => ⟨S128, .f32⟩
  | .hbm, ⟨62, _⟩ => ⟨S256x4x128, .f32⟩
  | .hbm, ⟨63, _⟩ => ⟨S_, .f32⟩
  | .hbm, ⟨64, _⟩ => ⟨S256x4, .f32⟩
  | .hbm, ⟨65, _⟩ => ⟨S256x4x1, .f32⟩
  | .hbm, ⟨66, _⟩ => ⟨S256x4x128, .f32⟩
  | .hbm, ⟨67, _⟩ => ⟨S256x4x128, .f32⟩
  | .hbm, ⟨68, _⟩ => ⟨S256x4x1, .f32⟩
  | .hbm, ⟨69, _⟩ => ⟨S_, .f32⟩
  | .hbm, ⟨70, _⟩ => ⟨S256x4x1, .f32⟩
  | .hbm, ⟨71, _⟩ => ⟨S256x4x1, .f32⟩
  | .hbm, ⟨72, _⟩ => ⟨S_, .f32⟩
  | .hbm, ⟨73, _⟩ => ⟨S256x4, .f32⟩
  | .hbm, ⟨74, _⟩ => ⟨S256x4x128, .f32⟩
  | .hbm, ⟨75, _⟩ => ⟨S256x4x128, .f32⟩
  | .hbm, ⟨76, _⟩ => ⟨S256x4x128, .f32⟩
  | .hbm, ⟨77, _⟩ => ⟨S256x4x128, .f32⟩
  | .hbm, ⟨78, _⟩ => ⟨S256x4x128, .f32⟩
  | .hbm, ⟨79, _⟩ => ⟨S256x512, .f32⟩
  | .hbm, ⟨80, _⟩ => ⟨S_, .f32⟩
  | .hbm, ⟨81, _⟩ => ⟨S256x1024, .f32⟩
  | .hbm, ⟨82, _⟩ => ⟨S_, .f32⟩
  | .hbm, ⟨83, _⟩ => ⟨S256x1024, .f32⟩
  | .hbm, ⟨84, _⟩ => ⟨S256x1024, .f32⟩
  | .hbm, ⟨85, _⟩ => ⟨S1024x1024, .f32⟩
  | .hbm, ⟨86, _⟩ => ⟨S1024x1024, .f32⟩
  | .hbm, ⟨87, _⟩ => ⟨S256x1024, .f32⟩
  | .hbm, ⟨88, _⟩ => ⟨S256x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S_, .f32⟩
  | .hbm, ⟨96, _⟩ => ⟨S7x1024, .f32⟩
  | .hbm, ⟨97, _⟩ => ⟨S8x1024, .f32⟩
  | .hbm, ⟨98, _⟩ => ⟨S1x128, .f32⟩
  | .hbm, ⟨99, _⟩ => ⟨S_, .f32⟩
  | .hbm, ⟨100, _⟩ => ⟨S7x128, .f32⟩
  | .hbm, ⟨101, _⟩ => ⟨S8x128, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== MixOut.lean ====
abbrev S1x8192x512 : Shape := ⟨3, ![1, 8192, 512]⟩
abbrev S1x512 : Shape := ⟨2, ![1, 512]⟩
abbrev S1x1024x1024 : Shape := ⟨3, ![1, 1024, 1024]⟩
abbrev S1x8192x1024 : Shape := ⟨3, ![1, 8192, 1024]⟩
abbrev S8192x1024 : Shape := ⟨2, ![8192, 1024]⟩
abbrev S8192x512 : Shape := ⟨2, ![8192, 512]⟩
abbrev S512 : Shape := ⟨1, ![512]⟩
abbrev S1024x1024 : Shape := ⟨2, ![1024, 1024]⟩
abbrev S8192x128 : Shape := ⟨2, ![8192, 128]⟩
abbrev S8x512 : Shape := ⟨2, ![8, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 26
  | .vmem => 23
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x8192x512, .f32⟩
  | .hbm, ⟨3, _⟩ => ⟨S1x8192x512, .f32⟩
  | .hbm, ⟨4, _⟩ => ⟨S1x512, .f32⟩
  | .hbm, ⟨5, _⟩ => ⟨S1x512, .f32⟩
  | .hbm, ⟨6, _⟩ => ⟨S1x1024x1024, .f32⟩
  | .hbm, ⟨7, _⟩ => ⟨S1x8192x1024, .f32⟩
  | .hbm, ⟨8, _⟩ => ⟨S8192x1024, .f32⟩
  | .hbm, ⟨9, _⟩ => ⟨S8192x1024, .bf16⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S1024x1024, .f32⟩
  | .hbm, ⟨19, _⟩ => ⟨S1024x1024, .bf16⟩
  | .hbm, ⟨20, _⟩ => ⟨S8192x512, .f32⟩
  | .hbm, ⟨21, _⟩ => ⟨S8192x512, .bf16⟩
  | .hbm, ⟨22, _⟩ => ⟨S8192x512, .bf16⟩
  | .hbm, ⟨23, _⟩ => ⟨S8192x128, .f32⟩
  | .hbm, ⟨24, _⟩ => ⟨S8x512, .f32⟩
  | .hbm, ⟨25, _⟩ => ⟨S8x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x128, .f32⟩
  | .local _ .vmem, ⟨20, _⟩ => ⟨S1024x128, .f32⟩
  | .local _ .vmem, ⟨21, _⟩ => ⟨S8x512, .f32⟩
  | .local _ .vmem, ⟨22, _⟩ => ⟨S8x512, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixOutIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== MixOutRefIdeal.lean ====
abbrev S1x8192x512 : Shape := ⟨3, ![1, 8192, 512]⟩
abbrev S1x512 : Shape := ⟨2, ![1, 512]⟩
abbrev S1x1024x1024 : Shape := ⟨3, ![1, 1024, 1024]⟩
abbrev S1x8192x1024 : Shape := ⟨3, ![1, 8192, 1024]⟩
abbrev S512 : Shape := ⟨1, ![512]⟩
abbrev S_ : Shape := ⟨0, ![]⟩
abbrev S1x8192 : Shape := ⟨2, ![1, 8192]⟩
abbrev S1x8192x1 : Shape := ⟨3, ![1, 8192, 1]⟩
abbrev S1x1x512 : Shape := ⟨3, ![1, 1, 512]⟩
abbrev S1024x1024 : Shape := ⟨2, ![1024, 1024]⟩
abbrev S8192 : Shape := ⟨1, ![8192]⟩
abbrev S8192x8x64 : Shape := ⟨3, ![8192, 8, 64]⟩
abbrev S8192x8 : Shape := ⟨2, ![8192, 8]⟩
abbrev S8192x512 : Shape := ⟨2, ![8192, 512]⟩
abbrev S8192x120 : Shape := ⟨2, ![8192, 120]⟩
abbrev S8192x128 : Shape := ⟨2, ![8192, 128]⟩
abbrev S7x512 : Shape := ⟨2, ![7, 512]⟩
abbrev S8x512 : Shape := ⟨2, ![8, 512]⟩

abbrev nBuf : Space → Nat
  | .hbm => 176
  | .vmem => 0
  | .smem => 0
  | _ => 0

abbrev hbmTy0_0 (i : Nat) : BufTy := match i % 128 with
  | 0 => ⟨S1x8192x512, .f32⟩
  | 1 => ⟨S1x8192x512, .f32⟩
  | 2 => ⟨S1x8192x512, .f32⟩
  | 3 => ⟨S1x8192x512, .f32⟩
  | 4 => ⟨S1x512, .f32⟩
  | 5 => ⟨S1x512, .f32⟩
  | 6 => ⟨S1x1024x1024, .f32⟩
  | 7 => ⟨S1x8192x1024, .f32⟩
  | 8 => ⟨S1x8192x512, .f32⟩
  | 9 => ⟨S512, .f32⟩
  | 10 => ⟨S512, .f32⟩
  | 11 => ⟨S_, .f32⟩
  | 12 => ⟨S_, .f32⟩
  | 13 => ⟨S_, .f32⟩
  | 14 => ⟨S1x8192x512, .f32⟩
  | 15 => ⟨S1x8192x512, .f32⟩
  | 16 => ⟨S1x8192x512, .f32⟩
  | 17 => ⟨S_, .f32⟩
  | 18 => ⟨S1x8192x512, .f32⟩
  | 19 => ⟨S1x8192x512, .f32⟩
  | 20 => ⟨S1x8192x512, .f32⟩
  | 21 => ⟨S1x8192x512, .f32⟩
  | 22 => ⟨S1x8192x512, .f32⟩
  | 23 => ⟨S_, .f32⟩
  | 24 => ⟨S1x8192x512, .f32⟩
  | 25 => ⟨S1x8192x512, .f32⟩
  | 26 => ⟨S1x8192x512, .f32⟩
  | 27 => ⟨S_, .f32⟩
  | 28 => ⟨S1x8192x512, .f32⟩
  | 29 => ⟨S1x8192x512, .f32⟩
  | 30 => ⟨S_, .f32⟩
  | 31 => ⟨S1x8192x512, .f32⟩
  | 32 => ⟨S1x8192x512, .f32⟩
  | 33 => ⟨S1x8192x512, .f32⟩
  | 34 => ⟨S_, .f32⟩
  | 35 => ⟨S1x8192x512, .f32⟩
  | 36 => ⟨S1x8192x512, .f32⟩
  | 37 => ⟨S_, .f32⟩
  | 38 => ⟨S1x8192x512, .f32⟩
  | 39 => ⟨S1x8192x512, .f32⟩
  | 40 => ⟨S1x8192x512, .f32⟩
  | 41 => ⟨S1x8192x512, .f32⟩
  | 42 => ⟨S1x8192x512, .f32⟩
  | 43 => ⟨S_, .f32⟩
  | 44 => ⟨S1x8192, .f32⟩
  | 45 => ⟨S1x8192x1, .f32⟩
  | 46 => ⟨S_, .f32⟩
  | 47 => ⟨S1x8192x1, .f32⟩
  | 48 => ⟨S1x8192x1, .f32⟩
  | 49 => ⟨S_, .f32⟩
  | 50 => ⟨S1x8192x1, .f32⟩
  | 51 => ⟨S1x8192x1, .f32⟩
  | 52 => ⟨S1x8192x1, .f32⟩
  | 53 => ⟨S1x8192x1, .f32⟩
  | 54 => ⟨S_, .f32⟩
  | 55 => ⟨S1x8192x1, .f32⟩
  | 56 => ⟨S1x8192x1, .f32⟩
  | 57 => ⟨S1x8192x512, .f32⟩
  | 58 => ⟨S1x8192x512, .f32⟩
  | 59 => ⟨S1x1x512, .f32⟩
  | 60 => ⟨S1x8192x512, .f32⟩
  | 61 => ⟨S1x8192x512, .f32⟩
  | 62 => ⟨S1x8192x512, .f32⟩
  | 63 => ⟨S_, .f32⟩
  | 64 => ⟨S1x8192, .f32⟩
  | 65 => ⟨S1x8192x1, .f32⟩
  | 66 => ⟨S_, .f32⟩
  | 67 => ⟨S1x8192x1, .f32⟩
  | 68 => ⟨S1x8192x1, .f32⟩
  | 69 => ⟨S_, .f32⟩
  | 70 => ⟨S1x8192x1, .f32⟩
  | 71 => ⟨S1x8192x1, .f32⟩
  | 72 => ⟨S1x8192x1, .f32⟩
  | 73 => ⟨S1x8192x1, .f32⟩
  | 74 => ⟨S_, .f32⟩
  | 75 => ⟨S1x8192x1, .f32⟩
  | 76 => ⟨S1x8192x1, .f32⟩
  | 77 => ⟨S1x8192x512, .f32⟩
  | 78 => ⟨S1x8192x512, .f32⟩
  | 79 => ⟨S1x1x512, .f32⟩
  | 80 => ⟨S1x8192x512, .f32⟩
  | 81 => ⟨S1x8192x512, .f32⟩
  | 82 => ⟨S1x8192x1024, .f32⟩
  | 83 => ⟨S1024x1024, .f32⟩
  | 84 => ⟨S1x8192x1024, .f32⟩
  | 85 => ⟨S1x8192x1024, .f32⟩
  | 86 => ⟨S1x8192x512, .f32⟩
  | 87 => ⟨S1x8192x512, .f32⟩
  | 88 => ⟨S1x8192x512, .f32⟩
  | 89 => ⟨S_, .f32⟩
  | 90 => ⟨S1x512, .f32⟩
  | 91 => ⟨S1x1x512, .f32⟩
  | 92 => ⟨S1x8192x512, .f32⟩
  | 93 => ⟨S1x8192x512, .f32⟩
  | 94 => ⟨S_, .f32⟩
  | 95 => ⟨S512, .f32⟩
  | 96 => ⟨S1x8192x512, .f32⟩
  | 97 => ⟨S_, .f32⟩
  | 98 => ⟨S1x8192, .f32⟩
  | 99 => ⟨S1x8192x1, .f32⟩
  | 100 => ⟨S1x8192x512, .f32⟩
  | 101 => ⟨S1x8192x512, .f32⟩
  | 102 => ⟨S1x8192x1, .f32⟩
  | 103 => ⟨S_, .f32⟩
  | 104 => ⟨S1x8192x1, .f32⟩
  | 105 => ⟨S1x8192x1, .f32⟩
  | 106 => ⟨S_, .f32⟩
  | 107 => ⟨S8192, .f32⟩
  | 108 => ⟨S1x8192, .f32⟩
  | 109 => ⟨S1x8192x512, .f32⟩
  | 110 => ⟨S1x8192x512, .f32⟩
  | 111 => ⟨S1x8192x512, .f32⟩
  | 112 => ⟨S1x8192x512, .f32⟩
  | 113 => ⟨S1x8192x512, .f32⟩
  | 114 => ⟨S1x8192x512, .f32⟩
  | 115 => ⟨S_, .f32⟩
  | 116 => ⟨S1x512, .f32⟩
  | 117 => ⟨S1x1x512, .f32⟩
  | 118 => ⟨S1x8192x512, .f32⟩
  | 119 => ⟨S1x8192x512, .f32⟩
  | 120 => ⟨S_, .f32⟩
  | 121 => ⟨S512, .f32⟩
  | 122 => ⟨S1x8192x512, .f32⟩
  | 123 => ⟨S_, .f32⟩
  | 124 => ⟨S1x8192, .f32⟩
  | 125 => ⟨S1x8192x1, .f32⟩
  | 126 => ⟨S1x8192x512, .f32⟩
  | 127 => ⟨S1x8192x512, .f32⟩
  | _ => ⟨S1x8192x512, .f32⟩

abbrev hbmTy0_1 (i : Nat) : BufTy := match i % 128 with
  | 0 => ⟨S1x8192x1, .f32⟩
  | 1 => ⟨S_, .f32⟩
  | 2 => ⟨S1x8192x1, .f32⟩
  | 3 => ⟨S1x8192x1, .f32⟩
  | 4 => ⟨S_, .f32⟩
  | 5 => ⟨S8192, .f32⟩
  | 6 => ⟨S1x8192, .f32⟩
  | 7 => ⟨S1x8192x512, .f32⟩
  | 8 => ⟨S1x8192x512, .f32⟩
  | 9 => ⟨S1x8192x512, .f32⟩
  | 10 => ⟨S1x8192x512, .f32⟩
  | 11 => ⟨S1x8192x512, .f32⟩
  | 12 => ⟨S1x8192x512, .f32⟩
  | 13 => ⟨S1x8192x512, .f32⟩
  | 14 => ⟨S1x8192x512, .f32⟩
  | 15 => ⟨S1x8192x512, .f32⟩
  | 16 => ⟨S_, .f32⟩
  | 17 => ⟨S1x8192x512, .f32⟩
  | 18 => ⟨S1x8192x512, .f32⟩
  | 19 => ⟨S1x8192x512, .f32⟩
  | 20 => ⟨S_, .f32⟩
  | 21 => ⟨S1x8192x512, .f32⟩
  | 22 => ⟨S1x8192x512, .f32⟩
  | 23 => ⟨S1x8192x512, .f32⟩
  | 24 => ⟨S1x8192x512, .f32⟩
  | 25 => ⟨S1x8192x512, .f32⟩
  | 26 => ⟨S1x8192x512, .f32⟩
  | 27 => ⟨S1x8192x512, .f32⟩
  | 28 => ⟨S1x8192x512, .f32⟩
  | 29 => ⟨S8192x8x64, .f32⟩
  | 30 => ⟨S_, .f32⟩
  | 31 => ⟨S8192x8, .f32⟩
  | 32 => ⟨S8192x512, .f32⟩
  | 33 => ⟨S8192x512, .f32⟩
  | 34 => ⟨S8192x512, .bf16⟩
  | 35 => ⟨S8192x512, .f32⟩
  | 36 => ⟨S8192x512, .bf16⟩
  | 37 => ⟨S_, .f32⟩
  | 38 => ⟨S8192x120, .f32⟩
  | 39 => ⟨S8192x128, .f32⟩
  | 40 => ⟨S1x512, .f32⟩
  | 41 => ⟨S_, .f32⟩
  | 42 => ⟨S7x512, .f32⟩
  | 43 => ⟨S8x512, .f32⟩
  | 44 => ⟨S1x512, .f32⟩
  | 45 => ⟨S_, .f32⟩
  | 46 => ⟨S7x512, .f32⟩
  | 47 => ⟨S8x512, .f32⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_16 : Ref sig .tc := ⟨.hbm, 94, rfl⟩
abbrev main_v69 : Ref sig .tc := ⟨.hbm, 95, rfl⟩
abbrev main_v70 : Ref sig .tc := ⟨.hbm, 96, rfl⟩
abbrev main_cst_17 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_18 : Ref sig .tc := ⟨.hbm, 103, rfl⟩
abbrev main_v76 : Ref sig .tc := ⟨.hbm, 104, rfl⟩
abbrev main_v77 : Ref sig .tc := ⟨.hbm, 105, rfl⟩
abbrev main_cst_19 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_20 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_21 : Ref sig .tc := ⟨.hbm, 120, rfl⟩
abbrev main_v90 : Ref sig .tc := ⟨.hbm, 121, rfl⟩
abbrev main_v91 : Ref sig .tc := ⟨.hbm, 122, rfl⟩
abbrev main_cst_22 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_23 : Ref sig .tc := ⟨.hbm, 129, rfl⟩
abbrev main_v97 : Ref sig .tc := ⟨.hbm, 130, rfl⟩
abbrev main_v98 : Ref sig .tc := ⟨.hbm, 131, rfl⟩
abbrev main_cst_24 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_25 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_26 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_27 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_28 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_29 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_30 : Ref sig .tc := ⟨.hbm, 173, rfl⟩
abbrev main_v134 : Ref sig .tc := ⟨.hbm, 174, rfl⟩
abbrev main_v135 : Ref sig .tc := ⟨.hbm, 175, rfl⟩

abbrev nD : Nat := 1
abbrev τ : Topo := Topo.v7x

variable {F : FTy → Type} [FloatOps F]
-- ==== FfnLoss.lean ====
abbrev S1x8192x5632 : Shape := ⟨3, ![1, 8192, 5632]⟩
abbrev S1x8192x1024 : Shape := ⟨3, ![1, 8192, 1024]⟩
abbrev S1x3x5632 : Shape := ⟨3, ![1, 3, 5632]⟩
abbrev S1x5632 : Shape := ⟨2, ![1, 5632]⟩
abbrev S1x2816x1024 : Shape := ⟨3, ![1, 2816, 1024]⟩
abbrev S3x5632 : Shape := ⟨2, ![3, 5632]⟩
abbrev S5632 : Shape := ⟨1, ![5632]⟩
abbrev S4x5632 : Shape := ⟨2, ![4, 5632]⟩
abbrev S_ : Shape := ⟨0, ![]⟩
abbrev S8x5632 : Shape := ⟨2, ![8, 5632]⟩
abbrev S8192x5632 : Shape := ⟨2, ![8192, 5632]⟩
abbrev S8192x1024 : Shape := ⟨2, ![8192, 1024]⟩
abbrev S2816x1024 : Shape := ⟨2, ![2816, 1024]⟩
abbrev S8192x2816 : Shape := ⟨2, ![8192, 2816]⟩
abbrev S8x128 : Shape := ⟨2, ![8, 128]⟩
abbrev S256x5632 : Shape := ⟨2, ![256, 5632]⟩
abbrev S256x1024 : Shape := ⟨2, ![256, 1024]⟩
abbrev S256x2816 : Shape := ⟨2, ![256, 2816]⟩
abbrev S248x5632 : Shape := ⟨2, ![248, 5632]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 23
  | .vmem => 21
  | .smem => 0
  | _ => 0

abbrev bufTy : (tb : Table) → Fin (tcTables nBuf tb) → BufTy
  | .hbm, ⟨0, _⟩ => ⟨S1x8192x5632, .f32⟩
  | .hbm, ⟨1, _⟩ => ⟨S1x8192x1024, .f32⟩
  | .hbm, ⟨2, _⟩ => ⟨S1x8192x1024, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S3x5632, .f32⟩
  | .hbm, ⟨7, _⟩ => ⟨S5632, .f32⟩
  | .hbm, ⟨8, _⟩ => ⟨S1x5632, .f32⟩
  | .hbm, ⟨9, _⟩ => ⟨S4x5632, .f32⟩
  | .hbm, ⟨10, _⟩ => ⟨S_, .i32⟩
  | .hbm, ⟨11, _⟩ => ⟨S_, .f32⟩
  | .hbm, ⟨12, _⟩ => ⟨S8x5632, .f32⟩
  | .hbm, ⟨13, _⟩ => ⟨S8192x5632, .f32⟩
  | .hbm, ⟨14, _⟩ => ⟨S8192x1024, .f32⟩
  | .hbm, ⟨15, _⟩ => ⟨S8192x1024, .f32⟩
  | .hbm, ⟨16, _⟩ => ⟨S2816x1024, .f32⟩
  | .hbm, ⟨17, _⟩ => ⟨S2816x1024, .bf16⟩
  | .hbm, ⟨18, _⟩ => ⟨S8192x1024, .f32⟩
  | .hbm, ⟨19, _⟩ => ⟨S8192x1024, .bf16⟩
  | .hbm, ⟨20, _⟩ => ⟨S8192x2816, .bf16⟩
  | .hbm, ⟨21, _⟩ => ⟨S8192x5632, .bf16⟩
  | .hbm, ⟨22, _⟩ => ⟨S8x128, .f32⟩
  | .local _ .vmem, ⟨0, _⟩ => ⟨S256x5632, .f32⟩
  | .local _ .vmem, ⟨1, _⟩ => ⟨S256x5632, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x5632, .f32⟩
  | .local _ .vmem, ⟨7, _⟩ => ⟨S8x5632, .f32⟩
  | .local _ .vmem, ⟨8, _⟩ => ⟨S8x5632, .f32⟩
  | .local _ .vmem, ⟨9, _⟩ => ⟨S8x5632, .f32⟩
  | .local _ .vmem, ⟨10, _⟩ => ⟨S8x5632, .f32⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S256x5632, .bf16⟩
  | .local _ .vmem, ⟨19, _⟩ => ⟨S256x5632, .bf16⟩
  | .local _ .vmem, ⟨20, _⟩ => ⟨S8x128, .f32⟩
  | _, _ => ⟨S1x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnLossRefIdeal.lean ====
abbrev S1x8192x5632 : Shape := ⟨3, ![1, 8192, 5632]⟩
abbrev S1x8192x1024 : Shape := ⟨3, ![1, 8192, 1024]⟩
abbrev S1x3x5632 : Shape := ⟨3, ![1, 3, 5632]⟩
abbrev S1x5632 : Shape := ⟨2, ![1, 5632]⟩
abbrev S1x2816x1024 : Shape := ⟨3, ![1, 2816, 1024]⟩
abbrev S3x5632 : Shape := ⟨2, ![3, 5632]⟩
abbrev S5632 : Shape := ⟨1, ![5632]⟩
abbrev S_ : Shape := ⟨0, ![]⟩
abbrev S1x1x5632 : Shape := ⟨3, ![1, 1, 5632]⟩
abbrev S1x8194x5632 : Shape := ⟨3, ![1, 8194, 5632]⟩
abbrev S1x8192x2816 : Shape := ⟨3, ![1, 8192, 2816]⟩
abbrev S2816x1024 : Shape := ⟨2, ![2816, 1024]⟩
abbrev S1x8192 : Shape := ⟨2, ![1, 8192]⟩
abbrev S8192x1024 : Shape := ⟨2, ![8192, 1024]⟩
abbrev S8192x2816 : Shape := ⟨2, ![8192, 2816]⟩
abbrev S8192x5632 : Shape := ⟨2, ![8192, 5632]⟩
abbrev S8x128 : Shape := ⟨2, ![8, 128]⟩

abbrev nBuf : Space → Nat
  | .hbm => 105
  | .vmem => 0
  | .smem => 0
  | _ => 0

abbrev bufTy : (tb : Table) → Fin (tcTables nBuf tb) → BufTy
  | .hbm, ⟨0, _⟩ => ⟨S1x8192x5632, .f32⟩
  | .hbm, ⟨1, _⟩ => ⟨S1x8192x1024, .f32⟩
  | .hbm, ⟨2, _⟩ => ⟨S1x8192x1024, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S3x5632, .f32⟩
  | .hbm, ⟨7, _⟩ => ⟨S5632, .f32⟩
  | .hbm, ⟨8, _⟩ => ⟨S_, .f32⟩
  | .hbm, ⟨9, _⟩ => ⟨S1x1x5632, .f32⟩
  | .hbm, ⟨10, _⟩ => ⟨S_, .f32⟩
  | .hbm, ⟨11, _⟩ => ⟨S1x1x5632, .f32⟩
  | .hbm, ⟨12, _⟩ => ⟨S1x8194x5632, .f32⟩
  | .hbm, ⟨13, _⟩ => ⟨S1x8192x5632, .f32⟩
  | .hbm, ⟨14, _⟩ => ⟨S1x5632, .f32⟩
  | .hbm, ⟨15, _⟩ => ⟨S5632, .f32⟩
  | .hbm, ⟨16, _⟩ => ⟨S1x1x5632, .f32⟩
  | .hbm, ⟨17, _⟩ => ⟨S1x8192x5632, .f32⟩
  | .hbm, ⟨18, _⟩ => ⟨S1x8192x5632, .f32⟩
  | .hbm, ⟨19, _⟩ => ⟨S1x1x5632, .f32⟩
  | .hbm, ⟨20, _⟩ => ⟨S1x8192x5632, .f32⟩
  | .hbm, ⟨21, _⟩ => ⟨S1x8192x5632, .f32⟩
  | .hbm, ⟨22, _⟩ => ⟨S1x8192x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S1x8192x5632, .f32⟩
  | .hbm, ⟨27, _⟩ => ⟨S1x8192x5632, .f32⟩
  | .hbm, ⟨28, _⟩ => ⟨S1x8192x5632, .f32⟩
  | .hbm, ⟨29, _⟩ => ⟨S1x8192x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S1x8192x5632, .f32⟩
  | .hbm, ⟨34, _⟩ => ⟨S1x8192x5632, .f32⟩
  | .hbm, ⟨35, _⟩ => ⟨S1x8192x5632, .f32⟩
  | .hbm, ⟨36, _⟩ => ⟨S1x8192x2816, .f32⟩
  | .hbm, ⟨37, _⟩ => ⟨S1x8192x2816, .f32⟩
  | .hbm, ⟨38, _⟩ => ⟨S1x8192x2816, .f32⟩
  | .hbm, ⟨39, _⟩ => ⟨S1x8192x2816, .f32⟩
  | .hbm, ⟨40, _⟩ => ⟨S_, .f32⟩
  | .hbm, ⟨41, _⟩ => ⟨S1x8192x2816, .f32⟩
  | .hbm, ⟨42, _⟩ => ⟨S1x8192x2816, .f32⟩
  | .hbm, ⟨43, _⟩ => ⟨S_, .f32⟩
  | .hbm, ⟨44, _⟩ => ⟨S1x8192x2816, .f32⟩
  | .hbm, ⟨45, _⟩ => ⟨S1x8192x2816, .f32⟩
  | .hbm, ⟨46, _⟩ => ⟨S_, .f32⟩
  | .hbm, ⟨47, _⟩ => ⟨S1x8192x2816, .f32⟩
  | .hbm, ⟨48, _⟩ => ⟨S1x8192x2816, .f32⟩
  | .hbm, ⟨49, _⟩ => ⟨S1x8192x2816, .f32⟩
  | .hbm, ⟨50, _⟩ => ⟨S1x8192x2816, .f32⟩
  | .hbm, ⟨51, _⟩ => ⟨S1x8192x2816, .f32⟩
  | .hbm, ⟨52, _⟩ => ⟨S2816x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x8192x1024, .f32⟩
  | .hbm, ⟨57, _⟩ => ⟨S_, .f32⟩
  | .hbm, ⟨58, _⟩ => ⟨S1x8192x1024, .f32⟩
  | .hbm, ⟨59, _⟩ => ⟨S1x8192x1024, .f32⟩
  | .hbm, ⟨60, _⟩ => ⟨S_, .f32⟩
  | .hbm, ⟨61, _⟩ => ⟨S1x8192, .f32⟩
  | .hbm, ⟨62, _⟩ => ⟨S_, .f32⟩
  | .hbm, ⟨63, _⟩ => ⟨S1x8192, .f32⟩
  | .hbm, ⟨64, _⟩ => ⟨S1x8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1x8192x1024, .f32⟩
  | .hbm, ⟨70, _⟩ => ⟨S1x8192x1024, .f32⟩
  | .hbm, ⟨71, _⟩ => ⟨S_, .f32⟩
  | .hbm, ⟨72, _⟩ => ⟨S1x8192x1024, .f32⟩
  | .hbm, ⟨73, _⟩ => ⟨S1x8192x1024, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S1x8192, .f32⟩
  | .hbm, ⟨80, _⟩ => ⟨S_, .f32⟩
  | .hbm, ⟨81, _⟩ => ⟨S1x8192, .f32⟩
  | .hbm, ⟨82, _⟩ => ⟨S1x8192, .f32⟩
  | .hbm, ⟨83, _⟩ => ⟨S1x8192x1024, .f32⟩
  | .hbm, ⟨84, _⟩ => ⟨S1x8192x1024, .f32⟩
  | .hbm, ⟨85, _⟩ => ⟨S1x8192x2816, .f32⟩
  | .hbm, ⟨86, _⟩ => ⟨S1x8192x2816, .f32⟩
  | .hbm, ⟨87, _⟩ => ⟨S1x8192x2816, .f32⟩
  | .hbm, ⟨88, _⟩ => ⟨S1x8192x2816, .f32⟩
  | .hbm, ⟨89, _⟩ => ⟨S1x8192x2816, .f32⟩
  | .hbm, ⟨90, _⟩ => ⟨S1x8192x2816, .f32⟩
  | .hbm, ⟨91, _⟩ => ⟨S1x8192x2816, .f32⟩
  | .hbm, ⟨92, _⟩ => ⟨S_, .f32⟩
  | .hbm, ⟨93, _⟩ => ⟨S1x8192x5632, .f32⟩
  | .hbm, ⟨94, _⟩ => ⟨S_, .f32⟩
  | .hbm, ⟨95, _⟩ => ⟨S1x8192x5632, .f32⟩
  | .hbm, ⟨96, _⟩ => ⟨S1x8192x5632, .f32⟩
  | .hbm, ⟨97, _⟩ => ⟨S8192x1024, .f32⟩
  | .hbm, ⟨98, _⟩ => ⟨S8192x1024, .f32⟩
  | .hbm, ⟨99, _⟩ => ⟨S8192x1024, .bf16⟩
  | .hbm, ⟨100, _⟩ => ⟨S8192x2816, .f32⟩
  | .hbm, ⟨101, _⟩ => ⟨S8192x2816, .bf16⟩
  | .hbm, ⟨102, _⟩ => ⟨S8192x5632, .f32⟩
  | .hbm, ⟨103, _⟩ => ⟨S8192x5632, .bf16⟩
  | .hbm, ⟨104, _⟩ => ⟨S8x128, .f32⟩
  | _, _ => ⟨S1x8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v30_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v30_1 : Ref sig .tc := ⟨.hbm, 49, rfl⟩
abbrev main_v30_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_1 : Ref sig .tc := ⟨.hbm, 57, rfl⟩
abbrev main_v37 : Ref sig .tc := ⟨.hbm, 58, rfl⟩
abbrev main_v38 : Ref sig .tc := ⟨.hbm, 59, rfl⟩
abbrev main_cst_2 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_cst_8 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]
-- ==== MemAttn.lean ====
abbrev S1x8192x1024 : Shape := ⟨3, ![1, 8192, 1024]⟩
abbrev S1x1024 : Shape := ⟨2, ![1, 1024]⟩
abbrev S1x1024x512 : Shape := ⟨3, ![1, 1024, 512]⟩
abbrev S1x128 : Shape := ⟨2, ![1, 128]⟩
abbrev S1x256x4x128 : Shape := ⟨4, ![1, 256, 4, 128]⟩
abbrev S1x512x1024 : Shape := ⟨3, ![1, 512, 1024]⟩
abbrev S512x1024 : Shape := ⟨2, ![512, 1024]⟩
abbrev S512x4x256 : Shape := ⟨3, ![512, 4, 256]⟩
abbrev S4x512x256 : Shape := ⟨3, ![4, 512, 256]⟩
abbrev S8192x1024 : Shape := ⟨2, ![8192, 1024]⟩
abbrev S1024 : Shape := ⟨1, ![1024]⟩
abbrev S1024x512 : Shape := ⟨2, ![1024, 512]⟩
abbrev S128 : Shape := ⟨1, ![128]⟩
abbrev S256x4x128 : Shape := ⟨3, ![256, 4, 128]⟩
abbrev S256x512 : Shape := ⟨2, ![256, 512]⟩
abbrev S8192x512 : Shape := ⟨2, ![8192, 512]⟩
abbrev S8x1024 : Shape := ⟨2, ![8, 1024]⟩
abbrev S8x128 : Shape := ⟨2, ![8, 128]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩
abbrev S1x512x256 : Shape := ⟨3, ![1, 512, 256]⟩

abbrev nBuf : Space → Nat
  | .hbm => 36
  | .vmem => 24
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x512, .f32⟩
  | .hbm, ⟨3, _⟩ => ⟨S1x128, .f32⟩
  | .hbm, ⟨4, _⟩ => ⟨S1x256x4x128, .f32⟩
  | .hbm, ⟨5, _⟩ => ⟨S1x256x4x128, .f32⟩
  | .hbm, ⟨6, _⟩ => ⟨S1x512x1024, .f32⟩
  | .hbm, ⟨7, _⟩ => ⟨S1x8192x1024, .f32⟩
  | .hbm, ⟨8, _⟩ => ⟨S512x1024, .f32⟩
  | .hbm, ⟨9, _⟩ => ⟨S512x4x256, .f32⟩
  | .hbm, ⟨10, _⟩ => ⟨S4x512x256, .f32⟩
  | .hbm, ⟨11, _⟩ => ⟨S4x512x256, .bf16⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .bf16⟩
  | .hbm, ⟨16, _⟩ => ⟨S1024, .f32⟩
  | .hbm, ⟨17, _⟩ => ⟨S1x1024, .f32⟩
  | .hbm, ⟨18, _⟩ => ⟨S1024x512, .f32⟩
  | .hbm, ⟨19, _⟩ => ⟨S1024x512, .bf16⟩
  | .hbm, ⟨20, _⟩ => ⟨S128, .f32⟩
  | .hbm, ⟨21, _⟩ => ⟨S1x128, .f32⟩
  | .hbm, ⟨22, _⟩ => ⟨S256x4x128, .f32⟩
  | .hbm, ⟨23, _⟩ => ⟨S256x512, .f32⟩
  | .hbm, ⟨24, _⟩ => ⟨S256x512, .bf16⟩
  | .hbm, ⟨25, _⟩ => ⟨S256x4x128, .f32⟩
  | .hbm, ⟨26, _⟩ => ⟨S256x512, .f32⟩
  | .hbm, ⟨27, _⟩ => ⟨S256x512, .bf16⟩
  | .hbm, ⟨28, _⟩ => ⟨S8192x1024, .f32⟩
  | .hbm, ⟨29, _⟩ => ⟨S8192x1024, .bf16⟩
  | .hbm, ⟨30, _⟩ => ⟨S8192x1024, .bf16⟩
  | .hbm, ⟨31, _⟩ => ⟨S8192x512, .bf16⟩
  | .hbm, ⟨32, _⟩ => ⟨S256x512, .f32⟩
  | .hbm, ⟨33, _⟩ => ⟨S256x512, .f32⟩
  | .hbm, ⟨34, _⟩ => ⟨S8x1024, .f32⟩
  | .hbm, ⟨35, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x512, .bf16⟩
  | .local _ .vmem, ⟨8, _⟩ => ⟨S1x128, .f32⟩
  | .local _ .vmem, ⟨9, _⟩ => ⟨S256x512, .bf16⟩
  | .local _ .vmem, ⟨10, _⟩ => ⟨S256x512, .bf16⟩
  | .local _ .vmem, ⟨11, _⟩ => ⟨S4x512x256, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | .local _ .vmem, ⟨20, _⟩ => ⟨S256x512, .f32⟩
  | .local _ .vmem, ⟨21, _⟩ => ⟨S256x512, .f32⟩
  | .local _ .vmem, ⟨22, _⟩ => ⟨S8x1024, .f32⟩
  | .local _ .vmem, ⟨23, _⟩ => ⟨S8x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev main_v20_5 : Ref sig .tc := ⟨.hbm, 33, rfl⟩
abbrev main_v20_6 : Ref sig .tc := ⟨.hbm, 34, rfl⟩
abbrev main_v20_7 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MemAttnRefIdeal.lean ====
abbrev S1x8192x1024 : Shape := ⟨3, ![1, 8192, 1024]⟩
abbrev S1x1024 : Shape := ⟨2, ![1, 1024]⟩
abbrev S1x1024x512 : Shape := ⟨3, ![1, 1024, 512]⟩
abbrev S1x128 : Shape := ⟨2, ![1, 128]⟩
abbrev S1x256x4x128 : Shape := ⟨4, ![1, 256, 4, 128]⟩
abbrev S1x512x1024 : Shape := ⟨3, ![1, 512, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x512 : Shape := ⟨2, ![1024, 512]⟩
abbrev S1x8192x512 : Shape := ⟨3, ![1, 8192, 512]⟩
abbrev S128 : Shape := ⟨1, ![128]⟩
abbrev S1x8192x4x128 : Shape := ⟨4, ![1, 8192, 4, 128]⟩
abbrev S1x8192x4 : Shape := ⟨3, ![1, 8192, 4]⟩
abbrev S1x8192x4x1 : Shape := ⟨4, ![1, 8192, 4, 1]⟩
abbrev S1x1x1x128 : Shape := ⟨4, ![1, 1, 1, 128]⟩
abbrev S1x4x8192x256 : Shape := ⟨4, ![1, 4, 8192, 256]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S512x1024 : Shape := ⟨2, ![512, 1024]⟩
abbrev S1x4x128x256 : Shape := ⟨4, ![1, 4, 128, 256]⟩
abbrev S4x8192 : Shape := ⟨2, ![4, 8192]⟩
abbrev S1x4x256x128 : Shape := ⟨4, ![1, 4, 256, 128]⟩
abbrev S1x4x8192x128 : Shape := ⟨4, ![1, 4, 8192, 128]⟩
abbrev S8192x4 : Shape := ⟨2, ![8192, 4]⟩
abbrev S8192 : Shape := ⟨1, ![8192]⟩
abbrev S8192x1024 : Shape := ⟨2, ![8192, 1024]⟩
abbrev S8192x512 : Shape := ⟨2, ![8192, 512]⟩
abbrev S256x4x128 : Shape := ⟨3, ![256, 4, 128]⟩
abbrev S256x512 : Shape := ⟨2, ![256, 512]⟩
abbrev S7x1024 : Shape := ⟨2, ![7, 1024]⟩
abbrev S8x1024 : Shape := ⟨2, ![8, 1024]⟩
abbrev S7x128 : Shape := ⟨2, ![7, 128]⟩
abbrev S8x128 : Shape := ⟨2, ![8, 128]⟩

abbrev nBuf : Space → Nat
  | .hbm => 202
  | .vmem => 0
  | .smem => 0
  | _ => 0

abbrev hbmTy0_0 (i : Nat) : BufTy := match i % 128 with
  | 0 => ⟨S1x8192x1024, .f32⟩
  | 1 => ⟨S1x1024, .f32⟩
  | 2 => ⟨S1x1024x512, .f32⟩
  | 3 => ⟨S1x128, .f32⟩
  | 4 => ⟨S1x256x4x128, .f32⟩
  | 5 => ⟨S1x256x4x128, .f32⟩
  | 6 => ⟨S1x512x1024, .f32⟩
  | 7 => ⟨S1x8192x1024, .f32⟩
  | 8 => ⟨S1024, .f32⟩
  | 9 => ⟨S1x8192x1024, .f32⟩
  | 10 => ⟨S_, .f32⟩
  | 11 => ⟨S1x8192, .f32⟩
  | 12 => ⟨S1x8192x1, .f32⟩
  | 13 => ⟨S_, .f32⟩
  | 14 => ⟨S1x8192x1, .f32⟩
  | 15 => ⟨S1x8192x1, .f32⟩
  | 16 => ⟨S_, .f32⟩
  | 17 => ⟨S1x8192x1, .f32⟩
  | 18 => ⟨S1x8192x1, .f32⟩
  | 19 => ⟨S1x8192x1, .f32⟩
  | 20 => ⟨S1x8192x1, .f32⟩
  | 21 => ⟨S_, .f32⟩
  | 22 => ⟨S1x8192x1, .f32⟩
  | 23 => ⟨S1x8192x1, .f32⟩
  | 24 => ⟨S1x8192x1024, .f32⟩
  | 25 => ⟨S1x8192x1024, .f32⟩
  | 26 => ⟨S1x1x1024, .f32⟩
  | 27 => ⟨S1x8192x1024, .f32⟩
  | 28 => ⟨S1x8192x1024, .f32⟩
  | 29 => ⟨S1024x512, .f32⟩
  | 30 => ⟨S1x8192x512, .f32⟩
  | 31 => ⟨S128, .f32⟩
  | 32 => ⟨S1x8192x4x128, .f32⟩
  | 33 => ⟨S1x8192x4x128, .f32⟩
  | 34 => ⟨S_, .f32⟩
  | 35 => ⟨S1x8192x4, .f32⟩
  | 36 => ⟨S1x8192x4x1, .f32⟩
  | 37 => ⟨S_, .f32⟩
  | 38 => ⟨S1x8192x4x1, .f32⟩
  | 39 => ⟨S1x8192x4x1, .f32⟩
  | 40 => ⟨S_, .f32⟩
  | 41 => ⟨S1x8192x4x1, .f32⟩
  | 42 => ⟨S1x8192x4x1, .f32⟩
  | 43 => ⟨S1x8192x4x1, .f32⟩
  | 44 => ⟨S1x8192x4x1, .f32⟩
  | 45 => ⟨S_, .f32⟩
  | 46 => ⟨S1x8192x4x1, .f32⟩
  | 47 => ⟨S1x8192x4x1, .f32⟩
  | 48 => ⟨S1x8192x4x128, .f32⟩
  | 49 => ⟨S1x8192x4x128, .f32⟩
  | 50 => ⟨S1x1x1x128, .f32⟩
  | 51 => ⟨S1x8192x4x128, .f32⟩
  | 52 => ⟨S1x8192x4x128, .f32⟩
  | 53 => ⟨S1x4x8192x256, .f32⟩
  | 54 => ⟨S_, .f32⟩
  | 55 => ⟨S1x4x8192x256, .f32⟩
  | 56 => ⟨S1x4x8192x256, .f32⟩
  | 57 => ⟨S_, .f32⟩
  | 58 => ⟨S1x4x8192, .f32⟩
  | 59 => ⟨S1x4x8192x1, .f32⟩
  | 60 => ⟨S1x4x8192x256, .f32⟩
  | 61 => ⟨S1x4x8192x256, .i1⟩
  | 62 => ⟨S1x4x8192x256, .f32⟩
  | 63 => ⟨S_, .f32⟩
  | 64 => ⟨S1x4x8192, .f32⟩
  | 65 => ⟨S_, .f32⟩
  | 66 => ⟨S1x4x8192, .f32⟩
  | 67 => ⟨S1x4x8192, .f32⟩
  | 68 => ⟨S_, .f32⟩
  | 69 => ⟨S1x4x8192, .f32⟩
  | 70 => ⟨S1x4x8192, .i1⟩
  | 71 => ⟨S_, .f32⟩
  | 72 => ⟨S1x4x8192, .f32⟩
  | 73 => ⟨S1x4x8192, .i1⟩
  | 74 => ⟨S_, .f32⟩
  | 75 => ⟨S1x4x8192, .f32⟩
  | 76 => ⟨S_, .f32⟩
  | 77 => ⟨S1x4x8192, .f32⟩
  | 78 => ⟨S_, .f32⟩
  | 79 => ⟨S1x4x8192, .f32⟩
  | 80 => ⟨S1x4x8192, .f32⟩
  | 81 => ⟨S1x4x8192, .f32⟩
  | 82 => ⟨S1x4x8192x1, .f32⟩
  | 83 => ⟨S1x4x8192x256, .f32⟩
  | 84 => ⟨S1x4x8192x256, .f32⟩
  | 85 => ⟨S1x4x8192x256, .f32⟩
  | 86 => ⟨S_, .f32⟩
  | 87 => ⟨S1x4x8192, .f32⟩
  | 88 => ⟨S1x4x8192x1, .f32⟩
  | 89 => ⟨S1x4x8192x256, .f32⟩
  | 90 => ⟨S1x4x8192x256, .f32⟩
  | 91 => ⟨S1x4x8192x1, .f32⟩
  | 92 => ⟨S_, .f32⟩
  | 93 => ⟨S1x4x8192x1, .f32⟩
  | 94 => ⟨S1x4x8192x1, .f32⟩
  | 95 => ⟨S1x4x128x8192, .f32⟩
  | 96 => ⟨S1x8192x4x128, .f32⟩
  | 97 => ⟨S1x8192x512, .f32⟩
  | 98 => ⟨S512x1024, .f32⟩
  | 99 => ⟨S1x8192x1024, .f32⟩
  | 100 => ⟨S1x8192x512, .f32⟩
  | 101 => ⟨S1x8192x4x128, .f32⟩
  | 102 => ⟨S1x4x128x8192, .f32⟩
  | 103 => ⟨S1x4x8192x256, .f32⟩
  | 104 => ⟨S1x4x128x256, .f32⟩
  | 105 => ⟨S1x256x4x128, .f32⟩
  | 106 => ⟨S1x4x8192x256, .f32⟩
  | 107 => ⟨S1x4x8192x256, .f32⟩
  | 108 => ⟨S1x4x8192x256, .f32⟩
  | 109 => ⟨S_, .f32⟩
  | 110 => ⟨S1x4x8192, .f32⟩
  | 111 => ⟨S1x4x8192x1, .f32⟩
  | 112 => ⟨S1x4x8192x1, .f32⟩
  | 113 => ⟨S1x4x8192x256, .f32⟩
  | 114 => ⟨S1x4x8192x256, .f32⟩
  | 115 => ⟨S_, .f32⟩
  | 116 => ⟨S4x8192, .f32⟩
  | 117 => ⟨S1x4x8192, .f32⟩
  | 118 => ⟨S1x4x8192x256, .f32⟩
  | 119 => ⟨S1x4x8192x256, .f32⟩
  | 120 => ⟨S1x4x8192x256, .f32⟩
  | 121 => ⟨S_, .f32⟩
  | 122 => ⟨S1x4x8192x256, .f32⟩
  | 123 => ⟨S1x4x8192x256, .f32⟩
  | 124 => ⟨S1x4x256x128, .f32⟩
  | 125 => ⟨S1x256x4x128, .f32⟩
  | 126 => ⟨S1x4x8192x128, .f32⟩
  | 127 => ⟨S1x8192x4x128, .f32⟩
  | _ => ⟨S1x8192x1024, .f32⟩

abbrev hbmTy0_1 (i : Nat) : BufTy := match i % 128 with
  | 0 => ⟨S1x8192x4x128, .f32⟩
  | 1 => ⟨S_, .f32⟩
  | 2 => ⟨S1x128, .f32⟩
  | 3 => ⟨S1x1x1x128, .f32⟩
  | 4 => ⟨S1x8192x4x128, .f32⟩
  | 5 => ⟨S1x8192x4x128, .f32⟩
  | 6 => ⟨S_, .f32⟩
  | 7 => ⟨S128, .f32⟩
  | 8 => ⟨S1x8192x4x128, .f32⟩
  | 9 => ⟨S_, .f32⟩
  | 10 => ⟨S1x8192x4, .f32⟩
  | 11 => ⟨S1x8192x4x1, .f32⟩
  | 12 => ⟨S1x8192x4x128, .f32⟩
  | 13 => ⟨S1x8192x4x128, .f32⟩
  | 14 => ⟨S1x8192x4x1, .f32⟩
  | 15 => ⟨S_, .f32⟩
  | 16 => ⟨S1x8192x4x1, .f32⟩
  | 17 => ⟨S1x8192x4x1, .f32⟩
  | 18 => ⟨S_, .f32⟩
  | 19 => ⟨S8192x4, .f32⟩
  | 20 => ⟨S1x8192x4, .f32⟩
  | 21 => ⟨S1x8192x4x128, .f32⟩
  | 22 => ⟨S1x8192x4x128, .f32⟩
  | 23 => ⟨S1x8192x4x128, .f32⟩
  | 24 => ⟨S1x8192x4x128, .f32⟩
  | 25 => ⟨S1x8192x4x128, .f32⟩
  | 26 => ⟨S1x8192x512, .f32⟩
  | 27 => ⟨S1x8192x1024, .f32⟩
  | 28 => ⟨S1x8192x1024, .f32⟩
  | 29 => ⟨S_, .f32⟩
  | 30 => ⟨S1x1024, .f32⟩
  | 31 => ⟨S1x1x1024, .f32⟩
  | 32 => ⟨S1x8192x1024, .f32⟩
  | 33 => ⟨S1x8192x1024, .f32⟩
  | 34 => ⟨S_, .f32⟩
  | 35 => ⟨S1024, .f32⟩
  | 36 => ⟨S1x8192x1024, .f32⟩
  | 37 => ⟨S_, .f32⟩
  | 38 => ⟨S1x8192, .f32⟩
  | 39 => ⟨S1x8192x1, .f32⟩
  | 40 => ⟨S1x8192x1024, .f32⟩
  | 41 => ⟨S1x8192x1024, .f32⟩
  | 42 => ⟨S1x8192x1, .f32⟩
  | 43 => ⟨S_, .f32⟩
  | 44 => ⟨S1x8192x1, .f32⟩
  | 45 => ⟨S1x8192x1, .f32⟩
  | 46 => ⟨S_, .f32⟩
  | 47 => ⟨S8192, .f32⟩
  | 48 => ⟨S1x8192, .f32⟩
  | 49 => ⟨S1x8192x1024, .f32⟩
  | 50 => ⟨S1x8192x1024, .f32⟩
  | 51 => ⟨S1x8192x1024, .f32⟩
  | 52 => ⟨S1x8192x1024, .f32⟩
  | 53 => ⟨S1x8192x1024, .f32⟩
  | 54 => ⟨S1x8192x1024, .f32⟩
  | 55 => ⟨S8192x1024, .f32⟩
  | 56 => ⟨S8192x1024, .f32⟩
  | 57 => ⟨S8192x1024, .bf16⟩
  | 58 => ⟨S8192x1024, .f32⟩
  | 59 => ⟨S8192x1024, .bf16⟩
  | 60 => ⟨S8192x512, .f32⟩
  | 61 => ⟨S8192x512, .bf16⟩
  | 62 => ⟨S256x4x128, .f32⟩
  | 63 => ⟨S256x512, .f32⟩
  | 64 => ⟨S256x4x128, .f32⟩
  | 65 => ⟨S256x512, .f32⟩
  | 66 => ⟨S1x1024, .f32⟩
  | 67 => ⟨S_, .f32⟩
  | 68 => ⟨S7x1024, .f32⟩
  | 69 => ⟨S8x1024, .f32⟩
  | 70 => ⟨S1x128, .f32⟩
  | 71 => ⟨S_, .f32⟩
  | 72 => ⟨S7x128, .f32⟩
  | 73 => ⟨S8x128, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_18 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_19 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_20 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_21 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_22 : Ref sig .tc := ⟨.hbm, 134, rfl⟩
abbrev main_v103 : Ref sig .tc := ⟨.hbm, 135, rfl⟩
abbrev main_v104 : Ref sig .tc := ⟨.hbm, 136, rfl⟩
abbrev main_cst_23 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_24 : Ref sig .tc := ⟨.hbm, 143, rfl⟩
abbrev main_v110 : Ref sig .tc := ⟨.hbm, 144, rfl⟩
abbrev main_v111 : Ref sig .tc := ⟨.hbm, 145, rfl⟩
abbrev main_cst_25 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_26 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_27 : Ref sig .tc := ⟨.hbm, 162, rfl⟩
abbrev main_v126 : Ref sig .tc := ⟨.hbm, 163, rfl⟩
abbrev main_v127 : Ref sig .tc := ⟨.hbm, 164, rfl⟩
abbrev main_cst_28 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_29 : Ref sig .tc := ⟨.hbm, 171, rfl⟩
abbrev main_v133 : Ref sig .tc := ⟨.hbm, 172, rfl⟩
abbrev main_v134 : Ref sig .tc := ⟨.hbm, 173, rfl⟩
abbrev main_cst_30 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_cst_31 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_32 : Ref sig .tc := ⟨.hbm, 199, rfl⟩
abbrev main_v158 : Ref sig .tc := ⟨.hbm, 200, rfl⟩
abbrev main_v159 : Ref sig .tc := ⟨.hbm, 201, rfl⟩

abbrev nD : Nat := 1
abbrev τ : Topo := Topo.v7x

variable {F : FTy → Type} [FloatOps F]
-- ==== MemFwd.lean ====
abbrev S1x8192x1024 : Shape := ⟨3, ![1, 8192, 1024]⟩
abbrev S1x1024 : Shape := ⟨2, ![1, 1024]⟩
abbrev S1x1024x512 : Shape := ⟨3, ![1, 1024, 512]⟩
abbrev S1x128 : Shape := ⟨2, ![1, 128]⟩
abbrev S1x256x4x128 : Shape := ⟨4, ![1, 256, 4, 128]⟩
abbrev S1x512x1024 : Shape := ⟨3, ![1, 512, 1024]⟩
abbrev S512x1024 : Shape := ⟨2, ![512, 1024]⟩
abbrev S512x4x256 : Shape := ⟨3, ![512, 4, 256]⟩
abbrev S4x512x256 : Shape := ⟨3, ![4, 512, 256]⟩
abbrev S8192x1024 : Shape := ⟨2, ![8192, 1024]⟩
abbrev S1024 : Shape := ⟨1, ![1024]⟩
abbrev S1024x512 : Shape := ⟨2, ![1024, 512]⟩
abbrev S128 : Shape := ⟨1, ![128]⟩
abbrev S256x4x128 : Shape := ⟨3, ![256, 4, 128]⟩
abbrev S256x512 : Shape := ⟨2, ![256, 512]⟩
abbrev S8192x512 : Shape := ⟨2, ![8192, 512]⟩
abbrev S1024x1024 : Shape := ⟨2, ![1024, 1024]⟩
abbrev S1024x1 : Shape := ⟨2, ![1024, 1]⟩
abbrev S1024x128 : Shape := ⟨2, ![1024, 128]⟩
abbrev S256x128 : Shape := ⟨2, ![256, 128]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 26
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x512, .f32⟩
  | .hbm, ⟨3, _⟩ => ⟨S1x128, .f32⟩
  | .hbm, ⟨4, _⟩ => ⟨S1x256x4x128, .f32⟩
  | .hbm, ⟨5, _⟩ => ⟨S1x256x4x128, .f32⟩
  | .hbm, ⟨6, _⟩ => ⟨S1x512x1024, .f32⟩
  | .hbm, ⟨7, _⟩ => ⟨S512x1024, .f32⟩
  | .hbm, ⟨8, _⟩ => ⟨S512x4x256, .f32⟩
  | .hbm, ⟨9, _⟩ => ⟨S4x512x256, .f32⟩
  | .hbm, ⟨10, _⟩ => ⟨S4x512x256, .bf16⟩
  | .hbm, ⟨11, _⟩ => ⟨S8192x1024, .f32⟩
  | .hbm, ⟨12, _⟩ => ⟨S1024, .f32⟩
  | .hbm, ⟨13, _⟩ => ⟨S1x1024, .f32⟩
  | .hbm, ⟨14, _⟩ => ⟨S1024x512, .f32⟩
  | .hbm, ⟨15, _⟩ => ⟨S1024x512, .bf16⟩
  | .hbm, ⟨16, _⟩ => ⟨S128, .f32⟩
  | .hbm, ⟨17, _⟩ => ⟨S1x128, .f32⟩
  | .hbm, ⟨18, _⟩ => ⟨S256x4x128, .f32⟩
  | .hbm, ⟨19, _⟩ => ⟨S256x512, .f32⟩
  | .hbm, ⟨20, _⟩ => ⟨S256x512, .bf16⟩
  | .hbm, ⟨21, _⟩ => ⟨S256x4x128, .f32⟩
  | .hbm, ⟨22, _⟩ => ⟨S256x512, .f32⟩
  | .hbm, ⟨23, _⟩ => ⟨S256x512, .bf16⟩
  | .hbm, ⟨24, _⟩ => ⟨S8192x1024, .f32⟩
  | .hbm, ⟨25, _⟩ => ⟨S8192x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S4x512x256, .bf16⟩
  | .local _ .vmem, ⟨8, _⟩ => ⟨S1024x1024, .f32⟩
  | .local _ .vmem, ⟨9, _⟩ => ⟨S1024x1024, .f32⟩
  | .local _ .vmem, ⟨10, _⟩ => ⟨S1024x512, .bf16⟩
  | .local _ .vmem, ⟨11, _⟩ => ⟨S1024x512, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MemFwdRefIdeal.lean ====
abbrev S1x8192x1024 : Shape := ⟨3, ![1, 8192, 1024]⟩
abbrev S1x1024 : Shape := ⟨2, ![1, 1024]⟩
abbrev S1x1024x512 : Shape := ⟨3, ![1, 1024, 512]⟩
abbrev S1x128 : Shape := ⟨2, ![1, 128]⟩
abbrev S1x256x4x128 : Shape := ⟨4, ![1, 256, 4, 128]⟩
abbrev S1x512x1024 : Shape := ⟨3, ![1, 512, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x512 : Shape := ⟨2, ![1024, 512]⟩
abbrev S1x8192x512 : Shape := ⟨3, ![1, 8192, 512]⟩
abbrev S1x8192x4x128 : Shape := ⟨4, ![1, 8192, 4, 128]⟩
abbrev S128 : Shape := ⟨1, ![128]⟩
abbrev S1x8192x4 : Shape := ⟨3, ![1, 8192, 4]⟩
abbrev S1x8192x4x1 : Shape := ⟨4, ![1, 8192, 4, 1]⟩
abbrev S1x1x1x128 : Shape := ⟨4, ![1, 1, 1, 128]⟩
abbrev S1x4x8192x256 : Shape := ⟨4, ![1, 4, 8192, 256]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S512x1024 : Shape := ⟨2, ![512, 1024]⟩
abbrev S8192x1024 : Shape := ⟨2, ![8192, 1024]⟩
abbrev S8192x512 : Shape := ⟨2, ![8192, 512]⟩

abbrev nBuf : Space → Nat
  | .hbm => 71
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x512, .f32⟩
  | .hbm, ⟨3, _⟩ => ⟨S1x128, .f32⟩
  | .hbm, ⟨4, _⟩ => ⟨S1x256x4x128, .f32⟩
  | .hbm, ⟨5, _⟩ => ⟨S1x256x4x128, .f32⟩
  | .hbm, ⟨6, _⟩ => ⟨S1x512x1024, .f32⟩
  | .hbm, ⟨7, _⟩ => ⟨S1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S1024x512, .f32⟩
  | .hbm, ⟨25, _⟩ => ⟨S1x8192x512, .f32⟩
  | .hbm, ⟨26, _⟩ => ⟨S1x8192x4x128, .f32⟩
  | .hbm, ⟨27, _⟩ => ⟨S128, .f32⟩
  | .hbm, ⟨28, _⟩ => ⟨S1x8192x4x128, .f32⟩
  | .hbm, ⟨29, _⟩ => ⟨S_, .f32⟩
  | .hbm, ⟨30, _⟩ => ⟨S1x8192x4, .f32⟩
  | .hbm, ⟨31, _⟩ => ⟨S1x8192x4x1, .f32⟩
  | .hbm, ⟨32, _⟩ => ⟨S_, .f32⟩
  | .hbm, ⟨33, _⟩ => ⟨S1x8192x4x1, .f32⟩
  | .hbm, ⟨34, _⟩ => ⟨S1x8192x4x1, .f32⟩
  | .hbm, ⟨35, _⟩ => ⟨S_, .f32⟩
  | .hbm, ⟨36, _⟩ => ⟨S1x8192x4x1, .f32⟩
  | .hbm, ⟨37, _⟩ => ⟨S1x8192x4x1, .f32⟩
  | .hbm, ⟨38, _⟩ => ⟨S1x8192x4x1, .f32⟩
  | .hbm, ⟨39, _⟩ => ⟨S1x8192x4x128, .f32⟩
  | .hbm, ⟨40, _⟩ => ⟨S1x8192x4x128, .f32⟩
  | .hbm, ⟨41, _⟩ => ⟨S1x1x1x128, .f32⟩
  | .hbm, ⟨42, _⟩ => ⟨S1x8192x4x128, .f32⟩
  | .hbm, ⟨43, _⟩ => ⟨S1x8192x4x128, .f32⟩
  | .hbm, ⟨44, _⟩ => ⟨S1x4x8192x256, .f32⟩
  | .hbm, ⟨45, _⟩ => ⟨S_, .f32⟩
  | .hbm, ⟨46, _⟩ => ⟨S1x4x8192x256, .f32⟩
  | .hbm, ⟨47, _⟩ => ⟨S1x4x8192x256, .f32⟩
  | .hbm, ⟨48, _⟩ => ⟨S_, .f32⟩
  | .hbm, ⟨49, _⟩ => ⟨S1x4x8192, .f32⟩
  | .hbm, ⟨50, _⟩ => ⟨S_, .f32⟩
  | .hbm, ⟨51, _⟩ => ⟨S1x4x8192, .f32⟩
  | .hbm, ⟨52, _⟩ => ⟨S1x4x8192, .f32⟩
  | .hbm, ⟨53, _⟩ => ⟨S1x4x8192x1, .f32⟩
  | .hbm, ⟨54, _⟩ => ⟨S1x4x8192x256, .f32⟩
  | .hbm, ⟨55, _⟩ => ⟨S1x4x8192x256, .f32⟩
  | .hbm, ⟨56, _⟩ => ⟨S1x4x8192x256, .f32⟩
  | .hbm, ⟨57, _⟩ => ⟨S_, .f32⟩
  | .hbm, ⟨58, _⟩ => ⟨S1x4x8192, .f32⟩
  | .hbm, ⟨59, _⟩ => ⟨S1x4x8192x1, .f32⟩
  | .hbm, ⟨60, _⟩ => ⟨S1x4x8192x256, .f32⟩
  | .hbm, ⟨61, _⟩ => ⟨S1x4x8192x256, .f32⟩
  | .hbm, ⟨62, _⟩ => ⟨S1x4x128x8192, .f32⟩
  | .hbm, ⟨63, _⟩ => ⟨S1x8192x4x128, .f32⟩
  | .hbm, ⟨64, _⟩ => ⟨S1x8192x512, .f32⟩
  | .hbm, ⟨65, _⟩ => ⟨S512x1024, .f32⟩
  | .hbm, ⟨66, _⟩ => ⟨S1x8192x1024, .f32⟩
  | .hbm, ⟨67, _⟩ => ⟨S1x8192x1024, .f32⟩
  | .hbm, ⟨68, _⟩ => ⟨S8192x1024, .f32⟩
  | .hbm, ⟨69, _⟩ => ⟨S8192x512, .f32⟩
  | .hbm, ⟨70, _⟩ => ⟨S8192x512, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Proof.Common.lean ====
module

public import Idealize.ShloMosaic.Lib.Pointwise

@[expose] public section

namespace Cert.Common

open Idealize.ShloMosaic

/-! The host's sum over the two leading axes of an array of rank three, read at one index. -/

variable {a b c : Nat} {t : Shape}

theorem rank_leading (h : (⟨3, ![a, b, c]⟩ : Shape).ReducesTo [0, 1] t) : t.rank = 1 := h.1

theorem lt_leading (h : (⟨3, ![a, b, c]⟩ : Shape).ReducesTo [0, 1] t) : 0 < t.rank := by
  rw [rank_leading h]; exact Nat.one_pos

theorem size_leading (h : (⟨3, ![a, b, c]⟩ : Shape).ReducesTo [0, 1] t) : t.size ⟨0, lt_leading h⟩ = c :=
  h.2 ⟨0, lt_leading h⟩

/-- The sum of the elements whose last coordinate is the result's. -/
@[pointwise] theorem hostReduceAdd_leading (h : (⟨3, ![a, b, c]⟩ : Shape).ReducesTo [0, 1] t)
    (v : (⟨3, ![a, b, c]⟩ : Shape).Idx → EReal) (init : EReal) (j : t.Idx) :
    Ideal.hostReduceAdd h v init j =
      init + ∑ p : Fin a, ∑ q : Fin b, v (ix3 p q ⟨(j ⟨0, lt_leading h⟩).val, Shape.coordLt (j ⟨0, lt_leading h⟩) (size_leading h)⟩) := by
  unfold Ideal.hostReduceAdd
  rw [Finset.sum_filter_eq_sum_of_fiber (κ := Fin a × Fin b) _
    (fun k : Fin a × Fin b => ix3 k.1 k.2 ⟨(j ⟨0, lt_leading h⟩).val, Shape.coordLt (j ⟨0, lt_leading h⟩) (size_leading h)⟩)
    (fun _ _ e => Prod.ext (congrFun e (0 : Fin 3)) (congrFun e (1 : Fin 3))) ?_ v, Fintype.sum_prod_type]
  intro i
  refine ⟨fun e => ⟨(i 0, i 1), ?_⟩, ?_⟩
  · funext x
    apply Fin.ext
    match x with
    | ⟨0, _⟩ => rfl
    | ⟨1, _⟩ => rfl
    | ⟨2, _⟩ => exact (congrArg Fin.val (congrFun e ⟨0, lt_leading h⟩)).symm
  · rintro ⟨k, rfl⟩
    funext x
    apply Fin.ext
    match x with
    | ⟨0, _⟩ => rfl
    | ⟨n + 1, hb⟩ => exact absurd hb (by rw [rank_leading h]; omega)

/-! The host's sum over the first and the last axis of an array of rank three. -/

theorem lt_outer (h : (⟨3, ![a, b, c]⟩ : Shape).ReducesTo [0, 2] t) : 0 < t.rank := by
  rw [show t.rank = 1 from h.1]; exact Nat.one_pos

theorem size_outer (h : (⟨3, ![a, b, c]⟩ : Shape).ReducesTo [0, 2] t) : t.size ⟨0, lt_outer h⟩ = b :=
  h.2 ⟨0, lt_outer h⟩

/-- The sum of the elements whose middle coordinate is the result's. -/
@[pointwise] theorem hostReduceAdd_outer (h : (⟨3, ![a, b, c]⟩ : Shape).ReducesTo [0, 2] t)
    (v : (⟨3, ![a, b, c]⟩ : Shape).Idx → EReal) (init : EReal) (j : t.Idx) :
    Ideal.hostReduceAdd h v init j =
      init + ∑ p : Fin a, ∑ q : Fin c, v (ix3 p ⟨(j ⟨0, lt_outer h⟩).val, Shape.coordLt (j ⟨0, lt_outer h⟩) (size_outer h)⟩ q) := by
  unfold Ideal.hostReduceAdd
  rw [Finset.sum_filter_eq_sum_of_fiber (κ := Fin a × Fin c) _
    (fun k : Fin a × Fin c => ix3 k.1 ⟨(j ⟨0, lt_outer h⟩).val, Shape.coordLt (j ⟨0, lt_outer h⟩) (size_outer h)⟩ k.2)
    (fun _ _ e => Prod.ext (congrFun e (0 : Fin 3)) (congrFun e (2 : Fin 3))) ?_ v, Fintype.sum_prod_type]
  intro i
  refine ⟨fun e => ⟨(i 0, i 2), ?_⟩, ?_⟩
  · funext x
    apply Fin.ext
    match x with
    | ⟨0, _⟩ => rfl
    | ⟨1, _⟩ => exact (congrArg Fin.val (congrFun e ⟨0, lt_outer h⟩)).symm
    | ⟨2, _⟩ => rfl
  · rintro ⟨k, rfl⟩
    funext x
    apply Fin.ext
    match x with
    | ⟨0, _⟩ => rfl
    | ⟨n + 1, hb⟩ => exact absurd hb (by rw [show t.rank = 1 from h.1]; omega)

/-! Rows of a column shifted by one place, with zero where there is no row. -/

/-- The next row's element. -/
noncomputable def next {n : Nat} (d : Fin n → EReal) (r : Fin n) : EReal := if h : r.val + 1 < n then d ⟨r.val + 1, h⟩ else 0

/-- The previous row's element. -/
noncomputable def prev {n : Nat} (d : Fin n → EReal) (r : Fin n) : EReal := if 1 ≤ r.val then d ⟨r.val - 1, by omega⟩ else 0

theorem dite_next {n : Nat} (F : Fin n → EReal) (r : Fin n) : (if h : 1 + r.val < n then F ⟨1 + r.val, h⟩ else 0) = next F r := by
  unfold next; simp only [add_comm 1]

theorem next_mul {n : Nat} (F : Fin n → EReal) (w : EReal) (r : Fin n) : next (fun q => F q * w) r = w * next F r := by
  unfold next; split_ifs <;> simp [mul_comm]

theorem prev_mul {n : Nat} (F : Fin n → EReal) (w : EReal) (r : Fin n) : prev (fun q => F q * w) r = w * prev F r := by
  unfold prev; split_ifs <;> simp [mul_comm]

theorem sum_next_mul {n : Nat} (d g : Fin (n + 1) → EReal) : ∑ r, next d r * g r = ∑ r, prev g r * d r := by
  rw [Fin.sum_univ_castSucc, Fin.sum_univ_succ (f := fun r => prev g r * d r)]
  rw [show next d (Fin.last n) = 0 from dif_neg (by simp), show prev g 0 = 0 from if_neg (by simp), zero_mul, zero_mul, zero_add,
    add_zero]
  refine Finset.sum_congr rfl fun r _ => ?_
  rw [show next d r.castSucc = d r.succ from dif_pos (by simp), show prev g r.succ = g r.castSucc from if_pos (by simp), mul_comm]

end Cert.Common
-- ==== Proof.Rows.lean ====
module

public import proofs.«01_k».proof.Proof.Common
public import Idealize.ShloMosaic.Lib.Pipeline.ValueKit

@[expose] public section

noncomputable section

namespace Cert.Common

open Idealize.ShloMosaic

/-! A buffer of rank two that is written one row at a time, read at one index. -/

variable {Val : EltTy → Type} {e : EltTy} {M n : Nat} {sig : RefSig} {κ : Kind} {sp : Space}

theorem emb_row (k : Nat) (inb : ∀ a, (![k, 0] : Fin 2 → Nat) a + (![1, n] : Fin 2 → Nat) a ≤ (⟨2, ![M, n]⟩ : Shape).size a)
    (r : Fin M) (l : Fin n) (h : r.val = k) :
    (Rect.unit (s := ⟨2, ![M, n]⟩) ![k, 0] ![1, n] inb).emb (ix2 (0 : Fin 1) l) = ix2 r l := by
  funext a
  apply Fin.ext
  fin_cases a
  · show k + 1 * 0 = r.val; omega
  · show 0 + 1 * l.val = l.val; omega

theorem not_mem_row (k : Nat) (inb : ∀ a, (![k, 0] : Fin 2 → Nat) a + (![1, n] : Fin 2 → Nat) a ≤ (⟨2, ![M, n]⟩ : Shape).size a)
    (r : Fin M) (l : Fin n) (h : r.val ≠ k) : (ix2 r l : (⟨2, ![M, n]⟩ : Shape).Idx) ∉ (Rect.unit (s := ⟨2, ![M, n]⟩) ![k, 0] ![1, n] inb).set := by
  intro hm
  obtain ⟨i, hi, he⟩ := (LoadRect.mem_set _).mp hm (0 : Fin 2)
  have hi1 : i < 1 := hi
  have he' : r.val = k + 1 * i := he
  omega

/-- The last write is to row `k`. -/
theorem read_writes_row (v : View sig κ sp ⟨2, ![M, n]⟩ e) (f : v.ty.Contents Val) (k : Nat)
    (inb : ∀ a, (![k, 0] : Fin 2 → Nat) a + (![1, n] : Fin 2 → Nat) a ≤ (⟨2, ![M, n]⟩ : Shape).size a)
    (w : (Rect.unit (s := ⟨2, ![M, n]⟩) ![k, 0] ![1, n] inb).shape.Idx → Val e) (L : List (View.Piece Val ⟨2, ![M, n]⟩ e)) (r : Fin M) (l : Fin n) :
    v.read Val (v.writes Val f (⟨Rect.unit (s := ⟨2, ![M, n]⟩) ![k, 0] ![1, n] inb, w⟩ :: L)) (ix2 r l) =
      if r.val = k then w (ix2 (0 : Fin 1) l) else v.read Val (v.writes Val f L) (ix2 r l) := by
  by_cases h : r.val = k
  · rw [if_pos h, ← emb_row k inb r l h, View.read_writes_cons_emb]
  · rw [if_neg h, View.writes_cons, View.read_slice_write_of_not_mem]
    rw [Rect.map_emb_univ]
    exact not_mem_row k inb r l h

theorem canon_row [∀ e, Nonempty (Val e)] (k : Nat)
    (inb : ∀ a, (![k, 0] : Fin 2 → Nat) a + (![1, n] : Fin 2 → Nat) a ≤ (⟨2, ![M, n]⟩ : Shape).size a)
    (w : (Rect.unit (s := ⟨2, ![M, n]⟩) ![k, 0] ![1, n] inb).shape.Idx → Val e) (L : List (View.Piece Val ⟨2, ![M, n]⟩ e)) (r : Fin M) (l : Fin n) :
    View.canon (⟨Rect.unit (s := ⟨2, ![M, n]⟩) ![k, 0] ![1, n] inb, w⟩ :: L) (ix2 r l) =
      if r.val = k then w (ix2 (0 : Fin 1) l) else View.canon L (ix2 r l) := by
  by_cases h : r.val = k
  · rw [if_pos h, ← emb_row k inb r l h, View.canon_cons_emb]
  · rw [if_neg h]
    exact View.canon_cons_of_not_mem (⟨Rect.unit (s := ⟨2, ![M, n]⟩) ![k, 0] ![1, n] inb, w⟩ : View.Piece Val ⟨2, ![M, n]⟩ e) L
      (not_mem_row k inb r l h)

/-- The last write is to the whole buffer. -/
theorem canon_all [∀ e, Nonempty (Val e)]
    (inb : ∀ a, (![0, 0] : Fin 2 → Nat) a + (![M, n] : Fin 2 → Nat) a ≤ (⟨2, ![M, n]⟩ : Shape).size a)
    (w : (Rect.unit (s := ⟨2, ![M, n]⟩) ![0, 0] ![M, n] inb).shape.Idx → Val e) (L : List (View.Piece Val ⟨2, ![M, n]⟩ e)) (r : Fin M) (l : Fin n) :
    View.canon (⟨Rect.unit (s := ⟨2, ![M, n]⟩) ![0, 0] ![M, n] inb, w⟩ :: L) (ix2 r l) = w (ix2 r l) := by
  have h : (Rect.unit (s := ⟨2, ![M, n]⟩) ![0, 0] ![M, n] inb).emb (ix2 r l) = ix2 r l := by
    funext a
    apply Fin.ext
    fin_cases a
    · show 0 + 1 * r.val = r.val; omega
    · show 0 + 1 * l.val = l.val; omega
  exact (congrArg _ h.symm).trans (View.canon_cons_emb _ w L (ix2 r l))

theorem emb_col (k n' : Nat) (inb : ∀ a, (![0, k] : Fin 2 → Nat) a + (![M, n'] : Fin 2 → Nat) a ≤ (⟨2, ![M, n]⟩ : Shape).size a)
    (r : Fin M) (l : Fin n) (h : k ≤ l.val) (h' : l.val - k < n') :
    (Rect.unit (s := ⟨2, ![M, n]⟩) ![0, k] ![M, n'] inb).emb (ix2 r (⟨l.val - k, h'⟩ : Fin n')) = ix2 r l := by
  funext a
  apply Fin.ext
  fin_cases a
  · show 0 + 1 * r.val = r.val; omega
  · show k + 1 * (l.val - k) = l.val; omega

/-- The last write is to the columns from `k` on, and the index lies in them. -/
theorem canon_col_in [∀ e, Nonempty (Val e)] (k n' : Nat)
    (inb : ∀ a, (![0, k] : Fin 2 → Nat) a + (![M, n'] : Fin 2 → Nat) a ≤ (⟨2, ![M, n]⟩ : Shape).size a)
    (w : (Rect.unit (s := ⟨2, ![M, n]⟩) ![0, k] ![M, n'] inb).shape.Idx → Val e) (L : List (View.Piece Val ⟨2, ![M, n]⟩ e)) (r : Fin M) (l : Fin n)
    (h : k ≤ l.val) (h' : l.val - k < n') :
    View.canon (⟨Rect.unit (s := ⟨2, ![M, n]⟩) ![0, k] ![M, n'] inb, w⟩ :: L) (ix2 r l) = w (ix2 r (⟨l.val - k, h'⟩ : Fin n')) := by
  rw [← emb_col k n' inb r l h h', View.canon_cons_emb]

/-- The index lies before the columns of the last write. -/
theorem canon_col_out [∀ e, Nonempty (Val e)] (k n' : Nat)
    (inb : ∀ a, (![0, k] : Fin 2 → Nat) a + (![M, n'] : Fin 2 → Nat) a ≤ (⟨2, ![M, n]⟩ : Shape).size a)
    (w : (Rect.unit (s := ⟨2, ![M, n]⟩) ![0, k] ![M, n'] inb).shape.Idx → Val e) (L : List (View.Piece Val ⟨2, ![M, n]⟩ e)) (r : Fin M) (l : Fin n)
    (h : l.val < k) :
    View.canon (⟨Rect.unit (s := ⟨2, ![M, n]⟩) ![0, k] ![M, n'] inb, w⟩ :: L) (ix2 r l) = View.canon L (ix2 r l) := by
  refine View.canon_cons_of_not_mem (⟨Rect.unit (s := ⟨2, ![M, n]⟩) ![0, k] ![M, n'] inb, w⟩ : View.Piece Val ⟨2, ![M, n]⟩ e) L ?_
  intro hm
  obtain ⟨i, _, he⟩ := (LoadRect.mem_set _).mp hm (1 : Fin 2)
  have he' : l.val = k + 1 * i := he
  omega

/-- A load of the whole buffer. -/
theorem readCov_all [∀ e, Nonempty (Val e)] (v : View sig κ sp ⟨2, ![M, n]⟩ e) (L : List (View.Piece Val ⟨2, ![M, n]⟩ e))
    (inb : ∀ a, (![0, 0] : Fin 2 → Nat) a + (![M, n] : Fin 2 → Nat) a ≤ (⟨2, ![M, n]⟩ : Shape).size a) (r : Fin M) (l : Fin n) :
    v.readCov L (Rect.unit (s := ⟨2, ![M, n]⟩) ![0, 0] ![M, n] inb).toLoadRect (ix2 r l) = View.canon L (ix2 r l) := by
  rw [View.readCov_eq_canon']
  exact congrArg (View.canon L) (emb_col 0 n inb r l (Nat.zero_le _) l.isLt)

/-- A load of row `k`. -/
theorem readCov_row [∀ e, Nonempty (Val e)] (v : View sig κ sp ⟨2, ![M, n]⟩ e) (L : List (View.Piece Val ⟨2, ![M, n]⟩ e)) (k : Nat)
    (inb : ∀ a, (![k, 0] : Fin 2 → Nat) a + (![1, n] : Fin 2 → Nat) a ≤ (⟨2, ![M, n]⟩ : Shape).size a) (l : Fin n) :
    v.readCov L (Rect.unit (s := ⟨2, ![M, n]⟩) ![k, 0] ![1, n] inb).toLoadRect (ix2 (0 : Fin 1) l) =
      View.canon L (ix2 (⟨k, by have := inb 0; exact this⟩ : Fin M) l) := by
  rw [View.readCov_eq_canon']
  exact congrArg (View.canon L) (emb_row k inb ⟨k, by have := inb 0; exact this⟩ l rfl)

end Cert.Common

end
-- ==== Proof.ConvValue.lean ====
module

public import proofs.«01_k».proof.Proof.Gen.ConvIdeal.Value
public import proofs.«01_k».proof.Proof.Rows

@[expose] public section

set_option maxRecDepth 16384

noncomputable section

namespace Cert.ConvIdeal.Closed

open Cert.ConvIdeal Cert.ConvIdeal.Gen Idealize.ShloMosaic Idealize.ShloMosaic.TcCoe Idealize.SL.Sem Cert.Common

variable (m : (ℓ : Loc nD τ sig) → Buf (Elt Ideal) ℓ) (c : Dev nD)

/-- The four arguments. -/
abbrev g : FVec Ideal S1x8192x5632 .f32 := m ((c : Thread nD τ).loc main_arg0)
abbrev w : FVec Ideal S1x3x5632 .f32 := m ((c : Thread nD τ).loc main_arg1)
abbrev b : FVec Ideal S1x5632 .f32 := m ((c : Thread nD τ).loc main_arg2)
abbrev d : FVec Ideal S8192x5632 .bf16 := m ((c : Thread nD τ).loc main_arg3)

theorem idx : ∀ t : Fin cfg0.N, win0_0.index t = ![t.val, 0] ∧ win0_1.index t = ![t.val, 0] ∧ win0_2.index t = ![16 * t.val - 1, 0]
    ∧ win0_3.index t = ![min (16 * t.val + 16) 511, 0] ∧ win0_4.index t = ![0, 0] ∧ win0_5.index t = ![t.val, 0] ∧ win0_6.index t = ![0, 0] :=
  (by decide +kernel : ∀ t : Fin grid0.N, _)

/-- The input's gradient. -/
def dx : FVec Ideal S8192x5632 .bf16 := fun i =>
  w m c (ix3 0 0 (i 1)) * next (fun q => d m c (ix2 q (i 1))) (i 0) + w m c (ix3 0 1 (i 1)) * d m c (ix2 (i 0) (i 1)) +
    w m c (ix3 0 2 (i 1)) * prev (fun q => d m c (ix2 q (i 1))) (i 0)

theorem next_at (t : Fin 32) (i : grid0.Coords) (hi : (i 0).val = t.val) (x : FVec Ideal S256x5632 .bf16) (y : FVec Ideal S16x5632 .bf16)
    (r : Fin 256) (l : Fin 5632) :
    (k0_pay5 (F := Ideal) i x y (ix2 r l) : EReal) =
      if h : r.val < 255 then (x (ix2 ⟨r.val + 1, by omega⟩ l) : EReal) else if t.val = 31 then 0 else (y (ix2 0 l) : EReal) := by
  pointwise [k0_pay5, k0_pay3]
  rw [hi]
  word_cmp
  by_cases h : r.val < 255
  · rw [dif_pos h]
    by_cases h2 : r.val < 248
    · rw [dif_pos h2]
      exact congrArg (fun q => x (ix2 q l)) (Fin.ext (by dsimp only; omega))
    · rw [dif_neg h2, if_neg (by omega)]
      exact congrArg (fun q => x (ix2 q l)) (Fin.ext (by dsimp only; omega))
  · rw [dif_neg h, dif_neg (by omega), if_pos (by omega)]
    exact congrArg (fun v => if t.val = 31 then 0 else v) (congrArg (fun q => y (ix2 q l)) (Fin.ext (by dsimp only; omega)))

theorem prev_at (t : Fin 32) (i : grid0.Coords) (hi : (i 0).val = t.val) (x : FVec Ideal S256x5632 .bf16) (y : FVec Ideal S16x5632 .bf16)
    (r : Fin 256) (l : Fin 5632) :
    (k0_pay6 (F := Ideal) i x y (ix2 r l) : EReal) =
      if 1 ≤ r.val then (x (ix2 ⟨r.val - 1, by omega⟩ l) : EReal) else if t.val = 0 then 0 else (y (ix2 15 l) : EReal) := by
  pointwise [k0_pay6, k0_pay3]
  rw [hi]
  word_cmp
  by_cases h : 1 ≤ r.val
  · rw [if_pos h]
    by_cases h2 : r.val < 8
    · rw [dif_pos h2, if_neg (by omega)]
      exact congrArg (fun q => x (ix2 q l)) (Fin.ext (by dsimp only; omega))
    · rw [dif_neg h2]
      exact congrArg (fun q => x (ix2 q l)) (Fin.ext (by dsimp only; omega))
  · rw [if_neg h, dif_pos (by omega), if_pos (by omega)]
    exact congrArg (fun v => if t.val = 0 then 0 else v) (congrArg (fun q => y (ix2 q l)) (Fin.ext (by dsimp only; omega)))

theorem coord : ∀ t : Fin cfg0.N, (grid0.coords t 0).val = t.val := (by decide +kernel : ∀ t : Fin grid0.N, _)

theorem next_blk (t : Fin cfg0.N) (r : Fin 256) (l : Fin 5632) (q : Fin 8192) (hq : q.val = 256 * t.val + r.val) :
    k0_pay5 (F := Ideal) (grid0.coords t) (iblk m c 0 t) (iblk m c 3 t) (ix2 r l) = next (fun q => d m c (ix2 q l)) q := by
  have hN : t.val < 32 := t.isLt
  rw [next_at ⟨t.val, hN⟩ _ (coord t)]
  unfold next
  by_cases h : r.val < 255
  · rw [dif_pos h, dif_pos (by omega)]
    blk_ext [iblk, V, idx t]
  · rw [dif_neg h]
    by_cases h2 : t.val = 31
    · rw [if_pos h2, dif_neg (by omega)]
    · rw [if_neg h2, dif_pos (by omega)]
      blk_ext [iblk, V, idx t]

theorem prev_blk (t : Fin cfg0.N) (r : Fin 256) (l : Fin 5632) (q : Fin 8192) (hq : q.val = 256 * t.val + r.val) :
    k0_pay6 (F := Ideal) (grid0.coords t) (iblk m c 0 t) (iblk m c 2 t) (ix2 r l) = prev (fun q => d m c (ix2 q l)) q := by
  have hN : t.val < 32 := t.isLt
  rw [prev_at ⟨t.val, hN⟩ _ (coord t)]
  unfold prev
  by_cases h : 1 ≤ r.val
  · rw [if_pos h, if_pos (by omega)]
    blk_ext [iblk, V, idx t]
  · rw [if_neg h]
    by_cases h2 : t.val = 0
    · rw [if_pos h2, if_neg (by omega)]
    · rw [if_neg h2, if_pos (by omega)]
      blk_ext [iblk, V, idx t]

/-- The row of the whole array that a point's block row is. -/
def row (t : Fin cfg0.N) (r : Fin 256) : Fin 8192 := ⟨256 * t.val + r.val, by have : t.val < 32 := t.isLt; omega⟩

theorem cw_at (t : Fin cfg0.N) (k : Fin 8) (k' : Fin 3) (hk : k.val = k'.val) (l : Fin 5632) :
    iblk m c 4 t (ix2 k l) = w m c (ix3 0 k' l) := by
  rw [show iblk m c 4 t (ix2 k l) = V m c main_v4 (ix2 k l) by blk_ext [iblk, idx t]]
  simp only [V, hostOps0, hostOps0_1, hostOps0_2, List.flatten_cons, List.flatten_nil, List.append_nil, List.cons_append, List.nil_append]
  entry_read
  simp only [StableHlo.TRef.toBuf, StableHlo.TRef.ofBuf, StableHlo.TRef.of, cast_eq]
  pointwise []
  rw [dif_pos (by omega), dif_pos (by omega)]
  exact congrArg (fun q => w m c (ix3 0 q l)) (Fin.ext hk)

theorem dx_blk (t : Fin cfg0.N) (r : Fin 256) (l : Fin 5632) :
    k0_pay7 (k0_pay3 (iblk m c 0 t)) (k0_pay5 (grid0.coords t) (iblk m c 0 t) (iblk m c 3 t))
      (k0_pay6 (grid0.coords t) (iblk m c 0 t) (iblk m c 2 t))
      (View.ld (iblk m c 4 t) (Rect.unit ![0, 0] ![1, 5632] inb_S8x5632_S1x5632_0_0))
      (View.ld (iblk m c 4 t) (Rect.unit ![1, 0] ![1, 5632] inb_S8x5632_S1x5632_1_0))
      (View.ld (iblk m c 4 t) (Rect.unit ![2, 0] ![1, 5632] inb_S8x5632_S1x5632_2_0)) (ix2 r l) = dx m c (ix2 (row t r) l) := by
  pointwise [k0_pay7, dx, k0_pay3]
  rw [next_blk m c t r l (row t r) rfl, prev_blk m c t r l (row t r) rfl, cw_at m c t 0 0 rfl l, cw_at m c t 1 1 rfl l, cw_at m c t 2 2 rfl l]
  rw [show iblk m c 0 t (ix2 r l) = d m c (ix2 (row t r) l) by unfold row; blk_ext [iblk, V, idx t]]

theorem dx_arr : (dats m 0 c).arrAt 5 cfg0.N = dx m c := by
  refine (dats m 0 c).arrAt_eq_of_covers 5 _ (by decide +kernel) fun t hf y => ?_
  blk_simp
  rw [after0_5]
  idx_vars y
  rw [show ((View.whole main_v6_0).slice (win0_5.rect t)).emb (ix2 y0 y1) = ix2 (row t y0) y1 by unfold row; blk_ext [idx t], ← dx_blk]
  by_cases h0 : t.val % 32 = 0
  · rw [outsAt0_A m c t h0]
    frame_out
    rfl
  · rw [outsAt0_B m c t h0]
    frame_out
    rfl

/-- What row `r` of the whole array's columns adds to the weights' gradient. -/
def term (r : Fin 8) (l : Fin 5632) (q : Fin 8192) : EReal :=
  match r.val with
  | 0 => next (fun q => d m c (ix2 q l)) q * g m c (ix3 0 q l)
  | 1 => d m c (ix2 q l) * g m c (ix3 0 q l)
  | 2 => prev (fun q => d m c (ix2 q l)) q * g m c (ix3 0 q l)
  | 3 => d m c (ix2 q l)
  | _ => 0

theorem d_blk (t : Fin cfg0.N) (r : Fin 256) (l : Fin 5632) : iblk m c 0 t (ix2 r l) = d m c (ix2 (row t r) l) := by
  unfold row; blk_ext [iblk, V, idx t]

theorem V5 : V m c main_v5 = shapeCast S8192x5632 (g m c) shapeCasts_S1x8192x5632_S8192x5632 := by
  simp only [V, hostOps0, hostOps0_1, hostOps0_2, List.flatten_cons, List.flatten_nil, List.append_nil, List.cons_append, List.nil_append]
  entry_read
  rfl

theorem g_blk (t : Fin cfg0.N) (r : Fin 256) (l : Fin 5632) : iblk m c 1 t (ix2 r l) = g m c (ix3 0 (row t r) l) := by
  rw [show iblk m c 1 t (ix2 r l) = V m c main_v5 (ix2 (row t r) l) by unfold row; blk_ext [iblk, idx t], V5]
  pointwise []

theorem next_row (t : Fin cfg0.N) (r : Fin 256) (l : Fin 5632) :
    k0_pay5 (F := Ideal) (grid0.coords t) (iblk m c 0 t) (iblk m c 3 t) (ix2 r l) = next (fun q => d m c (ix2 q l)) (row t r) :=
  next_blk m c t r l (row t r) rfl

theorem prev_row (t : Fin cfg0.N) (r : Fin 256) (l : Fin 5632) :
    k0_pay6 (F := Ideal) (grid0.coords t) (iblk m c 0 t) (iblk m c 2 t) (ix2 r l) = prev (fun q => d m c (ix2 q l)) (row t r) :=
  prev_blk m c t r l (row t r) rfl

theorem dw_B (t : Fin cfg0.N) (h0 : ¬t.val % 32 = 0) (r : Fin 8) (l : Fin 5632) :
    (outsAt0 m c t.val t.isLt).2 (ix2 r l) =
      (outsAt0 m c (t.val - 1) (lt_of_le_of_lt (Nat.sub_le ..) t.isLt)).2 (ix2 r l) + ∑ s : Fin 256, term m c r l (row t s) := by
  rw [outsAt0_B m c t h0]
  frame_out
  rw [read_writes_row, read_writes_row, read_writes_row, read_writes_row, View.writes_nil, Memref.IsWhole.read_unread]
  pointwise [k0_pay1, k0_pay3, k0_pay4, k0_pay8, k0_pay9, k0_pay10, term]
  fin_cases r <;> simp [next_row, prev_row, d_blk, g_blk]

theorem dw_A (t : Fin cfg0.N) (h0 : t.val % 32 = 0) (r : Fin 8) (l : Fin 5632) :
    (outsAt0 m c t.val t.isLt).2 (ix2 r l) = 0 + ∑ s : Fin 256, term m c r l (row t s) := by
  rw [outsAt0_A m c t h0]
  frame_out
  rw [canon_row, canon_row, canon_row, canon_row, canon_all]
  pointwise [k0_pay1, k0_pay2, k0_pay3, k0_pay4, k0_pay8, k0_pay9, k0_pay10, term]
  simp only [readCov_row, canon_row, canon_all]
  pointwise [k0_pay2]
  fin_cases r <;> simp [next_row, prev_row, d_blk, g_blk]

/-- The weights' and the bias's gradients. -/
def dw : FVec Ideal S8x5632 .f32 := fun i => ∑ q : Fin 8192, term m c (i 0) (i 1) q

theorem dw_arr : (dats m 0 c).arrAt 6 cfg0.N = dw m c := by
  refine (dats m 0 c).arrAt_eq_of_covers 6 _ (by decide +kernel) fun t hf y => ?_
  blk_simp
  rw [after0_6]
  idx_vars y
  rw [show ((View.whole main_v6_1).slice (win0_6.rect t)).emb (ix2 y0 y1) = ix2 y0 y1 by blk_ext [idx t]]
  refine (Pipeline.eq_sum_fin_of_reset_step_apply_of_flush (fun n h => (outsAt0 m c n h).2) 32 (fun _ => (0 : EReal))
    (fun t j => ∑ s : Fin 256, term m c (j 0) (j 1) (row t s)) (fun t h j => ?_) (fun t h j => ?_) t ((flush0_6 t).mp hf) _).trans ?_
  · idx_vars j
    exact dw_A m c t h j0 j1
  · idx_vars j
    exact dw_B m c t h j0 j1
  · rw [zero_add]
    have hd : t.val / 32 = 0 := Nat.div_eq_of_lt t.isLt
    refine Fin.sum_mul_add_congr fun s k hl => ?_
    exact congrArg (term m c y0 y1) (Fin.ext (by unfold row; dsimp only; omega))

end Cert.ConvIdeal.Closed

end
-- ==== Proof.ConvRef.lean ====
module

public import proofs.«01_k».proof.Proof.Gen.ConvRefIdeal.Read
public import proofs.«01_k».proof.Proof.Common

@[expose] public section

set_option maxRecDepth 16384

noncomputable section

namespace Cert.ConvRefIdeal.Closed

open Cert.ConvRefIdeal Cert.ConvRefIdeal.Gen Cert.ConvRefIdeal.Read Idealize.ShloMosaic Idealize.ShloMosaic.TcCoe Idealize.SL.Sem Cert.Common

theorem dx_at (w : FVec Ideal S1x3x5632 .f32) (d : FVec Ideal S8192x5632 .bf16) (r : Fin 8192) (l : Fin 5632) :
    val_main_v70 (F := Ideal) w d (ix2 r l) =
      w (ix3 0 0 l) * next (fun q => d (ix2 q l)) r + w (ix3 0 1 l) * d (ix2 r l) + w (ix3 0 2 l) * prev (fun q => d (ix2 q l)) r := by
  pointwise [val_main_v70, val_main_v69, val_main_v67, val_main_v65, val_main_v64, val_main_v59, val_main_v58, val_main_v51, val_main_v50, val_main_v45, val_main_v44, val_main_v40, val_main_v36, val_main_v35, val_main_v31, val_main_v30, val_main_v26, val_main_v25, val_main_v24, val_main_v19, val_main_v18, val_main_v17, val_main_v10, val_main_v9, val_main_v8, val_main_v0, val_main_cst_6, val_main_cst_10, val_main_cst_16]
  rw [dite_next (fun q => d (ix2 q l) * w (ix3 0 0 l)) r, next_mul,
    show (dite _ _ _ : EReal) = prev (fun q => d (ix2 q l) * w (ix3 0 2 l)) r from ?_, prev_mul, mul_comm (d (ix2 r l))]
  · ac_nf
  · unfold prev
    refine dite_congr (propext (by omega)) (fun h => ?_) (fun _ => rfl)
    congr 4; omega

theorem dw_at (g : FVec Ideal S1x8192x5632 .f32) (d : FVec Ideal S8192x5632 .bf16) (r : Fin 8) (l : Fin 5632) :
    val_main_v73 (F := Ideal) g d (ix2 r l) =
      match r.val with
      | 0 => ∑ q : Fin 8192, next (fun q => d (ix2 q l)) q * g (ix3 0 q l)
      | 1 => ∑ q : Fin 8192, d (ix2 q l) * g (ix3 0 q l)
      | 2 => ∑ q : Fin 8192, prev (fun q => d (ix2 q l)) q * g (ix3 0 q l)
      | 3 => ∑ q : Fin 8192, d (ix2 q l)
      | _ => 0 := by
  pointwise [val_main_v73, val_main_v72, val_main_v71, val_main_v63, val_main_v62, val_main_v61, val_main_v60, val_main_v57, val_main_v56, val_main_v55, val_main_v54, val_main_v53, val_main_v52, val_main_v49, val_main_v48, val_main_v47, val_main_v46, val_main_v43, val_main_v42, val_main_v41, val_main_v39, val_main_v38, val_main_v37, val_main_v34, val_main_v33, val_main_v32, val_main_v31, val_main_v30, val_main_v23, val_main_v16, val_main_v7, val_main_v4, val_main_v3, val_main_v2, val_main_cst, val_main_cst_0, val_main_cst_3, val_main_cst_4, val_main_cst_5, val_main_cst_7, val_main_cst_8, val_main_cst_9, val_main_cst_11, val_main_cst_12, val_main_cst_13, val_main_cst_14, val_main_cst_15, val_main_cst_17]
  simp only [Fin.sum_univ_one]
  fin_cases r
  all_goals simp
  · rw [sum_next_mul]
    refine Finset.sum_congr rfl fun x _ => ?_
    by_cases hx : x = 0
    · subst hx; simp [prev]
    · have h1 : 1 ≤ x.val := Nat.one_le_iff_ne_zero.mpr fun e => hx (Fin.ext e)
      rw [if_neg hx, dif_pos (by omega), prev, if_pos h1]
  · exact Finset.sum_congr rfl fun x _ => mul_comm _ _
  · rw [← sum_next_mul]
    refine Finset.sum_congr rfl fun x _ => ?_
    rw [dite_next (fun q => g (ix3 0 q l) * d (ix2 x l)) x, next_mul, mul_comm]

end Cert.ConvRefIdeal.Closed

end
-- ==== Proof.Reals.lean ====
/- Extended reals that are real: sums, maxima and powers of two of finite values stay finite. -/
module

public import Idealize.ShloMosaic.PureOps.Ideal
public import Idealize.ShloMosaic.Lib.Pointwise

@[expose] public section

noncomputable section

namespace Cert.Reals

open Idealize.ShloMosaic

/-- A finite sum of real values is the real sum. -/
theorem sum_coe {ι : Type*} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-- A sum of products of real values. -/
theorem dot_coe {ι : Type*} [Fintype ι] {x y : ι → EReal} {f g : ι → ℝ} (hx : ∀ i, x i = (f i : EReal))
    (hy : ∀ i, y i = (g i : EReal)) : (∑ i, x i * y i) = ((∑ i, f i * g i : ℝ) : EReal) := by
  rw [← sum_coe]; exact Finset.sum_congr rfl fun i _ => by rw [hx, hy, ← EReal.coe_mul]

/-- The maximum of finitely many real values over a nonempty index set, from minus infinity, is real. -/
theorem fold_max_coe {ι : Type*} [Fintype ι] [Nonempty ι] (f : ι → ℝ) :
    ∃ r : ℝ, Finset.univ.fold max (⊥ : EReal) (fun i => (f i : EReal)) = (r : EReal) := by
  classical
  suffices h : ∀ s : Finset ι, s.Nonempty → ∃ r : ℝ, s.fold max (⊥ : EReal) (fun i => (f i : EReal)) = (r : EReal) from
    h _ Finset.univ_nonempty
  intro s hs
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

/-- A quotient of real values by a nonzero one. -/
theorem div_coe' {y : ℝ} (h : y ≠ 0) (x : ℝ) : Ideal.div (x : EReal) (y : EReal) = ((x / y : ℝ) : EReal) := by
  rw [Ideal.div_coe h, ← EReal.coe_mul, mul_one_div]

theorem sub_coe (x y : ℝ) : (x : EReal) - (y : EReal) = ((x - y : ℝ) : EReal) := (EReal.coe_sub x y).symm

theorem exp2_sub (x y : ℝ) : Ideal.exp2 ((x : EReal) - (y : EReal)) = ((2 ^ (x - y) : ℝ) : EReal) := by
  rw [sub_coe]; rfl

/-- A value below infinity in magnitude is real. -/
theorem real_of_abs_lt {x : EReal} (h : max x (-x) < ⊤) : ∃ r : ℝ, x = (r : EReal) := by
  induction x with
  | bot => simp at h
  | top => simp at h
  | coe r => exact ⟨r, rfl⟩

end Cert.Reals

end
-- ==== Proof.AttnFwdPure.lean ====
/- One trip of the attention's loop over key blocks, read at an index over real blocks. -/
module

public import proofs.«01_k».proof.Proof.Gen.AttnIdeal.Skeleton
public import proofs.«01_k».proof.Proof.Reals
public import Idealize.ShloMosaic.Lib.Pointwise

@[expose] public section

set_option maxRecDepth 16384

noncomputable section

namespace Cert.AttnIdeal.Fwd

open Idealize.ShloMosaic Idealize.ShloMosaic.TcCoe
open Cert.AttnIdeal Cert.AttnIdeal.Gen Cert.Reals

variable {q : FVec Ideal S4096x128 .bf16} {k v : FVec Ideal S512x128 .bf16} {m l : FVec Ideal S1x4096 .f32}
  {acc : FVec Ideal S1x128x4096 .f32}
  {Q : Fin 4096 → Fin 128 → ℝ} {K V : Fin 512 → Fin 128 → ℝ}

/-- The score of a query against a key of the block. -/
def score (K : Fin 512 → Fin 128 → ℝ) (Q : Fin 4096 → Fin 128 → ℝ) (a : Fin 512) (y : Fin 4096) : ℝ := ∑ i, K a i * Q y i

/-- The bit pattern of minus infinity. -/
theorem neg_inf : Ideal.ofBits .f32 4286578688#32 = (⊥ : EReal) := by simp [Ideal.ofBits, Ideal.ieee]

theorem pay4_at (hq : ∀ r i, q (ix2 r i) = (Q r i : EReal)) (hk : ∀ r i, k (ix2 r i) = (K r i : EReal)) (a : Fin 512)
    (y : Fin 4096) : k0_pay4 (F := Ideal) q k (ix2 a y) = ((score K Q a y : ℝ) : EReal) := by
  pointwise [k0_pay4]
  exact dot_coe (hk a) (hq y)

/-- The new running maximum is real. -/
theorem pay5_at (hq : ∀ r i, q (ix2 r i) = (Q r i : EReal)) (hk : ∀ r i, k (ix2 r i) = (K r i : EReal)) (y : Fin 4096)
    {μ : ℝ} (hm : m (ix2 0 y) = (μ : EReal)) : ∃ ν : ℝ, k0_pay5 (F := Ideal) q m k (ix2 0 y) = (ν : EReal) := by
  obtain ⟨r, hr⟩ := fold_max_coe fun a : Fin 512 => score K Q a y
  refine ⟨max μ r, ?_⟩
  pointwise [k0_pay5]
  rw [neg_inf, hm]
  simp only [pay4_at hq hk]
  rw [hr]
  exact (EReal.coe_strictMono.monotone.map_max).symm

theorem pay6_at (y : Fin 4096) {μ ν : ℝ} (hm : m (ix2 0 y) = (μ : EReal))
    (hν : k0_pay5 (F := Ideal) q m k (ix2 0 y) = (ν : EReal)) :
    k0_pay6 (F := Ideal) q m k (ix2 0 y) = ((2 ^ (μ - ν) : ℝ) : EReal) := by
  pointwise [k0_pay6]
  rw [hm, hν]; exact exp2_sub _ _

theorem pay7_at (hq : ∀ r i, q (ix2 r i) = (Q r i : EReal)) (hk : ∀ r i, k (ix2 r i) = (K r i : EReal)) (a : Fin 512)
    (y : Fin 4096) {ν : ℝ} (hν : k0_pay5 (F := Ideal) q m k (ix2 0 y) = (ν : EReal)) :
    k0_pay7 (F := Ideal) q m k (ix2 a y) = ((2 ^ (score K Q a y - ν) : ℝ) : EReal) := by
  pointwise [k0_pay7]
  rw [hν, pay4_at hq hk]; exact exp2_sub _ _

/-- The running sum after a block: the old one rescaled, plus the block's weights. -/
theorem pay8_at (hq : ∀ r i, q (ix2 r i) = (Q r i : EReal)) (hk : ∀ r i, k (ix2 r i) = (K r i : EReal)) (y : Fin 4096)
    {μ ν lam : ℝ} (hm : m (ix2 0 y) = (μ : EReal)) (hν : k0_pay5 (F := Ideal) q m k (ix2 0 y) = (ν : EReal))
    (hl : l (ix2 0 y) = (lam : EReal)) :
    k0_pay8 (F := Ideal) q m l k (ix2 0 y) = ((2 ^ (μ - ν) * lam + ∑ a, 2 ^ (score K Q a y - ν) : ℝ) : EReal) := by
  pointwise [k0_pay8]
  rw [hl, pay6_at y hm hν]
  simp only [pay7_at hq hk _ y hν]
  rw [sum_coe, ← EReal.coe_mul, ← EReal.coe_add]

/-- The running weighted sum of values after a block. -/
theorem pay9_at (hq : ∀ r i, q (ix2 r i) = (Q r i : EReal)) (hk : ∀ r i, k (ix2 r i) = (K r i : EReal))
    (hv : ∀ r i, v (ix2 r i) = (V r i : EReal)) (d : Fin 128) (y : Fin 4096)
    {μ ν al : ℝ} (hm : m (ix2 0 y) = (μ : EReal)) (hν : k0_pay5 (F := Ideal) q m k (ix2 0 y) = (ν : EReal))
    (ha : acc (ix3 0 d y) = (al : EReal)) :
    k0_pay9 (F := Ideal) q m v k acc (ix3 0 d y)
      = ((2 ^ (μ - ν) * al + ∑ a, V a d * 2 ^ (score K Q a y - ν) : ℝ) : EReal) := by
  pointwise [k0_pay9, k0_pay3]
  rw [ha, pay6_at y hm hν]
  rw [dot_coe (fun a => hv a d) (fun a => pay7_at hq hk a y hν), ← EReal.coe_mul, ← EReal.coe_add]

/-- The second head's operations are the first's. -/
theorem pay11_eq : k0_pay11 (F := Ideal) q m k = k0_pay5 q m k := rfl

theorem pay20_eq : k0_pay20 (F := Ideal) l (k0_pay12 q m k) (k0_pay13 q m k) = k0_pay8 q m l k := rfl

theorem pay21_eq : k0_pay21 (F := Ideal) (k0_pay3 v) (k0_pay12 q m k) (k0_pay13 q m k) acc = k0_pay9 q m v k acc := rfl

/-- The lane test of the two heads of a pair. -/
theorem lanes_lt : ∀ d : Fin 128, IntOp.cmpi .slt (BitVec.ofNat 32 d.val) 64#32 = if d.val < 64 then 1#1 else 0#1 := by decide

/-- The named constant, the reciprocal of the logarithm of two. -/
theorem log2e_eq : (Named.named κ "log2e" 1069066811#32 : Ideal .f32) = (((Real.log 2)⁻¹ : ℝ) : EReal) := rfl

/-- The logarithm to base two of a positive real. -/
theorem log2_at {lam : ℝ} (p : 0 < lam) (μ : ℝ) : (μ : EReal) + Ideal.log (lam : EReal) * (((Real.log 2)⁻¹ : ℝ) : EReal)
    = ((μ + Real.log lam / Real.log 2 : ℝ) : EReal) := by
  rw [Ideal.log_coe, if_neg (not_le.mpr p), ← EReal.coe_mul, ← EReal.coe_add, div_eq_mul_inv]

/-- The normalised output block. -/
theorem pay22_at {l0 l1 : FVec Ideal S1x4096 .f32} {a0 a1 : FVec Ideal S1x128x4096 .f32} {L0 L1 : Fin 4096 → ℝ}
    {A0 A1 : Fin 128 → Fin 4096 → ℝ} (h0 : ∀ y, l0 (ix2 0 y) = (L0 y : EReal)) (h1 : ∀ y, l1 (ix2 0 y) = (L1 y : EReal))
    (k0 : ∀ d y, a0 (ix3 0 d y) = (A0 d y : EReal)) (k1 : ∀ d y, a1 (ix3 0 d y) = (A1 d y : EReal))
    (p0 : ∀ y, L0 y ≠ 0) (p1 : ∀ y, L1 y ≠ 0) (y : Fin 4096) (d : Fin 128) :
    k0_pay22 (F := Ideal) l0 l1 a0 a1 (ix2 y d)
      = ((if d.val < 64 then A0 d y / L0 y else A1 d y / L1 y : ℝ) : EReal) := by
  pointwise [k0_pay22]
  rw [h0, h1, k0, k1, div_coe' (p0 y), div_coe' (p1 y), lanes_lt]
  by_cases h : d.val < 64 <;> simp [h, Scalar.select]

theorem pay23_at {μ lam : ℝ} (y : Fin 4096) (hm : m (ix2 0 y) = (μ : EReal)) (hl : l (ix2 0 y) = (lam : EReal))
    (p : 0 < lam) : k0_pay1 (F := Ideal) (k0_pay23 m l) (ix3 0 0 y) = ((μ + Real.log lam / Real.log 2 : ℝ) : EReal) := by
  pointwise [k0_pay1, k0_pay23]
  rw [hm, hl, log2e_eq, log2_at p]

theorem pay2_at {μ lam : ℝ} (y : Fin 4096) (hm : m (ix2 0 y) = (μ : EReal)) (hl : l (ix2 0 y) = (lam : EReal))
    (p : 0 < lam) : k0_pay2 (F := Ideal) m l (ix3 0 0 y) = ((μ + Real.log lam / Real.log 2 : ℝ) : EReal) := by
  pointwise [k0_pay2]
  rw [hm, hl, log2e_eq, log2_at p]

/-- The bit pattern the running maximum starts from is a real number. -/
theorem neg_big : ∃ μ : ℝ, Ideal.ofBits .f32 4048155338#32 = (μ : EReal) :=
  ⟨_, by simp [Ideal.ofBits, Ideal.ieee, -EReal.coe_mul, -EReal.coe_neg]; rfl⟩

/-- The running maximum starts at a real number. -/
theorem pay17_at : ∃ μ : ℝ, ∀ y, k0_pay17 (F := Ideal) (ix2 0 y) = (μ : EReal) := by
  obtain ⟨μ, h⟩ := neg_big
  refine ⟨μ, fun y => ?_⟩
  pointwise [k0_pay17]
  exact h

theorem pay18_at (y : Fin 4096) : k0_pay18 (F := Ideal) (ix2 0 y) = ((0 : ℝ) : EReal) := by
  pointwise [k0_pay18]
  simp

theorem pay16_at (h : Fin 2) (d : Fin 128) (y : Fin 4096) : k0_pay16 (F := Ideal) (ix3 h d y) = ((0 : ℝ) : EReal) := by
  pointwise [k0_pay16]
  simp

theorem pay14_eq : k0_pay14 (F := Ideal) q = q := by
  funext i; idx_vars i; pointwise [k0_pay14]

theorem pay15_eq : k0_pay15 (F := Ideal) q = q := by
  funext i; idx_vars i; pointwise [k0_pay15]

end Cert.AttnIdeal.Fwd

end
-- ==== Proof.AttnFwdLoop.lean ====
/- The attention's loop over key blocks: what one trip yields and leaves, and the running values after each trip. -/
module

public import proofs.«01_k».proof.Proof.Gen.AttnIdeal.Frame
public import proofs.«01_k».proof.Proof.AttnFwdPure
public import Idealize.ShloMosaic.Lib.WritesUnit
public import Idealize.ShloMosaic.Lib.Pipeline.ValueKit

@[expose] public section

set_option maxRecDepth 16384

noncomputable section

namespace Cert.AttnIdeal.Fwd

open Idealize.ShloMosaic Idealize.ShloMosaic.TcCoe Idealize.SL.Sem
open Cert.AttnIdeal Cert.AttnIdeal.Gen Cert.Reals

variable (c : Dev nD) (i : grid0.Coords) (arg2 : Memref sig .tc .vmem S4096x256 .bf16) (harg2 : arg2.IsWhole)
  (arg3 : Memref sig .tc .vmem S8192x256 .bf16) (harg3 : arg3.IsWhole) (arg4 : Memref sig .tc .vmem S8192x128 .bf16)
  (harg4 : arg4.IsWhole) (arg5 : Memref sig .tc .vmem S4096x128 .f32) (harg5 : arg5.IsWhole)
  (arg6 : Memref sig .tc .vmem S1x2x4096 .f32) (harg6 : arg6.IsWhole) (arg7 : Memref sig .tc .vmem S2x128x4096 .f32)
  (harg7 : arg7.IsWhole) (v0 v2 : Vec Ideal S4096x128 .bf16) (x1 : Vec Ideal S8192x256 .bf16) (x2 : Vec Ideal S8192x128 .bf16)

theorem off1_eq : ∀ t : Fin k0_t1_loop.trips, k0_off1 t = ![512 * t.val, 0] := by decide +kernel

theorem off2_eq : ∀ t : Fin k0_t1_loop.trips, k0_off2 t = ![512 * t.val, 0] := by decide +kernel

theorem off3_eq : ∀ t : Fin k0_t1_loop.trips, k0_off3 t = ![512 * t.val, 128] := by decide +kernel

/-- The block of keys or values trip `t` reads: rows from `512 t`, columns from `o`. -/
def blk {n : ℕ} (x : FVec Ideal ⟨2, ![8192, n]⟩ .bf16) (t o : ℕ) (ht : t < 16) (ho : o + 128 ≤ n) : FVec Ideal S512x128 .bf16 :=
  fun j => x (ix2 ⟨512 * t + (j 0).val, by have : (j 0).val < 512 := (j 0).isLt; omega⟩ ⟨o + (j 1).val, by have : (j 1).val < 128 := (j 1).isLt; omega⟩)

theorem trips_lt (t : Fin k0_t1_loop.trips) : t.val < 16 := Nat.lt_of_lt_of_le t.isLt k0_t1_abs.2.1

theorem load_k0 (t : Fin k0_t1_loop.trips) :
    (arg3.view.readAt (Elt Ideal) (Rect.unit (s := S8192x256) (k0_off2 t) S512x128.size (k0_off2_inb t)).toLoadRect (harg3.unread x1)
      : FVec Ideal S512x128 .bf16) = blk x1 t.val 0 (trips_lt t) (by norm_num) := by
  funext j
  rw [View.readAt_eq_ld, harg3.read_unread]
  refine View.ld_unit_apply_of _ _ _ _ _ _ fun a => ?_
  refine Eq.trans ?_ (congrArg (· + (j a).val) (congrFun (off2_eq t) a).symm)
  match a with
  | ⟨0, _⟩ => rfl
  | ⟨1, _⟩ => rfl

theorem load_k1 (t : Fin k0_t1_loop.trips) :
    (arg3.view.readAt (Elt Ideal) (Rect.unit (s := S8192x256) (k0_off3 t) S512x128.size (k0_off3_inb t)).toLoadRect (harg3.unread x1)
      : FVec Ideal S512x128 .bf16) = blk x1 t.val 128 (trips_lt t) (by norm_num) := by
  funext j
  rw [View.readAt_eq_ld, harg3.read_unread]
  refine View.ld_unit_apply_of _ _ _ _ _ _ fun a => ?_
  refine Eq.trans ?_ (congrArg (· + (j a).val) (congrFun (off3_eq t) a).symm)
  match a with
  | ⟨0, _⟩ => rfl
  | ⟨1, _⟩ => rfl

theorem load_v (t : Fin k0_t1_loop.trips) :
    (arg4.view.readAt (Elt Ideal) (Rect.unit (s := S8192x128) (k0_off1 t) S512x128.size (k0_off1_inb t)).toLoadRect (harg4.unread x2)
      : FVec Ideal S512x128 .bf16) = blk x2 t.val 0 (trips_lt t) (by norm_num) := by
  funext j
  rw [View.readAt_eq_ld, harg4.read_unread]
  refine View.ld_unit_apply_of _ _ _ _ _ _ fun a => ?_
  refine Eq.trans ?_ (congrArg (· + (j a).val) (congrFun (off1_eq t) a).symm)
  match a with
  | ⟨0, _⟩ => rfl
  | ⟨1, _⟩ => rfl

/-- The plane of the scratch array that one head accumulates in. -/
def plane (z : FVec Ideal S2x128x4096 .f32) (h : Fin 2) : FVec Ideal S1x128x4096 .f32 := fun j => z (ix3 h (j 1) (j 2))

theorem load_a0 (f : BufTy.Contents (Elt Ideal) arg7.view.ty) :
    (arg7.view.readAt (Elt Ideal) (Rect.unit (s := S2x128x4096) ![0, 0, 0] S1x128x4096.size inb_S2x128x4096_S1x128x4096_0_0_0).toLoadRect f
      : FVec Ideal S1x128x4096 .f32) = plane (arg7.view.read (Elt Ideal) f) 0 := by
  funext j
  rw [View.readAt_eq_ld]
  refine View.ld_unit_apply_of _ _ _ _ _ _ fun a => ?_
  match a with
  | ⟨0, _⟩ => have : (j 0).val < 1 := (j 0).isLt; show 0 = 0 + (j 0).val; omega
  | ⟨1, _⟩ => exact (Nat.zero_add _).symm
  | ⟨2, _⟩ => exact (Nat.zero_add _).symm

theorem load_a1 (f : BufTy.Contents (Elt Ideal) arg7.view.ty) :
    (arg7.view.readAt (Elt Ideal) (Rect.unit (s := S2x128x4096) ![1, 0, 0] S1x128x4096.size inb_S2x128x4096_S1x128x4096_1_0_0).toLoadRect f
      : FVec Ideal S1x128x4096 .f32) = plane (arg7.view.read (Elt Ideal) f) 1 := by
  funext j
  rw [View.readAt_eq_ld]
  refine View.ld_unit_apply_of _ _ _ _ _ _ fun a => ?_
  match a with
  | ⟨0, _⟩ => have : (j 0).val < 1 := (j 0).isLt; show 1 = 1 + (j 0).val; omega
  | ⟨1, _⟩ => exact (Nat.zero_add _).symm
  | ⟨2, _⟩ => exact (Nat.zero_add _).symm

/-- What a trip yields: the running maximum and sum of each head. -/
theorem tripR_eq (t : Fin k0_t1_loop.trips)
    (acc : FVec Ideal S1x4096 .f32 × FVec Ideal S1x4096 .f32 × FVec Ideal S1x4096 .f32 × FVec Ideal S1x4096 .f32)
    (f : BufTy.Contents (Elt Ideal) arg7.view.ty) :
    tripR_k0_t1 (F := Ideal) Variants.none c none i arg2 harg2 arg3 harg3 arg4 harg4 arg5 harg5 arg6 harg6 arg7 harg7 v0 v2
      (harg3.unread x1) (harg4.unread x2) t acc f
      = (k0_pay5 v0 acc.1 (blk x1 t.val 0 (trips_lt t) (by norm_num)), k0_pay8 v0 acc.1 acc.2.1 (blk x1 t.val 0 (trips_lt t) (by norm_num)),
          k0_pay5 v2 acc.2.2.1 (blk x1 t.val 128 (trips_lt t) (by norm_num)),
          k0_pay8 v2 acc.2.2.1 acc.2.2.2 (blk x1 t.val 128 (trips_lt t) (by norm_num))) := by
  unfold tripR_k0_t1 trip_k0_t1
  dsimp only
  rw [← load_k0 arg3 harg3 x1 t, ← load_k1 arg3 harg3 x1 t]
  conv_rhs => rw [← pay14_eq (q := v0), ← pay15_eq (q := v2)]
  rfl

/-- What a trip leaves of one head's running weighted sum. -/
theorem tripL_eq (t : Fin k0_t1_loop.trips)
    (acc : FVec Ideal S1x4096 .f32 × FVec Ideal S1x4096 .f32 × FVec Ideal S1x4096 .f32 × FVec Ideal S1x4096 .f32)
    (f g : BufTy.Contents (Elt Ideal) arg7.view.ty) (L : List (View.Piece (Elt Ideal) S2x128x4096 .f32)) :
    plane (arg7.view.read (Elt Ideal) (arg7.view.writes (Elt Ideal) g
      (tripL_k0_t1 (F := Ideal) Variants.none c none i arg2 harg2 arg3 harg3 arg4 harg4 arg5 harg5 arg6 harg6 arg7 harg7 v0 v2
        (harg3.unread x1) (harg4.unread x2) t acc f ++ L))) 0
      = k0_pay9 v0 acc.1 (blk x2 t.val 0 (trips_lt t) (by norm_num)) (blk x1 t.val 0 (trips_lt t) (by norm_num)) (plane (arg7.view.read (Elt Ideal) f) 0) := by
  unfold tripL_k0_t1 trip_k0_t1
  dsimp only
  rw [← load_k0 arg3 harg3 x1 t, ← load_v arg4 harg4 x2 t, ← load_a0 arg7 f]
  conv_rhs => rw [← pay14_eq (q := v0)]
  funext j
  have h0 : (j 0).val = 0 := Nat.lt_one_iff.mp (j 0).isLt
  refine (View.read_writes_cons_unit_of_not_mem _ _ _ _ _ _ rfl 0 (.inl Nat.zero_lt_one)).trans ?_
  refine (View.read_writes_cons_unit_of_mem _ _ _ _ _ _ j rfl fun a => ?_).trans (congrFun (?_ : @Eq (FVec Ideal S1x128x4096 .f32) _ _) j)
  swap; · rfl
  match a with
  | ⟨0, _⟩ => exact (congrArg (0 + ·) h0).symm
  | ⟨1, _⟩ => exact (Nat.zero_add _).symm
  | ⟨2, _⟩ => exact (Nat.zero_add _).symm

theorem tripL_eq1 (t : Fin k0_t1_loop.trips)
    (acc : FVec Ideal S1x4096 .f32 × FVec Ideal S1x4096 .f32 × FVec Ideal S1x4096 .f32 × FVec Ideal S1x4096 .f32)
    (f g : BufTy.Contents (Elt Ideal) arg7.view.ty) (L : List (View.Piece (Elt Ideal) S2x128x4096 .f32)) :
    plane (arg7.view.read (Elt Ideal) (arg7.view.writes (Elt Ideal) g
      (tripL_k0_t1 (F := Ideal) Variants.none c none i arg2 harg2 arg3 harg3 arg4 harg4 arg5 harg5 arg6 harg6 arg7 harg7 v0 v2
        (harg3.unread x1) (harg4.unread x2) t acc f ++ L))) 1
      = k0_pay9 v2 acc.2.2.1 (blk x2 t.val 0 (trips_lt t) (by norm_num)) (blk x1 t.val 128 (trips_lt t) (by norm_num)) (plane (arg7.view.read (Elt Ideal) f) 1) := by
  unfold tripL_k0_t1 trip_k0_t1
  dsimp only
  rw [← load_k1 arg3 harg3 x1 t, ← load_v arg4 harg4 x2 t, ← load_a1 arg7 f]
  conv_rhs => rw [← pay15_eq (q := v2)]
  funext j
  have h0 : (j 0).val = 0 := Nat.lt_one_iff.mp (j 0).isLt
  refine (View.read_writes_cons_unit_of_mem _ _ _ _ _ _ j rfl fun a => ?_).trans (congrFun (?_ : @Eq (FVec Ideal S1x128x4096 .f32) _ _) j)
  swap; · rfl
  match a with
  | ⟨0, _⟩ => exact (congrArg (1 + ·) h0).symm
  | ⟨1, _⟩ => exact (Nat.zero_add _).symm
  | ⟨2, _⟩ => exact (Nat.zero_add _).symm

/-- The score of a query against key `κ`, over the columns from `o`. -/
def sc (X1 : ℕ → ℕ → ℝ) (o : ℕ) (Q : Fin 4096 → Fin 128 → ℝ) (κ : ℕ) (y : Fin 4096) : ℝ := ∑ i : Fin 128, X1 κ (o + i.val) * Q y i

/-- One head after `n` trips: some shift, and the sums of the weights and of the weighted values relative to it. -/
def Inv (X1 X2 : ℕ → ℕ → ℝ) (o : ℕ) (Q : Fin 4096 → Fin 128 → ℝ) (n : ℕ) (m l : FVec Ideal S1x4096 .f32) (a : FVec Ideal S1x128x4096 .f32) : Prop :=
  ∀ y, ∃ μ : ℝ, m (ix2 0 y) = (μ : EReal)
    ∧ l (ix2 0 y) = ((∑ j ∈ Finset.range n, ∑ b : Fin 512, (2:ℝ) ^ (sc X1 o Q (512 * j + b.val) y - μ) : ℝ) : EReal)
    ∧ ∀ d : Fin 128, a (ix3 0 d y)
        = ((∑ j ∈ Finset.range n, ∑ b : Fin 512, X2 (512 * j + b.val) d.val * (2:ℝ) ^ (sc X1 o Q (512 * j + b.val) y - μ) : ℝ) : EReal)

theorem two_rpow (μ ν s : ℝ) : (2:ℝ) ^ (μ - ν) * 2 ^ (s - μ) = 2 ^ (s - ν) := by
  rw [← Real.rpow_add two_pos]; congr 1; ring

variable {x1 x2}
variable {X1 X2 : ℕ → ℕ → ℝ} (h1 : ∀ r i, x1 (ix2 r i) = (X1 r.val i.val : EReal)) (h2 : ∀ r i, x2 (ix2 r i) = (X2 r.val i.val : EReal))

include h1 h2 in
/-- One trip of one head. -/
theorem Inv.step {o : ℕ} (ho : o + 128 ≤ 256) {q : FVec Ideal S4096x128 .bf16} {Q : Fin 4096 → Fin 128 → ℝ}
    (hq : ∀ r i, q (ix2 r i) = (Q r i : EReal)) {n : ℕ} (hn : n < 16) {m l : FVec Ideal S1x4096 .f32} {a : FVec Ideal S1x128x4096 .f32}
    (h : Inv X1 X2 o Q n m l a) :
    Inv X1 X2 o Q (n + 1) (k0_pay5 q m (blk x1 n o hn ho)) (k0_pay8 q m l (blk x1 n o hn ho))
      (k0_pay9 q m (blk x2 n 0 hn (by norm_num)) (blk x1 n o hn ho) a) := by
  intro y
  obtain ⟨μ, hm, hl, ha⟩ := h y
  have hk : ∀ r i, blk x1 n o hn ho (ix2 r i) = ((X1 (512 * n + r.val) (o + i.val) : ℝ) : EReal) := fun r i => h1 _ _
  have hv : ∀ r i, blk x2 n 0 hn (by norm_num) (ix2 r i) = ((X2 (512 * n + r.val) i.val : ℝ) : EReal) := fun r i =>
    (h2 _ _).trans (by simp)
  obtain ⟨ν, hν⟩ := pay5_at hq hk y hm
  refine ⟨ν, hν, ?_, fun d => ?_⟩
  · refine (pay8_at hq hk y hm hν hl).trans (congrArg _ ?_)
    rw [Finset.sum_range_succ, Finset.mul_sum]
    simp only [Finset.mul_sum, two_rpow]
    rfl
  · refine (pay9_at hq hk hv d y hm hν (ha d)).trans (congrArg _ ?_)
    rw [Finset.sum_range_succ, Finset.mul_sum]
    simp only [Finset.mul_sum, mul_left_comm _ (X2 _ _), two_rpow]
    rfl

include h1 h2 in
/-- Both heads after `n` trips. -/
theorem inv_all (G : BufTy.Contents (Elt Ideal) arg7.view.ty) (hG : ∀ h d y, arg7.view.read (Elt Ideal) G (ix3 h d y) = ((0 : ℝ) : EReal))
    {Q0 Q1 : Fin 4096 → Fin 128 → ℝ} (hq0 : ∀ r i, v0 (ix2 r i) = (Q0 r i : EReal)) (hq1 : ∀ r i, v2 (ix2 r i) = (Q1 r i : EReal)) :
    ∀ n, n ≤ 16 →
      Inv X1 X2 0 Q0 n (st_k0_t1 (F := Ideal) Variants.none c none i arg2 harg2 arg3 harg3 arg4 harg4 arg5 harg5 arg6 harg6 arg7 harg7 v0 v2 (harg3.unread x1) (harg4.unread x2) G (k0_pay17, k0_pay18, k0_pay17, k0_pay18) n).1.1
        (st_k0_t1 (F := Ideal) Variants.none c none i arg2 harg2 arg3 harg3 arg4 harg4 arg5 harg5 arg6 harg6 arg7 harg7 v0 v2 (harg3.unread x1) (harg4.unread x2) G (k0_pay17, k0_pay18, k0_pay17, k0_pay18) n).1.2.1
        (plane (arg7.view.read (Elt Ideal) (arg7.view.writes (Elt Ideal) G (st_k0_t1 (F := Ideal) Variants.none c none i arg2 harg2 arg3 harg3 arg4 harg4 arg5 harg5 arg6 harg6 arg7 harg7 v0 v2 (harg3.unread x1) (harg4.unread x2) G (k0_pay17, k0_pay18, k0_pay17, k0_pay18) n).2)) 0)
      ∧ Inv X1 X2 128 Q1 n (st_k0_t1 (F := Ideal) Variants.none c none i arg2 harg2 arg3 harg3 arg4 harg4 arg5 harg5 arg6 harg6 arg7 harg7 v0 v2 (harg3.unread x1) (harg4.unread x2) G (k0_pay17, k0_pay18, k0_pay17, k0_pay18) n).1.2.2.1
        (st_k0_t1 (F := Ideal) Variants.none c none i arg2 harg2 arg3 harg3 arg4 harg4 arg5 harg5 arg6 harg6 arg7 harg7 v0 v2 (harg3.unread x1) (harg4.unread x2) G (k0_pay17, k0_pay18, k0_pay17, k0_pay18) n).1.2.2.2
        (plane (arg7.view.read (Elt Ideal) (arg7.view.writes (Elt Ideal) G (st_k0_t1 (F := Ideal) Variants.none c none i arg2 harg2 arg3 harg3 arg4 harg4 arg5 harg5 arg6 harg6 arg7 harg7 v0 v2 (harg3.unread x1) (harg4.unread x2) G (k0_pay17, k0_pay18, k0_pay17, k0_pay18) n).2)) 1) := by
  obtain ⟨μ, hμ⟩ := pay17_at
  intro n
  induction n with
  | zero =>
    intro _
    constructor <;> refine fun y => ⟨μ, hμ y, (pay18_at y).trans ?_, fun d => (hG _ _ _).trans ?_⟩ <;> simp
  | succ n ih =>
    intro hn
    obtain ⟨a, b⟩ := ih (by omega)
    have e := st_k0_t1_succ (F := Ideal) Variants.none c none i arg2 harg2 arg3 harg3 arg4 harg4 arg5 harg5 arg6 harg6 arg7 harg7 v0 v2 (harg3.unread x1) (harg4.unread x2) G (k0_pay17, k0_pay18, k0_pay17, k0_pay18) ⟨n, by exact hn⟩
    dsimp only at e
    rw [e, tripR_eq, tripL_eq, tripL_eq1]
    exact ⟨a.step h1 h2 (by norm_num) hq0 (by omega), b.step h1 h2 (by norm_num) hq1 (by omega)⟩

end Cert.AttnIdeal.Fwd

end
-- ==== Proof.AttnFwdOut.lean ====
/- The attention's forward blocks: the outputs and the log-sums of a block of queries. -/
module

public import proofs.«01_k».proof.Proof.AttnFwdLoop

@[expose] public section

set_option maxRecDepth 16384

noncomputable section

namespace Cert.AttnIdeal.Fwd

open Idealize.ShloMosaic Idealize.ShloMosaic.TcCoe Idealize.SL.Sem
open Cert.AttnIdeal Cert.AttnIdeal.Gen Cert.Reals

variable (c : Dev nD) (i : grid0.Coords) (arg2 : Memref sig .tc .vmem S4096x256 .bf16) (harg2 : arg2.IsWhole)
  (arg3 : Memref sig .tc .vmem S8192x256 .bf16) (harg3 : arg3.IsWhole) (arg4 : Memref sig .tc .vmem S8192x128 .bf16)
  (harg4 : arg4.IsWhole) (arg5 : Memref sig .tc .vmem S4096x128 .f32) (harg5 : arg5.IsWhole)
  (arg6 : Memref sig .tc .vmem S1x2x4096 .f32) (harg6 : arg6.IsWhole) (arg7 : Memref sig .tc .vmem S2x128x4096 .f32)
  (harg7 : arg7.IsWhole) {x0 : Vec Ideal S4096x256 .bf16} {x1 : Vec Ideal S8192x256 .bf16} {x2 : Vec Ideal S8192x128 .bf16}

/-- A half of the query block's columns. -/
def half (x : FVec Ideal S4096x256 .bf16) (o : ℕ) (ho : o + 128 ≤ 256) : FVec Ideal S4096x128 .bf16 :=
  fun j => x (ix2 (j 0) ⟨o + (j 1).val, by have : (j 1).val < 128 := (j 1).isLt; omega⟩)

theorem load_q0 : (arg2.view.readAt (Elt Ideal) (Rect.unit (s := S4096x256) ![0, 0] S4096x128.size inb_S4096x256_S4096x128_0_0).toLoadRect (harg2.unread x0)
    : FVec Ideal S4096x128 .bf16) = half x0 0 (by norm_num) := by
  funext j
  rw [View.readAt_eq_ld, harg2.read_unread]
  refine View.ld_unit_apply_of _ _ _ _ _ _ fun a => ?_
  match a with
  | ⟨0, _⟩ => exact (Nat.zero_add _).symm
  | ⟨1, _⟩ => rfl

theorem load_q1 : (arg2.view.readAt (Elt Ideal) (Rect.unit (s := S4096x256) ![0, 128] S4096x128.size inb_S4096x256_S4096x128_0_128).toLoadRect (harg2.unread x0)
    : FVec Ideal S4096x128 .bf16) = half x0 128 (by norm_num) := by
  funext j
  rw [View.readAt_eq_ld, harg2.read_unread]
  refine View.ld_unit_apply_of _ _ _ _ _ _ fun a => ?_
  match a with
  | ⟨0, _⟩ => exact (Nat.zero_add _).symm
  | ⟨1, _⟩ => rfl

/-- The scratch array as the loop finds it: zeros. -/
abbrev scratch0 : BufTy.Contents (Elt Ideal) arg7.view.ty :=
  arg7.view.writes (Elt Ideal) arg7.view.junk [(⟨Rect.unit (s := S2x128x4096) ![0, 0, 0] S2x128x4096.size inb_S2x128x4096_S2x128x4096_0_0_0, k0_pay16 (F := Ideal)⟩ : View.Piece (Elt Ideal) S2x128x4096 .f32)]

theorem scratch0_at (h : Fin 2) (d : Fin 128) (y : Fin 4096) : arg7.view.read (Elt Ideal) (scratch0 arg7) (ix3 h d y) = ((0 : ℝ) : EReal) := by
  refine (View.read_writes_cons_unit_of_mem _ _ _ _ _ _ (ix3 h d y) rfl fun a => ?_).trans ?_
  · match a with
    | ⟨0, _⟩ => exact (Nat.zero_add _).symm
    | ⟨1, _⟩ => exact (Nat.zero_add _).symm
    | ⟨2, _⟩ => exact (Nat.zero_add _).symm
  · exact pay16_at h d y

/-- The running values after all sixteen trips. -/
abbrev fin (x0 : Vec Ideal S4096x256 .bf16) (x1 : Vec Ideal S8192x256 .bf16) (x2 : Vec Ideal S8192x128 .bf16) :=
  st_k0_t1 (F := Ideal) Variants.none c none i arg2 harg2 arg3 harg3 arg4 harg4 arg5 harg5 arg6 harg6 arg7 harg7 (half x0 0 (by norm_num))
    (half x0 128 (by norm_num)) (harg3.unread x1) (harg4.unread x2) (scratch0 arg7) (k0_pay17, k0_pay18, k0_pay17, k0_pay18)
    (Scf.trips k0_t1_loop.lb k0_t1_loop.ub k0_t1_loop.st)

theorem trips16 : Scf.trips k0_t1_loop.lb k0_t1_loop.ub k0_t1_loop.st = 16 := by decide +kernel

variable {X0 X1 X2 : ℕ → ℕ → ℝ} (h0 : ∀ r i, x0 (ix2 r i) = (X0 r.val i.val : EReal))
  (h1 : ∀ r i, x1 (ix2 r i) = (X1 r.val i.val : EReal)) (h2 : ∀ r i, x2 (ix2 r i) = (X2 r.val i.val : EReal))

/-- Query `y` against key `κ`, over the columns from `o`. -/
def S (X0 X1 : ℕ → ℕ → ℝ) (o y κ : ℕ) : ℝ := ∑ i : Fin 128, X1 κ (o + i.val) * X0 y (o + i.val)

/-- The sum of a query's weights, -/
def Z (X0 X1 : ℕ → ℕ → ℝ) (o y : ℕ) : ℝ := ∑ κ : Fin 8192, (2:ℝ) ^ S X0 X1 o y κ.val

/-- and of its weighted values. -/
def N (X0 X1 X2 : ℕ → ℕ → ℝ) (o y d : ℕ) : ℝ := ∑ κ : Fin 8192, X2 κ.val d * (2:ℝ) ^ S X0 X1 o y κ.val

theorem Z_pos (X0 X1 : ℕ → ℕ → ℝ) (o y : ℕ) : 0 < Z X0 X1 o y :=
  Finset.sum_pos (fun _ _ => Real.rpow_pos_of_pos two_pos _) ⟨⟨0, by norm_num⟩, Finset.mem_univ _⟩

theorem tiles (f : ℕ → ℝ) : ∑ j ∈ Finset.range 16, ∑ b : Fin 512, f (512 * j + b.val) = ∑ κ : Fin 8192, f κ.val := by
  rw [Fin.sum_univ_tiles 16 512 rfl, Finset.sum_range]
  refine Finset.sum_congr rfl fun j _ => Finset.sum_congr rfl fun b _ => ?_
  rw [mul_comm]

/-- A head after all trips, with the shift taken out. -/
theorem Inv.done {o : ℕ} {m l : FVec Ideal S1x4096 .f32} {a : FVec Ideal S1x128x4096 .f32}
    (h : Inv X1 X2 o (fun r i => X0 r.val (o + i.val)) 16 m l a) : ∃ μ : Fin 4096 → ℝ, (∀ y, m (ix2 0 y) = (μ y : EReal))
      ∧ (∀ y, l (ix2 0 y) = ((2 ^ (-μ y) * Z X0 X1 o y.val : ℝ) : EReal))
      ∧ ∀ d y, a (ix3 0 d y) = ((2 ^ (-μ y) * N X0 X1 X2 o y.val d.val : ℝ) : EReal) := by
  choose μ hm hl ha using h
  have e : ∀ y κ, (2:ℝ) ^ (sc X1 o (fun r i => X0 r.val (o + i.val)) κ y - μ y) = 2 ^ (-μ y) * 2 ^ S X0 X1 o y.val κ := fun y κ => by
    rw [← Real.rpow_add two_pos]; exact congrArg _ (by rw [sub_eq_neg_add]; rfl)
  refine ⟨μ, hm, fun y => (hl y).trans (congrArg _ ?_), fun d y => (ha y d).trans (congrArg _ ?_)⟩
  · rw [tiles fun κ => (2:ℝ) ^ (sc X1 o (fun r i => X0 r.val (o + i.val)) κ y - μ y), Z, Finset.mul_sum]
    exact Finset.sum_congr rfl fun κ _ => e y κ.val
  · rw [tiles fun κ => X2 κ d.val * (2:ℝ) ^ (sc X1 o (fun r i => X0 r.val (o + i.val)) κ y - μ y), N, Finset.mul_sum]
    exact Finset.sum_congr rfl fun κ _ => by rw [e y κ.val]; ring

include h0 h1 h2 in
theorem fin_done : Inv X1 X2 0 (fun r i => X0 r.val (0 + i.val)) 16 (fin c i arg2 harg2 arg3 harg3 arg4 harg4 arg5 harg5 arg6 harg6 arg7 harg7 x0 x1 x2).1.1
      (fin c i arg2 harg2 arg3 harg3 arg4 harg4 arg5 harg5 arg6 harg6 arg7 harg7 x0 x1 x2).1.2.1
      (plane (arg7.view.read (Elt Ideal) (arg7.view.writes (Elt Ideal) (scratch0 arg7) (fin c i arg2 harg2 arg3 harg3 arg4 harg4 arg5 harg5 arg6 harg6 arg7 harg7 x0 x1 x2).2)) 0)
    ∧ Inv X1 X2 128 (fun r i => X0 r.val (128 + i.val)) 16 (fin c i arg2 harg2 arg3 harg3 arg4 harg4 arg5 harg5 arg6 harg6 arg7 harg7 x0 x1 x2).1.2.2.1
      (fin c i arg2 harg2 arg3 harg3 arg4 harg4 arg5 harg5 arg6 harg6 arg7 harg7 x0 x1 x2).1.2.2.2
      (plane (arg7.view.read (Elt Ideal) (arg7.view.writes (Elt Ideal) (scratch0 arg7) (fin c i arg2 harg2 arg3 harg3 arg4 harg4 arg5 harg5 arg6 harg6 arg7 harg7 x0 x1 x2).2)) 1) :=
by
  have q0 : ∀ r i, half x0 0 (by norm_num) (ix2 r i) = ((X0 r.val (0 + i.val) : ℝ) : EReal) := fun r i => h0 r ⟨0 + i.val, by omega⟩
  have q1 : ∀ r i, half x0 128 (by norm_num) (ix2 r i) = ((X0 r.val (128 + i.val) : ℝ) : EReal) := fun r i => h0 r ⟨128 + i.val, by omega⟩
  have e := inv_all c i arg2 harg2 arg3 harg3 arg4 harg4 arg5 harg5 arg6 harg6 arg7 harg7 _ _ h1 h2 _ (scratch0_at arg7) q0 q1 16 le_rfl
  rw [← trips16] at e
  exact trips16 ▸ e

include h0 h1 h2 in
/-- The block of outputs. -/
theorem out3 (y : Fin 4096) (d : Fin 128) :
    out0_A_3 (F := Ideal) c i arg2 harg2 arg3 harg3 arg4 harg4 arg5 harg5 arg6 harg6 arg7 harg7 x0 x1 x2 (ix2 y d)
      = ((if d.val < 64 then N X0 X1 X2 0 y.val d.val / Z X0 X1 0 y.val else N X0 X1 X2 128 y.val d.val / Z X0 X1 128 y.val : ℝ) : EReal) := by
  obtain ⟨a, b⟩ := fin_done c i arg2 harg2 arg3 harg3 arg4 harg4 arg5 harg5 arg6 harg6 arg7 harg7 h0 h1 h2
  obtain ⟨μ, -, hl, ha⟩ := a.done
  obtain ⟨ν, -, hl', ha'⟩ := b.done
  have q : ∀ μ : ℝ, (2:ℝ) ^ (-μ) ≠ 0 := fun μ => (Real.rpow_pos_of_pos two_pos _).ne'
  refine Eq.trans ?_ ((pay22_at hl hl' ha ha' (fun y => mul_ne_zero (q _) (Z_pos ..).ne') (fun y => mul_ne_zero (q _) (Z_pos ..).ne') y d).trans
    (congrArg _ (by rw [mul_div_mul_left _ _ (q _), mul_div_mul_left _ _ (q _)])))
  unfold out0_A_3 kernelRun0_A
  dsimp only
  refine (View.read_writes_cons_unit_of_mem _ _ _ _ _ _ (ix2 y d) rfl fun a => ?_).trans (congrFun (?_ : @Eq (FVec Ideal S4096x128 .f32) _ _) _)
  · match a with
    | ⟨0, _⟩ => exact (Nat.zero_add _).symm
    | ⟨1, _⟩ => exact (Nat.zero_add _).symm
  · unfold fin scratch0
    rw [← load_q0 arg2 harg2, ← load_q1 arg2 harg2, ← load_a0 arg7, ← load_a1 arg7]
    rw [← View.writes_append]
    unfold kernelRun0_A.sl.v15 kernelRun0_A.sl.v19 kernelRun0_A.sl.HS0_1 View.readCov
    congr 5

include h0 h1 h2 in
/-- The block of log-sums. -/
theorem out4 (h : Fin 2) (y : Fin 4096) :
    out0_A_4 (F := Ideal) c i arg2 harg2 arg3 harg3 arg4 harg4 arg5 harg5 arg6 harg6 arg7 harg7 x0 x1 x2 (ix3 0 h y)
      = ((Real.log (Z X0 X1 (128 * h.val) y.val) / Real.log 2 : ℝ) : EReal) := by
  obtain ⟨a, b⟩ := fin_done c i arg2 harg2 arg3 harg3 arg4 harg4 arg5 harg5 arg6 harg6 arg7 harg7 h0 h1 h2
  obtain ⟨μ, hm, hl, -⟩ := a.done
  obtain ⟨ν, hm', hl', -⟩ := b.done
  have q : ∀ μ : ℝ, (0:ℝ) < 2 ^ (-μ) := fun μ => Real.rpow_pos_of_pos two_pos _
  have e : ∀ (μ z : ℝ), 0 < z → μ + Real.log (2 ^ (-μ) * z) / Real.log 2 = Real.log z / Real.log 2 := fun μ z hz => by
    rw [Real.log_mul (q μ).ne' hz.ne', Real.log_rpow two_pos, add_div, mul_div_assoc, div_self (Real.log_pos one_lt_two).ne']; ring
  unfold out0_A_4 kernelRun0_A
  dsimp only
  match h with
  | ⟨0, _⟩ =>
    refine Eq.trans ?_ ((pay23_at y (hm y) (hl y) (mul_pos (q _) (Z_pos ..))).trans (congrArg _ (e _ _ (Z_pos ..))))
    refine (View.read_writes_cons_unit_of_not_mem _ _ _ _ _ _ rfl 1 (.inl Nat.zero_lt_one)).trans ?_
    refine (View.read_writes_cons_unit_of_mem _ _ _ _ _ _ (ix3 0 0 y) rfl fun a => ?_).trans (congrFun (?_ : @Eq (FVec Ideal S1x1x4096 .f32) _ _) _)
    · match a with
      | ⟨0, _⟩ => rfl
      | ⟨1, _⟩ => rfl
      | ⟨2, _⟩ => exact (Nat.zero_add _).symm
    · unfold fin
      rw [← load_q0 arg2 harg2, ← load_q1 arg2 harg2]
      unfold kernelRun0_A.sl.r_2 kernelRun0_A.sl.HS0_1 scratch0
      with_reducible rfl
  | ⟨1, _⟩ =>
    refine Eq.trans ?_ ((pay2_at y (hm' y) (hl' y) (mul_pos (q _) (Z_pos ..))).trans (congrArg _ (e _ _ (Z_pos ..))))
    refine (View.read_writes_cons_unit_of_mem _ _ _ _ _ _ (ix3 0 0 y) rfl fun a => ?_).trans (congrFun (?_ : @Eq (FVec Ideal S1x1x4096 .f32) _ _) _)
    · match a with
      | ⟨0, _⟩ => rfl
      | ⟨1, _⟩ => rfl
      | ⟨2, _⟩ => exact (Nat.zero_add _).symm
    · unfold fin
      rw [← load_q0 arg2 harg2, ← load_q1 arg2 harg2]
      unfold kernelRun0_A.sl.r kernelRun0_A.sl.r_1 kernelRun0_A.sl.HS0_1 scratch0
      with_reducible rfl

end Cert.AttnIdeal.Fwd

end
-- ==== Proof.AttnBwdPure.lean ====
/- One trip of the attention gradient's loop over key blocks, read at an index over real blocks. -/
module

public import proofs.«01_k».proof.Proof.AttnFwdPure

@[expose] public section

set_option maxRecDepth 16384

noncomputable section

namespace Cert.AttnIdeal.Bwd

open Idealize.ShloMosaic Idealize.ShloMosaic.TcCoe
open Cert.AttnIdeal Cert.AttnIdeal.Gen Cert.Reals

variable {q w g : FVec Ideal S2048x128 .bf16} {k v : FVec Ideal S512x128 .bf16} {l e : FVec Ideal S1x2048 .f32}
  {r : FVec Ideal S512x128 .f32} {acc : FVec Ideal S1x128x2048 .f32} {s : FVec Ideal S512x2048 .bf16}
  {Q W G : Fin 2048 → Fin 128 → ℝ} {K V R : Fin 512 → Fin 128 → ℝ} {L E : Fin 2048 → ℝ} {S : Fin 512 → Fin 2048 → ℝ}

/-- The weight of a key of the block for a query, from the query's log-sum. -/
def wt (K : Fin 512 → Fin 128 → ℝ) (Q : Fin 2048 → Fin 128 → ℝ) (L : Fin 2048 → ℝ) (a : Fin 512) (y : Fin 2048) : ℝ :=
  2 ^ (∑ i, K a i * Q y i - L y)

/-- The gradient of the score of a key of the block for a query. -/
def ds (K V : Fin 512 → Fin 128 → ℝ) (Q W : Fin 2048 → Fin 128 → ℝ) (L E : Fin 2048 → ℝ) (a : Fin 512) (y : Fin 2048) : ℝ :=
  wt K Q L a y * (∑ d, V a d * W y d - E y)

theorem pay12_at (hq : ∀ y i, q (ix2 y i) = (Q y i : EReal)) (hk : ∀ a i, k (ix2 a i) = (K a i : EReal))
    (hl : ∀ y, l (ix2 0 y) = (L y : EReal)) (a : Fin 512) (y : Fin 2048) :
    k1_pay12 (F := Ideal) q l k (ix2 a y) = ((wt K Q L a y : ℝ) : EReal) := by
  pointwise [k1_pay12]
  rw [hl, dot_coe (hk a) (hq y)]; exact exp2_sub _ _

theorem pay13_at (hq : ∀ y i, q (ix2 y i) = (Q y i : EReal)) (hw : ∀ y i, w (ix2 y i) = (W y i : EReal))
    (hl : ∀ y, l (ix2 0 y) = (L y : EReal)) (he : ∀ y, e (ix2 0 y) = (E y : EReal))
    (hv : ∀ a i, v (ix2 a i) = (V a i : EReal)) (hk : ∀ a i, k (ix2 a i) = (K a i : EReal)) (a : Fin 512) (y : Fin 2048) :
    k1_pay13 (F := Ideal) q w l e v k (ix2 a y) = ((ds K V Q W L E a y : ℝ) : EReal) := by
  pointwise [k1_pay13]
  rw [pay12_at hq hk hl, he, dot_coe (hv a) (hw y), sub_coe, ← EReal.coe_mul]; rfl

/-- The gradient of the values' rows of the block. -/
theorem pay14_at (hq : ∀ y i, q (ix2 y i) = (Q y i : EReal)) (hk : ∀ a i, k (ix2 a i) = (K a i : EReal))
    (hl : ∀ y, l (ix2 0 y) = (L y : EReal)) (hg : ∀ y i, g (ix2 y i) = (G y i : EReal)) {ρ : ℝ} (a : Fin 512) (d : Fin 128)
    (hr : r (ix2 a d) = (ρ : EReal)) :
    k1_pay14 (F := Ideal) q g l k r (ix2 a d) = ((ρ + ∑ y, wt K Q L a y * G y d : ℝ) : EReal) := by
  pointwise [k1_pay14]
  rw [hr, dot_coe (fun y => pay12_at hq hk hl a y) (fun y => hg y d), ← EReal.coe_add]

/-- The gradient of the keys' rows of the block. -/
theorem pay15_at (hq : ∀ y i, q (ix2 y i) = (Q y i : EReal)) (hw : ∀ y i, w (ix2 y i) = (W y i : EReal))
    (hl : ∀ y, l (ix2 0 y) = (L y : EReal)) (he : ∀ y, e (ix2 0 y) = (E y : EReal))
    (hv : ∀ a i, v (ix2 a i) = (V a i : EReal)) (hk : ∀ a i, k (ix2 a i) = (K a i : EReal)) {ρ : ℝ} (a : Fin 512) (i : Fin 128)
    (hr : r (ix2 a i) = (ρ : EReal)) :
    k1_pay15 (F := Ideal) q w l e v k r (ix2 a i) = ((ρ + ∑ y, ds K V Q W L E a y * Q y i : ℝ) : EReal) := by
  pointwise [k1_pay15]
  rw [hr, dot_coe (fun y => pay13_at hq hw hl he hv hk a y) (fun y => hq y i), ← EReal.coe_add]

/-- The gradient of the queries after the block. -/
theorem pay11_at (hs : ∀ a y, s (ix2 a y) = (S a y : EReal)) (hk : ∀ a i, k (ix2 a i) = (K a i : EReal)) {ρ : ℝ} (i : Fin 128)
    (y : Fin 2048) (ha : acc (ix3 0 i y) = (ρ : EReal)) :
    k1_pay11 (F := Ideal) s acc k (ix3 0 i y) = ((ρ + ∑ a, K a i * S a y : ℝ) : EReal) := by
  pointwise [k1_pay11]
  rw [ha, dot_coe (fun a => hk a i) (fun a => hs a y), ← EReal.coe_add]

/-- The values' columns of the first head of the pair. -/
def low (v : FVec Ideal S512x128 .bf16) : FVec Ideal S512x128 .bf16 :=
  select (cmpi .slt (iota .tc S512x128 32 [1] iota_S512x128_d1_w32) (broadcast S512x128 64#32)) (k1_pay4 v) (k1_pay5 (F := Ideal))

/-- The first head's operations are the second's. -/
theorem pay8_eq : k1_pay8 (F := Ideal) q w l e v k = k1_pay13 q w l e (low v) k := rfl

theorem pay9_eq : k1_pay9 (F := Ideal) q g l k r = k1_pay14 q g l k r := rfl

theorem pay10_eq : k1_pay10 (F := Ideal) q w l e v k r = k1_pay15 q w l e (low v) k r := rfl

theorem pay1_eq : k1_pay1 (F := Ideal) s (k1_pay16 acc) k = k1_pay11 s acc k := rfl

theorem lanes_ge : ∀ d : Fin 128, IntOp.cmpi .sge (BitVec.ofNat 32 d.val) 64#32 = if d.val < 64 then 0#1 else 1#1 := by decide

theorem low_at (hv : ∀ a i, v (ix2 a i) = (V a i : EReal)) (a : Fin 512) (d : Fin 128) :
    low v (ix2 a d) = ((if d.val < 64 then V a d else 0 : ℝ) : EReal) := by
  pointwise [low, k1_pay4, k1_pay5]
  rw [hv, Fwd.lanes_lt]
  by_cases h : d.val < 64 <;> simp [h, Scalar.select]

theorem pay6_at (hv : ∀ a i, v (ix2 a i) = (V a i : EReal)) (a : Fin 512) (d : Fin 128) :
    k1_pay6 (F := Ideal) v (ix2 a d) = ((if d.val < 64 then 0 else V a d : ℝ) : EReal) := by
  pointwise [k1_pay6, k1_pay4, k1_pay5]
  rw [hv, lanes_ge]
  by_cases h : d.val < 64 <;> simp [h, Scalar.select]

theorem pay24_at (hw : ∀ y i, w (ix2 y i) = (W y i : EReal)) (y : Fin 2048) (d : Fin 128) :
    k1_pay24 (F := Ideal) w (ix2 y d) = ((if d.val < 64 then W y d else 0 : ℝ) : EReal) := by
  pointwise [k1_pay24, k1_pay22, k1_pay23]
  rw [hw, Fwd.lanes_lt]
  by_cases h : d.val < 64 <;> simp [h, Scalar.select]

theorem pay25_at (hw : ∀ y i, w (ix2 y i) = (W y i : EReal)) (y : Fin 2048) (d : Fin 128) :
    k1_pay25 (F := Ideal) w (ix2 y d) = ((if d.val < 64 then 0 else W y d : ℝ) : EReal) := by
  pointwise [k1_pay25, k1_pay22, k1_pay23]
  rw [hw, lanes_ge]
  by_cases h : d.val < 64 <;> simp [h, Scalar.select]

theorem pay20_eq : k1_pay20 (F := Ideal) q = q := by
  funext i; idx_vars i; pointwise [k1_pay20]

theorem pay21_eq : k1_pay21 (F := Ideal) q = q := pay20_eq

theorem pay22_eq : k1_pay22 (F := Ideal) q = q := pay20_eq

theorem pay26_at (x : FVec Ideal S1x1x2048 .f32) (y : Fin 2048) : k1_pay26 (F := Ideal) x (ix2 0 y) = x (ix3 0 0 y) := by
  pointwise [k1_pay26]

theorem pay2_at (y : Fin 2048) (i : Fin 128) : k1_pay2 (F := Ideal) acc (ix2 y i) = acc (ix3 0 i y) := by
  pointwise [k1_pay2]

theorem pay17_at (y : Fin 8192) (i : Fin 256) : k1_pay17 (F := Ideal) (ix2 y i) = ((0 : ℝ) : EReal) := by
  pointwise [k1_pay17]
  simp

theorem pay18_at (y : Fin 8192) (i : Fin 128) : k1_pay18 (F := Ideal) (ix2 y i) = ((0 : ℝ) : EReal) := by
  pointwise [k1_pay18]
  simp

theorem pay19_at (h : Fin 2) (i : Fin 128) (y : Fin 2048) : k1_pay19 (F := Ideal) (ix3 h i y) = ((0 : ℝ) : EReal) := by
  pointwise [k1_pay19]
  simp

end Cert.AttnIdeal.Bwd

end
-- ==== Proof.AttnBwdLoop.lean ====
/- The attention gradient's loop over key blocks: what one trip leaves in the three arrays it adds to. -/
module

public import proofs.«01_k».proof.Proof.Gen.AttnIdeal.Frame
public import proofs.«01_k».proof.Proof.AttnFwdLoop
public import proofs.«01_k».proof.Proof.AttnBwdPure
public import Idealize.ShloMosaic.Lib.WritesUnit
public import Idealize.ShloMosaic.Lib.Pipeline.ValueKit

@[expose] public section

set_option maxRecDepth 16384

noncomputable section

namespace Cert.AttnIdeal.Bwd

open Idealize.ShloMosaic Idealize.ShloMosaic.TcCoe Idealize.SL.Sem
open Cert.AttnIdeal Cert.AttnIdeal.Gen Cert.Reals
open Cert.AttnIdeal.Fwd (blk)

variable (c : Dev nD) (i : grid1.Coords) (arg2 : Memref sig .tc .vmem S2048x256 .bf16) (harg2 : arg2.IsWhole)
  (arg3 : Memref sig .tc .vmem S2048x128 .bf16) (harg3 : arg3.IsWhole) (arg4 : Memref sig .tc .vmem S1x2x2048 .f32)
  (harg4 : arg4.IsWhole) (arg5 : Memref sig .tc .vmem S1x2x2048 .f32) (harg5 : arg5.IsWhole)
  (arg6 : Memref sig .tc .vmem S8192x256 .bf16) (harg6 : arg6.IsWhole) (arg7 : Memref sig .tc .vmem S8192x128 .bf16)
  (harg7 : arg7.IsWhole) (arg8 : Memref sig .tc .vmem S2048x256 .f32) (harg8 : arg8.IsWhole)
  (arg9 : Memref sig .tc .vmem S8192x256 .f32) (harg9 : arg9.IsWhole) (arg10 : Memref sig .tc .vmem S8192x128 .f32)
  (harg10 : arg10.IsWhole) (arg11 : Memref sig .tc .vmem S2x128x2048 .f32) (harg11 : arg11.IsWhole)
  (v8 v10 v12 v17 v20 : FVec Ideal S2048x128 .bf16) (v22 v24 v26 v28 : FVec Ideal S1x2048 .f32)
  (x4 : Vec Ideal S8192x256 .bf16) (x5 : Vec Ideal S8192x128 .bf16)

theorem off1_eq : ∀ t : Fin k1_t1_loop.trips, k1_off1 t = ![512 * t.val, 0] := by decide +kernel

theorem off2_eq : ∀ t : Fin k1_t1_loop.trips, k1_off2 t = ![512 * t.val, 0] := by decide +kernel

theorem off3_eq : ∀ t : Fin k1_t1_loop.trips, k1_off3 t = ![512 * t.val, 128] := by decide +kernel

theorem trips_lt (t : Fin k1_t1_loop.trips) : t.val < 16 := Nat.lt_of_lt_of_le t.isLt k1_t1_abs.2.1

theorem load_k0 (t : Fin k1_t1_loop.trips) :
    (arg6.view.readAt (Elt Ideal) (Rect.unit (s := S8192x256) (k1_off2 t) S512x128.size (k1_off2_inb t)).toLoadRect (harg6.unread x4)
      : FVec Ideal S512x128 .bf16) = blk x4 t.val 0 (trips_lt t) (by norm_num) := by
  funext j
  rw [View.readAt_eq_ld, harg6.read_unread]
  refine View.ld_unit_apply_of _ _ _ _ _ _ fun a => ?_
  refine Eq.trans ?_ (congrArg (· + (j a).val) (congrFun (off2_eq t) a).symm)
  match a with
  | ⟨0, _⟩ => rfl
  | ⟨1, _⟩ => rfl

theorem load_k1 (t : Fin k1_t1_loop.trips) :
    (arg6.view.readAt (Elt Ideal) (Rect.unit (s := S8192x256) (k1_off3 t) S512x128.size (k1_off3_inb t)).toLoadRect (harg6.unread x4)
      : FVec Ideal S512x128 .bf16) = blk x4 t.val 128 (trips_lt t) (by norm_num) := by
  funext j
  rw [View.readAt_eq_ld, harg6.read_unread]
  refine View.ld_unit_apply_of _ _ _ _ _ _ fun a => ?_
  refine Eq.trans ?_ (congrArg (· + (j a).val) (congrFun (off3_eq t) a).symm)
  match a with
  | ⟨0, _⟩ => rfl
  | ⟨1, _⟩ => rfl

theorem load_v (t : Fin k1_t1_loop.trips) :
    (arg7.view.readAt (Elt Ideal) (Rect.unit (s := S8192x128) (k1_off1 t) S512x128.size (k1_off1_inb t)).toLoadRect (harg7.unread x5)
      : FVec Ideal S512x128 .bf16) = blk x5 t.val 0 (trips_lt t) (by norm_num) := by
  funext j
  rw [View.readAt_eq_ld, harg7.read_unread]
  refine View.ld_unit_apply_of _ _ _ _ _ _ fun a => ?_
  refine Eq.trans ?_ (congrArg (· + (j a).val) (congrFun (off1_eq t) a).symm)
  match a with
  | ⟨0, _⟩ => rfl
  | ⟨1, _⟩ => rfl

/-- The rows of an array of sums that trip `t` adds to: from `512 t`, columns from `o`. -/
def rows {n : ℕ} (x : FVec Ideal ⟨2, ![8192, n]⟩ .f32) (t o : ℕ) (ht : t < 16) (ho : o + 128 ≤ n) : FVec Ideal S512x128 .f32 :=
  fun j => x (ix2 ⟨512 * t + (j 0).val, by have : (j 0).val < 512 := (j 0).isLt; omega⟩ ⟨o + (j 1).val, by have : (j 1).val < 128 := (j 1).isLt; omega⟩)

theorem rows_at {n : ℕ} (x : FVec Ideal ⟨2, ![8192, n]⟩ .f32) {t o : ℕ} (ht : t < 16) (ho : o + 128 ≤ n) (κ : Fin 8192) (j : Fin n)
    (a : Fin 512) (b : Fin 128) (ha : 512 * t + a.val = κ.val) (hb : o + b.val = j.val) : rows x t o ht ho (ix2 a b) = x (ix2 κ j) := by
  obtain ⟨κ, hκ⟩ := κ
  obtain ⟨j, hj⟩ := j
  dsimp only at ha hb
  subst ha hb
  rfl

theorem load_r9 (t : Fin k1_t1_loop.trips) (f : BufTy.Contents (Elt Ideal) arg9.view.ty) :
    (arg9.view.readAt (Elt Ideal) (Rect.unit (s := S8192x256) (k1_off2 t) S512x128.size (k1_off2_inb t)).toLoadRect f
      : FVec Ideal S512x128 .f32) = rows (arg9.view.read (Elt Ideal) f) t.val 0 (trips_lt t) (by norm_num) := by
  funext j
  rw [View.readAt_eq_ld]
  refine View.ld_unit_apply_of _ _ _ _ _ _ fun a => ?_
  refine Eq.trans ?_ (congrArg (· + (j a).val) (congrFun (off2_eq t) a).symm)
  match a with
  | ⟨0, _⟩ => rfl
  | ⟨1, _⟩ => rfl

theorem load_r9' (t : Fin k1_t1_loop.trips) (f : BufTy.Contents (Elt Ideal) arg9.view.ty) :
    (arg9.view.readAt (Elt Ideal) (Rect.unit (s := S8192x256) (k1_off3 t) S512x128.size (k1_off3_inb t)).toLoadRect f
      : FVec Ideal S512x128 .f32) = rows (arg9.view.read (Elt Ideal) f) t.val 128 (trips_lt t) (by norm_num) := by
  funext j
  rw [View.readAt_eq_ld]
  refine View.ld_unit_apply_of _ _ _ _ _ _ fun a => ?_
  refine Eq.trans ?_ (congrArg (· + (j a).val) (congrFun (off3_eq t) a).symm)
  match a with
  | ⟨0, _⟩ => rfl
  | ⟨1, _⟩ => rfl

theorem load_r10 (t : Fin k1_t1_loop.trips) (f : BufTy.Contents (Elt Ideal) arg10.view.ty) :
    (arg10.view.readAt (Elt Ideal) (Rect.unit (s := S8192x128) (k1_off1 t) S512x128.size (k1_off1_inb t)).toLoadRect f
      : FVec Ideal S512x128 .f32) = rows (arg10.view.read (Elt Ideal) f) t.val 0 (trips_lt t) (by norm_num) := by
  funext j
  rw [View.readAt_eq_ld]
  refine View.ld_unit_apply_of _ _ _ _ _ _ fun a => ?_
  refine Eq.trans ?_ (congrArg (· + (j a).val) (congrFun (off1_eq t) a).symm)
  match a with
  | ⟨0, _⟩ => rfl
  | ⟨1, _⟩ => rfl

/-- The rows read back just after they were stored. -/
theorem load_r10' (t : Fin k1_t1_loop.trips) (f : BufTy.Contents (Elt Ideal) arg10.view.ty) (w : FVec Ideal S512x128 .f32) :
    (arg10.view.readAt (Elt Ideal) (Rect.unit (s := S8192x128) (k1_off1 t) S512x128.size (k1_off1_inb t)).toLoadRect
        (arg10.view.writes (Elt Ideal) f [(⟨Rect.unit (s := S8192x128) (k1_off1 t) S512x128.size (k1_off1_inb t), w⟩ : View.Piece (Elt Ideal) S8192x128 .f32)])
      : FVec Ideal S512x128 .f32) = w := by
  rw [load_r10]
  funext j
  refine (View.read_writes_cons_unit_of_mem _ _ _ _ _ _ j rfl fun a => ?_).trans rfl
  refine Eq.trans ?_ (congrArg (· + (j a).val) (congrFun (off1_eq t) a).symm)
  match a with
  | ⟨0, _⟩ => rfl
  | ⟨1, _⟩ => rfl

/-- The plane of the scratch array that one head accumulates in. -/
def plane (z : FVec Ideal S2x128x2048 .f32) (h : Fin 2) : FVec Ideal S1x128x2048 .f32 := fun j => z (ix3 h (j 1) (j 2))

theorem load_a0 (f : BufTy.Contents (Elt Ideal) arg11.view.ty) :
    (arg11.view.readAt (Elt Ideal) (Rect.unit (s := S2x128x2048) ![0, 0, 0] S1x128x2048.size inb_S2x128x2048_S1x128x2048_0_0_0).toLoadRect f
      : FVec Ideal S1x128x2048 .f32) = plane (arg11.view.read (Elt Ideal) f) 0 := by
  funext j
  rw [View.readAt_eq_ld]
  refine View.ld_unit_apply_of _ _ _ _ _ _ fun a => ?_
  match a with
  | ⟨0, _⟩ => have : (j 0).val < 1 := (j 0).isLt; show 0 = 0 + (j 0).val; omega
  | ⟨1, _⟩ => exact (Nat.zero_add _).symm
  | ⟨2, _⟩ => exact (Nat.zero_add _).symm

theorem load_a1 (f : BufTy.Contents (Elt Ideal) arg11.view.ty) :
    (arg11.view.readAt (Elt Ideal) (Rect.unit (s := S2x128x2048) ![1, 0, 0] S1x128x2048.size inb_S2x128x2048_S1x128x2048_1_0_0).toLoadRect f
      : FVec Ideal S1x128x2048 .f32) = plane (arg11.view.read (Elt Ideal) f) 1 := by
  funext j
  rw [View.readAt_eq_ld]
  refine View.ld_unit_apply_of _ _ _ _ _ _ fun a => ?_
  match a with
  | ⟨0, _⟩ => have : (j 0).val < 1 := (j 0).isLt; show 1 = 1 + (j 0).val; omega
  | ⟨1, _⟩ => exact (Nat.zero_add _).symm
  | ⟨2, _⟩ => exact (Nat.zero_add _).symm

variable (t : Fin k1_t1_loop.trips) (f9 : BufTy.Contents (Elt Ideal) arg9.view.ty) (f10 : BufTy.Contents (Elt Ideal) arg10.view.ty)
  (f11 : BufTy.Contents (Elt Ideal) arg11.view.ty)

/-- What a trip adds up for the keys. -/
theorem trip9 : (tripL_k1_t1 (F := Ideal) Variants.none c none i arg2 harg2 arg3 harg3 arg4 harg4 arg5 harg5 arg6 harg6 arg7 harg7 arg8 harg8 arg9 harg9 arg10 harg10 arg11 harg11 v8 v10 v12 v17 v20 v22 v24 v26 v28 (harg6.unread x4) (harg7.unread x5) t f9 f10 f11).1
    = [(⟨Rect.unit (s := S8192x256) (k1_off3 t) S512x128.size (k1_off3_inb t),
          k1_pay15 v10 v12 v24 v28 (k1_pay6 (blk x5 t.val 0 (trips_lt t) (by norm_num))) (blk x4 t.val 128 (trips_lt t) (by norm_num))
            (rows (arg9.view.read (Elt Ideal) f9) t.val 128 (trips_lt t) (by norm_num))⟩ : View.Piece (Elt Ideal) S8192x256 .f32),
        (⟨Rect.unit (s := S8192x256) (k1_off2 t) S512x128.size (k1_off2_inb t),
          k1_pay10 v8 v12 v22 v26 (blk x5 t.val 0 (trips_lt t) (by norm_num)) (blk x4 t.val 0 (trips_lt t) (by norm_num))
            (rows (arg9.view.read (Elt Ideal) f9) t.val 0 (trips_lt t) (by norm_num))⟩ : View.Piece (Elt Ideal) S8192x256 .f32)] := by
  rw [← load_r9' arg9 t f9]
  rw [← load_r9 arg9 t f9, ← load_k0 arg6 harg6 x4 t, ← load_k1 arg6 harg6 x4 t, ← load_v arg7 harg7 x5 t]
  unfold tripL_k1_t1 trip_k1_t1
  dsimp only
  rfl

/-- What a trip adds up for the values. -/
theorem trip10 : (tripL_k1_t1 (F := Ideal) Variants.none c none i arg2 harg2 arg3 harg3 arg4 harg4 arg5 harg5 arg6 harg6 arg7 harg7 arg8 harg8 arg9 harg9 arg10 harg10 arg11 harg11 v8 v10 v12 v17 v20 v22 v24 v26 v28 (harg6.unread x4) (harg7.unread x5) t f9 f10 f11).2.1
    = [(⟨Rect.unit (s := S8192x128) (k1_off1 t) S512x128.size (k1_off1_inb t),
          k1_pay14 v10 v20 v24 (blk x4 t.val 128 (trips_lt t) (by norm_num)) (k1_pay9 v8 v17 v22 (blk x4 t.val 0 (trips_lt t) (by norm_num))
            (rows (arg10.view.read (Elt Ideal) f10) t.val 0 (trips_lt t) (by norm_num)))⟩ : View.Piece (Elt Ideal) S8192x128 .f32),
        (⟨Rect.unit (s := S8192x128) (k1_off1 t) S512x128.size (k1_off1_inb t),
          k1_pay9 v8 v17 v22 (blk x4 t.val 0 (trips_lt t) (by norm_num))
            (rows (arg10.view.read (Elt Ideal) f10) t.val 0 (trips_lt t) (by norm_num))⟩ : View.Piece (Elt Ideal) S8192x128 .f32)] := by
  rw [← load_r10 arg10 t f10]
  conv_rhs => arg 1; rw [← load_r10' arg10 t arg10.view.junk (k1_pay9 v8 v17 v22 (blk x4 t.val 0 (trips_lt t) (by norm_num)) _)]
  rw [← load_k0 arg6 harg6 x4 t, ← load_k1 arg6 harg6 x4 t]
  unfold tripL_k1_t1 trip_k1_t1
  dsimp only
  rfl

/-- What a trip adds up for the queries. -/
theorem trip11 : (tripL_k1_t1 (F := Ideal) Variants.none c none i arg2 harg2 arg3 harg3 arg4 harg4 arg5 harg5 arg6 harg6 arg7 harg7 arg8 harg8 arg9 harg9 arg10 harg10 arg11 harg11 v8 v10 v12 v17 v20 v22 v24 v26 v28 (harg6.unread x4) (harg7.unread x5) t f9 f10 f11).2.2
    = [(⟨Rect.unit (s := S2x128x2048) ![1, 0, 0] S1x128x2048.size inb_S2x128x2048_S1x128x2048_1_0_0,
          k1_pay1 (k1_pay13 v10 v12 v24 v28 (k1_pay6 (blk x5 t.val 0 (trips_lt t) (by norm_num))) (blk x4 t.val 128 (trips_lt t) (by norm_num)))
            (k1_pay16 (plane (arg11.view.read (Elt Ideal) f11) 1)) (blk x4 t.val 128 (trips_lt t) (by norm_num))⟩ : View.Piece (Elt Ideal) S2x128x2048 .f32),
        (⟨Rect.unit (s := S2x128x2048) ![0, 0, 0] S1x128x2048.size inb_S2x128x2048_S1x128x2048_0_0_0,
          k1_pay11 (k1_pay8 v8 v12 v22 v26 (blk x5 t.val 0 (trips_lt t) (by norm_num)) (blk x4 t.val 0 (trips_lt t) (by norm_num)))
            (plane (arg11.view.read (Elt Ideal) f11) 0) (blk x4 t.val 0 (trips_lt t) (by norm_num))⟩ : View.Piece (Elt Ideal) S2x128x2048 .f32)] := by
  rw [← load_a1 arg11 f11]
  rw [← load_a0 arg11 f11, ← load_k0 arg6 harg6 x4 t, ← load_k1 arg6 harg6 x4 t, ← load_v arg7 harg7 x5 t]
  unfold tripL_k1_t1 trip_k1_t1
  dsimp only
  rfl

/-- The weight of key `κ` for query `y` under head `h` of the pair, from the query's log-sum. -/
def P (X0 X4 L : ℕ → ℕ → ℝ) (h κ y : ℕ) : ℝ := 2 ^ (∑ i : Fin 128, X4 κ (128 * h + i.val) * X0 y (128 * h + i.val) - L h y)

/-- The gradient of the score of key `κ` for query `y`. -/
def DS (X0 X1 X4 X5 L D : ℕ → ℕ → ℝ) (h κ y : ℕ) : ℝ :=
  P X0 X4 L h κ y * (∑ d : Fin 64, X5 κ (64 * h + d.val) * X1 y (64 * h + d.val) - D h y)

/-- The block of queries' part of the keys' gradient, -/
def A (X0 X1 X4 X5 L D : ℕ → ℕ → ℝ) (κ i : ℕ) : ℝ := ∑ y : Fin 2048, DS X0 X1 X4 X5 L D (i / 128) κ y.val * X0 y.val i

/-- of the values' gradient, -/
def B (X0 X1 X4 L : ℕ → ℕ → ℝ) (κ d : ℕ) : ℝ := ∑ y : Fin 2048, P X0 X4 L (d / 64) κ y.val * X1 y.val d

/-- and the first `n` blocks of keys' part of the queries' gradient. -/
def C (X0 X1 X4 X5 L D : ℕ → ℕ → ℝ) (n h i y : ℕ) : ℝ :=
  ∑ j ∈ Finset.range n, ∑ b : Fin 512, X4 (512 * j + b.val) (128 * h + i) * DS X0 X1 X4 X5 L D h (512 * j + b.val) y

theorem sum_low (f g : ℕ → ℝ) : ∑ d : Fin 128, (if d.val < 64 then f d.val else 0) * g d.val = ∑ d : Fin 64, f (64 * 0 + d.val) * g (64 * 0 + d.val) := by
  rw [Fin.sum_univ_add (a := 64) (b := 64)]
  simp

theorem sum_high (f g : ℕ → ℝ) : ∑ d : Fin 128, (if d.val < 64 then 0 else f d.val) * g d.val = ∑ d : Fin 64, f (64 * 1 + d.val) * g (64 * 1 + d.val) := by
  rw [Fin.sum_univ_add (a := 64) (b := 64)]
  simp [add_comm]

variable {v8 v10 v12 v17 v20 v22 v24 v26 v28 x4 x5}
variable {X0 X1 X4 X5 L D : ℕ → ℕ → ℝ}
  (hq0 : ∀ y i, v8 (ix2 y i) = (X0 y.val i.val : EReal)) (hq1 : ∀ y i, v10 (ix2 y i) = (X0 y.val (128 + i.val) : EReal))
  (hw : ∀ y d, v12 (ix2 y d) = (X1 y.val d.val : EReal))
  (hg0 : ∀ y d, v17 (ix2 y d) = ((if d.val < 64 then X1 y.val d.val else 0 : ℝ) : EReal))
  (hg1 : ∀ y d, v20 (ix2 y d) = ((if d.val < 64 then 0 else X1 y.val d.val : ℝ) : EReal))
  (hl0 : ∀ y, v22 (ix2 0 y) = (L 0 y.val : EReal)) (hl1 : ∀ y, v24 (ix2 0 y) = (L 1 y.val : EReal))
  (he0 : ∀ y, v26 (ix2 0 y) = (D 0 y.val : EReal)) (he1 : ∀ y, v28 (ix2 0 y) = (D 1 y.val : EReal))
  (h4 : ∀ κ i, x4 (ix2 κ i) = (X4 κ.val i.val : EReal)) (h5 : ∀ κ d, x5 (ix2 κ d) = (X5 κ.val d.val : EReal))

include h4 in
theorem k0_at (t : ℕ) (ht : t < 16) (a : Fin 512) (i : Fin 128) :
    blk x4 t 0 ht (by norm_num) (ix2 a i) = ((X4 (512 * t + a.val) (128 * 0 + i.val) : ℝ) : EReal) := h4 _ _

include h4 in
theorem k1_at (t : ℕ) (ht : t < 16) (a : Fin 512) (i : Fin 128) :
    blk x4 t 128 ht (by norm_num) (ix2 a i) = ((X4 (512 * t + a.val) (128 * 1 + i.val) : ℝ) : EReal) := h4 _ _

include h5 in
theorem v_at (t : ℕ) (ht : t < 16) (a : Fin 512) (d : Fin 128) :
    blk x5 t 0 ht (by norm_num) (ix2 a d) = ((X5 (512 * t + a.val) d.val : ℝ) : EReal) := (h5 _ _).trans (by simp)

include hq0 hw hl0 he0 h4 h5 in
theorem ds0_at (t : ℕ) (ht : t < 16) (a : Fin 512) (y : Fin 2048) :
    k1_pay8 (F := Ideal) v8 v12 v22 v26 (blk x5 t 0 ht (by norm_num)) (blk x4 t 0 ht (by norm_num)) (ix2 a y)
      = ((DS X0 X1 X4 X5 L D 0 (512 * t + a.val) y.val : ℝ) : EReal) := by
  rw [pay8_eq]
  refine (pay13_at hq0 hw hl0 he0 (low_at (v_at h5 t ht)) (k0_at h4 t ht) a y).trans (congrArg _ ?_)
  unfold ds DS P wt
  rw [sum_low (fun d => X5 (512 * t + a.val) d) (fun d => X1 y.val d)]
  simp

include hq1 hw hl1 he1 h4 h5 in
theorem ds1_at (t : ℕ) (ht : t < 16) (a : Fin 512) (y : Fin 2048) :
    k1_pay13 (F := Ideal) v10 v12 v24 v28 (k1_pay6 (blk x5 t 0 ht (by norm_num))) (blk x4 t 128 ht (by norm_num)) (ix2 a y)
      = ((DS X0 X1 X4 X5 L D 1 (512 * t + a.val) y.val : ℝ) : EReal) := by
  refine (pay13_at hq1 hw hl1 he1 (pay6_at (v_at h5 t ht)) (k1_at h4 t ht) a y).trans (congrArg _ ?_)
  unfold ds DS P wt
  rw [sum_high (fun d => X5 (512 * t + a.val) d) (fun d => X1 y.val d)]

/-- Whether row `κ` is of trip `t`'s block. -/
theorem in_block {t κ : ℕ} (h : κ / 512 = t) : 512 * t ≤ κ ∧ κ < 512 * t + 512 := by omega

include hq0 hq1 hw hl0 hl1 he0 he1 h4 h5 in
theorem step9 (κ : Fin 8192) (j : Fin 256) {ρ : ℝ} (hρ : arg9.view.read (Elt Ideal) f9 (ix2 κ j) = (ρ : EReal)) :
    arg9.view.read (Elt Ideal) (arg9.view.writes (Elt Ideal) f9
      (tripL_k1_t1 (F := Ideal) Variants.none c none i arg2 harg2 arg3 harg3 arg4 harg4 arg5 harg5 arg6 harg6 arg7 harg7 arg8 harg8 arg9 harg9 arg10 harg10 arg11 harg11 v8 v10 v12 v17 v20 v22 v24 v26 v28 (harg6.unread x4) (harg7.unread x5) t f9 f10 f11).1) (ix2 κ j)
      = ((ρ + (if κ.val / 512 = t.val then A X0 X1 X4 X5 L D κ.val j.val else 0) : ℝ) : EReal) := by
  rw [trip9]
  have e2 := fun a => congrFun (off2_eq t) a
  have e3 := fun a => congrFun (off3_eq t) a
  have ht := trips_lt t
  by_cases hκ : κ.val / 512 = t.val
  · obtain ⟨lo, hi⟩ := in_block hκ
    rw [if_pos hκ]
    by_cases hj : j.val < 128
    · refine (View.read_writes_cons_unit_of_not_mem _ _ _ _ _ _ rfl 1 (.inl ?_)).trans ?_
      · rw [e3]; exact hj
      refine (View.read_writes_cons_unit_of_mem _ _ _ _ _ _ (ix2 ⟨κ.val - 512 * t.val, by omega⟩ ⟨j.val, hj⟩) rfl fun a => ?_).trans ?_
      · rw [e2]
        match a with
        | ⟨0, _⟩ => show κ.val = 512 * t.val + (κ.val - 512 * t.val); omega
        | ⟨1, _⟩ => exact (Nat.zero_add _).symm
      · rw [pay10_eq]
        have hr : rows (arg9.view.read (Elt Ideal) f9) t.val 0 ht (by norm_num) (ix2 ⟨κ.val - 512 * t.val, by omega⟩ ⟨j.val, hj⟩) = (ρ : EReal) :=
          (rows_at _ ht _ κ j _ _ (by simp only; omega) (by simp only; omega)).trans hρ
        have key := pay15_at hq0 hw hl0 he0 (low_at (v_at h5 t.val ht)) (k0_at h4 t.val ht) _ _ hr
        refine key.trans (congrArg _ (congrArg _ ?_))
        unfold A
        refine Finset.sum_congr rfl fun y _ => ?_
        have d := (ds0_at hq0 hw hl0 he0 h4 h5 t.val ht ⟨κ.val - 512 * t.val, by omega⟩ y).symm.trans
          (pay13_at hq0 hw hl0 he0 (low_at (v_at h5 t.val ht)) (k0_at h4 t.val ht) _ y)
        rw [← EReal.coe_injective d, show j.val / 128 = 0 by omega, show 512 * t.val + (κ.val - 512 * t.val) = κ.val by omega]
    · refine (View.read_writes_cons_unit_of_mem _ _ _ _ _ _ (ix2 ⟨κ.val - 512 * t.val, by omega⟩ ⟨j.val - 128, by omega⟩) rfl fun a => ?_).trans ?_
      · rw [e3]
        match a with
        | ⟨0, _⟩ => show κ.val = 512 * t.val + (κ.val - 512 * t.val); omega
        | ⟨1, _⟩ => show j.val = 128 + (j.val - 128); omega
      · have hr : rows (arg9.view.read (Elt Ideal) f9) t.val 128 ht (by norm_num) (ix2 ⟨κ.val - 512 * t.val, by omega⟩ ⟨j.val - 128, by omega⟩) = (ρ : EReal) :=
          (rows_at _ ht _ κ j _ _ (by simp only; omega) (by simp only; omega)).trans hρ
        have key := pay15_at hq1 hw hl1 he1 (pay6_at (v_at h5 t.val ht)) (k1_at h4 t.val ht) _ _ hr
        refine key.trans (congrArg _ (congrArg _ ?_))
        unfold A
        refine Finset.sum_congr rfl fun y _ => ?_
        have d := (ds1_at hq1 hw hl1 he1 h4 h5 t.val ht ⟨κ.val - 512 * t.val, by omega⟩ y).symm.trans
          (pay13_at hq1 hw hl1 he1 (pay6_at (v_at h5 t.val ht)) (k1_at h4 t.val ht) _ y)
        rw [← EReal.coe_injective d, show j.val / 128 = 1 by omega, show 512 * t.val + (κ.val - 512 * t.val) = κ.val by omega,
          show 128 + (j.val - 128) = j.val by omega]
  · rw [if_neg hκ, add_zero, ← hρ]
    have out : κ.val < 512 * t.val ∨ 512 * t.val + 512 ≤ κ.val := by omega
    refine (View.read_writes_cons_unit_of_not_mem _ _ _ _ _ _ rfl 0 ?_).trans ?_
    · rw [e3]; exact out
    refine (View.read_writes_cons_unit_of_not_mem _ _ _ _ _ _ rfl 0 ?_).trans rfl
    rw [e2]; exact out

include hq0 hq1 hg0 hg1 hl0 hl1 h4 in
theorem step10 (κ : Fin 8192) (j : Fin 128) {ρ : ℝ} (hρ : arg10.view.read (Elt Ideal) f10 (ix2 κ j) = (ρ : EReal)) :
    arg10.view.read (Elt Ideal) (arg10.view.writes (Elt Ideal) f10
      (tripL_k1_t1 (F := Ideal) Variants.none c none i arg2 harg2 arg3 harg3 arg4 harg4 arg5 harg5 arg6 harg6 arg7 harg7 arg8 harg8 arg9 harg9 arg10 harg10 arg11 harg11 v8 v10 v12 v17 v20 v22 v24 v26 v28 (harg6.unread x4) (harg7.unread x5) t f9 f10 f11).2.1) (ix2 κ j)
      = ((ρ + (if κ.val / 512 = t.val then B X0 X1 X4 L κ.val j.val else 0) : ℝ) : EReal) := by
  rw [trip10]
  have e1 := fun a => congrFun (off1_eq t) a
  have ht := trips_lt t
  by_cases hκ : κ.val / 512 = t.val
  · obtain ⟨lo, hi⟩ := in_block hκ
    rw [if_pos hκ]
    refine (View.read_writes_cons_unit_of_mem _ _ _ _ _ _ (ix2 ⟨κ.val - 512 * t.val, by omega⟩ j) rfl fun a => ?_).trans ?_
    · rw [e1]
      match a with
      | ⟨0, _⟩ => show κ.val = 512 * t.val + (κ.val - 512 * t.val); omega
      | ⟨1, _⟩ => exact (Nat.zero_add _).symm
    · rw [pay9_eq]
      have hr : rows (arg10.view.read (Elt Ideal) f10) t.val 0 ht (by norm_num) (ix2 ⟨κ.val - 512 * t.val, by omega⟩ j) = (ρ : EReal) :=
        (rows_at _ ht _ κ j _ _ (by simp only; omega) (Nat.zero_add _)).trans hρ
      have key := pay14_at hq1 (k1_at h4 t.val ht) hl1 hg1 _ j (pay14_at hq0 (k0_at h4 t.val ht) hl0 hg0 _ j hr)
      refine key.trans (congrArg _ ?_)
      unfold B wt P
      have e : 512 * t.val + (κ.val - 512 * t.val) = κ.val := by omega
      by_cases hj : j.val < 64
      · simp [hj, e, show j.val / 64 = 0 by omega]
      · simp [hj, e, show j.val / 64 = 1 by omega]
  · rw [if_neg hκ, add_zero, ← hρ]
    have out : κ.val < 512 * t.val ∨ 512 * t.val + 512 ≤ κ.val := by omega
    refine (View.read_writes_cons_unit_of_not_mem _ _ _ _ _ _ rfl 0 ?_).trans ?_
    · rw [e1]; exact out
    refine (View.read_writes_cons_unit_of_not_mem _ _ _ _ _ _ rfl 0 ?_).trans rfl
    rw [e1]; exact out

include hq0 hq1 hw hl0 hl1 he0 he1 h4 h5 in
theorem step11 (h : Fin 2) (j : Fin 128) (y : Fin 2048) {ρ : ℝ} (hρ : arg11.view.read (Elt Ideal) f11 (ix3 h j y) = (ρ : EReal)) :
    arg11.view.read (Elt Ideal) (arg11.view.writes (Elt Ideal) f11
      (tripL_k1_t1 (F := Ideal) Variants.none c none i arg2 harg2 arg3 harg3 arg4 harg4 arg5 harg5 arg6 harg6 arg7 harg7 arg8 harg8 arg9 harg9 arg10 harg10 arg11 harg11 v8 v10 v12 v17 v20 v22 v24 v26 v28 (harg6.unread x4) (harg7.unread x5) t f9 f10 f11).2.2) (ix3 h j y)
      = ((ρ + ∑ b : Fin 512, X4 (512 * t.val + b.val) (128 * h.val + j.val) * DS X0 X1 X4 X5 L D h.val (512 * t.val + b.val) y.val : ℝ) : EReal) := by
  rw [trip11]
  have ht := trips_lt t
  match h, hρ with
  | ⟨0, _⟩, hρ =>
    refine (View.read_writes_cons_unit_of_not_mem _ _ _ _ _ _ rfl 0 (.inl Nat.zero_lt_one)).trans ?_
    refine (View.read_writes_cons_unit_of_mem _ _ _ _ _ _ (ix3 0 j y) rfl fun a => ?_).trans ?_
    · match a with
      | ⟨0, _⟩ => rfl
      | ⟨1, _⟩ => exact (Nat.zero_add _).symm
      | ⟨2, _⟩ => exact (Nat.zero_add _).symm
    · exact pay11_at (ds0_at hq0 hw hl0 he0 h4 h5 t.val ht) (k0_at h4 t.val ht) j y hρ
  | ⟨1, _⟩, hρ =>
    refine (View.read_writes_cons_unit_of_mem _ _ _ _ _ _ (ix3 0 j y) rfl fun a => ?_).trans ?_
    · match a with
      | ⟨0, _⟩ => rfl
      | ⟨1, _⟩ => exact (Nat.zero_add _).symm
      | ⟨2, _⟩ => exact (Nat.zero_add _).symm
    · rw [pay1_eq]
      exact pay11_at (ds1_at hq1 hw hl1 he1 h4 h5 t.val ht) (k1_at h4 t.val ht) j y hρ

include hq0 hq1 hw hg0 hg1 hl0 hl1 he0 he1 h4 h5 in
/-- The three arrays of sums after `n` trips. -/
theorem sums_all {R9 R10 : ℕ → ℕ → ℝ} {R11 : ℕ → ℕ → ℕ → ℝ} (hR9 : ∀ κ j, arg9.view.read (Elt Ideal) f9 (ix2 κ j) = (R9 κ.val j.val : EReal))
    (hR10 : ∀ κ j, arg10.view.read (Elt Ideal) f10 (ix2 κ j) = (R10 κ.val j.val : EReal))
    (hR11 : ∀ h j y, arg11.view.read (Elt Ideal) f11 (ix3 h j y) = (R11 h.val j.val y.val : EReal)) : ∀ n, n ≤ 16 →
    (∀ κ j, arg9.view.read (Elt Ideal) (arg9.view.writes (Elt Ideal) f9 (pb_k1_t1 (F := Ideal) Variants.none c none i arg2 harg2 arg3 harg3 arg4 harg4 arg5 harg5 arg6 harg6 arg7 harg7 arg8 harg8 arg9 harg9 arg10 harg10 arg11 harg11 v8 v10 v12 v17 v20 v22 v24 v26 v28 (harg6.unread x4) (harg7.unread x5) f9 f10 f11 n).1) (ix2 κ j)
        = ((R9 κ.val j.val + (if κ.val / 512 < n then A X0 X1 X4 X5 L D κ.val j.val else 0) : ℝ) : EReal))
    ∧ (∀ κ j, arg10.view.read (Elt Ideal) (arg10.view.writes (Elt Ideal) f10 (pb_k1_t1 (F := Ideal) Variants.none c none i arg2 harg2 arg3 harg3 arg4 harg4 arg5 harg5 arg6 harg6 arg7 harg7 arg8 harg8 arg9 harg9 arg10 harg10 arg11 harg11 v8 v10 v12 v17 v20 v22 v24 v26 v28 (harg6.unread x4) (harg7.unread x5) f9 f10 f11 n).2.1) (ix2 κ j)
        = ((R10 κ.val j.val + (if κ.val / 512 < n then B X0 X1 X4 L κ.val j.val else 0) : ℝ) : EReal))
    ∧ (∀ h j y, arg11.view.read (Elt Ideal) (arg11.view.writes (Elt Ideal) f11 (pb_k1_t1 (F := Ideal) Variants.none c none i arg2 harg2 arg3 harg3 arg4 harg4 arg5 harg5 arg6 harg6 arg7 harg7 arg8 harg8 arg9 harg9 arg10 harg10 arg11 harg11 v8 v10 v12 v17 v20 v22 v24 v26 v28 (harg6.unread x4) (harg7.unread x5) f9 f10 f11 n).2.2) (ix3 h j y)
        = ((R11 h.val j.val y.val + C X0 X1 X4 X5 L D n h.val j.val y.val : ℝ) : EReal)) := by
  intro n
  induction n with
  | zero =>
    intro _
    refine ⟨fun κ j => (hR9 κ j).trans ?_, fun κ j => (hR10 κ j).trans ?_, fun h j y => (hR11 h j y).trans ?_⟩ <;> simp [C]
  | succ n ih =>
    intro hn
    obtain ⟨a, b, d⟩ := ih (by omega)
    have e := pb_k1_t1_succ (F := Ideal) Variants.none c none i arg2 harg2 arg3 harg3 arg4 harg4 arg5 harg5 arg6 harg6 arg7 harg7 arg8 harg8 arg9 harg9 arg10 harg10 arg11 harg11 v8 v10 v12 v17 v20 v22 v24 v26 v28 (harg6.unread x4) (harg7.unread x5) f9 f10 f11 ⟨n, by exact hn⟩
    dsimp only at e
    rw [e]
    have key : ∀ (κ : ℕ) (r s : ℝ), r + (if κ / 512 < n then s else 0) + (if κ / 512 = n then s else 0) = r + (if κ / 512 < n + 1 then s else 0) := by
      intro κ r s
      rcases lt_trichotomy (κ / 512) n with h | h | h
      · simp [h, h.ne, Nat.lt_succ_of_lt h]
      · simp [h]
      · simp [h.ne', not_lt.mpr h.le, show ¬ κ / 512 < n + 1 by omega]
    refine ⟨fun κ j => ?_, fun κ j => ?_, fun h j y => ?_⟩
    · rw [View.writes_append, step9 (hq0 := hq0) (hq1 := hq1) (hw := hw) (hl0 := hl0) (hl1 := hl1) (he0 := he0) (he1 := he1) (h4 := h4) (h5 := h5) (hρ := a κ j), key]
    · rw [View.writes_append, step10 (hq0 := hq0) (hq1 := hq1) (hg0 := hg0) (hg1 := hg1) (hl0 := hl0) (hl1 := hl1) (h4 := h4) (hρ := b κ j), key]
    · rw [View.writes_append, step11 (hq0 := hq0) (hq1 := hq1) (hw := hw) (hl0 := hl0) (hl1 := hl1) (he0 := he0) (he1 := he1) (h4 := h4) (h5 := h5) (hρ := d h j y), add_assoc, C, C, Finset.sum_range_succ]

end Cert.AttnIdeal.Bwd

end
-- ==== Proof.AttnBwdOut.lean ====
/- The attention gradient's blocks after all trips, over real blocks. -/
module

public import proofs.«01_k».proof.Proof.AttnBwdLoop

@[expose] public section

set_option maxRecDepth 16384

noncomputable section

namespace Cert.AttnIdeal.Bwd

open Idealize.ShloMosaic Idealize.ShloMosaic.TcCoe Idealize.SL.Sem
open Cert.AttnIdeal Cert.AttnIdeal.Gen Cert.Reals

variable (c : Dev nD) (i : grid1.Coords) (arg2 : Memref sig .tc .vmem S2048x256 .bf16) (harg2 : arg2.IsWhole)
  (arg3 : Memref sig .tc .vmem S2048x128 .bf16) (harg3 : arg3.IsWhole) (arg4 : Memref sig .tc .vmem S1x2x2048 .f32)
  (harg4 : arg4.IsWhole) (arg5 : Memref sig .tc .vmem S1x2x2048 .f32) (harg5 : arg5.IsWhole)
  (arg6 : Memref sig .tc .vmem S8192x256 .bf16) (harg6 : arg6.IsWhole) (arg7 : Memref sig .tc .vmem S8192x128 .bf16)
  (harg7 : arg7.IsWhole) (arg8 : Memref sig .tc .vmem S2048x256 .f32) (harg8 : arg8.IsWhole)
  (arg9 : Memref sig .tc .vmem S8192x256 .f32) (harg9 : arg9.IsWhole) (arg10 : Memref sig .tc .vmem S8192x128 .f32)
  (harg10 : arg10.IsWhole) (arg11 : Memref sig .tc .vmem S2x128x2048 .f32) (harg11 : arg11.IsWhole)
  {x0 : Vec Ideal S2048x256 .bf16} {x1 : Vec Ideal S2048x128 .bf16} {x2 x3 : Vec Ideal S1x2x2048 .f32}
  {x4 : Vec Ideal S8192x256 .bf16} {x5 : Vec Ideal S8192x128 .bf16} {xo7 : Vec Ideal S8192x256 .f32} {xo8 : Vec Ideal S8192x128 .f32}

variable {X0 X1 X4 X5 L D R9 R10 : ℕ → ℕ → ℝ}
  (h0 : ∀ y j, x0 (ix2 y j) = (X0 y.val j.val : EReal)) (h1 : ∀ y d, x1 (ix2 y d) = (X1 y.val d.val : EReal))
  (h2 : ∀ h y, x2 (ix3 0 h y) = (L h.val y.val : EReal)) (h3 : ∀ h y, x3 (ix3 0 h y) = (D h.val y.val : EReal))
  (h4 : ∀ κ j, x4 (ix2 κ j) = (X4 κ.val j.val : EReal)) (h5 : ∀ κ d, x5 (ix2 κ d) = (X5 κ.val d.val : EReal))
  (hR9 : ∀ κ j, xo7 (ix2 κ j) = (R9 κ.val j.val : EReal)) (hR10 : ∀ κ j, xo8 (ix2 κ j) = (R10 κ.val j.val : EReal))

include h0 in
theorem q0_at (y : Fin 2048) (j : Fin 128) : k1_pay20 (F := Ideal) (arg2.view.readAt (Elt Ideal) (Rect.unit (s := S2048x256) ![0, 0] S2048x128.size inb_S2048x256_S2048x128_0_0).toLoadRect (harg2.unread x0)) (ix2 y j) = (X0 y.val j.val : EReal) := by
  rw [pay20_eq, View.readAt_eq_ld, harg2.read_unread]
  refine (View.ld_unit_apply_of _ _ _ _ _ (ix2 y ⟨j.val, by omega⟩) fun a => ?_).trans (h0 _ _)
  match a with
  | ⟨0, _⟩ => exact (Nat.zero_add _).symm
  | ⟨1, _⟩ => exact (Nat.zero_add _).symm

include h0 in
theorem q1_at (y : Fin 2048) (j : Fin 128) : k1_pay21 (F := Ideal) (arg2.view.readAt (Elt Ideal) (Rect.unit (s := S2048x256) ![0, 128] S2048x128.size inb_S2048x256_S2048x128_0_128).toLoadRect (harg2.unread x0)) (ix2 y j) = (X0 y.val (128 + j.val) : EReal) := by
  rw [pay21_eq, View.readAt_eq_ld, harg2.read_unread]
  refine (View.ld_unit_apply_of _ _ _ _ _ (ix2 y ⟨128 + j.val, by omega⟩) fun a => ?_).trans (h0 _ _)
  match a with
  | ⟨0, _⟩ => exact (Nat.zero_add _).symm
  | ⟨1, _⟩ => rfl

theorem load_w : (arg3.view.readAt (Elt Ideal) (Rect.unit (s := S2048x128) ![0, 0] S2048x128.size inb_S2048x128_S2048x128_0_0).toLoadRect (harg3.unread x1) : FVec Ideal S2048x128 .bf16) = x1 := by
  funext j
  rw [View.readAt_eq_ld, harg3.read_unread]
  refine View.ld_unit_apply_of _ _ _ _ _ _ fun a => ?_
  match a with
  | ⟨0, _⟩ => exact (Nat.zero_add _).symm
  | ⟨1, _⟩ => exact (Nat.zero_add _).symm

include h1 in
theorem w_at (y : Fin 2048) (d : Fin 128) : k1_pay22 (F := Ideal) (arg3.view.readAt (Elt Ideal) (Rect.unit (s := S2048x128) ![0, 0] S2048x128.size inb_S2048x128_S2048x128_0_0).toLoadRect (harg3.unread x1)) (ix2 y d) = (X1 y.val d.val : EReal) := by
  rw [load_w, pay22_eq]; exact h1 y d

include h1 in
theorem g0_at (y : Fin 2048) (d : Fin 128) : k1_pay24 (F := Ideal) (arg3.view.readAt (Elt Ideal) (Rect.unit (s := S2048x128) ![0, 0] S2048x128.size inb_S2048x128_S2048x128_0_0).toLoadRect (harg3.unread x1)) (ix2 y d) = ((if d.val < 64 then X1 y.val d.val else 0 : ℝ) : EReal) := by
  rw [load_w]; exact pay24_at h1 y d

include h1 in
theorem g1_at (y : Fin 2048) (d : Fin 128) : k1_pay25 (F := Ideal) (arg3.view.readAt (Elt Ideal) (Rect.unit (s := S2048x128) ![0, 0] S2048x128.size inb_S2048x128_S2048x128_0_0).toLoadRect (harg3.unread x1)) (ix2 y d) = ((if d.val < 64 then 0 else X1 y.val d.val : ℝ) : EReal) := by
  rw [load_w]; exact pay25_at h1 y d

include h2 in
theorem row0_at (y : Fin 2048) : k1_pay26 (F := Ideal) (arg4.view.readAt (Elt Ideal) (Rect.unit (s := S1x2x2048) ![0, 0, 0] S1x1x2048.size inb_S1x2x2048_S1x1x2048_0_0_0).toLoadRect (harg4.unread x2)) (ix2 0 y) = (L 0 y.val : EReal) := by
  rw [pay26_at, View.readAt_eq_ld, harg4.read_unread]
  refine (View.ld_unit_apply_of _ _ _ _ _ (ix3 0 0 y) fun a => ?_).trans (h2 _ _)
  match a with
  | ⟨0, _⟩ => rfl
  | ⟨1, _⟩ => rfl
  | ⟨2, _⟩ => exact (Nat.zero_add _).symm

include h2 in
theorem row1_at (y : Fin 2048) : k1_pay26 (F := Ideal) (arg4.view.readAt (Elt Ideal) (Rect.unit (s := S1x2x2048) ![0, 1, 0] S1x1x2048.size inb_S1x2x2048_S1x1x2048_0_1_0).toLoadRect (harg4.unread x2)) (ix2 0 y) = (L 1 y.val : EReal) := by
  rw [pay26_at, View.readAt_eq_ld, harg4.read_unread]
  refine (View.ld_unit_apply_of _ _ _ _ _ (ix3 0 1 y) fun a => ?_).trans (h2 _ _)
  match a with
  | ⟨0, _⟩ => rfl
  | ⟨1, _⟩ => rfl
  | ⟨2, _⟩ => exact (Nat.zero_add _).symm

theorem fill9 (κ : Fin 8192) (j : Fin 256) : arg9.view.read (Elt Ideal) (arg9.view.writes (Elt Ideal) arg9.view.junk kernelRun1_A.sl.H7_1) (ix2 κ j) = ((0 : ℝ) : EReal) := by
  refine (View.read_writes_cons_unit_of_mem _ _ _ _ _ _ (ix2 κ j) rfl fun a => ?_).trans ?_
  · match a with
    | ⟨0, _⟩ => exact (Nat.zero_add _).symm
    | ⟨1, _⟩ => exact (Nat.zero_add _).symm
  · exact pay17_at κ j

theorem fill10 (κ : Fin 8192) (j : Fin 128) : arg10.view.read (Elt Ideal) (arg10.view.writes (Elt Ideal) arg10.view.junk kernelRun1_A.sl.H8_1) (ix2 κ j) = ((0 : ℝ) : EReal) := by
  refine (View.read_writes_cons_unit_of_mem _ _ _ _ _ _ (ix2 κ j) rfl fun a => ?_).trans ?_
  · match a with
    | ⟨0, _⟩ => exact (Nat.zero_add _).symm
    | ⟨1, _⟩ => exact (Nat.zero_add _).symm
  · exact pay18_at κ j

theorem fill11 (h : Fin 2) (j : Fin 128) (y : Fin 2048) : arg11.view.read (Elt Ideal) (arg11.view.writes (Elt Ideal) arg11.view.junk kernelRun1_A.sl.HS0_1) (ix3 h j y) = ((0 : ℝ) : EReal) := by
  refine (View.read_writes_cons_unit_of_mem _ _ _ _ _ _ (ix3 h j y) rfl fun a => ?_).trans ?_
  · match a with
    | ⟨0, _⟩ => exact (Nat.zero_add _).symm
    | ⟨1, _⟩ => exact (Nat.zero_add _).symm
    | ⟨2, _⟩ => exact (Nat.zero_add _).symm
  · exact pay19_at h j y

theorem trips16 : Scf.trips k1_t1_loop.lb k1_t1_loop.ub k1_t1_loop.st = 16 := by decide +kernel

include h0 h1 h2 h3 h4 h5 in
/-- The three arrays of sums after all trips, from zeros. -/
theorem sumsA : (∀ κ j, arg9.view.read (Elt Ideal) (arg9.view.writes (Elt Ideal) (arg9.view.writes (Elt Ideal) arg9.view.junk kernelRun1_A.sl.H7_1) (pb_k1_t1 (F := Ideal) Variants.none c none i arg2 harg2 arg3 harg3 arg4 harg4 arg5 harg5 arg6 harg6 arg7 harg7 arg8 harg8 arg9 harg9 arg10 harg10 arg11 harg11 (kernelRun1_A.sl.r c arg2 harg2 x0) (kernelRun1_A.sl.r_1 c arg2 harg2 x0) (kernelRun1_A.sl.r_2 c arg3 harg3 x1) (kernelRun1_A.sl.r_3 c arg3 harg3 x1) (kernelRun1_A.sl.r_4 c arg3 harg3 x1) (kernelRun1_A.sl.r_5 c arg4 harg4 x2) (kernelRun1_A.sl.r_6 c arg4 harg4 x2) (kernelRun1_A.sl.r_7 c arg5 harg5 x3) (kernelRun1_A.sl.r_8 c arg5 harg5 x3) (harg6.unread x4) (harg7.unread x5) (arg9.view.writes (Elt Ideal) arg9.view.junk kernelRun1_A.sl.H7_1) (arg10.view.writes (Elt Ideal) arg10.view.junk kernelRun1_A.sl.H8_1) (arg11.view.writes (Elt Ideal) arg11.view.junk kernelRun1_A.sl.HS0_1) (Scf.trips k1_t1_loop.lb k1_t1_loop.ub k1_t1_loop.st)).1) (ix2 κ j)
      = ((A X0 X1 X4 X5 L D κ.val j.val : ℝ) : EReal))
    ∧ (∀ κ j, arg10.view.read (Elt Ideal) (arg10.view.writes (Elt Ideal) (arg10.view.writes (Elt Ideal) arg10.view.junk kernelRun1_A.sl.H8_1) (pb_k1_t1 (F := Ideal) Variants.none c none i arg2 harg2 arg3 harg3 arg4 harg4 arg5 harg5 arg6 harg6 arg7 harg7 arg8 harg8 arg9 harg9 arg10 harg10 arg11 harg11 (kernelRun1_A.sl.r c arg2 harg2 x0) (kernelRun1_A.sl.r_1 c arg2 harg2 x0) (kernelRun1_A.sl.r_2 c arg3 harg3 x1) (kernelRun1_A.sl.r_3 c arg3 harg3 x1) (kernelRun1_A.sl.r_4 c arg3 harg3 x1) (kernelRun1_A.sl.r_5 c arg4 harg4 x2) (kernelRun1_A.sl.r_6 c arg4 harg4 x2) (kernelRun1_A.sl.r_7 c arg5 harg5 x3) (kernelRun1_A.sl.r_8 c arg5 harg5 x3) (harg6.unread x4) (harg7.unread x5) (arg9.view.writes (Elt Ideal) arg9.view.junk kernelRun1_A.sl.H7_1) (arg10.view.writes (Elt Ideal) arg10.view.junk kernelRun1_A.sl.H8_1) (arg11.view.writes (Elt Ideal) arg11.view.junk kernelRun1_A.sl.HS0_1) (Scf.trips k1_t1_loop.lb k1_t1_loop.ub k1_t1_loop.st)).2.1) (ix2 κ j)
      = ((B X0 X1 X4 L κ.val j.val : ℝ) : EReal))
    ∧ (∀ h j y, arg11.view.read (Elt Ideal) (arg11.view.writes (Elt Ideal) (arg11.view.writes (Elt Ideal) arg11.view.junk kernelRun1_A.sl.HS0_1) (pb_k1_t1 (F := Ideal) Variants.none c none i arg2 harg2 arg3 harg3 arg4 harg4 arg5 harg5 arg6 harg6 arg7 harg7 arg8 harg8 arg9 harg9 arg10 harg10 arg11 harg11 (kernelRun1_A.sl.r c arg2 harg2 x0) (kernelRun1_A.sl.r_1 c arg2 harg2 x0) (kernelRun1_A.sl.r_2 c arg3 harg3 x1) (kernelRun1_A.sl.r_3 c arg3 harg3 x1) (kernelRun1_A.sl.r_4 c arg3 harg3 x1) (kernelRun1_A.sl.r_5 c arg4 harg4 x2) (kernelRun1_A.sl.r_6 c arg4 harg4 x2) (kernelRun1_A.sl.r_7 c arg5 harg5 x3) (kernelRun1_A.sl.r_8 c arg5 harg5 x3) (harg6.unread x4) (harg7.unread x5) (arg9.view.writes (Elt Ideal) arg9.view.junk kernelRun1_A.sl.H7_1) (arg10.view.writes (Elt Ideal) arg10.view.junk kernelRun1_A.sl.H8_1) (arg11.view.writes (Elt Ideal) arg11.view.junk kernelRun1_A.sl.HS0_1) (Scf.trips k1_t1_loop.lb k1_t1_loop.ub k1_t1_loop.st)).2.2) (ix3 h j y)
      = ((C X0 X1 X4 X5 L D 16 h.val j.val y.val : ℝ) : EReal)) := by
  obtain ⟨a, b, d⟩ := sums_all c i arg2 harg2 arg3 harg3 arg4 harg4 arg5 harg5 arg6 harg6 arg7 harg7 arg8 harg8 arg9 harg9 arg10 harg10 arg11 harg11
    (v8 := kernelRun1_A.sl.r c arg2 harg2 x0) (v10 := kernelRun1_A.sl.r_1 c arg2 harg2 x0) (v12 := kernelRun1_A.sl.r_2 c arg3 harg3 x1)
    (v17 := kernelRun1_A.sl.r_3 c arg3 harg3 x1) (v20 := kernelRun1_A.sl.r_4 c arg3 harg3 x1) (v22 := kernelRun1_A.sl.r_5 c arg4 harg4 x2)
    (v24 := kernelRun1_A.sl.r_6 c arg4 harg4 x2) (v26 := kernelRun1_A.sl.r_7 c arg5 harg5 x3) (v28 := kernelRun1_A.sl.r_8 c arg5 harg5 x3)
    (arg9.view.writes (Elt Ideal) arg9.view.junk kernelRun1_A.sl.H7_1) (arg10.view.writes (Elt Ideal) arg10.view.junk kernelRun1_A.sl.H8_1) (arg11.view.writes (Elt Ideal) arg11.view.junk kernelRun1_A.sl.HS0_1) (X0 := X0) (X1 := X1) (X4 := X4) (X5 := X5) (L := L) (D := D)
    (fun y j => q0_at arg2 harg2 h0 y j) (fun y j => q1_at arg2 harg2 h0 y j) (fun y d => w_at arg3 harg3 h1 y d)
    (fun y d => g0_at arg3 harg3 h1 y d) (fun y d => g1_at arg3 harg3 h1 y d) (fun y => row0_at arg4 harg4 h2 y) (fun y => row1_at arg4 harg4 h2 y)
    (fun y => row0_at arg5 harg5 h3 y) (fun y => row1_at arg5 harg5 h3 y) h4 h5 (R9 := fun _ _ => 0) (R10 := fun _ _ => 0) (R11 := fun _ _ _ => 0)
    (fun κ j => fill9 arg9 κ j) (fun κ j => fill10 arg10 κ j) (fun h j y => fill11 arg11 h j y) (Scf.trips k1_t1_loop.lb k1_t1_loop.ub k1_t1_loop.st) trips16.le
  refine ⟨fun κ j => (a κ j).trans (congrArg _ ?_), fun κ j => (b κ j).trans (congrArg _ ?_), fun h j y => (d h j y).trans (congrArg _ ?_)⟩
  · rw [trips16, if_pos (by omega), zero_add]
  · rw [trips16, if_pos (by omega), zero_add]
  · rw [trips16, zero_add]

include h0 h1 h2 h3 h4 h5 hR9 hR10 in
/-- The three arrays of sums after all trips, from what the point before left. -/
theorem sumsB : (∀ κ j, arg9.view.read (Elt Ideal) (arg9.view.writes (Elt Ideal) (harg9.unread xo7) (pb_k1_t1 (F := Ideal) Variants.none c none i arg2 harg2 arg3 harg3 arg4 harg4 arg5 harg5 arg6 harg6 arg7 harg7 arg8 harg8 arg9 harg9 arg10 harg10 arg11 harg11 (kernelRun1_B.sl.r c arg2 harg2 x0) (kernelRun1_B.sl.r_1 c arg2 harg2 x0) (kernelRun1_B.sl.r_2 c arg3 harg3 x1) (kernelRun1_B.sl.r_3 c arg3 harg3 x1) (kernelRun1_B.sl.r_4 c arg3 harg3 x1) (kernelRun1_B.sl.r_5 c arg4 harg4 x2) (kernelRun1_B.sl.r_6 c arg4 harg4 x2) (kernelRun1_B.sl.r_7 c arg5 harg5 x3) (kernelRun1_B.sl.r_8 c arg5 harg5 x3) (harg6.unread x4) (harg7.unread x5) (harg9.unread xo7) (harg10.unread xo8) (arg11.view.writes (Elt Ideal) arg11.view.junk kernelRun1_B.sl.HS0_1) (Scf.trips k1_t1_loop.lb k1_t1_loop.ub k1_t1_loop.st)).1) (ix2 κ j)
      = ((R9 κ.val j.val + A X0 X1 X4 X5 L D κ.val j.val : ℝ) : EReal))
    ∧ (∀ κ j, arg10.view.read (Elt Ideal) (arg10.view.writes (Elt Ideal) (harg10.unread xo8) (pb_k1_t1 (F := Ideal) Variants.none c none i arg2 harg2 arg3 harg3 arg4 harg4 arg5 harg5 arg6 harg6 arg7 harg7 arg8 harg8 arg9 harg9 arg10 harg10 arg11 harg11 (kernelRun1_B.sl.r c arg2 harg2 x0) (kernelRun1_B.sl.r_1 c arg2 harg2 x0) (kernelRun1_B.sl.r_2 c arg3 harg3 x1) (kernelRun1_B.sl.r_3 c arg3 harg3 x1) (kernelRun1_B.sl.r_4 c arg3 harg3 x1) (kernelRun1_B.sl.r_5 c arg4 harg4 x2) (kernelRun1_B.sl.r_6 c arg4 harg4 x2) (kernelRun1_B.sl.r_7 c arg5 harg5 x3) (kernelRun1_B.sl.r_8 c arg5 harg5 x3) (harg6.unread x4) (harg7.unread x5) (harg9.unread xo7) (harg10.unread xo8) (arg11.view.writes (Elt Ideal) arg11.view.junk kernelRun1_B.sl.HS0_1) (Scf.trips k1_t1_loop.lb k1_t1_loop.ub k1_t1_loop.st)).2.1) (ix2 κ j)
      = ((R10 κ.val j.val + B X0 X1 X4 L κ.val j.val : ℝ) : EReal))
    ∧ (∀ h j y, arg11.view.read (Elt Ideal) (arg11.view.writes (Elt Ideal) (arg11.view.writes (Elt Ideal) arg11.view.junk kernelRun1_B.sl.HS0_1) (pb_k1_t1 (F := Ideal) Variants.none c none i arg2 harg2 arg3 harg3 arg4 harg4 arg5 harg5 arg6 harg6 arg7 harg7 arg8 harg8 arg9 harg9 arg10 harg10 arg11 harg11 (kernelRun1_B.sl.r c arg2 harg2 x0) (kernelRun1_B.sl.r_1 c arg2 harg2 x0) (kernelRun1_B.sl.r_2 c arg3 harg3 x1) (kernelRun1_B.sl.r_3 c arg3 harg3 x1) (kernelRun1_B.sl.r_4 c arg3 harg3 x1) (kernelRun1_B.sl.r_5 c arg4 harg4 x2) (kernelRun1_B.sl.r_6 c arg4 harg4 x2) (kernelRun1_B.sl.r_7 c arg5 harg5 x3) (kernelRun1_B.sl.r_8 c arg5 harg5 x3) (harg6.unread x4) (harg7.unread x5) (harg9.unread xo7) (harg10.unread xo8) (arg11.view.writes (Elt Ideal) arg11.view.junk kernelRun1_B.sl.HS0_1) (Scf.trips k1_t1_loop.lb k1_t1_loop.ub k1_t1_loop.st)).2.2) (ix3 h j y)
      = ((C X0 X1 X4 X5 L D 16 h.val j.val y.val : ℝ) : EReal)) := by
  obtain ⟨a, b, d⟩ := sums_all c i arg2 harg2 arg3 harg3 arg4 harg4 arg5 harg5 arg6 harg6 arg7 harg7 arg8 harg8 arg9 harg9 arg10 harg10 arg11 harg11
    (v8 := kernelRun1_B.sl.r c arg2 harg2 x0) (v10 := kernelRun1_B.sl.r_1 c arg2 harg2 x0) (v12 := kernelRun1_B.sl.r_2 c arg3 harg3 x1)
    (v17 := kernelRun1_B.sl.r_3 c arg3 harg3 x1) (v20 := kernelRun1_B.sl.r_4 c arg3 harg3 x1) (v22 := kernelRun1_B.sl.r_5 c arg4 harg4 x2)
    (v24 := kernelRun1_B.sl.r_6 c arg4 harg4 x2) (v26 := kernelRun1_B.sl.r_7 c arg5 harg5 x3) (v28 := kernelRun1_B.sl.r_8 c arg5 harg5 x3)
    (harg9.unread xo7) (harg10.unread xo8) (arg11.view.writes (Elt Ideal) arg11.view.junk kernelRun1_B.sl.HS0_1) (X0 := X0) (X1 := X1) (X4 := X4) (X5 := X5) (L := L) (D := D)
    (fun y j => q0_at arg2 harg2 h0 y j) (fun y j => q1_at arg2 harg2 h0 y j) (fun y d => w_at arg3 harg3 h1 y d)
    (fun y d => g0_at arg3 harg3 h1 y d) (fun y d => g1_at arg3 harg3 h1 y d) (fun y => row0_at arg4 harg4 h2 y) (fun y => row1_at arg4 harg4 h2 y)
    (fun y => row0_at arg5 harg5 h3 y) (fun y => row1_at arg5 harg5 h3 y) h4 h5 (R9 := R9) (R10 := R10) (R11 := fun _ _ _ => 0)
    (fun κ j => (congrFun (harg9.read_unread _) _).trans (hR9 κ j)) (fun κ j => (congrFun (harg10.read_unread _) _).trans (hR10 κ j)) (fun h j y => fill11 arg11 h j y) (Scf.trips k1_t1_loop.lb k1_t1_loop.ub k1_t1_loop.st) trips16.le
  refine ⟨fun κ j => (a κ j).trans (congrArg _ ?_), fun κ j => (b κ j).trans (congrArg _ ?_), fun h j y => (d h j y).trans (congrArg _ ?_)⟩
  · rw [trips16, if_pos (by omega)]
  · rw [trips16, if_pos (by omega)]
  · rw [trips16, zero_add]

include h0 h1 h2 h3 h4 h5 in
theorem outA7 (hc : cond1_0 i) (κ : Fin 8192) (j : Fin 256) : out1_A_7 (F := Ideal) c i arg2 harg2 arg3 harg3 arg4 harg4 arg5 harg5 arg6 harg6 arg7 harg7 arg8 harg8 arg9 harg9 arg10 harg10 arg11 harg11 hc x0 x1 x2 x3 x4 x5 (ix2 κ j)
    = ((A X0 X1 X4 X5 L D κ.val j.val : ℝ) : EReal) := by
  refine (congrFun (View.read_writes_of_cover arg9.view arg9.view.junk VO1_7 VO1_7.junk _ (cover1_A_7 c i arg2 harg2 arg3 harg3 arg4 harg4 arg5 harg5 arg6 harg6 arg7 harg7 arg8 harg8 arg9 harg9 arg10 harg10 arg11 harg11 hc x0 x1 x2 x3 x4 x5)) _).symm.trans ?_
  refine Eq.trans ?_ ((sumsA c i arg2 harg2 arg3 harg3 arg4 harg4 arg5 harg5 arg6 harg6 arg7 harg7 arg8 harg8 arg9 harg9 arg10 harg10 arg11 harg11 h0 h1 h2 h3 h4 h5).1 κ j)
  unfold kernelRun1_A
  dsimp only
  rw [View.writes_append]

include h0 h1 h2 h3 h4 h5 in
theorem outA8 (hc : cond1_0 i) (κ : Fin 8192) (j : Fin 128) : out1_A_8 (F := Ideal) c i arg2 harg2 arg3 harg3 arg4 harg4 arg5 harg5 arg6 harg6 arg7 harg7 arg8 harg8 arg9 harg9 arg10 harg10 arg11 harg11 hc x0 x1 x2 x3 x4 x5 (ix2 κ j)
    = ((B X0 X1 X4 L κ.val j.val : ℝ) : EReal) := by
  refine (congrFun (View.read_writes_of_cover arg10.view arg10.view.junk VO1_8 VO1_8.junk _ (cover1_A_8 c i arg2 harg2 arg3 harg3 arg4 harg4 arg5 harg5 arg6 harg6 arg7 harg7 arg8 harg8 arg9 harg9 arg10 harg10 arg11 harg11 hc x0 x1 x2 x3 x4 x5)) _).symm.trans ?_
  refine Eq.trans ?_ ((sumsA c i arg2 harg2 arg3 harg3 arg4 harg4 arg5 harg5 arg6 harg6 arg7 harg7 arg8 harg8 arg9 harg9 arg10 harg10 arg11 harg11 h0 h1 h2 h3 h4 h5).2.1 κ j)
  unfold kernelRun1_A
  dsimp only
  rw [View.writes_append]

include h0 h1 h2 h3 h4 h5 in
theorem outA6 (hc : cond1_0 i) (y : Fin 2048) (j : Fin 256) : out1_A_6 (F := Ideal) c i arg2 harg2 arg3 harg3 arg4 harg4 arg5 harg5 arg6 harg6 arg7 harg7 arg8 harg8 arg9 harg9 arg10 harg10 arg11 harg11 hc x0 x1 x2 x3 x4 x5 (ix2 y j)
    = ((C X0 X1 X4 X5 L D 16 (j.val / 128) (j.val % 128) y.val : ℝ) : EReal) := by
  have key := (sumsA c i arg2 harg2 arg3 harg3 arg4 harg4 arg5 harg5 arg6 harg6 arg7 harg7 arg8 harg8 arg9 harg9 arg10 harg10 arg11 harg11 h0 h1 h2 h3 h4 h5).2.2
  unfold out1_A_6 kernelRun1_A
  dsimp only
  by_cases hj : j.val < 128
  · refine (View.read_writes_cons_unit_of_not_mem _ _ _ _ _ _ rfl 1 (.inl hj)).trans ?_
    refine (View.read_writes_cons_unit_of_mem _ _ _ _ _ _ (ix2 y ⟨j.val, hj⟩) rfl fun a => ?_).trans ?_
    · match a with
      | ⟨0, _⟩ => exact (Nat.zero_add _).symm
      | ⟨1, _⟩ => exact (Nat.zero_add _).symm
    · refine (pay2_at y _).trans ?_
      rw [show j.val / 128 = 0 by omega, show j.val % 128 = j.val by omega]
      refine Eq.trans ?_ (key 0 ⟨j.val, hj⟩ y)
      unfold kernelRun1_A.sl.v30 View.readCov
      rw [View.writes_append, load_a0 arg11]
      rfl
  · refine (View.read_writes_cons_unit_of_mem _ _ _ _ _ _ (ix2 y ⟨j.val - 128, by omega⟩) rfl fun a => ?_).trans ?_
    · match a with
      | ⟨0, _⟩ => exact (Nat.zero_add _).symm
      | ⟨1, _⟩ => show j.val = 128 + (j.val - 128); omega
    · refine (pay2_at y _).trans ?_
      rw [show j.val / 128 = 1 by omega, show j.val % 128 = j.val - 128 by omega]
      refine Eq.trans ?_ (key 1 ⟨j.val - 128, by omega⟩ y)
      unfold kernelRun1_A.sl.v34 View.readCov
      rw [View.writes_append, load_a1 arg11]
      rfl

include h0 h1 h2 h3 h4 h5 hR9 hR10 in
theorem outB7 (hc : ¬ cond1_0 i) (κ : Fin 8192) (j : Fin 256) : out1_B_7 (F := Ideal) c i arg2 harg2 arg3 harg3 arg4 harg4 arg5 harg5 arg6 harg6 arg7 harg7 arg8 harg8 arg9 harg9 arg10 harg10 arg11 harg11 hc x0 x1 x2 x3 x4 x5 xo7 xo8 (ix2 κ j)
    = ((R9 κ.val j.val + A X0 X1 X4 X5 L D κ.val j.val : ℝ) : EReal) := by
  refine (congrFun (View.read_writes_of_cover arg9.view (harg9.unread xo7) VO1_7 VO1_7.junk _ (cover1_B_7 c i arg2 harg2 arg3 harg3 arg4 harg4 arg5 harg5 arg6 harg6 arg7 harg7 arg8 harg8 arg9 harg9 arg10 harg10 arg11 harg11 hc x0 x1 x2 x3 x4 x5 xo7 xo8)) _).symm.trans ?_
  refine Eq.trans ?_ ((sumsB c i arg2 harg2 arg3 harg3 arg4 harg4 arg5 harg5 arg6 harg6 arg7 harg7 arg8 harg8 arg9 harg9 arg10 harg10 arg11 harg11 h0 h1 h2 h3 h4 h5 hR9 hR10).1 κ j)
  unfold kernelRun1_B
  dsimp only

include h0 h1 h2 h3 h4 h5 hR9 hR10 in
theorem outB8 (hc : ¬ cond1_0 i) (κ : Fin 8192) (j : Fin 128) : out1_B_8 (F := Ideal) c i arg2 harg2 arg3 harg3 arg4 harg4 arg5 harg5 arg6 harg6 arg7 harg7 arg8 harg8 arg9 harg9 arg10 harg10 arg11 harg11 hc x0 x1 x2 x3 x4 x5 xo7 xo8 (ix2 κ j)
    = ((R10 κ.val j.val + B X0 X1 X4 L κ.val j.val : ℝ) : EReal) := by
  refine (congrFun (View.read_writes_of_cover arg10.view (harg10.unread xo8) VO1_8 VO1_8.junk _ (cover1_B_8 c i arg2 harg2 arg3 harg3 arg4 harg4 arg5 harg5 arg6 harg6 arg7 harg7 arg8 harg8 arg9 harg9 arg10 harg10 arg11 harg11 hc x0 x1 x2 x3 x4 x5 xo7 xo8)) _).symm.trans ?_
  refine Eq.trans ?_ ((sumsB c i arg2 harg2 arg3 harg3 arg4 harg4 arg5 harg5 arg6 harg6 arg7 harg7 arg8 harg8 arg9 harg9 arg10 harg10 arg11 harg11 h0 h1 h2 h3 h4 h5 hR9 hR10).2.1 κ j)
  unfold kernelRun1_B
  dsimp only

include h0 h1 h2 h3 h4 h5 hR9 hR10 in
theorem outB6 (hc : ¬ cond1_0 i) (y : Fin 2048) (j : Fin 256) : out1_B_6 (F := Ideal) c i arg2 harg2 arg3 harg3 arg4 harg4 arg5 harg5 arg6 harg6 arg7 harg7 arg8 harg8 arg9 harg9 arg10 harg10 arg11 harg11 hc x0 x1 x2 x3 x4 x5 xo7 xo8 (ix2 y j)
    = ((C X0 X1 X4 X5 L D 16 (j.val / 128) (j.val % 128) y.val : ℝ) : EReal) := by
  have key := (sumsB c i arg2 harg2 arg3 harg3 arg4 harg4 arg5 harg5 arg6 harg6 arg7 harg7 arg8 harg8 arg9 harg9 arg10 harg10 arg11 harg11 h0 h1 h2 h3 h4 h5 hR9 hR10).2.2
  unfold out1_B_6 kernelRun1_B
  dsimp only
  by_cases hj : j.val < 128
  · refine (View.read_writes_cons_unit_of_not_mem _ _ _ _ _ _ rfl 1 (.inl hj)).trans ?_
    refine (View.read_writes_cons_unit_of_mem _ _ _ _ _ _ (ix2 y ⟨j.val, hj⟩) rfl fun a => ?_).trans ?_
    · match a with
      | ⟨0, _⟩ => exact (Nat.zero_add _).symm
      | ⟨1, _⟩ => exact (Nat.zero_add _).symm
    · refine (pay2_at y _).trans ?_
      rw [show j.val / 128 = 0 by omega, show j.val % 128 = j.val by omega]
      refine Eq.trans ?_ (key 0 ⟨j.val, hj⟩ y)
      unfold kernelRun1_B.sl.v30 View.readCov
      rw [View.writes_append, load_a0 arg11]
      rfl
  · refine (View.read_writes_cons_unit_of_mem _ _ _ _ _ _ (ix2 y ⟨j.val - 128, by omega⟩) rfl fun a => ?_).trans ?_
    · match a with
      | ⟨0, _⟩ => exact (Nat.zero_add _).symm
      | ⟨1, _⟩ => show j.val = 128 + (j.val - 128); omega
    · refine (pay2_at y _).trans ?_
      rw [show j.val / 128 = 1 by omega, show j.val % 128 = j.val - 128 by omega]
      refine Eq.trans ?_ (key 1 ⟨j.val - 128, by omega⟩ y)
      unfold kernelRun1_B.sl.v34 View.readCov
      rw [View.writes_append, load_a1 arg11]
      rfl

end Cert.AttnIdeal.Bwd

end
-- ==== Proof.AttnArr.lean ====
/- What the two passes of the attention leave in their arrays, over real arrays. -/
module

public import proofs.«01_k».proof.Proof.AttnFwdOut
public import proofs.«01_k».proof.Proof.AttnBwdOut

@[expose] public section

set_option maxRecDepth 16384

noncomputable section

namespace Cert.AttnIdeal.Arr

open Idealize.ShloMosaic Idealize.ShloMosaic.TcCoe Idealize.SL.Sem
open Cert.AttnIdeal Cert.AttnIdeal.Gen Cert.Reals

variable (V : (c : Dev nD) → (b : Ref sig .tc) → Buf (Elt Ideal) ((c : Thread nD τ).loc b)) (c : Dev nD)

/-- The score of query `y` against key `κ` under head `h`. -/
def S (Q K : ℕ → ℕ → ℝ) (h y κ : ℕ) : ℝ := ∑ i : Fin 128, K κ (128 * h + i.val) * Q y (128 * h + i.val)

/-- The sum of a query's weights. -/
def Z (Q K : ℕ → ℕ → ℝ) (h y : ℕ) : ℝ := ∑ κ : Fin 8192, (2:ℝ) ^ S Q K h y κ.val

/-- The output of query `y` at column `d`. -/
def O (Q K W : ℕ → ℕ → ℝ) (y d : ℕ) : ℝ := (∑ κ : Fin 8192, W κ.val d * (2:ℝ) ^ S Q K (d / 64) y κ.val) / Z Q K (d / 64) y

/-- The weight of key `κ` for query `y`, from the query's log-sum. -/
def P (Q K L : ℕ → ℕ → ℝ) (h κ y : ℕ) : ℝ := 2 ^ (S Q K h y κ - L h y)

/-- The gradient of a score. -/
def DS (Q G L D K W : ℕ → ℕ → ℝ) (h κ y : ℕ) : ℝ :=
  P Q K L h κ y * (∑ d : Fin 64, W κ (64 * h + d.val) * G y (64 * h + d.val) - D h y)

/-- The queries' gradient, -/
def DQ (Q G L D K W : ℕ → ℕ → ℝ) (y j : ℕ) : ℝ := ∑ κ : Fin 8192, K κ.val j * DS Q G L D K W (j / 128) κ.val y

/-- the keys', -/
def DK (Q G L D K W : ℕ → ℕ → ℝ) (κ j : ℕ) : ℝ := ∑ y : Fin 8192, DS Q G L D K W (j / 128) κ y.val * Q y.val j

/-- and the values'. -/
def DV (Q G L K : ℕ → ℕ → ℝ) (κ d : ℕ) : ℝ := ∑ y : Fin 8192, P Q K L (d / 64) κ y.val * G y.val d

theorem idx0 : ∀ t : Fin cfg0.N, win0_0.index t = ![t.val % 2, t.val / 2] ∧ win0_1.index t = ![0, t.val / 2] ∧ win0_2.index t = ![0, t.val / 2]
    ∧ win0_3.index t = ![t.val % 2, t.val / 2] ∧ win0_4.index t = ![t.val / 2, 0, t.val % 2] :=
  (by decide +kernel : ∀ t : Fin grid0.N, _)

theorem idx1 : ∀ t : Fin cfg1.N, win1_0.index t = ![t.val % 4, t.val / 4] ∧ win1_1.index t = ![t.val % 4, t.val / 4]
    ∧ win1_2.index t = ![t.val / 4, 0, t.val % 4] ∧ win1_3.index t = ![t.val / 4, 0, t.val % 4] ∧ win1_4.index t = ![0, t.val / 4]
    ∧ win1_5.index t = ![0, t.val / 4] ∧ win1_6.index t = ![t.val % 4, t.val / 4] ∧ win1_7.index t = ![0, t.val / 4]
    ∧ win1_8.index t = ![0, t.val / 4] :=
  (by decide +kernel : ∀ t : Fin grid1.N, _)

theorem lt0 (t : Fin cfg0.N) : t.val < 8 := t.isLt

theorem lt1 (t : Fin cfg1.N) : t.val < 16 := t.isLt

section Forward

variable {Q K W : ℕ → ℕ → ℝ}
  (hQ : ∀ (y : Fin 8192) (j : Fin 1024), (V c main_v15 : FVec Ideal S8192x1024 .bf16) (ix2 y j) = (Q y.val j.val : EReal))
  (hK : ∀ (y : Fin 8192) (j : Fin 1024), (V c main_v28 : FVec Ideal S8192x1024 .bf16) (ix2 y j) = (K y.val j.val : EReal))
  (hW : ∀ (y : Fin 8192) (d : Fin 512), (V c main_v31 : FVec Ideal S8192x512 .bf16) (ix2 y d) = (W y.val d.val : EReal))

include hQ in
theorem q_blk0 (t : Fin cfg0.N) (y : Fin 4096) (j : Fin 256) :
    iblk0 V c 0 t (ix2 y j) = (Q (4096 * (t.val % 2) + y.val) (256 * (t.val / 2) + j.val) : EReal) := by
  have := lt0 t
  rw [show iblk0 V c 0 t (ix2 y j) = V c main_v15 (ix2 ⟨4096 * (t.val % 2) + y.val, by omega⟩ ⟨256 * (t.val / 2) + j.val, by omega⟩) by blk_ext [iblk0, idx0 t]]
  exact hQ _ _

include hK in
theorem k_blk0 (t : Fin cfg0.N) (y : Fin 8192) (j : Fin 256) :
    iblk0 V c 1 t (ix2 y j) = (K y.val (256 * (t.val / 2) + j.val) : EReal) := by
  have := lt0 t
  rw [show iblk0 V c 1 t (ix2 y j) = V c main_v28 (ix2 y ⟨256 * (t.val / 2) + j.val, by omega⟩) by blk_ext [iblk0, idx0 t]]
  exact hK _ _

include hW in
theorem w_blk0 (t : Fin cfg0.N) (y : Fin 8192) (d : Fin 128) :
    iblk0 V c 2 t (ix2 y d) = (W y.val (128 * (t.val / 2) + d.val) : EReal) := by
  have := lt0 t
  rw [show iblk0 V c 2 t (ix2 y d) = V c main_v31 (ix2 y ⟨128 * (t.val / 2) + d.val, by omega⟩) by blk_ext [iblk0, idx0 t]]
  exact hW _ _

theorem S_blk (p h s o y κ : ℕ) (ho : o = 128 * h) :
    Fwd.S (fun y j => Q (s + y) (256 * p + j)) (fun κ j => K κ (256 * p + j)) o y κ = S Q K (2 * p + h) (s + y) κ := by
  subst ho
  unfold Fwd.S S
  refine Finset.sum_congr rfl fun i _ => ?_
  dsimp only
  rw [show 256 * p + (128 * h + i.val) = 128 * (2 * p + h) + i.val by ring]

theorem Z_blk (p h s o y : ℕ) (ho : o = 128 * h) :
    Fwd.Z (fun y j => Q (s + y) (256 * p + j)) (fun κ j => K κ (256 * p + j)) o y = Z Q K (2 * p + h) (s + y) := by
  unfold Fwd.Z Z
  simp only [S_blk p h s o y _ ho]

theorem N_blk (p h s o y d : ℕ) (ho : o = 128 * h) :
    Fwd.N (fun y j => Q (s + y) (256 * p + j)) (fun κ j => K κ (256 * p + j)) (fun κ d => W κ (128 * p + d)) o y d
      = ∑ κ : Fin 8192, W κ.val (128 * p + d) * (2:ℝ) ^ S Q K (2 * p + h) (s + y) κ.val := by
  unfold Fwd.N
  simp only [S_blk p h s o y _ ho]

include hQ hK hW in
theorem o_blk (t : Fin cfg0.N) (y : Fin 4096) (d : Fin 128) :
    (outsAt0 V c t).1 (ix2 y d) = ((O Q K W (4096 * (t.val % 2) + y.val) (128 * (t.val / 2) + d.val) : ℝ) : EReal) := by
  unfold outsAt0
  dsimp only
  refine (Fwd.out3 (X0 := fun y j => Q (4096 * (t.val % 2) + y) (256 * (t.val / 2) + j)) (X1 := fun κ j => K κ (256 * (t.val / 2) + j)) (X2 := fun κ d => W κ (128 * (t.val / 2) + d)) c (grid0.coords t) (ms0_0 t) (hs0_0 t) (ms0_1 t) (hs0_1 t) (ms0_2 t) (hs0_2 t) (ms0_3 t) (hs0_3 t) (ms0_4 t) (hs0_4 t) scM0_0 (Memref.isWhole_whole _) (q_blk0 V c hQ t) (k_blk0 V c hK t) (w_blk0 V c hW t) y d).trans ?_
  refine congrArg _ ?_
  unfold O
  by_cases h : d.val < 64
  · rw [if_pos h, Z_blk _ 0 _ _ _ rfl, N_blk _ 0 _ _ _ _ rfl]
    rw [show (128 * (t.val / 2) + d.val) / 64 = 2 * (t.val / 2) + 0 by omega]
  · rw [if_neg h, Z_blk _ 1 _ _ _ rfl, N_blk _ 1 _ _ _ _ rfl]
    rw [show (128 * (t.val / 2) + d.val) / 64 = 2 * (t.val / 2) + 1 by omega]

include hQ hK hW in
theorem l_blk0 (t : Fin cfg0.N) (h : Fin 2) (y : Fin 4096) :
    (outsAt0 V c t).2 (ix3 0 h y) = ((Real.log (Z Q K (2 * (t.val / 2) + h.val) (4096 * (t.val % 2) + y.val)) / Real.log 2 : ℝ) : EReal) := by
  unfold outsAt0
  dsimp only
  refine (Fwd.out4 (X0 := fun y j => Q (4096 * (t.val % 2) + y) (256 * (t.val / 2) + j)) (X1 := fun κ j => K κ (256 * (t.val / 2) + j)) (X2 := fun κ d => W κ (128 * (t.val / 2) + d)) c (grid0.coords t) (ms0_0 t) (hs0_0 t) (ms0_1 t) (hs0_1 t) (ms0_2 t) (hs0_2 t) (ms0_3 t) (hs0_3 t) (ms0_4 t) (hs0_4 t) scM0_0 (Memref.isWhole_whole _) (q_blk0 V c hQ t) (k_blk0 V c hK t) (w_blk0 V c hW t) h y).trans ?_
  rw [Z_blk _ h.val _ _ _ rfl]

include hQ hK hW in
theorem o_arr : (dat0 V c).arrAt 3 cfg0.N = fun i : S8192x512.Idx => ((O Q K W (i 0).val (i 1).val : ℝ) : EReal) := by
  refine (dat0 V c).arrAt_eq_of_covers 3 _ (by decide +kernel) fun t hf y => ?_
  have := lt0 t
  blk_simp
  rw [after0_3]
  idx_vars y
  show _ = ((O Q K W (win0_3.index t 0 * 4096 + y0.val) (win0_3.index t 1 * 128 + y1.val) : ℝ) : EReal)
  rw [show win0_3.index t 0 * 4096 = 4096 * (t.val % 2) from (mul_comm _ _).trans (congrArg (4096 * ·) (congrFun (idx0 t).2.2.2.1 0)),
    show win0_3.index t 1 * 128 = 128 * (t.val / 2) from (mul_comm _ _).trans (congrArg (128 * ·) (congrFun (idx0 t).2.2.2.1 1))]
  exact o_blk V c hQ hK hW t y0 y1

include hQ hK hW in
theorem l_arr : (dat0 V c).arrAt 4 cfg0.N
    = fun i : S4x2x8192.Idx => ((Real.log (Z Q K (2 * (i 0).val + (i 1).val) (i 2).val) / Real.log 2 : ℝ) : EReal) := by
  refine (dat0 V c).arrAt_eq_of_covers 4 _ (by decide +kernel) fun t hf y => ?_
  have := lt0 t
  blk_simp
  rw [after0_4]
  idx_vars y
  show _ = ((Real.log (Z Q K (2 * win0_4.index t 0 + (win0_4.index t 1 * 2 + y1.val)) (win0_4.index t 2 * 4096 + y2.val)) / Real.log 2 : ℝ) : EReal)
  rw [show win0_4.index t 0 = t.val / 2 from congrFun (idx0 t).2.2.2.2 0, show win0_4.index t 1 * 2 + y1.val = y1.val by
      rw [show win0_4.index t 1 = 0 from congrFun (idx0 t).2.2.2.2 1]; omega,
    show win0_4.index t 2 * 4096 = 4096 * (t.val % 2) from (mul_comm _ _).trans (congrArg (4096 * ·) (congrFun (idx0 t).2.2.2.2 2))]
  obtain rfl : y0 = 0 := Subsingleton.elim _ _
  exact l_blk0 V c hQ hK hW t y1 y2

end Forward

end Cert.AttnIdeal.Arr

end
-- ==== Proof.AttnArrBwd.lean ====
/- What the backward pass of the attention leaves in its arrays, over real arrays. -/
module

public import proofs.«01_k».proof.Proof.AttnArr

@[expose] public section

set_option maxRecDepth 16384

noncomputable section

namespace Cert.AttnIdeal.Arr

open Idealize.ShloMosaic Idealize.ShloMosaic.TcCoe Idealize.SL.Sem
open Cert.AttnIdeal Cert.AttnIdeal.Gen Cert.Reals

variable (V : (c : Dev nD) → (b : Ref sig .tc) → Buf (Elt Ideal) ((c : Thread nD τ).loc b)) (c : Dev nD)

variable {Q G L D K W : ℕ → ℕ → ℝ}
  (hQ : ∀ (y : Fin 8192) (j : Fin 1024), (V c main_v15 : FVec Ideal S8192x1024 .bf16) (ix2 y j) = (Q y.val j.val : EReal))
  (hG : ∀ (y : Fin 8192) (d : Fin 512), (V c main_v40 : FVec Ideal S8192x512 .bf16) (ix2 y d) = (G y.val d.val : EReal))
  (hL : ∀ (p : Fin 4) (h : Fin 2) (y : Fin 8192), (V c main_v32_1 : FVec Ideal S4x2x8192 .f32) (ix3 p h y) = (L (2 * p.val + h.val) y.val : EReal))
  (hD : ∀ (p : Fin 4) (h : Fin 2) (y : Fin 8192), (V c main_v39 : FVec Ideal S4x2x8192 .f32) (ix3 p h y) = (D (2 * p.val + h.val) y.val : EReal))
  (hK : ∀ (y : Fin 8192) (j : Fin 1024), (V c main_v28 : FVec Ideal S8192x1024 .bf16) (ix2 y j) = (K y.val j.val : EReal))
  (hW : ∀ (y : Fin 8192) (d : Fin 512), (V c main_v31 : FVec Ideal S8192x512 .bf16) (ix2 y d) = (W y.val d.val : EReal))

include hQ in
theorem q_blk (t : Fin cfg1.N) (y : Fin 2048) (j : Fin 256) :
    iblk1 V c 0 t (ix2 y j) = (Q (2048 * (t.val % 4) + y.val) (256 * (t.val / 4) + j.val) : EReal) := by
  have := lt1 t
  rw [show iblk1 V c 0 t (ix2 y j) = V c main_v15 (ix2 ⟨2048 * (t.val % 4) + y.val, by omega⟩ ⟨256 * (t.val / 4) + j.val, by omega⟩) by blk_ext [iblk1, idx1 t]]
  exact hQ _ _

include hG in
theorem g_blk (t : Fin cfg1.N) (y : Fin 2048) (d : Fin 128) :
    iblk1 V c 1 t (ix2 y d) = (G (2048 * (t.val % 4) + y.val) (128 * (t.val / 4) + d.val) : EReal) := by
  have := lt1 t
  rw [show iblk1 V c 1 t (ix2 y d) = V c main_v40 (ix2 ⟨2048 * (t.val % 4) + y.val, by omega⟩ ⟨128 * (t.val / 4) + d.val, by omega⟩) by blk_ext [iblk1, idx1 t]]
  exact hG _ _

include hL in
theorem l_blk (t : Fin cfg1.N) (h : Fin 2) (y : Fin 2048) :
    iblk1 V c 2 t (ix3 0 h y) = (L (2 * (t.val / 4) + h.val) (2048 * (t.val % 4) + y.val) : EReal) := by
  have := lt1 t
  rw [show iblk1 V c 2 t (ix3 0 h y) = V c main_v32_1 (ix3 ⟨t.val / 4, by omega⟩ h ⟨2048 * (t.val % 4) + y.val, by omega⟩) by blk_ext [iblk1, idx1 t]]
  exact hL _ _ _

include hD in
theorem d_blk (t : Fin cfg1.N) (h : Fin 2) (y : Fin 2048) :
    iblk1 V c 3 t (ix3 0 h y) = (D (2 * (t.val / 4) + h.val) (2048 * (t.val % 4) + y.val) : EReal) := by
  have := lt1 t
  rw [show iblk1 V c 3 t (ix3 0 h y) = V c main_v39 (ix3 ⟨t.val / 4, by omega⟩ h ⟨2048 * (t.val % 4) + y.val, by omega⟩) by blk_ext [iblk1, idx1 t]]
  exact hD _ _ _

include hK in
theorem k_blk (t : Fin cfg1.N) (y : Fin 8192) (j : Fin 256) :
    iblk1 V c 4 t (ix2 y j) = (K y.val (256 * (t.val / 4) + j.val) : EReal) := by
  have := lt1 t
  rw [show iblk1 V c 4 t (ix2 y j) = V c main_v28 (ix2 y ⟨256 * (t.val / 4) + j.val, by omega⟩) by blk_ext [iblk1, idx1 t]]
  exact hK _ _

include hW in
theorem w_blk (t : Fin cfg1.N) (y : Fin 8192) (d : Fin 128) :
    iblk1 V c 5 t (ix2 y d) = (W y.val (128 * (t.val / 4) + d.val) : EReal) := by
  have := lt1 t
  rw [show iblk1 V c 5 t (ix2 y d) = V c main_v31 (ix2 y ⟨128 * (t.val / 4) + d.val, by omega⟩) by blk_ext [iblk1, idx1 t]]
  exact hW _ _

theorem P_blk (p h s κ y : ℕ) :
    Bwd.P (fun y j => Q (s + y) (256 * p + j)) (fun κ j => K κ (256 * p + j)) (fun h y => L (2 * p + h) (s + y)) h κ y = P Q K L (2 * p + h) κ (s + y) := by
  unfold Bwd.P P S
  refine congrArg (fun x => (2:ℝ) ^ (x - _)) (Finset.sum_congr rfl fun i _ => ?_)
  dsimp only
  rw [show 256 * p + (128 * h + i.val) = 128 * (2 * p + h) + i.val by ring]

theorem DS_blk (p h s κ y : ℕ) :
    Bwd.DS (fun y j => Q (s + y) (256 * p + j)) (fun y d => G (s + y) (128 * p + d)) (fun κ j => K κ (256 * p + j)) (fun κ d => W κ (128 * p + d))
      (fun h y => L (2 * p + h) (s + y)) (fun h y => D (2 * p + h) (s + y)) h κ y = DS Q G L D K W (2 * p + h) κ (s + y) := by
  unfold Bwd.DS DS
  rw [P_blk]
  refine congrArg (fun x => P Q K L (2 * p + h) κ (s + y) * (x - D (2 * p + h) (s + y))) (Finset.sum_congr rfl fun d _ => ?_)
  dsimp only
  rw [show 128 * p + (64 * h + d.val) = 64 * (2 * p + h) + d.val by ring]

theorem A_blk (p s κ j : ℕ) :
    Bwd.A (fun y j => Q (s + y) (256 * p + j)) (fun y d => G (s + y) (128 * p + d)) (fun κ j => K κ (256 * p + j)) (fun κ d => W κ (128 * p + d))
      (fun h y => L (2 * p + h) (s + y)) (fun h y => D (2 * p + h) (s + y)) κ j
      = ∑ y : Fin 2048, DS Q G L D K W ((256 * p + j) / 128) κ (s + y.val) * Q (s + y.val) (256 * p + j) := by
  unfold Bwd.A
  simp only [DS_blk]
  rw [show (256 * p + j) / 128 = 2 * p + j / 128 by omega]

theorem B_blk (p s κ d : ℕ) :
    Bwd.B (fun y j => Q (s + y) (256 * p + j)) (fun y d => G (s + y) (128 * p + d)) (fun κ j => K κ (256 * p + j)) (fun h y => L (2 * p + h) (s + y)) κ d
      = ∑ y : Fin 2048, P Q K L ((128 * p + d) / 64) κ (s + y.val) * G (s + y.val) (128 * p + d) := by
  unfold Bwd.B
  simp only [P_blk]
  rw [show (128 * p + d) / 64 = 2 * p + d / 64 by omega]

theorem C_blk (p s h j y : ℕ) :
    Bwd.C (fun y j => Q (s + y) (256 * p + j)) (fun y d => G (s + y) (128 * p + d)) (fun κ j => K κ (256 * p + j)) (fun κ d => W κ (128 * p + d))
      (fun h y => L (2 * p + h) (s + y)) (fun h y => D (2 * p + h) (s + y)) 16 h j y
      = ∑ κ : Fin 8192, K κ.val (256 * p + (128 * h + j)) * DS Q G L D K W (2 * p + h) κ.val (s + y) := by
  unfold Bwd.C
  simp only [DS_blk]
  exact Fwd.tiles fun κ => K κ (256 * p + (128 * h + j)) * DS Q G L D K W (2 * p + h) κ (s + y)

include hQ hG hL hD hK hW in
/-- The keys' and the values' gradients after each point: the blocks of queries so far. -/
theorem acc : ∀ n (hn : n < cfg1.N),
    (∀ (κ : Fin 8192) (j : Fin 256), (outsAt1 V c n hn).2.1 (ix2 κ j)
      = ((∑ s ∈ Finset.range (n % 4 + 1), ∑ y : Fin 2048, DS Q G L D K W ((256 * (n / 4) + j.val) / 128) κ.val (2048 * s + y.val) * Q (2048 * s + y.val) (256 * (n / 4) + j.val) : ℝ) : EReal))
    ∧ (∀ (κ : Fin 8192) (d : Fin 128), (outsAt1 V c n hn).2.2 (ix2 κ d)
      = ((∑ s ∈ Finset.range (n % 4 + 1), ∑ y : Fin 2048, P Q K L ((128 * (n / 4) + d.val) / 64) κ.val (2048 * s + y.val) * G (2048 * s + y.val) (128 * (n / 4) + d.val) : ℝ) : EReal)) := by
  intro n
  induction n with
  | zero =>
    intro hn
    have e := outsAt1_A V c ⟨0, hn⟩ rfl
    dsimp only at e
    rw [e]
    refine ⟨fun κ j => ?_, fun κ d => ?_⟩
    · refine (Bwd.outA7 (X0 := fun y j => Q (2048 * (0 % 4) + y) (256 * (0 / 4) + j)) (X1 := fun y d => G (2048 * (0 % 4) + y) (128 * (0 / 4) + d)) (L := fun h y => L (2 * (0 / 4) + h) (2048 * (0 % 4) + y)) (D := fun h y => D (2 * (0 / 4) + h) (2048 * (0 % 4) + y)) (X4 := fun κ j => K κ (256 * (0 / 4) + j)) (X5 := fun κ d => W κ (128 * (0 / 4) + d)) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) (q_blk V c hQ ⟨0, hn⟩) (g_blk V c hG ⟨0, hn⟩) (l_blk V c hL ⟨0, hn⟩) (d_blk V c hD ⟨0, hn⟩) (k_blk V c hK ⟨0, hn⟩) (w_blk V c hW ⟨0, hn⟩) _ κ j).trans (congrArg _ ?_)
      rw [A_blk]; simp
    · refine (Bwd.outA8 (X0 := fun y j => Q (2048 * (0 % 4) + y) (256 * (0 / 4) + j)) (X1 := fun y d => G (2048 * (0 % 4) + y) (128 * (0 / 4) + d)) (L := fun h y => L (2 * (0 / 4) + h) (2048 * (0 % 4) + y)) (D := fun h y => D (2 * (0 / 4) + h) (2048 * (0 % 4) + y)) (X4 := fun κ j => K κ (256 * (0 / 4) + j)) (X5 := fun κ d => W κ (128 * (0 / 4) + d)) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) (q_blk V c hQ ⟨0, hn⟩) (g_blk V c hG ⟨0, hn⟩) (l_blk V c hL ⟨0, hn⟩) (d_blk V c hD ⟨0, hn⟩) (k_blk V c hK ⟨0, hn⟩) (w_blk V c hW ⟨0, hn⟩) _ κ d).trans (congrArg _ ?_)
      rw [B_blk]; simp
  | succ n ih =>
    intro hn
    by_cases h0 : (n + 1) % 4 = 0
    · have e := outsAt1_A V c ⟨n + 1, hn⟩ h0
      dsimp only at e
      rw [e]
      refine ⟨fun κ j => ?_, fun κ d => ?_⟩
      · refine (Bwd.outA7 (X0 := fun y j => Q (2048 * ((n + 1) % 4) + y) (256 * ((n + 1) / 4) + j)) (X1 := fun y d => G (2048 * ((n + 1) % 4) + y) (128 * ((n + 1) / 4) + d)) (L := fun h y => L (2 * ((n + 1) / 4) + h) (2048 * ((n + 1) % 4) + y)) (D := fun h y => D (2 * ((n + 1) / 4) + h) (2048 * ((n + 1) % 4) + y)) (X4 := fun κ j => K κ (256 * ((n + 1) / 4) + j)) (X5 := fun κ d => W κ (128 * ((n + 1) / 4) + d)) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (q_blk V c hQ ⟨n + 1, hn⟩) (g_blk V c hG ⟨n + 1, hn⟩) (l_blk V c hL ⟨n + 1, hn⟩) (d_blk V c hD ⟨n + 1, hn⟩) (k_blk V c hK ⟨n + 1, hn⟩) (w_blk V c hW ⟨n + 1, hn⟩) _ κ j).trans (congrArg _ ?_)
        rw [A_blk]; simp [h0]
      · refine (Bwd.outA8 (X0 := fun y j => Q (2048 * ((n + 1) % 4) + y) (256 * ((n + 1) / 4) + j)) (X1 := fun y d => G (2048 * ((n + 1) % 4) + y) (128 * ((n + 1) / 4) + d)) (L := fun h y => L (2 * ((n + 1) / 4) + h) (2048 * ((n + 1) % 4) + y)) (D := fun h y => D (2 * ((n + 1) / 4) + h) (2048 * ((n + 1) % 4) + y)) (X4 := fun κ j => K κ (256 * ((n + 1) / 4) + j)) (X5 := fun κ d => W κ (128 * ((n + 1) / 4) + d)) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (q_blk V c hQ ⟨n + 1, hn⟩) (g_blk V c hG ⟨n + 1, hn⟩) (l_blk V c hL ⟨n + 1, hn⟩) (d_blk V c hD ⟨n + 1, hn⟩) (k_blk V c hK ⟨n + 1, hn⟩) (w_blk V c hW ⟨n + 1, hn⟩) _ κ d).trans (congrArg _ ?_)
        rw [B_blk]; simp [h0]
    · have e := outsAt1_B V c ⟨n + 1, hn⟩ h0
      obtain ⟨a, b⟩ := ih (Nat.lt_of_succ_lt hn)
      dsimp only at e
      rw [e]
      have e1 : (n + 1) / 4 = n / 4 := by omega
      have e2 : (n + 1) % 4 = n % 4 + 1 := by omega
      refine ⟨fun κ j => ?_, fun κ d => ?_⟩
      · refine (Bwd.outB7 (X0 := fun y j => Q (2048 * ((n + 1) % 4) + y) (256 * ((n + 1) / 4) + j)) (X1 := fun y d => G (2048 * ((n + 1) % 4) + y) (128 * ((n + 1) / 4) + d)) (L := fun h y => L (2 * ((n + 1) / 4) + h) (2048 * ((n + 1) % 4) + y)) (D := fun h y => D (2 * ((n + 1) / 4) + h) (2048 * ((n + 1) % 4) + y)) (X4 := fun κ j => K κ (256 * ((n + 1) / 4) + j)) (X5 := fun κ d => W κ (128 * ((n + 1) / 4) + d)) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (q_blk V c hQ ⟨n + 1, hn⟩) (g_blk V c hG ⟨n + 1, hn⟩) (l_blk V c hL ⟨n + 1, hn⟩) (d_blk V c hD ⟨n + 1, hn⟩) (k_blk V c hK ⟨n + 1, hn⟩) (w_blk V c hW ⟨n + 1, hn⟩)
          (R9 := fun κ j => ∑ s ∈ Finset.range (n % 4 + 1), ∑ y : Fin 2048, DS Q G L D K W ((256 * (n / 4) + j) / 128) κ (2048 * s + y.val) * Q (2048 * s + y.val) (256 * (n / 4) + j))
          (R10 := fun κ d => ∑ s ∈ Finset.range (n % 4 + 1), ∑ y : Fin 2048, P Q K L ((128 * (n / 4) + d) / 64) κ (2048 * s + y.val) * G (2048 * s + y.val) (128 * (n / 4) + d)) a b _ κ j).trans (congrArg _ ?_)
        rw [A_blk, e1, e2, Finset.sum_range_succ _ (n % 4 + 1)]
      · refine (Bwd.outB8 (X0 := fun y j => Q (2048 * ((n + 1) % 4) + y) (256 * ((n + 1) / 4) + j)) (X1 := fun y d => G (2048 * ((n + 1) % 4) + y) (128 * ((n + 1) / 4) + d)) (L := fun h y => L (2 * ((n + 1) / 4) + h) (2048 * ((n + 1) % 4) + y)) (D := fun h y => D (2 * ((n + 1) / 4) + h) (2048 * ((n + 1) % 4) + y)) (X4 := fun κ j => K κ (256 * ((n + 1) / 4) + j)) (X5 := fun κ d => W κ (128 * ((n + 1) / 4) + d)) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (q_blk V c hQ ⟨n + 1, hn⟩) (g_blk V c hG ⟨n + 1, hn⟩) (l_blk V c hL ⟨n + 1, hn⟩) (d_blk V c hD ⟨n + 1, hn⟩) (k_blk V c hK ⟨n + 1, hn⟩) (w_blk V c hW ⟨n + 1, hn⟩)
          (R9 := fun κ j => ∑ s ∈ Finset.range (n % 4 + 1), ∑ y : Fin 2048, DS Q G L D K W ((256 * (n / 4) + j) / 128) κ (2048 * s + y.val) * Q (2048 * s + y.val) (256 * (n / 4) + j))
          (R10 := fun κ d => ∑ s ∈ Finset.range (n % 4 + 1), ∑ y : Fin 2048, P Q K L ((128 * (n / 4) + d) / 64) κ (2048 * s + y.val) * G (2048 * s + y.val) (128 * (n / 4) + d)) a b _ κ d).trans (congrArg _ ?_)
        rw [B_blk, e1, e2, Finset.sum_range_succ _ (n % 4 + 1)]

theorem tiles4 (f : ℕ → ℝ) : ∑ s ∈ Finset.range 4, ∑ y : Fin 2048, f (2048 * s + y.val) = ∑ y : Fin 8192, f y.val := by
  rw [Fin.sum_univ_tiles 4 2048 rfl, Finset.sum_range]
  refine Finset.sum_congr rfl fun j _ => Finset.sum_congr rfl fun b _ => ?_
  rw [mul_comm]

include hQ hG hL hD hK hW in
theorem dk_arr : (dat1 V c).arrAt 7 cfg1.N = fun i : S8192x1024.Idx => ((DK Q G L D K W (i 0).val (i 1).val : ℝ) : EReal) := by
  refine (dat1 V c).arrAt_eq_of_covers 7 _ (by decide +kernel) fun t hf y => ?_
  have := lt1 t
  blk_simp
  rw [after1_7]
  idx_vars y
  show _ = ((DK Q G L D K W (win1_7.index t 0 * 8192 + y0.val) (win1_7.index t 1 * 256 + y1.val) : ℝ) : EReal)
  rw [show win1_7.index t 0 * 8192 + y0.val = y0.val by rw [show win1_7.index t 0 = 0 from congrFun (idx1 t).2.2.2.2.2.2.2.1 0]; omega,
    show win1_7.index t 1 * 256 = 256 * (t.val / 4) from (mul_comm _ _).trans (congrArg (256 * ·) (congrFun (idx1 t).2.2.2.2.2.2.2.1 1))]
  rw [(acc V c hQ hG hL hD hK hW t.val t.isLt).1, (flush1_7 t).mp hf]
  exact congrArg _ (tiles4 fun y => DS Q G L D K W ((256 * (t.val / 4) + y1.val) / 128) y0.val y * Q y (256 * (t.val / 4) + y1.val))

include hQ hG hL hD hK hW in
theorem dv_arr : (dat1 V c).arrAt 8 cfg1.N = fun i : S8192x512.Idx => ((DV Q G L K (i 0).val (i 1).val : ℝ) : EReal) := by
  refine (dat1 V c).arrAt_eq_of_covers 8 _ (by decide +kernel) fun t hf y => ?_
  have := lt1 t
  blk_simp
  rw [after1_8]
  idx_vars y
  show _ = ((DV Q G L K (win1_8.index t 0 * 8192 + y0.val) (win1_8.index t 1 * 128 + y1.val) : ℝ) : EReal)
  rw [show win1_8.index t 0 * 8192 + y0.val = y0.val by rw [show win1_8.index t 0 = 0 from congrFun (idx1 t).2.2.2.2.2.2.2.2 0]; omega,
    show win1_8.index t 1 * 128 = 128 * (t.val / 4) from (mul_comm _ _).trans (congrArg (128 * ·) (congrFun (idx1 t).2.2.2.2.2.2.2.2 1))]
  rw [(acc V c hQ hG hL hD hK hW t.val t.isLt).2, (flush1_8 t).mp hf]
  exact congrArg _ (tiles4 fun y => P Q K L ((128 * (t.val / 4) + y1.val) / 64) y0.val y * G y (128 * (t.val / 4) + y1.val))

include hQ hG hL hD hK hW in
theorem dq_blk (t : Fin cfg1.N) (y0 : Fin 2048) (y1 : Fin 256) : (outsAt1 V c t.val t.isLt).1 (ix2 y0 y1)
      = ((∑ κ : Fin 8192, K κ.val (256 * (t.val / 4) + (128 * (y1.val / 128) + y1.val % 128)) * DS Q G L D K W (2 * (t.val / 4) + y1.val / 128) κ.val (2048 * (t.val % 4) + y0.val) : ℝ) : EReal) := by
    by_cases h0 : t.val % 4 = 0
    · rw [outsAt1_A V c t h0]
      dsimp only
      refine (Bwd.outA6 (X0 := fun y j => Q (2048 * (t.val % 4) + y) (256 * (t.val / 4) + j)) (X1 := fun y d => G (2048 * (t.val % 4) + y) (128 * (t.val / 4) + d)) (L := fun h y => L (2 * (t.val / 4) + h) (2048 * (t.val % 4) + y)) (D := fun h y => D (2 * (t.val / 4) + h) (2048 * (t.val % 4) + y)) (X4 := fun κ j => K κ (256 * (t.val / 4) + j)) (X5 := fun κ d => W κ (128 * (t.val / 4) + d)) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (q_blk V c hQ t) (g_blk V c hG t) (l_blk V c hL t) (d_blk V c hD t) (k_blk V c hK t) (w_blk V c hW t) _ y0 y1).trans (congrArg _ (C_blk _ _ _ _ _))
    · rw [outsAt1_B V c t h0]
      dsimp only
      obtain ⟨a, b⟩ := acc V c hQ hG hL hD hK hW (t.val - 1) (Nat.lt_of_le_of_lt (Nat.sub_le _ _) t.isLt)
      refine (Bwd.outB6 (X0 := fun y j => Q (2048 * (t.val % 4) + y) (256 * (t.val / 4) + j)) (X1 := fun y d => G (2048 * (t.val % 4) + y) (128 * (t.val / 4) + d)) (L := fun h y => L (2 * (t.val / 4) + h) (2048 * (t.val % 4) + y)) (D := fun h y => D (2 * (t.val / 4) + h) (2048 * (t.val % 4) + y)) (X4 := fun κ j => K κ (256 * (t.val / 4) + j)) (X5 := fun κ d => W κ (128 * (t.val / 4) + d)) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (q_blk V c hQ t) (g_blk V c hG t) (l_blk V c hL t) (d_blk V c hD t) (k_blk V c hK t) (w_blk V c hW t)
        (R9 := fun κ j => ∑ s ∈ Finset.range ((t.val - 1) % 4 + 1), ∑ y : Fin 2048, DS Q G L D K W ((256 * ((t.val - 1) / 4) + j) / 128) κ (2048 * s + y.val) * Q (2048 * s + y.val) (256 * ((t.val - 1) / 4) + j))
        (R10 := fun κ d => ∑ s ∈ Finset.range ((t.val - 1) % 4 + 1), ∑ y : Fin 2048, P Q K L ((128 * ((t.val - 1) / 4) + d) / 64) κ (2048 * s + y.val) * G (2048 * s + y.val) (128 * ((t.val - 1) / 4) + d)) a b _ y0 y1).trans (congrArg _ (C_blk _ _ _ _ _))

include hQ hG hL hD hK hW in
theorem dq_arr : (dat1 V c).arrAt 6 cfg1.N = fun i : S8192x1024.Idx => ((DQ Q G L D K W (i 0).val (i 1).val : ℝ) : EReal) := by
  refine (dat1 V c).arrAt_eq_of_covers 6 _ (by decide +kernel) fun t hf y => ?_
  have := lt1 t
  blk_simp
  rw [after1_6]
  idx_vars y
  show _ = ((DQ Q G L D K W (win1_6.index t 0 * 2048 + y0.val) (win1_6.index t 1 * 256 + y1.val) : ℝ) : EReal)
  rw [show win1_6.index t 0 * 2048 = 2048 * (t.val % 4) from (mul_comm _ _).trans (congrArg (2048 * ·) (congrFun (idx1 t).2.2.2.2.2.2.1 0)),
    show win1_6.index t 1 * 256 = 256 * (t.val / 4) from (mul_comm _ _).trans (congrArg (256 * ·) (congrFun (idx1 t).2.2.2.2.2.2.1 1))]
  rw [dq_blk V c hQ hG hL hD hK hW t y0 y1]
  unfold DQ
  rw [show 256 * (t.val / 4) + (128 * (y1.val / 128) + y1.val % 128) = 256 * (t.val / 4) + y1.val by omega,
    show (256 * (t.val / 4) + y1.val) / 128 = 2 * (t.val / 4) + y1.val / 128 by omega]

end Cert.AttnIdeal.Arr

end
-- ==== Proof.AttnHost.lean ====
/- The arrays around the two passes of the attention, over real arguments. -/
module

public import proofs.«01_k».proof.Proof.AttnArrBwd
public import Idealize.ShloMosaic.Lib.StableHlo.RunRead

@[expose] public section

set_option maxRecDepth 16384

noncomputable section

namespace Cert.AttnIdeal.Host

open Idealize.ShloMosaic Idealize.ShloMosaic.TcCoe Idealize.SL.Sem
open Cert.AttnIdeal Cert.AttnIdeal.Gen Cert.Reals

/-- The scale of the scores. -/
def scale : ℝ := (Ideal.ofBits .f32 0x3DD105EC#32).toReal

theorem ofBits_scale : Ideal.ofBits .f32 0x3DD105EC#32 = (scale : EReal) := by
  have h : ∃ r : ℝ, Ideal.ofBits .f32 0x3DD105EC#32 = (r : EReal) :=
    ⟨_, by simp [Ideal.ofBits, Ideal.ieee, -EReal.coe_mul, -EReal.coe_neg]; rfl⟩
  obtain ⟨r, h⟩ := h
  rw [scale, h, EReal.toReal_coe]

theorem log_two : Ideal.log (Ideal.ofBits .f32 0x40000000#32) = (Real.log 2 : EReal) := by
  rw [show Ideal.ofBits .f32 0x40000000#32 = ((2:ℝ) : EReal) by simp [Ideal.ofBits, Ideal.ieee, -EReal.coe_mul, -EReal.coe_neg]; norm_num]
  show (if (2:ℝ) ≤ 0 then (⊥ : EReal) else (Real.log 2 : EReal)) = _
  rw [if_neg (by norm_num)]

theorem log_two_ne : Real.log 2 ≠ 0 := (Real.log_pos (by norm_num)).ne'

theorem scale_div : Ideal.div (Ideal.ofBits .f32 0x3DD105EC#32) (Ideal.log (Ideal.ofBits .f32 0x40000000#32)) = ((scale / Real.log 2 : ℝ) : EReal) := by
  rw [log_two, congrArg (Ideal.div · (Real.log 2 : EReal)) ofBits_scale, div_coe' log_two_ne]

theorem mul_coe {x y : EReal} {a b : ℝ} (hx : x = (a : EReal)) (hy : y = (b : EReal)) : x * y = ((a * b : ℝ) : EReal) := by
  rw [hx, hy, EReal.coe_mul]

/-- A head's 96 channels over its 128 columns. -/
def tile (f : ℕ → ℝ) (i : ℕ) : ℝ :=
  if i < 32 then f i else if i - 32 < 16 then f (64 + (i - 32)) else if i - 32 - 16 < 32 then f (32 + (i - 32 - 16))
  else if i - 32 - 16 - 32 < 16 then 0 else if i - 32 - 16 - 32 - 16 < 16 then f (64 + (16 + (i - 32 - 16 - 32 - 16))) else 0

/-- The column of a channel. -/
def col (d : ℕ) : ℕ := if d < 64 then (if d < 32 then d else 48 + (d - 32)) else (if d - 64 < 16 then 32 + (d - 64) else 96 + (d - 64 - 16))

variable (U : Valuation τ sig (Elt Ideal)) {q k : ℕ → ℕ → ℕ → ℝ} {v g : ℕ → ℕ → ℕ → ℝ}

theorem q_at (hq : ∀ (y : Fin 8192) (h : Fin 8) (d : Fin 96), (U (Proc.devRef .tc main_arg0) : FVec Ideal S1x8192x8x96 .f32) (ix4 0 y h d) = (q y.val h.val d.val : EReal))
    (y : Fin 8192) (j : Fin 1024) : (StableHlo.after hostOps0 U (Proc.devRef .tc main_v15) : FVec Ideal S8192x1024 .bf16) (ix2 y j)
      = ((tile (fun d => q y.val (j.val / 128) d * (scale / Real.log 2)) (j.val % 128) : ℝ) : EReal) := by
  after_reads_simp
  pointwise []
  after_reads_simp
  pointwise []
  unfold tile
  split_ifs <;> first | exact mul_coe (hq _ _ _) scale_div | exact EReal.coe_zero.symm

theorem k_at (hk : ∀ (y : Fin 8192) (h : Fin 8) (d : Fin 96), (U (Proc.devRef .tc main_arg1) : FVec Ideal S1x8192x8x96 .f32) (ix4 0 y h d) = (k y.val h.val d.val : EReal))
    (y : Fin 8192) (j : Fin 1024) : (StableHlo.after hostOps0 U (Proc.devRef .tc main_v28) : FVec Ideal S8192x1024 .bf16) (ix2 y j)
      = ((tile (fun d => k y.val (j.val / 128) d) (j.val % 128) : ℝ) : EReal) := by
  after_reads_simp
  pointwise []
  after_reads_simp
  pointwise []
  unfold tile
  split_ifs <;> first | (rw [hk]) | rw [EReal.coe_zero]

theorem v_at (hv : ∀ (y : Fin 8192) (h : Fin 8) (d : Fin 64), (U (Proc.devRef .tc main_arg2) : FVec Ideal S1x8192x8x64 .f32) (ix4 0 y h d) = (v y.val h.val d.val : EReal))
    (y : Fin 8192) (d : Fin 512) : (StableHlo.after hostOps0 U (Proc.devRef .tc main_v31) : FVec Ideal S8192x512 .bf16) (ix2 y d)
      = (v y.val (d.val / 64) (d.val % 64) : EReal) := by
  after_reads_simp
  pointwise []
  rw [hv]

theorem log_at (i : S_.Idx) : (StableHlo.after hostOps0 U (Proc.devRef .tc main_v0) : FVec Ideal S_ .f32) i = (Real.log 2 : EReal) := by
  after_reads_simp
  exact log_two

theorem g_at (hg : ∀ (y : Fin 8192) (h : Fin 8) (d : Fin 64), (U (Proc.devRef .tc main_arg3) : FVec Ideal S1x8192x8x64 .f32) (ix4 0 y h d) = (g y.val h.val d.val : EReal))
    (y : Fin 8192) (d : Fin 512) : (StableHlo.after hostOps1 U (Proc.devRef .tc main_v40) : FVec Ideal S8192x512 .bf16) (ix2 y d)
      = (g y.val (d.val / 64) (d.val % 64) : EReal) := by
  after_reads_simp
  pointwise []
  rw [hg]

theorem delta_at {O : ℕ → ℕ → ℝ}
    (hg : ∀ (y : Fin 8192) (h : Fin 8) (d : Fin 64), (U (Proc.devRef .tc main_arg3) : FVec Ideal S1x8192x8x64 .f32) (ix4 0 y h d) = (g y.val h.val d.val : EReal))
    (hO : ∀ (y : Fin 8192) (d : Fin 512), (U (Proc.devRef .tc main_v32_0) : FVec Ideal S8192x512 .f32) (ix2 y d) = (O y.val d.val : EReal))
    (p : Fin 4) (h : Fin 2) (y : Fin 8192) : (StableHlo.after hostOps1 U (Proc.devRef .tc main_v39) : FVec Ideal S4x2x8192 .f32) (ix3 p h y)
      = ((∑ d : Fin 64, g y.val (2 * p.val + h.val) d.val * O y.val (64 * (2 * p.val + h.val) + d.val) : ℝ) : EReal) := by
  after_reads_simp
  pointwise []
  refine (?_ : (_ : EReal) = _).trans (sum_coe fun d : Fin 64 => g y.val (2 * p.val + h.val) d.val * O y.val (64 * (2 * p.val + h.val) + d.val))
  refine Finset.sum_congr (M := EReal) rfl fun d _ => ?_
  refine (mul_coe (hg _ _ _) (hO _ _)).trans ?_
  dsimp only
  have e : p.val * 2 + h.val = 2 * p.val + h.val := by omega
  refine congrArg₂ (fun n n' => ((g y.val n d.val * O y.val n' : ℝ) : EReal)) e ?_
  omega

theorem o_at {O : ℕ → ℕ → ℝ} (hO : ∀ (y : Fin 8192) (d : Fin 512), (U (Proc.devRef .tc main_v32_0) : FVec Ideal S8192x512 .f32) (ix2 y d) = (O y.val d.val : EReal))
    (y : Fin 8192) (h : Fin 8) (d : Fin 64) : (StableHlo.after hostOps2 U (Proc.devRef .tc main_v62) : FVec Ideal S1x8192x8x64 .f32) (ix4 0 y h d)
      = (O y.val (64 * h.val + d.val) : EReal) := by
  after_reads_simp
  pointwise []
  rw [hO]
  dsimp only
  rw [mul_comm h.val 64]

theorem dv_at {O : ℕ → ℕ → ℝ} (hO : ∀ (y : Fin 8192) (d : Fin 512), (U (Proc.devRef .tc main_v41_2) : FVec Ideal S8192x512 .f32) (ix2 y d) = (O y.val d.val : EReal))
    (y : Fin 8192) (h : Fin 8) (d : Fin 64) : (StableHlo.after hostOps2 U (Proc.devRef .tc main_v65) : FVec Ideal S1x8192x8x64 .f32) (ix4 0 y h d)
      = (O y.val (64 * h.val + d.val) : EReal) := by
  after_reads_simp
  pointwise []
  rw [hO]
  dsimp only
  rw [mul_comm h.val 64]

theorem dq_at {O : ℕ → ℕ → ℝ} (hO : ∀ (y : Fin 8192) (d : Fin 1024), (U (Proc.devRef .tc main_v41_0) : FVec Ideal S8192x1024 .f32) (ix2 y d) = (O y.val d.val : EReal))
    (y : Fin 8192) (h : Fin 8) (d : Fin 96) : (StableHlo.after hostOps2 U (Proc.devRef .tc main_v63) : FVec Ideal S1x8192x8x96 .f32) (ix4 0 y h d)
      = ((O y.val (128 * h.val + col d.val) * scale : ℝ) : EReal) := by
  after_reads_simp
  pointwise []
  after_reads_simp
  pointwise []
  unfold col
  split_ifs <;> refine (mul_coe (hO _ _) ofBits_scale).trans (congrArg (fun n => ((O y.val n * scale : ℝ) : EReal)) ?_) <;> dsimp only <;> omega

theorem dk_at {O : ℕ → ℕ → ℝ} (hO : ∀ (y : Fin 8192) (d : Fin 1024), (U (Proc.devRef .tc main_v41_1) : FVec Ideal S8192x1024 .f32) (ix2 y d) = (O y.val d.val : EReal))
    (hl : ∀ i, (U (Proc.devRef .tc main_v0) : FVec Ideal S_ .f32) i = (Real.log 2 : EReal))
    (y : Fin 8192) (h : Fin 8) (d : Fin 96) : (StableHlo.after hostOps2 U (Proc.devRef .tc main_v64) : FVec Ideal S1x8192x8x96 .f32) (ix4 0 y h d)
      = ((O y.val (128 * h.val + col d.val) * Real.log 2 : ℝ) : EReal) := by
  after_reads_simp
  pointwise []
  after_reads_simp
  pointwise []
  unfold col
  split_ifs <;> refine (mul_coe (hO _ _) (hl _)).trans (congrArg (fun n => ((O y.val n * Real.log 2 : ℝ) : EReal)) ?_) <;> dsimp only <;> omega

end Cert.AttnIdeal.Host

end
-- ==== Proof.AttnRef.lean ====
/- What the attention's reference computes, over real arguments. -/
module

public import proofs.«01_k».proof.Proof.Reals
public import proofs.«01_k».proof.Proof.Gen.AttnRefIdeal.Read
public import Idealize.ShloMosaic.Lib.Pointwise

@[expose] public section

set_option maxRecDepth 16384

noncomputable section

namespace Cert.AttnRefIdeal.Ref

open Idealize.ShloMosaic Idealize.ShloMosaic.TcCoe Idealize.SL.Sem
open Cert.AttnRefIdeal Cert.AttnRefIdeal.Read Cert.Reals

/-- The score of query `y` against key `κ` in head `h`. -/
def score (c : ℝ) (q k : ℕ → ℕ → ℕ → ℝ) (h y κ : ℕ) : ℝ := (∑ d : Fin 96, q y h d.val * k κ h d.val) * c

/-- The attention weight of key `κ` for query `y`. -/
def prob (c : ℝ) (q k : ℕ → ℕ → ℕ → ℝ) (h y κ : ℕ) : ℝ :=
  Real.exp (score c q k h y κ) / ∑ x : Fin 8192, Real.exp (score c q k h y x.val)

/-- The gradient of a weight before the softmax is taken back. -/
def gp (v g : ℕ → ℕ → ℕ → ℝ) (h y κ : ℕ) : ℝ := ∑ d : Fin 64, g y h d.val * v κ h d.val

/-- The gradient of a score. -/
def gs (c : ℝ) (q k v g : ℕ → ℕ → ℕ → ℝ) (h y κ : ℕ) : ℝ :=
  prob c q k h y κ * (gp v g h y κ - ∑ x : Fin 8192, prob c q k h y x.val * gp v g h y x.val)

/-- Taking the same amount off every exponent leaves a weight unchanged. -/
theorem shift_div {n : ℕ} (s : Fin n → ℝ) (t M : ℝ) :
    Real.exp (t - M) / ∑ x, Real.exp (s x - M) = Real.exp t / ∑ x, Real.exp (s x) := by
  simp only [Real.exp_sub]
  rw [← Finset.sum_div, div_div_div_cancel_right₀ (Real.exp_ne_zero M)]

/-- The softmax taken back, written with the quotient rule, is the weight times the centred gradient. -/
theorem quotient_rule {n : ℕ} (e d : Fin n → ℝ) (z : ℝ) (hz : z ≠ 0) (a b : ℝ) :
    (a / z + -(∑ x, d x * (1 / (z * z)) * e x)) * b = b / z * (a - ∑ x, e x / z * d x) := by
  rw [show (∑ x, d x * (1 / (z * z)) * e x) = (∑ x, e x / z * d x) / z from by
    rw [Finset.sum_div]; exact Finset.sum_congr rfl fun x _ => by field_simp]
  field_simp
  ring

theorem sum_exp_ne {n : ℕ} [NeZero n] (s : Fin n → ℝ) : (∑ x, Real.exp (s x)) ≠ 0 :=
  (Finset.sum_pos (fun _ _ => Real.exp_pos _) ⟨0, Finset.mem_univ _⟩).ne'

section

variable {x0 x1 : FVec Ideal S1x8192x8x96 .f32} {x2 x3 : FVec Ideal S1x8192x8x64 .f32}
variable {c : ℝ} {q k v g : ℕ → ℕ → ℕ → ℝ}
variable (hc : Ideal.ofBits .f32 0x3DD105EC#32 = (c : EReal))
variable (hq : ∀ (y : Fin 8192) (h : Fin 8) (d : Fin 96), x0 (ix4 0 y h d) = (q y.val h.val d.val : EReal))
variable (hk : ∀ (y : Fin 8192) (h : Fin 8) (d : Fin 96), x1 (ix4 0 y h d) = (k y.val h.val d.val : EReal))
variable (hv : ∀ (y : Fin 8192) (h : Fin 8) (d : Fin 64), x2 (ix4 0 y h d) = (v y.val h.val d.val : EReal))
variable (hg : ∀ (y : Fin 8192) (h : Fin 8) (d : Fin 64), x3 (ix4 0 y h d) = (g y.val h.val d.val : EReal))

include hc hq hk in
theorem score_at (h : Fin 8) (y κ : Fin 8192) :
    val_main_v2 (F := Ideal) x0 x1 (ix4 0 h y κ) = (score c q k h.val y.val κ.val : EReal) := by
  unfold val_main_v2
  pointwise [val_main_v0, val_main_v1, val_main_cst]
  exact (congrArg₂ (· * ·) (dot_coe (fun d => hq y h d) (fun d => hk κ h d)) hc).trans (EReal.coe_mul _ _).symm

theorem max_at (w : FVec Ideal S1x8x8192x8192 .f32) (h : Fin 8) (y : Fin 8192) :
    Host.reduce FloatOps.maximumf w (constant S_ .f32 0xFF800000#32) Gen.reducesTo_S1x8x8192x8192_S1x8x8192_d3 Gen.h_S_ (ix3 0 h y)
      = Finset.univ.fold max (⊥ : EReal) (fun x : Fin 8192 => w (ix4 0 h y x)) := by
  rw [← show Ideal.ofBits .f32 0xFF800000#32 = ⊥ by simp [Ideal.ofBits, Ideal.ieee]]
  pointwise []

include hc hq hk in
theorem top_at (h : Fin 8) (y : Fin 8192) : ∃ r : ℝ, val_main_v10 (F := Ideal) x0 x1 (ix3 0 h y) = (r : EReal) := by
  obtain ⟨r, hr⟩ := fold_max_coe (fun x : Fin 8192 => score c q k h.val y.val x.val)
  refine ⟨r, ?_⟩
  rw [val_main_v10_apply]
  refine (congrArg (max (Ideal.ofBits .f32 0xFF800000#32)) ((max_at _ h y).trans
    ((congrArg (Finset.univ.fold max (⊥ : EReal)) (funext fun x => score_at hc hq hk h y x)).trans hr))).trans ?_
  rw [show Ideal.ofBits .f32 0xFF800000#32 = ⊥ by simp [Ideal.ofBits, Ideal.ieee]]
  exact max_eq_right bot_le

variable (M : Fin 8 → Fin 8192 → ℝ)
variable (hM : ∀ h y, val_main_v10 (F := Ideal) x0 x1 (ix3 0 h y) = (M h y : EReal))

include hc hq hk hM in
theorem exp_at (h : Fin 8) (y κ : Fin 8192) :
    val_main_v23 (F := Ideal) x0 x1 (ix4 0 h y κ) = (Real.exp (score c q k h.val y.val κ.val - M h y) : EReal) := by
  unfold val_main_v23
  pointwise [val_main_v22, val_main_v21, val_main_v20]
  exact congrArg Ideal.exp ((congrArg₂ (· - ·) (score_at hc hq hk h y κ) (hM h y)).trans (sub_coe _ _))

include hc hq hk hM in
theorem total_at (h : Fin 8) (y : Fin 8192) :
    val_main_v24 (F := Ideal) x0 x1 (ix3 0 h y)
      = ((∑ x : Fin 8192, Real.exp (score c q k h.val y.val x.val - M h y) : ℝ) : EReal) := by
  unfold val_main_v24
  pointwise [val_main_cst_8]
  exact (Finset.sum_congr (M := EReal) rfl fun x _ => exp_at hc hq hk M hM h y x).trans (sum_coe _)

include hc hq hk in
theorem prob_at (h : Fin 8) (y κ : Fin 8192) :
    val_main_v27 (F := Ideal) x0 x1 (ix4 0 h y κ) = (prob c q k h.val y.val κ.val : EReal) := by
  choose M hM using top_at hc hq hk
  unfold val_main_v27
  pointwise [val_main_v26, val_main_v25]
  refine (congrArg₂ Ideal.div (exp_at hc hq hk M hM h y κ) (total_at hc hq hk M hM h y)).trans
    ((div_coe' (sum_exp_ne _) _).trans (congrArg Real.toEReal ?_))
  exact shift_div _ _ _

include hv hg in
theorem gp_at (h : Fin 8) (y κ : Fin 8192) :
    val_main_v34 (F := Ideal) x2 x3 (ix4 0 h y κ) = (gp v g h.val y.val κ.val : EReal) := by
  unfold val_main_v34
  pointwise [val_main_v33]
  exact dot_coe (fun d => hg y h d) (fun d => hv κ h d)

include hc hq hk hv in
/-- The output. -/
theorem out_at (y : Fin 8192) (h : Fin 8) (d : Fin 64) :
    val_main_v32 (F := Ideal) x0 x1 x2 (ix4 0 y h d)
      = ((∑ κ : Fin 8192, v κ.val h.val d.val * prob c q k h.val y.val κ.val : ℝ) : EReal) := by
  unfold val_main_v32
  pointwise [val_main_v31]
  exact dot_coe (fun κ => hv κ h d) (fun κ => prob_at hc hq hk h y κ)

include hc hq hk hg in
/-- The gradient of the values. -/
theorem dv_at (κ : Fin 8192) (h : Fin 8) (d : Fin 64) :
    val_main_v36 (F := Ideal) x0 x1 x3 (ix4 0 κ h d)
      = ((∑ y : Fin 8192, g y.val h.val d.val * prob c q k h.val y.val κ.val : ℝ) : EReal) := by
  unfold val_main_v36
  pointwise [val_main_v35, val_main_v33]
  exact dot_coe (fun y => hg y h d) (fun y => prob_at hc hq hk h y κ)

include hc hq hk hv hg hM in
theorem inner_at (h : Fin 8) (y : Fin 8192) :
    val_main_v40 (F := Ideal) x0 x1 x2 x3 (ix3 0 h y) = ((∑ x : Fin 8192, gp v g h.val y.val x.val
      * (1 / ((∑ x : Fin 8192, Real.exp (score c q k h.val y.val x.val - M h y))
        * (∑ x : Fin 8192, Real.exp (score c q k h.val y.val x.val - M h y))))
      * Real.exp (score c q k h.val y.val x.val - M h y) : ℝ) : EReal) := by
  unfold val_main_v40
  pointwise [val_main_cst_10, val_main_v39, val_main_v38, val_main_v37, val_main_v30, val_main_v29, val_main_v28,
    val_main_v25, val_main_cst_9]
  refine (Finset.sum_congr (M := EReal) rfl fun x _ => ?_).trans (sum_coe _)
  have hz := total_at hc hq hk M hM h y
  refine (congrArg₂ (· * ·) (congrArg₂ (· * ·) (gp_at hv hg h y x) ((congrArg (Ideal.div 1) ((congrArg₂ (· * ·) hz hz).trans
    (EReal.coe_mul _ _).symm)).trans (div_coe' (mul_ne_zero (sum_exp_ne _) (sum_exp_ne _)) 1))) (exp_at hc hq hk M hM h y x)).trans ?_
  rw [← EReal.coe_mul, ← EReal.coe_mul]

/-- A sum over the one index that drops to `(h, y)`. -/
theorem unit_sum (w : FVec Ideal S1x8x8192x1 .f32) (h : Fin 8) (y : Fin 8192) :
    Ideal.hostReduceAdd Gen.reducesTo_S1x8x8192x1_S8x8192_d0_3 w 0 (ix2 h y) = w (ix4 0 h y 0) := by
  unfold Ideal.hostReduceAdd
  rw [zero_add, Finset.sum_eq_single (ix4 0 h y 0)]
  · intro i hi hne
    refine absurd ?_ hne
    have e := (Finset.mem_filter.mp hi).2
    funext a; apply Fin.ext
    match a with
    | ⟨0, _⟩ => exact Nat.lt_one_iff.mp (i 0).isLt
    | ⟨1, _⟩ => exact congrArg Fin.val (congrFun e 0)
    | ⟨2, _⟩ => exact congrArg Fin.val (congrFun e 1)
    | ⟨3, _⟩ => exact Nat.lt_one_iff.mp (i 3).isLt
  · intro hn
    refine absurd (Finset.mem_filter.mpr ⟨Finset.mem_univ _, ?_⟩) hn
    funext b; apply Fin.ext
    match b with
    | ⟨0, _⟩ => rfl
    | ⟨1, _⟩ => rfl

include hc hq hk hv hg in
theorem gs_at (h : Fin 8) (y κ : Fin 8192) :
    val_main_v49 (F := Ideal) x0 x1 x2 x3 (ix4 0 h y κ) = (gs c q k v g h.val y.val κ.val : EReal) := by
  choose M hM using top_at hc hq hk
  unfold val_main_v49
  pointwise [val_main_v48, val_main_v44, val_main_v43, val_main_v25, val_main_v47, val_main_v46]
  have hz := total_at hc hq hk M hM h y
  have hs : val_main_v45 (F := Ideal) x0 x1 x2 x3 (ix2 h y) = ((-(∑ x : Fin 8192, gp v g h.val y.val x.val
      * (1 / ((∑ x : Fin 8192, Real.exp (score c q k h.val y.val x.val - M h y))
        * (∑ x : Fin 8192, Real.exp (score c q k h.val y.val x.val - M h y))))
      * Real.exp (score c q k h.val y.val x.val - M h y)) : ℝ) : EReal) := by
    refine Eq.trans ?_ ((unit_sum (val_main_v42 (F := Ideal) x0 x1 x2 x3) h y).trans ?_)
    · unfold val_main_v45
      pointwise [val_main_cst_11]
    · unfold val_main_v42
      pointwise [val_main_v41]
      exact (congrArg (- ·) (inner_at hc hq hk hv hg M hM h y)).trans (EReal.coe_neg _).symm
  refine (congrArg₂ (· * ·) (congrArg₂ (· + ·) ((congrArg₂ Ideal.div (gp_at hv hg h y κ) hz).trans (div_coe' (sum_exp_ne _) _)) hs)
    (exp_at hc hq hk M hM h y κ)).trans ?_
  rw [← EReal.coe_add, ← EReal.coe_mul]
  refine congrArg Real.toEReal ((quotient_rule _ (fun x : Fin 8192 => gp v g h.val y.val x.val) _ (sum_exp_ne _) _ _).trans ?_)
  simp only [shift_div]
  rfl

include hc hq hk hv hg in
/-- The gradient of the keys. -/
theorem dk_at (κ : Fin 8192) (h : Fin 8) (d : Fin 96) :
    val_main_v53 (F := Ideal) x0 x1 x2 x3 (ix4 0 κ h d)
      = ((∑ y : Fin 8192, gs c q k v g h.val y.val κ.val * c * q y.val h.val d.val : ℝ) : EReal) := by
  unfold val_main_v53
  pointwise [val_main_v52, val_main_v51, val_main_v50, val_main_cst_12]
  exact dot_coe (fun y => (congrArg₂ (· * ·) (gs_at hc hq hk hv hg h y κ) hc).trans (EReal.coe_mul _ _).symm) (fun y => hq y h d)

include hc hq hk hv hg in
/-- The gradient of the queries. -/
theorem dq_at (y : Fin 8192) (h : Fin 8) (d : Fin 96) :
    val_main_v55 (F := Ideal) x0 x1 x2 x3 (ix4 0 y h d)
      = ((∑ κ : Fin 8192, gs c q k v g h.val y.val κ.val * c * k κ.val h.val d.val : ℝ) : EReal) := by
  unfold val_main_v55
  pointwise [val_main_v54, val_main_v51, val_main_v50, val_main_cst_12]
  exact dot_coe (fun κ => (congrArg₂ (· * ·) (gs_at hc hq hk hv hg h y κ) hc).trans (EReal.coe_mul _ _).symm) (fun κ => hk κ h d)

end

end Cert.AttnRefIdeal.Ref

end
-- ==== Proof.AttnMath.lean ====
/- The kernel's tiled formulas are the attention and its gradients, over the reals. -/
module

public import proofs.«01_k».proof.Proof.AttnArr
public import proofs.«01_k».proof.Proof.AttnHost
public import proofs.«01_k».proof.Proof.AttnRef

@[expose] public section

noncomputable section

namespace Cert.AttnMath

open Cert.AttnIdeal.Arr Cert.AttnIdeal.Host Cert.AttnRefIdeal.Ref

theorem tile_col (f : ℕ → ℝ) {d : ℕ} (hd : d < 96) : tile f (col d) = f d := by
  unfold tile col
  split_ifs <;> first | omega | rfl | (congr 1; omega)

theorem col_lt {d : ℕ} (hd : d < 96) : col d < 128 := by
  unfold col
  split_ifs <;> omega

/-- A sum over a tile's columns is the sum over the channels it holds. -/
theorem sum_tile (f g : ℕ → ℝ) : (∑ i : Fin 128, tile f i.val * tile g i.val) = ∑ d : Fin 96, f d.val * g d.val := by
  rw [Fin.sum_univ_eq_sum_range (fun i => tile f i * tile g i) 128, Fin.sum_univ_eq_sum_range (fun i => f i * g i) 96]
  have a : ∀ F : ℕ → ℝ, ∑ i ∈ Finset.range 128, F i = ∑ i ∈ Finset.range 32, F i + ∑ i ∈ Finset.range 16, F (32 + i)
      + ∑ i ∈ Finset.range 32, F (48 + i) + ∑ i ∈ Finset.range 16, F (80 + i) + ∑ i ∈ Finset.range 16, F (96 + i)
      + ∑ i ∈ Finset.range 16, F (112 + i) := fun F => by
    rw [Finset.sum_range_add F 112 16, Finset.sum_range_add F 96 16, Finset.sum_range_add F 80 16, Finset.sum_range_add F 48 32,
      Finset.sum_range_add F 32 16]
  have b : ∀ F : ℕ → ℝ, ∑ i ∈ Finset.range 96, F i = ∑ i ∈ Finset.range 32, F i + ∑ i ∈ Finset.range 32, F (32 + i)
      + ∑ i ∈ Finset.range 16, F (64 + i) + ∑ i ∈ Finset.range 16, F (80 + i) := fun F => by
    rw [Finset.sum_range_add F 80 16, Finset.sum_range_add F 64 16, Finset.sum_range_add F 32 32]
  have t1 : ∀ f : ℕ → ℝ, ∀ i < 32, tile f i = f i := fun f i h => if_pos h
  have t2 : ∀ f : ℕ → ℝ, ∀ i < 16, tile f (32 + i) = f (64 + i) := fun f i h => by
    unfold tile; split_ifs <;> first | omega | rfl | (congr 1; omega)
  have t3 : ∀ f : ℕ → ℝ, ∀ i < 32, tile f (48 + i) = f (32 + i) := fun f i h => by
    unfold tile; split_ifs <;> first | omega | rfl | (congr 1; omega)
  have t4 : ∀ f : ℕ → ℝ, ∀ i < 16, tile f (80 + i) = 0 := fun f i h => by
    unfold tile; split_ifs <;> first | omega | rfl
  have t5 : ∀ f : ℕ → ℝ, ∀ i < 16, tile f (96 + i) = f (80 + i) := fun f i h => by
    unfold tile; split_ifs <;> first | omega | rfl | (congr 1; omega)
  have t6 : ∀ f : ℕ → ℝ, ∀ i < 16, tile f (112 + i) = 0 := fun f i h => by
    unfold tile; split_ifs <;> first | omega | rfl
  rw [a, b]
  rw [Finset.sum_congr rfl fun i hi => by rw [t1 f i (Finset.mem_range.mp hi), t1 g i (Finset.mem_range.mp hi)],
    Finset.sum_congr (s₁ := Finset.range 16) (f := fun i => tile f (32 + i) * tile g (32 + i)) rfl fun i hi => by
      rw [t2 f i (Finset.mem_range.mp hi), t2 g i (Finset.mem_range.mp hi)],
    Finset.sum_congr (s₁ := Finset.range 32) (f := fun i => tile f (48 + i) * tile g (48 + i)) rfl fun i hi => by
      rw [t3 f i (Finset.mem_range.mp hi), t3 g i (Finset.mem_range.mp hi)],
    Finset.sum_congr (s₁ := Finset.range 16) (f := fun i => tile f (80 + i) * tile g (80 + i)) rfl fun i hi => by
      rw [t4 f i (Finset.mem_range.mp hi), zero_mul],
    Finset.sum_congr (s₁ := Finset.range 16) (f := fun i => tile f (96 + i) * tile g (96 + i)) rfl fun i hi => by
      rw [t5 f i (Finset.mem_range.mp hi), t5 g i (Finset.mem_range.mp hi)],
    Finset.sum_congr (s₁ := Finset.range 16) (f := fun i => tile f (112 + i) * tile g (112 + i)) rfl fun i hi => by
      rw [t6 f i (Finset.mem_range.mp hi), zero_mul], Finset.sum_const_zero]
  ring

variable (q k v g : ℕ → ℕ → ℕ → ℝ)

/-- The queries in columns, scaled to powers of two, -/
def Q (y j : ℕ) : ℝ := tile (fun d => q y (j / 128) d * (scale / Real.log 2)) (j % 128)

/-- the keys in columns, -/
def K (κ j : ℕ) : ℝ := tile (fun d => k κ (j / 128) d) (j % 128)

/-- and the values or the output's gradient in columns. -/
def W (κ d : ℕ) : ℝ := v κ (d / 64) (d % 64)

/-- The logarithm of a query's total, in powers of two. -/
def L (h y : ℕ) : ℝ := Real.log (Z (Q q) (K k) h y) / Real.log 2

/-- The output's gradient against the output. -/
def D (h y : ℕ) : ℝ := ∑ d : Fin 64, g y h d.val * O (Q q) (K k) (W v) y (64 * h + d.val)

theorem head (h d : ℕ) {n : ℕ} (hd : d < n) : (n * h + d) / n = h := by
  rw [Nat.mul_add_div (by omega), Nat.div_eq_of_lt hd, add_zero]

theorem chan (h d : ℕ) {n : ℕ} (hd : d < n) : (n * h + d) % n = d := by
  rw [Nat.mul_add_mod, Nat.mod_eq_of_lt hd]

theorem W_at (κ h d : ℕ) (hd : d < 64) : W v κ (64 * h + d) = v κ h d := by
  unfold W; rw [head h d hd, chan h d hd]

theorem S_eq (h y κ : ℕ) : S (Q q) (K k) h y κ = score scale q k h y κ / Real.log 2 := by
  unfold S Q K score
  rw [Finset.sum_congr rfl fun i _ => by rw [head h i.val i.isLt, chan h i.val i.isLt], sum_tile]
  rw [Finset.sum_mul, Finset.sum_div]
  exact Finset.sum_congr rfl fun d _ => by ring

theorem pow_log (x : ℝ) : (2:ℝ) ^ (x / Real.log 2) = Real.exp x := by
  rw [Real.rpow_def_of_pos two_pos, mul_div_cancel₀ _ log_two_ne]

theorem Z_eq (h y : ℕ) : Z (Q q) (K k) h y = ∑ x : Fin 8192, Real.exp (score scale q k h y x.val) := by
  unfold Z
  exact Finset.sum_congr rfl fun x _ => by rw [S_eq, pow_log]

theorem Z_pos (h y : ℕ) : 0 < Z (Q q) (K k) h y := by
  rw [Z_eq]; exact Finset.sum_pos (fun _ _ => Real.exp_pos _) ⟨0, Finset.mem_univ _⟩

theorem O_eq (y h d : ℕ) (hd : d < 64) :
    O (Q q) (K k) (W v) y (64 * h + d) = ∑ κ : Fin 8192, v κ.val h d * prob scale q k h y κ.val := by
  unfold O prob
  rw [head h d hd, Z_eq, Finset.sum_div]
  exact Finset.sum_congr rfl fun κ _ => by rw [W_at v _ _ _ hd, S_eq, pow_log, mul_div_assoc]

theorem P_eq (h κ y : ℕ) : P (Q q) (K k) (L q k) h κ y = prob scale q k h y κ := by
  unfold P L prob
  rw [S_eq, ← sub_div, pow_log, Real.exp_sub, Real.exp_log (Z_pos q k h y), Z_eq]

theorem D_eq (h y : ℕ) : D q k v g h y = ∑ x : Fin 8192, prob scale q k h y x.val * gp v g h y x.val := by
  unfold D gp
  simp only [Finset.mul_sum]
  rw [Finset.sum_comm]
  refine Finset.sum_congr rfl fun d _ => ?_
  rw [O_eq q k v y h d.val d.isLt, Finset.mul_sum]
  exact Finset.sum_congr rfl fun x _ => by ring

theorem DS_eq (h κ y : ℕ) : DS (Q q) (W g) (L q k) (D q k v g) (K k) (W v) h κ y = gs scale q k v g h y κ := by
  unfold DS gs
  rw [P_eq, D_eq]
  refine congrArg (fun z => prob scale q k h y κ * (z - _)) (Finset.sum_congr rfl fun d _ => ?_)
  rw [W_at v _ _ _ d.isLt, W_at g _ _ _ d.isLt, mul_comm]

theorem DV_eq (κ h d : ℕ) (hd : d < 64) :
    DV (Q q) (W g) (L q k) (K k) κ (64 * h + d) = ∑ y : Fin 8192, g y.val h d * prob scale q k h y.val κ := by
  unfold DV
  rw [head h d hd]
  exact Finset.sum_congr rfl fun y _ => by rw [P_eq, W_at g _ _ _ hd, mul_comm]

theorem DQ_eq (y h d : ℕ) (hd : d < 96) :
    DQ (Q q) (W g) (L q k) (D q k v g) (K k) (W v) y (128 * h + col d) * scale
      = ∑ κ : Fin 8192, gs scale q k v g h y κ.val * scale * k κ.val h d := by
  unfold DQ
  rw [head h _ (col_lt hd), Finset.sum_mul]
  refine Finset.sum_congr rfl fun κ _ => ?_
  rw [DS_eq, show K k κ.val (128 * h + col d) = k κ.val h d by
    unfold K; rw [head h _ (col_lt hd), chan h _ (col_lt hd), tile_col _ hd]]
  ring

theorem DK_eq (κ h d : ℕ) (hd : d < 96) :
    DK (Q q) (W g) (L q k) (D q k v g) (K k) (W v) κ (128 * h + col d) * Real.log 2
      = ∑ y : Fin 8192, gs scale q k v g h y.val κ * scale * q y.val h d := by
  unfold DK
  rw [head h _ (col_lt hd), Finset.sum_mul]
  refine Finset.sum_congr rfl fun y _ => ?_
  rw [DS_eq, show Q q y.val (128 * h + col d) = q y.val h d * (scale / Real.log 2) by
    unfold Q; rw [head h _ (col_lt hd), chan h _ (col_lt hd), tile_col _ hd]]
  have := log_two_ne
  field_simp

end Cert.AttnMath

end
-- ==== Proof.AttnRun.lean ====
/- The attention kernel run from its arguments: what its four results hold at the end, over real arguments. -/
module

public import proofs.«01_k».proof.Proof.AttnMath
public import proofs.«01_k».proof.Proof.AttnArrBwd
public import proofs.«01_k».proof.Proof.Gen.AttnIdeal.Frame

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen Cert.Reals Cert.AttnMath

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with each unscoped buffer at the contents the last host lines leave. -/
theorem last : θ_run defs (onTc (τ := τ) (main (F := Ideal))) ⟨m, fun _ => 0, ρ⟩ (fun r =>
    ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

section

variable (c : Dev nD) {q k v g : ℕ → ℕ → ℕ → ℝ}
variable (hq : ∀ (y : Fin 8192) (h : Fin 8) (d : Fin 96), (m ((c.tc : Thread nD τ).loc main_arg0) : FVec Ideal S1x8192x8x96 .f32) (ix4 0 y h d) = (q y.val h.val d.val : EReal))
variable (hk : ∀ (y : Fin 8192) (h : Fin 8) (d : Fin 96), (m ((c.tc : Thread nD τ).loc main_arg1) : FVec Ideal S1x8192x8x96 .f32) (ix4 0 y h d) = (k y.val h.val d.val : EReal))
variable (hv : ∀ (y : Fin 8192) (h : Fin 8) (d : Fin 64), (m ((c.tc : Thread nD τ).loc main_arg2) : FVec Ideal S1x8192x8x64 .f32) (ix4 0 y h d) = (v y.val h.val d.val : EReal))
variable (hg : ∀ (y : Fin 8192) (h : Fin 8) (d : Fin 64), (m ((c.tc : Thread nD τ).loc main_arg3) : FVec Ideal S1x8192x8x64 .f32) (ix4 0 y h d) = (g y.val h.val d.val : EReal))

/-- A buffer that neither the first pass nor the lines after it write is still as the first lines left it. -/
theorem kept (r : Ref sig .tc) (h0 : ∀ w : Fin cfg0.W, Pipeline.arrRef spec0 w = r → (cfg0.win w).isOut = false) (h1 : r ∉ hostOps1_W) :
    W3 m ρ c (Proc.devRef .tc r) = W1 m ρ c (Proc.devRef .tc r) := (W3_of m ρ c r h1).trans (W2_of m ρ c r h0)

include hq in
theorem q1 (y : Fin 8192) (j : Fin 1024) : (V1 m ρ c main_v15 : FVec Ideal S8192x1024 .bf16) (ix2 y j) = (Q q y.val j.val : EReal) :=
  Host.q_at (W0 m ρ c) hq y j

include hk in
theorem k1 (y : Fin 8192) (j : Fin 1024) : (V1 m ρ c main_v28 : FVec Ideal S8192x1024 .bf16) (ix2 y j) = (K k y.val j.val : EReal) :=
  Host.k_at (W0 m ρ c) hk y j

include hv in
theorem v1 (y : Fin 8192) (d : Fin 512) : (V1 m ρ c main_v31 : FVec Ideal S8192x512 .bf16) (ix2 y d) = (W v y.val d.val : EReal) :=
  Host.v_at (W0 m ρ c) hv y d

include hq hk hv in
/-- The first pass's output. -/
theorem o2 (y : Fin 8192) (d : Fin 512) : (W2 m ρ c (Proc.devRef .tc main_v32_0) : FVec Ideal S8192x512 .f32) (ix2 y d)
    = (Arr.O (Q q) (K k) (W v) y.val d.val : EReal) :=
  (congrFun ((W2_arr m ρ c 3).trans (Arr.o_arr (V1 m ρ) c (q1 m ρ c hq) (k1 m ρ c hk) (v1 m ρ c hv))) (ix2 y d))

include hq hk hv in
/-- The first pass's log-sums. -/
theorem l3 (p : Fin 4) (h : Fin 2) (y : Fin 8192) : (V3 m ρ c main_v32_1 : FVec Ideal S4x2x8192 .f32) (ix3 p h y)
    = (L q k (2 * p.val + h.val) y.val : EReal) :=
  (congrFun (W3_of m ρ c main_v32_1 (by decide)) (ix3 p h y)).trans
    (congrFun ((W2_arr m ρ c 4).trans (Arr.l_arr (V1 m ρ) c (q1 m ρ c hq) (k1 m ρ c hk) (v1 m ρ c hv))) (ix3 p h y))

theorem arg3 : W2 m ρ c (Proc.devRef .tc main_arg3) = m ((c.tc : Thread nD τ).loc main_arg3) := W2_args m ρ c main_arg3 (by decide)

include hg in
theorem g2 (y : Fin 8192) (h : Fin 8) (d : Fin 64) : (W2 m ρ c (Proc.devRef .tc main_arg3) : FVec Ideal S1x8192x8x64 .f32) (ix4 0 y h d)
    = (g y.val h.val d.val : EReal) := (congrFun (arg3 m ρ c) (ix4 0 y h d)).trans (hg y h d)

include hq hk hv hg in
theorem d3 (p : Fin 4) (h : Fin 2) (y : Fin 8192) : (V3 m ρ c main_v39 : FVec Ideal S4x2x8192 .f32) (ix3 p h y)
    = (D q k v g (2 * p.val + h.val) y.val : EReal) :=
  Host.delta_at (W2 m ρ c) (g2 m ρ c hg) (o2 m ρ c hq hk hv) p h y

include hg in
theorem g3 (y : Fin 8192) (d : Fin 512) : (V3 m ρ c main_v40 : FVec Ideal S8192x512 .bf16) (ix2 y d) = (W g y.val d.val : EReal) :=
  Host.g_at (W2 m ρ c) (g2 m ρ c hg) y d

include hq in
theorem q3 (y : Fin 8192) (j : Fin 1024) : (V3 m ρ c main_v15 : FVec Ideal S8192x1024 .bf16) (ix2 y j) = (Q q y.val j.val : EReal) :=
  (congrFun (kept m ρ c main_v15 (by decide) (by decide)) (ix2 y j)).trans (q1 m ρ c hq y j)

include hk in
theorem k3 (y : Fin 8192) (j : Fin 1024) : (V3 m ρ c main_v28 : FVec Ideal S8192x1024 .bf16) (ix2 y j) = (K k y.val j.val : EReal) :=
  (congrFun (kept m ρ c main_v28 (by decide) (by decide)) (ix2 y j)).trans (k1 m ρ c hk y j)

include hv in
theorem v3 (y : Fin 8192) (d : Fin 512) : (V3 m ρ c main_v31 : FVec Ideal S8192x512 .bf16) (ix2 y d) = (W v y.val d.val : EReal) :=
  (congrFun (kept m ρ c main_v31 (by decide) (by decide)) (ix2 y d)).trans (v1 m ρ c hv y d)

theorem log4 (i : S_.Idx) : (W4 m ρ c (Proc.devRef .tc main_v0) : FVec Ideal S_ .f32) i = (Real.log 2 : EReal) :=
  (congrFun ((W4_of m ρ c main_v0 (by decide)).trans (kept m ρ c main_v0 (by decide) (by decide))) i).trans (Host.log_at (W0 m ρ c) i)

include hq hk hv in
/-- The output. -/
theorem out_end (y : Fin 8192) (h : Fin 8) (d : Fin 64) : (W5 m ρ c (Proc.devRef .tc main_v62) : FVec Ideal S1x8192x8x64 .f32) (ix4 0 y h d)
    = (Arr.O (Q q) (K k) (W v) y.val (64 * h.val + d.val) : EReal) :=
  Host.o_at (W4 m ρ c) (fun y d => (congrFun ((W4_of m ρ c main_v32_0 (by decide)).trans (W3_of m ρ c main_v32_0 (by decide))) (ix2 y d)).trans
    (o2 m ρ c hq hk hv y d)) y h d

include hq hk hv hg in
/-- The gradient of the queries. -/
theorem dq_end (y : Fin 8192) (h : Fin 8) (d : Fin 96) : (W5 m ρ c (Proc.devRef .tc main_v63) : FVec Ideal S1x8192x8x96 .f32) (ix4 0 y h d)
    = ((Arr.DQ (Q q) (W g) (L q k) (D q k v g) (K k) (W v) y.val (128 * h.val + Host.col d.val) * Host.scale : ℝ) : EReal) :=
  Host.dq_at (W4 m ρ c) (O := Arr.DQ (Q q) (W g) (L q k) (D q k v g) (K k) (W v)) (fun y j => congrFun ((W4_arr m ρ c 6).trans (Arr.dq_arr (V3 m ρ) c (q3 m ρ c hq) (g3 m ρ c hg) (l3 m ρ c hq hk hv)
    (d3 m ρ c hq hk hv hg) (k3 m ρ c hk) (v3 m ρ c hv))) (ix2 y j)) y h d

include hq hk hv hg in
/-- The gradient of the keys. -/
theorem dk_end (y : Fin 8192) (h : Fin 8) (d : Fin 96) : (W5 m ρ c (Proc.devRef .tc main_v64) : FVec Ideal S1x8192x8x96 .f32) (ix4 0 y h d)
    = ((Arr.DK (Q q) (W g) (L q k) (D q k v g) (K k) (W v) y.val (128 * h.val + Host.col d.val) * Real.log 2 : ℝ) : EReal) :=
  Host.dk_at (W4 m ρ c) (O := Arr.DK (Q q) (W g) (L q k) (D q k v g) (K k) (W v)) (fun y j => congrFun ((W4_arr m ρ c 7).trans (Arr.dk_arr (V3 m ρ) c (q3 m ρ c hq) (g3 m ρ c hg) (l3 m ρ c hq hk hv)
    (d3 m ρ c hq hk hv hg) (k3 m ρ c hk) (v3 m ρ c hv))) (ix2 y j)) (log4 m ρ c) y h d

include hq hk hv hg in
/-- The gradient of the values. -/
theorem dv_end (y : Fin 8192) (h : Fin 8) (d : Fin 64) : (W5 m ρ c (Proc.devRef .tc main_v65) : FVec Ideal S1x8192x8x64 .f32) (ix4 0 y h d)
    = (Arr.DV (Q q) (W g) (L q k) (K k) y.val (64 * h.val + d.val) : EReal) :=
  Host.dv_at (W4 m ρ c) (O := Arr.DV (Q q) (W g) (L q k) (K k)) (fun y j => congrFun ((W4_arr m ρ c 8).trans (Arr.dv_arr (V3 m ρ) c (q3 m ρ c hq) (g3 m ρ c hg) (l3 m ρ c hq hk hv)
    (d3 m ρ c hq hk hv hg) (k3 m ρ c hk) (v3 m ρ c hv))) (ix2 y j)) y h d

end

end Cert.AttnIdeal.Run

end
-- ==== Proof.AttnClose.lean ====
/- The attention kernel and its reference end with the same four results, where the arguments are finite. -/
module

public import proofs.«01_k».proof.Defs
public import proofs.«01_k».proof.Proof.AttnRun
public import proofs.«01_k».proof.Proof.Gen.AttnIdeal
public import proofs.«01_k».proof.Proof.Gen.AttnRefIdeal
public import proofs.«01_k».proof.Proof.Gen.AttnRefIdeal.Run

@[expose] public section

set_option maxRecDepth 16384

noncomputable section

namespace Cert.AttnClose

open Idealize.ShloMosaic Idealize.ShloMosaic.TcCoe Idealize.SL.Sem
open Cert.Reals Cert.AttnMath

/-- The shapes the precondition's operations take. -/
theorem pre_facts : Cert.Pre_finite_qkvd.Facts := ⟨by decide, by decide⟩

theorem inf_word : Ideal.ofBits .f32 0x7F800000#32 = ⊤ := by simp [Ideal.ofBits, Ideal.ieee]

/-- An array whose magnitudes all compare below infinity is real everywhere. -/
theorem real_of_pre {s : Shape} (x : FVec Ideal s .f32) (hb : Shape.BroadcastsInDim ⟨0, ![]⟩ s ![])
    (h : cmpf .olt (Host.absf x) (broadcastInDim s ![] hb (constant (F := Ideal) ⟨0, ![]⟩ .f32 0x7F800000#32)) = fun _ => 1#1) (i : s.Idx) : ∃ r : ℝ, (x i : EReal) = (r : EReal) := by
  have hi : BitVec.ofBool (decide ((max (x i) (-(x i)) : EReal) < Ideal.ofBits .f32 0x7F800000#32)) = 1#1 := congrFun h i
  refine real_of_abs_lt ?_
  rw [← inf_word]
  by_contra hn
  rw [decide_eq_false hn] at hi
  exact absurd hi (by decide)

/-- An array of four axes, the first of size one, whose entries are real, as a real function. -/
theorem real_fun {n0 n1 n2 : ℕ} [NeZero n0] [NeZero n1] [NeZero n2] (x : (⟨4, ![1, n0, n1, n2]⟩ : Shape).Idx → EReal)
    (h : ∀ i, ∃ r : ℝ, x i = (r : EReal)) :
    ∃ f : ℕ → ℕ → ℕ → ℝ, ∀ (a : Fin n0) (b : Fin n1) (d : Fin n2), x (ix4 0 a b d) = (f a.val b.val d.val : EReal) := by
  choose f hf using h
  refine ⟨fun a b d => f (ix4 0 (Fin.ofNat n0 a) (Fin.ofNat n1 b) (Fin.ofNat n2 d)), fun a b d => ?_⟩
  dsimp only
  rw [Fin.ofNat_val_eq_self, Fin.ofNat_val_eq_self, Fin.ofNat_val_eq_self]
  exact hf _

instance : Cert.Pre_finite_qkvd.Facts := pre_facts

section

variable (m : (ℓ : Loc Cert.AttnIdeal.nD Cert.AttnIdeal.τ Cert.AttnIdeal.sig) → Buf (Elt Ideal) ℓ) (ρ : Dev Cert.AttnIdeal.nD → PrngReg)
variable (c : Dev Cert.AttnIdeal.nD) {q k v g : ℕ → ℕ → ℕ → ℝ}
variable {x0 x1 : FVec Ideal Cert.AttnIdeal.S1x8192x8x96 .f32} {x2 x3 : FVec Ideal Cert.AttnIdeal.S1x8192x8x64 .f32}
variable (e0 : m ((c.tc : Thread Cert.AttnIdeal.nD Cert.AttnIdeal.τ).loc Cert.AttnIdeal.main_arg0) = x0)
variable (e1 : m ((c.tc : Thread Cert.AttnIdeal.nD Cert.AttnIdeal.τ).loc Cert.AttnIdeal.main_arg1) = x1)
variable (e2 : m ((c.tc : Thread Cert.AttnIdeal.nD Cert.AttnIdeal.τ).loc Cert.AttnIdeal.main_arg2) = x2)
variable (e3 : m ((c.tc : Thread Cert.AttnIdeal.nD Cert.AttnIdeal.τ).loc Cert.AttnIdeal.main_arg3) = x3)
variable (hq : ∀ (y : Fin 8192) (h : Fin 8) (d : Fin 96), x0 (ix4 0 y h d) = (q y.val h.val d.val : EReal))
variable (hk : ∀ (y : Fin 8192) (h : Fin 8) (d : Fin 96), x1 (ix4 0 y h d) = (k y.val h.val d.val : EReal))
variable (hv : ∀ (y : Fin 8192) (h : Fin 8) (d : Fin 64), x2 (ix4 0 y h d) = (v y.val h.val d.val : EReal))
variable (hg : ∀ (y : Fin 8192) (h : Fin 8) (d : Fin 64), x3 (ix4 0 y h d) = (g y.val h.val d.val : EReal))

/-- Two arrays of four axes, the first of size one, with the same real entries. -/
theorem arr_eq {n0 n1 n2 : ℕ} {x y : (⟨4, ![1, n0, n1, n2]⟩ : Shape).Idx → EReal} {f f' : Fin n0 → Fin n1 → Fin n2 → ℝ}
    (hx : ∀ a b d, x (ix4 0 a b d) = (f a b d : EReal)) (hy : ∀ a b d, y (ix4 0 a b d) = (f' a b d : EReal))
    (h : ∀ a b d, f' a b d = f a b d) : x = y := by
  funext i
  have e : i = ix4 0 (i 1) (i 2) (i 3) := by
    funext a; apply Fin.ext
    match a with
    | ⟨0, _⟩ => exact Nat.lt_one_iff.mp (i 0).isLt
    | ⟨1, _⟩ => rfl
    | ⟨2, _⟩ => rfl
    | ⟨3, _⟩ => rfl
  rw [e]
  exact (hx _ _ _).trans ((congrArg Real.toEReal (h _ _ _).symm).trans (hy _ _ _).symm)

include e0 e1 e2 hq hk hv in
theorem o_eq : Cert.AttnRefIdeal.Read.val_main_v32 (F := Ideal) x0 x1 x2
    = (Cert.AttnIdeal.Gen.W5 m ρ c (Proc.devRef .tc Cert.AttnIdeal.main_v62) : FVec Ideal Cert.AttnIdeal.S1x8192x8x64 .f32) := by
  subst e0 e1 e2
  exact arr_eq (fun y h d => Cert.AttnRefIdeal.Ref.out_at Cert.AttnIdeal.Host.ofBits_scale hq hk hv y h d)
    (fun y h d => Cert.AttnIdeal.Run.out_end m ρ c hq hk hv y h d) (fun y h d => O_eq q k v y.val h.val d.val d.isLt)

include e0 e1 e2 e3 hq hk hv hg in
theorem dq_eq : Cert.AttnRefIdeal.Read.val_main_v55 (F := Ideal) x0 x1 x2 x3
    = (Cert.AttnIdeal.Gen.W5 m ρ c (Proc.devRef .tc Cert.AttnIdeal.main_v63) : FVec Ideal Cert.AttnIdeal.S1x8192x8x96 .f32) := by
  subst e0 e1 e2 e3
  exact arr_eq (fun y h d => Cert.AttnRefIdeal.Ref.dq_at Cert.AttnIdeal.Host.ofBits_scale hq hk hv hg y h d)
    (fun y h d => Cert.AttnIdeal.Run.dq_end m ρ c hq hk hv hg y h d) (fun y h d => DQ_eq q k v g y.val h.val d.val d.isLt)

include e0 e1 e2 e3 hq hk hv hg in
theorem dk_eq : Cert.AttnRefIdeal.Read.val_main_v53 (F := Ideal) x0 x1 x2 x3
    = (Cert.AttnIdeal.Gen.W5 m ρ c (Proc.devRef .tc Cert.AttnIdeal.main_v64) : FVec Ideal Cert.AttnIdeal.S1x8192x8x96 .f32) := by
  subst e0 e1 e2 e3
  exact arr_eq (fun y h d => Cert.AttnRefIdeal.Ref.dk_at Cert.AttnIdeal.Host.ofBits_scale hq hk hv hg y h d)
    (fun y h d => Cert.AttnIdeal.Run.dk_end m ρ c hq hk hv hg y h d) (fun y h d => DK_eq q k v g y.val h.val d.val d.isLt)

include e0 e1 e2 e3 hq hk hv hg in
theorem dv_eq : Cert.AttnRefIdeal.Read.val_main_v36 (F := Ideal) x0 x1 x3
    = (Cert.AttnIdeal.Gen.W5 m ρ c (Proc.devRef .tc Cert.AttnIdeal.main_v65) : FVec Ideal Cert.AttnIdeal.S1x8192x8x64 .f32) := by
  subst e0 e1 e2 e3
  exact arr_eq (fun y h d => Cert.AttnRefIdeal.Ref.dv_at Cert.AttnIdeal.Host.ofBits_scale hq hk hg y h d)
    (fun y h d => Cert.AttnIdeal.Run.dv_end m ρ c hq hk hv hg y h d) (fun y h d => DV_eq q k g y.val h.val d.val d.isLt)

end

/-- The four results of the reference are the four results of the kernel. -/
theorem algebraic : Cert.algebraic_AttnIdeal_AttnRefIdeal_pre_finite_qkvd := by
  intro m ρ m' ρ' hpre hagree
  refine ⟨fun c => Cert.AttnIdeal.Gen.W5 m ρ c (Proc.devRef .tc Cert.AttnIdeal.main_v62),
    fun c => Cert.AttnIdeal.Gen.W5 m ρ c (Proc.devRef .tc Cert.AttnIdeal.main_v63),
    fun c => Cert.AttnIdeal.Gen.W5 m ρ c (Proc.devRef .tc Cert.AttnIdeal.main_v64),
    fun c => Cert.AttnIdeal.Gen.W5 m ρ c (Proc.devRef .tc Cert.AttnIdeal.main_v65), ?_, ?_⟩
  · refine (θ_run Cert.AttnIdeal.defs _ _).mono (fun r h c => ?_) (Cert.AttnIdeal.Run.last m ρ)
    have e : ∀ b : Ref Cert.AttnIdeal.sig .tc, ¬ (Proc.devRef .tc b : DevRef Cert.AttnIdeal.τ Cert.AttnIdeal.sig).isScoped →
        r.2.mem ((c.tc : Thread Cert.AttnIdeal.nD Cert.AttnIdeal.τ).loc b) = Cert.AttnIdeal.Gen.W5 m ρ c (Proc.devRef .tc b) :=
      fun b hb => h c _ (Cert.AttnIdeal.Gen.mem_uc b hb)
    exact ⟨e _ (by decide), e _ (by decide), e _ (by decide), e _ (by decide),
      (e _ (by decide)).trans (Cert.AttnIdeal.Gen.W5_main_arg0 m ρ c), (e _ (by decide)).trans (Cert.AttnIdeal.Gen.W5_main_arg1 m ρ c),
      (e _ (by decide)).trans (Cert.AttnIdeal.Gen.W5_main_arg2 m ρ c), (e _ (by decide)).trans (Cert.AttnIdeal.Gen.W5_main_arg3 m ρ c)⟩
  · refine (θ_run Cert.AttnRefIdeal.defs _ _).mono (fun r h c => ?_) (Cert.AttnRefIdeal.Value.run m' ρ')
    obtain ⟨a0, a1, a2, a3⟩ := hagree c
    obtain ⟨p0, p1, p2, p3⟩ := hpre c
    obtain ⟨q, hq⟩ := real_fun _ (real_of_pre _ _ p0)
    obtain ⟨k, hk⟩ := real_fun _ (real_of_pre _ _ p1)
    obtain ⟨v, hv⟩ := real_fun _ (real_of_pre _ _ p2)
    obtain ⟨g, hg⟩ := real_fun _ (real_of_pre _ _ p3)
    rw [← a0] at hq
    rw [← a1] at hk
    rw [← a2] at hv
    rw [← a3] at hg
    obtain ⟨r0, r1, r2, r3, rest⟩ := h c
    exact ⟨r0.trans ((Cert.AttnRefIdeal.Read.val_main_v32_eq _ _ _).trans (o_eq m ρ c a0.symm a1.symm a2.symm hq hk hv)),
      r1.trans ((Cert.AttnRefIdeal.Read.val_main_v55_eq m' c).trans (dq_eq m ρ c a0.symm a1.symm a2.symm a3.symm hq hk hv hg)),
      r2.trans ((Cert.AttnRefIdeal.Read.val_main_v53_eq m' c).trans (dk_eq m ρ c a0.symm a1.symm a2.symm a3.symm hq hk hv hg)),
      r3.trans ((Cert.AttnRefIdeal.Read.val_main_v36_eq _ _ _).trans (dv_eq m ρ c a0.symm a1.symm a2.symm a3.symm hq hk hv hg)), rest⟩

end Cert.AttnClose

end
-- ==== Proof.Norm.lean ====
/- The gradient of the root-mean-square norm over the extended reals: written out, and by the chain rule through the inverse root. -/
module

public import proofs.«01_k».proof.Proof.Reals

@[expose] public section

noncomputable section

namespace Cert.Norm

open Idealize.ShloMosaic

/-- A nonnegative real factor moves into a finite sum. -/
theorem sum_mul_real {ι : Type*} [Fintype ι] (f : ι → EReal) {ρ : ℝ} (h : 0 ≤ ρ) : ∑ i, f i * (ρ : EReal) = (∑ i, f i) * (ρ : EReal) := by
  classical
  induction (Finset.univ : Finset ι) using Finset.induction_on with
  | empty => simp
  | insert a s ha ih =>
    rw [Finset.sum_insert ha, Finset.sum_insert ha, ih,
      EReal.right_distrib_of_nonneg_of_ne_top (EReal.coe_nonneg.mpr h) (EReal.coe_ne_top ρ)]

theorem two_mul_coe (a : EReal) : a + a = a * ((2 : ℝ) : EReal) := by
  induction a with
  | bot => rw [EReal.bot_mul_coe_of_pos (by norm_num)]; rfl
  | top => rw [EReal.top_mul_coe_of_pos (by norm_num)]; rfl
  | coe r => rw [← EReal.coe_add, ← EReal.coe_mul, mul_two]

theorem sq_nonneg (a : EReal) : 0 ≤ a * a := by
  induction a with
  | bot => rw [EReal.bot_mul_bot]; exact le_top
  | top => rw [EReal.top_mul_top]; exact le_top
  | coe r => rw [← EReal.coe_mul]; exact EReal.coe_nonneg.mpr (mul_self_nonneg r)

variable {n : Nat}

/-- The mean square with the small constant is positive: real, or infinite where an entry is. -/
theorem ms_cases (x : Fin n → EReal) {c e : ℝ} (hc : 0 < c) (he : 0 < e) :
    (∑ i, x i * x i) * (c : EReal) + (e : EReal) = ⊤ ∨ ∃ v : ℝ, 0 < v ∧ (∑ i, x i * x i) * (c : EReal) + (e : EReal) = (v : EReal) := by
  have h : 0 ≤ ∑ i, x i * x i := Finset.sum_nonneg fun i _ => sq_nonneg (x i)
  generalize (∑ i, x i * x i) = s at h
  induction s with
  | bot => exact absurd h (by simp)
  | top => left; rw [EReal.top_mul_coe_of_pos hc]; rfl
  | coe s =>
    right
    have hs : 0 ≤ s := EReal.coe_nonneg.mp h
    exact ⟨s * c + e, by positivity, by rw [← EReal.coe_mul, ← EReal.coe_add]⟩

theorem rsqrt_coe {v : ℝ} (h : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.mpr h.le), if_neg h.ne']

/-- The input's gradient: the inverse root times the centred cotangent is what the chain rule adds up to. -/
theorem dx (x t : Fin n → EReal) (j : Fin n) {c e N h v r : EReal} {N' e' : ℝ} (hN : 0 < N') (he : 0 < e') (eN : N = (N' : EReal))
    (ec : c = ((N'⁻¹ : ℝ) : EReal)) (ee : e = (e' : EReal)) (eh : h = ((-(1 / 2) : ℝ) : EReal)) (ev : v = (∑ i, x i * x i) * c + e)
    (er : r = Ideal.rsqrt v) :
    r * (t j - x j * r * ((∑ i, t i * (x i * r)) * c)) =
      t j * r + x j * Ideal.div ((∑ i, x i * t i) * (h * Ideal.div r v)) N + Ideal.div ((∑ i, x i * t i) * (h * Ideal.div r v)) N * x j := by
  subst eN ec ee eh
  rcases ms_cases x (inv_pos.mpr hN) he with hv | ⟨v', hv', hv⟩
  · rw [hv] at ev
    subst ev
    have hr : r = 0 := er
    subst hr
    have hd : Ideal.div 0 (⊤ : EReal) = 0 := by unfold Ideal.div; rw [if_neg (by simp), zero_mul]
    have hz : Ideal.div 0 ((N' : ℝ) : EReal) = 0 := by rw [Ideal.div_coe hN.ne', zero_mul]
    rw [hd]
    simp only [mul_zero]
    rw [hz]
    simp
  · rw [hv] at ev
    subst ev
    rw [rsqrt_coe hv'] at er
    have hρ : 0 < (Real.sqrt v')⁻¹ := inv_pos.mpr (Real.sqrt_pos.mpr hv')
    have hs : (Real.sqrt v')⁻¹ / v' = (Real.sqrt v')⁻¹ ^ 3 := by
      have h2 : Real.sqrt v' ≠ 0 := (Real.sqrt_pos.mpr hv').ne'
      rw [div_eq_iff hv'.ne']
      nth_rw 3 [← Real.mul_self_sqrt hv'.le]
      field_simp
    generalize (Real.sqrt v')⁻¹ = ρ at er hρ hs
    subst er
    rw [Reals.div_coe' hv'.ne', hs, Ideal.div_coe hN.ne', ← EReal.coe_mul]
    have hsum : ∑ i, t i * (x i * (ρ : EReal)) = (∑ i, x i * t i) * (ρ : EReal) := by
      rw [← sum_mul_real _ hρ.le]
      exact Finset.sum_congr rfl fun i _ => by rw [← mul_assoc, mul_comm (t i)]
    rw [hsum]
    generalize (∑ i, x i * t i) = S
    generalize x j = X
    generalize t j = T
    have h1 : X * (ρ : EReal) * (S * (ρ : EReal) * ((N'⁻¹ : ℝ) : EReal)) = X * S * ((ρ * (ρ * N'⁻¹) : ℝ) : EReal) := by
      rw [mul_assoc S, ← EReal.coe_mul, mul_mul_mul_comm, ← EReal.coe_mul]
    have h2 : S * ((-(1 / 2) * ρ ^ 3 : ℝ) : EReal) * ((1 / N' : ℝ) : EReal) = S * ((-(1 / 2) * ρ ^ 3 * (1 / N') : ℝ) : EReal) := by
      rw [mul_assoc, ← EReal.coe_mul]
    rw [h1, h2, mul_comm _ X, add_assoc, two_mul_coe, ← mul_assoc X S, mul_assoc (X * S), ← EReal.coe_mul, sub_eq_add_neg,
      EReal.left_distrib_of_nonneg_of_ne_top (EReal.coe_nonneg.mpr hρ.le) (EReal.coe_ne_top ρ), mul_comm _ T]
    congr 1
    rw [mul_neg, mul_comm, mul_assoc (X * S), ← EReal.coe_mul, ← mul_neg, ← EReal.coe_neg]
    congr 2
    ring

/-- The inverse root of the mean square. -/
def rs (c e : EReal) (x : Fin n → EReal) : EReal := Ideal.rsqrt ((∑ i, x i * x i) * c + e)

/-- The norm's input gradient at a column, of the cotangent times the weight. -/
def grad (c e : EReal) (x t : Fin n → EReal) (j : Fin n) : EReal := rs c e x * (t j - x j * rs c e x * ((∑ i, t i * (x i * rs c e x)) * c))

theorem n1024 : Ideal.ofBits .f32 1149239296#32 = ((1024 : ℝ) : EReal) := by
  simp [Ideal.ofBits, Ideal.ieee, -EReal.coe_mul, -EReal.coe_neg]; norm_num

theorem c1024 : Ideal.ofBits .f32 981467136#32 = (((1024 : ℝ)⁻¹ : ℝ) : EReal) := by
  simp [Ideal.ofBits, Ideal.ieee, -EReal.coe_mul, -EReal.coe_neg]; norm_num

theorem n512 : Ideal.ofBits .f32 1140850688#32 = ((512 : ℝ) : EReal) := by
  simp [Ideal.ofBits, Ideal.ieee, -EReal.coe_mul, -EReal.coe_neg]; norm_num

theorem c512 : Ideal.ofBits .f32 989855744#32 = (((512 : ℝ)⁻¹ : ℝ) : EReal) := by
  simp [Ideal.ofBits, Ideal.ieee, -EReal.coe_mul, -EReal.coe_neg]; norm_num

theorem n128 : Ideal.ofBits .f32 1124073472#32 = ((128 : ℝ) : EReal) := by
  simp [Ideal.ofBits, Ideal.ieee, -EReal.coe_mul, -EReal.coe_neg]; norm_num

theorem c128 : Ideal.ofBits .f32 1006632960#32 = (((128 : ℝ)⁻¹ : ℝ) : EReal) := by
  simp [Ideal.ofBits, Ideal.ieee, -EReal.coe_mul, -EReal.coe_neg]; norm_num

theorem half : Ideal.ofBits .f32 3204448256#32 = ((-(1 / 2) : ℝ) : EReal) := by
  simp [Ideal.ofBits, Ideal.ieee, -EReal.coe_mul, -EReal.coe_neg]; norm_num

theorem small : ∃ e : ℝ, 0 < e ∧ Ideal.ofBits .f32 897988541#32 = (e : EReal) :=
  ⟨8796093 * 2 ^ (-43 : ℤ), by positivity, by simp [Ideal.ofBits, Ideal.ieee, -EReal.coe_mul, -EReal.coe_neg]⟩

theorem div_n {N c : EReal} {N' : ℝ} (hN : 0 < N') (eN : N = (N' : EReal)) (ec : c = ((N'⁻¹ : ℝ) : EReal)) (s : EReal) : Ideal.div s N = s * c := by
  rw [eN, ec, Ideal.div_coe hN.ne', one_div]

/-- The chain rule's sum, with the mean taken by a division. -/
theorem grad_ref {c e N h : EReal} {N' : ℝ} (hN : 0 < N') (he : ∃ e' : ℝ, 0 < e' ∧ e = (e' : EReal)) (eN : N = (N' : EReal))
    (ec : c = ((N'⁻¹ : ℝ) : EReal)) (eh : h = ((-(1 / 2) : ℝ) : EReal)) (x t : Fin n → EReal) (j : Fin n) :
    t j * Ideal.rsqrt (Ideal.div (∑ i, x i * x i) N + e) +
        x j * Ideal.div ((∑ i, x i * t i) * (h * Ideal.div (Ideal.rsqrt (Ideal.div (∑ i, x i * x i) N + e)) (Ideal.div (∑ i, x i * x i) N + e))) N +
      Ideal.div ((∑ i, x i * t i) * (h * Ideal.div (Ideal.rsqrt (Ideal.div (∑ i, x i * x i) N + e)) (Ideal.div (∑ i, x i * x i) N + e))) N * x j =
      grad c e x t j := by
  obtain ⟨e', he', ee⟩ := he
  rw [div_n hN eN ec (∑ i, x i * x i)]
  exact (dx x t j hN he' eN ec ee eh rfl rfl).symm

end Cert.Norm

end
-- ==== Proof.FfnInValue.lean ====
/- What the kernel's gradient of the ConvFFN's input leaves in its three arrays. -/
module

public import proofs.«01_k».proof.Proof.Gen.FfnInIdeal.Value
public import proofs.«01_k».proof.Proof.Rows
public import proofs.«01_k».proof.Proof.Norm

@[expose] public section

set_option maxRecDepth 16384

noncomputable section

namespace Cert.FfnInIdeal.Closed

open Cert.FfnInIdeal Cert.FfnInIdeal.Gen Idealize.ShloMosaic Idealize.ShloMosaic.TcCoe Idealize.SL.Sem Cert.Common Cert.Norm

variable (m : (ℓ : Loc nD τ sig) → Buf (Elt Ideal) ℓ) (c : Dev nD)

/-- The five arguments. -/
abbrev x : FVec Ideal S1x8192x1024 .f32 := m ((c : Thread nD τ).loc main_arg0)
abbrev g : FVec Ideal S1x1024 .f32 := m ((c : Thread nD τ).loc main_arg1)
abbrev w : FVec Ideal S1x1024x5632 .f32 := m ((c : Thread nD τ).loc main_arg2)
abbrev d : FVec Ideal S8192x5632 .bf16 := m ((c : Thread nD τ).loc main_arg3)
abbrev dy : FVec Ideal S1x8192x1024 .f32 := m ((c : Thread nD τ).loc main_arg4)

theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![t.val, 0] ∧ win0_6.index t = ![t.val, 0] ∧ win0_7.index t = ![0, 0] :=
  (by decide +kernel : ∀ t : Fin grid0.N, _)

/-- The row of the whole array that a point's block row is. -/
def row (t : Fin cfg0.N) (r : Fin 512) : Fin 8192 := ⟨512 * t.val + r.val, by have : t.val < 16 := t.isLt; omega⟩

/-- The cotangent of the normed input. -/
def cot (y : Fin 8192) (l : Fin 1024) : EReal := ∑ k : Fin 5632, (d m c (ix2 y k) * w m c (ix3 0 l k) : EReal)

abbrev inv (y : Fin 8192) : EReal := rs (Ideal.ofBits .f32 981467136#32) (Ideal.ofBits .f32 897988541#32) (fun i : Fin 1024 => x m c (ix3 0 y i))

/-- The input's gradient. -/
def dx (y : Fin 8192) (l : Fin 1024) : EReal :=
  grad (Ideal.ofBits .f32 981467136#32) (Ideal.ofBits .f32 897988541#32) (fun i : Fin 1024 => x m c (ix3 0 y i))
    (fun i => cot m c y i * g m c (ix2 0 i)) l + dy m c (ix3 0 y l)

theorem V3 : V m c main_v3 = truncf .bf16 (transpose S4x1024x1408 [1, 0, 2] (shapeCast S1024x4x1408 (shapeCast S1024x5632 (w m c) shapeCasts_S1x1024x5632_S1024x5632)
    shapeCasts_S1024x5632_S1024x4x1408) transposes_S1024x4x1408_S4x1024x1408_1_0_2) bitsLt_bf16_f32 := by
  simp only [V, hostOps0, List.flatten_cons, List.flatten_nil, List.append_nil, List.cons_append, List.nil_append]
  entry_read
  rfl

theorem d_blk (t : Fin cfg0.N) (r : Fin 512) (k : Fin 5632) : iblk m c 0 t (ix2 r k) = d m c (ix2 (row t r) k) := by
  unfold row; blk_ext [iblk, V, idx t]

theorem x_blk (t : Fin cfg0.N) (r : Fin 512) (l : Fin 1024) : iblk m c 1 t (ix2 r l) = x m c (ix3 0 (row t r) l) := by
  rw [show iblk m c 1 t (ix2 r l) = V m c main_v4 (ix2 (row t r) l) by unfold row; blk_ext [iblk, idx t]]
  simp only [V, hostOps0, List.flatten_cons, List.flatten_nil, List.append_nil, List.cons_append, List.nil_append]
  entry_read
  pointwise []

theorem dy_blk (t : Fin cfg0.N) (r : Fin 512) (l : Fin 1024) : iblk m c 2 t (ix2 r l) = dy m c (ix3 0 (row t r) l) := by
  rw [show iblk m c 2 t (ix2 r l) = V m c main_v5 (ix2 (row t r) l) by unfold row; blk_ext [iblk, idx t]]
  simp only [V, hostOps0, List.flatten_cons, List.flatten_nil, List.append_nil, List.cons_append, List.nil_append]
  entry_read
  pointwise []

theorem g_blk (t : Fin cfg0.N) (l : Fin 1024) : iblk m c 3 t (ix2 0 l) = g m c (ix2 0 l) := by
  rw [show iblk m c 3 t (ix2 0 l) = V m c main_v7 (ix2 0 l) by blk_ext [iblk, idx t]]
  simp only [V, hostOps0, List.flatten_cons, List.flatten_nil, List.append_nil, List.cons_append, List.nil_append]
  entry_read
  pointwise []

theorem w_blk (t : Fin cfg0.N) (q : Fin 4) (l : Fin 1024) (k : Fin 1408) (k' : Fin 5632) (h : k'.val = 1408 * q.val + k.val) :
    iblk m c 4 t (ix3 q l k) = w m c (ix3 0 l k') := by
  rw [show iblk m c 4 t (ix3 q l k) = V m c main_v3 (ix3 q l k) by blk_ext [iblk, idx t], V3]
  pointwise []
  all_goals exact congrArg (fun q => w m c (ix3 0 l q)) (Fin.ext (by dsimp only; omega))

/-- The products with the four shards of the weight add up to the whole product. -/
theorem cot_blk (t : Fin cfg0.N) (r : Fin 512) (l : Fin 1024) :
    k0_pay7 (F := Ideal) (View.ld (iblk m c 0 t) (Rect.unit ![0, 0] ![512, 1408] inb_S512x5632_S512x1408_0_0))
        (View.ld (iblk m c 4 t) (Rect.unit ![0, 0, 0] ![1, 1024, 1408] inb_S4x1024x1408_S1x1024x1408_0_0_0))
        (View.ld (iblk m c 0 t) (Rect.unit ![0, 1408] ![512, 1408] inb_S512x5632_S512x1408_0_1408))
        (View.ld (iblk m c 4 t) (Rect.unit ![1, 0, 0] ![1, 1024, 1408] inb_S4x1024x1408_S1x1024x1408_1_0_0))
        (View.ld (iblk m c 0 t) (Rect.unit ![0, 2816] ![512, 1408] inb_S512x5632_S512x1408_0_2816))
        (View.ld (iblk m c 4 t) (Rect.unit ![2, 0, 0] ![1, 1024, 1408] inb_S4x1024x1408_S1x1024x1408_2_0_0))
        (View.ld (iblk m c 0 t) (Rect.unit ![0, 4224] ![512, 1408] inb_S512x5632_S512x1408_0_4224))
        (View.ld (iblk m c 4 t) (Rect.unit ![3, 0, 0] ![1, 1024, 1408] inb_S4x1024x1408_S1x1024x1408_3_0_0)) (ix2 r l) = cot m c (row t r) l := by
  pointwise [k0_pay7]
  simp only [d_blk]
  unfold cot
  rw [Fin.sum_univ_tiles 4 1408 rfl]
  rw [Fin.sum_univ_four]
  refine congrArg₂ (· + ·) (congrArg₂ (· + ·) (congrArg₂ (· + ·) ?_ ?_) ?_) ?_
  all_goals
    refine Finset.sum_congr rfl fun k _ => congrArg₂ (· * ·) (congrArg (fun q => d m c (ix2 (row t r) q)) (Fin.ext ?_)) (w_blk m c t _ l k _ ?_)
    all_goals simp <;> omega

theorem inv_blk (t : Fin cfg0.N) (r : Fin 512) :
    Ideal.rsqrt (k0_pay9 (F := Ideal) (iblk m c 1 t) (ix1 r) * Ideal.ofBits .f32 981467136#32 + Ideal.ofBits .f32 897988541#32) = inv m c (row t r) := by
  pointwise [k0_pay9, k0_pay8]
  simp only [x_blk]
  rfl

theorem pay4_at (t : Fin cfg0.N) (u : FVec Ideal S512x1024 .f32) (hu : ∀ r l, u (ix2 r l) = cot m c (row t r) l) (r : Fin 512) (l : Fin 1024) :
    k0_pay4 (F := Ideal) u (k0_pay8 (iblk m c 1 t)) (k0_pay9 (iblk m c 1 t)) (iblk m c 3 t) (iblk m c 2 t) (ix2 r l) = dx m c (row t r) l := by
  pointwise [k0_pay4, k0_pay2, k0_pay1, k0_pay8]
  simp only [inv_blk, hu, x_blk, dy_blk, g_blk]
  rfl

theorem pay3_at (t : Fin cfg0.N) (u : FVec Ideal S512x1024 .f32) (hu : ∀ r l, u (ix2 r l) = cot m c (row t r) l) (v : FVec Ideal S1x1024 .f32) (l : Fin 1024) :
    k0_pay3 (F := Ideal) u (k0_pay8 (iblk m c 1 t)) (k0_pay9 (iblk m c 1 t)) v (ix2 0 l) =
      v (ix2 0 l) + ∑ r : Fin 512, cot m c (row t r) l * (x m c (ix3 0 (row t r) l) * inv m c (row t r)) := by
  pointwise [k0_pay3, k0_pay2, k0_pay1, k0_pay8]
  simp only [inv_blk, hu, x_blk]

theorem dx_arr : (dats m 0 c).arrAt 5 cfg0.N = fun i => dx m c (i 0) (i 1) := by
  refine (dats m 0 c).arrAt_eq_of_covers 5 _ (by decide +kernel) fun t hf y => ?_
  blk_simp
  rw [after0_5]
  idx_vars y
  rw [show ((View.whole main_v8_0).slice (win0_5.rect t)).emb (ix2 y0 y1) = ix2 (row t y0) y1 by unfold row; blk_ext [idx t]]
  by_cases h0 : t.val % 16 = 0
  · rw [outsAt0_A m c t h0]
    frame_out
    exact pay4_at m c t _ (cot_blk m c t) _ _
  · rw [outsAt0_B m c t h0]
    frame_out
    exact pay4_at m c t _ (cot_blk m c t) _ _

/-- The copy of it in the shorter format holds the same values. -/
theorem dxb_arr : (dats m 0 c).arrAt 6 cfg0.N = fun i => dx m c (i 0) (i 1) := by
  refine (dats m 0 c).arrAt_eq_of_covers 6 _ (by decide +kernel) fun t hf y => ?_
  blk_simp
  rw [after0_6]
  idx_vars y
  rw [show ((View.whole main_v8_1).slice (win0_6.rect t)).emb (ix2 y0 y1) = ix2 (row t y0) y1 by unfold row; blk_ext [idx t]]
  by_cases h0 : t.val % 16 = 0
  · rw [outsAt0_A m c t h0]
    frame_out
    pointwise [k0_pay5]
    exact pay4_at m c t _ (cot_blk m c t) _ _
  · rw [outsAt0_B m c t h0]
    frame_out
    pointwise [k0_pay5]
    exact pay4_at m c t _ (cot_blk m c t) _ _

/-- What row `y` of the whole array adds to the norm weight's gradient; the rows below it stay zero. -/
def term (r : Fin 8) (l : Fin 1024) (y : Fin 8192) : EReal := if r.val = 0 then cot m c y l * (x m c (ix3 0 y l) * inv m c y) else 0

theorem dg_B (t : Fin cfg0.N) (h0 : ¬t.val % 16 = 0) (r : Fin 8) (l : Fin 1024) :
    (outsAt0 m c t.val t.isLt).2.2 (ix2 r l) =
      (outsAt0 m c (t.val - 1) (lt_of_le_of_lt (Nat.sub_le ..) t.isLt)).2.2 (ix2 r l) + ∑ s : Fin 512, term m c r l (row t s) := by
  rw [outsAt0_B m c t h0]
  frame_out
  rw [read_writes_row, View.writes_nil, Memref.IsWhole.read_unread]
  unfold term
  by_cases hr : r.val = 0
  · simp only [if_pos hr]
    refine (pay3_at m c t _ (cot_blk m c t) _ l).trans (congrArg (· + _) ?_)
    obtain rfl : r = 0 := Fin.ext hr
    pointwise []
  · simp only [if_neg hr, Finset.sum_const_zero, add_zero]

theorem dg_A (t : Fin cfg0.N) (h0 : t.val % 16 = 0) (r : Fin 8) (l : Fin 1024) :
    (outsAt0 m c t.val t.isLt).2.2 (ix2 r l) = 0 + ∑ s : Fin 512, term m c r l (row t s) := by
  rw [outsAt0_A m c t h0]
  frame_out
  rw [canon_row, canon_all]
  unfold term
  by_cases hr : r.val = 0
  · simp only [if_pos hr]
    refine (pay3_at m c t _ (cot_blk m c t) _ l).trans (congrArg (· + _) ?_)
    refine (readCov_row _ _ 0 _ l).trans ((canon_all _ _ _ _ _).trans ?_)
    pointwise [k0_pay6]
  · simp only [if_neg hr, Finset.sum_const_zero]
    pointwise [k0_pay6]

theorem dg_arr : (dats m 0 c).arrAt 7 cfg0.N = fun i => ∑ y : Fin 8192, term m c (i 0) (i 1) y := by
  refine (dats m 0 c).arrAt_eq_of_covers 7 _ (by decide +kernel) fun t hf y => ?_
  blk_simp
  rw [after0_7]
  idx_vars y
  rw [show ((View.whole main_v8_2).slice (win0_7.rect t)).emb (ix2 y0 y1) = ix2 y0 y1 by blk_ext [idx t]]
  refine (Pipeline.eq_sum_fin_of_reset_step_apply_of_flush (fun n h => (outsAt0 m c n h).2.2) 16 (fun _ => (0 : EReal))
    (fun t j => ∑ s : Fin 512, term m c (j 0) (j 1) (row t s)) (fun t h j => ?_) (fun t h j => ?_) t ((flush0_7 t).mp hf) _).trans ?_
  · idx_vars j
    exact dg_A m c t h j0 j1
  · idx_vars j
    exact dg_B m c t h j0 j1
  · rw [zero_add]
    have hd : t.val / 16 = 0 := Nat.div_eq_of_lt t.isLt
    refine Fin.sum_mul_add_congr fun s k hl => ?_
    exact congrArg (term m c y0 y1) (Fin.ext (by unfold row; dsimp only; omega))

end Cert.FfnInIdeal.Closed

end
-- ==== Proof.FfnInRef.lean ====
/- The reference's gradient of the ConvFFN's input, read at one index. -/
module

public import proofs.«01_k».proof.Proof.Gen.FfnInRefIdeal.Read
public import proofs.«01_k».proof.Proof.Common
public import proofs.«01_k».proof.Proof.Norm

@[expose] public section

set_option maxRecDepth 16384

noncomputable section

namespace Cert.FfnInRefIdeal.Closed

open Cert.FfnInRefIdeal Cert.FfnInRefIdeal.Read Idealize.ShloMosaic Cert.Norm

variable (x : FVec Ideal S1x8192x1024 .f32) (g : FVec Ideal S1x1024 .f32) (w : FVec Ideal S1x1024x5632 .f32) (d : FVec Ideal S8192x5632 .bf16)
  (dy : FVec Ideal S1x8192x1024 .f32)

theorem cot_at (y : Fin 8192) (l : Fin 1024) : val_main_v21 (F := Ideal) w d (ix3 0 y l) = ∑ k : Fin 5632, (d (ix2 y k) * w (ix3 0 l k) : EReal) := by
  unfold val_main_v21
  pointwise [val_main_v20, val_main_v19, val_main_v17]

theorem ms_at (y : Fin 8192) : val_main_v7 (F := Ideal) x (ix3 0 y 0) =
    Ideal.div (∑ i : Fin 1024, x (ix3 0 y i) * x (ix3 0 y i)) (Ideal.ofBits .f32 1149239296#32) + Ideal.ofBits .f32 897988541#32 := by
  unfold val_main_v7
  pointwise [val_main_v6, val_main_v5, val_main_v4, val_main_v3, val_main_v2, val_main_v1, val_main_cst, val_main_cst_0, val_main_cst_1]

theorem through_root_at (y : Fin 8192) (l : Fin 1024) : val_main_v38 (F := Ideal) x g w d (ix3 0 y l) =
    Ideal.div ((∑ i : Fin 1024, x (ix3 0 y i) * (val_main_v21 (F := Ideal) w d (ix3 0 y i) * g (ix2 0 i))) *
      (Ideal.ofBits .f32 3204448256#32 * Ideal.div (Ideal.rsqrt (val_main_v7 (F := Ideal) x (ix3 0 y 0))) (val_main_v7 (F := Ideal) x (ix3 0 y 0))))
      (Ideal.ofBits .f32 1149239296#32) := by
  unfold val_main_v38
  pointwise [val_main_v37, val_main_v36, val_main_v35, val_main_v34, val_main_v33, val_main_v30, val_main_v29, val_main_v28, val_main_v26, val_main_v25, val_main_v14, val_main_v11, val_main_v10, val_main_v9, val_main_v8, val_main_v0, val_main_cst_2, val_main_cst_5, val_main_cst_6, val_main_cst_7]
  simp only [Fin.sum_univ_one]

/-- The input's gradient. -/
theorem dx_at (y : Fin 8192) (l : Fin 1024) : val_main_v44 (F := Ideal) x g w d dy (ix2 y l) =
    grad (Ideal.ofBits .f32 981467136#32) (Ideal.ofBits .f32 897988541#32) (fun i : Fin 1024 => x (ix3 0 y i))
      (fun i => (∑ k : Fin 5632, (d (ix2 y k) * w (ix3 0 i k) : EReal)) * g (ix2 0 i)) l + dy (ix3 0 y l) := by
  unfold val_main_v44
  pointwise [val_main_v43, val_main_v42, val_main_v41, val_main_v40, val_main_v39, val_main_v32, val_main_v31, val_main_v8, val_main_v26, val_main_v25, val_main_v14, val_main_v0]
  rw [through_root_at, ms_at, add_comm]
  simp only [cot_at]
  exact congrArg (fun v => v + dy (ix3 0 y l)) (grad_ref (by norm_num) small n1024 c1024 half (fun i : Fin 1024 => x (ix3 0 y i))
    (fun i => (∑ k : Fin 5632, (d (ix2 y k) * w (ix3 0 i k) : EReal)) * g (ix2 0 i)) l)

/-- The norm weight's gradient, and the rows of zeros below it. -/
theorem dg_at (r : Fin 8) (l : Fin 1024) : val_main_v48 (F := Ideal) x w d (ix2 r l) =
    if r.val = 0 then ∑ y : Fin 8192, (∑ k : Fin 5632, (d (ix2 y k) * w (ix3 0 l k) : EReal)) * (x (ix3 0 y l) *
      rs (Ideal.ofBits .f32 981467136#32) (Ideal.ofBits .f32 897988541#32) (fun i : Fin 1024 => x (ix3 0 y i))) else 0 := by
  unfold val_main_v48
  pointwise [val_main_v47, val_main_v46, val_main_v27, val_main_v24, val_main_v23, val_main_v22, val_main_v13, val_main_v12, val_main_v8, val_main_cst_3, val_main_cst_4, val_main_cst_8]
  simp only [Fin.sum_univ_one, cot_at, ms_at, Nat.lt_one_iff]
  simp only [div_n (N := Ideal.ofBits .f32 1149239296#32) (by norm_num) n1024 c1024]
  split_ifs
  · exact Finset.sum_congr rfl fun y _ => mul_comm _ _
  · rfl

end Cert.FfnInRefIdeal.Closed

end
-- ==== Proof.InProjLay.lean ====
/- The columns of the input projections: the plain order, and the order with zero columns beside the rotary key's halves. -/
module

public import Mathlib.Data.EReal.Operations
public import Mathlib.Algebra.BigOperators.Group.Finset.Basic
public import Mathlib.Algebra.BigOperators.Fin

@[expose] public section

noncomputable section

namespace Cert.InProjLay

/-- The projections' columns side by side. -/
def parts (a b : Fin 512 → EReal) (q : Fin 256 → EReal) (k : Fin 128 → EReal) (r : Fin 32 → EReal) (j : Fin 1440) : EReal :=
  if h : j.val < 512 then a ⟨j.val, h⟩ else if h1 : j.val < 1024 then b ⟨j.val - 512, by omega⟩ else
    if h2 : j.val < 1280 then q ⟨j.val - 1024, by omega⟩ else if h3 : j.val < 1408 then k ⟨j.val - 1280, by omega⟩ else r ⟨j.val - 1408, by omega⟩

/-- The same columns with 32 columns of zeros before the rotary key's first half, 48 before its second, 16 after it. -/
def wide (f : Fin 1440 → EReal) (j : Fin 1536) : EReal :=
  if h : j.val < 1408 then f ⟨j.val, by omega⟩ else if j.val < 1440 then 0 else if h : j.val < 1456 then f ⟨j.val - 32, by omega⟩ else
    if j.val < 1504 then 0 else if h : j.val < 1520 then f ⟨j.val - 80, by omega⟩ else 0

/-- The place of a column. -/
def place (j : Fin 1440) : Fin 1536 := ⟨if j.val < 1408 then j.val else if j.val < 1424 then j.val + 32 else j.val + 80, by split_ifs <;> omega⟩

section
variable (a b : Fin 512 → EReal) (q : Fin 256 → EReal) (k : Fin 128 → EReal) (r : Fin 32 → EReal) (f : Fin 1440 → EReal)

theorem parts_b (n : Nat) (h : n < 512) (j : Fin 1440) (e : j.val = 512 + n) : parts a b q k r j = b ⟨n, h⟩ := by
  unfold parts
  rw [dif_neg (by omega), dif_pos (by omega)]
  exact congrArg b (Fin.ext (by dsimp only; omega))

theorem parts_q (n : Nat) (h : n < 256) (j : Fin 1440) (e : j.val = 1024 + n) : parts a b q k r j = q ⟨n, h⟩ := by
  unfold parts
  rw [dif_neg (by omega), dif_neg (by omega), dif_pos (by omega)]
  exact congrArg q (Fin.ext (by dsimp only; omega))

theorem parts_k (n : Nat) (h : n < 128) (j : Fin 1440) (e : j.val = 1280 + n) : parts a b q k r j = k ⟨n, h⟩ := by
  unfold parts
  rw [dif_neg (by omega), dif_neg (by omega), dif_neg (by omega), dif_pos (by omega)]
  exact congrArg k (Fin.ext (by dsimp only; omega))

theorem parts_r (n : Nat) (h : n < 32) (j : Fin 1440) (e : j.val = 1408 + n) : parts a b q k r j = r ⟨n, h⟩ := by
  unfold parts
  rw [dif_neg (by omega), dif_neg (by omega), dif_neg (by omega), dif_neg (by omega)]
  exact congrArg r (Fin.ext (by dsimp only; omega))

theorem wide_low (n : Nat) (h : n < 1440) (j : Fin 1536) (hn : n < 1408) (e : j.val = n) : wide f j = f ⟨n, h⟩ := by
  unfold wide
  rw [dif_pos (by omega)]
  exact congrArg f (Fin.ext e)

theorem wide_first (n : Nat) (h : n < 1440) (j : Fin 1536) (h1 : 1440 ≤ j.val) (h2 : j.val < 1456) (e : j.val = n + 32) : wide f j = f ⟨n, h⟩ := by
  unfold wide
  rw [dif_neg (by omega), if_neg (by omega), dif_pos h2]
  exact congrArg f (Fin.ext (by dsimp only; omega))

theorem wide_second (n : Nat) (h : n < 1440) (j : Fin 1536) (h1 : 1504 ≤ j.val) (h2 : j.val < 1520) (e : j.val = n + 80) : wide f j = f ⟨n, h⟩ := by
  unfold wide
  rw [dif_neg (by omega), if_neg (by omega), dif_neg (by omega), if_neg (by omega), dif_pos h2]
  exact congrArg f (Fin.ext (by dsimp only; omega))

theorem wide_zero (j : Fin 1536) (h : (1408 ≤ j.val ∧ j.val < 1440) ∨ (1456 ≤ j.val ∧ j.val < 1504) ∨ 1520 ≤ j.val) : wide f j = 0 := by
  unfold wide
  split_ifs <;> first | rfl | omega

end

theorem place_injective : Function.Injective place := fun i j h => by
  have h' := congrArg Fin.val h
  simp only [place] at h'
  apply Fin.ext
  split_ifs at h' <;> omega

theorem wide_place (f : Fin 1440 → EReal) (j : Fin 1440) : wide f (place j) = f j := by
  unfold wide place
  dsimp only
  split_ifs <;> first | omega | rfl | exact congrArg f (Fin.ext (by dsimp only; omega))

theorem wide_of_not_place (f : Fin 1440 → EReal) (j : Fin 1536) (h : j ∉ Set.range place) : wide f j = 0 := by
  have hp : ∀ i : Fin 1440, (place i).val ≠ j.val := fun i e => h ⟨i, Fin.ext e⟩
  have key : ∀ n, n < 1440 → (if n < 1408 then n else if n < 1424 then n + 32 else n + 80) ≠ j.val := fun n hn => hp ⟨n, hn⟩
  have := j.isLt
  unfold wide
  split_ifs with h1 h2 h3 h4 h5
  · exact absurd (key j.val (by omega)) (by rw [if_pos h1]; simp)
  · rfl
  · exact absurd (key (j.val - 32) (by omega)) (by rw [if_neg (by omega), if_pos (by omega)]; omega)
  · rfl
  · exact absurd (key (j.val - 80) (by omega)) (by rw [if_neg (by omega), if_neg (by omega)]; omega)
  · rfl

/-- The zero columns add nothing to a product. -/
theorem sum_wide (f g : Fin 1440 → EReal) : ∑ j, wide f j * wide g j = ∑ j, f j * g j :=
  (Fintype.sum_of_injective place place_injective _ _ (fun j h => by rw [wide_of_not_place f j h, zero_mul])
    (fun j => by rw [wide_place, wide_place])).symm

end Cert.InProjLay

end
-- ==== Proof.InProjValue.lean ====
/- What the kernel's gradient of the layer's input leaves in its three arrays. -/
module

public import proofs.«01_k».proof.Proof.Gen.InProjIdeal.Value
public import proofs.«01_k».proof.Proof.Rows
public import proofs.«01_k».proof.Proof.Norm
public import proofs.«01_k».proof.Proof.InProjLay

@[expose] public section

set_option maxRecDepth 16384

noncomputable section

namespace Cert.InProjIdeal.Closed

open Cert.InProjIdeal Cert.InProjIdeal.Gen Idealize.ShloMosaic Idealize.ShloMosaic.TcCoe Idealize.SL.Sem Cert.Common Cert.Norm Cert.InProjLay

variable (m : (ℓ : Loc nD τ sig) → Buf (Elt Ideal) ℓ) (c : Dev nD)

/-- The ten arguments. -/
abbrev x : FVec Ideal S1x8192x1024 .f32 := m ((c : Thread nD τ).loc main_arg0)
abbrev g : FVec Ideal S1x1024 .f32 := m ((c : Thread nD τ).loc main_arg1)
abbrev w : FVec Ideal S1x1024x1440 .f32 := m ((c : Thread nD τ).loc main_arg2)
abbrev a : FVec Ideal S8192x512 .bf16 := m ((c : Thread nD τ).loc main_arg3)
abbrev a' : FVec Ideal S8192x512 .bf16 := m ((c : Thread nD τ).loc main_arg4)
abbrev b : FVec Ideal S8192x512 .bf16 := m ((c : Thread nD τ).loc main_arg5)
abbrev q : FVec Ideal S8192x256 .bf16 := m ((c : Thread nD τ).loc main_arg6)
abbrev k : FVec Ideal S8192x128 .bf16 := m ((c : Thread nD τ).loc main_arg7)
abbrev u : FVec Ideal S8192x32 .bf16 := m ((c : Thread nD τ).loc main_arg8)
abbrev dy : FVec Ideal S1x8192x1024 .f32 := m ((c : Thread nD τ).loc main_arg9)

theorem idx : ∀ t : Fin cfg0.N, (win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0])
    ∧ win0_8.index t = ![0, 0] ∧ win0_9.index t = ![0, 0] ∧ win0_10.index t = ![t.val, 0] ∧ win0_11.index t = ![t.val, 0] ∧ win0_12.index t = ![0, 0] :=
  (by decide +kernel : ∀ t : Fin grid0.N, _)

/-- The row of the whole array that a point's block row is. -/
def row (t : Fin cfg0.N) (r : Fin 1024) : Fin 8192 := ⟨1024 * t.val + r.val, by have : t.val < 8 := t.isLt; omega⟩

/-- A row of the projections' gradients. -/
def dp (y : Fin 8192) : Fin 1440 → EReal := parts (fun j => a m c (ix2 y j) + a' m c (ix2 y j)) (fun j => b m c (ix2 y j)) (fun j => q m c (ix2 y j))
  (fun j => k m c (ix2 y j)) (fun j => u m c (ix2 y j))

/-- The cotangent of the normed input. -/
def cot (y : Fin 8192) (l : Fin 1024) : EReal := ∑ j : Fin 1440, (dp m c y j * w m c (ix3 0 l j) : EReal)

abbrev inv (y : Fin 8192) : EReal := rs (Ideal.ofBits .f32 981467136#32) (Ideal.ofBits .f32 897988541#32) (fun i : Fin 1024 => x m c (ix3 0 y i))

/-- The input's gradient. -/
def dx (y : Fin 8192) (l : Fin 1024) : EReal :=
  grad (Ideal.ofBits .f32 981467136#32) (Ideal.ofBits .f32 897988541#32) (fun i : Fin 1024 => x m c (ix3 0 y i))
    (fun i => cot m c y i * g m c (ix2 0 i)) l + dy m c (ix3 0 y l)

theorem x_blk (t : Fin cfg0.N) (r : Fin 1024) (l : Fin 1024) : iblk m c 0 t (ix2 r l) = x m c (ix3 0 (row t r) l) := by
  rw [show iblk m c 0 t (ix2 r l) = V m c main_v21 (ix2 (row t r) l) by unfold row; blk_ext [iblk, idx t]]
  simp only [V, hostOps0, List.flatten_cons, List.flatten_nil, List.append_nil, List.cons_append, List.nil_append]
  entry_read
  pointwise []

theorem dy_blk (t : Fin cfg0.N) (r : Fin 1024) (l : Fin 1024) : iblk m c 1 t (ix2 r l) = dy m c (ix3 0 (row t r) l) := by
  rw [show iblk m c 1 t (ix2 r l) = V m c main_v22 (ix2 (row t r) l) by unfold row; blk_ext [iblk, idx t]]
  simp only [V, hostOps0, List.flatten_cons, List.flatten_nil, List.append_nil, List.cons_append, List.nil_append]
  entry_read
  pointwise []

theorem a_blk (t : Fin cfg0.N) (r : Fin 1024) (j : Fin 512) : iblk m c 2 t (ix2 r j) = a m c (ix2 (row t r) j) := by
  unfold row; blk_ext [iblk, V, idx t]

theorem a'_blk (t : Fin cfg0.N) (r : Fin 1024) (j : Fin 512) : iblk m c 3 t (ix2 r j) = a' m c (ix2 (row t r) j) := by
  unfold row; blk_ext [iblk, V, idx t]

theorem b_blk (t : Fin cfg0.N) (r : Fin 1024) (j : Fin 512) : iblk m c 4 t (ix2 r j) = b m c (ix2 (row t r) j) := by
  unfold row; blk_ext [iblk, V, idx t]

theorem q_blk (t : Fin cfg0.N) (r : Fin 1024) (j : Fin 256) : iblk m c 5 t (ix2 r j) = q m c (ix2 (row t r) j) := by
  unfold row; blk_ext [iblk, V, idx t]

theorem k_blk (t : Fin cfg0.N) (r : Fin 1024) (j : Fin 128) : iblk m c 6 t (ix2 r j) = k m c (ix2 (row t r) j) := by
  unfold row; blk_ext [iblk, V, idx t]

theorem g_blk (t : Fin cfg0.N) (l : Fin 1024) : iblk m c 8 t (ix2 0 l) = g m c (ix2 0 l) := by
  rw [show iblk m c 8 t (ix2 0 l) = V m c main_v24 (ix2 0 l) by blk_ext [iblk, idx t]]
  simp only [V, hostOps0, List.flatten_cons, List.flatten_nil, List.append_nil, List.cons_append, List.nil_append]
  entry_read
  pointwise []

/-- A list of host operations in two parts. -/
theorem after_cut (n : Nat) (ops : List (HloOp τ sig (Elt Ideal))) (F : Valuation τ sig (Elt Ideal)) :
    StableHlo.after ops F = StableHlo.after (ops.drop n) (StableHlo.after (ops.take n) F) := by
  induction n generalizing ops F with
  | zero => rfl
  | succ n ih => cases ops with
    | nil => rfl
    | cons op ops => exact ih ops (op.result F)

/-- The rotary key's gradient among zeros, from the values its pieces have. -/
theorem cut20 (F : Valuation τ sig (Elt Ideal)) : StableHlo.after (hostOps0.drop 26) F main_v20 =
    concatenate S8192x128 1 [⟨S8192x32, (F main_v16 : FVec Ideal S8192x32 .bf16)⟩, ⟨S8192x16, (F main_v14 : FVec Ideal S8192x16 .bf16)⟩, ⟨S8192x32, (F main_v17 : FVec Ideal S8192x32 .bf16)⟩,
      ⟨S8192x16, (F main_v18 : FVec Ideal S8192x16 .bf16)⟩, ⟨S8192x16, (F main_v15 : FVec Ideal S8192x16 .bf16)⟩, ⟨S8192x16, (F main_v19 : FVec Ideal S8192x16 .bf16)⟩]
      concatenates_S8192x32_S8192x16_S8192x32_S8192x16_S8192x16_S8192x16_S8192x128_d1 := by
  simp only [hostOps0, List.drop_succ_cons, List.drop_zero, StableHlo.after_cons, StableHlo.after_nil]
  after_results_steps
  rfl

/-- The weight with its zero columns, from the values its pieces have. -/
theorem cut12 (F : Valuation τ sig (Elt Ideal)) : StableHlo.after (hostOps0.drop 14) F main_v12 =
    concatenate S1024x1536 1 [⟨S1024x1408, (F main_v2 : FVec Ideal S1024x1408 .bf16)⟩, ⟨S1024x128, concatenate S1024x128 1 [⟨S1024x32, (F main_v7 : FVec Ideal S1024x32 .bf16)⟩,
      ⟨S1024x16, (F main_v5 : FVec Ideal S1024x16 .bf16)⟩, ⟨S1024x32, (F main_v8 : FVec Ideal S1024x32 .bf16)⟩, ⟨S1024x16, (F main_v9 : FVec Ideal S1024x16 .bf16)⟩,
      ⟨S1024x16, (F main_v6 : FVec Ideal S1024x16 .bf16)⟩, ⟨S1024x16, (F main_v10 : FVec Ideal S1024x16 .bf16)⟩] concatenates_S1024x32_S1024x16_S1024x32_S1024x16_S1024x16_S1024x16_S1024x128_d1⟩]
      concatenates_S1024x1408_S1024x128_S1024x1536_d1 := by
  simp only [hostOps0, List.drop_succ_cons, List.drop_zero, StableHlo.after_cons, StableHlo.after_nil]
  after_results_steps
  rfl

/-- The buffers before the two concatenations. -/
abbrev F20 : Valuation τ sig (Elt Ideal) := StableHlo.after (hostOps0.take 26) (fun b => m (c, b))
abbrev F12 : Valuation τ sig (Elt Ideal) := StableHlo.after (hostOps0.take 14) (fun b => m (c, b))

theorem at_v16 (y : Fin 8192) (i : Fin 32) : ((F20 m c main_v16 : FVec Ideal S8192x32 .bf16) (ix2 y i) : EReal) = (0 : EReal) := by
  simp only [F20, hostOps0, List.take_succ_cons, List.take_zero]
  entry_read
  pointwise []

theorem at_v14 (y : Fin 8192) (i : Fin 16) : (F20 m c main_v14 : FVec Ideal S8192x16 .bf16) (ix2 y i) = u m c (ix2 y ⟨i.val, by omega⟩) := by
  simp only [F20, hostOps0, List.take_succ_cons, List.take_zero]
  entry_read
  pointwise []

theorem at_v17 (y : Fin 8192) (i : Fin 32) : ((F20 m c main_v17 : FVec Ideal S8192x32 .bf16) (ix2 y i) : EReal) = (0 : EReal) := by
  simp only [F20, hostOps0, List.take_succ_cons, List.take_zero]
  entry_read
  pointwise []

theorem at_v18 (y : Fin 8192) (i : Fin 16) : ((F20 m c main_v18 : FVec Ideal S8192x16 .bf16) (ix2 y i) : EReal) = (0 : EReal) := by
  simp only [F20, hostOps0, List.take_succ_cons, List.take_zero]
  entry_read
  pointwise []

theorem at_v15 (y : Fin 8192) (i : Fin 16) : (F20 m c main_v15 : FVec Ideal S8192x16 .bf16) (ix2 y i) = u m c (ix2 y ⟨16 + i.val, by omega⟩) := by
  simp only [F20, hostOps0, List.take_succ_cons, List.take_zero]
  entry_read
  pointwise []

theorem at_v19 (y : Fin 8192) (i : Fin 16) : ((F20 m c main_v19 : FVec Ideal S8192x16 .bf16) (ix2 y i) : EReal) = (0 : EReal) := by
  simp only [F20, hostOps0, List.take_succ_cons, List.take_zero]
  entry_read
  pointwise []

theorem at_v2 (l : Fin 1024) (i : Fin 1408) : (F12 m c main_v2 : FVec Ideal S1024x1408 .bf16) (ix2 l i) = w m c (ix3 0 l ⟨i.val, by omega⟩) := by
  simp only [F12, hostOps0, List.take_succ_cons, List.take_zero]
  entry_read
  pointwise []

theorem at_v7 (l : Fin 1024) (i : Fin 32) : ((F12 m c main_v7 : FVec Ideal S1024x32 .bf16) (ix2 l i) : EReal) = (0 : EReal) := by
  simp only [F12, hostOps0, List.take_succ_cons, List.take_zero]
  entry_read
  pointwise []

theorem at_v5 (l : Fin 1024) (i : Fin 16) : (F12 m c main_v5 : FVec Ideal S1024x16 .bf16) (ix2 l i) = w m c (ix3 0 l ⟨1408 + i.val, by omega⟩) := by
  simp only [F12, hostOps0, List.take_succ_cons, List.take_zero]
  entry_read
  pointwise []

theorem at_v8 (l : Fin 1024) (i : Fin 32) : ((F12 m c main_v8 : FVec Ideal S1024x32 .bf16) (ix2 l i) : EReal) = (0 : EReal) := by
  simp only [F12, hostOps0, List.take_succ_cons, List.take_zero]
  entry_read
  pointwise []

theorem at_v9 (l : Fin 1024) (i : Fin 16) : ((F12 m c main_v9 : FVec Ideal S1024x16 .bf16) (ix2 l i) : EReal) = (0 : EReal) := by
  simp only [F12, hostOps0, List.take_succ_cons, List.take_zero]
  entry_read
  pointwise []

theorem at_v6 (l : Fin 1024) (i : Fin 16) : (F12 m c main_v6 : FVec Ideal S1024x16 .bf16) (ix2 l i) = w m c (ix3 0 l ⟨1408 + (16 + i.val), by omega⟩) := by
  simp only [F12, hostOps0, List.take_succ_cons, List.take_zero]
  entry_read
  pointwise []

theorem at_v10 (l : Fin 1024) (i : Fin 16) : ((F12 m c main_v10 : FVec Ideal S1024x16 .bf16) (ix2 l i) : EReal) = (0 : EReal) := by
  simp only [F12, hostOps0, List.take_succ_cons, List.take_zero]
  entry_read
  pointwise []

theorem V20 (y : Fin 8192) (j : Fin 128) : V m c main_v20 (ix2 y j) = wide (dp m c y) ⟨1408 + j.val, by omega⟩ := by
  refine (congrFun (congrFun (after_cut 26 hostOps0 _) main_v20) _).trans ?_
  rw [cut20]
  pointwise []
  by_cases h1 : j.val < 32
  · rw [dif_pos h1, wide_zero _ _ (by dsimp only; omega)]
    exact at_v16 m c y _
  rw [dif_neg h1]
  by_cases h2 : j.val - 32 < 16
  · rw [dif_pos h2, wide_first _ (1408 + (j.val - 32)) (by omega) _ (by dsimp only; omega) (by dsimp only; omega) (by dsimp only; omega)]
    refine (at_v14 m c y _).trans ?_
    unfold dp
    rw [parts_r _ _ _ _ _ (j.val - 32) (by omega) _ rfl]
  rw [dif_neg h2]
  by_cases h3 : j.val - 32 - 16 < 32
  · rw [dif_pos h3, wide_zero _ _ (by dsimp only; omega)]
    exact at_v17 m c y _
  rw [dif_neg h3]
  by_cases h4 : j.val - 32 - 16 - 32 < 16
  · rw [dif_pos h4, wide_zero _ _ (by dsimp only; omega)]
    exact at_v18 m c y _
  rw [dif_neg h4]
  by_cases h5 : j.val - 32 - 16 - 32 - 16 < 16
  · rw [dif_pos h5, wide_second _ (1408 + (j.val - 80)) (by omega) _ (by dsimp only; omega) (by dsimp only; omega) (by dsimp only; omega)]
    refine (at_v15 m c y _).trans ?_
    unfold dp
    rw [parts_r _ _ _ _ _ (j.val - 80) (by omega) _ rfl]
    exact congrArg (fun i => u m c (ix2 y i)) (Fin.ext (by dsimp only; omega))
  rw [dif_neg h5, wide_zero _ _ (by dsimp only; omega)]
  exact at_v19 m c y _

theorem V12 (l : Fin 1024) (j : Fin 1536) : V m c main_v12 (ix2 l j) = wide (fun i => w m c (ix3 0 l i)) j := by
  refine (congrFun (congrFun (after_cut 14 hostOps0 _) main_v12) _).trans ?_
  rw [cut12]
  pointwise []
  by_cases h0 : j.val < 1408
  · rw [dif_pos h0, wide_low _ _ (by omega) _ h0 rfl]
    exact at_v2 m c l _
  rw [dif_neg h0]
  by_cases h1 : j.val - 1408 < 32
  · rw [dif_pos h1, wide_zero _ _ (by omega)]
    exact at_v7 m c l _
  rw [dif_neg h1]
  by_cases h2 : j.val - 1408 - 32 < 16
  · rw [dif_pos h2, wide_first _ (1408 + (j.val - 1408 - 32)) (by omega) _ (by omega) (by omega) (by omega)]
    exact at_v5 m c l _
  rw [dif_neg h2]
  by_cases h3 : j.val - 1408 - 32 - 16 < 32
  · rw [dif_pos h3, wide_zero _ _ (by omega)]
    exact at_v8 m c l _
  rw [dif_neg h3]
  by_cases h4 : j.val - 1408 - 32 - 16 - 32 < 16
  · rw [dif_pos h4, wide_zero _ _ (by omega)]
    exact at_v9 m c l _
  rw [dif_neg h4]
  by_cases h5 : j.val - 1408 - 32 - 16 - 32 - 16 < 16
  · rw [dif_pos h5, wide_second _ (1408 + (16 + (j.val - 1408 - 32 - 16 - 32 - 16))) (by omega) _ (by omega) (by omega) (by omega)]
    exact at_v6 m c l _
  rw [dif_neg h5, wide_zero _ _ (by omega)]
  exact at_v10 m c l _

theorem kr_blk (t : Fin cfg0.N) (r : Fin 1024) (j : Fin 128) : iblk m c 7 t (ix2 r j) = wide (dp m c (row t r)) ⟨1408 + j.val, by omega⟩ := by
  rw [show iblk m c 7 t (ix2 r j) = V m c main_v20 (ix2 (row t r) j) by unfold row; blk_ext [iblk, idx t], V20]

theorem w_blk (t : Fin cfg0.N) (l : Fin 1024) (j : Fin 1536) : iblk m c 9 t (ix2 l j) = wide (fun i => w m c (ix3 0 l i)) j := by
  rw [show iblk m c 9 t (ix2 l j) = V m c main_v12 (ix2 l j) by blk_ext [iblk, idx t], V12]

/-- The point's block of the projections' gradients, as its five stores leave it. -/
theorem dp_blk (t : Fin cfg0.N) (r : Fin 1024) (j : Fin 1536) :
    View.canon
      [(⟨Rect.unit ![0, 1408] ![1024, 128] inb_S1024x1536_S1024x128_0_1408, k0_pay8 (iblk m c 7 t)⟩ : View.Piece (Elt Ideal) S1024x1536 .bf16),
        ⟨Rect.unit ![0, 1280] ![1024, 128] inb_S1024x1536_S1024x128_0_1280, iblk m c 6 t⟩,
        ⟨Rect.unit ![0, 1024] ![1024, 256] inb_S1024x1536_S1024x256_0_1024, iblk m c 5 t⟩,
        ⟨Rect.unit ![0, 512] ![1024, 512] inb_S1024x1536_S1024x512_0_512, iblk m c 4 t⟩,
        ⟨Rect.unit ![0, 0] ![1024, 512] inb_S1024x1536_S1024x512_0_0, k0_pay7 (iblk m c 2 t) (iblk m c 3 t)⟩] (ix2 r j) = wide (dp m c (row t r)) j := by
  by_cases h1 : 1408 ≤ j.val
  · refine (canon_col_in _ _ _ _ _ _ _ h1 (by omega)).trans ?_
    pointwise [k0_pay8]
    refine (kr_blk m c t r _).trans (congrArg _ (Fin.ext ?_))
    dsimp only
    omega
  refine (canon_col_out _ _ _ _ _ _ _ (by omega)).trans ?_
  rw [wide_low _ j.val (by omega) _ (by omega) rfl]
  unfold dp
  by_cases h2 : 1280 ≤ j.val
  · refine (canon_col_in _ _ _ _ _ _ _ h2 (by omega)).trans ?_
    rw [parts_k _ _ _ _ _ (j.val - 1280) (by omega) _ (by dsimp only; omega)]
    exact k_blk m c t r _
  refine (canon_col_out _ _ _ _ _ _ _ (by omega)).trans ?_
  by_cases h3 : 1024 ≤ j.val
  · refine (canon_col_in _ _ _ _ _ _ _ h3 (by omega)).trans ?_
    rw [parts_q _ _ _ _ _ (j.val - 1024) (by omega) _ (by dsimp only; omega)]
    exact q_blk m c t r _
  refine (canon_col_out _ _ _ _ _ _ _ (by omega)).trans ?_
  by_cases h4 : 512 ≤ j.val
  · refine (canon_col_in _ _ _ _ _ _ _ h4 (by omega)).trans ?_
    rw [parts_b _ _ _ _ _ (j.val - 512) (by omega) _ (by dsimp only; omega)]
    exact b_blk m c t r _
  refine (canon_col_out _ _ _ _ _ _ _ (by omega)).trans ?_
  refine (canon_col_in _ _ _ _ _ _ _ (Nat.zero_le _) (by omega)).trans ?_
  pointwise [k0_pay7]
  unfold parts
  rw [dif_pos (by dsimp only; omega), a_blk, a'_blk]

/-- The product with the widened weight is the product with the weight. -/
theorem cot_blk (t : Fin cfg0.N) (v : FVec Ideal S1024x1536 .bf16) (hv : ∀ r j, v (ix2 r j) = wide (dp m c (row t r)) j) (r l : Fin 1024) :
    k0_pay9 (F := Ideal) v (iblk m c 9 t) (ix2 r l) = cot m c (row t r) l := by
  pointwise [k0_pay9]
  simp only [hv, w_blk]
  exact sum_wide _ _

theorem inv_blk (t : Fin cfg0.N) (r : Fin 1024) (j : Fin 1) : k0_pay2 (F := Ideal) (iblk m c 0 t) (ix2 r j) = inv m c (row t r) := by
  pointwise [k0_pay2, k0_pay1]
  simp only [x_blk]
  rfl

theorem pay5_at (t : Fin cfg0.N) (u : FVec Ideal S1024x1024 .f32) (hu : ∀ r l, u (ix2 r l) = cot m c (row t r) l) (r : Fin 1024) (l : Fin 1024) :
    k0_pay5 (F := Ideal) u (iblk m c 0 t) (iblk m c 8 t) (iblk m c 1 t) (ix2 r l) = dx m c (row t r) l := by
  pointwise [k0_pay5, k0_pay3, k0_pay1]
  simp only [inv_blk, hu, x_blk, dy_blk, g_blk]
  rfl

theorem pay4_at (t : Fin cfg0.N) (u : FVec Ideal S1024x1024 .f32) (hu : ∀ r l, u (ix2 r l) = cot m c (row t r) l) (v : FVec Ideal S1x1024 .f32) (l : Fin 1024) :
    k0_pay4 (F := Ideal) u (iblk m c 0 t) v (ix2 0 l) =
      v (ix2 0 l) + ∑ r : Fin 1024, cot m c (row t r) l * (x m c (ix3 0 (row t r) l) * inv m c (row t r)) := by
  pointwise [k0_pay4, k0_pay3, k0_pay1]
  simp only [inv_blk, hu, x_blk]

/-- The loaded block of the projections' gradients. -/
theorem dp_load (t : Fin cfg0.N) {κ : Kind} {sp : Space} (v : View sig κ sp S1024x1536 .bf16) (r : Fin 1024) (j : Fin 1536) :
    v.readCov [(⟨Rect.unit ![0, 1408] ![1024, 128] inb_S1024x1536_S1024x128_0_1408, k0_pay8 (iblk m c 7 t)⟩ : View.Piece (Elt Ideal) S1024x1536 .bf16),
        ⟨Rect.unit ![0, 1280] ![1024, 128] inb_S1024x1536_S1024x128_0_1280, iblk m c 6 t⟩,
        ⟨Rect.unit ![0, 1024] ![1024, 256] inb_S1024x1536_S1024x256_0_1024, iblk m c 5 t⟩,
        ⟨Rect.unit ![0, 512] ![1024, 512] inb_S1024x1536_S1024x512_0_512, iblk m c 4 t⟩,
        ⟨Rect.unit ![0, 0] ![1024, 512] inb_S1024x1536_S1024x512_0_0, k0_pay7 (iblk m c 2 t) (iblk m c 3 t)⟩]
      (Rect.unit (s := S1024x1536) ![0, 0] ![1024, 1536] inb_S1024x1536_S1024x1536_0_0).toLoadRect (ix2 r j) = wide (dp m c (row t r)) j :=
  (readCov_all _ _ _ r j).trans (dp_blk m c t r j)

theorem dp_arr : (dats m 0 c).arrAt 11 cfg0.N = fun i => wide (dp m c (i 0)) (i 1) := by
  refine (dats m 0 c).arrAt_eq_of_covers 11 _ (by decide +kernel) fun t hf y => ?_
  blk_simp
  rw [after0_11]
  idx_vars y
  rw [show ((View.whole main_v25_1).slice (win0_11.rect t)).emb (ix2 y0 y1) = ix2 (row t y0) y1 by unfold row; blk_ext [idx t]]
  by_cases h0 : t.val % 8 = 0
  · rw [outsAt0_A m c t h0]
    frame_out
    exact dp_blk m c t _ _
  · rw [outsAt0_B m c t h0]
    frame_out
    exact dp_blk m c t _ _

theorem dx_arr : (dats m 0 c).arrAt 10 cfg0.N = fun i => dx m c (i 0) (i 1) := by
  refine (dats m 0 c).arrAt_eq_of_covers 10 _ (by decide +kernel) fun t hf y => ?_
  blk_simp
  rw [after0_10]
  idx_vars y
  rw [show ((View.whole main_v25_0).slice (win0_10.rect t)).emb (ix2 y0 y1) = ix2 (row t y0) y1 by unfold row; blk_ext [idx t]]
  by_cases h0 : t.val % 8 = 0
  · rw [outsAt0_A m c t h0]
    frame_out
    exact pay5_at m c t _ (cot_blk m c t _ (dp_load m c t _)) _ _
  · rw [outsAt0_B m c t h0]
    frame_out
    exact pay5_at m c t _ (cot_blk m c t _ (dp_load m c t _)) _ _

/-- What row `y` of the whole array adds to the norm weight's gradient; the rows below it stay zero. -/
def term (r : Fin 8) (l : Fin 1024) (y : Fin 8192) : EReal := if r.val = 0 then cot m c y l * (x m c (ix3 0 y l) * inv m c y) else 0

theorem dg_B (t : Fin cfg0.N) (h0 : ¬t.val % 8 = 0) (r : Fin 8) (l : Fin 1024) :
    (outsAt0 m c t.val t.isLt).2.2 (ix2 r l) =
      (outsAt0 m c (t.val - 1) (lt_of_le_of_lt (Nat.sub_le ..) t.isLt)).2.2 (ix2 r l) + ∑ s : Fin 1024, term m c r l (row t s) := by
  rw [outsAt0_B m c t h0]
  frame_out
  rw [read_writes_row, View.writes_nil, Memref.IsWhole.read_unread]
  unfold term
  by_cases hr : r.val = 0
  · simp only [if_pos hr]
    refine (pay4_at m c t _ (cot_blk m c t _ (dp_load m c t _)) _ l).trans (congrArg (· + _) ?_)
    obtain rfl : r = 0 := Fin.ext hr
    pointwise []
  · simp only [if_neg hr, Finset.sum_const_zero, add_zero]

theorem dg_A (t : Fin cfg0.N) (h0 : t.val % 8 = 0) (r : Fin 8) (l : Fin 1024) :
    (outsAt0 m c t.val t.isLt).2.2 (ix2 r l) = 0 + ∑ s : Fin 1024, term m c r l (row t s) := by
  rw [outsAt0_A m c t h0]
  frame_out
  rw [canon_row, canon_all]
  unfold term
  by_cases hr : r.val = 0
  · simp only [if_pos hr]
    refine (pay4_at m c t _ (cot_blk m c t _ (dp_load m c t _)) _ l).trans (congrArg (· + _) ?_)
    refine (readCov_row _ _ 0 _ l).trans ((canon_all _ _ _ _ _).trans ?_)
    pointwise [k0_pay6]
  · simp only [if_neg hr, Finset.sum_const_zero]
    pointwise [k0_pay6]

theorem dg_arr : (dats m 0 c).arrAt 12 cfg0.N = fun i => ∑ y : Fin 8192, term m c (i 0) (i 1) y := by
  refine (dats m 0 c).arrAt_eq_of_covers 12 _ (by decide +kernel) fun t hf y => ?_
  blk_simp
  rw [after0_12]
  idx_vars y
  rw [show ((View.whole main_v25_2).slice (win0_12.rect t)).emb (ix2 y0 y1) = ix2 y0 y1 by blk_ext [idx t]]
  refine (Pipeline.eq_sum_fin_of_reset_step_apply_of_flush (fun n h => (outsAt0 m c n h).2.2) 8 (fun _ => (0 : EReal))
    (fun t j => ∑ s : Fin 1024, term m c (j 0) (j 1) (row t s)) (fun t h j => ?_) (fun t h j => ?_) t ((flush0_12 t).mp hf) _).trans ?_
  · idx_vars j
    exact dg_A m c t h j0 j1
  · idx_vars j
    exact dg_B m c t h j0 j1
  · rw [zero_add]
    have hd : t.val / 8 = 0 := Nat.div_eq_of_lt t.isLt
    refine Fin.sum_mul_add_congr fun s k hl => ?_
    exact congrArg (term m c y0 y1) (Fin.ext (by unfold row; dsimp only; omega))

end Cert.InProjIdeal.Closed

end
-- ==== Proof.InProjRef.lean ====
/- The reference's gradient of the layer's input, read at one index. -/
module

public import proofs.«01_k».proof.Proof.Gen.InProjRefIdeal.Read
public import proofs.«01_k».proof.Proof.Common
public import proofs.«01_k».proof.Proof.Norm
public import proofs.«01_k».proof.Proof.InProjLay

@[expose] public section

set_option maxRecDepth 16384

noncomputable section

namespace Cert.InProjRefIdeal.Closed

open Cert.InProjLay Cert.InProjRefIdeal Cert.InProjRefIdeal.Read Idealize.ShloMosaic Cert.Norm

variable (x : FVec Ideal S1x8192x1024 .f32) (g : FVec Ideal S1x1024 .f32) (w : FVec Ideal S1x1024x1440 .f32)
  (a a' b : FVec Ideal S8192x512 .bf16) (q : FVec Ideal S8192x256 .bf16) (k : FVec Ideal S8192x128 .bf16) (u : FVec Ideal S8192x32 .bf16)
  (dy : FVec Ideal S1x8192x1024 .f32)

/-- A row of the projections' gradients. -/
def row (y : Fin 8192) : Fin 1440 → EReal := parts (fun j => a (ix2 y j) + a' (ix2 y j)) (fun j => b (ix2 y j)) (fun j => q (ix2 y j)) (fun j => k (ix2 y j)) (fun j => u (ix2 y j))

theorem row_at (y : Fin 8192) (j : Fin 1440) : val_main_v7 (F := Ideal) a a' b q k u (ix2 y j) = row a a' b q k u y j := by
  unfold val_main_v7
  pointwise [val_main_v6, val_main_v5, val_main_v4, val_main_v3, val_main_v2, val_main_v1, val_main_v0]
  unfold row
  by_cases h1 : j.val < 512
  · rw [dif_pos h1]
    unfold parts
    rw [dif_pos h1]
  rw [dif_neg h1]
  by_cases h2 : j.val - 512 < 512
  · rw [dif_pos h2]
    rw [parts_b _ _ _ _ _ (j.val - 512) h2 j (by omega)]
  rw [dif_neg h2]
  by_cases h3 : j.val - 512 - 512 < 256
  · rw [dif_pos h3]
    rw [parts_q _ _ _ _ _ (j.val - 512 - 512) h3 j (by omega)]
  rw [dif_neg h3]
  by_cases h4 : j.val - 512 - 512 - 256 < 128
  · rw [dif_pos h4]
    rw [parts_k _ _ _ _ _ (j.val - 512 - 512 - 256) h4 j (by omega)]
  rw [dif_neg h4]
  rw [parts_r _ _ _ _ _ (j.val - 512 - 512 - 256 - 128) (by omega) j (by omega)]

/-- The gradients of the projections, with the columns of zeros. -/
theorem dp_at (y : Fin 8192) (j : Fin 1536) : val_main_v59 (F := Ideal) a a' b q k u (ix2 y j) = wide (row a a' b q k u y) j := by
  unfold val_main_v59
  pointwise [val_main_v56, val_main_v55, val_main_v54, val_main_v53, val_main_v52, val_main_v51, val_main_v50, val_main_cst_8, val_main_cst_9, val_main_cst_10]
  simp only [row_at]
  by_cases h1 : j.val < 1408
  · rw [dif_pos h1]
    exact (wide_low _ _ _ _ h1 rfl).symm
  rw [dif_neg h1]
  by_cases h2 : j.val - 1408 < 32
  · rw [dif_pos h2]
    exact (wide_zero _ _ (by omega)).symm
  rw [dif_neg h2]
  by_cases h3 : j.val - 1408 - 32 < 16
  · rw [dif_pos h3]
    exact (wide_first _ _ _ _ (by omega) (by omega) (by omega)).symm
  rw [dif_neg h3]
  by_cases h4 : j.val - 1408 - 32 - 16 < 48
  · rw [dif_pos h4]
    exact (wide_zero _ _ (by omega)).symm
  rw [dif_neg h4]
  by_cases h5 : j.val - 1408 - 32 - 16 - 48 < 16
  · rw [dif_pos h5]
    exact (wide_second _ _ _ _ (by omega) (by omega) (by omega)).symm
  rw [dif_neg h5]
  exact (wide_zero _ _ (by omega)).symm

theorem cot_at (y : Fin 8192) (l : Fin 1024) : val_main_v28 (F := Ideal) w a a' b q k u (ix3 0 y l) = ∑ j : Fin 1440, (row a a' b q k u y j * w (ix3 0 l j) : EReal) := by
  unfold val_main_v28
  pointwise [val_main_v27, val_main_v25]
  simp only [row_at]

theorem ms_at (y : Fin 8192) : val_main_v15 (F := Ideal) x (ix3 0 y 0) =
    Ideal.div (∑ i : Fin 1024, x (ix3 0 y i) * x (ix3 0 y i)) (Ideal.ofBits .f32 1149239296#32) + Ideal.ofBits .f32 897988541#32 := by
  unfold val_main_v15
  pointwise [val_main_v14, val_main_v13, val_main_v12, val_main_v11, val_main_v10, val_main_v9, val_main_cst, val_main_cst_0, val_main_cst_1]

theorem through_root_at (y : Fin 8192) (l : Fin 1024) : val_main_v45 (F := Ideal) x g w a a' b q k u (ix3 0 y l) =
    Ideal.div ((∑ i : Fin 1024, x (ix3 0 y i) * (val_main_v28 (F := Ideal) w a a' b q k u (ix3 0 y i) * g (ix2 0 i))) *
      (Ideal.ofBits .f32 3204448256#32 * Ideal.div (Ideal.rsqrt (val_main_v15 (F := Ideal) x (ix3 0 y 0))) (val_main_v15 (F := Ideal) x (ix3 0 y 0))))
      (Ideal.ofBits .f32 1149239296#32) := by
  unfold val_main_v45
  pointwise [val_main_v44, val_main_v43, val_main_v42, val_main_v41, val_main_v40, val_main_v37, val_main_v36, val_main_v35, val_main_v33, val_main_v32, val_main_v22, val_main_v19, val_main_v18, val_main_v17, val_main_v16, val_main_v8, val_main_cst_2, val_main_cst_5, val_main_cst_6, val_main_cst_7]
  simp only [Fin.sum_univ_one]

/-- The input's gradient. -/
theorem dx_at (y : Fin 8192) (l : Fin 1024) : val_main_v58 (F := Ideal) x g w a a' b q k u dy (ix2 y l) =
    grad (Ideal.ofBits .f32 981467136#32) (Ideal.ofBits .f32 897988541#32) (fun i : Fin 1024 => x (ix3 0 y i))
      (fun i => (∑ j : Fin 1440, (row a a' b q k u y j * w (ix3 0 i j) : EReal)) * g (ix2 0 i)) l + dy (ix3 0 y l) := by
  unfold val_main_v58
  pointwise [val_main_v57, val_main_v49, val_main_v48, val_main_v47, val_main_v46, val_main_v39, val_main_v38, val_main_v16, val_main_v33, val_main_v32, val_main_v22, val_main_v8]
  rw [through_root_at, ms_at, add_comm]
  simp only [cot_at]
  exact congrArg (fun v => v + dy (ix3 0 y l)) (grad_ref (by norm_num) small n1024 c1024 half (fun i : Fin 1024 => x (ix3 0 y i))
    (fun i => (∑ j : Fin 1440, (row a a' b q k u y j * w (ix3 0 i j) : EReal)) * g (ix2 0 i)) l)

/-- The norm weight's gradient, and the rows of zeros below it. -/
theorem dg_at (r : Fin 8) (l : Fin 1024) : val_main_v62 (F := Ideal) x w a a' b q k u (ix2 r l) =
    if r.val = 0 then ∑ y : Fin 8192, (∑ j : Fin 1440, (row a a' b q k u y j * w (ix3 0 l j) : EReal)) * (x (ix3 0 y l) *
      rs (Ideal.ofBits .f32 981467136#32) (Ideal.ofBits .f32 897988541#32) (fun i : Fin 1024 => x (ix3 0 y i))) else 0 := by
  unfold val_main_v62
  pointwise [val_main_v61, val_main_v60, val_main_v34, val_main_v31, val_main_v30, val_main_v29, val_main_v21, val_main_v20, val_main_v16, val_main_cst_3, val_main_cst_4, val_main_cst_11]
  simp only [Fin.sum_univ_one, cot_at, ms_at, Nat.lt_one_iff]
  simp only [div_n (N := Ideal.ofBits .f32 1149239296#32) (by norm_num) n1024 c1024]
  split_ifs
  · exact Finset.sum_congr rfl fun y _ => mul_comm _ _
  · rfl

end Cert.InProjRefIdeal.Closed

end
-- ==== Proof.NormClose.lean ====
/- The gradients through the two norms: the kernels and their references leave the same arrays. -/
module

public import proofs.«01_k».proof.Defs
public import proofs.«01_k».proof.Proof.FfnInValue
public import proofs.«01_k».proof.Proof.FfnInRef
public import proofs.«01_k».proof.Proof.InProjValue
public import proofs.«01_k».proof.Proof.InProjRef
public import proofs.«01_k».proof.Proof.Gen.FfnIn
public import proofs.«01_k».proof.Proof.Gen.FfnInRefIdeal.Run
public import proofs.«01_k».proof.Proof.Gen.InProj
public import proofs.«01_k».proof.Proof.Gen.InProjRefIdeal.Run
public import Idealize.ShloMosaic.Lib.Claim
public import Idealize.ShloMosaic.Adequacy
public import Idealize.ShloMosaic.Init

@[expose] public section

set_option maxRecDepth 16384

noncomputable section

namespace Cert.NormClose

open Idealize.ShloMosaic Idealize.SL.Sem

theorem ffn_ref_frame : Cert.quiescent_FfnInRefIdeal := fun m g _ =>
  (θ_run Cert.FfnInRefIdeal.defs _ _).mono (fun r h => ⟨fun c => (h c).2.2.2, sem_eq_zero_of_no_sems (by decide) r.2⟩)
    (Cert.FfnInRefIdeal.Value.run m g)

theorem ffn_algebraic : Cert.algebraic_FfnInIdeal_FfnInRefIdeal := by
  pair_intro
  · exact Cert.FfnInIdeal.Value.run_blocks m g
  · refine (θ_run Cert.FfnInRefIdeal.defs _ _).mono (fun r h c => ⟨(h c).1.trans ?_, (h c).2.1.trans ?_, (h c).2.2.1.trans ?_, (h c).2.2.2⟩)
      (Cert.FfnInRefIdeal.Value.run m' g')
    · refine (Cert.FfnInRefIdeal.Read.val_main_v44_eq _ _).trans ?_
      rw [(hagree c).1, (hagree c).2.1, (hagree c).2.2.1, (hagree c).2.2.2.1, (hagree c).2.2.2.2, Cert.FfnInIdeal.Closed.dx_arr m c]
      funext i
      idx_vars i
      exact Cert.FfnInRefIdeal.Closed.dx_at _ _ _ _ _ _ _
    · refine (Cert.FfnInRefIdeal.Read.val_main_v45_eq _ _).trans ?_
      rw [(hagree c).1, (hagree c).2.1, (hagree c).2.2.1, (hagree c).2.2.2.1, (hagree c).2.2.2.2, Cert.FfnInIdeal.Closed.dxb_arr m c]
      funext i
      idx_vars i
      exact Cert.FfnInRefIdeal.Closed.dx_at _ _ _ _ _ _ _
    · refine (Cert.FfnInRefIdeal.Read.val_main_v48_eq _ _ _).trans ?_
      rw [(hagree c).1, (hagree c).2.2.1, (hagree c).2.2.2.1, Cert.FfnInIdeal.Closed.dg_arr m c]
      funext i
      idx_vars i
      refine (Cert.FfnInRefIdeal.Closed.dg_at _ _ _ _ _).trans ?_
      by_cases h : i0.val = 0
      · exact (if_pos h).trans (Finset.sum_congr rfl fun y _ => (if_pos h).symm)
      · exact (if_neg h).trans (Finset.sum_eq_zero fun y _ => if_neg h).symm

theorem proj_ref_frame : Cert.quiescent_InProjRefIdeal := fun m g _ =>
  (θ_run Cert.InProjRefIdeal.defs _ _).mono (fun r h => ⟨fun c => (h c).2.2.2, sem_eq_zero_of_no_sems (by decide) r.2⟩)
    (Cert.InProjRefIdeal.Value.run m g)

theorem proj_algebraic : Cert.algebraic_InProjIdeal_InProjRefIdeal := by
  pair_intro
  · exact Cert.InProjIdeal.Value.run_blocks m g
  · refine (θ_run Cert.InProjRefIdeal.defs _ _).mono (fun r h c => ⟨(h c).1.trans ?_, (h c).2.1.trans ?_, (h c).2.2.1.trans ?_, (h c).2.2.2⟩)
      (Cert.InProjRefIdeal.Value.run m' g')
    · refine (Cert.InProjRefIdeal.Read.val_main_v58_eq _ _).trans ?_
      obtain ⟨e0, e1, e2, e3, e4, e5, e6, e7, e8, e9⟩ := hagree c
      rw [e0, e1, e2, e3, e4, e5, e6, e7, e8, e9, Cert.InProjIdeal.Closed.dx_arr m c]
      funext i
      idx_vars i
      exact Cert.InProjRefIdeal.Closed.dx_at _ _ _ _ _ _ _ _ _ _ _ _
    · refine (Cert.InProjRefIdeal.Read.val_main_v59_eq _ _ _ _ _ _).trans ?_
      obtain ⟨e0, e1, e2, e3, e4, e5, e6, e7, e8, e9⟩ := hagree c
      rw [e3, e4, e5, e6, e7, e8, Cert.InProjIdeal.Closed.dp_arr m c]
      funext i
      idx_vars i
      exact Cert.InProjRefIdeal.Closed.dp_at _ _ _ _ _ _ _ _
    · refine (Cert.InProjRefIdeal.Read.val_main_v62_eq _ _ _ _ _ _ _ _).trans ?_
      obtain ⟨e0, e1, e2, e3, e4, e5, e6, e7, e8, e9⟩ := hagree c
      rw [e0, e2, e3, e4, e5, e6, e7, e8, Cert.InProjIdeal.Closed.dg_arr m c]
      funext i
      idx_vars i
      refine (Cert.InProjRefIdeal.Closed.dg_at _ _ _ _ _ _ _ _ _ _).trans ?_
      by_cases h : i0.val = 0
      · exact (if_pos h).trans (Finset.sum_congr rfl fun y _ => (if_pos h).symm)
      · exact (if_neg h).trans (Finset.sum_eq_zero fun y _ => if_neg h).symm

end Cert.NormClose

end
-- ==== Proof.MemKvMath.lean ====
/- The gradient of the memory's keys and values, written out. -/
module

public import proofs.«01_k».proof.Proof.Norm

@[expose] public section

noncomputable section

namespace Cert.MemKv

open Idealize.ShloMosaic Cert.Norm

/-- The inverses of the norms' lengths and their small constant. -/
abbrev ck : EReal := Ideal.ofBits .f32 981467136#32
abbrev ch : EReal := Ideal.ofBits .f32 1006632960#32
abbrev eps : EReal := Ideal.ofBits .f32 897988541#32

variable (x : Fin 256 → Fin 1024 → EReal) (g : Fin 1024 → EReal) (w : Fin 1024 → Fin 1024 → EReal) (gk : Fin 128 → EReal)
  (dk dv : Fin 256 → Fin 4 → Fin 128 → EReal)

/-- The normed memory. -/
def normed (r : Fin 256) (l : Fin 1024) : EReal := x r l * rs ck eps (x r) * g l

/-- Its product with the weight. -/
def kv (r : Fin 256) (n : Fin 1024) : EReal := ∑ l : Fin 1024, normed x g r l * w l n

/-- The keys of one head. -/
def head (r : Fin 256) (h : Fin 4) (i : Fin 128) : EReal := kv x g w r ⟨128 * h.val + i.val, by omega⟩

/-- The gradient of one head's keys before their norm. -/
def dhead (r : Fin 256) (h : Fin 4) (j : Fin 128) : EReal := grad ch eps (head x g w r h) (fun i => dk r h i * gk i) j

/-- The product's cotangent: the keys' columns, then the values'. -/
def dkv (r : Fin 256) (n : Fin 1024) : EReal :=
  if n.val < 512 then dhead x g w gk dk r ⟨n.val / 128 % 4, Nat.mod_lt _ (by norm_num)⟩ ⟨n.val % 128, Nat.mod_lt _ (by norm_num)⟩
  else dv r ⟨(n.val - 512) / 128 % 4, Nat.mod_lt _ (by norm_num)⟩ ⟨(n.val - 512) % 128, Nat.mod_lt _ (by norm_num)⟩

/-- The weight's gradient. -/
def gw (l n : Fin 1024) : EReal := ∑ r : Fin 256, normed x g r l * dkv x g w gk dk dv r n

/-- The memory norm's weight's gradient. -/
def gg (l : Fin 1024) : EReal :=
  ∑ r : Fin 256, (∑ n : Fin 1024, dkv x g w gk dk dv r n * w l n) * (x r l * rs ck eps (x r))

/-- What one head adds to the gradient of the key norm's weight. -/
def ggk (h : Fin 4) (j : Fin 128) : EReal := ∑ r : Fin 256, dk r h j * (head x g w r h j * rs ch eps (head x g w r h))

end Cert.MemKv

end
-- ==== Proof.MemKvValue.lean ====
/- What the kernel's gradient of the memory's keys and values leaves in its arrays. -/
module

public import proofs.«01_k».proof.Proof.Gen.MemKvIdeal.Value
public import proofs.«01_k».proof.Proof.Rows
public import proofs.«01_k».proof.Proof.MemKvMath

@[expose] public section

set_option maxRecDepth 16384

noncomputable section

namespace Cert.MemKvIdeal.Closed

open Cert.MemKvIdeal Cert.MemKvIdeal.Gen Idealize.ShloMosaic Idealize.ShloMosaic.TcCoe Idealize.SL.Sem Cert.Common Cert.Norm

variable (m : (ℓ : Loc nD τ sig) → Buf (Elt Ideal) ℓ) (c : Dev nD)

/-- The six arguments as functions of their coordinates. -/
abbrev X (r : Fin 256) (l : Fin 1024) : EReal := (m ((c : Thread nD τ).loc main_arg0) : FVec Ideal S1x256x1024 .f32) (ix3 0 r l)
abbrev G (l : Fin 1024) : EReal := (m ((c : Thread nD τ).loc main_arg1) : FVec Ideal S1x1024 .f32) (ix2 0 l)
abbrev W (l n : Fin 1024) : EReal := (m ((c : Thread nD τ).loc main_arg2) : FVec Ideal S1x1024x1024 .f32) (ix3 0 l n)
abbrev GK (j : Fin 128) : EReal := (m ((c : Thread nD τ).loc main_arg3) : FVec Ideal S1x128 .f32) (ix2 0 j)
abbrev DK (r : Fin 256) (h : Fin 4) (j : Fin 128) : EReal := (m ((c : Thread nD τ).loc main_arg4) : FVec Ideal S1x256x4x128 .f32) (ix4 0 r h j)
abbrev DV (r : Fin 256) (h : Fin 4) (j : Fin 128) : EReal := (m ((c : Thread nD τ).loc main_arg5) : FVec Ideal S1x256x4x128 .f32) (ix4 0 r h j)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, _)

theorem x_blk (t : Fin cfg0.N) (r : Fin 256) (l : Fin 1024) : iblk m c 0 t (ix2 r l) = X m c r l := by
  rw [show iblk m c 0 t (ix2 r l) = V m c main_v0 (ix2 r l) by blk_ext [iblk, idx t]]
  simp only [V, hostOps0, List.flatten_cons, List.flatten_nil, List.append_nil, List.cons_append, List.nil_append]
  entry_read
  pointwise []

theorem g_blk (t : Fin cfg0.N) (l : Fin 1024) : iblk m c 3 t (ix2 0 l) = G m c l := by
  rw [show iblk m c 3 t (ix2 0 l) = V m c main_v2 (ix2 0 l) by blk_ext [iblk, idx t]]
  simp only [V, hostOps0, List.flatten_cons, List.flatten_nil, List.append_nil, List.cons_append, List.nil_append]
  entry_read
  pointwise []

theorem w_blk (t : Fin cfg0.N) (l n : Fin 1024) : iblk m c 4 t (ix2 l n) = W m c l n := by
  rw [show iblk m c 4 t (ix2 l n) = V m c main_v4 (ix2 l n) by blk_ext [iblk, idx t]]
  simp only [V, hostOps0, List.flatten_cons, List.flatten_nil, List.append_nil, List.cons_append, List.nil_append]
  entry_read
  pointwise []

theorem gk_blk (t : Fin cfg0.N) (j : Fin 128) : iblk m c 5 t (ix2 0 j) = GK m c j := by
  rw [show iblk m c 5 t (ix2 0 j) = V m c main_v6 (ix2 0 j) by blk_ext [iblk, idx t]]
  simp only [V, hostOps0, List.flatten_cons, List.flatten_nil, List.append_nil, List.cons_append, List.nil_append]
  entry_read
  pointwise []

theorem dk_blk (t : Fin cfg0.N) (r : Fin 256) (h : Fin 4) (j : Fin 128) (n : Fin 512) (e : n.val = 128 * h.val + j.val) :
    iblk m c 1 t (ix2 r n) = DK m c r h j := by
  rw [show iblk m c 1 t (ix2 r n) = V m c main_v8 (ix2 r n) by blk_ext [iblk, idx t]]
  simp only [V, hostOps0, List.flatten_cons, List.flatten_nil, List.append_nil, List.cons_append, List.nil_append]
  entry_read
  pointwise []
  exact congrArg₂ (fun h j => DK m c r h j) (Fin.ext (by dsimp only; omega)) (Fin.ext (by dsimp only; omega))

theorem dv_blk (t : Fin cfg0.N) (r : Fin 256) (h : Fin 4) (j : Fin 128) (n : Fin 512) (e : n.val = 128 * h.val + j.val) :
    iblk m c 2 t (ix2 r n) = DV m c r h j := by
  rw [show iblk m c 2 t (ix2 r n) = V m c main_v10 (ix2 r n) by blk_ext [iblk, idx t]]
  simp only [V, hostOps0, List.flatten_cons, List.flatten_nil, List.append_nil, List.cons_append, List.nil_append]
  entry_read
  pointwise []
  exact congrArg₂ (fun h j => DV m c r h j) (Fin.ext (by dsimp only; omega)) (Fin.ext (by dsimp only; omega))

theorem rs_blk (t : Fin cfg0.N) (r : Fin 256) : k0_pay4 (F := Ideal) (iblk m c 0 t) (ix2 r 0) = rs MemKv.ck MemKv.eps (X m c r) := by
  pointwise [k0_pay4, k0_pay3]
  simp only [x_blk]
  rfl

theorem normed_blk (t : Fin cfg0.N) (r : Fin 256) (l : Fin 1024) :
    k0_pay5 (F := Ideal) (iblk m c 0 t) (iblk m c 3 t) (ix2 r l) = MemKv.normed (X m c) (G m c) r l := by
  pointwise [k0_pay5, k0_pay3]
  simp only [rs_blk, x_blk, g_blk]
  rfl

theorem kv_blk (t : Fin cfg0.N) (r : Fin 256) (n : Fin 1024) :
    k0_pay6 (F := Ideal) (iblk m c 0 t) (iblk m c 3 t) (iblk m c 4 t) (ix2 r n) = MemKv.kv (X m c) (G m c) (W m c) r n := by
  pointwise [k0_pay6]
  simp only [normed_blk, w_blk]
  rfl

/-- The columns of one head's keys. -/
theorem head_blk (t : Fin cfg0.N) (h : Fin 4) (r : Fin 256) (j : Fin 128) (n : Fin 1024) (e : n.val = 128 * h.val + j.val) :
    k0_pay6 (F := Ideal) (iblk m c 0 t) (iblk m c 3 t) (iblk m c 4 t) (ix2 r n) = MemKv.head (X m c) (G m c) (W m c) r h j := by
  rw [kv_blk]
  exact congrArg (MemKv.kv (X m c) (G m c) (W m c) r) (Fin.ext e)

/-- The columns of one head's keys' cotangent. -/
theorem ld_dk (t : Fin cfg0.N) (h : Fin 4) (k : Nat) (e : k = 128 * h.val)
    (inb : ∀ a, (![0, k] : Fin 2 → Nat) a + (![256, 128] : Fin 2 → Nat) a ≤ S256x512.size a) (r : Fin 256) (j : Fin 128) :
    View.ld (iblk m c 1 t) (Rect.unit (s := S256x512) ![0, k] ![256, 128] inb) (ix2 r j) = DK m c r h j := by
  pointwise []
  exact dk_blk m c t r h j _ (by simp [e])

theorem dhead0 (t : Fin cfg0.N) (hP : ∀ r (j : Fin 128) e, k0_pay6 (F := Ideal) (iblk m c 0 t) (iblk m c 3 t) (iblk m c 4 t) (ix2 r ⟨j.val, e⟩) = MemKv.head (X m c) (G m c) (W m c) r 0 j)
    (D : FVec Ideal S256x128 .f32) (hD : ∀ r j, D (ix2 r j) = DK m c r 0 j) (r : Fin 256) (j : Fin 128) :
    k0_pay13 (F := Ideal) (k0_pay7 (iblk m c 0 t) (iblk m c 3 t) (iblk m c 4 t)) (k0_pay8 (iblk m c 0 t) (iblk m c 3 t) (iblk m c 4 t)) (k0_pay9 (iblk m c 5 t)) D (ix2 r j) =
      MemKv.dhead (X m c) (G m c) (W m c) (GK m c) (DK m c) r 0 j := by
  pointwise [k0_pay13, k0_pay11, k0_pay10, k0_pay9, k0_pay8, k0_pay7]
  simp only [gk_blk, hD, hP]
  rfl

theorem dhead1 (t : Fin cfg0.N) (P : FVec Ideal S256x1024 .f32) (hP : ∀ r (j : Fin 128) e, P (ix2 r ⟨128 + j.val, e⟩) = MemKv.head (X m c) (G m c) (W m c) r 1 j)
    (D : FVec Ideal S256x128 .f32) (hD : ∀ r j, D (ix2 r j) = DK m c r 1 j) (r : Fin 256) (j : Fin 128) :
    k0_pay20 (F := Ideal) (k0_pay15 P) (k0_pay16 D) (k0_pay17 P) (k0_pay18 (iblk m c 5 t)) (ix2 r j) =
      MemKv.dhead (X m c) (G m c) (W m c) (GK m c) (DK m c) r 1 j := by
  pointwise [k0_pay20, k0_pay18, k0_pay17, k0_pay16, k0_pay15, k0_pay14]
  simp only [gk_blk, hD, hP]
  rfl

theorem dhead2 (t : Fin cfg0.N) (P : FVec Ideal S256x1024 .f32) (hP : ∀ r (j : Fin 128) e, P (ix2 r ⟨256 + j.val, e⟩) = MemKv.head (X m c) (G m c) (W m c) r 2 j)
    (D : FVec Ideal S256x128 .f32) (hD : ∀ r j, D (ix2 r j) = DK m c r 2 j) (r : Fin 256) (j : Fin 128) :
    k0_pay28 (F := Ideal) (k0_pay22 P) (k0_pay24 P) (k0_pay25 (iblk m c 5 t) D) (k0_pay26 P (iblk m c 5 t) D) (FloatOps.ofBits .f32 1006632960#32) (ix2 r j) =
      MemKv.dhead (X m c) (G m c) (W m c) (GK m c) (DK m c) r 2 j := by
  pointwise [k0_pay28, k0_pay26, k0_pay25, k0_pay24, k0_pay23, k0_pay22, k0_pay21]
  simp only [gk_blk, hD, hP]
  rfl

theorem dhead3 (t : Fin cfg0.N) (P : FVec Ideal S256x1024 .f32) (hP : ∀ r (j : Fin 128) e, P (ix2 r ⟨384 + j.val, e⟩) = MemKv.head (X m c) (G m c) (W m c) r 3 j)
    (D : FVec Ideal S256x128 .f32) (hD : ∀ r j, D (ix2 r j) = DK m c r 3 j) (r : Fin 256) (j : Fin 128) :
    k0_pay36 (F := Ideal) (k0_pay33 P (iblk m c 5 t) D) (k0_pay34 P) (ix2 r j) =
      MemKv.dhead (X m c) (G m c) (W m c) (GK m c) (DK m c) r 3 j := by
  pointwise [k0_pay36, k0_pay34, k0_pay33, k0_pay32, k0_pay31, k0_pay30, k0_pay29]
  simp only [gk_blk, hD, hP]
  rfl

theorem ggk0 (t : Fin cfg0.N) (hP : ∀ r (j : Fin 128) e, k0_pay6 (F := Ideal) (iblk m c 0 t) (iblk m c 3 t) (iblk m c 4 t) (ix2 r ⟨j.val, e⟩) = MemKv.head (X m c) (G m c) (W m c) r 0 j)
    (D : FVec Ideal S256x128 .f32) (hD : ∀ r j, D (ix2 r j) = DK m c r 0 j) (v : FVec Ideal S1x128 .f32) (j : Fin 128) :
    k0_pay12 (F := Ideal) (k0_pay7 (iblk m c 0 t) (iblk m c 3 t) (iblk m c 4 t)) (k0_pay8 (iblk m c 0 t) (iblk m c 3 t) (iblk m c 4 t)) D v (ix2 0 j) =
      v (ix2 0 j) + MemKv.ggk (X m c) (G m c) (W m c) (DK m c) 0 j := by
  pointwise [k0_pay12, k0_pay11, k0_pay10, k0_pay8, k0_pay7]
  simp only [hD, hP]
  rfl

theorem ggk1 (P : FVec Ideal S256x1024 .f32) (hP : ∀ r (j : Fin 128) e, P (ix2 r ⟨128 + j.val, e⟩) = MemKv.head (X m c) (G m c) (W m c) r 1 j)
    (D : FVec Ideal S256x128 .f32) (hD : ∀ r j, D (ix2 r j) = DK m c r 1 j) (v : FVec Ideal S1x128 .f32) (j : Fin 128) :
    k0_pay19 (F := Ideal) (k0_pay16 D) (k0_pay17 P) v (ix2 0 j) =
      v (ix2 0 j) + MemKv.ggk (X m c) (G m c) (W m c) (DK m c) 1 j := by
  pointwise [k0_pay19, k0_pay17, k0_pay16, k0_pay15, k0_pay14]
  simp only [hD, hP]
  rfl

theorem ggk2 (P : FVec Ideal S256x1024 .f32) (hP : ∀ r (j : Fin 128) e, P (ix2 r ⟨256 + j.val, e⟩) = MemKv.head (X m c) (G m c) (W m c) r 2 j)
    (D : FVec Ideal S256x128 .f32) (hD : ∀ r j, D (ix2 r j) = DK m c r 2 j) (v : FVec Ideal S1x128 .f32) (j : Fin 128) :
    k0_pay27 (F := Ideal) (k0_pay23 D) (k0_pay24 P) v (ix2 0 j) =
      v (ix2 0 j) + MemKv.ggk (X m c) (G m c) (W m c) (DK m c) 2 j := by
  pointwise [k0_pay27, k0_pay24, k0_pay23, k0_pay22, k0_pay21]
  simp only [hD, hP]
  rfl

theorem ggk3 (P : FVec Ideal S256x1024 .f32) (hP : ∀ r (j : Fin 128) e, P (ix2 r ⟨384 + j.val, e⟩) = MemKv.head (X m c) (G m c) (W m c) r 3 j)
    (D : FVec Ideal S256x128 .f32) (hD : ∀ r j, D (ix2 r j) = DK m c r 3 j) (v : FVec Ideal S1x128 .f32) (j : Fin 128) :
    k0_pay35 (F := Ideal) (k0_pay31 D) (k0_pay32 P) v (ix2 0 j) =
      v (ix2 0 j) + MemKv.ggk (X m c) (G m c) (W m c) (DK m c) 3 j := by
  pointwise [k0_pay35, k0_pay32, k0_pay31, k0_pay30, k0_pay29]
  simp only [hD, hP]
  rfl

/-- The product's cotangent, as the column writes leave it. -/
theorem dkv_blk (t : Fin cfg0.N) (r : Fin 256) (n : Fin 1024) :
    View.canon
      [(⟨Rect.unit ![0, 512] ![256, 512] inb_S256x1024_S256x512_0_512, k0_pay37 (F := Ideal) (iblk m c 2 t)⟩ : View.Piece (Elt Ideal) S256x1024 .bf16),
        ⟨Rect.unit ![0, 384] ![256, 128] inb_S256x1024_S256x128_0_384,
          k0_pay36
            (k0_pay33 (k0_pay6 (iblk m c 0 t) (iblk m c 3 t) (iblk m c 4 t)) (iblk m c 5 t)
              (View.ld (iblk m c 1 t) (Rect.unit ![0, 384] ![256, 128] inb_S256x512_S256x128_0_384)))
            (k0_pay34 (k0_pay6 (iblk m c 0 t) (iblk m c 3 t) (iblk m c 4 t)))⟩,
        ⟨Rect.unit ![0, 256] ![256, 128] inb_S256x1024_S256x128_0_256,
          k0_pay28 (k0_pay22 (k0_pay6 (iblk m c 0 t) (iblk m c 3 t) (iblk m c 4 t)))
            (k0_pay24 (k0_pay6 (iblk m c 0 t) (iblk m c 3 t) (iblk m c 4 t)))
            (k0_pay25 (iblk m c 5 t) (View.ld (iblk m c 1 t) (Rect.unit ![0, 256] ![256, 128] inb_S256x512_S256x128_0_256)))
            (k0_pay26 (k0_pay6 (iblk m c 0 t) (iblk m c 3 t) (iblk m c 4 t)) (iblk m c 5 t)
              (View.ld (iblk m c 1 t) (Rect.unit ![0, 256] ![256, 128] inb_S256x512_S256x128_0_256)))
            (FloatOps.ofBits .f32 1006632960#32)⟩,
        ⟨Rect.unit ![0, 128] ![256, 128] inb_S256x1024_S256x128_0_128,
          k0_pay20 (k0_pay15 (k0_pay6 (iblk m c 0 t) (iblk m c 3 t) (iblk m c 4 t)))
            (k0_pay16 (View.ld (iblk m c 1 t) (Rect.unit ![0, 128] ![256, 128] inb_S256x512_S256x128_0_128)))
            (k0_pay17 (k0_pay6 (iblk m c 0 t) (iblk m c 3 t) (iblk m c 4 t))) (k0_pay18 (iblk m c 5 t))⟩,
        ⟨Rect.unit ![0, 0] ![256, 128] inb_S256x1024_S256x128_0_0,
          k0_pay13 (k0_pay7 (iblk m c 0 t) (iblk m c 3 t) (iblk m c 4 t)) (k0_pay8 (iblk m c 0 t) (iblk m c 3 t) (iblk m c 4 t)) (k0_pay9 (iblk m c 5 t))
            (View.ld (iblk m c 1 t) (Rect.unit ![0, 0] ![256, 128] inb_S256x512_S256x128_0_0))⟩] (ix2 r n) =
      MemKv.dkv (X m c) (G m c) (W m c) (GK m c) (DK m c) (DV m c) r n := by
  have hk : ∀ (h : Fin 4) (j : Fin 128), n.val = 128 * h.val + j.val →
      MemKv.dkv (X m c) (G m c) (W m c) (GK m c) (DK m c) (DV m c) r n = MemKv.dhead (X m c) (G m c) (W m c) (GK m c) (DK m c) r h j := fun h j e => by
    unfold MemKv.dkv
    rw [if_pos (by omega)]
    exact congrArg₂ (MemKv.dhead (X m c) (G m c) (W m c) (GK m c) (DK m c) r) (Fin.ext (by dsimp only; omega)) (Fin.ext (by dsimp only; omega))
  by_cases h1 : 512 ≤ n.val
  · refine (canon_col_in _ _ _ _ _ _ _ h1 (by omega)).trans ?_
    unfold MemKv.dkv
    rw [if_neg (by omega)]
    pointwise [k0_pay37]
    exact dv_blk m c t r _ _ _ (by dsimp only; omega)
  refine (canon_col_out _ _ _ _ _ _ _ (by omega)).trans ?_
  by_cases h2 : 384 ≤ n.val
  · rw [hk 3 ⟨n.val - 384, by omega⟩ (by show n.val = 128 * 3 + (n.val - 384); omega)]
    exact (canon_col_in _ _ _ _ _ _ _ h2 (by omega)).trans
      (dhead3 m c t _ (fun r j e => head_blk m c t 3 r j _ rfl) _ (ld_dk m c t 3 384 rfl _) r _)
  refine (canon_col_out _ _ _ _ _ _ _ (by omega)).trans ?_
  by_cases h3 : 256 ≤ n.val
  · rw [hk 2 ⟨n.val - 256, by omega⟩ (by show n.val = 128 * 2 + (n.val - 256); omega)]
    exact (canon_col_in _ _ _ _ _ _ _ h3 (by omega)).trans
      (dhead2 m c t _ (fun r j e => head_blk m c t 2 r j _ rfl) _ (ld_dk m c t 2 256 rfl _) r _)
  refine (canon_col_out _ _ _ _ _ _ _ (by omega)).trans ?_
  by_cases h4 : 128 ≤ n.val
  · rw [hk 1 ⟨n.val - 128, by omega⟩ (by show n.val = 128 * 1 + (n.val - 128); omega)]
    exact (canon_col_in _ _ _ _ _ _ _ h4 (by omega)).trans
      (dhead1 m c t _ (fun r j e => head_blk m c t 1 r j _ rfl) _ (ld_dk m c t 1 128 rfl _) r _)
  refine (canon_col_out _ _ _ _ _ _ _ (by omega)).trans ?_
  rw [hk 0 ⟨n.val, by omega⟩ (by show n.val = 128 * 0 + n.val; omega)]
  exact (canon_col_in _ _ _ _ _ _ _ (Nat.zero_le _) (by omega)).trans
    (dhead0 m c t (fun r j e => head_blk m c t 0 r j _ (by simp)) _ (ld_dk m c t 0 0 rfl _) r _)

theorem pay38_at (t : Fin cfg0.N) (D : FVec Ideal S256x1024 .bf16) (hD : ∀ r n, D (ix2 r n) = MemKv.dkv (X m c) (G m c) (W m c) (GK m c) (DK m c) (DV m c) r n)
    (l n : Fin 1024) : k0_pay38 (F := Ideal) (k0_pay5 (iblk m c 0 t) (iblk m c 3 t)) D (ix2 l n) =
      MemKv.gw (X m c) (G m c) (W m c) (GK m c) (DK m c) (DV m c) l n := by
  pointwise [k0_pay38]
  simp only [normed_blk, hD]
  rfl

theorem pay39_at (t : Fin cfg0.N) (D : FVec Ideal S256x1024 .bf16) (hD : ∀ r n, D (ix2 r n) = MemKv.dkv (X m c) (G m c) (W m c) (GK m c) (DK m c) (DV m c) r n)
    (v : FVec Ideal S1x1024 .f32) (l : Fin 1024) : k0_pay39 (F := Ideal) (k0_pay3 (iblk m c 0 t)) (k0_pay4 (iblk m c 0 t)) D (iblk m c 4 t) v (ix2 0 l) =
      v (ix2 0 l) + MemKv.gg (X m c) (G m c) (W m c) (GK m c) (DK m c) (DV m c) l := by
  pointwise [k0_pay39, k0_pay3]
  simp only [rs_blk, x_blk, w_blk, hD]
  rfl

theorem gw_arr : (dats m 0 c).arrAt 6 cfg0.N = fun i => MemKv.gw (X m c) (G m c) (W m c) (GK m c) (DK m c) (DV m c) (i 0) (i 1) := by
  refine (dats m 0 c).arrAt_eq_of_covers 6 _ (by decide +kernel) fun t hf y => ?_
  blk_simp
  rw [after0_6]
  idx_vars y
  rw [show ((View.whole main_v11_0).slice (win0_6.rect t)).emb (ix2 y0 y1) = ix2 y0 y1 by blk_ext [idx t]]
  unfold outsAt0
  frame_out
  exact pay38_at m c t _ (fun r n => (readCov_all _ _ _ r n).trans (dkv_blk m c t r n)) _ _

theorem gg_arr : (dats m 0 c).arrAt 7 cfg0.N =
    fun i => if (i 0).val = 0 then MemKv.gg (X m c) (G m c) (W m c) (GK m c) (DK m c) (DV m c) (i 1) else 0 := by
  refine (dats m 0 c).arrAt_eq_of_covers 7 _ (by decide +kernel) fun t hf y => ?_
  blk_simp
  rw [after0_7]
  idx_vars y
  rw [show ((View.whole main_v11_1).slice (win0_7.rect t)).emb (ix2 y0 y1) = ix2 y0 y1 by blk_ext [idx t]]
  have e : win0_7.index t 0 * 8 + y0.val = y0.val := by simp [idx t]
  unfold outsAt0
  frame_out
  rw [canon_row, canon_all]
  by_cases h : y0.val = 0
  · refine (if_pos h).trans (Eq.trans ?_ (if_pos (e.trans h)).symm)
    refine (pay39_at m c t _ (fun r n => (readCov_all _ _ _ r n).trans (dkv_blk m c t r n)) _ y1).trans ?_
    refine (congrArg (· + _) ((readCov_row _ _ 0 _ y1).trans ((canon_all _ _ _ _ _).trans ?_))).trans (zero_add _)
    pointwise [k0_pay1]
  · refine (if_neg h).trans (Eq.trans ?_ (if_neg fun h' => h (e.symm.trans h')).symm)
    pointwise [k0_pay1]

theorem ggk_arr : (dats m 0 c).arrAt 8 cfg0.N = fun i => if (i 0).val = 0 then ∑ h : Fin 4, MemKv.ggk (X m c) (G m c) (W m c) (DK m c) h (i 1) else 0 := by
  refine (dats m 0 c).arrAt_eq_of_covers 8 _ (by decide +kernel) fun t hf y => ?_
  blk_simp
  rw [after0_8]
  idx_vars y
  rw [show ((View.whole main_v11_2).slice (win0_8.rect t)).emb (ix2 y0 y1) = ix2 y0 y1 by blk_ext [idx t]]
  have e : win0_8.index t 0 * 8 + y0.val = y0.val := by simp [idx t]
  unfold outsAt0
  frame_out
  by_cases h : y0.val = 0
  · refine ((canon_row _ _ _ _ _ _).trans (if_pos h)).trans (Eq.trans ?_ (if_pos (e.trans h)).symm)
    refine (ggk3 m c _ (fun r j e => head_blk m c t 3 r j _ rfl) _ (ld_dk m c t 3 384 rfl _) _ y1).trans ?_
    refine (congrArg (· + _) ((readCov_row _ _ 0 _ y1).trans (((canon_row _ _ _ _ _ _).trans (if_pos rfl)).trans
      (ggk2 m c _ (fun r j e => head_blk m c t 2 r j _ rfl) _ (ld_dk m c t 2 256 rfl _) _ y1)))).trans ?_
    refine (congrArg (fun v => v + _ + _) ((readCov_row _ _ 0 _ y1).trans (((canon_row _ _ _ _ _ _).trans (if_pos rfl)).trans
      (ggk1 m c _ (fun r j e => head_blk m c t 1 r j _ rfl) _ (ld_dk m c t 1 128 rfl _) _ y1)))).trans ?_
    refine (congrArg (fun v => v + _ + _ + _) ((readCov_row _ _ 0 _ y1).trans (((canon_row _ _ _ _ _ _).trans (if_pos rfl)).trans
      (ggk0 m c t (fun r j e => head_blk m c t 0 r j _ (by simp)) _ (ld_dk m c t 0 0 rfl _) _ y1)))).trans ?_
    refine (congrArg (a₂ := (0 : EReal)) (fun v => v + _ + _ + _ + _) ((readCov_row _ _ 0 _ y1).trans ((canon_all _ _ _ _ _).trans ?_))).trans ?_
    · pointwise [k0_pay2]
    · rw [zero_add, Fin.sum_univ_four]
      rfl
  · refine Eq.trans ?_ (if_neg fun h' => h (e.symm.trans h')).symm
    iterate 4 refine ((canon_row _ _ _ _ _ _).trans (if_neg h)).trans ?_
    refine (canon_all _ _ _ _ _).trans ?_
    pointwise [k0_pay2]

end Cert.MemKvIdeal.Closed

end
-- ==== Proof.MemKvRef.lean ====
/- The reference's gradient of the memory's keys and values, read at one index. -/
module

public import proofs.«01_k».proof.Proof.Gen.MemKvRefIdeal.Read
public import proofs.«01_k».proof.Proof.Common
public import proofs.«01_k».proof.Proof.MemKvMath

@[expose] public section

set_option maxRecDepth 16384

noncomputable section

namespace Cert.MemKvRefIdeal.Closed

open Cert.MemKvRefIdeal Cert.MemKvRefIdeal.Read Idealize.ShloMosaic Cert.Norm

variable (x : FVec Ideal S1x256x1024 .f32) (g : FVec Ideal S1x1024 .f32) (w : FVec Ideal S1x1024x1024 .f32) (gk : FVec Ideal S1x128 .f32)
  (dk dv : FVec Ideal S1x256x4x128 .f32)

/-- The arguments as functions of their coordinates. -/
abbrev X (r : Fin 256) (l : Fin 1024) : EReal := x (ix3 0 r l)
abbrev G (l : Fin 1024) : EReal := g (ix2 0 l)
abbrev W (l n : Fin 1024) : EReal := w (ix3 0 l n)
abbrev GK (j : Fin 128) : EReal := gk (ix2 0 j)
abbrev DK (r : Fin 256) (h : Fin 4) (j : Fin 128) : EReal := dk (ix4 0 r h j)

theorem normed_at (r : Fin 256) (l : Fin 1024) : val_main_v13 (F := Ideal) x (ix2 r l) = X x r l * rs MemKv.ck MemKv.eps (X x r) := by
  unfold val_main_v13
  pointwise [val_main_v12, val_main_v11, val_main_v10, val_main_v9, val_main_v8, val_main_v7, val_main_v6, val_main_v5, val_main_v4, val_main_v3, val_main_cst, val_main_cst_0, val_main_cst_1]
  rw [div_n (N := Ideal.ofBits .f32 1149239296#32) (by norm_num) n1024 c1024]
  rfl

theorem kv_at (r : Fin 256) (n : Fin 1024) : val_main_v17 (F := Ideal) x g w (ix2 r n) = MemKv.kv (X x) (G g) (W w) r n := by
  unfold val_main_v17
  pointwise [val_main_v16, val_main_v15, val_main_v14, val_main_v1, val_main_v0]
  simp only [normed_at]
  rfl

theorem head_at (r : Fin 256) (h : Fin 4) (i : Fin 128) : val_main_v20 (F := Ideal) x g w (ix3 r h i) = MemKv.head (X x) (G g) (W w) r h i := by
  rw [show val_main_v20 (F := Ideal) x g w (ix3 r h i) = val_main_v17 (F := Ideal) x g w (ix2 r ⟨128 * h.val + i.val, by omega⟩) by
    unfold val_main_v20
    pointwise [val_main_v18]
    all_goals exact congrArg (val_main_v17 (F := Ideal) x g w) (congrArg (ix2 r) (Fin.ext (by dsimp only; omega)))]
  exact kv_at x g w r _

theorem ms_at (r : Fin 256) (h : Fin 4) : val_main_v27 (F := Ideal) x g w (ix3 r h 0) =
    Ideal.div (∑ i : Fin 128, MemKv.head (X x) (G g) (W w) r h i * MemKv.head (X x) (G g) (W w) r h i) (Ideal.ofBits .f32 1124073472#32) +
      Ideal.ofBits .f32 897988541#32 := by
  unfold val_main_v27
  pointwise [val_main_v26, val_main_v25, val_main_v24, val_main_v23, val_main_v22, val_main_v21, val_main_cst_2, val_main_cst_3, val_main_cst_4]
  simp only [head_at]

theorem ggk_at (r : Fin 8) (j : Fin 128) : val_main_v77 (F := Ideal) x g w dk (ix2 r j) =
    if r.val = 0 then ∑ h : Fin 4, MemKv.ggk (X x) (G g) (W w) (DK dk) h j else 0 := by
  unfold val_main_v77
  pointwise [val_main_v76, val_main_v75, val_main_v46, val_main_v43, val_main_v42, val_main_v41, val_main_v38, val_main_v33, val_main_v32, val_main_v28, val_main_cst_6, val_main_cst_7, val_main_cst_16]
  simp only [Fin.sum_univ_one, head_at, ms_at, Nat.lt_one_iff]
  simp only [div_n (N := Ideal.ofBits .f32 1124073472#32) (by norm_num) n128 c128]
  split_ifs
  · rw [Finset.sum_comm]
    exact Finset.sum_congr rfl fun h _ => Finset.sum_congr rfl fun y _ => mul_comm _ _
  · rfl

theorem through_root_at (r : Fin 256) (h : Fin 4) (j : Fin 128) : val_main_v56 (F := Ideal) x g w gk dk (ix3 r h j) =
    Ideal.div ((∑ i : Fin 128, MemKv.head (X x) (G g) (W w) r h i * (DK dk r h i * GK gk i)) *
      (Ideal.ofBits .f32 3204448256#32 * Ideal.div (Ideal.rsqrt (val_main_v27 (F := Ideal) x g w (ix3 r h 0))) (val_main_v27 (F := Ideal) x g w (ix3 r h 0))))
      (Ideal.ofBits .f32 1124073472#32) := by
  unfold val_main_v56
  pointwise [val_main_v55, val_main_v54, val_main_v53, val_main_v52, val_main_v49, val_main_v48, val_main_v47, val_main_v45, val_main_v44, val_main_v38, val_main_v34, val_main_v31, val_main_v30, val_main_v29, val_main_v28, val_main_v2, val_main_cst_5, val_main_cst_8, val_main_cst_9, val_main_cst_10]
  simp only [Fin.sum_univ_one, head_at]

theorem dhead_at (r : Fin 256) (h : Fin 4) (j : Fin 128) :
    val_main_v60 (F := Ideal) x g w gk dk (ix3 r h j) = MemKv.dhead (X x) (G g) (W w) (GK gk) (DK dk) r h j := by
  unfold val_main_v60
  pointwise [val_main_v59, val_main_v58, val_main_v57, val_main_v51, val_main_v50, val_main_v28, val_main_v45, val_main_v44, val_main_v38, val_main_v34, val_main_v2]
  rw [through_root_at, ms_at, head_at]
  exact grad_ref (by norm_num) small n128 c128 half (MemKv.head (X x) (G g) (W w) r h) (fun i => DK dk r h i * GK gk i) j

theorem dkv_at (r : Fin 256) (n : Fin 1024) :
    val_main_v64 (F := Ideal) x g w gk dk dv (ix2 r n) = MemKv.dkv (X x) (G g) (W w) (GK gk) (DK dk) (DK dv) r n := by
  unfold val_main_v64
  pointwise [val_main_v63, val_main_v62, val_main_v61, val_main_v40, val_main_v39, val_main_cst_11, val_main_cst_12]
  unfold MemKv.dkv
  by_cases hn : n.val < 512
  · rw [dif_neg (by omega), dif_pos hn, if_pos hn, dhead_at, zero_add]
    exact congrArg (fun h => MemKv.dhead (X x) (G g) (W w) (GK gk) (DK dk) r h _) (Fin.ext (by dsimp only; omega))
  · rw [dif_pos ⟨by omega, by omega⟩, dif_neg hn, if_neg hn, add_zero]
    exact congrArg (fun h => DK dv r h _) (Fin.ext (by dsimp only; omega))

theorem gw_at (l n : Fin 1024) : val_main_v66 (F := Ideal) x g w gk dk dv (ix2 l n) = MemKv.gw (X x) (G g) (W w) (GK gk) (DK dk) (DK dv) l n := by
  unfold val_main_v66
  pointwise [val_main_v65, val_main_v16, val_main_v15, val_main_v14, val_main_v0]
  simp only [normed_at, dkv_at]
  exact Finset.sum_congr rfl fun r _ => mul_comm _ _

theorem gg_at (r : Fin 8) (l : Fin 1024) : val_main_v74 (F := Ideal) x g w gk dk dv (ix2 r l) =
    if r.val = 0 then MemKv.gg (X x) (G g) (W w) (GK gk) (DK dk) (DK dv) l else 0 := by
  unfold val_main_v74
  pointwise [val_main_v73, val_main_v72, val_main_v71, val_main_v70, val_main_v69, val_main_v68, val_main_v67, val_main_v1, val_main_cst_13, val_main_cst_14, val_main_cst_15]
  simp only [Fin.sum_univ_one, normed_at, dkv_at, Nat.lt_one_iff]
  split_ifs
  · exact Finset.sum_congr rfl fun y _ => mul_comm _ _
  · rfl

end Cert.MemKvRefIdeal.Closed

end
-- ==== Proof.MemKvClose.lean ====
/- The memory's keys and values, backward: the kernel and its reference leave the same arrays. -/
module

public import proofs.«01_k».proof.Defs
public import proofs.«01_k».proof.Proof.MemKvValue
public import proofs.«01_k».proof.Proof.MemKvRef
public import proofs.«01_k».proof.Proof.Gen.MemKv
public import proofs.«01_k».proof.Proof.Gen.MemKvRefIdeal.Run
public import Idealize.ShloMosaic.Lib.Claim
public import Idealize.ShloMosaic.Adequacy
public import Idealize.ShloMosaic.Init

@[expose] public section

set_option maxRecDepth 16384

noncomputable section

namespace Cert.MemKvClose

open Idealize.ShloMosaic Idealize.SL.Sem

theorem ref_frame : Cert.quiescent_MemKvRefIdeal := fun m g _ =>
  (θ_run Cert.MemKvRefIdeal.defs _ _).mono (fun r h => ⟨fun c => (h c).2.2.2, sem_eq_zero_of_no_sems (by decide) r.2⟩)
    (Cert.MemKvRefIdeal.Value.run m g)

theorem algebraic : Cert.algebraic_MemKvIdeal_MemKvRefIdeal := by
  intro m g m' g' hpre hagree
  refine ⟨fun c => (Cert.MemKvIdeal.Gen.dats m 0 c).arrAt 6 Cert.MemKvIdeal.cfg0.N, fun c => (Cert.MemKvIdeal.Gen.dats m 0 c).arrAt 7 Cert.MemKvIdeal.cfg0.N,
    fun c => (Cert.MemKvIdeal.Gen.dats m 0 c).arrAt 8 Cert.MemKvIdeal.cfg0.N, ?_, ?_⟩
  · exact (θ_run Cert.MemKvIdeal.defs _ _).mono (fun r h c => ⟨(h c).1, (h c).2.1, (h c).2.2.1, (h c).2.2.2.2⟩) (Cert.MemKvIdeal.Value.run_blocks m g)
  · refine (θ_run Cert.MemKvRefIdeal.defs _ _).mono (fun r h c => ⟨(h c).1.trans ?_, (h c).2.1.trans ?_, (h c).2.2.1.trans ?_, (h c).2.2.2⟩)
      (Cert.MemKvRefIdeal.Value.run m' g')
    · refine (Cert.MemKvRefIdeal.Read.val_main_v66_eq _ _).trans ?_
      obtain ⟨e0, e1, e2, e3, e4, e5⟩ := hagree c
      beta_reduce
      rw [e0, e1, e2, e3, e4, e5, Cert.MemKvIdeal.Closed.gw_arr m c]
      funext i
      idx_vars i
      exact Cert.MemKvRefIdeal.Closed.gw_at _ _ _ _ _ _ _ _
    · refine (Cert.MemKvRefIdeal.Read.val_main_v74_eq _ _).trans ?_
      obtain ⟨e0, e1, e2, e3, e4, e5⟩ := hagree c
      beta_reduce
      rw [e0, e1, e2, e3, e4, e5, Cert.MemKvIdeal.Closed.gg_arr m c]
      funext i
      idx_vars i
      exact Cert.MemKvRefIdeal.Closed.gg_at _ _ _ _ _ _ _ _
    · refine (Cert.MemKvRefIdeal.Read.val_main_v77_eq _ _).trans ?_
      obtain ⟨e0, e1, e2, e3, e4, e5⟩ := hagree c
      beta_reduce
      rw [e0, e1, e2, e4, Cert.MemKvIdeal.Closed.ggk_arr m c]
      funext i
      idx_vars i
      exact Cert.MemKvRefIdeal.Closed.ggk_at _ _ _ _ _ _

end Cert.MemKvClose
-- ==== Proof.MixOutMath.lean ====
/- The gate's gradient over the extended reals: the kernel's product form and the chain rule's sum. -/
module

public import proofs.«01_k».proof.Proof.Norm

@[expose] public section

noncomputable section

namespace Cert.MixOut

open Idealize.ShloMosaic Cert.Norm

/-- The gate's bounded factor. -/
def tan (k c x : EReal) : EReal := Ideal.tanh (k * (x + c * x * x * x))

/-- The gate as the kernel multiplies it. -/
def gelu (o h k c x : EReal) : EReal := h * x * (o + tan k c x)

/-- The gate's slope as the kernel adds it up. -/
def slope (o h k c d x : EReal) : EReal := h * (o + tan k c x) + h * x * (o - tan k c x * tan k c x) * k * (o + d * x * x)

theorem tan_coe (k c x : ℝ) : tan k c x = ((Real.tanh (k * (x + c * x * x * x)) : ℝ) : EReal) := by
  unfold tan
  simp only [← EReal.coe_mul, ← EReal.coe_add]
  rfl

theorem tan_top {k c : ℝ} (hk : 0 < k) (hc : 0 < c) : tan k c ⊤ = 1 := by
  unfold tan
  rw [EReal.coe_mul_top_of_pos hc, EReal.top_mul_top, EReal.top_mul_top, EReal.top_add_top, EReal.coe_mul_top_of_pos hk]
  rfl

theorem tan_bot {k c : ℝ} (hk : 0 < k) (hc : 0 < c) : tan k c ⊥ = -1 := by
  unfold tan
  rw [EReal.coe_mul_bot_of_pos hc, EReal.bot_mul_bot, EReal.top_mul_bot, EReal.bot_add, EReal.coe_mul_bot_of_pos hk]
  rfl

theorem one_add_tanh_ne (y : ℝ) : 1 + Real.tanh y ≠ 0 := by
  rw [Real.tanh_eq_sinh_div_cosh]
  have h : 0 < Real.cosh y := Real.cosh_pos y
  have e : 1 + Real.sinh y / Real.cosh y = Real.exp y / Real.cosh y := by
    rw [← Real.cosh_add_sinh]; field_simp
  rw [e]
  exact (div_pos (Real.exp_pos y) h).ne'

variable {o h k c d : EReal} (eo : o = ((1 : ℝ) : EReal)) (eh : h = ((2⁻¹ : ℝ) : EReal))

include eo eh in
/-- The gate of a real number is zero only at zero. -/
theorem gelu_coe (k c x : ℝ) : ∃ y : ℝ, gelu o h k c x = (y : EReal) ∧ (y = 0 → x = 0) := by
  subst eo eh
  refine ⟨2⁻¹ * x * (1 + Real.tanh (k * (x + c * x * x * x))), ?_, fun h => ?_⟩
  · unfold gelu
    rw [tan_coe]
    simp only [← EReal.coe_mul, ← EReal.coe_add]
  · rcases mul_eq_zero.mp h with h | h
    · rcases mul_eq_zero.mp h with h | h
      · norm_num at h
      · exact h
    · exact absurd h (one_add_tanh_ne _)

/-- The gate, with its factors in the other order. -/
theorem gelu_ref (x : EReal) : x * (h * (o + Ideal.tanh (k * (x + c * (x * x * x))))) = gelu o h k c x := by
  unfold gelu tan
  rw [← mul_assoc, mul_comm x h, ← mul_assoc c, ← mul_assoc c]

include eo eh in
/-- The gate's cotangent times its slope is the chain rule's sum. -/
theorem slope_ref {k' c' : ℝ} (hk : 0 < k') (hc : 0 < c') (ek : k = (k' : EReal)) (ec : c = (c' : EReal)) (ed : d = ((3 * c' : ℝ) : EReal))
    {w : EReal} (ew : w = ((3 : ℝ) : EReal)) (x b : EReal) (hb : ∀ x' : ℝ, x = (x' : EReal) → x' ≠ 0 → ∃ r : ℝ, b = (r : EReal)) :
    b * (h * (o + tan k c x)) + k * (h * (x * b) * ((o + tan k c x) * (o - tan k c x))) +
      c * (k * (h * (x * b) * ((o + tan k c x) * (o - tan k c x)))) * (w * (x * x)) = b * slope o h k c d x := by
  subst eo eh ek ec ed ew
  unfold slope
  induction x with
  | bot =>
    rw [tan_bot hk hc]
    have e0 : (-1 : EReal) = ((-1 : ℝ) : EReal) := rfl
    have e1 : (((1 : ℝ) : EReal) + -1) = 0 := by rw [e0, ← EReal.coe_add]; norm_num
    have e2 : (((1 : ℝ) : EReal) - -1 * -1) = 0 := by rw [e0, ← EReal.coe_mul, Reals.sub_coe]; norm_num
    rw [e1, e2]
    simp
  | top =>
    rw [tan_top hk hc]
    have e1 : (((1 : ℝ) : EReal) - 1) = 0 := by rw [← EReal.coe_one, Reals.sub_coe]; norm_num
    have e2 : (((1 : ℝ) : EReal) - 1 * 1) = 0 := by rw [one_mul, e1]
    rw [e1, e2]
    simp
  | coe x =>
    by_cases hx : x = 0
    · subst hx
      simp
    · obtain ⟨b, rfl⟩ := hb x rfl hx
      rw [tan_coe]
      simp only [← EReal.coe_mul, ← EReal.coe_add, Reals.sub_coe]
      congr 1
      ring

theorem sq_top {a : EReal} (h : ¬∃ r : ℝ, a = (r : EReal)) : a * a = ⊤ := by
  induction a with
  | bot => rfl
  | top => rfl
  | coe r => exact absurd ⟨r, rfl⟩ h

/-- The inverse root is real, and zero where an entry is infinite. -/
theorem rs_cases {n : Nat} (x : Fin n → EReal) {c e : ℝ} (hc : 0 < c) (he : 0 < e) :
    rs c e x = 0 ∨ ((∀ i, ∃ r : ℝ, x i = (r : EReal)) ∧ ∃ r : ℝ, rs c e x = (r : EReal)) := by
  by_cases h : ∀ i, ∃ r : ℝ, x i = (r : EReal)
  · right
    refine ⟨h, ?_⟩
    rcases ms_cases x hc he with hv | ⟨v, hv, hv'⟩
    · refine ⟨0, ?_⟩
      unfold rs
      rw [hv]
      rfl
    · exact ⟨_, by unfold rs; rw [hv']; exact rsqrt_coe hv⟩
  · left
    push Not at h
    obtain ⟨i, hi⟩ := h
    have ht : ∑ i, x i * x i = ⊤ := by
      refine top_le_iff.mp ?_
      rw [← sq_top (a := x i) fun ⟨r, hr⟩ => hi r hr]
      exact Finset.single_le_sum (f := fun i => x i * x i) (fun i _ => sq_nonneg (x i)) (Finset.mem_univ i)
    unfold rs
    rw [ht, EReal.top_mul_coe_of_pos hc]
    rfl

/-- The norm's gradient of a real cotangent is zero, or real with every entry real. -/
theorem grad_cases {n : Nat} (x t : Fin n → EReal) (j : Fin n) {c e : ℝ} (hc : 0 < c) (he : 0 < e) (ht : ∀ i, ∃ r : ℝ, t i = (r : EReal)) :
    grad c e x t j = 0 ∨ ((∀ i, ∃ r : ℝ, x i = (r : EReal)) ∧ ∃ r : ℝ, grad c e x t j = (r : EReal)) := by
  rcases rs_cases x hc he with h | ⟨hx, ρ, h⟩
  · left
    unfold grad
    rw [h, zero_mul]
  · right
    refine ⟨hx, ?_⟩
    choose x' hx' using hx
    choose t' ht' using ht
    unfold grad
    simp only [h, hx', ht', ← EReal.coe_mul, Reals.sum_coe, Reals.sub_coe]
    exact ⟨_, rfl⟩

include eo eh in
/-- The cotangent that meets the gate's slope is real, except at zero. -/
theorem cot_real {n : Nat} (s y t : Fin n → EReal) (j : Fin n) {a e : ℝ} (k c : ℝ) (ha : 0 < a) (he : 0 < e) (ht : ∀ i, ∃ r : ℝ, t i = (r : EReal))
    (x : ℝ) (hx : y j = (x : EReal)) (h0 : x ≠ 0) :
    ∃ r : ℝ, s j * grad a e (fun i => s i * gelu o h k c (y i)) t j = (r : EReal) := by
  rcases grad_cases (fun i => s i * gelu o h k c (y i)) t j ha he ht with hz | ⟨hr, r, hr'⟩
  · exact ⟨0, by rw [hz, mul_zero]; rfl⟩
  · rw [hr']
    obtain ⟨g, hg, hg0⟩ := gelu_coe eo eh k c x
    have hg' : g ≠ 0 := fun h => h0 (hg0 h)
    obtain ⟨v, hv⟩ := hr j
    rw [hx, hg] at hv
    generalize s j = S at hv ⊢
    induction S with
    | coe S => exact ⟨S * r, (EReal.coe_mul S r).symm⟩
    | bot => rcases lt_or_gt_of_ne hg' with hh | hh <;> simp [EReal.bot_mul_coe_of_pos, EReal.bot_mul_coe_of_neg, hh] at hv
    | top => rcases lt_or_gt_of_ne hg' with hh | hh <;> simp [EReal.top_mul_coe_of_pos, EReal.top_mul_coe_of_neg, hh] at hv

theorem one_bits : Ideal.ofBits .f32 1065353216#32 = ((1 : ℝ) : EReal) := by
  simp [Ideal.ofBits, Ideal.ieee, -EReal.coe_mul, -EReal.coe_neg]; norm_num

theorem half_bits : Ideal.ofBits .f32 1056964608#32 = ((2⁻¹ : ℝ) : EReal) := by
  simp [Ideal.ofBits, Ideal.ieee, -EReal.coe_mul, -EReal.coe_neg]; norm_num

theorem three_bits : Ideal.ofBits .f32 1077936128#32 = ((3 : ℝ) : EReal) := by
  simp [Ideal.ofBits, Ideal.ieee, -EReal.coe_mul, -EReal.coe_neg]; norm_num

theorem root_bits : ∃ k : ℝ, 0 < k ∧ Ideal.ofBits .f32 1061962282#32 = (k : EReal) :=
  ⟨13386282 * 2 ^ (-24 : ℤ), by positivity, by simp [Ideal.ofBits, Ideal.ieee, -EReal.coe_mul, -EReal.coe_neg]⟩

/-- The quotient of whole numbers that the reference writes is the named constant. -/
theorem quot_bits : Ideal.div (Ideal.ofBits .f32 1194240768#32) (Ideal.ofBits .f32 1232348160#32) = ((8943 / 200000 : ℝ) : EReal) := by
  have e1 : Ideal.ofBits .f32 1194240768#32 = ((44715 : ℝ) : EReal) := by
    simp [Ideal.ofBits, Ideal.ieee, -EReal.coe_mul, -EReal.coe_neg]; norm_num
  have e2 : Ideal.ofBits .f32 1232348160#32 = ((1000000 : ℝ) : EReal) := by
    simp [Ideal.ofBits, Ideal.ieee, -EReal.coe_mul, -EReal.coe_neg]; norm_num
  rw [e1, e2, Reals.div_coe' (by norm_num)]
  norm_num

end Cert.MixOut

end
-- ==== Proof.MixOutSpec.lean ====
/- The gradients of the mixers' output projection, written over plain rows and columns. -/
module

public import proofs.«01_k».proof.Proof.MixOutMath

@[expose] public section

noncomputable section

namespace Cert.MixOut

open Idealize.ShloMosaic Cert.Norm

/-- The eight arguments. -/
structure Args where
  hf : Fin 8192 → Fin 512 → EReal
  hb : Fin 8192 → Fin 512 → EReal
  yg : Fin 8192 → Fin 512 → EReal
  o : Fin 8192 → Fin 512 → EReal
  gl : Fin 512 → EReal
  gm : Fin 512 → EReal
  w : Fin 1024 → Fin 1024 → EReal
  dx : Fin 8192 → Fin 1024 → EReal

/-- The cubic's exact coefficient. -/
abbrev cub : EReal := ((8943 / 200000 : ℝ) : EReal)

/-- The gate and its slope at the programs' constants. -/
def gate (x : EReal) : EReal := gelu 1 (Ideal.ofBits .f32 1056964608#32) (Ideal.ofBits .f32 1061962282#32) cub x
def steep (x : EReal) : EReal :=
  slope 1 (Ideal.ofBits .f32 1056964608#32) (Ideal.ofBits .f32 1061962282#32) cub ((26829 / 200000 : ℝ) : EReal) x

/-- A column of the left and of the right half. -/
def lcol (l : Fin 512) : Fin 1024 := ⟨l.val, by omega⟩
def rcol (l : Fin 512) : Fin 1024 := ⟨512 + l.val, by omega⟩

/-- A head's column. -/
def hcol (h : Fin 8) (e : Fin 64) : Fin 512 := ⟨64 * h.val + e.val, by omega⟩

variable (A : Args)

/-- The recurrence's output, gated. -/
def lo (y : Fin 8192) (l : Fin 512) : EReal := (A.hf y l + A.hb y l) * gate (A.yg y l)

/-- The cotangent of the two normed halves. -/
def cot (y : Fin 8192) (k : Fin 1024) : EReal := ∑ j : Fin 1024, A.dx y j * A.w k j

/-- The inverse root of a row. -/
def inv (x : Fin 512 → EReal) : EReal := rs (Ideal.ofBits .f32 989855744#32) (Ideal.ofBits .f32 897988541#32) x

/-- A half's gradient behind its norm. -/
def back (x t : Fin 512 → EReal) (l : Fin 512) : EReal := grad (Ideal.ofBits .f32 989855744#32) (Ideal.ofBits .f32 897988541#32) x t l

def dlo (y : Fin 8192) (l : Fin 512) : EReal := back (lo A y) (fun j => cot A y (lcol j) * A.gl j) l
def dh (y : Fin 8192) (l : Fin 512) : EReal := dlo A y l * gate (A.yg y l)
def dyg (y : Fin 8192) (l : Fin 512) : EReal := dlo A y l * (A.hf y l + A.hb y l) * steep (A.yg y l)
def do' (y : Fin 8192) (l : Fin 512) : EReal := back (A.o y) (fun j => cot A y (rcol j) * A.gm j) l

/-- A head's sum of products. -/
def sums (y : Fin 8192) (h : Fin 8) : EReal := ∑ e : Fin 64, do' A y (hcol h e) * A.o y (hcol h e)

/-- The eight heads' sums, padded with zero columns. -/
def pads (y : Fin 8192) (j : Fin 128) : EReal := if h : j.val < 8 then sums A y ⟨j.val, h⟩ else 0

/-- What a row adds to the two norm weights' gradients. -/
def tgl (y : Fin 8192) (l : Fin 512) : EReal := cot A y (lcol l) * (lo A y l * inv (lo A y))
def tgm (y : Fin 8192) (l : Fin 512) : EReal := cot A y (rcol l) * (A.o y l * inv (A.o y))

/-- Only the first of eight rows is the gradient; the others stay zero. -/
def first (f : Fin 8192 → Fin 512 → EReal) (r : Fin 8) (l : Fin 512) (y : Fin 8192) : EReal := if r.val = 0 then f y l else 0

end Cert.MixOut

end
-- ==== Proof.MixOutValue.lean ====
/- What the kernel's gradient of the mixers' output projection leaves in its arrays. -/
module

public import proofs.«01_k».proof.Proof.Gen.MixOutIdeal.Value
public import proofs.«01_k».proof.Proof.Rows
public import proofs.«01_k».proof.Proof.MixOutSpec

@[expose] public section

set_option maxRecDepth 16384

noncomputable section

namespace Cert.MixOutIdeal.Closed

open Cert.MixOutIdeal Cert.MixOutIdeal.Gen Idealize.ShloMosaic Idealize.ShloMosaic.TcCoe Idealize.SL.Sem Cert.Common Cert.Norm Cert.MixOut

variable (m : (ℓ : Loc nD τ sig) → Buf (Elt Ideal) ℓ) (c : Dev nD)

/-- The eight arguments by row and column. -/
def args : Args where
  hf y l := (m ((c : Thread nD τ).loc main_arg0) : FVec Ideal S1x8192x512 .f32) (ix3 0 y l)
  hb y l := (m ((c : Thread nD τ).loc main_arg1) : FVec Ideal S1x8192x512 .f32) (ix3 0 y l)
  yg y l := (m ((c : Thread nD τ).loc main_arg2) : FVec Ideal S1x8192x512 .f32) (ix3 0 y l)
  o y l := (m ((c : Thread nD τ).loc main_arg3) : FVec Ideal S1x8192x512 .f32) (ix3 0 y l)
  gl l := (m ((c : Thread nD τ).loc main_arg4) : FVec Ideal S1x512 .f32) (ix2 0 l)
  gm l := (m ((c : Thread nD τ).loc main_arg5) : FVec Ideal S1x512 .f32) (ix2 0 l)
  w k j := (m ((c : Thread nD τ).loc main_arg6) : FVec Ideal S1x1024x1024 .f32) (ix3 0 k j)
  dx y j := (m ((c : Thread nD τ).loc main_arg7) : FVec Ideal S1x8192x1024 .f32) (ix3 0 y j)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![0, 0] ∧ win0_13.index t = ![0, 0] :=
  (by decide +kernel : ∀ t : Fin grid0.N, _)

/-- The row of the whole array that a point's block row is. -/
def row (t : Fin cfg0.N) (r : Fin 1024) : Fin 8192 := ⟨1024 * t.val + r.val, by have : t.val < 8 := t.isLt; omega⟩

theorem dx_blk (t : Fin cfg0.N) (r : Fin 1024) (j : Fin 1024) : iblk m c 0 t (ix2 r j) = (args m c).dx (row t r) j := by
  rw [show iblk m c 0 t (ix2 r j) = V m c main_v1 (ix2 (row t r) j) by unfold row; blk_ext [iblk, idx t]]
  simp only [V, hostOps0, List.flatten_cons, List.flatten_nil, List.append_nil, List.cons_append, List.nil_append]
  entry_read
  pointwise []
  rfl

theorem hf_blk (t : Fin cfg0.N) (r : Fin 1024) (l : Fin 512) : iblk m c 1 t (ix2 r l) = (args m c).hf (row t r) l := by
  rw [show iblk m c 1 t (ix2 r l) = V m c main_v2 (ix2 (row t r) l) by unfold row; blk_ext [iblk, idx t]]
  simp only [V, hostOps0, List.flatten_cons, List.flatten_nil, List.append_nil, List.cons_append, List.nil_append]
  entry_read
  pointwise []
  rfl

theorem hb_blk (t : Fin cfg0.N) (r : Fin 1024) (l : Fin 512) : iblk m c 2 t (ix2 r l) = (args m c).hb (row t r) l := by
  rw [show iblk m c 2 t (ix2 r l) = V m c main_v3 (ix2 (row t r) l) by unfold row; blk_ext [iblk, idx t]]
  simp only [V, hostOps0, List.flatten_cons, List.flatten_nil, List.append_nil, List.cons_append, List.nil_append]
  entry_read
  pointwise []
  rfl

theorem yg_blk (t : Fin cfg0.N) (r : Fin 1024) (l : Fin 512) : iblk m c 3 t (ix2 r l) = (args m c).yg (row t r) l := by
  rw [show iblk m c 3 t (ix2 r l) = V m c main_v4 (ix2 (row t r) l) by unfold row; blk_ext [iblk, idx t]]
  simp only [V, hostOps0, List.flatten_cons, List.flatten_nil, List.append_nil, List.cons_append, List.nil_append]
  entry_read
  pointwise []
  rfl

theorem o_blk (t : Fin cfg0.N) (r : Fin 1024) (l : Fin 512) : iblk m c 4 t (ix2 r l) = (args m c).o (row t r) l := by
  rw [show iblk m c 4 t (ix2 r l) = V m c main_v5 (ix2 (row t r) l) by unfold row; blk_ext [iblk, idx t]]
  simp only [V, hostOps0, List.flatten_cons, List.flatten_nil, List.append_nil, List.cons_append, List.nil_append]
  entry_read
  pointwise []
  rfl

theorem gl_blk (t : Fin cfg0.N) (l : Fin 512) : iblk m c 5 t (ix2 0 l) = (args m c).gl l := by
  rw [show iblk m c 5 t (ix2 0 l) = V m c main_v7 (ix2 0 l) by blk_ext [iblk, idx t]]
  simp only [V, hostOps0, List.flatten_cons, List.flatten_nil, List.append_nil, List.cons_append, List.nil_append]
  entry_read
  pointwise []
  rfl

theorem gm_blk (t : Fin cfg0.N) (l : Fin 512) : iblk m c 6 t (ix2 0 l) = (args m c).gm l := by
  rw [show iblk m c 6 t (ix2 0 l) = V m c main_v9 (ix2 0 l) by blk_ext [iblk, idx t]]
  simp only [V, hostOps0, List.flatten_cons, List.flatten_nil, List.append_nil, List.cons_append, List.nil_append]
  entry_read
  pointwise []
  rfl

theorem w_blk (t : Fin cfg0.N) (k j : Fin 1024) : iblk m c 7 t (ix2 k j) = (args m c).w k j := by
  rw [show iblk m c 7 t (ix2 k j) = V m c main_v11 (ix2 k j) by blk_ext [iblk, idx t]]
  simp only [V, hostOps0, List.flatten_cons, List.flatten_nil, List.append_nil, List.cons_append, List.nil_append]
  entry_read
  pointwise []
  rfl

theorem cot_blk (t : Fin cfg0.N) (r k : Fin 1024) : k0_pay4 (F := Ideal) (iblk m c 0 t) (iblk m c 7 t) (ix2 r k) = cot (args m c) (row t r) k := by
  pointwise [k0_pay4]
  simp only [dx_blk, w_blk]
  rfl

theorem named_c : (Named.named κ "gelu_c" 1027024659#32 : Ideal .f32) = cub := rfl

theorem named_3c : (Named.named κ "gelu_3c" 1040801103#32 : Ideal .f32) = ((26829 / 200000 : ℝ) : EReal) := rfl

theorem gate_blk (t : Fin cfg0.N) (r : Fin 1024) (l : Fin 512) : k0_pay7 (F := Ideal) (iblk m c 3 t) (ix2 r l) = gate ((args m c).yg (row t r) l) := by
  pointwise [k0_pay7, k0_pay6]
  simp only [yg_blk, named_c]
  rfl

theorem lo_blk (t : Fin cfg0.N) (r : Fin 1024) (l : Fin 512) :
    k0_pay8 (F := Ideal) (iblk m c 1 t) (iblk m c 2 t) (iblk m c 3 t) (ix2 r l) = lo (args m c) (row t r) l := by
  pointwise [k0_pay8, k0_pay5]
  simp only [gate_blk, hf_blk, hb_blk]
  rfl

theorem inv_blk (t : Fin cfg0.N) (r : Fin 1024) :
    k0_pay9 (F := Ideal) (iblk m c 1 t) (iblk m c 2 t) (iblk m c 3 t) (ix2 r 0) = MixOut.inv (lo (args m c) (row t r)) := by
  pointwise [k0_pay9]
  simp only [lo_blk]
  rfl

theorem dlo_blk (t : Fin cfg0.N) (r : Fin 1024) (l : Fin 512) :
    k0_pay12 (F := Ideal) (k0_pay4 (iblk m c 0 t) (iblk m c 7 t)) (k0_pay8 (iblk m c 1 t) (iblk m c 2 t) (iblk m c 3 t))
      (k0_pay9 (iblk m c 1 t) (iblk m c 2 t) (iblk m c 3 t)) (iblk m c 5 t) (ix2 r l) = dlo (args m c) (row t r) l := by
  pointwise [k0_pay12, k0_pay10, k0_pay11]
  simp only [inv_blk, lo_blk, cot_blk, gl_blk]
  rfl

theorem rso_blk (t : Fin cfg0.N) (r : Fin 1024) : k0_pay22 (F := Ideal) (iblk m c 4 t) (ix2 r 0) = MixOut.inv ((args m c).o (row t r)) := by
  pointwise [k0_pay22, k0_pay21]
  simp only [o_blk]
  rfl

theorem dh_arr : (dats m 0 c).arrAt 8 cfg0.N = fun i => dh (args m c) (i 0) (i 1) := by
  refine (dats m 0 c).arrAt_eq_of_covers 8 _ (by decide +kernel) fun t hf y => ?_
  blk_simp
  rw [after0_8]
  idx_vars y
  rw [show ((View.whole main_v12_0).slice (win0_8.rect t)).emb (ix2 y0 y1) = ix2 (row t y0) y1 by unfold row; blk_ext [idx t]]
  by_cases h0 : t.val % 8 = 0
  · rw [outsAt0_A m c t h0]
    frame_out
    pointwise [k0_pay14]
    exact congrArg₂ (· * ·) (dlo_blk m c t _ _) (gate_blk m c t _ _)
  · rw [outsAt0_B m c t h0]
    frame_out
    pointwise [k0_pay14]
    exact congrArg₂ (· * ·) (dlo_blk m c t _ _) (gate_blk m c t _ _)

theorem dyg_blk (t : Fin cfg0.N) (r : Fin 1024) (l : Fin 512) :
    k0_pay20 (F := Ideal) (k0_pay6 (iblk m c 3 t)) (k0_pay15 (k0_pay4 (iblk m c 0 t) (iblk m c 7 t)) (k0_pay5 (iblk m c 1 t) (iblk m c 2 t)) (k0_pay8 (iblk m c 1 t) (iblk m c 2 t) (iblk m c 3 t))
      (k0_pay9 (iblk m c 1 t) (iblk m c 2 t) (iblk m c 3 t)) (iblk m c 5 t)) (k0_pay17 (k0_pay6 (iblk m c 3 t))) (k0_pay18 (k0_pay6 (iblk m c 3 t)))
      (k0_pay19 (k0_pay6 (iblk m c 3 t))) (Scalar.ofBits .f32 0x3F800000#32) (ix2 r l) = dyg (args m c) (row t r) l := by
  pointwise [k0_pay20, k0_pay15, k0_pay17, k0_pay18, k0_pay19, k0_pay16, k0_pay6, k0_pay5]
  simp only [dlo_blk, hf_blk, hb_blk, yg_blk, named_c, named_3c]
  rfl

theorem dyg_arr : (dats m 0 c).arrAt 9 cfg0.N = fun i => dyg (args m c) (i 0) (i 1) := by
  refine (dats m 0 c).arrAt_eq_of_covers 9 _ (by decide +kernel) fun t hf y => ?_
  blk_simp
  rw [after0_9]
  idx_vars y
  rw [show ((View.whole main_v12_1).slice (win0_9.rect t)).emb (ix2 y0 y1) = ix2 (row t y0) y1 by unfold row; blk_ext [idx t]]
  by_cases h0 : t.val % 8 = 0
  · rw [outsAt0_A m c t h0]
    frame_out
    exact dyg_blk m c t _ _
  · rw [outsAt0_B m c t h0]
    frame_out
    exact dyg_blk m c t _ _

theorem do_blk (t : Fin cfg0.N) (r : Fin 1024) (l : Fin 512) :
    k0_pay25 (F := Ideal) (k0_pay4 (iblk m c 0 t) (iblk m c 7 t)) (iblk m c 4 t) (iblk m c 6 t) (ix2 r l) = do' (args m c) (row t r) l := by
  pointwise [k0_pay25, k0_pay23, k0_pay24, k0_pay21]
  simp only [rso_blk, o_blk, cot_blk, gm_blk]
  rfl

theorem do_arr : (dats m 0 c).arrAt 10 cfg0.N = fun i => do' (args m c) (i 0) (i 1) := by
  refine (dats m 0 c).arrAt_eq_of_covers 10 _ (by decide +kernel) fun t hf y => ?_
  blk_simp
  rw [after0_10]
  idx_vars y
  rw [show ((View.whole main_v12_2).slice (win0_10.rect t)).emb (ix2 y0 y1) = ix2 (row t y0) y1 by unfold row; blk_ext [idx t]]
  by_cases h0 : t.val % 8 = 0
  · rw [outsAt0_A m c t h0]
    frame_out
    pointwise [k0_pay28]
    exact do_blk m c t _ _
  · rw [outsAt0_B m c t h0]
    frame_out
    pointwise [k0_pay28]
    exact do_blk m c t _ _

theorem pay13_at (t : Fin cfg0.N) (v : FVec Ideal S1x512 .f32) (l : Fin 512) :
    k0_pay13 (F := Ideal) (k0_pay4 (iblk m c 0 t) (iblk m c 7 t)) (k0_pay8 (iblk m c 1 t) (iblk m c 2 t) (iblk m c 3 t))
      (k0_pay9 (iblk m c 1 t) (iblk m c 2 t) (iblk m c 3 t)) v (ix2 0 l) = v (ix2 0 l) + ∑ s : Fin 1024, tgl (args m c) (row t s) l := by
  pointwise [k0_pay13, k0_pay10, k0_pay11]
  simp only [inv_blk, lo_blk, cot_blk]
  rfl

theorem pay27_at (t : Fin cfg0.N) (v : FVec Ideal S1x512 .f32) (l : Fin 512) :
    k0_pay27 (F := Ideal) (k0_pay26 (k0_pay4 (iblk m c 0 t) (iblk m c 7 t)) (iblk m c 4 t)) v (ix2 0 l) =
      v (ix2 0 l) + ∑ s : Fin 1024, tgm (args m c) (row t s) l := by
  pointwise [k0_pay27, k0_pay26, k0_pay23, k0_pay24, k0_pay21]
  simp only [rso_blk, o_blk, cot_blk]
  rfl

theorem gl_B (t : Fin cfg0.N) (h0 : ¬t.val % 8 = 0) (r : Fin 8) (l : Fin 512) :
    (outsAt0 m c t.val t.isLt).2.2.2.2.1 (ix2 r l) =
      (outsAt0 m c (t.val - 1) (lt_of_le_of_lt (Nat.sub_le ..) t.isLt)).2.2.2.2.1 (ix2 r l) + ∑ s : Fin 1024, first (tgl (args m c)) r l (row t s) := by
  rw [outsAt0_B m c t h0]
  frame_out
  rw [read_writes_row, View.writes_nil, Memref.IsWhole.read_unread]
  unfold first
  by_cases hr : r.val = 0
  · simp only [if_pos hr]
    refine (pay13_at m c t _ l).trans (congrArg (· + _) ?_)
    obtain rfl : r = 0 := Fin.ext hr
    pointwise []
  · simp only [if_neg hr, Finset.sum_const_zero, add_zero]

theorem gl_A (t : Fin cfg0.N) (h0 : t.val % 8 = 0) (r : Fin 8) (l : Fin 512) :
    (outsAt0 m c t.val t.isLt).2.2.2.2.1 (ix2 r l) = 0 + ∑ s : Fin 1024, first (tgl (args m c)) r l (row t s) := by
  rw [outsAt0_A m c t h0]
  frame_out
  rw [canon_row, canon_all]
  unfold first
  by_cases hr : r.val = 0
  · simp only [if_pos hr]
    refine (pay13_at m c t _ l).trans (congrArg (· + _) ?_)
    refine (readCov_row _ _ 0 _ l).trans ((canon_all _ _ _ _ _).trans ?_)
    pointwise [k0_pay2]
  · simp only [if_neg hr, Finset.sum_const_zero]
    pointwise [k0_pay2]

theorem gm_B (t : Fin cfg0.N) (h0 : ¬t.val % 8 = 0) (r : Fin 8) (l : Fin 512) :
    (outsAt0 m c t.val t.isLt).2.2.2.2.2 (ix2 r l) =
      (outsAt0 m c (t.val - 1) (lt_of_le_of_lt (Nat.sub_le ..) t.isLt)).2.2.2.2.2 (ix2 r l) + ∑ s : Fin 1024, first (tgm (args m c)) r l (row t s) := by
  rw [outsAt0_B m c t h0]
  frame_out
  rw [read_writes_row, View.writes_nil, Memref.IsWhole.read_unread]
  unfold first
  by_cases hr : r.val = 0
  · simp only [if_pos hr]
    refine (pay27_at m c t _ l).trans (congrArg (· + _) ?_)
    obtain rfl : r = 0 := Fin.ext hr
    pointwise []
  · simp only [if_neg hr, Finset.sum_const_zero, add_zero]

theorem gm_A (t : Fin cfg0.N) (h0 : t.val % 8 = 0) (r : Fin 8) (l : Fin 512) :
    (outsAt0 m c t.val t.isLt).2.2.2.2.2 (ix2 r l) = 0 + ∑ s : Fin 1024, first (tgm (args m c)) r l (row t s) := by
  rw [outsAt0_A m c t h0]
  frame_out
  rw [canon_row, canon_all]
  unfold first
  by_cases hr : r.val = 0
  · simp only [if_pos hr]
    refine (pay27_at m c t _ l).trans (congrArg (· + _) ?_)
    refine (readCov_row _ _ 0 _ l).trans ((canon_all _ _ _ _ _).trans ?_)
    pointwise [k0_pay3]
  · simp only [if_neg hr, Finset.sum_const_zero]
    pointwise [k0_pay3]

theorem gl_arr : (dats m 0 c).arrAt 12 cfg0.N = fun i => ∑ y : Fin 8192, first (tgl (args m c)) (i 0) (i 1) y := by
  refine (dats m 0 c).arrAt_eq_of_covers 12 _ (by decide +kernel) fun t hf y => ?_
  blk_simp
  rw [after0_12]
  idx_vars y
  rw [show ((View.whole main_v12_4).slice (win0_12.rect t)).emb (ix2 y0 y1) = ix2 y0 y1 by blk_ext [idx t]]
  refine (Pipeline.eq_sum_fin_of_reset_step_apply_of_flush (fun n h => (outsAt0 m c n h).2.2.2.2.1) 8 (fun _ => (0 : EReal))
    (fun t j => ∑ s : Fin 1024, first (tgl (args m c)) (j 0) (j 1) (row t s)) (fun t h j => ?_) (fun t h j => ?_) t ((flush0_12 t).mp hf) _).trans ?_
  · idx_vars j
    exact gl_A m c t h j0 j1
  · idx_vars j
    exact gl_B m c t h j0 j1
  · rw [zero_add]
    have hd : t.val / 8 = 0 := Nat.div_eq_of_lt t.isLt
    refine Fin.sum_mul_add_congr fun s k hl => ?_
    exact congrArg (first (tgl (args m c)) y0 y1) (Fin.ext (by unfold row; dsimp only; omega))

theorem gm_arr : (dats m 0 c).arrAt 13 cfg0.N = fun i => ∑ y : Fin 8192, first (tgm (args m c)) (i 0) (i 1) y := by
  refine (dats m 0 c).arrAt_eq_of_covers 13 _ (by decide +kernel) fun t hf y => ?_
  blk_simp
  rw [after0_13]
  idx_vars y
  rw [show ((View.whole main_v12_5).slice (win0_13.rect t)).emb (ix2 y0 y1) = ix2 y0 y1 by blk_ext [idx t]]
  refine (Pipeline.eq_sum_fin_of_reset_step_apply_of_flush (fun n h => (outsAt0 m c n h).2.2.2.2.2) 8 (fun _ => (0 : EReal))
    (fun t j => ∑ s : Fin 1024, first (tgm (args m c)) (j 0) (j 1) (row t s)) (fun t h j => ?_) (fun t h j => ?_) t ((flush0_13 t).mp hf) _).trans ?_
  · idx_vars j
    exact gm_A m c t h j0 j1
  · idx_vars j
    exact gm_B m c t h j0 j1
  · rw [zero_add]
    have hd : t.val / 8 = 0 := Nat.div_eq_of_lt t.isLt
    refine Fin.sum_mul_add_congr fun s k hl => ?_
    exact congrArg (first (tgm (args m c)) y0 y1) (Fin.ext (by unfold row; dsimp only; omega))

/-- A masked sum over all columns is the sum over one head's columns. -/
theorem head_sum (f : Fin 512 → EReal) (h : Fin 8) (a b : BitVec 32)
    (hm : ∀ x : Fin 512, IntOp.andi (IntOp.cmpi .sge (BitVec.ofNat 32 x.val) a) (IntOp.cmpi .slt (BitVec.ofNat 32 x.val) b) = 1#1 ↔ x.val / 64 = h.val) :
    ∑ x : Fin 512, Scalar.select (IntOp.andi (IntOp.cmpi .sge (BitVec.ofNat 32 x.val) a) (IntOp.cmpi .slt (BitVec.ofNat 32 x.val) b)) (f x) 0 =
      ∑ e : Fin 64, f (hcol h e) := by
  have hs : ∀ x : Fin 512, Scalar.select (IntOp.andi (IntOp.cmpi .sge (BitVec.ofNat 32 x.val) a) (IntOp.cmpi .slt (BitVec.ofNat 32 x.val) b)) (f x) 0 =
      if x.val / 64 = h.val then f x else 0 := fun x => if_congr (hm x) rfl rfl
  simp only [hs]
  rw [Fin.sum_univ_tiles 8 64 rfl, Finset.sum_eq_single h]
  · refine Finset.sum_congr rfl fun e _ => ?_
    rw [if_pos (by simp; omega)]
    exact congrArg f (Fin.ext (by simp [hcol]; try omega))
  · intro q _ hq
    refine Finset.sum_eq_zero fun e _ => if_neg fun hx => hq (Fin.ext ?_)
    simp at hx
    omega
  · exact fun hx => absurd (Finset.mem_univ _) hx

/-- A choice by lane number. -/
theorem lane (j : Fin 128) (u v : EReal) (a : BitVec 32) (n : ℕ) (hm : ∀ j : Fin 128, IntOp.cmpi .eq (BitVec.ofNat 32 j.val) a = 1#1 ↔ j.val = n) :
    Scalar.select (IntOp.cmpi .eq (BitVec.ofNat 32 j.val) a) u v = if j.val = n then u else v :=
  if_congr (hm j) rfl rfl

/-- The eight heads' sums in their lanes. -/
theorem sums_blk (P : FVec Ideal S1024x512 .f32) (x u : FVec Ideal S1024x512 .f32) (hP : P = k0_pay29 x u) (r : Fin 1024) (j : Fin 128) :
    k0_pay1 (F := Ideal) P (iota .tc S1024x128 32 [1] iota_S1024x128_d1_w32)
      (k0_pay37 P (iota .tc S1024x512 32 [1] iota_S1024x512_d1_w32) (iota .tc S1024x128 32 [1] iota_S1024x128_d1_w32)
        (k0_pay33 P (iota .tc S1024x512 32 [1] iota_S1024x512_d1_w32) (iota .tc S1024x128 32 [1] iota_S1024x128_d1_w32) (k0_pay30 x u) k0_pay31
          (Scalar.ofBits .f32 0x00000000#32) (k0_pay32 x u))
        (k0_pay34 (iota .tc S1024x512 32 [1] iota_S1024x512_d1_w32)) (k0_pay35 (iota .tc S1024x128 32 [1] iota_S1024x128_d1_w32)) k0_pay36)
      (k0_pay38 (iota .tc S1024x512 32 [1] iota_S1024x512_d1_w32)) (k0_pay39 (iota .tc S1024x512 32 [1] iota_S1024x512_d1_w32)) (ix2 r j) =
    if h : j.val < 8 then ∑ e : Fin 64, P (ix2 r (hcol ⟨j.val, h⟩ e)) else 0 := by
  pointwise [k0_pay1, k0_pay37, k0_pay33, k0_pay30, k0_pay31, k0_pay32, k0_pay34, k0_pay35, k0_pay36, k0_pay38, k0_pay39]
  rw [← hP]
  rw [head_sum _ 0 0#32 64#32 (by decide +kernel), head_sum _ 1 64#32 128#32 (by decide +kernel), head_sum _ 2 128#32 192#32 (by decide +kernel),
    head_sum _ 3 192#32 256#32 (by decide +kernel), head_sum _ 4 256#32 320#32 (by decide +kernel), head_sum _ 5 320#32 384#32 (by decide +kernel),
    head_sum _ 6 384#32 448#32 (by decide +kernel), head_sum _ 7 448#32 512#32 (by decide +kernel)]
  rw [lane j _ _ 0#32 0 (by decide +kernel), lane j _ _ 1#32 1 (by decide +kernel), lane j _ _ 2#32 2 (by decide +kernel), lane j _ _ 3#32 3 (by decide +kernel),
    lane j _ _ 4#32 4 (by decide +kernel), lane j _ _ 5#32 5 (by decide +kernel), lane j _ _ 6#32 6 (by decide +kernel), lane j _ _ 7#32 7 (by decide +kernel)]
  obtain ⟨j, hj⟩ := j
  dsimp only
  by_cases h : j < 8
  · rw [dif_pos h]
    interval_cases j <;> simp
  · rw [dif_neg h]
    have e : ∀ n : ℕ, n < 8 → ¬j = n := fun n hn e => h (e ▸ hn)
    simp [e]

theorem sums_arr : (dats m 0 c).arrAt 11 cfg0.N = fun i => pads (args m c) (i 0) (i 1) := by
  have hp : ∀ (t : Fin cfg0.N) (r : Fin 1024) (e : Fin 512), k0_pay29 (F := Ideal) (k0_pay21 (iblk m c 4 t))
      (k0_pay25 (k0_pay4 (iblk m c 0 t) (iblk m c 7 t)) (iblk m c 4 t) (iblk m c 6 t)) (ix2 r e) =
      do' (args m c) (row t r) e * (args m c).o (row t r) e := fun t r e => by
    pointwise [k0_pay29, k0_pay21]
    rw [do_blk, o_blk]
  refine (dats m 0 c).arrAt_eq_of_covers 11 _ (by decide +kernel) fun t hf y => ?_
  blk_simp
  rw [after0_11]
  idx_vars y
  rw [show ((View.whole main_v12_3).slice (win0_11.rect t)).emb (ix2 y0 y1) = ix2 (row t y0) y1 by unfold row; blk_ext [idx t]]
  by_cases h0 : t.val % 8 = 0
  · rw [outsAt0_A m c t h0]
    frame_out
    refine (sums_blk _ _ _ rfl _ _).trans ?_
    simp only [hp]
    rfl
  · rw [outsAt0_B m c t h0]
    frame_out
    refine (sums_blk _ _ _ rfl _ _).trans ?_
    simp only [hp]
    rfl

end Cert.MixOutIdeal.Closed

end
-- ==== Proof.MixOutRef.lean ====
/- The reference's gradient of the mixers' output projection, read at one index. -/
module

public import proofs.«01_k».proof.Proof.Gen.MixOutRefIdeal.Read
public import proofs.«01_k».proof.Proof.Common
public import proofs.«01_k».proof.Proof.MixOutSpec

@[expose] public section

set_option maxRecDepth 16384

noncomputable section

namespace Cert.MixOutRefIdeal.Closed

open Cert.MixOutRefIdeal Cert.MixOutRefIdeal.Read Idealize.ShloMosaic Cert.Norm Cert.MixOut

variable (x0 x1 x2 x3 : FVec Ideal S1x8192x512 .f32) (x4 x5 : FVec Ideal S1x512 .f32) (x6 : FVec Ideal S1x1024x1024 .f32) (x7 : FVec Ideal S1x8192x1024 .f32)

/-- The eight arguments by row and column. -/
def args : Args where
  hf y l := x0 (ix3 0 y l)
  hb y l := x1 (ix3 0 y l)
  yg y l := x2 (ix3 0 y l)
  o y l := x3 (ix3 0 y l)
  gl l := x4 (ix2 0 l)
  gm l := x5 (ix2 0 l)
  w k j := x6 (ix3 0 k j)
  dx y j := x7 (ix3 0 y j)

theorem tan_at (y : Fin 8192) (l : Fin 512) : val_main_v14 (F := Ideal) x2 (ix3 0 y l) = MixOut.tan (Ideal.ofBits .f32 1061962282#32) cub (x2 (ix3 0 y l)) := by
  unfold val_main_v14
  pointwise [val_main_v13, val_main_v12, val_main_v11, val_main_v10, val_main_v9, val_main_v5, val_main_v4, val_main_v3, val_main_cst, val_main_cst_0, val_main_cst_2]
  rw [quot_bits]
  unfold MixOut.tan
  rw [← mul_assoc, ← mul_assoc]

theorem gate_at (y : Fin 8192) (l : Fin 512) : val_main_v24 (F := Ideal) x2 (ix3 0 y l) = gate (x2 (ix3 0 y l)) := by
  unfold val_main_v24
  pointwise [val_main_v23, val_main_v22, val_main_v21, val_main_v20, val_main_cst_5, val_main_cst_6]
  rw [tan_at]
  unfold gate gelu
  rw [← mul_assoc, mul_comm (x2 (ix3 0 y l))]

theorem lo_at (y : Fin 8192) (l : Fin 512) : val_main_v25 (F := Ideal) x0 x1 x2 (ix3 0 y l) = lo (args x0 x1 x2 x3 x4 x5 x6 x7) y l := by
  unfold val_main_v25
  pointwise [val_main_v0]
  rw [gate_at]
  rfl

theorem cot_at (y : Fin 8192) (k : Fin 1024) : val_main_v61 (F := Ideal) x6 x7 (ix3 0 y k) = cot (args x0 x1 x2 x3 x4 x5 x6 x7) y k := by
  unfold val_main_v61
  pointwise [val_main_v59]
  rfl

theorem left_at (y : Fin 8192) (l : Fin 512) : val_main_v62 (F := Ideal) x6 x7 (ix3 0 y l) = cot (args x0 x1 x2 x3 x4 x5 x6 x7) y (lcol l) := by
  rw [show val_main_v62 (F := Ideal) x6 x7 (ix3 0 y l) = val_main_v61 (F := Ideal) x6 x7 (ix3 0 y (lcol l)) by
    unfold val_main_v62
    pointwise []
    rfl]
  exact cot_at x0 x1 x2 x3 x4 x5 x6 x7 y _

theorem right_at (y : Fin 8192) (l : Fin 512) : val_main_v63 (F := Ideal) x6 x7 (ix3 0 y l) = cot (args x0 x1 x2 x3 x4 x5 x6 x7) y (rcol l) := by
  rw [show val_main_v63 (F := Ideal) x6 x7 (ix3 0 y l) = val_main_v61 (F := Ideal) x6 x7 (ix3 0 y (rcol l)) by
    unfold val_main_v63
    pointwise []
    rfl]
  exact cot_at x0 x1 x2 x3 x4 x5 x6 x7 y _

theorem lms_at (y : Fin 8192) : val_main_v32 (F := Ideal) x0 x1 x2 (ix3 0 y 0) =
    Ideal.div (∑ l : Fin 512, lo (args x0 x1 x2 x3 x4 x5 x6 x7) y l * lo (args x0 x1 x2 x3 x4 x5 x6 x7) y l) (Ideal.ofBits .f32 1140850688#32) + Ideal.ofBits .f32 897988541#32 := by
  unfold val_main_v32
  pointwise [val_main_v31, val_main_v30, val_main_v29, val_main_v28, val_main_v27, val_main_v26, val_main_cst_7, val_main_cst_8, val_main_cst_9]
  simp only [lo_at x0 x1 x2 x3 x4 x5 x6 x7]

theorem mms_at (y : Fin 8192) : val_main_v48 (F := Ideal) x3 (ix3 0 y 0) =
    Ideal.div (∑ l : Fin 512, x3 (ix3 0 y l) * x3 (ix3 0 y l)) (Ideal.ofBits .f32 1140850688#32) + Ideal.ofBits .f32 897988541#32 := by
  unfold val_main_v48
  pointwise [val_main_v47, val_main_v46, val_main_v45, val_main_v44, val_main_v43, val_main_v42, val_main_cst_11, val_main_cst_12, val_main_cst_13]

theorem do_at (y : Fin 8192) (l : Fin 512) : val_main_v84 (F := Ideal) x3 x5 x6 x7 (ix3 0 y l) = do' (args x0 x1 x2 x3 x4 x5 x6 x7) y l := by
  unfold val_main_v84
  pointwise [val_main_v83, val_main_v82, val_main_v81, val_main_v80, val_main_v79, val_main_v78, val_main_v77, val_main_v76, val_main_v75, val_main_v74, val_main_v73, val_main_v72, val_main_v71, val_main_v70, val_main_v68, val_main_v67, val_main_v55, val_main_v2, val_main_v52, val_main_v51, val_main_v50, val_main_v49, val_main_cst_14, val_main_cst_17, val_main_cst_18, val_main_cst_19]
  simp only [Fin.sum_univ_one, right_at x0 x1 x2 x3 x4 x5 x6 x7, mms_at]
  exact grad_ref (by norm_num) small n512 c512 half ((args x0 x1 x2 x3 x4 x5 x6 x7).o y) (fun j => cot (args x0 x1 x2 x3 x4 x5 x6 x7) y (rcol j) * (args x0 x1 x2 x3 x4 x5 x6 x7).gm j) l

theorem dlo_at (y : Fin 8192) (l : Fin 512) : val_main_v105 (F := Ideal) x0 x1 x2 x4 x6 x7 (ix3 0 y l) = dlo (args x0 x1 x2 x3 x4 x5 x6 x7) y l := by
  unfold val_main_v105
  pointwise [val_main_v104, val_main_v103, val_main_v102, val_main_v101, val_main_v100, val_main_v99, val_main_v98, val_main_v97, val_main_v96, val_main_v95, val_main_v94, val_main_v93, val_main_v92, val_main_v91, val_main_v89, val_main_v88, val_main_v39, val_main_v1, val_main_v36, val_main_v35, val_main_v34, val_main_v33, val_main_cst_10, val_main_cst_22, val_main_cst_23, val_main_cst_24]
  simp only [Fin.sum_univ_one, left_at x0 x1 x2 x3 x4 x5 x6 x7, lms_at x0 x1 x2 x3 x4 x5 x6 x7, lo_at x0 x1 x2 x3 x4 x5 x6 x7]
  exact grad_ref (by norm_num) small n512 c512 half (lo (args x0 x1 x2 x3 x4 x5 x6 x7) y) (fun j => cot (args x0 x1 x2 x3 x4 x5 x6 x7) y (lcol j) * (args x0 x1 x2 x3 x4 x5 x6 x7).gl j) l

theorem dh_at (y : Fin 8192) (l : Fin 512) : val_main_v123 (F := Ideal) x0 x1 x2 x4 x6 x7 (ix2 y l) = dh (args x0 x1 x2 x3 x4 x5 x6 x7) y l := by
  unfold val_main_v123
  pointwise [val_main_v107]
  rw [dlo_at x0 x1 x2 x3 x4 x5 x6 x7, gate_at]
  rfl

/-- A sum of products of reals is real. -/
theorem cot_coe (hw : ∀ k j, ∃ r : ℝ, (args x0 x1 x2 x3 x4 x5 x6 x7).w k j = (r : EReal)) (hd : ∀ y j, ∃ r : ℝ, (args x0 x1 x2 x3 x4 x5 x6 x7).dx y j = (r : EReal)) (hg : ∀ l, ∃ r : ℝ, (args x0 x1 x2 x3 x4 x5 x6 x7).gl l = (r : EReal))
    (y : Fin 8192) (l : Fin 512) : ∃ r : ℝ, cot (args x0 x1 x2 x3 x4 x5 x6 x7) y (lcol l) * (args x0 x1 x2 x3 x4 x5 x6 x7).gl l = (r : EReal) := by
  obtain ⟨g, eg⟩ := hg l
  choose W eW using hw
  choose D eD using hd
  unfold cot
  rw [Reals.dot_coe (eD y) (eW (lcol l)), eg]
  exact ⟨_, (EReal.coe_mul _ _).symm⟩

theorem dyg_at (hw : ∀ k j, ∃ r : ℝ, (args x0 x1 x2 x3 x4 x5 x6 x7).w k j = (r : EReal)) (hd : ∀ y j, ∃ r : ℝ, (args x0 x1 x2 x3 x4 x5 x6 x7).dx y j = (r : EReal)) (hg : ∀ l, ∃ r : ℝ, (args x0 x1 x2 x3 x4 x5 x6 x7).gl l = (r : EReal))
    (y : Fin 8192) (l : Fin 512) : val_main_v125 (F := Ideal) x0 x1 x2 x4 x6 x7 (ix2 y l) = dyg (args x0 x1 x2 x3 x4 x5 x6 x7) y l := by
  unfold val_main_v125
  pointwise [val_main_v124, val_main_v119, val_main_v118, val_main_v117, val_main_v116, val_main_v115, val_main_v114, val_main_v113, val_main_v112, val_main_v111, val_main_v110, val_main_v109, val_main_v108, val_main_v106, val_main_v23, val_main_v22, val_main_v21, val_main_v20, val_main_v19, val_main_v18, val_main_v17, val_main_v16, val_main_v15, val_main_v8, val_main_v7, val_main_v6, val_main_v3, val_main_v0, val_main_cst, val_main_cst_0, val_main_cst_1, val_main_cst_3, val_main_cst_4, val_main_cst_5, val_main_cst_6, val_main_cst_25, val_main_cst_26]
  rw [dlo_at x0 x1 x2 x3 x4 x5 x6 x7, tan_at, quot_bits]
  obtain ⟨k, hk, ek⟩ := root_bits
  obtain ⟨e, he, ee⟩ := small
  refine (slope_ref (o := 1) EReal.coe_one.symm half_bits hk (c' := 8943 / 200000) (by norm_num) ek rfl (d := ((26829 / 200000 : ℝ) : EReal)) (by norm_num) three_bits
    (x2 (ix3 0 y l)) ((x0 (ix3 0 y l) + x1 (ix3 0 y l)) * dlo (args x0 x1 x2 x3 x4 x5 x6 x7) y l) fun v hv h0 => ?_).trans ?_
  · have h := cot_real (o := 1) EReal.coe_one.symm half_bits (fun i => x0 (ix3 0 y i) + x1 (ix3 0 y i)) (fun i => x2 (ix3 0 y i)) (fun i => cot (args x0 x1 x2 x3 x4 x5 x6 x7) y (lcol i) * (args x0 x1 x2 x3 x4 x5 x6 x7).gl i) l k
      (8943 / 200000) (a := (512 : ℝ)⁻¹) (by norm_num) he (cot_coe x0 x1 x2 x3 x4 x5 x6 x7 hw hd hg y) v hv h0
    rw [← ek, ← ee, ← c512] at h
    exact h
  · rw [mul_comm (x0 (ix3 0 y l) + x1 (ix3 0 y l))]
    rfl

theorem dob_at (y : Fin 8192) (l : Fin 512) : val_main_v127 (F := Ideal) x3 x5 x6 x7 (ix2 y l) = do' (args x0 x1 x2 x3 x4 x5 x6 x7) y l := by
  unfold val_main_v127
  pointwise [val_main_v126]
  exact do_at x0 x1 x2 x3 x4 x5 x6 x7 y l

theorem heads_at (y : Fin 8192) (h : Fin 8) : val_main_v122 (F := Ideal) x3 x5 x6 x7 (ix2 y h) = sums (args x0 x1 x2 x3 x4 x5 x6 x7) y h := by
  unfold val_main_v122
  pointwise [val_main_cst_27]
  unfold sums
  refine Finset.sum_congr rfl fun e _ => ?_
  rw [show val_main_v121 (F := Ideal) x3 x5 x6 x7 (ix3 y h e) = val_main_v120 (F := Ideal) x3 x5 x6 x7 (ix3 0 y (hcol h e)) by
    unfold val_main_v121
    pointwise []
    all_goals exact congrArg (val_main_v120 (F := Ideal) x3 x5 x6 x7) (by unfold hcol; congr 1 <;> exact Fin.ext (by dsimp only; omega))]
  unfold val_main_v120
  pointwise []
  rw [do_at x0 x1 x2 x3 x4 x5 x6 x7]
  rfl

theorem pads_at (y : Fin 8192) (j : Fin 128) : val_main_v129 (F := Ideal) x3 x5 x6 x7 (ix2 y j) = pads (args x0 x1 x2 x3 x4 x5 x6 x7) y j := by
  unfold val_main_v129
  pointwise [val_main_v128, val_main_cst_28]
  unfold pads
  by_cases h : j.val < 8
  · rw [dif_pos h, dif_pos h]
    exact heads_at x0 x1 x2 x3 x4 x5 x6 x7 y _
  · rw [dif_neg h, dif_neg h]

theorem ggl_at (r : Fin 8) (l : Fin 512) : val_main_v132 (F := Ideal) x0 x1 x2 x6 x7 (ix2 r l) = ∑ y : Fin 8192, first (tgl (args x0 x1 x2 x3 x4 x5 x6 x7)) r l y := by
  unfold val_main_v132
  pointwise [val_main_v131, val_main_v130, val_main_v90, val_main_v87, val_main_v86, val_main_v85, val_main_v38, val_main_v37, val_main_v33, val_main_cst_20, val_main_cst_21, val_main_cst_29]
  simp only [Fin.sum_univ_one, left_at x0 x1 x2 x3 x4 x5 x6 x7, lms_at x0 x1 x2 x3 x4 x5 x6 x7, lo_at x0 x1 x2 x3 x4 x5 x6 x7, Nat.lt_one_iff]
  simp only [div_n (N := Ideal.ofBits .f32 1140850688#32) (by norm_num) n512 c512]
  unfold first
  by_cases hr : r.val = 0
  · simp only [hr, if_true, dif_pos]
    exact Finset.sum_congr rfl fun y _ => mul_comm _ _
  · simp only [hr, if_false, dif_neg, not_false_eq_true, Finset.sum_const_zero]

theorem ggm_at (r : Fin 8) (l : Fin 512) : val_main_v135 (F := Ideal) x3 x6 x7 (ix2 r l) = ∑ y : Fin 8192, first (tgm (args x0 x1 x2 x3 x4 x5 x6 x7)) r l y := by
  unfold val_main_v135
  pointwise [val_main_v134, val_main_v133, val_main_v69, val_main_v66, val_main_v65, val_main_v64, val_main_v54, val_main_v53, val_main_v49, val_main_cst_15, val_main_cst_16, val_main_cst_30]
  simp only [Fin.sum_univ_one, right_at x0 x1 x2 x3 x4 x5 x6 x7, mms_at, Nat.lt_one_iff]
  simp only [div_n (N := Ideal.ofBits .f32 1140850688#32) (by norm_num) n512 c512]
  unfold first
  by_cases hr : r.val = 0
  · simp only [hr, if_true, dif_pos]
    exact Finset.sum_congr rfl fun y _ => mul_comm _ _
  · simp only [hr, if_false, dif_neg, not_false_eq_true, Finset.sum_const_zero]

end Cert.MixOutRefIdeal.Closed

end
-- ==== Proof.MixOutClose.lean ====
/- The mixers' output projection, backward: the kernel and its reference leave the same six arrays, where the weight of the
   left norm, the projection and the incoming gradient are finite. -/
module

public import proofs.«01_k».proof.Proof.AttnClose
public import proofs.«01_k».proof.Proof.MixOutValue
public import proofs.«01_k».proof.Proof.MixOutRef
public import proofs.«01_k».proof.Proof.Gen.MixOut
public import proofs.«01_k».proof.Proof.Gen.MixOutRefIdeal.Run
public import Idealize.ShloMosaic.Lib.Claim
public import Idealize.ShloMosaic.Adequacy
public import Idealize.ShloMosaic.Init

@[expose] public section

set_option maxRecDepth 16384

noncomputable section

namespace Cert.MixOutClose

open Idealize.ShloMosaic Idealize.SL.Sem

theorem pre_facts : Cert.Pre_finite_mix.Facts := ⟨by decide, by decide, by decide⟩

instance : Cert.Pre_finite_mix.Facts := pre_facts

theorem ref_frame : Cert.quiescent_MixOutRefIdeal := fun m g _ =>
  (θ_run Cert.MixOutRefIdeal.defs _ _).mono (fun r h => ⟨fun c => (h c).2.2.2.2.2.2, sem_eq_zero_of_no_sems (by decide) r.2⟩)
    (Cert.MixOutRefIdeal.Value.run m g)

theorem preserves : Cert.preserves_MixOut_MixOutIdeal :=
  ⟨IdealRules.named_const.statement Cert.MixOutIdeal.κ "gelu_c" .f32 _ _ rfl, IdealRules.named_const.statement Cert.MixOutIdeal.κ "gelu_3c" .f32 _ _ rfl⟩

theorem algebraic : Cert.algebraic_MixOutIdeal_MixOutRefIdeal_pre_finite_mix := by
  intro m g m' g' hpre hagree
  refine ⟨fun c => (Cert.MixOutIdeal.Gen.dats m 0 c).arrAt 8 Cert.MixOutIdeal.cfg0.N, fun c => (Cert.MixOutIdeal.Gen.dats m 0 c).arrAt 9 Cert.MixOutIdeal.cfg0.N,
    fun c => (Cert.MixOutIdeal.Gen.dats m 0 c).arrAt 10 Cert.MixOutIdeal.cfg0.N, fun c => (Cert.MixOutIdeal.Gen.dats m 0 c).arrAt 11 Cert.MixOutIdeal.cfg0.N,
    fun c => (Cert.MixOutIdeal.Gen.dats m 0 c).arrAt 12 Cert.MixOutIdeal.cfg0.N, fun c => (Cert.MixOutIdeal.Gen.dats m 0 c).arrAt 13 Cert.MixOutIdeal.cfg0.N, ?_, ?_⟩
  · exact Cert.MixOutIdeal.Value.run_blocks m g
  · refine (θ_run Cert.MixOutRefIdeal.defs _ _).mono (fun r h c => ?_) (Cert.MixOutRefIdeal.Value.run m' g')
    obtain ⟨e0, e1, e2, e3, e4, e5, e6, e7⟩ := hagree c
    obtain ⟨p4, p6, p7⟩ := hpre c
    obtain ⟨r0, r1, r2, r3, r4, r5, rest⟩ := h c
    refine ⟨r0.trans ?_, r1.trans ?_, r2.trans ?_, r3.trans ?_, r4.trans ?_, r5.trans ?_, rest⟩
    all_goals clear r0 r1 r2 r3 r4 r5 rest h
    · refine (Cert.MixOutRefIdeal.Read.val_main_v123_eq m' c).trans ?_
      beta_reduce
      rw [e0, e1, e2, e4, e6, e7, Cert.MixOutIdeal.Closed.dh_arr m c]
      funext i
      idx_vars i
      exact Cert.MixOutRefIdeal.Closed.dh_at _ _ _ (m ((c.tc : Thread Cert.MixOutIdeal.nD Cert.MixOutIdeal.τ).loc Cert.MixOutIdeal.main_arg3)) _ (m ((c.tc : Thread Cert.MixOutIdeal.nD Cert.MixOutIdeal.τ).loc Cert.MixOutIdeal.main_arg5)) _ _ _ _
    · refine (Cert.MixOutRefIdeal.Read.val_main_v125_eq m' c).trans ?_
      beta_reduce
      rw [e0, e1, e2, e4, e6, e7, Cert.MixOutIdeal.Closed.dyg_arr m c]
      funext i
      idx_vars i
      exact Cert.MixOutRefIdeal.Closed.dyg_at _ _ _ (m ((c.tc : Thread Cert.MixOutIdeal.nD Cert.MixOutIdeal.τ).loc Cert.MixOutIdeal.main_arg3)) _ (m ((c.tc : Thread Cert.MixOutIdeal.nD Cert.MixOutIdeal.τ).loc Cert.MixOutIdeal.main_arg5)) _ _
        (fun k j => Cert.AttnClose.real_of_pre _ _ p6 _) (fun y j => Cert.AttnClose.real_of_pre _ _ p7 _) (fun l => Cert.AttnClose.real_of_pre _ _ p4 _) _ _
    · refine (Cert.MixOutRefIdeal.Read.val_main_v127_eq m' c).trans ?_
      beta_reduce
      rw [e3, e5, e6, e7, Cert.MixOutIdeal.Closed.do_arr m c]
      funext i
      idx_vars i
      exact Cert.MixOutRefIdeal.Closed.dob_at (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) _ (m ((c.tc : Thread Cert.MixOutIdeal.nD Cert.MixOutIdeal.τ).loc Cert.MixOutIdeal.main_arg4)) _ _ _ _ _
    · refine (Cert.MixOutRefIdeal.Read.val_main_v129_eq m' c).trans ?_
      beta_reduce
      rw [e3, e5, e6, e7, Cert.MixOutIdeal.Closed.sums_arr m c]
      funext i
      idx_vars i
      exact Cert.MixOutRefIdeal.Closed.pads_at (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) _ (m ((c.tc : Thread Cert.MixOutIdeal.nD Cert.MixOutIdeal.τ).loc Cert.MixOutIdeal.main_arg4)) _ _ _ _ _
    · refine (Cert.MixOutRefIdeal.Read.val_main_v132_eq _ _ _ _ _).trans ?_
      beta_reduce
      rw [e0, e1, e2, e6, e7, Cert.MixOutIdeal.Closed.gl_arr m c]
      funext i
      idx_vars i
      exact Cert.MixOutRefIdeal.Closed.ggl_at _ _ _ (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) _ _ _ _
    · refine (Cert.MixOutRefIdeal.Read.val_main_v135_eq _ _ _).trans ?_
      beta_reduce
      rw [e3, e6, e7, Cert.MixOutIdeal.Closed.gm_arr m c]
      funext i
      idx_vars i
      exact Cert.MixOutRefIdeal.Closed.ggm_at (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) _ (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) _ _ _ _

end Cert.MixOutClose
-- ==== Proof.FfnLossSpec.lean ====
/- The loss and the gradients of the ConvFFN's output and gate, written over plain rows and columns. -/
module

public import proofs.«01_k».proof.Proof.Norm
public import proofs.«01_k».proof.Proof.Common
public import proofs.«01_k».proof.Proof.Reals

@[expose] public section

noncomputable section

namespace Cert.FfnLoss

open Idealize.ShloMosaic Cert.Common Cert.Reals

/-- The six arguments. -/
structure Args where
  gu : Fin 8192 → Fin 5632 → EReal
  x : Fin 8192 → Fin 1024 → EReal
  t : Fin 8192 → Fin 1024 → EReal
  cw : Fin 3 → Fin 5632 → EReal
  cb : Fin 5632 → EReal
  w : Fin 2816 → Fin 1024 → EReal

/-- All six arguments are finite. -/
structure Args.Real (A : Args) : Prop where
  gu : ∀ y l, ∃ r : ℝ, A.gu y l = (r : EReal)
  x : ∀ y l, ∃ r : ℝ, A.x y l = (r : EReal)
  t : ∀ y l, ∃ r : ℝ, A.t y l = (r : EReal)
  cw : ∀ y l, ∃ r : ℝ, A.cw y l = (r : EReal)
  cb : ∀ l, ∃ r : ℝ, A.cb l = (r : EReal)
  w : ∀ y l, ∃ r : ℝ, A.w y l = (r : EReal)

/-- A column of the gate's and of the other half. -/
def lcol (l : Fin 2816) : Fin 5632 := ⟨l.val, by omega⟩
def rcol (l : Fin 2816) : Fin 5632 := ⟨2816 + l.val, by omega⟩

/-- The logistic function as the kernel writes it. -/
def lgs (x : EReal) : EReal :=
  Ideal.ofBits .f32 1056964608#32 * Ideal.tanh (Ideal.ofBits .f32 1056964608#32 * x) + Ideal.ofBits .f32 1056964608#32

variable (A : Args)

/-- The depthwise convolution. -/
def conv (y : Fin 8192) (l : Fin 5632) : EReal :=
  A.cb l + A.cw 0 l * prev (fun q => A.gu q l) y + A.cw 1 l * A.gu y l + A.cw 2 l * next (fun q => A.gu q l) y

/-- The gate through its logistic unit, and the product with the other half. -/
def silu (y : Fin 8192) (j : Fin 2816) : EReal := conv A y (lcol j) * lgs (conv A y (lcol j))
def act (y : Fin 8192) (j : Fin 2816) : EReal := silu A y j * conv A y (rcol j)

/-- The output's distance from the target. -/
def err (y : Fin 8192) (k : Fin 1024) : EReal := A.x y k + (∑ j : Fin 2816, act A y j * A.w j k) - A.t y k

/-- The gradients of the output and of the product. -/
def dy (y : Fin 8192) (k : Fin 1024) : EReal := err A y k * Ideal.ofBits .f32 981467136#32
def dact (y : Fin 8192) (j : Fin 2816) : EReal := ∑ k : Fin 1024, dy A y k * A.w j k

/-- The gradients of the two halves. -/
def dg (y : Fin 8192) (j : Fin 2816) : EReal :=
  dact A y j * conv A y (rcol j) * (lgs (conv A y (lcol j)) + silu A y j - silu A y j * lgs (conv A y (lcol j)))
def du (y : Fin 8192) (j : Fin 2816) : EReal := dact A y j * silu A y j

/-- The two halves side by side. -/
def dgu (y : Fin 8192) (l : Fin 5632) : EReal :=
  if h : l.val < 2816 then dg A y ⟨l.val, h⟩ else du A y ⟨l.val - 2816, by omega⟩

/-- The sum of the squares. -/
def loss : EReal := ∑ y : Fin 8192, ∑ k : Fin 1024, err A y k * err A y k

/-! Where the arguments are finite, so is everything. -/

theorem half : Ideal.ofBits .f32 1056964608#32 = ((2⁻¹ : ℝ) : EReal) := by
  simp [Ideal.ofBits, Ideal.ieee, -EReal.coe_mul, -EReal.coe_neg]; norm_num

theorem two : Ideal.ofBits .f32 1073741824#32 = ((2 : ℝ) : EReal) := by
  simp [Ideal.ofBits, Ideal.ieee, -EReal.coe_mul, -EReal.coe_neg]; norm_num

theorem lgs_coe (x : ℝ) : lgs (x : EReal) = ((1 / (1 + Real.exp (-x)) : ℝ) : EReal) := by
  unfold lgs
  rw [half, ← EReal.coe_mul, show Ideal.tanh ((2⁻¹ * x : ℝ) : EReal) = ((Real.tanh (2⁻¹ * x) : ℝ) : EReal) from rfl, ← EReal.coe_mul, ← EReal.coe_add]
  congr 1
  rw [Real.tanh_eq_sinh_div_cosh, Real.sinh_eq, Real.cosh_eq]
  have h1 : Real.exp (-x) = Real.exp (-(2⁻¹ * x)) * Real.exp (-(2⁻¹ * x)) := by rw [← Real.exp_add]; congr 1; ring
  have h2 : Real.exp (2⁻¹ * x) * Real.exp (-(2⁻¹ * x)) = 1 := by rw [← Real.exp_add]; simp
  have p1 : 0 < Real.exp (2⁻¹ * x) := Real.exp_pos _
  have p2 : 0 < Real.exp (-(2⁻¹ * x)) := Real.exp_pos _
  rw [h1]
  generalize Real.exp (2⁻¹ * x) = a at *
  generalize Real.exp (-(2⁻¹ * x)) = b at *
  have : a = 1 / b := by field_simp; linarith
  subst this
  field_simp
  ring

theorem logistic_coe (x : ℝ) : Ideal.logistic (x : EReal) = ((1 / (1 + Real.exp (-x)) : ℝ) : EReal) := by
  unfold Ideal.logistic
  rw [show Ideal.exp (-(x : EReal)) = ((Real.exp (-x) : ℝ) : EReal) from rfl, show (1 : EReal) = ((1 : ℝ) : EReal) from rfl, ← EReal.coe_add,
    div_coe' (by have := Real.exp_pos (-x); linarith)]

/-- The two ways to write the logistic function agree at every finite place. -/
theorem logistic_lgs {x : EReal} (h : ∃ r : ℝ, x = (r : EReal)) : Ideal.logistic x = lgs x := by
  obtain ⟨r, rfl⟩ := h
  rw [logistic_coe, lgs_coe]

theorem real_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) : ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

theorem real_sum {n : Nat} {f : Fin n → EReal} (h : ∀ i, ∃ r : ℝ, f i = (r : EReal)) : ∃ r : ℝ, ∑ i, f i = (r : EReal) := by
  choose g hg using h
  exact ⟨∑ i, g i, by rw [← sum_coe]; exact Finset.sum_congr rfl fun i _ => hg i⟩

theorem real_lgs {x : EReal} (h : ∃ r : ℝ, x = (r : EReal)) : ∃ r : ℝ, lgs x = (r : EReal) := by
  obtain ⟨r, rfl⟩ := h; exact ⟨_, lgs_coe r⟩

variable {A} (h : A.Real)

include h

theorem real_conv (y : Fin 8192) (l : Fin 5632) : ∃ r : ℝ, conv A y l = (r : EReal) := by
  unfold conv
  refine real_add (real_add (real_add (h.cb l) (real_mul (h.cw _ _) ?_)) (real_mul (h.cw _ _) (h.gu _ _))) (real_mul (h.cw _ _) ?_)
  · unfold prev
    by_cases h1 : 1 ≤ y.val
    · rw [if_pos h1]; exact h.gu _ _
    · rw [if_neg h1]; exact ⟨0, rfl⟩
  · unfold next
    by_cases h1 : y.val + 1 < 8192
    · rw [dif_pos h1]; exact h.gu _ _
    · rw [dif_neg h1]; exact ⟨0, rfl⟩

theorem real_silu (y : Fin 8192) (j : Fin 2816) : ∃ r : ℝ, silu A y j = (r : EReal) :=
  real_mul (real_conv h _ _) (real_lgs (real_conv h _ _))

theorem real_err (y : Fin 8192) (k : Fin 1024) : ∃ r : ℝ, err A y k = (r : EReal) :=
  real_sub (real_add (h.x _ _) (real_sum fun j => real_mul (real_mul (real_silu h _ _) (real_conv h _ _)) (h.w _ _))) (h.t _ _)

theorem real_dact (y : Fin 8192) (j : Fin 2816) : ∃ r : ℝ, dact A y j = (r : EReal) :=
  real_sum fun k => real_mul (real_mul (real_err h _ _) ⟨_, Norm.c1024⟩) (h.w _ _)

omit h in
theorem dy_ref {e : EReal} (he : ∃ r : ℝ, e = (r : EReal)) :
    Ideal.div (Ideal.ofBits .f32 1056964608#32) (Ideal.ofBits .f32 1149239296#32) * (Ideal.ofBits .f32 1073741824#32 * e) =
      e * Ideal.ofBits .f32 981467136#32 := by
  obtain ⟨r, rfl⟩ := he
  rw [half, two, Norm.n1024, Norm.c1024, div_coe' (by norm_num), ← EReal.coe_mul, ← EReal.coe_mul, ← EReal.coe_mul]
  congr 1
  ring

/-- The chain rule's sum through the logistic unit. -/
theorem dg_ref (y : Fin 8192) (j : Fin 2816) :
    dact A y j * conv A y (rcol j) * lgs (conv A y (lcol j)) +
        conv A y (lcol j) * (dact A y j * conv A y (rcol j)) * (lgs (conv A y (lcol j)) * (1 - lgs (conv A y (lcol j)))) = dg A y j := by
  unfold dg silu
  obtain ⟨d, hd⟩ := real_dact h y j
  obtain ⟨u, hu⟩ := real_conv h y (rcol j)
  obtain ⟨g, hg⟩ := real_conv h y (lcol j)
  rw [hd, hu, hg]
  obtain ⟨s, hs⟩ := real_lgs ⟨g, rfl⟩
  rw [hs, show (1 : EReal) = ((1 : ℝ) : EReal) from rfl]
  simp only [← EReal.coe_mul, ← EReal.coe_add, ← EReal.coe_sub]
  congr 1
  ring

end Cert.FfnLoss

end
-- ==== Proof.FfnLossValue.lean ====
/- What the kernel's loss and the gradients of the ConvFFN's output and gate leave in its arrays. -/
module

public import proofs.«01_k».proof.Proof.Gen.FfnLossIdeal.Value
public import proofs.«01_k».proof.Proof.Rows
public import proofs.«01_k».proof.Proof.FfnLossSpec

@[expose] public section

set_option maxRecDepth 16384

noncomputable section

namespace Cert.FfnLossIdeal.Closed

open Cert.FfnLossIdeal Cert.FfnLossIdeal.Gen Idealize.ShloMosaic Idealize.ShloMosaic.TcCoe Idealize.SL.Sem Cert.Common Cert.FfnLoss

variable (m : (ℓ : Loc nD τ sig) → Buf (Elt Ideal) ℓ) (c : Dev nD)

/-- The six arguments by row and column. -/
def args : Args where
  gu y l := (m ((c : Thread nD τ).loc main_arg0) : FVec Ideal S1x8192x5632 .f32) (ix3 0 y l)
  x y k := (m ((c : Thread nD τ).loc main_arg1) : FVec Ideal S1x8192x1024 .f32) (ix3 0 y k)
  t y k := (m ((c : Thread nD τ).loc main_arg2) : FVec Ideal S1x8192x1024 .f32) (ix3 0 y k)
  cw k l := (m ((c : Thread nD τ).loc main_arg3) : FVec Ideal S1x3x5632 .f32) (ix3 0 k l)
  cb l := (m ((c : Thread nD τ).loc main_arg4) : FVec Ideal S1x5632 .f32) (ix2 0 l)
  w j k := (m ((c : Thread nD τ).loc main_arg5) : FVec Ideal S1x2816x1024 .f32) (ix3 0 j k)

theorem idx : ∀ t : Fin cfg0.N, win0_0.index t = ![t.val, 0] ∧ win0_1.index t = ![t.val, 0] ∧ win0_2.index t = ![t.val, 0]
    ∧ win0_3.index t = ![32 * t.val - 1, 0] ∧ win0_4.index t = ![min (32 * t.val + 32) 1023, 0] ∧ win0_5.index t = ![0, 0]
    ∧ win0_6.index t = ![0, 0] ∧ win0_7.index t = ![t.val, 0] ∧ win0_8.index t = ![t.val, 0] ∧ win0_9.index t = ![t.val, 0]
    ∧ win0_10.index t = ![t.val, 0] ∧ win0_11.index t = ![0, 0] :=
  (by decide +kernel : ∀ t : Fin grid0.N, _)

theorem coord : ∀ t : Fin cfg0.N, (grid0.coords t 0).val = t.val := (by decide +kernel : ∀ t : Fin grid0.N, _)

/-- The row of the whole array that a point's block row is. -/
def row (t : Fin cfg0.N) (r : Fin 256) : Fin 8192 := ⟨256 * t.val + r.val, by have : t.val < 32 := t.isLt; omega⟩

theorem V5_at (y : Fin 8192) (l : Fin 5632) : V m c main_v5 (ix2 y l) = (args m c).gu y l := by
  simp only [V, hostOps0, hostOps0_1, hostOps0_2, List.flatten_cons, List.flatten_nil, List.append_nil, List.cons_append, List.nil_append]
  entry_read
  pointwise []
  rfl

theorem gu_blk (t : Fin cfg0.N) (r : Fin 256) (l : Fin 5632) : iblk m c 0 t (ix2 r l) = (args m c).gu (row t r) l := by
  rw [← V5_at]; unfold row; blk_ext [iblk, idx t]

theorem x_blk (t : Fin cfg0.N) (r : Fin 256) (k : Fin 1024) : iblk m c 1 t (ix2 r k) = (args m c).x (row t r) k := by
  rw [show iblk m c 1 t (ix2 r k) = V m c main_v6 (ix2 (row t r) k) by unfold row; blk_ext [iblk, idx t]]
  simp only [V, hostOps0, hostOps0_1, hostOps0_2, List.flatten_cons, List.flatten_nil, List.append_nil, List.cons_append, List.nil_append]
  entry_read
  pointwise []
  rfl

theorem t_blk (t : Fin cfg0.N) (r : Fin 256) (k : Fin 1024) : iblk m c 2 t (ix2 r k) = (args m c).t (row t r) k := by
  rw [show iblk m c 2 t (ix2 r k) = V m c main_v7 (ix2 (row t r) k) by unfold row; blk_ext [iblk, idx t]]
  simp only [V, hostOps0, hostOps0_1, hostOps0_2, List.flatten_cons, List.flatten_nil, List.append_nil, List.cons_append, List.nil_append]
  entry_read
  pointwise []
  rfl

theorem w_blk (t : Fin cfg0.N) (r : Fin 2816) (k : Fin 1024) : iblk m c 6 t (ix2 r k) = (args m c).w r k := by
  rw [show iblk m c 6 t (ix2 r k) = V m c main_v9 (ix2 r k) by blk_ext [iblk, idx t]]
  simp only [V, hostOps0, hostOps0_1, hostOps0_2, List.flatten_cons, List.flatten_nil, List.append_nil, List.cons_append, List.nil_append]
  entry_read
  pointwise []
  rfl

theorem cw_at (t : Fin cfg0.N) (k : Fin 8) (k' : Fin 3) (hk : k.val = k'.val) (l : Fin 5632) :
    iblk m c 5 t (ix2 k l) = (args m c).cw k' l := by
  rw [show iblk m c 5 t (ix2 k l) = V m c main_v4 (ix2 k l) by blk_ext [iblk, idx t]]
  simp only [V, hostOps0, hostOps0_1, hostOps0_2, List.flatten_cons, List.flatten_nil, List.append_nil, List.cons_append, List.nil_append]
  entry_read
  simp only [StableHlo.TRef.toBuf, StableHlo.TRef.ofBuf, StableHlo.TRef.of, cast_eq]
  pointwise []
  rw [dif_pos (by omega), dif_pos (by omega)]
  exact congrArg (fun q => (args m c).cw q l) (Fin.ext hk)

theorem cb_at (t : Fin cfg0.N) (l : Fin 5632) : iblk m c 5 t (ix2 3 l) = (args m c).cb l := by
  rw [show iblk m c 5 t (ix2 3 l) = V m c main_v4 (ix2 3 l) by blk_ext [iblk, idx t]]
  simp only [V, hostOps0, hostOps0_1, hostOps0_2, List.flatten_cons, List.flatten_nil, List.append_nil, List.cons_append, List.nil_append]
  entry_read
  simp only [StableHlo.TRef.toBuf, StableHlo.TRef.ofBuf, StableHlo.TRef.of, cast_eq]
  pointwise []
  rfl

theorem prev_blk (t : Fin cfg0.N) (r : Fin 256) (l : Fin 5632) :
    (if h : r.val < 8 then
        if r.val < 1 then if t.val = 0 then (0 : EReal) else iblk m c 3 t (ix2 ⟨(r.val + 8 - 1) % 8, Nat.mod_lt _ (by decide)⟩ l)
        else iblk m c 0 t (ix2 ⟨(r.val + 256 - 1) % 256, Nat.mod_lt _ (by decide)⟩ l)
      else iblk m c 0 t (ix2 ⟨(8 + (r.val - 8) + 256 - 1) % 256, Nat.mod_lt _ (by decide)⟩ l)) =
      prev (fun q => (args m c).gu q l) (row t r) := by
  unfold prev
  have hr : (row t r).val = 256 * t.val + r.val := rfl
  by_cases h1 : r.val < 1
  · rw [dif_pos (by omega), if_pos h1]
    by_cases h2 : t.val = 0
    · rw [if_pos h2, if_neg (by omega)]
    · rw [if_neg h2, if_pos (by omega)]
      refine Eq.trans ?_ (V5_at m c ⟨_, _⟩ l)
      blk_ext [iblk, idx t, row]
  · rw [if_pos (show 1 ≤ (row t r).val by omega)]
    refine Eq.trans ?_ (V5_at m c ⟨_, _⟩ l)
    by_cases h2 : r.val < 8
    · rw [dif_pos h2, if_neg h1]
      blk_ext [iblk, idx t, row]
    · rw [dif_neg h2]
      blk_ext [iblk, idx t, row]

theorem next_blk (t : Fin cfg0.N) (r : Fin 256) (l : Fin 5632) :
    (if h : r.val < 248 then (iblk m c 0 t (ix2 ⟨(r.val + 256 - 255) % 256, Nat.mod_lt _ (by decide)⟩ l) : EReal)
      else if 7 ≤ r.val - 248 then if t.val = 31 then (0 : EReal) else iblk m c 4 t (ix2 ⟨(r.val - 248 + 8 - 7) % 8, Nat.mod_lt _ (by decide)⟩ l)
      else iblk m c 0 t (ix2 ⟨(248 + (r.val - 248) + 256 - 255) % 256, Nat.mod_lt _ (by decide)⟩ l)) =
      next (fun q => (args m c).gu q l) (row t r) := by
  unfold next
  have hr : (row t r).val = 256 * t.val + r.val := rfl
  have ht : t.val < 32 := t.isLt
  by_cases h1 : r.val < 255
  · rw [dif_pos (show (row t r).val + 1 < 8192 by omega)]
    refine Eq.trans ?_ (V5_at m c ⟨_, _⟩ l)
    by_cases h2 : r.val < 248
    · rw [dif_pos h2]
      blk_ext [iblk, idx t, row]
    · rw [dif_neg h2, if_neg (by omega)]
      blk_ext [iblk, idx t, row]
  · rw [dif_neg (show ¬r.val < 248 by omega), if_pos (show 7 ≤ r.val - 248 by omega)]
    by_cases h2 : t.val = 31
    · rw [if_pos h2, dif_neg (by omega)]
    · rw [if_neg h2, dif_pos (show (row t r).val + 1 < 8192 by omega)]
      refine Eq.trans ?_ (V5_at m c ⟨_, _⟩ l)
      blk_ext [iblk, idx t, row]

theorem left_blk (t : Fin cfg0.N) (r : Fin 256) (l : Fin 5632) :
    k0_pay10 (F := Ideal) (grid0.coords t) (iblk m c 0 t) (iblk m c 3 t)
      (View.ld (iblk m c 5 t) (Rect.unit ![3, 0] ![1, 5632] inb_S8x5632_S1x5632_3_0))
      (View.ld (iblk m c 5 t) (Rect.unit ![0, 0] ![1, 5632] inb_S8x5632_S1x5632_0_0))
      (View.ld (iblk m c 5 t) (Rect.unit ![1, 0] ![1, 5632] inb_S8x5632_S1x5632_1_0)) (ix2 r l) =
      (args m c).cb l + (args m c).cw 0 l * prev (fun q => (args m c).gu q l) (row t r) + (args m c).cw 1 l * (args m c).gu (row t r) l := by
  pointwise [k0_pay10, k0_pay8]
  rw [coord t]
  word_cmp
  rw [prev_blk m c t r l, cb_at, cw_at m c t 0 0 rfl l, cw_at m c t 1 1 rfl l, gu_blk]

/-- The convolution's part before the last tap, and the following rows. -/
abbrev K10 (t : Fin cfg0.N) : FVec Ideal S256x5632 .f32 :=
  k0_pay10 (F := Ideal) (grid0.coords t) (iblk m c 0 t) (iblk m c 3 t)
    (View.ld (iblk m c 5 t) (Rect.unit ![3, 0] ![1, 5632] inb_S8x5632_S1x5632_3_0))
    (View.ld (iblk m c 5 t) (Rect.unit ![0, 0] ![1, 5632] inb_S8x5632_S1x5632_0_0))
    (View.ld (iblk m c 5 t) (Rect.unit ![1, 0] ![1, 5632] inb_S8x5632_S1x5632_1_0))
abbrev K9 (t : Fin cfg0.N) : FVec Ideal S8x5632 .f32 := k0_pay9 (F := Ideal) (grid0.coords t) (iblk m c 4 t)
abbrev K2 (t : Fin cfg0.N) : FVec Ideal S1x5632 .f32 := View.ld (iblk m c 5 t) (Rect.unit ![2, 0] ![1, 5632] inb_S8x5632_S1x5632_2_0)

theorem right_blk (t : Fin cfg0.N) (x : FVec Ideal S256x5632 .f32) (r : Fin 256) (l : Fin 5632) :
    k0_pay11 (F := Ideal) (k0_pay8 (iblk m c 0 t)) (k0_pay9 (grid0.coords t) (iblk m c 4 t)) x
      (View.ld (iblk m c 5 t) (Rect.unit ![2, 0] ![1, 5632] inb_S8x5632_S1x5632_2_0)) (ix2 r l) =
      x (ix2 r l) + (args m c).cw 2 l * next (fun q => (args m c).gu q l) (row t r) := by
  pointwise [k0_pay11, k0_pay8, k0_pay9]
  rw [coord t]
  word_cmp
  rw [next_blk m c t r l, cw_at m c t 2 2 rfl l]

theorem conv_blk (t : Fin cfg0.N) (r : Fin 256) (l : Fin 5632) :
    k0_pay11 (F := Ideal) (k0_pay8 (iblk m c 0 t)) (K9 m c t) (K10 m c t) (K2 m c t) (ix2 r l) = conv (args m c) (row t r) l := by
  refine (right_blk m c t (K10 m c t) r l).trans ?_
  rw [show K10 m c t (ix2 r l) = _ from left_blk m c t r l]
  rfl

theorem g_blk (t : Fin cfg0.N) (r : Fin 256) (j : Fin 2816) :
    k0_pay12 (F := Ideal) (k0_pay8 (iblk m c 0 t)) (K9 m c t) (K10 m c t) (K2 m c t) (ix2 r j) = conv (args m c) (row t r) (lcol j) := by
  rw [← conv_blk]
  pointwise [k0_pay12]
  rfl

theorem u_blk (t : Fin cfg0.N) (r : Fin 256) (j : Fin 2816) :
    k0_pay13 (F := Ideal) (k0_pay8 (iblk m c 0 t)) (K9 m c t) (K10 m c t) (K2 m c t) (ix2 r j) = conv (args m c) (row t r) (rcol j) := by
  rw [← conv_blk]
  pointwise [k0_pay13]
  rfl

theorem lgs_blk (t : Fin cfg0.N) (r : Fin 256) (j : Fin 2816) :
    k0_pay14 (F := Ideal) (k0_pay8 (iblk m c 0 t)) (K9 m c t) (K10 m c t) (K2 m c t) (ix2 r j) = lgs (conv (args m c) (row t r) (lcol j)) := by
  pointwise [k0_pay14]
  rw [g_blk]
  rfl

theorem silu_blk (t : Fin cfg0.N) (r : Fin 256) (j : Fin 2816) :
    k0_pay15 (F := Ideal) (k0_pay8 (iblk m c 0 t)) (K9 m c t) (K10 m c t) (K2 m c t) (ix2 r j) = silu (args m c) (row t r) j := by
  pointwise [k0_pay15]
  rw [g_blk, lgs_blk]
  rfl

theorem act_blk (t : Fin cfg0.N) (r : Fin 256) (j : Fin 2816) :
    k0_pay16 (F := Ideal) (k0_pay8 (iblk m c 0 t)) (K9 m c t) (K10 m c t) (K2 m c t) (ix2 r j) = act (args m c) (row t r) j := by
  pointwise [k0_pay16]
  rw [silu_blk, u_blk]
  rfl

/-- The point's activation, error and output gradient. -/
abbrev K16 (t : Fin cfg0.N) : FVec Ideal S256x2816 .bf16 :=
  k0_pay16 (F := Ideal) (k0_pay8 (iblk m c 0 t)) (K9 m c t) (K10 m c t) (K2 m c t)
abbrev K17 (t : Fin cfg0.N) : FVec Ideal S256x1024 .f32 := k0_pay17 (F := Ideal) (iblk m c 1 t) (K16 m c t) (iblk m c 6 t) (iblk m c 2 t)

theorem err_blk (t : Fin cfg0.N) (r : Fin 256) (k : Fin 1024) : K17 m c t (ix2 r k) = err (args m c) (row t r) k := by
  pointwise [k0_pay17]
  simp only [act_blk, x_blk, t_blk, w_blk]
  rfl

theorem dy_blk (t : Fin cfg0.N) (r : Fin 256) (k : Fin 1024) : k0_pay2 (F := Ideal) (K17 m c t) (ix2 r k) = dy (args m c) (row t r) k := by
  pointwise [k0_pay2]
  rw [err_blk]
  rfl

theorem dyb_blk (t : Fin cfg0.N) (r : Fin 256) (k : Fin 1024) : k0_pay3 (F := Ideal) (K17 m c t) (ix2 r k) = dy (args m c) (row t r) k := by
  pointwise [k0_pay3]
  exact dy_blk m c t r k

theorem dact_blk (t : Fin cfg0.N) (r : Fin 256) (j : Fin 2816) :
    k0_pay4 (F := Ideal) (k0_pay3 (K17 m c t)) (iblk m c 6 t) (ix2 r j) = dact (args m c) (row t r) j := by
  pointwise [k0_pay4]
  simp only [dyb_blk, w_blk]
  rfl

theorem dg_blk (t : Fin cfg0.N) (r : Fin 256) (j : Fin 2816) :
    k0_pay5 (F := Ideal) (k0_pay13 (k0_pay8 (iblk m c 0 t)) (K9 m c t) (K10 m c t) (K2 m c t))
      (k0_pay14 (k0_pay8 (iblk m c 0 t)) (K9 m c t) (K10 m c t) (K2 m c t))
      (k0_pay15 (k0_pay8 (iblk m c 0 t)) (K9 m c t) (K10 m c t) (K2 m c t)) (k0_pay3 (K17 m c t)) (iblk m c 6 t) (ix2 r j) =
      dg (args m c) (row t r) j := by
  pointwise [k0_pay5]
  rw [dact_blk, u_blk, lgs_blk, silu_blk]
  rfl

theorem du_blk (t : Fin cfg0.N) (r : Fin 256) (j : Fin 2816) :
    k0_pay6 (F := Ideal) (k0_pay15 (k0_pay8 (iblk m c 0 t)) (K9 m c t) (K10 m c t) (K2 m c t)) (k0_pay3 (K17 m c t)) (iblk m c 6 t) (ix2 r j) =
      du (args m c) (row t r) j := by
  pointwise [k0_pay6]
  rw [dact_blk, silu_blk]
  rfl

theorem dy_arr : (dats m 0 c).arrAt 7 cfg0.N = fun i => dy (args m c) (i 0) (i 1) := by
  refine (dats m 0 c).arrAt_eq_of_covers 7 _ (by decide +kernel) fun t hf y => ?_
  blk_simp
  rw [after0_7]
  idx_vars y
  rw [show ((View.whole main_v10_0).slice (win0_7.rect t)).emb (ix2 y0 y1) = ix2 (row t y0) y1 by unfold row; blk_ext [idx t]]
  by_cases h0 : t.val % 32 = 0
  · rw [outsAt0_A m c t h0]
    frame_out
    exact dy_blk m c t y0 y1
  · rw [outsAt0_B m c t h0]
    frame_out
    exact dy_blk m c t y0 y1

theorem dyb_arr : (dats m 0 c).arrAt 8 cfg0.N = fun i => dy (args m c) (i 0) (i 1) := by
  refine (dats m 0 c).arrAt_eq_of_covers 8 _ (by decide +kernel) fun t hf y => ?_
  blk_simp
  rw [after0_8]
  idx_vars y
  rw [show ((View.whole main_v10_1).slice (win0_8.rect t)).emb (ix2 y0 y1) = ix2 (row t y0) y1 by unfold row; blk_ext [idx t]]
  by_cases h0 : t.val % 32 = 0
  · rw [outsAt0_A m c t h0]
    frame_out
    exact dyb_blk m c t y0 y1
  · rw [outsAt0_B m c t h0]
    frame_out
    exact dyb_blk m c t y0 y1

theorem act_arr : (dats m 0 c).arrAt 9 cfg0.N = fun i => act (args m c) (i 0) (i 1) := by
  refine (dats m 0 c).arrAt_eq_of_covers 9 _ (by decide +kernel) fun t hf y => ?_
  blk_simp
  rw [after0_9]
  idx_vars y
  rw [show ((View.whole main_v10_2).slice (win0_9.rect t)).emb (ix2 y0 y1) = ix2 (row t y0) y1 by unfold row; blk_ext [idx t]]
  by_cases h0 : t.val % 32 = 0
  · rw [outsAt0_A m c t h0]
    frame_out
    exact act_blk m c t y0 y1
  · rw [outsAt0_B m c t h0]
    frame_out
    exact act_blk m c t y0 y1

/-- The two halves as they lie in the block. -/
theorem halves (t : Fin cfg0.N) (r : Fin 256) (l : Fin 5632) :
    View.canon ([⟨Rect.unit ![0, 2816] ![256, 2816] inb_S256x5632_S256x2816_0_2816,
        k0_pay6 (F := Ideal) (k0_pay15 (k0_pay8 (iblk m c 0 t)) (K9 m c t) (K10 m c t) (K2 m c t)) (k0_pay3 (K17 m c t)) (iblk m c 6 t)⟩,
      ⟨Rect.unit ![0, 0] ![256, 2816] inb_S256x5632_S256x2816_0_0,
        k0_pay5 (F := Ideal) (k0_pay13 (k0_pay8 (iblk m c 0 t)) (K9 m c t) (K10 m c t) (K2 m c t))
          (k0_pay14 (k0_pay8 (iblk m c 0 t)) (K9 m c t) (K10 m c t) (K2 m c t))
          (k0_pay15 (k0_pay8 (iblk m c 0 t)) (K9 m c t) (K10 m c t) (K2 m c t)) (k0_pay3 (K17 m c t)) (iblk m c 6 t)⟩] :
        List (View.Piece (Elt Ideal) S256x5632 .bf16)) (ix2 r l) = dgu (args m c) (row t r) l := by
  unfold dgu
  by_cases h : l.val < 2816
  · rw [canon_col_out _ _ _ _ _ r l h, canon_col_in _ _ _ _ _ r l (Nat.zero_le _) h, dif_pos h]
    exact dg_blk m c t r ⟨l.val, h⟩
  · rw [canon_col_in _ _ _ _ _ r l (by omega) (by omega), dif_neg h]
    exact du_blk m c t r ⟨l.val - 2816, by omega⟩

theorem dgu_arr : (dats m 0 c).arrAt 10 cfg0.N = fun i => dgu (args m c) (i 0) (i 1) := by
  refine (dats m 0 c).arrAt_eq_of_covers 10 _ (by decide +kernel) fun t hf y => ?_
  blk_simp
  rw [after0_10]
  idx_vars y
  rw [show ((View.whole main_v10_3).slice (win0_10.rect t)).emb (ix2 y0 y1) = ix2 (row t y0) y1 by unfold row; blk_ext [idx t]]
  by_cases h0 : t.val % 32 = 0
  · rw [outsAt0_A m c t h0]
    frame_out
    exact halves m c t y0 y1
  · rw [outsAt0_B m c t h0]
    frame_out
    exact halves m c t y0 y1

/-- What a row adds to the sum of the squares. -/
def term (q : Fin 8192) : EReal := ∑ k : Fin 1024, err (args m c) q k * err (args m c) q k

theorem add_blk (t : Fin cfg0.N) (y : FVec Ideal S8x128 .f32) (r : Fin 8) (l : Fin 128) :
    k0_pay1 (F := Ideal) (K17 m c t) y (ix2 r l) = y (ix2 r l) + ∑ s : Fin 256, term m c (row t s) := by
  pointwise [k0_pay1]
  simp only [err_blk]
  rfl

theorem loss_B (t : Fin cfg0.N) (h0 : ¬t.val % 32 = 0) (r : Fin 8) (l : Fin 128) :
    (outsAt0 m c t.val t.isLt).2.2.2.2 (ix2 r l) =
      (outsAt0 m c (t.val - 1) (lt_of_le_of_lt (Nat.sub_le ..) t.isLt)).2.2.2.2 (ix2 r l) + ∑ s : Fin 256, term m c (row t s) := by
  rw [outsAt0_B m c t h0]
  frame_out
  exact add_blk m c t _ r l

theorem loss_A (t : Fin cfg0.N) (h0 : t.val % 32 = 0) (r : Fin 8) (l : Fin 128) :
    (outsAt0 m c t.val t.isLt).2.2.2.2 (ix2 r l) = 0 + ∑ s : Fin 256, term m c (row t s) := by
  rw [outsAt0_A m c t h0]
  frame_out
  refine (add_blk m c t _ r l).trans ?_
  pointwise [k0_pay7]

theorem loss_arr : (dats m 0 c).arrAt 11 cfg0.N = fun _ => loss (args m c) := by
  refine (dats m 0 c).arrAt_eq_of_covers 11 _ (by decide +kernel) fun t hf y => ?_
  blk_simp
  rw [after0_11]
  idx_vars y
  refine (Pipeline.eq_sum_fin_of_reset_step_apply_of_flush (fun n h => (outsAt0 m c n h).2.2.2.2) 32 (fun _ => (0 : EReal))
    (fun t _ => ∑ s : Fin 256, term m c (row t s)) (fun t h j => ?_) (fun t h j => ?_) t ((flush0_11 t).mp hf) _).trans ?_
  · idx_vars j
    exact loss_A m c t h j0 j1
  · idx_vars j
    exact loss_B m c t h j0 j1
  · rw [zero_add]
    have hd : t.val / 32 = 0 := Nat.div_eq_of_lt t.isLt
    refine Fin.sum_mul_add_congr fun s k hl => ?_
    exact congrArg (term m c) (Fin.ext (by unfold row; dsimp only; omega))

end Cert.FfnLossIdeal.Closed

end
-- ==== Proof.FfnLossRef.lean ====
module

public import proofs.«01_k».proof.Proof.Gen.FfnLossRefIdeal.Read
public import proofs.«01_k».proof.Proof.FfnLossSpec

@[expose] public section

set_option maxRecDepth 16384

noncomputable section

namespace Cert.FfnLossRefIdeal.Closed

open Cert.FfnLossRefIdeal Cert.FfnLossRefIdeal.Gen Cert.FfnLossRefIdeal.Read Idealize.ShloMosaic Idealize.ShloMosaic.TcCoe Idealize.SL.Sem Cert.Common
  Cert.FfnLoss

/-- The arguments as rows and columns. -/
def args (x0 : FVec Ideal S1x8192x5632 .f32) (x1 x2 : FVec Ideal S1x8192x1024 .f32) (x3 : FVec Ideal S1x3x5632 .f32)
    (x4 : FVec Ideal S1x5632 .f32) (x5 : FVec Ideal S1x2816x1024 .f32) : Args where
  gu y l := x0 (ix3 0 y l)
  x y k := x1 (ix3 0 y k)
  t y k := x2 (ix3 0 y k)
  cw k l := x3 (ix3 0 k l)
  cb l := x4 (ix2 0 l)
  w j k := x5 (ix3 0 j k)

variable (x0 : FVec Ideal S1x8192x5632 .f32) (x1 x2 : FVec Ideal S1x8192x1024 .f32) (x3 : FVec Ideal S1x3x5632 .f32)
  (x4 : FVec Ideal S1x5632 .f32) (x5 : FVec Ideal S1x2816x1024 .f32)

theorem conv_at (r : Fin 8192) (l : Fin 5632) : val_main_v27 (F := Ideal) x0 x3 x4 (ix3 0 r l) = conv (args x0 x1 x2 x3 x4 x5) r l := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  have hp : (if h : r.val < 1 then (0 : EReal) else if h : r.val - 1 < 8192 then x0 (ix3 0 ⟨r.val - 1, h⟩ l) else 0) =
      prev (fun q => x0 (ix3 0 q l)) r := by
    unfold prev
    by_cases h : 1 ≤ r.val
    · rw [dif_neg (by omega), dif_pos (by omega), if_pos h]
    · rw [dif_pos (by omega), if_neg h]
  have hn : (if h : 2 + r.val < 1 then (0 : EReal) else if h : 2 + r.val - 1 < 8192 then x0 (ix3 0 ⟨2 + r.val - 1, h⟩ l) else 0) =
      next (fun q => x0 (ix3 0 q l)) r := by
    unfold next
    rw [dif_neg (by omega)]
    by_cases h : r.val + 1 < 8192
    · rw [dif_pos (by omega), dif_pos h]
      exact congrArg (fun q => x0 (ix3 0 q l)) (Fin.ext (by dsimp only; omega))
    · rw [dif_neg (by omega), dif_neg h]
  rw [hp, hn, add_comm (_ * _) (x4 (ix2 0 l)), mul_comm _ (x3 (ix3 0 0 l)), mul_comm _ (x3 (ix3 0 1 l)), mul_comm _ (x3 (ix3 0 2 l))]
  rfl

variable (h : (args x0 x1 x2 x3 x4 x5).Real)

include h

theorem log_at (r : Fin 8192) (j : Fin 2816) :
    val_main_v30_2 (F := Ideal) x0 x3 x4 (ix3 0 r j) = lgs (conv (args x0 x1 x2 x3 x4 x5) r (lcol j)) := by
  pointwise [val_main_v30_2, val_main_call0_v4, val_main_call0_v3, val_main_call0_v2, val_main_call0_v1, val_main_call0_v0, val_main_call0_cst, val_main_call0_cst_0, val_main_v28]
  rw [conv_at x0 x1 x2 x3 x4 x5]
  exact logistic_lgs (real_conv h _ _)

theorem act_at (r : Fin 8192) (j : Fin 2816) : val_main_v31 (F := Ideal) x0 x3 x4 (ix3 0 r j) = act (args x0 x1 x2 x3 x4 x5) r j := by
  pointwise [val_main_v31, val_main_v30_0, val_main_v28, val_main_v29]
  simp only [conv_at x0 x1 x2 x3 x4 x5, log_at x0 x1 x2 x3 x4 x5 h]
  rfl

theorem err_at (r : Fin 8192) (k : Fin 1024) : val_main_v35 (F := Ideal) x0 x1 x2 x3 x4 x5 (ix3 0 r k) = err (args x0 x1 x2 x3 x4 x5) r k := by
  pointwise [val_main_v35, val_main_v34, val_main_v33, val_main_v32]
  simp only [act_at x0 x1 x2 x3 x4 x5 h]
  rfl

theorem dy_at (r : Fin 8192) (k : Fin 1024) : val_main_v54 (F := Ideal) x0 x1 x2 x3 x4 x5 (ix3 0 r k) = dy (args x0 x1 x2 x3 x4 x5) r k := by
  pointwise [val_main_v54, val_main_v53, val_main_v52, val_main_v51, val_main_v50, val_main_v49, val_main_v38, val_main_v37, val_main_cst_8, val_main_cst_9, val_main_cst_10, val_main_cst_1]
  rw [err_at x0 x1 x2 x3 x4 x5 h]
  exact dy_ref (real_err h r k)

theorem dyb_at (r : Fin 8192) (k : Fin 1024) : val_main_v64 (F := Ideal) x0 x1 x2 x3 x4 x5 (ix2 r k) = dy (args x0 x1 x2 x3 x4 x5) r k := by
  pointwise [val_main_v64, val_main_v63]
  exact dy_at x0 x1 x2 x3 x4 x5 h r k

theorem dyf_at (r : Fin 8192) (k : Fin 1024) : val_main_v62 (F := Ideal) x0 x1 x2 x3 x4 x5 (ix2 r k) = dy (args x0 x1 x2 x3 x4 x5) r k := by
  pointwise [val_main_v62]
  exact dy_at x0 x1 x2 x3 x4 x5 h r k

theorem actb_at (r : Fin 8192) (j : Fin 2816) : val_main_v66 (F := Ideal) x0 x3 x4 (ix2 r j) = act (args x0 x1 x2 x3 x4 x5) r j := by
  pointwise [val_main_v66, val_main_v65]
  exact act_at x0 x1 x2 x3 x4 x5 h r j

theorem dgu_at (r : Fin 8192) (l : Fin 5632) : val_main_v68 (F := Ideal) x0 x1 x2 x3 x4 x5 (ix2 r l) = dgu (args x0 x1 x2 x3 x4 x5) r l := by
  pointwise [val_main_v68, val_main_v67, val_main_v61, val_main_v60, val_main_v59, val_main_v58, val_main_v57, val_main_v56, val_main_v55, val_main_call1_v0, val_main_call1_v1, val_main_call1_v2, val_main_v30_1, val_main_v30_0, val_main_v32, val_main_v28, val_main_v29, val_main_call0_v7, val_main_call0_v6, val_main_call0_cst_1, val_main_cst_11, val_main_cst_12]
  simp only [conv_at x0 x1 x2 x3 x4 x5, log_at x0 x1 x2 x3 x4 x5 h, dy_at x0 x1 x2 x3 x4 x5 h]
  unfold dgu
  by_cases hl : l.val < 2816
  · rw [dif_neg (by omega), dif_pos hl, dif_pos hl, zero_add]
    exact dg_ref h r ⟨l.val, hl⟩
  · rw [dif_pos ⟨by omega, by omega⟩, dif_neg hl, dif_neg hl, add_zero]
    show silu (args x0 x1 x2 x3 x4 x5) r ⟨l.val - 2816, by omega⟩ * dact (args x0 x1 x2 x3 x4 x5) r ⟨l.val - 2816, by omega⟩ = _
    exact mul_comm _ _

theorem loss_at (i : S8x128.Idx) : val_main_v69 (F := Ideal) x0 x1 x2 x3 x4 x5 i = loss (args x0 x1 x2 x3 x4 x5) := by
  pointwise [val_main_v69, val_main_v48, val_main_v45, val_main_cst_7]
  rw [Fin.sum_univ_one]
  exact Finset.sum_congr rfl fun y _ => Finset.sum_congr rfl fun k _ => congrArg₂ (· * ·) (err_at x0 x1 x2 x3 x4 x5 h y k) (err_at x0 x1 x2 x3 x4 x5 h y k)

end Cert.FfnLossRefIdeal.Closed

end
-- ==== Proof.FfnLossClose.lean ====
/- The loss and the gradients of the ConvFFN's output and gate: the kernel and its reference leave the same five arrays,
   where the arguments are finite. -/
module

public import proofs.«01_k».proof.Proof.AttnClose
public import proofs.«01_k».proof.Proof.FfnLossValue
public import proofs.«01_k».proof.Proof.FfnLossRef
public import proofs.«01_k».proof.Proof.Gen.FfnLoss
public import proofs.«01_k».proof.Proof.Gen.FfnLossRefIdeal.Run
public import Idealize.ShloMosaic.Lib.Claim
public import Idealize.ShloMosaic.Adequacy
public import Idealize.ShloMosaic.Init

@[expose] public section

set_option maxRecDepth 16384

noncomputable section

namespace Cert.FfnLossClose

open Idealize.ShloMosaic Idealize.SL.Sem

theorem pre_facts : Cert.Pre_finite_loss.Facts := ⟨by decide, by decide, by decide, by decide, by decide⟩

instance : Cert.Pre_finite_loss.Facts := pre_facts

theorem ref_frame : Cert.quiescent_FfnLossRefIdeal := fun m g _ =>
  (θ_run Cert.FfnLossRefIdeal.defs _ _).mono (fun r h => ⟨fun c => (h c).2.2.2.2.2, sem_eq_zero_of_no_sems (by decide) r.2⟩)
    (Cert.FfnLossRefIdeal.Value.run m g)

theorem preserves : Cert.preserves_FfnLoss_FfnLossIdeal := trivial

theorem algebraic : Cert.algebraic_FfnLossIdeal_FfnLossRefIdeal_pre_finite_loss := by
  intro m g m' g' hpre hagree
  refine ⟨fun c => (Cert.FfnLossIdeal.Gen.dats m 0 c).arrAt 7 Cert.FfnLossIdeal.cfg0.N, fun c => (Cert.FfnLossIdeal.Gen.dats m 0 c).arrAt 8 Cert.FfnLossIdeal.cfg0.N,
    fun c => (Cert.FfnLossIdeal.Gen.dats m 0 c).arrAt 9 Cert.FfnLossIdeal.cfg0.N, fun c => (Cert.FfnLossIdeal.Gen.dats m 0 c).arrAt 10 Cert.FfnLossIdeal.cfg0.N,
    fun c => (Cert.FfnLossIdeal.Gen.dats m 0 c).arrAt 11 Cert.FfnLossIdeal.cfg0.N, ?_, ?_⟩
  · exact Cert.FfnLossIdeal.Value.run_blocks m g
  · refine (θ_run Cert.FfnLossRefIdeal.defs _ _).mono (fun r h c => ?_) (Cert.FfnLossRefIdeal.Value.run m' g')
    obtain ⟨e0, e1, e2, e3, e4, e5⟩ := hagree c
    obtain ⟨p0, p1, p2, p3, p4, p5⟩ := hpre c
    have hr : (Cert.FfnLossIdeal.Closed.args m c).Real :=
      ⟨fun _ _ => Cert.AttnClose.real_of_pre _ _ p0 _, fun _ _ => Cert.AttnClose.real_of_pre _ _ p1 _, fun _ _ => Cert.AttnClose.real_of_pre _ _ p2 _,
        fun _ _ => Cert.AttnClose.real_of_pre _ _ p3 _, fun _ => Cert.AttnClose.real_of_pre _ _ p4 _, fun _ _ => Cert.AttnClose.real_of_pre _ _ p5 _⟩
    obtain ⟨r0, r1, r2, r3, r4, rest⟩ := h c
    refine ⟨r0.trans ?_, r1.trans ?_, r2.trans ?_, r3.trans ?_, r4.trans ?_, rest⟩
    all_goals clear r0 r1 r2 r3 r4 rest h
    · refine (Cert.FfnLossRefIdeal.Read.val_main_v62_eq m' c).trans ?_
      beta_reduce
      rw [e0, e1, e2, e3, e4, e5, Cert.FfnLossIdeal.Closed.dy_arr m c]
      funext i
      idx_vars i
      exact Cert.FfnLossRefIdeal.Closed.dyf_at _ _ _ _ _ _ hr _ _
    · refine (Cert.FfnLossRefIdeal.Read.val_main_v64_eq m' c).trans ?_
      beta_reduce
      rw [e0, e1, e2, e3, e4, e5, Cert.FfnLossIdeal.Closed.dyb_arr m c]
      funext i
      idx_vars i
      exact Cert.FfnLossRefIdeal.Closed.dyb_at _ _ _ _ _ _ hr _ _
    · refine (Cert.FfnLossRefIdeal.Read.val_main_v66_eq m' c).trans ?_
      beta_reduce
      rw [e0, e3, e4, Cert.FfnLossIdeal.Closed.act_arr m c]
      funext i
      idx_vars i
      exact Cert.FfnLossRefIdeal.Closed.actb_at _ (m ((c.tc : Thread Cert.FfnLossIdeal.nD Cert.FfnLossIdeal.τ).loc Cert.FfnLossIdeal.main_arg1))
        (m ((c.tc : Thread Cert.FfnLossIdeal.nD Cert.FfnLossIdeal.τ).loc Cert.FfnLossIdeal.main_arg2)) _ _
        (m ((c.tc : Thread Cert.FfnLossIdeal.nD Cert.FfnLossIdeal.τ).loc Cert.FfnLossIdeal.main_arg5)) hr _ _
    · refine (Cert.FfnLossRefIdeal.Read.val_main_v68_eq m' c).trans ?_
      beta_reduce
      rw [e0, e1, e2, e3, e4, e5, Cert.FfnLossIdeal.Closed.dgu_arr m c]
      funext i
      idx_vars i
      exact Cert.FfnLossRefIdeal.Closed.dgu_at _ _ _ _ _ _ hr _ _
    · refine (Cert.FfnLossRefIdeal.Read.val_main_v69_eq m' c).trans ?_
      refine (congr (congr (congr (congr (congr (congrArg (Cert.FfnLossRefIdeal.Read.val_main_v69 (F := Ideal)) e0) e1) e2) e3) e4) e5).trans ?_
      beta_reduce
      rw [Cert.FfnLossIdeal.Closed.loss_arr m c]
      funext i
      exact Cert.FfnLossRefIdeal.Closed.loss_at _ _ _ _ _ _ hr i

end Cert.FfnLossClose

end
-- ==== Proof.MemAttnSpec.lean ====
/- The memory attention's gradients, written over plain rows, heads and columns. -/
module

public import proofs.«01_k».proof.Proof.Norm

@[expose] public section

noncomputable section

namespace Cert.MemAttn

open Idealize.ShloMosaic Cert.Norm

/-- An input over the root of its mean square is real, whatever the input is. -/
theorem normed_real {n : Nat} (x : Fin n → EReal) {c' : ℝ} (hc : 0 < c') {c e : EReal} (ec : c = (c' : EReal)) (he : ∃ e' : ℝ, 0 < e' ∧ e = (e' : EReal))
    (j : Fin n) : ∃ r : ℝ, x j * rs c e x = (r : EReal) := by
  obtain ⟨e', he', ee⟩ := he
  subst ec ee
  unfold rs
  rcases ms_cases x hc he' with hv | ⟨v, hv, hv'⟩
  · rw [hv]
    exact ⟨0, mul_zero _⟩
  · rw [hv', rsqrt_coe hv]
    have hle : x j * x j ≤ ∑ i, x i * x i := Finset.single_le_sum (f := fun i => x i * x i) (fun i _ => Norm.sq_nonneg (x i)) (Finset.mem_univ j)
    have ht : ∑ i, x i * x i ≠ ⊤ := by
      intro h
      rw [h, EReal.top_mul_coe_of_pos hc] at hv'
      exact absurd hv' (by rw [EReal.top_add_coe]; exact (EReal.coe_ne_top v).symm)
    generalize x j = a at hle ⊢
    induction a with
    | bot => exact absurd (top_le_iff.mp (by rwa [EReal.bot_mul_bot] at hle)) ht
    | top => exact absurd (top_le_iff.mp (by rwa [EReal.top_mul_top] at hle)) ht
    | coe a => exact ⟨_, (EReal.coe_mul _ _).symm⟩

/-- The softmax taken back by the quotient rule is the weight times the centred gradient, whatever the gradient is. -/
theorem quotient {n : Nat} (d : Fin n → EReal) (e : Fin n → ℝ) (he : ∀ i, 0 ≤ e i) {z : ℝ} (hz : 0 < z) (j : Fin n) :
    (Ideal.div (d j) (z : EReal) + -(∑ i, d i * Ideal.div 1 ((z : EReal) * (z : EReal)) * (e i : EReal))) * (e j : EReal) =
      Ideal.div (e j : EReal) (z : EReal) * (d j - ∑ i, d i * Ideal.div (e i : EReal) (z : EReal)) := by
  have hs : ∑ i, d i * Ideal.div 1 ((z : EReal) * (z : EReal)) * (e i : EReal) = (∑ i, d i * Ideal.div (e i : EReal) (z : EReal)) * ((1 / z : ℝ) : EReal) := by
    rw [← sum_mul_real _ (by positivity)]
    refine Finset.sum_congr rfl fun i _ => ?_
    rw [← EReal.coe_mul, ← EReal.coe_one, Reals.div_coe' (mul_pos hz hz).ne', Reals.div_coe' hz.ne', mul_assoc, mul_assoc, ← EReal.coe_mul, ← EReal.coe_mul]
    congr 2
    field_simp
  rw [hs]
  generalize (∑ i, d i * Ideal.div (e i : EReal) (z : EReal)) = S
  rw [Ideal.div_coe hz.ne', Reals.div_coe' hz.ne', ← EReal.neg_mul,
    ← EReal.right_distrib_of_nonneg_of_ne_top (EReal.coe_nonneg.mpr (by positivity)) (EReal.coe_ne_top _), mul_assoc, ← EReal.coe_mul, mul_comm,
    ← sub_eq_add_neg]
  congr 2
  ring

/-- The eight arguments. -/
structure Args where
  x : Fin 8192 → Fin 1024 → EReal
  g : Fin 1024 → EReal
  wq : Fin 1024 → Fin 512 → EReal
  gq : Fin 128 → EReal
  k : Fin 256 → Fin 4 → Fin 128 → EReal
  v : Fin 256 → Fin 4 → Fin 128 → EReal
  wo : Fin 512 → Fin 1024 → EReal
  dx : Fin 8192 → Fin 1024 → EReal

/-- A head's column. -/
def col (h : Fin 4) (j : Fin 128) : Fin 512 := ⟨128 * h.val + j.val, by omega⟩

/-- The head and the place in it of a column. -/
def head (n : Fin 512) : Fin 4 := ⟨n.val / 128, by omega⟩
def lane (n : Fin 512) : Fin 128 := ⟨n.val % 128, by omega⟩

theorem head_col (h : Fin 4) (j : Fin 128) : head (col h j) = h := Fin.ext (by unfold head col; dsimp only; omega)
theorem lane_col (h : Fin 4) (j : Fin 128) : lane (col h j) = j := Fin.ext (by unfold lane col; dsimp only; omega)
theorem col_head (n : Fin 512) : col (head n) (lane n) = n := Fin.ext (by unfold head lane col; dsimp only; omega)

abbrev c1 : EReal := Ideal.ofBits .f32 981467136#32
abbrev c2 : EReal := Ideal.ofBits .f32 1006632960#32
abbrev eps : EReal := Ideal.ofBits .f32 897988541#32
abbrev scale : EReal := Ideal.ofBits .f32 1035273459#32

variable (A : Args)

/-- The normed input, its queries, and the normed queries. -/
def hm (y : Fin 8192) (l : Fin 1024) : EReal := A.x y l * rs c1 eps (A.x y) * A.g l
def qr (y : Fin 8192) (n : Fin 512) : EReal := ∑ l : Fin 1024, hm A y l * A.wq l n
def qh (y : Fin 8192) (h : Fin 4) (j : Fin 128) : EReal := qr A y (col h j)
def qx (y : Fin 8192) (h : Fin 4) (j : Fin 128) : EReal := qh A y h j * rs c2 eps (qh A y h)
def qn (y : Fin 8192) (h : Fin 4) (j : Fin 128) : EReal := qx A y h j * A.gq j

/-- The scores, their maximum, and the weights. -/
def sc (y : Fin 8192) (h : Fin 4) (κ : Fin 256) : EReal := (∑ j : Fin 128, qn A y h j * A.k κ h j) * scale
def top (y : Fin 8192) (h : Fin 4) : EReal := Finset.univ.fold max (⊥ : EReal) (sc A y h)
def ex (y : Fin 8192) (h : Fin 4) (κ : Fin 256) : EReal := Ideal.exp (sc A y h κ - top A y h)
def tot (y : Fin 8192) (h : Fin 4) : EReal := ∑ κ : Fin 256, ex A y h κ
def p (y : Fin 8192) (h : Fin 4) (κ : Fin 256) : EReal := Ideal.div (ex A y h κ) (tot A y h)

/-- The cotangents of the heads' outputs, of the weights and of the scores. -/
def dout (y : Fin 8192) (n : Fin 512) : EReal := ∑ j : Fin 1024, A.dx y j * A.wo n j
def dp (y : Fin 8192) (h : Fin 4) (κ : Fin 256) : EReal := ∑ j : Fin 128, dout A y (col h j) * A.v κ h j
def ds (y : Fin 8192) (h : Fin 4) (κ : Fin 256) : EReal := p A y h κ * (dp A y h κ - ∑ i : Fin 256, dp A y h i * p A y h i) * scale

/-- The results. -/
def dqn (y : Fin 8192) (h : Fin 4) (j : Fin 128) : EReal := ∑ κ : Fin 256, ds A y h κ * A.k κ h j
def dqh (y : Fin 8192) (h : Fin 4) (j : Fin 128) : EReal := grad c2 eps (qh A y h) (fun j => dqn A y h j * A.gq j) j
def dqr (y : Fin 8192) (n : Fin 512) : EReal := dqh A y (head n) (lane n)
def dk (κ : Fin 256) (n : Fin 512) : EReal := ∑ y : Fin 8192, ds A y (head n) κ * qn A y (head n) (lane n)
def dv (κ : Fin 256) (n : Fin 512) : EReal := ∑ y : Fin 8192, p A y (head n) κ * dout A y n
def tq (j : Fin 128) (y : Fin 8192) : EReal := ∑ h : Fin 4, dqn A y h j * qx A y h j
def dhm (y : Fin 8192) (l : Fin 1024) : EReal := ∑ n : Fin 512, dqr A y n * A.wq l n
def tx (l : Fin 1024) (y : Fin 8192) : EReal := dhm A y l * (A.x y l * rs c1 eps (A.x y))
def dx1 (y : Fin 8192) (l : Fin 1024) : EReal := grad c1 eps (A.x y) (fun l => dhm A y l * A.g l) l + A.dx y l

/-- The queries' weight and the keys are real. -/
structure Args.Real : Prop where
  gq : ∀ j, ∃ r : ℝ, A.gq j = (r : EReal)
  k : ∀ κ h j, ∃ r : ℝ, A.k κ h j = (r : EReal)

variable {A}

theorem sc_real (h : A.Real) (y : Fin 8192) (i : Fin 4) (κ : Fin 256) : ∃ r : ℝ, sc A y i κ = (r : EReal) := by
  choose Q hQ using fun j => normed_real (qh A y i) (inv_pos.mpr (by norm_num : (0 : ℝ) < 128)) c128 small j
  choose G hG using h.gq
  choose K hK using h.k κ i
  have hq : ∀ j, qn A y i j = ((Q j * G j : ℝ) : EReal) := fun j => (congrArg₂ (· * ·) (hQ j) (hG j)).trans (EReal.coe_mul _ _).symm
  obtain ⟨s, hs⟩ : ∃ s : ℝ, scale = (s : EReal) := ⟨11863283 * 2 ^ (-27 : ℤ), by simp [Ideal.ofBits, Ideal.ieee, -EReal.coe_mul, -EReal.coe_neg]⟩
  exact ⟨_, (congrArg₂ (· * ·) (Reals.dot_coe hq hK) hs).trans (EReal.coe_mul _ _).symm⟩

/-- The exponentials are positive reals, and so is their sum. -/
theorem ex_real (h : A.Real) (y : Fin 8192) (i : Fin 4) :
    ∃ (f : Fin 256 → ℝ) (z : ℝ), (∀ κ, 0 ≤ f κ) ∧ 0 < z ∧ (∀ κ, ex A y i κ = (f κ : EReal)) ∧ tot A y i = (z : EReal) := by
  choose S hS using sc_real h y i
  obtain ⟨M, hM⟩ := Reals.fold_max_coe S
  have ht : top A y i = (M : EReal) := (congrArg (Finset.univ.fold max (⊥ : EReal)) (funext hS)).trans hM
  have he : ∀ κ, ex A y i κ = (Real.exp (S κ - M) : EReal) := fun κ => congrArg Ideal.exp ((congrArg₂ (· - ·) (hS κ) ht).trans (Reals.sub_coe _ _))
  exact ⟨fun κ => Real.exp (S κ - M), ∑ κ, Real.exp (S κ - M), fun κ => (Real.exp_pos _).le, Finset.sum_pos (fun κ _ => Real.exp_pos _) ⟨0, Finset.mem_univ _⟩,
    he, (Finset.sum_congr rfl fun κ _ => he κ).trans (Reals.sum_coe _)⟩

/-- The scores' cotangent by the quotient rule. -/
theorem ds_ref (h : A.Real) (y : Fin 8192) (i : Fin 4) (κ : Fin 256) :
    (Ideal.div (dp A y i κ) (tot A y i) + -(∑ x : Fin 256, dp A y i x * Ideal.div 1 (tot A y i * tot A y i) * ex A y i x)) * ex A y i κ * scale = ds A y i κ := by
  obtain ⟨f, z, hf, hz, he, ht⟩ := ex_real h y i
  unfold ds p
  rw [ht]
  simp only [he]
  rw [quotient _ f hf hz]

/-- A row whose first entry is a sum over all positions, the others zero. -/
def first {n : Nat} (f : Fin n → Fin 8192 → EReal) (r : Fin 8) (l : Fin n) (y : Fin 8192) : EReal := if r.val = 0 then f l y else 0

end Cert.MemAttn

end
-- ==== Proof.MemAttnPays.lean ====
/- The blocks and payloads of the kernel's gradients of the memory attention, read at one index. -/
module

public import proofs.«01_k».proof.Proof.Gen.MemAttnIdeal.Value
public import proofs.«01_k».proof.Proof.Rows
public import proofs.«01_k».proof.Proof.MemAttnSpec

@[expose] public section

set_option maxRecDepth 16384

noncomputable section

namespace Cert.MemAttnIdeal.Closed

open Cert.MemAttnIdeal Cert.MemAttnIdeal.Gen Idealize.ShloMosaic Idealize.ShloMosaic.TcCoe Idealize.SL.Sem Cert.Common Cert.Norm Cert.MemAttn

variable (m : (ℓ : Loc nD τ sig) → Buf (Elt Ideal) ℓ) (c : Dev nD)

/-- The eight arguments by row, head and column. -/
def args : Args where
  x y l := (m ((c : Thread nD τ).loc main_arg0) : FVec Ideal S1x8192x1024 .f32) (ix3 0 y l)
  g l := (m ((c : Thread nD τ).loc main_arg1) : FVec Ideal S1x1024 .f32) (ix2 0 l)
  wq l n := (m ((c : Thread nD τ).loc main_arg2) : FVec Ideal S1x1024x512 .f32) (ix3 0 l n)
  gq j := (m ((c : Thread nD τ).loc main_arg3) : FVec Ideal S1x128 .f32) (ix2 0 j)
  k κ h j := (m ((c : Thread nD τ).loc main_arg4) : FVec Ideal S1x256x4x128 .f32) (ix4 0 κ h j)
  v κ h j := (m ((c : Thread nD τ).loc main_arg5) : FVec Ideal S1x256x4x128 .f32) (ix4 0 κ h j)
  wo n j := (m ((c : Thread nD τ).loc main_arg6) : FVec Ideal S1x512x1024 .f32) (ix3 0 n j)
  dx y j := (m ((c : Thread nD τ).loc main_arg7) : FVec Ideal S1x8192x1024 .f32) (ix3 0 y j)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0, 0] ∧ win0_9.index t = ![t.val, 0] ∧ win0_10.index t = ![t.val, 0] ∧ win0_11.index t = ![t.val, 0]
    ∧ win0_12.index t = ![t.val, 0] ∧ win0_13.index t = ![0, 0] ∧ win0_14.index t = ![0, 0] ∧ win0_15.index t = ![0, 0] ∧ win0_16.index t = ![0, 0] :=
  (by decide +kernel : ∀ t : Fin grid0.N, _)

/-- The row of the whole array that a point's block row is. -/
def row (t : Fin cfg0.N) (r : Fin 512) : Fin 8192 := ⟨512 * t.val + r.val, by have : t.val < 16 := t.isLt; omega⟩

theorem x_blk (t : Fin cfg0.N) (r : Fin 512) (l : Fin 1024) : iblk m c 0 t (ix2 r l) = (args m c).x (row t r) l := by
  rw [show iblk m c 0 t (ix2 r l) = V m c main_v4 (ix2 (row t r) l) by unfold row; blk_ext [iblk, idx t]]
  simp only [V, hostOps0, List.flatten_cons, List.flatten_nil, List.append_nil, List.cons_append, List.nil_append]
  entry_read
  pointwise []
  rfl

theorem dx_blk (t : Fin cfg0.N) (r : Fin 512) (l : Fin 1024) : iblk m c 1 t (ix2 r l) = (args m c).dx (row t r) l := by
  rw [show iblk m c 1 t (ix2 r l) = V m c main_v5 (ix2 (row t r) l) by unfold row; blk_ext [iblk, idx t]]
  simp only [V, hostOps0, List.flatten_cons, List.flatten_nil, List.append_nil, List.cons_append, List.nil_append]
  entry_read
  pointwise []
  rfl

theorem dxb_blk (t : Fin cfg0.N) (r : Fin 512) (l : Fin 1024) : iblk m c 2 t (ix2 r l) = (args m c).dx (row t r) l := by
  rw [show iblk m c 2 t (ix2 r l) = V m c main_v7 (ix2 (row t r) l) by unfold row; blk_ext [iblk, idx t]]
  simp only [V, hostOps0, List.flatten_cons, List.flatten_nil, List.append_nil, List.cons_append, List.nil_append]
  entry_read
  pointwise []
  rfl

theorem g_blk (t : Fin cfg0.N) (l : Fin 1024) : iblk m c 3 t (ix2 0 l) = (args m c).g l := by
  rw [show iblk m c 3 t (ix2 0 l) = V m c main_v9 (ix2 0 l) by blk_ext [iblk, idx t]]
  simp only [V, hostOps0, List.flatten_cons, List.flatten_nil, List.append_nil, List.cons_append, List.nil_append]
  entry_read
  pointwise []
  rfl

theorem w_blk (t : Fin cfg0.N) (l : Fin 1024) (n : Fin 512) : iblk m c 4 t (ix2 l n) = (args m c).wq l n := by
  rw [show iblk m c 4 t (ix2 l n) = V m c main_v11 (ix2 l n) by blk_ext [iblk, idx t]]
  simp only [V, hostOps0, List.flatten_cons, List.flatten_nil, List.append_nil, List.cons_append, List.nil_append]
  entry_read
  pointwise []
  rfl

theorem gq_blk (t : Fin cfg0.N) (j : Fin 128) : iblk m c 5 t (ix2 0 j) = (args m c).gq j := by
  rw [show iblk m c 5 t (ix2 0 j) = V m c main_v13 (ix2 0 j) by blk_ext [iblk, idx t]]
  simp only [V, hostOps0, List.flatten_cons, List.flatten_nil, List.append_nil, List.cons_append, List.nil_append]
  entry_read
  pointwise []
  rfl

theorem k_blk (t : Fin cfg0.N) (κ : Fin 256) (n : Fin 512) : iblk m c 6 t (ix2 κ n) = (args m c).k κ (head n) (lane n) := by
  rw [show iblk m c 6 t (ix2 κ n) = V m c main_v16 (ix2 κ n) by blk_ext [iblk, idx t]]
  simp only [V, hostOps0, List.flatten_cons, List.flatten_nil, List.append_nil, List.cons_append, List.nil_append]
  entry_read
  pointwise []
  rfl

theorem v_blk (t : Fin cfg0.N) (κ : Fin 256) (n : Fin 512) : iblk m c 7 t (ix2 κ n) = (args m c).v κ (head n) (lane n) := by
  rw [show iblk m c 7 t (ix2 κ n) = V m c main_v19 (ix2 κ n) by blk_ext [iblk, idx t]]
  simp only [V, hostOps0, List.flatten_cons, List.flatten_nil, List.append_nil, List.cons_append, List.nil_append]
  entry_read
  pointwise []
  rfl

/-- A shard of the output weight holds a range of its columns. -/
theorem wo_blk (t : Fin cfg0.N) (s : Fin 4) (n : Fin 512) (j : Fin 256) (q : Fin 1024) (e : q.val = 256 * s.val + j.val) :
    iblk m c 8 t (ix3 s n j) = (args m c).wo n q := by
  rw [show iblk m c 8 t (ix3 s n j) = V m c main_v3 (ix3 s n j) by blk_ext [iblk, idx t]]
  simp only [V, hostOps0, List.flatten_cons, List.flatten_nil, List.append_nil, List.cons_append, List.nil_append]
  entry_read
  pointwise []
  exact congrArg ((args m c).wo n) (Fin.ext (by dsimp only; omega))

theorem ld_k (t : Fin cfg0.N) (h : Fin 4) (b : Nat) (e : b = 128 * h.val)
    (inb : ∀ a, (![0, b] : Fin 2 → Nat) a + (![256, 128] : Fin 2 → Nat) a ≤ S256x512.size a) (κ : Fin 256) (j : Fin 128) :
    View.ld (iblk m c 6 t) (Rect.unit (s := S256x512) ![0, b] ![256, 128] inb) (ix2 κ j) = (args m c).k κ h j := by
  pointwise []
  rw [k_blk]
  subst e
  exact congrArg₂ ((args m c).k κ) (head_col h j) (lane_col h j)

theorem ld_v (t : Fin cfg0.N) (h : Fin 4) (b : Nat) (e : b = 128 * h.val)
    (inb : ∀ a, (![0, b] : Fin 2 → Nat) a + (![256, 128] : Fin 2 → Nat) a ≤ S256x512.size a) (κ : Fin 256) (j : Fin 128) :
    View.ld (iblk m c 7 t) (Rect.unit (s := S256x512) ![0, b] ![256, 128] inb) (ix2 κ j) = (args m c).v κ h j := by
  pointwise []
  rw [v_blk]
  subst e
  exact congrArg₂ ((args m c).v κ) (head_col h j) (lane_col h j)

/-! The queries and the weights. -/

theorem hm_blk (t : Fin cfg0.N) (r : Fin 512) (l : Fin 1024) :
    k0_pay7 (F := Ideal) (iblk m c 0 t) (iblk m c 3 t) (ix2 r l) = hm (args m c) (row t r) l := by
  pointwise [k0_pay7, k0_pay6]
  simp only [x_blk, g_blk]
  rfl

theorem qr_blk (t : Fin cfg0.N) (r : Fin 512) (n : Fin 512) :
    k0_pay8 (F := Ideal) (iblk m c 0 t) (iblk m c 3 t) (iblk m c 4 t) (ix2 r n) = qr (args m c) (row t r) n := by
  pointwise [k0_pay8]
  simp only [hm_blk, w_blk]
  rfl

theorem qr_col (y : Fin 8192) (h : Fin 4) (j : Fin 128) (n : Fin 512) (e : n.val = 128 * h.val + j.val) : qr (args m c) y n = qh (args m c) y h j :=
  congrArg (qr (args m c) y) (Fin.ext e)

theorem q9 (t : Fin cfg0.N) (r : Fin 512) (j : Fin 128) :
    k0_pay9 (F := Ideal) (iblk m c 0 t) (iblk m c 3 t) (iblk m c 4 t) (ix2 r j) = qh (args m c) (row t r) 0 j := by
  pointwise [k0_pay9]
  exact (qr_blk m c t r _).trans (qr_col m c _ 0 j _ (by simp))

section
variable {m c} {t : Fin cfg0.N} {P : FVec Ideal S512x512 .f32} (hP : ∀ r n, P (ix2 r n) = qr (args m c) (row t r) n)
include hP

theorem q13 (r : Fin 512) (j : Fin 128) : k0_pay13 (F := Ideal) P (ix2 r j) = qh (args m c) (row t r) 1 j := by
  pointwise [k0_pay13]
  exact (hP r _).trans (qr_col m c _ 1 j _ rfl)

theorem q17 (r : Fin 512) (j : Fin 128) : k0_pay17 (F := Ideal) P (ix2 r j) = qh (args m c) (row t r) 2 j := by
  pointwise [k0_pay17]
  exact (hP r _).trans (qr_col m c _ 2 j _ rfl)

theorem q21 (r : Fin 512) (j : Fin 128) : k0_pay21 (F := Ideal) P (ix2 r j) = qh (args m c) (row t r) 3 j := by
  pointwise [k0_pay21]
  exact (hP r _).trans (qr_col m c _ 3 j _ rfl)

theorem r14 (r : Fin 512) : k0_pay14 (F := Ideal) P (ix2 r 0) = rs c2 eps (qh (args m c) (row t r) 1) := by
  pointwise [k0_pay14]
  simp only [q13 hP]
  rfl

theorem r22 (r : Fin 512) : k0_pay22 (F := Ideal) P (ix2 r 0) = rs c2 eps (qh (args m c) (row t r) 3) := by
  pointwise [k0_pay22]
  simp only [q21 hP]
  rfl

theorem n15 (r : Fin 512) (j : Fin 128) : k0_pay15 (F := Ideal) P (iblk m c 5 t) (ix2 r j) = qn (args m c) (row t r) 1 j := by
  pointwise [k0_pay15]
  simp only [q13 hP, r14 hP, gq_blk]
  rfl

theorem n23 (r : Fin 512) (j : Fin 128) : k0_pay23 (F := Ideal) P (iblk m c 5 t) (ix2 r j) = qn (args m c) (row t r) 3 j := by
  pointwise [k0_pay23]
  simp only [q21 hP, r22 hP, gq_blk]
  rfl
end

theorem r10 (t : Fin cfg0.N) (r : Fin 512) : k0_pay10 (F := Ideal) (iblk m c 0 t) (iblk m c 3 t) (iblk m c 4 t) (ix2 r 0) = rs c2 eps (qh (args m c) (row t r) 0) := by
  pointwise [k0_pay10]
  simp only [q9]
  rfl

theorem n11 (t : Fin cfg0.N) (r : Fin 512) (j : Fin 128) :
    k0_pay11 (F := Ideal) (iblk m c 0 t) (iblk m c 3 t) (iblk m c 4 t) (iblk m c 5 t) (ix2 r j) = qn (args m c) (row t r) 0 j := by
  pointwise [k0_pay11]
  simp only [q9, r10, gq_blk]
  rfl

section
variable {m c} {t : Fin cfg0.N} {X : FVec Ideal S512x128 .f32} (hX : ∀ r j, X (ix2 r j) = qh (args m c) (row t r) 2 j)
include hX

theorem r18 (r : Fin 512) : k0_pay18 (F := Ideal) X (ix2 r 0) = rs c2 eps (qh (args m c) (row t r) 2) := by
  pointwise [k0_pay18]
  simp only [hX]
  rfl

theorem n19 (r : Fin 512) (j : Fin 128) : k0_pay19 (F := Ideal) X (iblk m c 5 t) (ix2 r j) = qn (args m c) (row t r) 2 j := by
  pointwise [k0_pay19]
  simp only [hX, r18 hX, gq_blk]
  rfl
end

theorem low : Ideal.ofBits .f32 0xFF800000#32 = ⊥ := by simp [Ideal.ofBits, Ideal.ieee]

section
variable {m c} {t : Fin cfg0.N} {K : FVec Ideal S256x128 .bf16}

theorem p12 {N : FVec Ideal S512x128 .bf16} (hN : ∀ r j, N (ix2 r j) = qn (args m c) (row t r) 0 j) (hK : ∀ κ j, K (ix2 κ j) = (args m c).k κ 0 j)
    (r : Fin 512) (κ : Fin 256) : k0_pay12 (F := Ideal) N K (ix2 r κ) = p (args m c) (row t r) 0 κ := by
  pointwise [k0_pay12]
  simp only [hN, hK, low]
  rfl

theorem p16 {P : FVec Ideal S512x512 .f32} (hP : ∀ r n, P (ix2 r n) = qr (args m c) (row t r) n) (hK : ∀ κ j, K (ix2 κ j) = (args m c).k κ 1 j)
    (r : Fin 512) (κ : Fin 256) : k0_pay16 (F := Ideal) P (iblk m c 5 t) K (ix2 r κ) = p (args m c) (row t r) 1 κ := by
  pointwise [k0_pay16]
  simp only [n15 hP, hK, low]
  rfl

theorem p20 {X : FVec Ideal S512x128 .f32} (hX : ∀ r j, X (ix2 r j) = qh (args m c) (row t r) 2 j) (hK : ∀ κ j, K (ix2 κ j) = (args m c).k κ 2 j)
    (r : Fin 512) (κ : Fin 256) : k0_pay20 (F := Ideal) X (iblk m c 5 t) K (ix2 r κ) = p (args m c) (row t r) 2 κ := by
  pointwise [k0_pay20]
  simp only [n19 hX, hK, low]
  rfl

theorem p25 {N : FVec Ideal S512x128 .f32} (hN : ∀ r j, N (ix2 r j) = qn (args m c) (row t r) 3 j) (hK : ∀ κ j, K (ix2 κ j) = (args m c).k κ 3 j)
    (r : Fin 512) (κ : Fin 256) : k0_pay25 (F := Ideal) N K (ix2 r κ) = p (args m c) (row t r) 3 κ := by
  pointwise [k0_pay25, k0_pay24]
  simp only [hN, hK, low]
  rfl
end

/-! The cotangents of the heads' outputs and of the scores. -/

/-- The products with the four shards of the output weight add up to the whole product. -/
theorem dout_blk (t : Fin cfg0.N) (r : Fin 512) (n : Fin 512) :
    k0_pay29 (F := Ideal)
        (k0_pay26 (View.ld (iblk m c 2 t) (Rect.unit ![0, 0] ![512, 256] inb_S512x1024_S512x256_0_0))
          (View.ld (iblk m c 8 t) (Rect.unit ![0, 0, 0] ![1, 512, 256] inb_S4x512x256_S1x512x256_0_0_0))
          (View.ld (iblk m c 2 t) (Rect.unit ![0, 256] ![512, 256] inb_S512x1024_S512x256_0_256))
          (View.ld (iblk m c 8 t) (Rect.unit ![1, 0, 0] ![1, 512, 256] inb_S4x512x256_S1x512x256_1_0_0)))
        (k0_pay27 (View.ld (iblk m c 2 t) (Rect.unit ![0, 512] ![512, 256] inb_S512x1024_S512x256_0_512)))
        (k0_pay28 (View.ld (iblk m c 8 t) (Rect.unit ![2, 0, 0] ![1, 512, 256] inb_S4x512x256_S1x512x256_2_0_0)))
        (View.ld (iblk m c 2 t) (Rect.unit ![0, 768] ![512, 256] inb_S512x1024_S512x256_0_768))
        (View.ld (iblk m c 8 t) (Rect.unit ![3, 0, 0] ![1, 512, 256] inb_S4x512x256_S1x512x256_3_0_0)) (ix2 r n) = dout (args m c) (row t r) n := by
  pointwise [k0_pay29, k0_pay28, k0_pay27, k0_pay26]
  simp only [dxb_blk]
  unfold dout
  rw [Fin.sum_univ_tiles 4 256 rfl]
  rw [Fin.sum_univ_four]
  refine congrArg₂ (· + ·) (congrArg₂ (· + ·) (congrArg₂ (· + ·) ?_ ?_) ?_) ?_
  all_goals
    refine Finset.sum_congr rfl fun k _ => congrArg₂ (· * ·) (congrArg ((args m c).dx (row t r)) (Fin.ext ?_)) (wo_blk m c t _ n k _ ?_)
  all_goals simp

section
variable {m c} {t : Fin cfg0.N} {A1 : FVec Ideal S512x512 .f32} {A2 A3 : FVec Ideal S512x256 .bf16} {A4 : FVec Ideal S512x256 .bf16} {A5 : FVec Ideal S1x512x256 .bf16}
  (hD : ∀ r n, k0_pay29 (F := Ideal) A1 A2 A3 A4 A5 (ix2 r n) = dout (args m c) (row t r) n)
  {W : FVec Ideal S512x256 .f32} (hW : ∀ r κ, W (ix2 r κ) = p (args m c) (row t r) 0 κ)
  {U : FVec Ideal S256x128 .bf16} (hU : ∀ κ j, U (ix2 κ j) = (args m c).v κ 0 j)

include hD in
theorem d30 (r : Fin 512) (j : Fin 128) : k0_pay30 (F := Ideal) A1 A2 A3 A4 A5 (ix2 r j) = dout (args m c) (row t r) (col 0 j) := by
  pointwise [k0_pay30]
  exact (hD r _).trans (congrArg (dout (args m c) (row t r)) (Fin.ext (by simp [col])))

include hD hW hU in
theorem s31 (r : Fin 512) (κ : Fin 256) : k0_pay31 (F := Ideal) W A1 A2 A3 A4 A5 U (ix2 r κ) = ds (args m c) (row t r) 0 κ := by
  pointwise [k0_pay31]
  simp only [d30 hD, hW, hU]
  rfl

include hD hW hU in
theorem b32 {K : FVec Ideal S256x128 .bf16} (hK : ∀ κ j, K (ix2 κ j) = (args m c).k κ 0 j) (r : Fin 512) (j : Fin 128) :
    k0_pay32 (F := Ideal) W A1 A2 A3 A4 A5 U K (ix2 r j) = dqn (args m c) (row t r) 0 j := by
  pointwise [k0_pay32]
  simp only [s31 hD hW hU, hK]
  rfl

include hD hW hU in
theorem k33 {N : FVec Ideal S512x128 .bf16} (hN : ∀ r j, N (ix2 r j) = qn (args m c) (row t r) 0 j) (a : FVec Ideal S256x128 .f32) (κ : Fin 256) (j : Fin 128) :
    k0_pay33 (F := Ideal) N W A1 A2 A3 A4 A5 U a (ix2 κ j) =
      a (ix2 κ j) + ∑ r : Fin 512, ds (args m c) (row t r) 0 κ * qn (args m c) (row t r) 0 j := by
  pointwise [k0_pay33]
  simp only [s31 hD hW hU, hN]

include hD hW in
theorem v34 (a : FVec Ideal S256x128 .f32) (κ : Fin 256) (j : Fin 128) :
    k0_pay34 (F := Ideal) W A1 A2 A3 A4 A5 a (ix2 κ j) =
      a (ix2 κ j) + ∑ r : Fin 512, p (args m c) (row t r) 0 κ * dout (args m c) (row t r) (col 0 j) := by
  pointwise [k0_pay34]
  simp only [d30 hD, hW]
end

section
variable {m c} {t : Fin cfg0.N} {D : FVec Ideal S512x512 .f32} (hD : ∀ r n, D (ix2 r n) = dout (args m c) (row t r) n)
  {W : FVec Ideal S512x256 .f32} {U : FVec Ideal S256x128 .bf16} {B : FVec Ideal S512x128 .bf16} {S : FVec Ideal S512x256 .bf16}

include hD in
theorem d38 (r : Fin 512) (j : Fin 128) : k0_pay38 (F := Ideal) D (ix2 r j) = dout (args m c) (row t r) (col 1 j) := by
  pointwise [k0_pay38]
  exact (hD r _).trans (congrArg (dout (args m c) (row t r)) (Fin.ext rfl))

include hD in
theorem d47 (r : Fin 512) (j : Fin 128) : k0_pay47 (F := Ideal) D (ix2 r j) = dout (args m c) (row t r) (col 2 j) := by
  pointwise [k0_pay47]
  exact (hD r _).trans (congrArg (dout (args m c) (row t r)) (Fin.ext rfl))

include hD in
theorem d57 (r : Fin 512) (j : Fin 128) : k0_pay57 (F := Ideal) D (ix2 r j) = dout (args m c) (row t r) (col 3 j) := by
  pointwise [k0_pay57]
  exact (hD r _).trans (congrArg (dout (args m c) (row t r)) (Fin.ext rfl))

include hD in
theorem s39 (hW : ∀ r κ, W (ix2 r κ) = p (args m c) (row t r) 1 κ) (hU : ∀ κ j, U (ix2 κ j) = (args m c).v κ 1 j) (r : Fin 512) (κ : Fin 256) :
    k0_pay39 (F := Ideal) W D U (ix2 r κ) = ds (args m c) (row t r) 1 κ := by
  pointwise [k0_pay39]
  simp only [d38 hD, hW, hU]
  rfl

include hD in
theorem s48 (hW : ∀ r κ, W (ix2 r κ) = p (args m c) (row t r) 2 κ) (hU : ∀ κ j, U (ix2 κ j) = (args m c).v κ 2 j) (r : Fin 512) (κ : Fin 256) :
    k0_pay48 (F := Ideal) W D U (ix2 r κ) = ds (args m c) (row t r) 2 κ := by
  pointwise [k0_pay48]
  simp only [d47 hD, hW, hU]
  rfl

include hD in
theorem s58 (hW : ∀ r κ, W (ix2 r κ) = p (args m c) (row t r) 3 κ) (hU : ∀ κ j, U (ix2 κ j) = (args m c).v κ 3 j) (r : Fin 512) (κ : Fin 256) :
    k0_pay58 (F := Ideal) W D U (ix2 r κ) = ds (args m c) (row t r) 3 κ := by
  pointwise [k0_pay58]
  simp only [d57 hD, hW, hU]
  rfl

include hD in
theorem b49 (hW : ∀ r κ, W (ix2 r κ) = p (args m c) (row t r) 2 κ) (hU : ∀ κ j, U (ix2 κ j) = (args m c).v κ 2 j)
    {K : FVec Ideal S256x128 .bf16} (hK : ∀ κ j, K (ix2 κ j) = (args m c).k κ 2 j) (r : Fin 512) (j : Fin 128) :
    k0_pay49 (F := Ideal) W D U K (ix2 r j) = dqn (args m c) (row t r) 2 j := by
  pointwise [k0_pay49]
  simp only [s48 hD hW hU, hK]
  rfl

include hD in
theorem b59 (hW : ∀ r κ, W (ix2 r κ) = p (args m c) (row t r) 3 κ) (hU : ∀ κ j, U (ix2 κ j) = (args m c).v κ 3 j)
    {K : FVec Ideal S256x128 .bf16} (hK : ∀ κ j, K (ix2 κ j) = (args m c).k κ 3 j) (r : Fin 512) (j : Fin 128) :
    k0_pay59 (F := Ideal) W D U K (ix2 r j) = dqn (args m c) (row t r) 3 j := by
  pointwise [k0_pay59]
  simp only [s58 hD hW hU, hK]
  rfl

include hD in
theorem k50 (hW : ∀ r κ, W (ix2 r κ) = p (args m c) (row t r) 2 κ) (hU : ∀ κ j, U (ix2 κ j) = (args m c).v κ 2 j)
    {N : FVec Ideal S512x128 .bf16} (hN : ∀ r j, N (ix2 r j) = qn (args m c) (row t r) 2 j) (a : FVec Ideal S256x128 .f32) (κ : Fin 256) (j : Fin 128) :
    k0_pay50 (F := Ideal) N W D U a (ix2 κ j) = a (ix2 κ j) + ∑ r : Fin 512, ds (args m c) (row t r) 2 κ * qn (args m c) (row t r) 2 j := by
  pointwise [k0_pay50]
  simp only [s48 hD hW hU, hN]

include hD in
theorem v51 (hW : ∀ r κ, W (ix2 r κ) = p (args m c) (row t r) 2 κ) (a : FVec Ideal S256x128 .f32) (κ : Fin 256) (j : Fin 128) :
    k0_pay51 (F := Ideal) W D a (ix2 κ j) = a (ix2 κ j) + ∑ r : Fin 512, p (args m c) (row t r) 2 κ * dout (args m c) (row t r) (col 2 j) := by
  pointwise [k0_pay51]
  simp only [d47 hD, hW]

theorem b40 (hS : ∀ r κ, S (ix2 r κ) = ds (args m c) (row t r) 1 κ) {K : FVec Ideal S256x128 .bf16} (hK : ∀ κ j, K (ix2 κ j) = (args m c).k κ 1 j)
    (r : Fin 512) (j : Fin 128) : k0_pay40 (F := Ideal) S K (ix2 r j) = dqn (args m c) (row t r) 1 j := by
  pointwise [k0_pay40]
  simp only [hS, hK]
  rfl

theorem k41 (hS : ∀ r κ, S (ix2 r κ) = ds (args m c) (row t r) 1 κ)
    {N : FVec Ideal S512x128 .bf16} (hN : ∀ r j, N (ix2 r j) = qn (args m c) (row t r) 1 j) (a : FVec Ideal S256x128 .f32) (κ : Fin 256) (j : Fin 128) :
    k0_pay41 (F := Ideal) N S a (ix2 κ j) = a (ix2 κ j) + ∑ r : Fin 512, ds (args m c) (row t r) 1 κ * qn (args m c) (row t r) 1 j := by
  pointwise [k0_pay41]
  simp only [hS, hN]

theorem v42 (hW : ∀ r κ, W (ix2 r κ) = p (args m c) (row t r) 1 κ) (hB : ∀ r j, B (ix2 r j) = dout (args m c) (row t r) (col 1 j))
    (a : FVec Ideal S256x128 .f32) (κ : Fin 256) (j : Fin 128) :
    k0_pay42 (F := Ideal) W B a (ix2 κ j) = a (ix2 κ j) + ∑ r : Fin 512, p (args m c) (row t r) 1 κ * dout (args m c) (row t r) (col 1 j) := by
  pointwise [k0_pay42]
  simp only [hB, hW]

theorem k60 (hS : ∀ r κ, S (ix2 r κ) = ds (args m c) (row t r) 3 κ)
    {N : FVec Ideal S512x128 .f32} (hN : ∀ r j, N (ix2 r j) = qn (args m c) (row t r) 3 j) (a : FVec Ideal S256x128 .f32) (κ : Fin 256) (j : Fin 128) :
    k0_pay60 (F := Ideal) (k0_pay24 N) S a (ix2 κ j) = a (ix2 κ j) + ∑ r : Fin 512, ds (args m c) (row t r) 3 κ * qn (args m c) (row t r) 3 j := by
  pointwise [k0_pay60, k0_pay24]
  simp only [hS, hN]

theorem v61 (hW : ∀ r κ, W (ix2 r κ) = p (args m c) (row t r) 3 κ) (hB : ∀ r j, B (ix2 r j) = dout (args m c) (row t r) (col 3 j))
    (a : FVec Ideal S256x128 .f32) (κ : Fin 256) (j : Fin 128) :
    k0_pay61 (F := Ideal) W B a (ix2 κ j) = a (ix2 κ j) + ∑ r : Fin 512, p (args m c) (row t r) 3 κ * dout (args m c) (row t r) (col 3 j) := by
  pointwise [k0_pay61]
  simp only [hB, hW]
end

/-! The queries' cotangent, back through the norm. -/

section
variable {m c} {t : Fin cfg0.N} {X : FVec Ideal S512x128 .f32} {R : FVec Ideal S512x1 .f32} {T : FVec Ideal S512x128 .f32} {h : Fin 4}
  (hX : ∀ r j, X (ix2 r j) = qh (args m c) (row t r) h j) (hR : ∀ r, R (ix2 r 0) = rs c2 eps (qh (args m c) (row t r) h))
include hX hR

theorem g36 (hT : ∀ r j, T (ix2 r j) = dqn (args m c) (row t r) h j) (a : FVec Ideal S1x128 .f32) (j : Fin 128) :
    k0_pay36 (F := Ideal) X R T a (ix2 0 j) = a (ix2 0 j) + ∑ r : Fin 512, dqn (args m c) (row t r) h j * qx (args m c) (row t r) h j := by
  pointwise [k0_pay36, k0_pay35]
  simp only [hX, hR, hT]
  rfl

theorem h37 (hT : ∀ r j, T (ix2 r j) = dqn (args m c) (row t r) h j) (r : Fin 512) (j : Fin 128) :
    k0_pay37 (F := Ideal) X R T (iblk m c 5 t) (ix2 r j) = dqh (args m c) (row t r) h j := by
  pointwise [k0_pay37, k0_pay35]
  simp only [hX, hR, hT, gq_blk]
  rfl

theorem g63 (hT : ∀ r j, T (ix2 r j) = dqn (args m c) (row t r) h j) (a : FVec Ideal S1x128 .f32) (j : Fin 128) :
    k0_pay63 (F := Ideal) X R T a (ix2 0 j) = a (ix2 0 j) + ∑ r : Fin 512, dqn (args m c) (row t r) h j * qx (args m c) (row t r) h j := by
  pointwise [k0_pay63, k0_pay62]
  simp only [hX, hR, hT]
  rfl

theorem h64 (hT : ∀ r j, T (ix2 r j) = dqn (args m c) (row t r) h j) (r : Fin 512) (j : Fin 128) :
    k0_pay64 (F := Ideal) X R T (iblk m c 5 t) (ix2 r j) = dqh (args m c) (row t r) h j := by
  pointwise [k0_pay64, k0_pay62]
  simp only [hX, hR, hT, gq_blk]
  rfl

theorem g55 (hT : ∀ r j, T (ix2 r j) = dqn (args m c) (row t r) h j) (a : FVec Ideal S1x128 .f32) (j : Fin 128) :
    k0_pay55 (F := Ideal) X T (k0_pay53 R) a (ix2 0 j) = a (ix2 0 j) + ∑ r : Fin 512, dqn (args m c) (row t r) h j * qx (args m c) (row t r) h j := by
  pointwise [k0_pay55, k0_pay54, k0_pay53]
  simp only [hX, hR, hT]
  rfl

theorem h56 (hT : ∀ r j, T (ix2 r j) = dqn (args m c) (row t r) h j) (r : Fin 512) (j : Fin 128) :
    k0_pay56 (F := Ideal) X R T (k0_pay52 (iblk m c 5 t)) (k0_pay53 R) (ix2 r j) = dqh (args m c) (row t r) h j := by
  pointwise [k0_pay56, k0_pay54, k0_pay53, k0_pay52]
  simp only [hX, hR, hT, gq_blk]
  rfl

theorem g45 {S : FVec Ideal S512x256 .bf16} {K : FVec Ideal S256x128 .bf16} (hT : ∀ r j, k0_pay40 (F := Ideal) S K (ix2 r j) = dqn (args m c) (row t r) h j)
    (a : FVec Ideal S1x128 .f32) (j : Fin 128) :
    k0_pay45 (F := Ideal) X R S K a (ix2 0 j) = a (ix2 0 j) + ∑ r : Fin 512, dqn (args m c) (row t r) h j * qx (args m c) (row t r) h j := by
  pointwise [k0_pay45, k0_pay43]
  simp only [hX, hR, hT]
  rfl

theorem h44 {S : FVec Ideal S512x256 .bf16} {K : FVec Ideal S256x128 .bf16} (hT : ∀ r j, k0_pay40 (F := Ideal) S K (ix2 r j) = dqn (args m c) (row t r) h j)
    (r : Fin 512) (j : Fin 128) : k0_pay46 (F := Ideal) (k0_pay44 X R S K (iblk m c 5 t)) (ix2 r j) = dqh (args m c) (row t r) h j := by
  pointwise [k0_pay46, k0_pay44, k0_pay43]
  simp only [hX, hR, hT, gq_blk]
  rfl
end

/-! The input's cotangent, back through the first norm. -/

section
variable {m c} {t : Fin cfg0.N} {Q : FVec Ideal S512x512 .bf16} (hQ : ∀ r n, Q (ix2 r n) = dqr (args m c) (row t r) n)

theorem r66 (r : Fin 512) : k0_pay66 (F := Ideal) (iblk m c 0 t) (ix2 r 0) = rs c1 eps ((args m c).x (row t r)) := by
  pointwise [k0_pay66]
  simp only [x_blk]
  rfl

include hQ in
theorem b65 (r : Fin 512) (l : Fin 1024) : k0_pay65 (F := Ideal) Q (iblk m c 4 t) (ix2 r l) = dhm (args m c) (row t r) l := by
  pointwise [k0_pay65]
  simp only [hQ, w_blk]
  rfl

include hQ in
theorem g68 (a : FVec Ideal S1x1024 .f32) (l : Fin 1024) :
    k0_pay68 (F := Ideal) (k0_pay6 (iblk m c 0 t)) Q (iblk m c 4 t) a (ix2 0 l) = a (ix2 0 l) + ∑ r : Fin 512, tx (args m c) l (row t r) := by
  pointwise [k0_pay68, k0_pay67, k0_pay6]
  simp only [b65 hQ, r66, x_blk]
  rfl

include hQ in
theorem h69 (r : Fin 512) (l : Fin 1024) :
    k0_pay69 (F := Ideal) (k0_pay6 (iblk m c 0 t)) Q (iblk m c 4 t) (iblk m c 3 t) (iblk m c 1 t) (ix2 r l) = dx1 (args m c) (row t r) l := by
  pointwise [k0_pay69, k0_pay67, k0_pay6]
  simp only [b65 hQ, r66, x_blk, g_blk, dx_blk]
  rfl
end

end Cert.MemAttnIdeal.Closed

end
-- ==== Proof.MemAttnValue.lean ====
/- What the kernel's gradients of the memory attention leave in its arrays. -/
module

public import proofs.«01_k».proof.Proof.MemAttnPays

@[expose] public section

set_option maxRecDepth 16384

noncomputable section

namespace Cert.MemAttnIdeal.Closed

open Cert.MemAttnIdeal Cert.MemAttnIdeal.Gen Idealize.ShloMosaic Idealize.ShloMosaic.TcCoe Idealize.SL.Sem Cert.Common Cert.Norm Cert.MemAttn

/-! A buffer written one head's columns at a time. -/

section
variable {Val : EltTy → Type} {e : EltTy} {M : Nat} {sig : RefSig} {κ : Kind} {sp : Space}

theorem emb_head (h : Fin 4) (k : Nat) (ek : k = 128 * h.val)
    (inb : ∀ a, (![0, k] : Fin 2 → Nat) a + (![M, 128] : Fin 2 → Nat) a ≤ (⟨2, ![M, 512]⟩ : Shape).size a) (r : Fin M) (j : Fin 128) :
    (Rect.unit (s := ⟨2, ![M, 512]⟩) ![0, k] ![M, 128] inb).emb (ix2 r j) = ix2 r (col h j) := by
  subst ek
  funext a
  apply Fin.ext
  fin_cases a
  · show 0 + 1 * r.val = r.val; omega
  · show 128 * h.val + 1 * j.val = 128 * h.val + j.val; omega

/-- The last write is to head `h`'s columns. -/
theorem canon_head [∀ e, Nonempty (Val e)] (h : Fin 4) (k : Nat) (ek : k = 128 * h.val)
    (inb : ∀ a, (![0, k] : Fin 2 → Nat) a + (![M, 128] : Fin 2 → Nat) a ≤ (⟨2, ![M, 512]⟩ : Shape).size a)
    (w : (Rect.unit (s := ⟨2, ![M, 512]⟩) ![0, k] ![M, 128] inb).shape.Idx → Val e) (L : List (View.Piece Val ⟨2, ![M, 512]⟩ e)) (r : Fin M) (j : Fin 128) :
    View.canon (⟨Rect.unit (s := ⟨2, ![M, 512]⟩) ![0, k] ![M, 128] inb, w⟩ :: L) (ix2 r (col h j)) = w (ix2 r j) := by
  rw [← emb_head h k ek inb r j, View.canon_cons_emb]

/-- The last write is to another head's columns. -/
theorem canon_other [∀ e, Nonempty (Val e)] (i h : Fin 4) (hi : i ≠ h) (k : Nat) (ek : k = 128 * i.val)
    (inb : ∀ a, (![0, k] : Fin 2 → Nat) a + (![M, 128] : Fin 2 → Nat) a ≤ (⟨2, ![M, 512]⟩ : Shape).size a)
    (w : (Rect.unit (s := ⟨2, ![M, 512]⟩) ![0, k] ![M, 128] inb).shape.Idx → Val e) (L : List (View.Piece Val ⟨2, ![M, 512]⟩ e)) (r : Fin M) (j : Fin 128) :
    View.canon (⟨Rect.unit (s := ⟨2, ![M, 512]⟩) ![0, k] ![M, 128] inb, w⟩ :: L) (ix2 r (col h j)) = View.canon L (ix2 r (col h j)) := by
  refine View.canon_cons_of_not_mem (⟨Rect.unit (s := ⟨2, ![M, 512]⟩) ![0, k] ![M, 128] inb, w⟩ : View.Piece Val ⟨2, ![M, 512]⟩ e) L ?_
  intro hm
  obtain ⟨x, hx, he⟩ := (LoadRect.mem_set _).mp hm (1 : Fin 2)
  have hx' : x < 128 := hx
  have he' : 128 * h.val + j.val = k + 1 * x := he
  exact hi (Fin.ext (by omega))

/-- A load of head `h`'s columns. -/
theorem readCov_head [∀ e, Nonempty (Val e)] (v : View sig κ sp ⟨2, ![M, 512]⟩ e) (L : List (View.Piece Val ⟨2, ![M, 512]⟩ e)) (h : Fin 4) (k : Nat)
    (ek : k = 128 * h.val) (inb : ∀ a, (![0, k] : Fin 2 → Nat) a + (![M, 128] : Fin 2 → Nat) a ≤ (⟨2, ![M, 512]⟩ : Shape).size a) (r : Fin M) (j : Fin 128) :
    v.readCov L (Rect.unit (s := ⟨2, ![M, 512]⟩) ![0, k] ![M, 128] inb).toLoadRect (ix2 r j) = View.canon L (ix2 r (col h j)) := by
  rw [View.readCov_eq_canon']
  exact congrArg (View.canon L) (emb_head h k ek inb r j)

theorem ld_head (f : (⟨2, ![M, 512]⟩ : Shape).Idx → Val e) (h : Fin 4) (k : Nat) (ek : k = 128 * h.val)
    (inb : ∀ a, (![0, k] : Fin 2 → Nat) a + (![M, 128] : Fin 2 → Nat) a ≤ (⟨2, ![M, 512]⟩ : Shape).size a) (r : Fin M) (j : Fin 128) :
    View.ld f (Rect.unit (s := ⟨2, ![M, 512]⟩) ![0, k] ![M, 128] inb) (ix2 r j) = f (ix2 r (col h j)) :=
  congrArg f (emb_head h k ek inb r j)

/-- The four heads' columns written one after another. -/
theorem canon_heads [∀ e, Nonempty (Val e)] (f : Fin M → Fin 4 → Fin 128 → Val e) {i0 i1 i2 i3}
    {w0 : (Rect.unit (s := ⟨2, ![M, 512]⟩) ![0, 0] ![M, 128] i0).shape.Idx → Val e} (h0 : ∀ r j, w0 (ix2 r j) = f r 0 j)
    {w1 : (Rect.unit (s := ⟨2, ![M, 512]⟩) ![0, 128] ![M, 128] i1).shape.Idx → Val e} (h1 : ∀ r j, w1 (ix2 r j) = f r 1 j)
    {w2 : (Rect.unit (s := ⟨2, ![M, 512]⟩) ![0, 256] ![M, 128] i2).shape.Idx → Val e} (h2 : ∀ r j, w2 (ix2 r j) = f r 2 j)
    {w3 : (Rect.unit (s := ⟨2, ![M, 512]⟩) ![0, 384] ![M, 128] i3).shape.Idx → Val e} (h3 : ∀ r j, w3 (ix2 r j) = f r 3 j)
    (L : List (View.Piece Val ⟨2, ![M, 512]⟩ e)) (r : Fin M) (n : Fin 512) :
    View.canon ((⟨Rect.unit ![0, 384] ![M, 128] i3, w3⟩ : View.Piece Val ⟨2, ![M, 512]⟩ e) :: ⟨Rect.unit ![0, 256] ![M, 128] i2, w2⟩ ::
      ⟨Rect.unit ![0, 128] ![M, 128] i1, w1⟩ :: ⟨Rect.unit ![0, 0] ![M, 128] i0, w0⟩ :: L) (ix2 r n) = f r (head n) (lane n) := by
  obtain ⟨h, j, rfl⟩ : ∃ h j, n = col h j := ⟨head n, lane n, (col_head n).symm⟩
  rw [head_col, lane_col]
  by_cases e3 : h = 3
  · subst e3
    exact (canon_head 3 384 rfl _ _ _ r j).trans (h3 r j)
  refine (canon_other 3 h (Ne.symm e3) 384 rfl _ _ _ r j).trans ?_
  by_cases e2 : h = 2
  · subst e2
    exact (canon_head 2 256 rfl _ _ _ r j).trans (h2 r j)
  refine (canon_other 2 h (Ne.symm e2) 256 rfl _ _ _ r j).trans ?_
  by_cases e1 : h = 1
  · subst e1
    exact (canon_head 1 128 rfl _ _ _ r j).trans (h1 r j)
  refine (canon_other 1 h (Ne.symm e1) 128 rfl _ _ _ r j).trans ?_
  obtain rfl : h = 0 := by omega
  exact (canon_head 0 0 rfl _ _ _ r j).trans (h0 r j)
end

variable (m : (ℓ : Loc nD τ sig) → Buf (Elt Ideal) ℓ) (c : Dev nD)

/-! The heads' weights and the cotangents of their scores, at the kernel's own loads. -/

abbrev kb (t : Fin cfg0.N) (k : Nat) (inb : ∀ a, (![0, k] : Fin 2 → Nat) a + (![256, 128] : Fin 2 → Nat) a ≤ S256x512.size a) : FVec Ideal S256x128 .bf16 :=
  View.ld (iblk m c 6 t) (Rect.unit (s := S256x512) ![0, k] ![256, 128] inb)

abbrev vb (t : Fin cfg0.N) (k : Nat) (inb : ∀ a, (![0, k] : Fin 2 → Nat) a + (![256, 128] : Fin 2 → Nat) a ≤ S256x512.size a) : FVec Ideal S256x128 .bf16 :=
  View.ld (iblk m c 7 t) (Rect.unit (s := S256x512) ![0, k] ![256, 128] inb)

abbrev A1 (t : Fin cfg0.N) : FVec Ideal S512x512 .f32 :=
  k0_pay26 (View.ld (iblk m c 2 t) (Rect.unit ![0, 0] ![512, 256] inb_S512x1024_S512x256_0_0))
    (View.ld (iblk m c 8 t) (Rect.unit ![0, 0, 0] ![1, 512, 256] inb_S4x512x256_S1x512x256_0_0_0))
    (View.ld (iblk m c 2 t) (Rect.unit ![0, 256] ![512, 256] inb_S512x1024_S512x256_0_256))
    (View.ld (iblk m c 8 t) (Rect.unit ![1, 0, 0] ![1, 512, 256] inb_S4x512x256_S1x512x256_1_0_0))
abbrev A2 (t : Fin cfg0.N) : FVec Ideal S512x256 .bf16 :=
  k0_pay27 (View.ld (iblk m c 2 t) (Rect.unit ![0, 512] ![512, 256] inb_S512x1024_S512x256_0_512))
abbrev A3 (t : Fin cfg0.N) : FVec Ideal S512x256 .bf16 :=
  k0_pay28 (View.ld (iblk m c 8 t) (Rect.unit ![2, 0, 0] ![1, 512, 256] inb_S4x512x256_S1x512x256_2_0_0))
abbrev A4 (t : Fin cfg0.N) : FVec Ideal S512x256 .bf16 :=
  View.ld (iblk m c 2 t) (Rect.unit ![0, 768] ![512, 256] inb_S512x1024_S512x256_0_768)
abbrev A5 (t : Fin cfg0.N) : FVec Ideal S1x512x256 .bf16 :=
  View.ld (iblk m c 8 t) (Rect.unit ![3, 0, 0] ![1, 512, 256] inb_S4x512x256_S1x512x256_3_0_0)
abbrev D' (t : Fin cfg0.N) : FVec Ideal S512x512 .f32 := k0_pay29 (A1 m c t) (A2 m c t) (A3 m c t) (A4 m c t) (A5 m c t)

abbrev P' (t : Fin cfg0.N) : FVec Ideal S512x512 .f32 := k0_pay8 (iblk m c 0 t) (iblk m c 3 t) (iblk m c 4 t)

theorem w0 (t : Fin cfg0.N) (r : Fin 512) (κ : Fin 256) :
    k0_pay12 (F := Ideal) (k0_pay11 (iblk m c 0 t) (iblk m c 3 t) (iblk m c 4 t) (iblk m c 5 t)) (kb m c t 0 inb_S256x512_S256x128_0_0) (ix2 r κ) =
      p (args m c) (row t r) 0 κ :=
  p12 (n11 m c t) (ld_k m c t 0 0 rfl _) r κ

theorem w1 (t : Fin cfg0.N) (r : Fin 512) (κ : Fin 256) :
    k0_pay16 (F := Ideal) (P' m c t) (iblk m c 5 t) (kb m c t 128 inb_S256x512_S256x128_0_128) (ix2 r κ) = p (args m c) (row t r) 1 κ :=
  p16 (qr_blk m c t) (ld_k m c t 1 128 rfl _) r κ

theorem w2 (t : Fin cfg0.N) (r : Fin 512) (κ : Fin 256) :
    k0_pay20 (F := Ideal) (k0_pay17 (P' m c t)) (iblk m c 5 t) (kb m c t 256 inb_S256x512_S256x128_0_256) (ix2 r κ) = p (args m c) (row t r) 2 κ :=
  p20 (q17 (qr_blk m c t)) (ld_k m c t 2 256 rfl _) r κ

theorem w3 (t : Fin cfg0.N) (r : Fin 512) (κ : Fin 256) :
    k0_pay25 (F := Ideal) (k0_pay23 (P' m c t) (iblk m c 5 t)) (kb m c t 384 inb_S256x512_S256x128_0_384) (ix2 r κ) = p (args m c) (row t r) 3 κ :=
  p25 (n23 (qr_blk m c t)) (ld_k m c t 3 384 rfl _) r κ

/-! The input's cotangent. -/

theorem hm_arr : (dats m 0 c).arrAt 11 cfg0.N = fun i => hm (args m c) (i 0) (i 1) := by
  refine (dats m 0 c).arrAt_eq_of_covers 11 _ (by decide +kernel) fun t hf y => ?_
  blk_simp
  rw [after0_11]
  idx_vars y
  rw [show ((View.whole main_v20_2).slice (win0_11.rect t)).emb (ix2 y0 y1) = ix2 (row t y0) y1 by unfold row; blk_ext [idx t]]
  by_cases h0 : t.val % 16 = 0
  · rw [outsAt0_A m c t h0]
    frame_out
    exact hm_blk m c t _ _
  · rw [outsAt0_B m c t h0]
    frame_out
    exact hm_blk m c t _ _

/-- The queries' cotangent, as the column writes leave it. -/
theorem dq_blk (t : Fin cfg0.N) (r : Fin 512) (n : Fin 512) :
    View.canon
      [(⟨Rect.unit ![0, 384] ![512, 128] inb_S512x512_S512x128_0_384,
          k0_pay64 (F := Ideal) (k0_pay21 (P' m c t)) (k0_pay22 (P' m c t))
            (k0_pay59 (k0_pay25 (k0_pay23 (P' m c t) (iblk m c 5 t)) (kb m c t 384 inb_S256x512_S256x128_0_384)) (D' m c t)
              (vb m c t 384 inb_S256x512_S256x128_0_384) (kb m c t 384 inb_S256x512_S256x128_0_384)) (iblk m c 5 t)⟩ : View.Piece (Elt Ideal) S512x512 .bf16),
        ⟨Rect.unit ![0, 256] ![512, 128] inb_S512x512_S512x128_0_256,
          k0_pay56 (k0_pay17 (P' m c t)) (k0_pay18 (k0_pay17 (P' m c t)))
            (k0_pay49 (k0_pay20 (k0_pay17 (P' m c t)) (iblk m c 5 t) (kb m c t 256 inb_S256x512_S256x128_0_256)) (D' m c t)
              (vb m c t 256 inb_S256x512_S256x128_0_256) (kb m c t 256 inb_S256x512_S256x128_0_256)) (k0_pay52 (iblk m c 5 t))
            (k0_pay53 (k0_pay18 (k0_pay17 (P' m c t))))⟩,
        ⟨Rect.unit ![0, 128] ![512, 128] inb_S512x512_S512x128_0_128,
          k0_pay46 (k0_pay44 (k0_pay13 (P' m c t)) (k0_pay14 (P' m c t))
            (k0_pay39 (k0_pay16 (P' m c t) (iblk m c 5 t) (kb m c t 128 inb_S256x512_S256x128_0_128)) (D' m c t) (vb m c t 128 inb_S256x512_S256x128_0_128))
            (kb m c t 128 inb_S256x512_S256x128_0_128) (iblk m c 5 t))⟩,
        ⟨Rect.unit ![0, 0] ![512, 128] inb_S512x512_S512x128_0_0,
          k0_pay37 (k0_pay9 (iblk m c 0 t) (iblk m c 3 t) (iblk m c 4 t)) (k0_pay10 (iblk m c 0 t) (iblk m c 3 t) (iblk m c 4 t))
            (k0_pay32 (k0_pay12 (k0_pay11 (iblk m c 0 t) (iblk m c 3 t) (iblk m c 4 t) (iblk m c 5 t)) (kb m c t 0 inb_S256x512_S256x128_0_0))
              (A1 m c t) (A2 m c t) (A3 m c t) (A4 m c t) (A5 m c t) (vb m c t 0 inb_S256x512_S256x128_0_0) (kb m c t 0 inb_S256x512_S256x128_0_0))
            (iblk m c 5 t)⟩] (ix2 r n) = dqr (args m c) (row t r) n := by
  refine (canon_heads (fun r h j => dqh (args m c) (row t r) h j) ?_ ?_ ?_ ?_ _ r n).trans rfl
  · exact h37 (q9 m c t) (r10 m c t) (b32 (dout_blk m c t) (w0 m c t) (ld_v m c t 0 0 rfl _) (ld_k m c t 0 0 rfl _))
  · exact h44 (q13 (qr_blk m c t)) (r14 (qr_blk m c t)) (b40 (s39 (dout_blk m c t) (w1 m c t) (ld_v m c t 1 128 rfl _)) (ld_k m c t 1 128 rfl _))
  · exact h56 (q17 (qr_blk m c t)) (r18 (q17 (qr_blk m c t))) (b49 (dout_blk m c t) (w2 m c t) (ld_v m c t 2 256 rfl _) (ld_k m c t 2 256 rfl _))
  · exact h64 (q21 (qr_blk m c t)) (r22 (qr_blk m c t)) (b59 (dout_blk m c t) (w3 m c t) (ld_v m c t 3 384 rfl _) (ld_k m c t 3 384 rfl _))

theorem dqr_out (t : Fin cfg0.N) (r : Fin 512) (n : Fin 512) : (outsAt0 m c t.val t.isLt).2.2.2.1 (ix2 r n) = dqr (args m c) (row t r) n := by
  by_cases h0 : t.val % 16 = 0
  · rw [outsAt0_A m c t h0]
    frame_out
    exact dq_blk m c t r n
  · rw [outsAt0_B m c t h0]
    frame_out
    exact dq_blk m c t r n

theorem dqr_arr : (dats m 0 c).arrAt 12 cfg0.N = fun i => dqr (args m c) (i 0) (i 1) := by
  refine (dats m 0 c).arrAt_eq_of_covers 12 _ (by decide +kernel) fun t hf y => ?_
  blk_simp
  rw [after0_12]
  idx_vars y
  rw [show ((View.whole main_v20_3).slice (win0_12.rect t)).emb (ix2 y0 y1) = ix2 (row t y0) y1 by unfold row; blk_ext [idx t]]
  exact dqr_out m c t y0 y1

theorem dx1_arr : (dats m 0 c).arrAt 9 cfg0.N = fun i => dx1 (args m c) (i 0) (i 1) := by
  refine (dats m 0 c).arrAt_eq_of_covers 9 _ (by decide +kernel) fun t hf y => ?_
  blk_simp
  rw [after0_9]
  idx_vars y
  rw [show ((View.whole main_v20_0).slice (win0_9.rect t)).emb (ix2 y0 y1) = ix2 (row t y0) y1 by unfold row; blk_ext [idx t]]
  by_cases h0 : t.val % 16 = 0
  · rw [outsAt0_A m c t h0]
    frame_out
    exact h69 (fun r n => (readCov_all _ _ _ r n).trans (dq_blk m c t r n)) _ _
  · rw [outsAt0_B m c t h0]
    frame_out
    exact h69 (fun r n => (readCov_all _ _ _ r n).trans (dq_blk m c t r n)) _ _

theorem dx1b_arr : (dats m 0 c).arrAt 10 cfg0.N = fun i => dx1 (args m c) (i 0) (i 1) := by
  refine (dats m 0 c).arrAt_eq_of_covers 10 _ (by decide +kernel) fun t hf y => ?_
  blk_simp
  rw [after0_10]
  idx_vars y
  rw [show ((View.whole main_v20_1).slice (win0_10.rect t)).emb (ix2 y0 y1) = ix2 (row t y0) y1 by unfold row; blk_ext [idx t]]
  by_cases h0 : t.val % 16 = 0
  · rw [outsAt0_A m c t h0]
    frame_out
    pointwise [k0_pay1]
    exact h69 (fun r n => (readCov_all _ _ _ r n).trans (dq_blk m c t r n)) _ _
  · rw [outsAt0_B m c t h0]
    frame_out
    pointwise [k0_pay1]
    exact h69 (fun r n => (readCov_all _ _ _ r n).trans (dq_blk m c t r n)) _ _

/-! The norm weights' gradients. -/

theorem gg_B (t : Fin cfg0.N) (h0 : ¬t.val % 16 = 0) (r : Fin 8) (l : Fin 1024) :
    (outsAt0 m c t.val t.isLt).2.2.2.2.2.2.1 (ix2 r l) =
      (outsAt0 m c (t.val - 1) (lt_of_le_of_lt (Nat.sub_le ..) t.isLt)).2.2.2.2.2.2.1 (ix2 r l) + ∑ s : Fin 512, first (tx (args m c)) r l (row t s) := by
  rw [outsAt0_B m c t h0]
  frame_out
  rw [read_writes_row, View.writes_nil, Memref.IsWhole.read_unread]
  unfold first
  by_cases hr : r.val = 0
  · simp only [if_pos hr]
    refine (g68 (fun r n => (readCov_all _ _ _ r n).trans (dq_blk m c t r n)) _ l).trans (congrArg (· + _) ?_)
    obtain rfl : r = 0 := Fin.ext hr
    pointwise []
  · simp only [if_neg hr, Finset.sum_const_zero, add_zero]

theorem gg_A (t : Fin cfg0.N) (h0 : t.val % 16 = 0) (r : Fin 8) (l : Fin 1024) :
    (outsAt0 m c t.val t.isLt).2.2.2.2.2.2.1 (ix2 r l) = 0 + ∑ s : Fin 512, first (tx (args m c)) r l (row t s) := by
  rw [outsAt0_A m c t h0]
  frame_out
  rw [canon_row, canon_all]
  unfold first
  by_cases hr : r.val = 0
  · simp only [if_pos hr]
    refine (g68 (fun r n => (readCov_all _ _ _ r n).trans (dq_blk m c t r n)) _ l).trans (congrArg (· + _) ?_)
    refine (readCov_row _ _ 0 _ l).trans ((canon_all _ _ _ _ _).trans ?_)
    pointwise [k0_pay4]
  · simp only [if_neg hr, Finset.sum_const_zero]
    pointwise [k0_pay4]

theorem gg_arr : (dats m 0 c).arrAt 15 cfg0.N = fun i => ∑ y : Fin 8192, first (tx (args m c)) (i 0) (i 1) y := by
  refine (dats m 0 c).arrAt_eq_of_covers 15 _ (by decide +kernel) fun t hf y => ?_
  blk_simp
  rw [after0_15]
  idx_vars y
  rw [show ((View.whole main_v20_6).slice (win0_15.rect t)).emb (ix2 y0 y1) = ix2 y0 y1 by blk_ext [idx t]]
  refine (Pipeline.eq_sum_fin_of_reset_step_apply_of_flush (fun n h => (outsAt0 m c n h).2.2.2.2.2.2.1) 16 (fun _ => (0 : EReal))
    (fun t j => ∑ s : Fin 512, first (tx (args m c)) (j 0) (j 1) (row t s)) (fun t h j => ?_) (fun t h j => ?_) t ((flush0_15 t).mp hf) _).trans ?_
  · idx_vars j
    exact gg_A m c t h j0 j1
  · idx_vars j
    exact gg_B m c t h j0 j1
  · rw [zero_add]
    have hd : t.val / 16 = 0 := Nat.div_eq_of_lt t.isLt
    refine Fin.sum_mul_add_congr fun s k hl => ?_
    exact congrArg (first (tx (args m c)) y0 y1) (Fin.ext (by unfold row; dsimp only; omega))

/-- The four heads' shares of the queries' norm weight add up. -/
theorem tq_sum (A : Args) (j : Fin 128) (f : Fin 512 → Fin 8192) (a : EReal) :
    a + (∑ s, dqn A (f s) 0 j * qx A (f s) 0 j) + (∑ s, dqn A (f s) 1 j * qx A (f s) 1 j) + (∑ s, dqn A (f s) 2 j * qx A (f s) 2 j) +
      (∑ s, dqn A (f s) 3 j * qx A (f s) 3 j) = a + ∑ s, tq A j (f s) := by
  unfold tq
  rw [Finset.sum_comm, Fin.sum_univ_four]
  simp only [add_assoc]

theorem ggq_B (t : Fin cfg0.N) (h0 : ¬t.val % 16 = 0) (r : Fin 8) (l : Fin 128) :
    (outsAt0 m c t.val t.isLt).2.2.2.2.2.2.2 (ix2 r l) =
      (outsAt0 m c (t.val - 1) (lt_of_le_of_lt (Nat.sub_le ..) t.isLt)).2.2.2.2.2.2.2 (ix2 r l) + ∑ s : Fin 512, first (tq (args m c)) r l (row t s) := by
  rw [outsAt0_B m c t h0]
  frame_out
  unfold first
  by_cases hr : r.val = 0
  · simp only [if_pos hr]
    rw [← tq_sum (args m c) l (row t)]
    refine ((read_writes_row _ _ _ _ _ _ _ _).trans (if_pos hr)).trans ?_
    refine (g63 (q21 (qr_blk m c t)) (r22 (qr_blk m c t)) (b59 (dout_blk m c t) (w3 m c t) (ld_v m c t 3 384 rfl _) (ld_k m c t 3 384 rfl _)) _ l).trans ?_
    refine congrArg (· + _) ((readCov_row _ _ 0 _ l).trans ?_)
    refine ((canon_row 0 _ _ _ _ _).trans (if_pos rfl)).trans ?_
    refine (g55 (q17 (qr_blk m c t)) (r18 (q17 (qr_blk m c t))) (b49 (dout_blk m c t) (w2 m c t) (ld_v m c t 2 256 rfl _) (ld_k m c t 2 256 rfl _)) _ l).trans ?_
    refine congrArg (· + _) ((readCov_row _ _ 0 _ l).trans ?_)
    refine ((canon_row 0 _ _ _ _ _).trans (if_pos rfl)).trans ?_
    refine (g45 (q13 (qr_blk m c t)) (r14 (qr_blk m c t)) (b40 (s39 (dout_blk m c t) (w1 m c t) (ld_v m c t 1 128 rfl _)) (ld_k m c t 1 128 rfl _)) _ l).trans ?_
    refine congrArg (· + _) ((readCov_row _ _ 0 _ l).trans ?_)
    refine ((canon_row 0 _ _ _ _ _).trans (if_pos rfl)).trans ?_
    refine (g36 (q9 m c t) (r10 m c t) (b32 (dout_blk m c t) (w0 m c t) (ld_v m c t 0 0 rfl _) (ld_k m c t 0 0 rfl _)) _ l).trans (congrArg (· + _) ?_)
    obtain rfl : r = 0 := Fin.ext hr
    pointwise []
  · simp only [if_neg hr, Finset.sum_const_zero, add_zero]
    iterate 4 refine ((read_writes_row _ _ _ _ _ _ _ _).trans (if_neg hr)).trans ?_
    rw [View.writes_nil, Memref.IsWhole.read_unread]

theorem ggq_A (t : Fin cfg0.N) (h0 : t.val % 16 = 0) (r : Fin 8) (l : Fin 128) :
    (outsAt0 m c t.val t.isLt).2.2.2.2.2.2.2 (ix2 r l) = 0 + ∑ s : Fin 512, first (tq (args m c)) r l (row t s) := by
  rw [outsAt0_A m c t h0]
  frame_out
  unfold first
  by_cases hr : r.val = 0
  · simp only [if_pos hr]
    rw [← tq_sum (args m c) l (row t)]
    refine ((canon_row 0 _ _ _ _ _).trans (if_pos hr)).trans ?_
    refine (g63 (q21 (qr_blk m c t)) (r22 (qr_blk m c t)) (b59 (dout_blk m c t) (w3 m c t) (ld_v m c t 3 384 rfl _) (ld_k m c t 3 384 rfl _)) _ l).trans ?_
    refine congrArg (· + _) ((readCov_row _ _ 0 _ l).trans ?_)
    refine ((canon_row 0 _ _ _ _ _).trans (if_pos rfl)).trans ?_
    refine (g55 (q17 (qr_blk m c t)) (r18 (q17 (qr_blk m c t))) (b49 (dout_blk m c t) (w2 m c t) (ld_v m c t 2 256 rfl _) (ld_k m c t 2 256 rfl _)) _ l).trans ?_
    refine congrArg (· + _) ((readCov_row _ _ 0 _ l).trans ?_)
    refine ((canon_row 0 _ _ _ _ _).trans (if_pos rfl)).trans ?_
    refine (g45 (q13 (qr_blk m c t)) (r14 (qr_blk m c t)) (b40 (s39 (dout_blk m c t) (w1 m c t) (ld_v m c t 1 128 rfl _)) (ld_k m c t 1 128 rfl _)) _ l).trans ?_
    refine congrArg (· + _) ((readCov_row _ _ 0 _ l).trans ?_)
    refine ((canon_row 0 _ _ _ _ _).trans (if_pos rfl)).trans ?_
    refine (g36 (q9 m c t) (r10 m c t) (b32 (dout_blk m c t) (w0 m c t) (ld_v m c t 0 0 rfl _) (ld_k m c t 0 0 rfl _)) _ l).trans (congrArg (· + _) ?_)
    refine (readCov_row _ _ 0 _ l).trans ((canon_all _ _ _ _ _).trans ?_)
    pointwise [k0_pay5]
  · simp only [if_neg hr, Finset.sum_const_zero, add_zero]
    iterate 4 refine ((canon_row _ _ _ _ _ _).trans (if_neg hr)).trans ?_
    refine (canon_all _ _ _ _ _).trans ?_
    pointwise [k0_pay5]

theorem ggq_arr : (dats m 0 c).arrAt 16 cfg0.N = fun i => ∑ y : Fin 8192, first (tq (args m c)) (i 0) (i 1) y := by
  refine (dats m 0 c).arrAt_eq_of_covers 16 _ (by decide +kernel) fun t hf y => ?_
  blk_simp
  rw [after0_16]
  idx_vars y
  rw [show ((View.whole main_v20_7).slice (win0_16.rect t)).emb (ix2 y0 y1) = ix2 y0 y1 by blk_ext [idx t]]
  refine (Pipeline.eq_sum_fin_of_reset_step_apply_of_flush (fun n h => (outsAt0 m c n h).2.2.2.2.2.2.2) 16 (fun _ => (0 : EReal))
    (fun t j => ∑ s : Fin 512, first (tq (args m c)) (j 0) (j 1) (row t s)) (fun t h j => ?_) (fun t h j => ?_) t ((flush0_16 t).mp hf) _).trans ?_
  · idx_vars j
    exact ggq_A m c t h j0 j1
  · idx_vars j
    exact ggq_B m c t h j0 j1
  · rw [zero_add]
    have hd : t.val / 16 = 0 := Nat.div_eq_of_lt t.isLt
    refine Fin.sum_mul_add_congr fun s k hl => ?_
    exact congrArg (first (tq (args m c)) y0 y1) (Fin.ext (by unfold row; dsimp only; omega))

/-! The keys' cotangent. -/

def tk (A : Args) (κ : Fin 256) (n : Fin 512) (y : Fin 8192) : EReal := ds A y (head n) κ * qn A y (head n) (lane n)

theorem dk_B (t : Fin cfg0.N) (h0 : ¬t.val % 16 = 0) (κ : Fin 256) (n : Fin 512) :
    (outsAt0 m c t.val t.isLt).2.2.2.2.1 (ix2 κ n) =
      (outsAt0 m c (t.val - 1) (lt_of_le_of_lt (Nat.sub_le ..) t.isLt)).2.2.2.2.1 (ix2 κ n) + ∑ r : Fin 512, tk (args m c) κ n (row t r) := by
  rw [outsAt0_B m c t h0]
  frame_out
  refine (canon_heads (fun κ h j => (outsAt0 m c (t.val - 1) (lt_of_le_of_lt (Nat.sub_le ..) t.isLt)).2.2.2.2.1 (ix2 κ (col h j)) +
      ∑ r : Fin 512, ds (args m c) (row t r) h κ * qn (args m c) (row t r) h j)
    (fun κ j => (k33 (dout_blk m c t) (w0 m c t) (ld_v m c t 0 0 rfl _) (n11 m c t) _ κ j).trans (congrArg (· + _) (ld_head _ 0 0 rfl _ κ j)))
    (fun κ j => (k41 (s39 (dout_blk m c t) (w1 m c t) (ld_v m c t 1 128 rfl _)) (n15 (qr_blk m c t)) _ κ j).trans (congrArg (· + _) (ld_head _ 1 128 rfl _ κ j)))
    (fun κ j => (k50 (dout_blk m c t) (w2 m c t) (ld_v m c t 2 256 rfl _) (n19 (q17 (qr_blk m c t))) _ κ j).trans (congrArg (· + _) (ld_head _ 2 256 rfl _ κ j)))
    (fun κ j => (k60 (s58 (dout_blk m c t) (w3 m c t) (ld_v m c t 3 384 rfl _)) (n23 (qr_blk m c t)) _ κ j).trans (congrArg (· + _) (ld_head _ 3 384 rfl _ κ j)))
    _ κ n).trans ?_
  rw [col_head]
  rfl

theorem dk_A (t : Fin cfg0.N) (h0 : t.val % 16 = 0) (κ : Fin 256) (n : Fin 512) :
    (outsAt0 m c t.val t.isLt).2.2.2.2.1 (ix2 κ n) = 0 + ∑ r : Fin 512, tk (args m c) κ n (row t r) := by
  have hz : ∀ i, k0_pay2 (F := Ideal) i = 0 := fun i => by pointwise [k0_pay2]
  rw [outsAt0_A m c t h0]
  frame_out
  refine (canon_heads (fun κ h j => 0 + ∑ r : Fin 512, ds (args m c) (row t r) h κ * qn (args m c) (row t r) h j)
    (fun κ j => (k33 (dout_blk m c t) (w0 m c t) (ld_v m c t 0 0 rfl _) (n11 m c t) _ κ j).trans (congrArg (· + _)
      ((readCov_head _ _ 0 0 rfl _ κ j).trans ((canon_all _ _ _ _ _).trans (hz _)))))
    (fun κ j => (k41 (s39 (dout_blk m c t) (w1 m c t) (ld_v m c t 1 128 rfl _)) (n15 (qr_blk m c t)) _ κ j).trans (congrArg (· + _)
      ((readCov_head _ _ 1 128 rfl _ κ j).trans ((canon_other 0 1 (by decide) 0 rfl _ _ _ κ j).trans ((canon_all _ _ _ _ _).trans (hz _))))))
    (fun κ j => (k50 (dout_blk m c t) (w2 m c t) (ld_v m c t 2 256 rfl _) (n19 (q17 (qr_blk m c t))) _ κ j).trans (congrArg (· + _)
      ((readCov_head _ _ 2 256 rfl _ κ j).trans ((canon_other 1 2 (by decide) 128 rfl _ _ _ κ j).trans ((canon_other 0 2 (by decide) 0 rfl _ _ _ κ j).trans
        ((canon_all _ _ _ _ _).trans (hz _)))))))
    (fun κ j => (k60 (s58 (dout_blk m c t) (w3 m c t) (ld_v m c t 3 384 rfl _)) (n23 (qr_blk m c t)) _ κ j).trans (congrArg (· + _)
      ((readCov_head _ _ 3 384 rfl _ κ j).trans ((canon_other 2 3 (by decide) 256 rfl _ _ _ κ j).trans ((canon_other 1 3 (by decide) 128 rfl _ _ _ κ j).trans
        ((canon_other 0 3 (by decide) 0 rfl _ _ _ κ j).trans ((canon_all _ _ _ _ _).trans (hz _))))))))
    _ κ n).trans ?_
  rfl

theorem dk_arr : (dats m 0 c).arrAt 13 cfg0.N = fun i => dk (args m c) (i 0) (i 1) := by
  refine (dats m 0 c).arrAt_eq_of_covers 13 _ (by decide +kernel) fun t hf y => ?_
  blk_simp
  rw [after0_13]
  idx_vars y
  rw [show ((View.whole main_v20_4).slice (win0_13.rect t)).emb (ix2 y0 y1) = ix2 y0 y1 by blk_ext [idx t]]
  refine (Pipeline.eq_sum_fin_of_reset_step_apply_of_flush (fun n h => (outsAt0 m c n h).2.2.2.2.1) 16 (fun _ => (0 : EReal))
    (fun t j => ∑ s : Fin 512, tk (args m c) (j 0) (j 1) (row t s)) (fun t h j => ?_) (fun t h j => ?_) t ((flush0_13 t).mp hf) _).trans ?_
  · idx_vars j
    exact dk_A m c t h j0 j1
  · idx_vars j
    exact dk_B m c t h j0 j1
  · rw [zero_add]
    have hd : t.val / 16 = 0 := Nat.div_eq_of_lt t.isLt
    refine Fin.sum_mul_add_congr fun s k hl => ?_
    exact congrArg (tk (args m c) y0 y1) (Fin.ext (by unfold row; dsimp only; omega))

/-! The values' cotangent. -/

def tv (A : Args) (κ : Fin 256) (n : Fin 512) (y : Fin 8192) : EReal := p A y (head n) κ * dout A y n

theorem dv_B (t : Fin cfg0.N) (h0 : ¬t.val % 16 = 0) (κ : Fin 256) (n : Fin 512) :
    (outsAt0 m c t.val t.isLt).2.2.2.2.2.1 (ix2 κ n) =
      (outsAt0 m c (t.val - 1) (lt_of_le_of_lt (Nat.sub_le ..) t.isLt)).2.2.2.2.2.1 (ix2 κ n) + ∑ r : Fin 512, tv (args m c) κ n (row t r) := by
  rw [outsAt0_B m c t h0]
  frame_out
  refine (canon_heads (fun κ h j => (outsAt0 m c (t.val - 1) (lt_of_le_of_lt (Nat.sub_le ..) t.isLt)).2.2.2.2.2.1 (ix2 κ (col h j)) +
      ∑ r : Fin 512, p (args m c) (row t r) h κ * dout (args m c) (row t r) (col h j))
    (fun κ j => (v34 (dout_blk m c t) (w0 m c t) _ κ j).trans (congrArg (· + _) (ld_head _ 0 0 rfl _ κ j)))
    (fun κ j => (v42 (w1 m c t) (d38 (dout_blk m c t)) _ κ j).trans (congrArg (· + _) (ld_head _ 1 128 rfl _ κ j)))
    (fun κ j => (v51 (dout_blk m c t) (w2 m c t) _ κ j).trans (congrArg (· + _) (ld_head _ 2 256 rfl _ κ j)))
    (fun κ j => (v61 (w3 m c t) (d57 (dout_blk m c t)) _ κ j).trans (congrArg (· + _) (ld_head _ 3 384 rfl _ κ j)))
    _ κ n).trans ?_
  rw [col_head]
  rfl

theorem dv_A (t : Fin cfg0.N) (h0 : t.val % 16 = 0) (κ : Fin 256) (n : Fin 512) :
    (outsAt0 m c t.val t.isLt).2.2.2.2.2.1 (ix2 κ n) = 0 + ∑ r : Fin 512, tv (args m c) κ n (row t r) := by
  have hz : ∀ i, k0_pay3 (F := Ideal) i = 0 := fun i => by pointwise [k0_pay3]
  rw [outsAt0_A m c t h0]
  frame_out
  refine (canon_heads (fun κ h j => 0 + ∑ r : Fin 512, p (args m c) (row t r) h κ * dout (args m c) (row t r) (col h j))
    (fun κ j => (v34 (dout_blk m c t) (w0 m c t) _ κ j).trans (congrArg (· + _)
      ((readCov_head _ _ 0 0 rfl _ κ j).trans ((canon_all _ _ _ _ _).trans (hz _)))))
    (fun κ j => (v42 (w1 m c t) (d38 (dout_blk m c t)) _ κ j).trans (congrArg (· + _)
      ((readCov_head _ _ 1 128 rfl _ κ j).trans ((canon_other 0 1 (by decide) 0 rfl _ _ _ κ j).trans ((canon_all _ _ _ _ _).trans (hz _))))))
    (fun κ j => (v51 (dout_blk m c t) (w2 m c t) _ κ j).trans (congrArg (· + _)
      ((readCov_head _ _ 2 256 rfl _ κ j).trans ((canon_other 1 2 (by decide) 128 rfl _ _ _ κ j).trans ((canon_other 0 2 (by decide) 0 rfl _ _ _ κ j).trans
        ((canon_all _ _ _ _ _).trans (hz _)))))))
    (fun κ j => (v61 (w3 m c t) (d57 (dout_blk m c t)) _ κ j).trans (congrArg (· + _)
      ((readCov_head _ _ 3 384 rfl _ κ j).trans ((canon_other 2 3 (by decide) 256 rfl _ _ _ κ j).trans ((canon_other 1 3 (by decide) 128 rfl _ _ _ κ j).trans
        ((canon_other 0 3 (by decide) 0 rfl _ _ _ κ j).trans ((canon_all _ _ _ _ _).trans (hz _))))))))
    _ κ n).trans ?_
  rw [col_head]
  rfl

theorem dv_arr : (dats m 0 c).arrAt 14 cfg0.N = fun i => dv (args m c) (i 0) (i 1) := by
  refine (dats m 0 c).arrAt_eq_of_covers 14 _ (by decide +kernel) fun t hf y => ?_
  blk_simp
  rw [after0_14]
  idx_vars y
  rw [show ((View.whole main_v20_5).slice (win0_14.rect t)).emb (ix2 y0 y1) = ix2 y0 y1 by blk_ext [idx t]]
  refine (Pipeline.eq_sum_fin_of_reset_step_apply_of_flush (fun n h => (outsAt0 m c n h).2.2.2.2.2.1) 16 (fun _ => (0 : EReal))
    (fun t j => ∑ s : Fin 512, tv (args m c) (j 0) (j 1) (row t s)) (fun t h j => ?_) (fun t h j => ?_) t ((flush0_14 t).mp hf) _).trans ?_
  · idx_vars j
    exact dv_A m c t h j0 j1
  · idx_vars j
    exact dv_B m c t h j0 j1
  · rw [zero_add]
    have hd : t.val / 16 = 0 := Nat.div_eq_of_lt t.isLt
    refine Fin.sum_mul_add_congr fun s k hl => ?_
    exact congrArg (tv (args m c) y0 y1) (Fin.ext (by unfold row; dsimp only; omega))

end Cert.MemAttnIdeal.Closed

end
-- ==== Proof.MemAttnRef.lean ====
/- The reference's gradients of the memory attention, read at one index. -/
module

public import proofs.«01_k».proof.Proof.Gen.MemAttnRefIdeal.Read
public import proofs.«01_k».proof.Proof.Common
public import proofs.«01_k».proof.Proof.MemAttnSpec

@[expose] public section

set_option maxRecDepth 16384

noncomputable section

namespace Cert.MemAttnRefIdeal.Closed

open Cert.MemAttnRefIdeal Cert.MemAttnRefIdeal.Read Idealize.ShloMosaic Cert.Norm Cert.MemAttn

variable (x0 : FVec Ideal S1x8192x1024 .f32) (x1 : FVec Ideal S1x1024 .f32) (x2 : FVec Ideal S1x1024x512 .f32) (x3 : FVec Ideal S1x128 .f32)
  (x4 x5 : FVec Ideal S1x256x4x128 .f32) (x6 : FVec Ideal S1x512x1024 .f32) (x7 : FVec Ideal S1x8192x1024 .f32)

/-- The arguments as functions of their coordinates. -/
def args : Args where
  x y l := x0 (ix3 0 y l)
  g l := x1 (ix2 0 l)
  wq l n := x2 (ix3 0 l n)
  gq j := x3 (ix2 0 j)
  k κ h j := x4 (ix4 0 κ h j)
  v κ h j := x5 (ix4 0 κ h j)
  wo n j := x6 (ix3 0 n j)
  dx y j := x7 (ix3 0 y j)

theorem normed_at (y : Fin 8192) (l : Fin 1024) : val_main_v13 (F := Ideal) x0 (ix3 0 y l) = x0 (ix3 0 y l) * rs c1 eps (fun i => x0 (ix3 0 y i)) := by
  unfold val_main_v13
  pointwise [val_main_v12, val_main_v8, val_main_v7, val_main_v6, val_main_v5, val_main_v4, val_main_v3, val_main_v2, val_main_v1, val_main_cst, val_main_cst_0, val_main_cst_1]
  rw [div_n (N := Ideal.ofBits .f32 1149239296#32) (by norm_num) n1024 c1024]
  rfl

theorem hm_at (y : Fin 8192) (l : Fin 1024) : val_main_v16 (F := Ideal) x0 x1 (ix3 0 y l) = hm (args x0 x1 x2 x3 x4 x5 x6 x7) y l := by
  unfold val_main_v16
  pointwise [val_main_v15, val_main_v14, val_main_v0]
  rw [normed_at]
  rfl

theorem qr_at (y : Fin 8192) (n : Fin 512) : val_main_v18 (F := Ideal) x0 x1 x2 (ix3 0 y n) = qr (args x0 x1 x2 x3 x4 x5 x6 x7) y n := by
  unfold val_main_v18
  pointwise [val_main_v17]
  simp only [hm_at x0 x1 x2 x3 x4 x5 x6 x7]
  rfl

theorem qh_at (y : Fin 8192) (h : Fin 4) (j : Fin 128) : val_main_v20 (F := Ideal) x0 x1 x2 (ix4 0 y h j) = qh (args x0 x1 x2 x3 x4 x5 x6 x7) y h j := by
  rw [show val_main_v20 (F := Ideal) x0 x1 x2 (ix4 0 y h j) = val_main_v18 (F := Ideal) x0 x1 x2 (ix3 0 y (col h j)) by
    unfold val_main_v20 col
    pointwise []
    all_goals exact congrArg (val_main_v18 (F := Ideal) x0 x1 x2) (congrArg (ix3 0 y) (Fin.ext (by dsimp only; omega)))]
  exact qr_at x0 x1 x2 x3 x4 x5 x6 x7 y _

theorem ms_at (y : Fin 8192) (h : Fin 4) : val_main_v27 (F := Ideal) x0 x1 x2 (ix4 0 y h 0) =
    Ideal.div (∑ i : Fin 128, qh (args x0 x1 x2 x3 x4 x5 x6 x7) y h i * qh (args x0 x1 x2 x3 x4 x5 x6 x7) y h i) (Ideal.ofBits .f32 1124073472#32) + eps := by
  unfold val_main_v27
  pointwise [val_main_v26, val_main_v25, val_main_v24, val_main_v23, val_main_v22, val_main_v21, val_main_cst_3, val_main_cst_4, val_main_cst_5]
  simp only [qh_at x0 x1 x2 x3 x4 x5 x6 x7]

theorem qx_at (y : Fin 8192) (h : Fin 4) (j : Fin 128) : val_main_v33 (F := Ideal) x0 x1 x2 (ix4 0 y h j) = qx (args x0 x1 x2 x3 x4 x5 x6 x7) y h j := by
  unfold val_main_v33
  pointwise [val_main_v32, val_main_v28]
  rw [ms_at x0 x1 x2 x3 x4 x5 x6 x7, qh_at x0 x1 x2 x3 x4 x5 x6 x7, div_n (N := Ideal.ofBits .f32 1124073472#32) (by norm_num) n128 c128]
  rfl

theorem qn_at (y : Fin 8192) (h : Fin 4) (j : Fin 128) : val_main_v36 (F := Ideal) x0 x1 x2 x3 (ix4 0 y h j) = qn (args x0 x1 x2 x3 x4 x5 x6 x7) y h j := by
  unfold val_main_v36
  pointwise [val_main_v35, val_main_v34, val_main_v19]
  rw [qx_at x0 x1 x2 x3 x4 x5 x6 x7]
  rfl

theorem sc_at (y : Fin 8192) (h : Fin 4) (κ : Fin 256) :
    val_main_v39 (F := Ideal) x0 x1 x2 x3 x4 (ix4 0 h y κ) = sc (args x0 x1 x2 x3 x4 x5 x6 x7) y h κ := by
  unfold val_main_v39
  pointwise [val_main_v38, val_main_v37, val_main_cst_7]
  simp only [qn_at x0 x1 x2 x3 x4 x5 x6 x7]
  rfl

/-- The maximum over the last axis, as a fold. -/
theorem max_at (w : FVec Ideal S1x4x8192x256 .f32) (h : Fin 4) (y : Fin 8192) :
    Host.reduce FloatOps.maximumf w (constant S_ .f32 0xFF800000#32) Gen.reducesTo_S1x4x8192x256_S1x4x8192_d3 Gen.h_S_ (ix3 0 h y)
      = Finset.univ.fold max (⊥ : EReal) (fun x : Fin 256 => w (ix4 0 h y x)) := by
  rw [← show Ideal.ofBits .f32 0xFF800000#32 = ⊥ by simp [Ideal.ofBits, Ideal.ieee]]
  pointwise []

theorem top_at (y : Fin 8192) (h : Fin 4) : val_main_v47 (F := Ideal) x0 x1 x2 x3 x4 (ix3 0 h y) = top (args x0 x1 x2 x3 x4 x5 x6 x7) y h := by
  rw [val_main_v47_apply]
  refine (congrArg (max (Ideal.ofBits .f32 0xFF800000#32)) ((max_at _ h y).trans
    (congrArg (Finset.univ.fold max (⊥ : EReal)) (funext fun κ => sc_at x0 x1 x2 x3 x4 x5 x6 x7 y h κ)))).trans ?_
  rw [show Ideal.ofBits .f32 0xFF800000#32 = ⊥ by simp [Ideal.ofBits, Ideal.ieee]]
  exact max_eq_right bot_le

theorem ex_at (y : Fin 8192) (h : Fin 4) (κ : Fin 256) :
    val_main_v60 (F := Ideal) x0 x1 x2 x3 x4 (ix4 0 h y κ) = ex (args x0 x1 x2 x3 x4 x5 x6 x7) y h κ := by
  unfold val_main_v60
  pointwise [val_main_v59, val_main_v58, val_main_v57]
  rw [top_at x0 x1 x2 x3 x4 x5 x6 x7, sc_at x0 x1 x2 x3 x4 x5 x6 x7]
  rfl

theorem tot_at (y : Fin 8192) (h : Fin 4) : val_main_v62 (F := Ideal) x0 x1 x2 x3 x4 (ix4 0 h y 0) = tot (args x0 x1 x2 x3 x4 x5 x6 x7) y h := by
  unfold val_main_v62
  pointwise [val_main_v61, val_main_cst_16]
  simp only [ex_at x0 x1 x2 x3 x4 x5 x6 x7]
  rfl

theorem p_at (y : Fin 8192) (h : Fin 4) (κ : Fin 256) :
    val_main_v64 (F := Ideal) x0 x1 x2 x3 x4 (ix4 0 h y κ) = p (args x0 x1 x2 x3 x4 x5 x6 x7) y h κ := by
  unfold val_main_v64
  pointwise [val_main_v63]
  rw [tot_at x0 x1 x2 x3 x4 x5 x6 x7, ex_at x0 x1 x2 x3 x4 x5 x6 x7]
  rfl

theorem dout_at (y : Fin 8192) (h : Fin 4) (j : Fin 128) :
    val_main_v75 (F := Ideal) x6 x7 (ix4 0 h j y) = dout (args x0 x1 x2 x3 x4 x5 x6 x7) y (col h j) := by
  rw [show val_main_v75 (F := Ideal) x6 x7 (ix4 0 h j y) = val_main_v73 (F := Ideal) x6 x7 (ix3 0 y (col h j)) by
    unfold val_main_v75 col
    pointwise [val_main_v74]
    all_goals exact congrArg (val_main_v73 (F := Ideal) x6 x7) (congrArg (ix3 0 y) (Fin.ext (by dsimp only; omega)))]
  unfold val_main_v73
  pointwise [val_main_v71]
  rfl

theorem dp_at (y : Fin 8192) (h : Fin 4) (κ : Fin 256) :
    val_main_v76 (F := Ideal) x5 x6 x7 (ix4 0 h y κ) = dp (args x0 x1 x2 x3 x4 x5 x6 x7) y h κ := by
  unfold val_main_v76
  pointwise []
  simp only [dout_at x0 x1 x2 x3 x4 x5 x6 x7]
  rfl

/-- The sum over the two unit axes. -/
theorem unit_sum (w : FVec Ideal S1x4x8192x1 .f32) (h : Fin 4) (y : Fin 8192) :
    Ideal.hostReduceAdd Gen.reducesTo_S1x4x8192x1_S4x8192_d0_3 w 0 (ix2 h y) = w (ix4 0 h y 0) := by
  unfold Ideal.hostReduceAdd
  rw [zero_add, Finset.sum_eq_single (ix4 0 h y 0)]
  · intro i hi hne
    refine absurd ?_ hne
    have e := (Finset.mem_filter.mp hi).2
    funext a; apply Fin.ext
    match a with
    | ⟨0, _⟩ => exact Nat.lt_one_iff.mp (i 0).isLt
    | ⟨1, _⟩ => exact congrArg Fin.val (congrFun e 0)
    | ⟨2, _⟩ => exact congrArg Fin.val (congrFun e 1)
    | ⟨3, _⟩ => exact Nat.lt_one_iff.mp (i 3).isLt
  · intro hn
    refine absurd (Finset.mem_filter.mpr ⟨Finset.mem_univ _, ?_⟩) hn
    funext a; apply Fin.ext; fin_cases a <;> rfl

/-- The same for the heads' rows, and for the sum over three unit axes. -/
theorem unit_sum' (w : FVec Ideal S1x8192x4x1 .f32) (y : Fin 8192) (h : Fin 4) :
    Ideal.hostReduceAdd Gen.reducesTo_S1x8192x4x1_S8192x4_d0_3 w 0 (ix2 y h) = w (ix4 0 y h 0) := by
  unfold Ideal.hostReduceAdd
  rw [zero_add, Finset.sum_eq_single (ix4 0 y h 0)]
  · intro i hi hne
    refine absurd ?_ hne
    have e := (Finset.mem_filter.mp hi).2
    funext a; apply Fin.ext
    match a with
    | ⟨0, _⟩ => exact Nat.lt_one_iff.mp (i 0).isLt
    | ⟨1, _⟩ => exact congrArg Fin.val (congrFun e 0)
    | ⟨2, _⟩ => exact congrArg Fin.val (congrFun e 1)
    | ⟨3, _⟩ => exact Nat.lt_one_iff.mp (i 3).isLt
  · intro hn
    refine absurd (Finset.mem_filter.mpr ⟨Finset.mem_univ _, ?_⟩) hn
    funext a; apply Fin.ext; fin_cases a <;> rfl

theorem unit_sum3 (w : FVec Ideal S1x1x1x128 .f32) (j : Fin 128) :
    Ideal.hostReduceAdd Gen.reducesTo_S1x1x1x128_S128_d0_1_2 w 0 (ix1 j) = w (ix4 0 0 0 j) := by
  unfold Ideal.hostReduceAdd
  rw [zero_add, Finset.sum_eq_single (ix4 0 0 0 j)]
  · intro i hi hne
    refine absurd ?_ hne
    have e := (Finset.mem_filter.mp hi).2
    funext a; apply Fin.ext
    match a with
    | ⟨0, _⟩ => exact Nat.lt_one_iff.mp (i 0).isLt
    | ⟨1, _⟩ => exact Nat.lt_one_iff.mp (i 1).isLt
    | ⟨2, _⟩ => exact Nat.lt_one_iff.mp (i 2).isLt
    | ⟨3, _⟩ => exact congrArg Fin.val (congrFun e 0)
  · intro hn
    refine absurd (Finset.mem_filter.mpr ⟨Finset.mem_univ _, ?_⟩) hn
    funext a; apply Fin.ext; fin_cases a; rfl

/-- The sum over the rows and the heads. -/
theorem pair_sum (w : FVec Ideal S1x8192x4x128 .f32) (j : Fin 128) :
    Ideal.hostReduceAdd Gen.reducesTo_S1x8192x4x128_S1x128_d1_2 w 0 (ix2 0 j) = ∑ y : Fin 8192, ∑ h : Fin 4, w (ix4 0 y h j) := by
  unfold Ideal.hostReduceAdd
  have back : ∀ i ∈ Finset.univ.filter (fun i : S1x8192x4x128.Idx => Shape.ReducesTo.drop Gen.reducesTo_S1x8192x4x128_S1x128_d1_2 i = ix2 0 j),
      (ix4 (0 : Fin 1) (i 1 : Fin 8192) (i 2 : Fin 4) j : S1x8192x4x128.Idx) = i := by
    intro i hi
    have e := (Finset.mem_filter.mp hi).2
    funext a; apply Fin.ext
    match a with
    | ⟨0, _⟩ => exact (Nat.lt_one_iff.mp (i 0).isLt).symm
    | ⟨1, _⟩ => rfl
    | ⟨2, _⟩ => rfl
    | ⟨3, _⟩ => exact (congrArg Fin.val (congrFun e 1)).symm
  rw [zero_add, ← Fintype.sum_prod_type']
  refine Finset.sum_nbij' (fun i : S1x8192x4x128.Idx => ((i 1 : Fin 8192), (i 2 : Fin 4))) (fun p => ix4 0 p.1 p.2 j) (fun i _ => by simp) (fun p _ => ?_) back (fun _ _ => rfl)
    (fun i hi => congrArg w (back i hi).symm)
  refine Finset.mem_filter.mpr ⟨Finset.mem_univ _, ?_⟩
  funext a; apply Fin.ext; fin_cases a <;> rfl

theorem inner_at (y : Fin 8192) (h : Fin 4) : val_main_v87 (F := Ideal) x0 x1 x2 x3 x4 x5 x6 x7 (ix2 h y) =
    -(∑ i : Fin 256, dp (args x0 x1 x2 x3 x4 x5 x6 x7) y h i *
      Ideal.div 1 (tot (args x0 x1 x2 x3 x4 x5 x6 x7) y h * tot (args x0 x1 x2 x3 x4 x5 x6 x7) y h) * ex (args x0 x1 x2 x3 x4 x5 x6 x7) y h i) := by
  refine Eq.trans ?_ ((unit_sum (val_main_v84 (F := Ideal) x0 x1 x2 x3 x4 x5 x6 x7) h y).trans ?_)
  · unfold val_main_v87
    pointwise [val_main_cst_19]
  · unfold val_main_v84
    pointwise [val_main_v83, val_main_v82, val_main_v81, val_main_v80, val_main_v79, val_main_v67, val_main_v66, val_main_v65, val_main_cst_17, val_main_cst_18]
    simp only [ex_at x0 x1 x2 x3 x4 x5 x6 x7, tot_at x0 x1 x2 x3 x4 x5 x6 x7, dp_at x0 x1 x2 x3 x4 x5 x6 x7]

variable (hA : (args x0 x1 x2 x3 x4 x5 x6 x7).Real)
include hA

theorem ds_at (y : Fin 8192) (h : Fin 4) (κ : Fin 256) :
    val_main_v93 (F := Ideal) x0 x1 x2 x3 x4 x5 x6 x7 (ix4 0 h y κ) = ds (args x0 x1 x2 x3 x4 x5 x6 x7) y h κ := by
  unfold val_main_v93
  pointwise [val_main_v92, val_main_v91, val_main_v90, val_main_v89, val_main_v88, val_main_v86, val_main_v85, val_main_cst_20]
  rw [inner_at, ex_at x0 x1 x2 x3 x4 x5 x6 x7, tot_at x0 x1 x2 x3 x4 x5 x6 x7, dp_at x0 x1 x2 x3 x4 x5 x6 x7]
  exact ds_ref hA y h κ

theorem dqn_at (y : Fin 8192) (h : Fin 4) (j : Fin 128) :
    val_main_v97 (F := Ideal) x0 x1 x2 x3 x4 x5 x6 x7 (ix4 0 y h j) = dqn (args x0 x1 x2 x3 x4 x5 x6 x7) y h j := by
  unfold val_main_v97
  pointwise [val_main_v96]
  simp only [ds_at x0 x1 x2 x3 x4 x5 x6 x7 hA]
  rfl

theorem through_root_at (y : Fin 8192) (h : Fin 4) (j : Fin 128) : val_main_v114 (F := Ideal) x0 x1 x2 x3 x4 x5 x6 x7 (ix4 0 y h j) =
    Ideal.div ((∑ i : Fin 128, qh (args x0 x1 x2 x3 x4 x5 x6 x7) y h i * (dqn (args x0 x1 x2 x3 x4 x5 x6 x7) y h i * (args x0 x1 x2 x3 x4 x5 x6 x7).gq i)) *
      (Ideal.ofBits .f32 3204448256#32 * Ideal.div (Ideal.rsqrt (val_main_v27 (F := Ideal) x0 x1 x2 (ix4 0 y h 0))) (val_main_v27 (F := Ideal) x0 x1 x2 (ix4 0 y h 0))))
      (Ideal.ofBits .f32 1124073472#32) := by
  unfold val_main_v114
  pointwise [val_main_v113]
  refine Eq.trans ?_ ((unit_sum' (val_main_v111 (F := Ideal) x0 x1 x2 x3 x4 x5 x6 x7) y h).trans ?_)
  · unfold val_main_v112
    pointwise [val_main_cst_25]
  unfold val_main_v111
  pointwise [val_main_v110, val_main_v109, val_main_v106, val_main_v105, val_main_v104, val_main_v102, val_main_v101, val_main_v34, val_main_v31, val_main_v30, val_main_v29, val_main_v28, val_main_v19, val_main_cst_6, val_main_cst_23, val_main_cst_24]
  simp only [qh_at x0 x1 x2 x3 x4 x5 x6 x7, dqn_at x0 x1 x2 x3 x4 x5 x6 x7 hA]
  rfl

theorem dqh_at (y : Fin 8192) (h : Fin 4) (j : Fin 128) :
    val_main_v118 (F := Ideal) x0 x1 x2 x3 x4 x5 x6 x7 (ix4 0 y h j) = dqh (args x0 x1 x2 x3 x4 x5 x6 x7) y h j := by
  unfold val_main_v118
  pointwise [val_main_v117, val_main_v116, val_main_v115, val_main_v108, val_main_v107, val_main_v102, val_main_v101, val_main_v34, val_main_v28, val_main_v19]
  rw [through_root_at x0 x1 x2 x3 x4 x5 x6 x7 hA, ms_at x0 x1 x2 x3 x4 x5 x6 x7, qh_at x0 x1 x2 x3 x4 x5 x6 x7, dqn_at x0 x1 x2 x3 x4 x5 x6 x7 hA]
  exact grad_ref (by norm_num) small n128 c128 half (qh (args x0 x1 x2 x3 x4 x5 x6 x7) y h)
    (fun i => dqn (args x0 x1 x2 x3 x4 x5 x6 x7) y h i * (args x0 x1 x2 x3 x4 x5 x6 x7).gq i) j

theorem dqr_at (y : Fin 8192) (n : Fin 512) : val_main_v119 (F := Ideal) x0 x1 x2 x3 x4 x5 x6 x7 (ix3 0 y n) = dqr (args x0 x1 x2 x3 x4 x5 x6 x7) y n := by
  rw [show val_main_v119 (F := Ideal) x0 x1 x2 x3 x4 x5 x6 x7 (ix3 0 y n) = val_main_v118 (F := Ideal) x0 x1 x2 x3 x4 x5 x6 x7 (ix4 0 y (head n) (lane n)) by
    unfold val_main_v119 head lane
    pointwise []]
  exact dqh_at x0 x1 x2 x3 x4 x5 x6 x7 hA y _ _

theorem dhm_at (y : Fin 8192) (l : Fin 1024) : val_main_v120 (F := Ideal) x0 x1 x2 x3 x4 x5 x6 x7 (ix3 0 y l) = dhm (args x0 x1 x2 x3 x4 x5 x6 x7) y l := by
  unfold val_main_v120
  pointwise [val_main_v17]
  simp only [dqr_at x0 x1 x2 x3 x4 x5 x6 x7 hA]
  rfl

theorem root_at (y : Fin 8192) (l : Fin 1024) : val_main_v137 (F := Ideal) x0 x1 x2 x3 x4 x5 x6 x7 (ix3 0 y l) =
    Ideal.div ((∑ i : Fin 1024, x0 (ix3 0 y i) * (dhm (args x0 x1 x2 x3 x4 x5 x6 x7) y i * (args x0 x1 x2 x3 x4 x5 x6 x7).g i)) *
      (Ideal.ofBits .f32 3204448256#32 * Ideal.div (Ideal.rsqrt (val_main_v7 (F := Ideal) x0 (ix3 0 y 0))) (val_main_v7 (F := Ideal) x0 (ix3 0 y 0))))
      (Ideal.ofBits .f32 1149239296#32) := by
  unfold val_main_v137
  pointwise [val_main_v136, val_main_v135, val_main_v134, val_main_v133, val_main_v132, val_main_v129, val_main_v128, val_main_v127, val_main_v125, val_main_v124, val_main_v14, val_main_v11, val_main_v10, val_main_v9, val_main_v8, val_main_v0, val_main_cst_2, val_main_cst_28, val_main_cst_29, val_main_cst_30]
  simp only [Fin.sum_univ_one, dhm_at x0 x1 x2 x3 x4 x5 x6 x7 hA]
  rfl

theorem dx1_at (y : Fin 8192) (l : Fin 1024) : val_main_v142 (F := Ideal) x0 x1 x2 x3 x4 x5 x6 x7 (ix3 0 y l) = dx1 (args x0 x1 x2 x3 x4 x5 x6 x7) y l := by
  unfold val_main_v142
  pointwise [val_main_v141, val_main_v140, val_main_v139, val_main_v138, val_main_v131, val_main_v130, val_main_v125, val_main_v124, val_main_v14, val_main_v8, val_main_v0]
  rw [root_at x0 x1 x2 x3 x4 x5 x6 x7 hA, dhm_at x0 x1 x2 x3 x4 x5 x6 x7 hA,
    show val_main_v7 (F := Ideal) x0 (ix3 0 y 0) = Ideal.div (∑ i : Fin 1024, x0 (ix3 0 y i) * x0 (ix3 0 y i)) (Ideal.ofBits .f32 1149239296#32) + eps by
      unfold val_main_v7
      pointwise [val_main_v6, val_main_v5, val_main_v4, val_main_v3, val_main_v2, val_main_v1, val_main_cst, val_main_cst_0, val_main_cst_1], add_comm]
  exact congrArg (· + _) (grad_ref (by norm_num) small n1024 c1024 half ((args x0 x1 x2 x3 x4 x5 x6 x7).x y)
    (fun i => dhm (args x0 x1 x2 x3 x4 x5 x6 x7) y i * (args x0 x1 x2 x3 x4 x5 x6 x7).g i) l)

theorem res0 (y : Fin 8192) (l : Fin 1024) : val_main_v143 (F := Ideal) x0 x1 x2 x3 x4 x5 x6 x7 (ix2 y l) = dx1 (args x0 x1 x2 x3 x4 x5 x6 x7) y l := by
  unfold val_main_v143
  pointwise []
  exact dx1_at x0 x1 x2 x3 x4 x5 x6 x7 hA y l

theorem res1 (y : Fin 8192) (l : Fin 1024) : val_main_v145 (F := Ideal) x0 x1 x2 x3 x4 x5 x6 x7 (ix2 y l) = dx1 (args x0 x1 x2 x3 x4 x5 x6 x7) y l := by
  unfold val_main_v145
  pointwise [val_main_v144]
  exact dx1_at x0 x1 x2 x3 x4 x5 x6 x7 hA y l

omit hA in
theorem res2 (y : Fin 8192) (l : Fin 1024) : val_main_v147 (F := Ideal) x0 x1 (ix2 y l) = hm (args x0 x1 x2 x3 x4 x5 x6 x7) y l := by
  unfold val_main_v147
  pointwise [val_main_v146]
  exact hm_at x0 x1 x2 x3 x4 x5 x6 x7 y l

theorem res3 (y : Fin 8192) (n : Fin 512) : val_main_v149 (F := Ideal) x0 x1 x2 x3 x4 x5 x6 x7 (ix2 y n) = dqr (args x0 x1 x2 x3 x4 x5 x6 x7) y n := by
  unfold val_main_v149
  pointwise [val_main_v148]
  exact dqr_at x0 x1 x2 x3 x4 x5 x6 x7 hA y n

theorem res4 (κ : Fin 256) (n : Fin 512) : val_main_v151 (F := Ideal) x0 x1 x2 x3 x4 x5 x6 x7 (ix2 κ n) = dk (args x0 x1 x2 x3 x4 x5 x6 x7) κ n := by
  unfold val_main_v151
  pointwise [val_main_v150, val_main_v95, val_main_v94]
  simp only [ds_at x0 x1 x2 x3 x4 x5 x6 x7 hA, qn_at x0 x1 x2 x3 x4 x5 x6 x7]
  rfl

omit hA in
theorem res5 (κ : Fin 256) (n : Fin 512) : val_main_v153 (F := Ideal) x0 x1 x2 x3 x4 x6 x7 (ix2 κ n) = dv (args x0 x1 x2 x3 x4 x5 x6 x7) κ n := by
  unfold val_main_v153
  pointwise [val_main_v152, val_main_v78, val_main_v77]
  simp only [p_at x0 x1 x2 x3 x4 x5 x6 x7, dout_at x0 x1 x2 x3 x4 x5 x6 x7]
  refine Finset.sum_congr rfl fun y _ => (mul_comm _ _).trans ?_
  exact congrArg₂ (fun h n => p (args x0 x1 x2 x3 x4 x5 x6 x7) y h κ * dout (args x0 x1 x2 x3 x4 x5 x6 x7) y n) rfl (col_head n)

theorem res6 (r : Fin 8) (l : Fin 1024) : val_main_v156 (F := Ideal) x0 x1 x2 x3 x4 x5 x6 x7 (ix2 r l) = ∑ y, first (tx (args x0 x1 x2 x3 x4 x5 x6 x7)) r l y := by
  unfold val_main_v156
  pointwise [val_main_v155, val_main_v154, val_main_v126, val_main_v123, val_main_v122, val_main_v121, val_main_cst_26, val_main_cst_27, val_main_cst_31]
  simp only [Fin.sum_univ_one, normed_at, dhm_at x0 x1 x2 x3 x4 x5 x6 x7 hA, Nat.lt_one_iff]
  unfold first
  split_ifs
  · exact Finset.sum_congr rfl fun y _ => mul_comm _ _
  · exact (Finset.sum_const_zero).symm

theorem gq_at (j : Fin 128) : val_main_v103 (F := Ideal) x0 x1 x2 x3 x4 x5 x6 x7 (ix1 j) = ∑ y, tq (args x0 x1 x2 x3 x4 x5 x6 x7) j y := by
  refine Eq.trans ?_ ((unit_sum3 (val_main_v100 (F := Ideal) x0 x1 x2 x3 x4 x5 x6 x7) j).trans ?_)
  · unfold val_main_v103
    pointwise [val_main_cst_22]
  refine Eq.trans ?_ ((pair_sum (val_main_v98 (F := Ideal) x0 x1 x2 x3 x4 x5 x6 x7) j).trans ?_)
  · unfold val_main_v100
    pointwise [val_main_v99, val_main_cst_21]
  unfold val_main_v98
  pointwise []
  simp only [qx_at x0 x1 x2 x3 x4 x5 x6 x7, dqn_at x0 x1 x2 x3 x4 x5 x6 x7 hA]
  exact Finset.sum_congr rfl fun y _ => Finset.sum_congr rfl fun h _ => mul_comm _ _

theorem res7 (r : Fin 8) (j : Fin 128) : val_main_v159 (F := Ideal) x0 x1 x2 x3 x4 x5 x6 x7 (ix2 r j) = ∑ y, first (tq (args x0 x1 x2 x3 x4 x5 x6 x7)) r j y := by
  unfold val_main_v159
  pointwise [val_main_v158, val_main_v157, val_main_cst_32]
  rw [gq_at x0 x1 x2 x3 x4 x5 x6 x7 hA]
  simp only [Nat.lt_one_iff]
  unfold first
  split_ifs
  · rfl
  · exact (Finset.sum_const_zero).symm

end Cert.MemAttnRefIdeal.Closed

end
-- ==== Proof.MemAttnClose.lean ====
/- The memory attention's gradients: the kernel and its reference leave the same eight arrays, where the queries' norm weight
   and the keys are finite. -/
module

public import proofs.«01_k».proof.Proof.AttnClose
public import proofs.«01_k».proof.Proof.MemAttnValue
public import proofs.«01_k».proof.Proof.MemAttnRef
public import proofs.«01_k».proof.Proof.Gen.MemAttn
public import proofs.«01_k».proof.Proof.Gen.MemAttnRefIdeal.Run
public import Idealize.ShloMosaic.Lib.Claim
public import Idealize.ShloMosaic.Adequacy
public import Idealize.ShloMosaic.Init

@[expose] public section

set_option maxRecDepth 16384

noncomputable section

namespace Cert.MemAttnClose

open Idealize.ShloMosaic Idealize.SL.Sem

theorem pre_facts : Cert.Pre_finite_mem.Facts := ⟨by decide, by decide⟩

instance : Cert.Pre_finite_mem.Facts := pre_facts

theorem ref_frame : Cert.quiescent_MemAttnRefIdeal := fun m g _ =>
  (θ_run Cert.MemAttnRefIdeal.defs _ _).mono (fun r h => ⟨fun c => (h c).2.2.2.2.2.2.2.2, sem_eq_zero_of_no_sems (by decide) r.2⟩)
    (Cert.MemAttnRefIdeal.Value.run m g)

theorem preserves : Cert.preserves_MemAttn_MemAttnIdeal := trivial

/-- A function of eight arguments at equal arguments. -/
theorem congr8 {α0 α1 α2 α3 α4 α5 α6 α7 β : Type} (f : α0 → α1 → α2 → α3 → α4 → α5 → α6 → α7 → β) {a0 b0 a1 b1 a2 b2 a3 b3 a4 b4 a5 b5 a6 b6 a7 b7}
    (h0 : a0 = b0) (h1 : a1 = b1) (h2 : a2 = b2) (h3 : a3 = b3) (h4 : a4 = b4) (h5 : a5 = b5) (h6 : a6 = b6) (h7 : a7 = b7) :
    f a0 a1 a2 a3 a4 a5 a6 a7 = f b0 b1 b2 b3 b4 b5 b6 b7 := by
  rw [h0, h1, h2, h3, h4, h5, h6, h7]

variable (m : (ℓ : Loc Cert.MemAttnIdeal.nD Cert.MemAttnIdeal.τ Cert.MemAttnIdeal.sig) → Buf (Elt Ideal) ℓ) (c : Dev Cert.MemAttnIdeal.nD)

/-- What an argument holds on a device. -/
abbrev arg (b : Ref Cert.MemAttnIdeal.sig .tc) := m ((c.tc : Thread Cert.MemAttnIdeal.nD Cert.MemAttnIdeal.τ).loc b)

theorem same0 (hr : (Cert.MemAttnIdeal.Closed.args m c).Real) :
    Cert.MemAttnRefIdeal.Read.val_main_v143 (F := Ideal) (arg m c Cert.MemAttnIdeal.main_arg0) (arg m c Cert.MemAttnIdeal.main_arg1) (arg m c Cert.MemAttnIdeal.main_arg2) (arg m c Cert.MemAttnIdeal.main_arg3) (arg m c Cert.MemAttnIdeal.main_arg4) (arg m c Cert.MemAttnIdeal.main_arg5) (arg m c Cert.MemAttnIdeal.main_arg6) (arg m c Cert.MemAttnIdeal.main_arg7) = (Cert.MemAttnIdeal.Gen.dats m 0 c).arrAt 9 Cert.MemAttnIdeal.cfg0.N := by
  rw [Cert.MemAttnIdeal.Closed.dx1_arr m c]
  funext i
  idx_vars i
  exact Cert.MemAttnRefIdeal.Closed.res0 _ _ _ _ _ _ _ _ hr _ _

theorem same1 (hr : (Cert.MemAttnIdeal.Closed.args m c).Real) :
    Cert.MemAttnRefIdeal.Read.val_main_v145 (F := Ideal) (arg m c Cert.MemAttnIdeal.main_arg0) (arg m c Cert.MemAttnIdeal.main_arg1) (arg m c Cert.MemAttnIdeal.main_arg2) (arg m c Cert.MemAttnIdeal.main_arg3) (arg m c Cert.MemAttnIdeal.main_arg4) (arg m c Cert.MemAttnIdeal.main_arg5) (arg m c Cert.MemAttnIdeal.main_arg6) (arg m c Cert.MemAttnIdeal.main_arg7) = (Cert.MemAttnIdeal.Gen.dats m 0 c).arrAt 10 Cert.MemAttnIdeal.cfg0.N := by
  rw [Cert.MemAttnIdeal.Closed.dx1b_arr m c]
  funext i
  idx_vars i
  exact Cert.MemAttnRefIdeal.Closed.res1 _ _ _ _ _ _ _ _ hr _ _

theorem same2 :
    Cert.MemAttnRefIdeal.Read.val_main_v147 (F := Ideal) (arg m c Cert.MemAttnIdeal.main_arg0) (arg m c Cert.MemAttnIdeal.main_arg1) = (Cert.MemAttnIdeal.Gen.dats m 0 c).arrAt 11 Cert.MemAttnIdeal.cfg0.N := by
  rw [Cert.MemAttnIdeal.Closed.hm_arr m c]
  funext i
  idx_vars i
  exact Cert.MemAttnRefIdeal.Closed.res2 _ _ (arg m c Cert.MemAttnIdeal.main_arg2)
    (arg m c Cert.MemAttnIdeal.main_arg3)
    (arg m c Cert.MemAttnIdeal.main_arg4)
    (arg m c Cert.MemAttnIdeal.main_arg5)
    (arg m c Cert.MemAttnIdeal.main_arg6)
    (arg m c Cert.MemAttnIdeal.main_arg7) _ _

theorem same3 (hr : (Cert.MemAttnIdeal.Closed.args m c).Real) :
    Cert.MemAttnRefIdeal.Read.val_main_v149 (F := Ideal) (arg m c Cert.MemAttnIdeal.main_arg0) (arg m c Cert.MemAttnIdeal.main_arg1) (arg m c Cert.MemAttnIdeal.main_arg2) (arg m c Cert.MemAttnIdeal.main_arg3) (arg m c Cert.MemAttnIdeal.main_arg4) (arg m c Cert.MemAttnIdeal.main_arg5) (arg m c Cert.MemAttnIdeal.main_arg6) (arg m c Cert.MemAttnIdeal.main_arg7) = (Cert.MemAttnIdeal.Gen.dats m 0 c).arrAt 12 Cert.MemAttnIdeal.cfg0.N := by
  rw [Cert.MemAttnIdeal.Closed.dqr_arr m c]
  funext i
  idx_vars i
  exact Cert.MemAttnRefIdeal.Closed.res3 _ _ _ _ _ _ _ _ hr _ _

theorem same4 (hr : (Cert.MemAttnIdeal.Closed.args m c).Real) :
    Cert.MemAttnRefIdeal.Read.val_main_v151 (F := Ideal) (arg m c Cert.MemAttnIdeal.main_arg0) (arg m c Cert.MemAttnIdeal.main_arg1) (arg m c Cert.MemAttnIdeal.main_arg2) (arg m c Cert.MemAttnIdeal.main_arg3) (arg m c Cert.MemAttnIdeal.main_arg4) (arg m c Cert.MemAttnIdeal.main_arg5) (arg m c Cert.MemAttnIdeal.main_arg6) (arg m c Cert.MemAttnIdeal.main_arg7) = (Cert.MemAttnIdeal.Gen.dats m 0 c).arrAt 13 Cert.MemAttnIdeal.cfg0.N := by
  rw [Cert.MemAttnIdeal.Closed.dk_arr m c]
  funext i
  idx_vars i
  exact Cert.MemAttnRefIdeal.Closed.res4 _ _ _ _ _ _ _ _ hr _ _

theorem same5 :
    Cert.MemAttnRefIdeal.Read.val_main_v153 (F := Ideal) (arg m c Cert.MemAttnIdeal.main_arg0) (arg m c Cert.MemAttnIdeal.main_arg1) (arg m c Cert.MemAttnIdeal.main_arg2) (arg m c Cert.MemAttnIdeal.main_arg3) (arg m c Cert.MemAttnIdeal.main_arg4) (arg m c Cert.MemAttnIdeal.main_arg6) (arg m c Cert.MemAttnIdeal.main_arg7) = (Cert.MemAttnIdeal.Gen.dats m 0 c).arrAt 14 Cert.MemAttnIdeal.cfg0.N := by
  rw [Cert.MemAttnIdeal.Closed.dv_arr m c]
  funext i
  idx_vars i
  exact Cert.MemAttnRefIdeal.Closed.res5 _ _ _ _ _ (arg m c Cert.MemAttnIdeal.main_arg5) _ _ _ _

theorem same6 (hr : (Cert.MemAttnIdeal.Closed.args m c).Real) :
    Cert.MemAttnRefIdeal.Read.val_main_v156 (F := Ideal) (arg m c Cert.MemAttnIdeal.main_arg0) (arg m c Cert.MemAttnIdeal.main_arg1) (arg m c Cert.MemAttnIdeal.main_arg2) (arg m c Cert.MemAttnIdeal.main_arg3) (arg m c Cert.MemAttnIdeal.main_arg4) (arg m c Cert.MemAttnIdeal.main_arg5) (arg m c Cert.MemAttnIdeal.main_arg6) (arg m c Cert.MemAttnIdeal.main_arg7) = (Cert.MemAttnIdeal.Gen.dats m 0 c).arrAt 15 Cert.MemAttnIdeal.cfg0.N := by
  rw [Cert.MemAttnIdeal.Closed.gg_arr m c]
  funext i
  idx_vars i
  exact Cert.MemAttnRefIdeal.Closed.res6 _ _ _ _ _ _ _ _ hr _ _

theorem same7 (hr : (Cert.MemAttnIdeal.Closed.args m c).Real) :
    Cert.MemAttnRefIdeal.Read.val_main_v159 (F := Ideal) (arg m c Cert.MemAttnIdeal.main_arg0) (arg m c Cert.MemAttnIdeal.main_arg1) (arg m c Cert.MemAttnIdeal.main_arg2) (arg m c Cert.MemAttnIdeal.main_arg3) (arg m c Cert.MemAttnIdeal.main_arg4) (arg m c Cert.MemAttnIdeal.main_arg5) (arg m c Cert.MemAttnIdeal.main_arg6) (arg m c Cert.MemAttnIdeal.main_arg7) = (Cert.MemAttnIdeal.Gen.dats m 0 c).arrAt 16 Cert.MemAttnIdeal.cfg0.N := by
  rw [Cert.MemAttnIdeal.Closed.ggq_arr m c]
  funext i
  idx_vars i
  exact Cert.MemAttnRefIdeal.Closed.res7 _ _ _ _ _ _ _ _ hr _ _

theorem algebraic : Cert.algebraic_MemAttnIdeal_MemAttnRefIdeal_pre_finite_mem := by
  intro m g m' g' hpre hagree
  refine ⟨fun c => (Cert.MemAttnIdeal.Gen.dats m 0 c).arrAt 9 Cert.MemAttnIdeal.cfg0.N, fun c => (Cert.MemAttnIdeal.Gen.dats m 0 c).arrAt 10 Cert.MemAttnIdeal.cfg0.N,
    fun c => (Cert.MemAttnIdeal.Gen.dats m 0 c).arrAt 11 Cert.MemAttnIdeal.cfg0.N, fun c => (Cert.MemAttnIdeal.Gen.dats m 0 c).arrAt 12 Cert.MemAttnIdeal.cfg0.N,
    fun c => (Cert.MemAttnIdeal.Gen.dats m 0 c).arrAt 13 Cert.MemAttnIdeal.cfg0.N, fun c => (Cert.MemAttnIdeal.Gen.dats m 0 c).arrAt 14 Cert.MemAttnIdeal.cfg0.N,
    fun c => (Cert.MemAttnIdeal.Gen.dats m 0 c).arrAt 15 Cert.MemAttnIdeal.cfg0.N, fun c => (Cert.MemAttnIdeal.Gen.dats m 0 c).arrAt 16 Cert.MemAttnIdeal.cfg0.N, ?_, ?_⟩
  · exact Cert.MemAttnIdeal.Value.run_blocks m g
  · refine (θ_run Cert.MemAttnRefIdeal.defs _ _).mono (fun r h c => ?_) (Cert.MemAttnRefIdeal.Value.run m' g')
    obtain ⟨e0, e1, e2, e3, e4, e5, e6, e7⟩ := hagree c
    obtain ⟨p0, p1⟩ := hpre c
    have hr : (Cert.MemAttnIdeal.Closed.args m c).Real :=
      ⟨fun _ => Cert.AttnClose.real_of_pre _ _ p0 _, fun _ _ _ => Cert.AttnClose.real_of_pre _ _ p1 _⟩
    obtain ⟨r0, r1, r2, r3, r4, r5, r6, r7, rest⟩ := h c
    refine ⟨r0.trans ?_, r1.trans ?_, r2.trans ?_, r3.trans ?_, r4.trans ?_, r5.trans ?_, r6.trans ?_, r7.trans ?_, rest⟩
    all_goals clear r0 r1 r2 r3 r4 r5 r6 r7 rest h
    · exact (Cert.MemAttnRefIdeal.Read.val_main_v143_eq _).trans
        ((congr8 (Cert.MemAttnRefIdeal.Read.val_main_v143 (F := Ideal)) e0 e1 e2 e3 e4 e5 e6 e7).trans (same0 m c hr))
    · exact (Cert.MemAttnRefIdeal.Read.val_main_v145_eq _).trans
        ((congr8 (Cert.MemAttnRefIdeal.Read.val_main_v145 (F := Ideal)) e0 e1 e2 e3 e4 e5 e6 e7).trans (same1 m c hr))
    · exact (Cert.MemAttnRefIdeal.Read.val_main_v147_eq _).trans
        ((congrArg₂ (Cert.MemAttnRefIdeal.Read.val_main_v147 (F := Ideal)) e0 e1).trans (same2 m c))
    · exact (Cert.MemAttnRefIdeal.Read.val_main_v149_eq _).trans
        ((congr8 (Cert.MemAttnRefIdeal.Read.val_main_v149 (F := Ideal)) e0 e1 e2 e3 e4 e5 e6 e7).trans (same3 m c hr))
    · exact (Cert.MemAttnRefIdeal.Read.val_main_v151_eq _).trans
        ((congr8 (Cert.MemAttnRefIdeal.Read.val_main_v151 (F := Ideal)) e0 e1 e2 e3 e4 e5 e6 e7).trans (same4 m c hr))
    · exact (Cert.MemAttnRefIdeal.Read.val_main_v153_eq _).trans
        ((congr8 (fun x0 x1 x2 x3 x4 (_ : Unit) x6 x7 => Cert.MemAttnRefIdeal.Read.val_main_v153 (F := Ideal) x0 x1 x2 x3 x4 x6 x7)
        e0 e1 e2 e3 e4 (rfl : () = ()) e6 e7).trans (same5 m c))
    · exact (Cert.MemAttnRefIdeal.Read.val_main_v156_eq _).trans
        ((congr8 (Cert.MemAttnRefIdeal.Read.val_main_v156 (F := Ideal)) e0 e1 e2 e3 e4 e5 e6 e7).trans (same6 m c hr))
    · exact (Cert.MemAttnRefIdeal.Read.val_main_v159_eq _).trans
        ((congr8 (Cert.MemAttnRefIdeal.Read.val_main_v159 (F := Ideal)) e0 e1 e2 e3 e4 e5 e6 e7).trans (same7 m c hr))

end Cert.MemAttnClose

end
-- ==== Proof.MemFwdRef.lean ====
/- The reference's memory attention, read at one index. -/
module

public import proofs.«01_k».proof.Proof.Gen.MemFwdRefIdeal.Read
public import proofs.«01_k».proof.Proof.Common
public import proofs.«01_k».proof.Proof.MemAttnSpec

@[expose] public section

set_option maxRecDepth 16384

noncomputable section

namespace Cert.MemAttn

variable (A : Args)

/-- A head's output, the heads' outputs side by side, and the residual sum. -/
def out (y : Fin 8192) (h : Fin 4) (j : Fin 128) : EReal := ∑ κ : Fin 256, p A y h κ * A.v κ h j
def ob (y : Fin 8192) (n : Fin 512) : EReal := out A y (head n) (lane n)
def x2 (y : Fin 8192) (l : Fin 1024) : EReal := A.x y l + ∑ n : Fin 512, ob A y n * A.wo n l

end Cert.MemAttn

namespace Cert.MemFwdRefIdeal.Closed

open Cert.MemFwdRefIdeal Cert.MemFwdRefIdeal.Read Idealize.ShloMosaic Cert.Norm Cert.MemAttn

variable (x0 : FVec Ideal S1x8192x1024 .f32) (x1 : FVec Ideal S1x1024 .f32) (x2 : FVec Ideal S1x1024x512 .f32) (x3 : FVec Ideal S1x128 .f32)
  (x4 x5 : FVec Ideal S1x256x4x128 .f32) (x6 : FVec Ideal S1x512x1024 .f32)

/-- The arguments as functions of their coordinates; the forward pass has no cotangent. -/
def args : Args where
  x y l := x0 (ix3 0 y l)
  g l := x1 (ix2 0 l)
  wq l n := x2 (ix3 0 l n)
  gq j := x3 (ix2 0 j)
  k κ h j := x4 (ix4 0 κ h j)
  v κ h j := x5 (ix4 0 κ h j)
  wo n j := x6 (ix3 0 n j)
  dx _ _ := 0

theorem hm_at (y : Fin 8192) (l : Fin 1024) : val_main_v13 (F := Ideal) x0 x1 (ix3 0 y l) = hm (args x0 x1 x2 x3 x4 x5 x6) y l := by
  unfold val_main_v13
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rw [div_n (N := Ideal.ofBits .f32 1149239296#32) (by norm_num) n1024 c1024]
  rfl

theorem qr_at (y : Fin 8192) (n : Fin 512) : val_main_v15 (F := Ideal) x0 x1 x2 (ix3 0 y n) = qr (args x0 x1 x2 x3 x4 x5 x6) y n := by
  unfold val_main_v15
  pointwise [val_main_v14]
  simp only [hm_at x0 x1 x2 x3 x4 x5 x6]
  rfl

theorem qh_at (y : Fin 8192) (h : Fin 4) (j : Fin 128) : val_main_v16 (F := Ideal) x0 x1 x2 (ix4 0 y h j) = qh (args x0 x1 x2 x3 x4 x5 x6) y h j := by
  rw [show val_main_v16 (F := Ideal) x0 x1 x2 (ix4 0 y h j) = val_main_v15 (F := Ideal) x0 x1 x2 (ix3 0 y (col h j)) by
    unfold val_main_v16 col
    pointwise []
    all_goals exact congrArg (val_main_v15 (F := Ideal) x0 x1 x2) (congrArg (ix3 0 y) (Fin.ext (by dsimp only; omega)))]
  exact qr_at x0 x1 x2 x3 x4 x5 x6 y _

theorem qn_at (y : Fin 8192) (h : Fin 4) (j : Fin 128) : val_main_v30 (F := Ideal) x0 x1 x2 x3 (ix4 0 y h j) = qn (args x0 x1 x2 x3 x4 x5 x6) y h j := by
  unfold val_main_v30
  pointwise [val_main_v29, val_main_v28, val_main_v27, val_main_v26, val_main_v25, val_main_v24, val_main_v23, val_main_v22, val_main_v21, val_main_v20, val_main_v19, val_main_v18, val_main_v17, val_main_cst_2, val_main_cst_3, val_main_cst_4]
  simp only [qh_at x0 x1 x2 x3 x4 x5 x6]
  rw [div_n (N := Ideal.ofBits .f32 1124073472#32) (by norm_num) n128 c128]
  rfl

theorem sc_at (y : Fin 8192) (h : Fin 4) (κ : Fin 256) :
    val_main_v33 (F := Ideal) x0 x1 x2 x3 x4 (ix4 0 h y κ) = sc (args x0 x1 x2 x3 x4 x5 x6) y h κ := by
  unfold val_main_v33
  pointwise [val_main_v32, val_main_v31, val_main_cst_5]
  simp only [qn_at x0 x1 x2 x3 x4 x5 x6]
  rfl

/-- The maximum over the last axis, as a fold. -/
theorem max_at (w : FVec Ideal S1x4x8192x256 .f32) (h : Fin 4) (y : Fin 8192) :
    Host.reduce FloatOps.maximumf w (constant S_ .f32 0xFF800000#32) Gen.reducesTo_S1x4x8192x256_S1x4x8192_d3 Gen.h_S_ (ix3 0 h y)
      = Finset.univ.fold max (⊥ : EReal) (fun x : Fin 256 => w (ix4 0 h y x)) := by
  rw [← show Ideal.ofBits .f32 0xFF800000#32 = ⊥ by simp [Ideal.ofBits, Ideal.ieee]]
  pointwise []

theorem top_at (y : Fin 8192) (h : Fin 4) : val_main_v36 (F := Ideal) x0 x1 x2 x3 x4 (ix3 0 h y) = top (args x0 x1 x2 x3 x4 x5 x6) y h := by
  rw [val_main_v36_apply]
  refine (congrArg (max (Ideal.ofBits .f32 0xFF800000#32)) ((max_at _ h y).trans
    (congrArg (Finset.univ.fold max (⊥ : EReal)) (funext fun κ => sc_at x0 x1 x2 x3 x4 x5 x6 y h κ)))).trans ?_
  rw [show Ideal.ofBits .f32 0xFF800000#32 = ⊥ by simp [Ideal.ofBits, Ideal.ieee]]
  exact max_eq_right bot_le

theorem ex_at (y : Fin 8192) (h : Fin 4) (κ : Fin 256) :
    val_main_v40 (F := Ideal) x0 x1 x2 x3 x4 (ix4 0 h y κ) = ex (args x0 x1 x2 x3 x4 x5 x6) y h κ := by
  unfold val_main_v40
  pointwise [val_main_v39, val_main_v38, val_main_v37]
  rw [top_at x0 x1 x2 x3 x4 x5 x6, sc_at x0 x1 x2 x3 x4 x5 x6]
  rfl

theorem p_at (y : Fin 8192) (h : Fin 4) (κ : Fin 256) :
    val_main_v44 (F := Ideal) x0 x1 x2 x3 x4 (ix4 0 h y κ) = p (args x0 x1 x2 x3 x4 x5 x6) y h κ := by
  unfold val_main_v44
  pointwise [val_main_v43, val_main_v42, val_main_v41, val_main_cst_8]
  simp only [ex_at x0 x1 x2 x3 x4 x5 x6]
  rfl

theorem ob_at (y : Fin 8192) (n : Fin 512) : val_main_v47 (F := Ideal) x0 x1 x2 x3 x4 x5 (ix3 0 y n) = ob (args x0 x1 x2 x3 x4 x5 x6) y n := by
  rw [show val_main_v47 (F := Ideal) x0 x1 x2 x3 x4 x5 (ix3 0 y n) = val_main_v45 (F := Ideal) x0 x1 x2 x3 x4 x5 (ix4 0 (head n) (lane n) y) by
    unfold val_main_v47 head lane
    pointwise [val_main_v46]]
  unfold val_main_v45
  pointwise []
  simp only [p_at x0 x1 x2 x3 x4 x5 x6]
  exact Finset.sum_congr rfl fun κ _ => mul_comm _ _

theorem res0 (y : Fin 8192) (l : Fin 1024) : val_main_v51 (F := Ideal) x0 x1 x2 x3 x4 x5 x6 (ix2 y l) = Cert.MemAttn.x2 (args x0 x1 x2 x3 x4 x5 x6) y l := by
  unfold val_main_v51
  pointwise [val_main_v50, val_main_v49, val_main_v48]
  simp only [ob_at x0 x1 x2 x3 x4 x5 x6]
  rfl

theorem res1 (y : Fin 8192) (n : Fin 512) : val_main_v53 (F := Ideal) x0 x1 x2 x3 x4 x5 (ix2 y n) = ob (args x0 x1 x2 x3 x4 x5 x6) y n := by
  unfold val_main_v53
  pointwise [val_main_v52]
  exact ob_at x0 x1 x2 x3 x4 x5 x6 y n

end Cert.MemFwdRefIdeal.Closed

end
-- ==== Proof.MemFwdValue.lean ====
/- What the kernel's memory attention leaves in its arrays. -/
module

public import proofs.«01_k».proof.Proof.Gen.MemFwdIdeal.Value
public import proofs.«01_k».proof.Proof.Rows
public import proofs.«01_k».proof.Proof.MemFwdRef

@[expose] public section

set_option maxRecDepth 16384

noncomputable section

namespace Cert.MemFwdIdeal.Closed

open Cert.MemFwdIdeal Cert.MemFwdIdeal.Gen Idealize.ShloMosaic Idealize.ShloMosaic.TcCoe Idealize.SL.Sem Cert.Common Cert.Norm Cert.MemAttn

variable (m : (ℓ : Loc nD τ sig) → Buf (Elt Ideal) ℓ) (c : Dev nD)

/-- The seven arguments by row, head and column. -/
def args : Args where
  x y l := (m ((c : Thread nD τ).loc main_arg0) : FVec Ideal S1x8192x1024 .f32) (ix3 0 y l)
  g l := (m ((c : Thread nD τ).loc main_arg1) : FVec Ideal S1x1024 .f32) (ix2 0 l)
  wq l n := (m ((c : Thread nD τ).loc main_arg2) : FVec Ideal S1x1024x512 .f32) (ix3 0 l n)
  gq j := (m ((c : Thread nD τ).loc main_arg3) : FVec Ideal S1x128 .f32) (ix2 0 j)
  k κ h j := (m ((c : Thread nD τ).loc main_arg4) : FVec Ideal S1x256x4x128 .f32) (ix4 0 κ h j)
  v κ h j := (m ((c : Thread nD τ).loc main_arg5) : FVec Ideal S1x256x4x128 .f32) (ix4 0 κ h j)
  wo n j := (m ((c : Thread nD τ).loc main_arg6) : FVec Ideal S1x512x1024 .f32) (ix3 0 n j)
  dx _ _ := 0

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![t.val, 0] ∧ win0_8.index t = ![t.val, 0] :=
  (by decide +kernel : ∀ t : Fin grid0.N, _)

/-- The row of the whole array that a point's block row is. -/
def row (t : Fin cfg0.N) (r : Fin 1024) : Fin 8192 := ⟨1024 * t.val + r.val, by have : t.val < 8 := t.isLt; omega⟩

theorem x_blk (t : Fin cfg0.N) (r : Fin 1024) (l : Fin 1024) : iblk m c 0 t (ix2 r l) = (args m c).x (row t r) l := by
  rw [show iblk m c 0 t (ix2 r l) = V m c main_v4 (ix2 (row t r) l) by unfold row; blk_ext [iblk, idx t]]
  simp only [V, hostOps0, List.flatten_cons, List.flatten_nil, List.append_nil, List.cons_append, List.nil_append]
  entry_read
  pointwise []
  rfl

theorem g_blk (t : Fin cfg0.N) (l : Fin 1024) : iblk m c 1 t (ix2 0 l) = (args m c).g l := by
  rw [show iblk m c 1 t (ix2 0 l) = V m c main_v6 (ix2 0 l) by blk_ext [iblk, idx t]]
  simp only [V, hostOps0, List.flatten_cons, List.flatten_nil, List.append_nil, List.cons_append, List.nil_append]
  entry_read
  pointwise []
  rfl

theorem w_blk (t : Fin cfg0.N) (l : Fin 1024) (n : Fin 512) : iblk m c 2 t (ix2 l n) = (args m c).wq l n := by
  rw [show iblk m c 2 t (ix2 l n) = V m c main_v8 (ix2 l n) by blk_ext [iblk, idx t]]
  simp only [V, hostOps0, List.flatten_cons, List.flatten_nil, List.append_nil, List.cons_append, List.nil_append]
  entry_read
  pointwise []
  rfl

theorem gq_blk (t : Fin cfg0.N) (j : Fin 128) : iblk m c 3 t (ix2 0 j) = (args m c).gq j := by
  rw [show iblk m c 3 t (ix2 0 j) = V m c main_v10 (ix2 0 j) by blk_ext [iblk, idx t]]
  simp only [V, hostOps0, List.flatten_cons, List.flatten_nil, List.append_nil, List.cons_append, List.nil_append]
  entry_read
  pointwise []
  rfl

theorem k_blk (t : Fin cfg0.N) (κ : Fin 256) (n : Fin 512) : iblk m c 4 t (ix2 κ n) = (args m c).k κ (head n) (lane n) := by
  rw [show iblk m c 4 t (ix2 κ n) = V m c main_v13 (ix2 κ n) by blk_ext [iblk, idx t]]
  simp only [V, hostOps0, List.flatten_cons, List.flatten_nil, List.append_nil, List.cons_append, List.nil_append]
  entry_read
  pointwise []
  rfl

theorem v_blk (t : Fin cfg0.N) (κ : Fin 256) (n : Fin 512) : iblk m c 5 t (ix2 κ n) = (args m c).v κ (head n) (lane n) := by
  rw [show iblk m c 5 t (ix2 κ n) = V m c main_v16 (ix2 κ n) by blk_ext [iblk, idx t]]
  simp only [V, hostOps0, List.flatten_cons, List.flatten_nil, List.append_nil, List.cons_append, List.nil_append]
  entry_read
  pointwise []
  rfl

/-- A shard of the output weight holds a range of its columns. -/
theorem wo_blk (t : Fin cfg0.N) (s : Fin 4) (n : Fin 512) (j : Fin 256) (q : Fin 1024) (e : q.val = 256 * s.val + j.val) :
    iblk m c 6 t (ix3 s n j) = (args m c).wo n q := by
  rw [show iblk m c 6 t (ix3 s n j) = V m c main_v3 (ix3 s n j) by blk_ext [iblk, idx t]]
  simp only [V, hostOps0, List.flatten_cons, List.flatten_nil, List.append_nil, List.cons_append, List.nil_append]
  entry_read
  pointwise []
  exact congrArg ((args m c).wo n) (Fin.ext (by dsimp only; omega))

theorem ld_k (t : Fin cfg0.N) (h : Fin 4) (b : Nat) (e : b = 128 * h.val)
    (inb : ∀ a, (![0, b] : Fin 2 → Nat) a + (![256, 128] : Fin 2 → Nat) a ≤ S256x512.size a) (κ : Fin 256) (j : Fin 128) :
    View.ld (iblk m c 4 t) (Rect.unit (s := S256x512) ![0, b] ![256, 128] inb) (ix2 κ j) = (args m c).k κ h j := by
  pointwise []
  rw [k_blk]
  subst e
  exact congrArg₂ ((args m c).k κ) (head_col h j) (lane_col h j)

theorem ld_v (t : Fin cfg0.N) (h : Fin 4) (b : Nat) (e : b = 128 * h.val)
    (inb : ∀ a, (![0, b] : Fin 2 → Nat) a + (![256, 128] : Fin 2 → Nat) a ≤ S256x512.size a) (κ : Fin 256) (j : Fin 128) :
    View.ld (iblk m c 5 t) (Rect.unit (s := S256x512) ![0, b] ![256, 128] inb) (ix2 κ j) = (args m c).v κ h j := by
  pointwise []
  rw [v_blk]
  subst e
  exact congrArg₂ ((args m c).v κ) (head_col h j) (lane_col h j)

/-! The heads' outputs. -/

theorem qr_blk (t : Fin cfg0.N) (r : Fin 1024) (n : Fin 512) :
    k0_pay3 (F := Ideal) (iblk m c 0 t) (iblk m c 1 t) (iblk m c 2 t) (ix2 r n) = qr (args m c) (row t r) n := by
  pointwise [k0_pay3, k0_pay2]
  simp only [x_blk, g_blk, w_blk]
  rfl

theorem low : Ideal.ofBits .f32 0xFF800000#32 = ⊥ := by simp [Ideal.ofBits, Ideal.ieee]

theorem first_head (y : Fin 8192) (j : Fin 128) (h : j.val < 512) : qr (args m c) y ⟨j.val, h⟩ = qh (args m c) y 0 j :=
  congrArg (qr (args m c) y) (Fin.ext (by simp [col]))

theorem s4 (t : Fin cfg0.N) {K : FVec Ideal S256x128 .bf16} (hK : ∀ κ j, K (ix2 κ j) = (args m c).k κ 0 j) (r : Fin 1024) (κ : Fin 256) :
    k0_pay4 (F := Ideal) (iblk m c 0 t) (iblk m c 1 t) (iblk m c 2 t) (iblk m c 3 t) K (ix2 r κ) =
      ∑ j : Fin 128, qn (args m c) (row t r) 0 j * (args m c).k κ 0 j := by
  pointwise [k0_pay4]
  simp only [qr_blk, gq_blk, hK, first_head]
  rfl

section
variable {m c} {t : Fin cfg0.N} {U : FVec Ideal S256x128 .bf16}

theorem o6 {W : FVec Ideal S1024x256 .f32} (hW : ∀ r κ, W (ix2 r κ) = ∑ j : Fin 128, qn (args m c) (row t r) 0 j * (args m c).k κ 0 j)
    (hU : ∀ κ j, U (ix2 κ j) = (args m c).v κ 0 j) (r : Fin 1024) (j : Fin 128) :
    k0_pay6 (F := Ideal) W (k0_pay5 (F := Ideal)) U (ix2 r j) = out (args m c) (row t r) 0 j := by
  pointwise [k0_pay6, k0_pay5]
  simp only [hW, hU, low]
  rfl

variable {P : FVec Ideal S1024x512 .f32} (hP : ∀ r n, P (ix2 r n) = qr (args m c) (row t r) n) {K : FVec Ideal S256x128 .bf16}
include hP

theorem p7 (hK : ∀ κ j, K (ix2 κ j) = (args m c).k κ 1 j) (r : Fin 1024) (κ : Fin 256) :
    k0_pay7 (F := Ideal) P (iblk m c 3 t) K (ix2 r κ) = p (args m c) (row t r) 1 κ := by
  pointwise [k0_pay7]
  simp only [hP, gq_blk, hK, low]
  rfl

theorem o8 (hK : ∀ κ j, K (ix2 κ j) = (args m c).k κ 1 j) (hU : ∀ κ j, U (ix2 κ j) = (args m c).v κ 1 j) (r : Fin 1024) (j : Fin 128) :
    k0_pay8 (F := Ideal) (k0_pay7 P (iblk m c 3 t) K) U (ix2 r j) = out (args m c) (row t r) 1 j := by
  pointwise [k0_pay8]
  simp only [p7 hP hK, hU]
  rfl

theorem o9 (hK : ∀ κ j, K (ix2 κ j) = (args m c).k κ 2 j) (hU : ∀ κ j, U (ix2 κ j) = (args m c).v κ 2 j) (r : Fin 1024) (j : Fin 128) :
    k0_pay9 (F := Ideal) P (iblk m c 3 t) K U (ix2 r j) = out (args m c) (row t r) 2 j := by
  pointwise [k0_pay9]
  simp only [hP, gq_blk, hK, hU, low]
  rfl

theorem o15 (hK : ∀ κ j, K (ix2 κ j) = (args m c).k κ 3 j) (hU : ∀ κ j, U (ix2 κ j) = (args m c).v κ 3 j) (r : Fin 1024) (j : Fin 128) :
    k0_pay15 (F := Ideal) (k0_pay10 P) (k0_pay11 P) (iblk m c 3 t) K U (ix2 r j) = out (args m c) (row t r) 3 j := by
  pointwise [k0_pay15, k0_pay11, k0_pay10]
  simp only [hP, gq_blk, hK, hU, low]
  rfl
end

/-! The residual sums, a shard of the output weight at a time. -/

section
variable {m c} {t : Fin cfg0.N} {O : FVec Ideal S1024x512 .bf16} (hO : ∀ r n, O (ix2 r n) = ob (args m c) (row t r) n) {q : Fin 1024}
include hO

theorem x16 (r : Fin 1024) (j : Fin 256) (e : q.val = 256 * 0 + j.val) :
    k0_pay16 (F := Ideal) (k0_pay2 (iblk m c 0 t)) O (View.ld (iblk m c 6 t) (Rect.unit ![0, 0, 0] ![1, 512, 256] inb_S4x512x256_S1x512x256_0_0_0)) (ix2 r j) =
      x2 (args m c) (row t r) q := by
  pointwise [k0_pay16, k0_pay2]
  simp only [x_blk, hO]
  exact congrArg₂ (· + ·) (congrArg ((args m c).x (row t r)) (Fin.ext (by simp [e])))
    (Finset.sum_congr rfl fun n _ => congrArg (ob (args m c) (row t r) n * ·) (wo_blk m c t 0 n j q e))

theorem x17 (r : Fin 1024) (j : Fin 256) (e : q.val = 256 * 1 + j.val) :
    k0_pay17 (F := Ideal) (k0_pay2 (iblk m c 0 t)) O (View.ld (iblk m c 6 t) (Rect.unit ![1, 0, 0] ![1, 512, 256] inb_S4x512x256_S1x512x256_1_0_0)) (ix2 r j) =
      x2 (args m c) (row t r) q := by
  pointwise [k0_pay17, k0_pay2]
  simp only [x_blk, hO]
  exact congrArg₂ (· + ·) (congrArg ((args m c).x (row t r)) (Fin.ext (by simp [e])))
    (Finset.sum_congr rfl fun n _ => congrArg (ob (args m c) (row t r) n * ·) (wo_blk m c t 1 n j q e))

theorem x18 (r : Fin 1024) (j : Fin 256) (e : q.val = 256 * 2 + j.val) :
    k0_pay18 (F := Ideal) (k0_pay2 (iblk m c 0 t)) O (View.ld (iblk m c 6 t) (Rect.unit ![2, 0, 0] ![1, 512, 256] inb_S4x512x256_S1x512x256_2_0_0)) (ix2 r j) =
      x2 (args m c) (row t r) q := by
  pointwise [k0_pay18, k0_pay2]
  simp only [x_blk, hO]
  exact congrArg₂ (· + ·) (congrArg ((args m c).x (row t r)) (Fin.ext (by simp [e])))
    (Finset.sum_congr rfl fun n _ => congrArg (ob (args m c) (row t r) n * ·) (wo_blk m c t 2 n j q e))

theorem x1 (r : Fin 1024) (j : Fin 256) (e : q.val = 256 * 3 + j.val) :
    k0_pay1 (F := Ideal) (k0_pay19 (k0_pay2 (iblk m c 0 t))) (k0_pay20 O)
      (View.ld (iblk m c 6 t) (Rect.unit ![3, 0, 0] ![1, 512, 256] inb_S4x512x256_S1x512x256_3_0_0)) (ix2 r j) = x2 (args m c) (row t r) q := by
  pointwise [k0_pay1, k0_pay19, k0_pay20, k0_pay2]
  simp only [x_blk, hO]
  exact congrArg₂ (· + ·) (congrArg ((args m c).x (row t r)) (Fin.ext (by simp [e])))
    (Finset.sum_congr rfl fun n _ => congrArg (ob (args m c) (row t r) n * ·) (wo_blk m c t 3 n j q e))
end

/-! The arrays. -/

abbrev kb (t : Fin cfg0.N) (k : Nat) (inb : ∀ a, (![0, k] : Fin 2 → Nat) a + (![256, 128] : Fin 2 → Nat) a ≤ S256x512.size a) : FVec Ideal S256x128 .bf16 :=
  View.ld (iblk m c 4 t) (Rect.unit (s := S256x512) ![0, k] ![256, 128] inb)

abbrev vb (t : Fin cfg0.N) (k : Nat) (inb : ∀ a, (![0, k] : Fin 2 → Nat) a + (![256, 128] : Fin 2 → Nat) a ≤ S256x512.size a) : FVec Ideal S256x128 .bf16 :=
  View.ld (iblk m c 5 t) (Rect.unit (s := S256x512) ![0, k] ![256, 128] inb)

abbrev Q (t : Fin cfg0.N) : FVec Ideal S1024x512 .f32 := k0_pay3 (iblk m c 0 t) (iblk m c 1 t) (iblk m c 2 t)

/-- The writes of the heads' outputs, the last first. -/
abbrev heads (t : Fin cfg0.N) : List (View.Piece (Elt Ideal) S1024x512 .bf16) :=
  [⟨Rect.unit ![0, 384] ![1024, 128] inb_S1024x512_S1024x128_0_384, k0_pay15 (F := Ideal) (k0_pay10 (Q m c t)) (k0_pay11 (Q m c t)) (iblk m c 3 t)
      (kb m c t 384 inb_S256x512_S256x128_0_384) (vb m c t 384 inb_S256x512_S256x128_0_384)⟩,
    ⟨Rect.unit ![0, 256] ![1024, 128] inb_S1024x512_S1024x128_0_256, k0_pay14 (F := Ideal) (k0_pay9 (Q m c t) (iblk m c 3 t)
      (kb m c t 256 inb_S256x512_S256x128_0_256) (vb m c t 256 inb_S256x512_S256x128_0_256))⟩,
    ⟨Rect.unit ![0, 128] ![1024, 128] inb_S1024x512_S1024x128_0_128, k0_pay13 (F := Ideal) (k0_pay8 (k0_pay7 (Q m c t) (iblk m c 3 t)
      (kb m c t 128 inb_S256x512_S256x128_0_128)) (vb m c t 128 inb_S256x512_S256x128_0_128))⟩,
    ⟨Rect.unit ![0, 0] ![1024, 128] inb_S1024x512_S1024x128_0_0, k0_pay12 (F := Ideal) (k0_pay6 (k0_pay4 (iblk m c 0 t) (iblk m c 1 t) (iblk m c 2 t) (iblk m c 3 t)
      (kb m c t 0 inb_S256x512_S256x128_0_0)) k0_pay5 (vb m c t 0 inb_S256x512_S256x128_0_0))⟩]

/-- A column's output at its head and its place in the head. -/
theorem out_col (y : Fin 8192) (h : Fin 4) (n : Fin 512) (j : Fin 128) (e : n.val = 128 * h.val + j.val) : out (args m c) y h j = ob (args m c) y n := by
  obtain rfl : n = col h j := Fin.ext e
  unfold ob
  rw [head_col, lane_col]

theorem heads_blk (t : Fin cfg0.N) (r : Fin 1024) (n : Fin 512) : View.canon (heads m c t) (ix2 r n) = ob (args m c) (row t r) n := by
  have hn := n.isLt
  by_cases h3 : 384 ≤ n.val
  · refine (canon_col_in _ _ _ _ _ _ _ h3 (by omega)).trans ?_
    exact (o15 (qr_blk m c t) (ld_k m c t 3 384 rfl _) (ld_v m c t 3 384 rfl _) r _).trans
      (out_col m c _ 3 n _ (show n.val = 384 + (n.val - 384) by omega))
  refine (canon_col_out _ _ _ _ _ _ _ (by omega)).trans ?_
  by_cases h2 : 256 ≤ n.val
  · refine (canon_col_in _ _ _ _ _ _ _ h2 (by omega)).trans ?_
    exact (o9 (qr_blk m c t) (ld_k m c t 2 256 rfl _) (ld_v m c t 2 256 rfl _) r _).trans
      (out_col m c _ 2 n _ (show n.val = 256 + (n.val - 256) by omega))
  refine (canon_col_out _ _ _ _ _ _ _ (by omega)).trans ?_
  by_cases h1 : 128 ≤ n.val
  · refine (canon_col_in _ _ _ _ _ _ _ h1 (by omega)).trans ?_
    exact (o8 (qr_blk m c t) (ld_k m c t 1 128 rfl _) (ld_v m c t 1 128 rfl _) r _).trans
      (out_col m c _ 1 n _ (show n.val = 128 + (n.val - 128) by omega))
  refine (canon_col_out _ _ _ _ _ _ _ (by omega)).trans ?_
  refine (canon_col_in _ _ _ _ _ _ _ (Nat.zero_le _) (by omega)).trans ?_
  exact (o6 (s4 m c t (ld_k m c t 0 0 rfl _)) (ld_v m c t 0 0 rfl _) r _).trans
    (out_col m c _ 0 n _ (show n.val = 0 + (n.val - 0) by omega))

theorem ob_arr : (dats m 0 c).arrAt 8 cfg0.N = fun i => ob (args m c) (i 0) (i 1) := by
  refine (dats m 0 c).arrAt_eq_of_covers 8 _ (by decide +kernel) fun t hf y => ?_
  blk_simp
  rw [after0_8]
  idx_vars y
  rw [show ((View.whole main_v17_1).slice (win0_8.rect t)).emb (ix2 y0 y1) = ix2 (row t y0) y1 by unfold row; blk_ext [idx t]]
  unfold outsAt0
  frame_out
  exact heads_blk m c t y0 y1

/-- The heads' outputs as they are read back. -/
abbrev O (t : Fin cfg0.N) : FVec Ideal S1024x512 .bf16 :=
  (ms0_8 t).view.readCov (heads m c t) (Rect.unit (s := S1024x512) ![0, 0] ![1024, 512] inb_S1024x512_S1024x512_0_0).toLoadRect

theorem O_blk (t : Fin cfg0.N) (r : Fin 1024) (n : Fin 512) : O m c t (ix2 r n) = ob (args m c) (row t r) n :=
  (readCov_all _ _ _ r n).trans (heads_blk m c t r n)

abbrev wb (t : Fin cfg0.N) (s : Nat) (inb : ∀ a, (![s, 0, 0] : Fin 3 → Nat) a + (![1, 512, 256] : Fin 3 → Nat) a ≤ S4x512x256.size a) : FVec Ideal S1x512x256 .bf16 :=
  View.ld (iblk m c 6 t) (Rect.unit (s := S4x512x256) ![s, 0, 0] ![1, 512, 256] inb)

abbrev X (t : Fin cfg0.N) : FVec Ideal S1024x1024 .f32 := k0_pay2 (iblk m c 0 t)

theorem x2_blk (t : Fin cfg0.N) (r : Fin 1024) (l : Fin 1024) :
    View.canon
      [(⟨Rect.unit ![0, 768] ![1024, 256] inb_S1024x1024_S1024x256_0_768, k0_pay1 (F := Ideal) (k0_pay19 (X m c t)) (k0_pay20 (O m c t))
          (wb m c t 3 inb_S4x512x256_S1x512x256_3_0_0)⟩ : View.Piece (Elt Ideal) S1024x1024 .f32),
        ⟨Rect.unit ![0, 512] ![1024, 256] inb_S1024x1024_S1024x256_0_512, k0_pay18 (X m c t) (O m c t) (wb m c t 2 inb_S4x512x256_S1x512x256_2_0_0)⟩,
        ⟨Rect.unit ![0, 256] ![1024, 256] inb_S1024x1024_S1024x256_0_256, k0_pay17 (X m c t) (O m c t) (wb m c t 1 inb_S4x512x256_S1x512x256_1_0_0)⟩,
        ⟨Rect.unit ![0, 0] ![1024, 256] inb_S1024x1024_S1024x256_0_0, k0_pay16 (X m c t) (O m c t) (wb m c t 0 inb_S4x512x256_S1x512x256_0_0_0)⟩] (ix2 r l) =
      x2 (args m c) (row t r) l := by
  have hO := O_blk m c t
  generalize O m c t = o at hO ⊢
  have hl := l.isLt
  by_cases h3 : 768 ≤ l.val
  · refine (canon_col_in _ _ _ _ _ _ _ h3 (by omega)).trans ?_
    exact x1 hO r _ (show l.val = 256 * 3 + (l.val - 768) by omega)
  refine (canon_col_out _ _ _ _ _ _ _ (by omega)).trans ?_
  by_cases h2 : 512 ≤ l.val
  · refine (canon_col_in _ _ _ _ _ _ _ h2 (by omega)).trans ?_
    exact x18 hO r _ (show l.val = 256 * 2 + (l.val - 512) by omega)
  refine (canon_col_out _ _ _ _ _ _ _ (by omega)).trans ?_
  by_cases h1 : 256 ≤ l.val
  · refine (canon_col_in _ _ _ _ _ _ _ h1 (by omega)).trans ?_
    exact x17 hO r _ (show l.val = 256 * 1 + (l.val - 256) by omega)
  refine (canon_col_out _ _ _ _ _ _ _ (by omega)).trans ?_
  refine (canon_col_in _ _ _ _ _ _ _ (Nat.zero_le _) (by omega)).trans ?_
  exact x16 hO r _ (show l.val = 256 * 0 + (l.val - 0) by omega)

theorem x2_arr : (dats m 0 c).arrAt 7 cfg0.N = fun i => x2 (args m c) (i 0) (i 1) := by
  refine (dats m 0 c).arrAt_eq_of_covers 7 _ (by decide +kernel) fun t hf y => ?_
  blk_simp
  rw [after0_7]
  idx_vars y
  rw [show ((View.whole main_v17_0).slice (win0_7.rect t)).emb (ix2 y0 y1) = ix2 (row t y0) y1 by unfold row; blk_ext [idx t]]
  unfold outsAt0
  frame_out
  exact x2_blk m c t y0 y1

end Cert.MemFwdIdeal.Closed

end
-- ==== Proof.MemFwdClose.lean ====
/- The memory attention: the kernel and its reference leave the same two arrays. -/
module

public import proofs.«01_k».proof.Proof.MemAttnClose
public import proofs.«01_k».proof.Proof.MemFwdValue
public import proofs.«01_k».proof.Proof.Gen.MemFwd
public import proofs.«01_k».proof.Proof.Gen.MemFwdRefIdeal.Run
public import Idealize.ShloMosaic.Lib.Claim
public import Idealize.ShloMosaic.Adequacy
public import Idealize.ShloMosaic.Init

@[expose] public section

set_option maxRecDepth 16384

noncomputable section

namespace Cert.MemFwdClose

open Idealize.ShloMosaic Idealize.SL.Sem

theorem ref_frame : Cert.quiescent_MemFwdRefIdeal := fun m g _ =>
  (θ_run Cert.MemFwdRefIdeal.defs _ _).mono (fun r h => ⟨fun c => (h c).2.2, sem_eq_zero_of_no_sems (by decide) r.2⟩)
    (Cert.MemFwdRefIdeal.Value.run m g)

theorem preserves : Cert.preserves_MemFwd_MemFwdIdeal := trivial

variable (m : (ℓ : Loc Cert.MemFwdIdeal.nD Cert.MemFwdIdeal.τ Cert.MemFwdIdeal.sig) → Buf (Elt Ideal) ℓ) (c : Dev Cert.MemFwdIdeal.nD)

/-- What an argument holds on a device. -/
abbrev arg (b : Ref Cert.MemFwdIdeal.sig .tc) := m ((c.tc : Thread Cert.MemFwdIdeal.nD Cert.MemFwdIdeal.τ).loc b)

theorem same0 :
    Cert.MemFwdRefIdeal.Read.val_main_v51 (F := Ideal) (arg m c Cert.MemFwdIdeal.main_arg0) (arg m c Cert.MemFwdIdeal.main_arg1) (arg m c Cert.MemFwdIdeal.main_arg2) (arg m c Cert.MemFwdIdeal.main_arg3) (arg m c Cert.MemFwdIdeal.main_arg4) (arg m c Cert.MemFwdIdeal.main_arg5) (arg m c Cert.MemFwdIdeal.main_arg6) = (Cert.MemFwdIdeal.Gen.dats m 0 c).arrAt 7 Cert.MemFwdIdeal.cfg0.N := by
  rw [Cert.MemFwdIdeal.Closed.x2_arr m c]
  funext i
  idx_vars i
  exact Cert.MemFwdRefIdeal.Closed.res0 _ _ _ _ _ _ _ _ _

theorem same1 :
    Cert.MemFwdRefIdeal.Read.val_main_v53 (F := Ideal) (arg m c Cert.MemFwdIdeal.main_arg0) (arg m c Cert.MemFwdIdeal.main_arg1) (arg m c Cert.MemFwdIdeal.main_arg2) (arg m c Cert.MemFwdIdeal.main_arg3) (arg m c Cert.MemFwdIdeal.main_arg4) (arg m c Cert.MemFwdIdeal.main_arg5) = (Cert.MemFwdIdeal.Gen.dats m 0 c).arrAt 8 Cert.MemFwdIdeal.cfg0.N := by
  rw [Cert.MemFwdIdeal.Closed.ob_arr m c]
  funext i
  idx_vars i
  exact Cert.MemFwdRefIdeal.Closed.res1 _ _ _ _ _ _ (arg m c Cert.MemFwdIdeal.main_arg6) _ _

theorem algebraic : Cert.algebraic_MemFwdIdeal_MemFwdRefIdeal := by
  intro m g m' g' hpre hagree
  refine ⟨fun c => (Cert.MemFwdIdeal.Gen.dats m 0 c).arrAt 7 Cert.MemFwdIdeal.cfg0.N, fun c => (Cert.MemFwdIdeal.Gen.dats m 0 c).arrAt 8 Cert.MemFwdIdeal.cfg0.N, ?_, ?_⟩
  · exact Cert.MemFwdIdeal.Value.run_blocks m g
  · refine (θ_run Cert.MemFwdRefIdeal.defs _ _).mono (fun r h c => ?_) (Cert.MemFwdRefIdeal.Value.run m' g')
    obtain ⟨e0, e1, e2, e3, e4, e5, e6⟩ := hagree c
    obtain ⟨r0, r1, rest⟩ := h c
    refine ⟨r0.trans ?_, r1.trans ?_, rest⟩
    all_goals clear r0 r1 rest h
    · exact (Cert.MemFwdRefIdeal.Read.val_main_v51_eq _ _).trans
        ((Cert.MemAttnClose.congr8 (fun x0 x1 x2 x3 x4 x5 x6 (_ : Unit) => Cert.MemFwdRefIdeal.Read.val_main_v51 (F := Ideal) x0 x1 x2 x3 x4 x5 x6)
        e0 e1 e2 e3 e4 e5 e6 (rfl : () = ())).trans (same0 m c))
    · exact (Cert.MemFwdRefIdeal.Read.val_main_v53_eq _ _).trans
        ((Cert.MemAttnClose.congr8 (fun x0 x1 x2 x3 x4 x5 (_ _ : Unit) => Cert.MemFwdRefIdeal.Read.val_main_v53 (F := Ideal) x0 x1 x2 x3 x4 x5)
        e0 e1 e2 e3 e4 e5 (rfl : () = ()) (rfl : () = ())).trans (same1 m c))

end Cert.MemFwdClose

end
-- ==== Proof.lean ====
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Run
public import proofs.«01_k».proof.Proof.Gen.ConvRefIdeal.Read
public import proofs.«01_k».proof.Proof.ConvValue
public import proofs.«01_k».proof.Proof.ConvRef
public import Idealize.ShloMosaic.Lib.Claim
public import proofs.«01_k».proof.Proof.Gen.Attn
public import proofs.«01_k».proof.Proof.Gen.AttnIdeal
public import proofs.«01_k».proof.Proof.Gen.AttnRefIdeal
public import proofs.«01_k».proof.Proof.Gen.Attn.Frame
public import proofs.«01_k».proof.Proof.Gen.AttnIdeal.Frame
public import proofs.«01_k».proof.Proof.Gen.AttnRefIdeal.Run
public import proofs.«01_k».proof.Proof.Gen.AttnRefIdeal.Read
public import proofs.«01_k».proof.Proof.Gen.Attn.Loops
public import proofs.«01_k».proof.Proof.Gen.AttnIdeal.Loops
public import proofs.«01_k».proof.Proof.Gen.AttnIdeal.Skeleton
public import proofs.«01_k».proof.Proof.Gen.AttnIdeal.Points
public import proofs.«01_k».proof.Proof.Gen.AttnIdeal.Launch
public import proofs.«01_k».proof.Proof.AttnClose
public import proofs.«01_k».proof.Proof.NormClose
public import proofs.«01_k».proof.Proof.MemKvClose
public import proofs.«01_k».proof.Proof.Gen.FfnIn
public import proofs.«01_k».proof.Proof.Gen.FfnInIdeal
public import proofs.«01_k».proof.Proof.Gen.FfnInRefIdeal
public import proofs.«01_k».proof.Proof.Gen.FfnIn.Frame
public import proofs.«01_k».proof.Proof.Gen.FfnInIdeal.Frame
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Gen.InProj
public import proofs.«01_k».proof.Proof.Gen.InProjIdeal
public import proofs.«01_k».proof.Proof.Gen.InProjRefIdeal
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.MemKv
public import proofs.«01_k».proof.Proof.Gen.MemKv.Frame
public import proofs.«01_k».proof.Proof.Gen.MemKvIdeal.Frame
public import proofs.«01_k».proof.Proof.Gen.MemKvIdeal.Value
public import proofs.«01_k».proof.Proof.Gen.MemKvRefIdeal.Read
public import proofs.«01_k».proof.Proof.Gen.MemKvRefIdeal.Run
public import proofs.«01_k».proof.Proof.Gen.MixOut
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutRefIdeal.Read
public import proofs.«01_k».proof.Proof.Gen.MixOutRefIdeal.Run
public import proofs.«01_k».proof.Proof.MixOutClose
public import proofs.«01_k».proof.Proof.FfnLossClose
public import proofs.«01_k».proof.Proof.MemAttnClose
public import proofs.«01_k».proof.Proof.MemFwdClose
public import proofs.«01_k».proof.Proof.Gen.FfnLoss
public import proofs.«01_k».proof.Proof.Gen.FfnLoss.Frame
public import proofs.«01_k».proof.Proof.Gen.FfnLossIdeal.Frame
public import proofs.«01_k».proof.Proof.Gen.FfnLossIdeal.Value
public import proofs.«01_k».proof.Proof.Gen.FfnLossRefIdeal.Read
public import proofs.«01_k».proof.Proof.Gen.FfnLossRefIdeal.Run
public import proofs.«01_k».proof.Proof.Gen.MemAttn
public import proofs.«01_k».proof.Proof.Gen.MemAttn.Frame
public import proofs.«01_k».proof.Proof.Gen.MemAttnIdeal.Frame
public import proofs.«01_k».proof.Proof.Gen.MemAttnIdeal.Value
public import proofs.«01_k».proof.Proof.Gen.MemAttnRefIdeal.Read
public import proofs.«01_k».proof.Proof.Gen.MemAttnRefIdeal.Run
public import proofs.«01_k».proof.Proof.Gen.MemFwd
public import proofs.«01_k».proof.Proof.Gen.MemFwdIdeal
public import proofs.«01_k».proof.Proof.Gen.MemFwdRefIdeal
public import proofs.«01_k».proof.Proof.Gen.MemFwd.Frame
public import proofs.«01_k».proof.Proof.Gen.MemFwdIdeal.Frame
public import proofs.«01_k».proof.Proof.Gen.MemFwdIdeal.Value
public import proofs.«01_k».proof.Proof.Gen.MemFwdRefIdeal.Read
public import proofs.«01_k».proof.Proof.Gen.MemFwdRefIdeal.Run
public import Idealize.ShloMosaic.Adequacy
public import Idealize.ShloMosaic.Init

@[expose] public section

set_option maxRecDepth 16384

noncomputable section

namespace Cert.Proof

open Idealize.ShloMosaic Idealize.SL.Sem Cert.Conv

theorem conv_ref_frame : Cert.quiescent_ConvRefIdeal := fun m g _ =>
  (θ_run Cert.ConvRefIdeal.defs _ _).mono (fun r h => ⟨fun c => (h c).2.2, sem_eq_zero_of_no_sems (by decide) r.2⟩)
    (Cert.ConvRefIdeal.Value.run m g)

theorem conv_algebraic : Cert.algebraic_ConvIdeal_ConvRefIdeal := by
  pair_intro
  · exact Cert.ConvIdeal.Value.run_blocks m g
  · refine (θ_run Cert.ConvRefIdeal.defs _ _).mono (fun r h c => ⟨(h c).1.trans ?_, (h c).2.1.trans ?_, (h c).2.2⟩)
      (Cert.ConvRefIdeal.Value.run m' g')
    · refine (Cert.ConvRefIdeal.Read.val_main_v70_eq _ _).trans ?_
      rw [(hagree c).2.1, (hagree c).2.2.2, Cert.ConvIdeal.Closed.dx_arr m c]
      funext i
      idx_vars i
      exact Cert.ConvRefIdeal.Closed.dx_at _ _ _ _
    · refine (Cert.ConvRefIdeal.Read.val_main_v73_eq _ _).trans ?_
      rw [(hagree c).1, (hagree c).2.2.2, Cert.ConvIdeal.Closed.dw_arr m c]
      funext i
      idx_vars i
      refine (Cert.ConvRefIdeal.Closed.dw_at _ _ _ _).trans ?_
      obtain ⟨_ | _ | _ | _ | n, h⟩ := i0
      iterate 4 exact rfl
      exact (Finset.sum_const_zero (s := (Finset.univ : Finset (Fin 8192)))).symm

theorem attn_ref_frame : Cert.quiescent_AttnRefIdeal := fun m g _ =>
  (θ_run Cert.AttnRefIdeal.defs _ _).mono (fun r h => ⟨fun c => (h c).2.2.2.2, sem_eq_zero_of_no_sems (by decide) r.2⟩)
    (Cert.AttnRefIdeal.Value.run m g)

theorem attn_preserves : Cert.preserves_Attn_AttnIdeal := IdealRules.named_const.statement Cert.AttnIdeal.κ "log2e" .f32 _ _ rfl

theorem claim : Cert.Claim := ⟨Cert.Conv.Gen.facts, Cert.ConvIdeal.Gen.facts, Cert.ConvRefIdeal.Gen.facts,
  Cert.Attn.Gen.facts, Cert.AttnIdeal.Gen.facts, Cert.AttnRefIdeal.Gen.facts,
  Cert.FfnIn.Gen.facts, Cert.FfnInIdeal.Gen.facts, Cert.FfnInRefIdeal.Gen.facts,
  Cert.InProj.Gen.facts, Cert.InProjIdeal.Gen.facts, Cert.InProjRefIdeal.Gen.facts,
  Cert.MemKv.Gen.facts, Cert.MemKvIdeal.Gen.facts, Cert.MemKvRefIdeal.Gen.facts,
  Cert.MixOut.Gen.facts, Cert.MixOutIdeal.Gen.facts, Cert.MixOutRefIdeal.Gen.facts,
  Cert.FfnLoss.Gen.facts, Cert.FfnLossIdeal.Gen.facts, Cert.FfnLossRefIdeal.Gen.facts,
  Cert.MemAttn.Gen.facts, Cert.MemAttnIdeal.Gen.facts, Cert.MemAttnRefIdeal.Gen.facts,
  Cert.MemFwd.Gen.facts, Cert.MemFwdIdeal.Gen.facts, Cert.MemFwdRefIdeal.Gen.facts,
  Cert.AttnClose.pre_facts, Cert.MixOutClose.pre_facts, Cert.FfnLossClose.pre_facts, Cert.MemAttnClose.pre_facts,
  fun m g _ => Cert.Conv.Gen.frame m g, fun m g _ => Cert.ConvIdeal.Gen.frame m g, conv_ref_frame,
  fun m g _ => Cert.Attn.Gen.frame m g, fun m g _ => Cert.AttnIdeal.Gen.frame m g, fun m g _ => Cert.AttnIdeal.Gen.frame m g,
  attn_ref_frame, fun m g _ => attn_ref_frame m g trivial,
  fun m g _ => Cert.FfnIn.Gen.frame m g, fun m g _ => Cert.FfnInIdeal.Gen.frame m g, Cert.NormClose.ffn_ref_frame,
  fun m g _ => Cert.InProj.Gen.frame m g, fun m g _ => Cert.InProjIdeal.Gen.frame m g, Cert.NormClose.proj_ref_frame,
  fun m g _ => Cert.MemKv.Gen.frame m g, fun m g _ => Cert.MemKvIdeal.Gen.frame m g, Cert.MemKvClose.ref_frame,
  fun m g _ => Cert.MixOut.Gen.frame m g, fun m g _ => Cert.MixOutIdeal.Gen.frame m g, fun m g _ => Cert.MixOutIdeal.Gen.frame m g,
  Cert.MixOutClose.ref_frame, fun m g _ => Cert.MixOutClose.ref_frame m g trivial,
  fun m g _ => Cert.FfnLoss.Gen.frame m g, fun m g _ => Cert.FfnLossIdeal.Gen.frame m g, fun m g _ => Cert.FfnLossIdeal.Gen.frame m g,
  Cert.FfnLossClose.ref_frame, fun m g _ => Cert.FfnLossClose.ref_frame m g trivial,
  fun m g _ => Cert.MemAttn.Gen.frame m g, fun m g _ => Cert.MemAttnIdeal.Gen.frame m g, fun m g _ => Cert.MemAttnIdeal.Gen.frame m g,
  Cert.MemAttnClose.ref_frame, fun m g _ => Cert.MemAttnClose.ref_frame m g trivial,
  fun m g _ => Cert.MemFwd.Gen.frame m g, fun m g _ => Cert.MemFwdIdeal.Gen.frame m g, Cert.MemFwdClose.ref_frame,
  trivial, conv_algebraic, attn_preserves, Cert.AttnClose.algebraic,
  trivial, Cert.NormClose.ffn_algebraic, trivial, Cert.NormClose.proj_algebraic,
  trivial, Cert.MemKvClose.algebraic, Cert.MixOutClose.preserves, Cert.MixOutClose.algebraic,
  Cert.FfnLossClose.preserves, Cert.FfnLossClose.algebraic,
  Cert.MemAttnClose.preserves, Cert.MemAttnClose.algebraic,
  Cert.MemFwdClose.preserves, Cert.MemFwdClose.algebraic⟩

end Cert.Proof
